-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_queries_keys [hPre_finite_queries_keys : Cert.Pre_finite_queries_keys.Facts] (m : (ℓ : Loc Cert.KernelIdeal.nD Cert.KernelIdeal.τ Cert.KernelIdeal.sig) → Buf (Elt Ideal) ℓ) : Prop :=
  ∀ c : Dev Cert.KernelIdeal.nD,
    (Cert.Pre_finite_queries_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_queries_keys [hPre_finite_queries_keys : Cert.Pre_finite_queries_keys.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_queries_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpIdeal_no_gate_is_minus_infinity [hPre_no_gate_is_minus_infinity : Cert.Pre_no_gate_is_minus_infinity.Facts] (m : (ℓ : Loc Cert.FfnUpIdeal.nD Cert.FfnUpIdeal.τ Cert.FfnUpIdeal.sig) → Buf (Elt Ideal) ℓ) : Prop :=
  ∀ c : Dev Cert.FfnUpIdeal.nD,
    (Cert.Pre_no_gate_is_minus_infinity.fn (F := Ideal) (m ((c.tc : Thread Cert.FfnUpIdeal.nD Cert.FfnUpIdeal.τ).loc Cert.FfnUpIdeal.main_arg0)) (m ((c.tc : Thread Cert.FfnUpIdeal.nD Cert.FfnUpIdeal.τ).loc Cert.FfnUpIdeal.main_arg1)) (m ((c.tc : Thread Cert.FfnUpIdeal.nD Cert.FfnUpIdeal.τ).loc Cert.FfnUpIdeal.main_arg2)) (m ((c.tc : Thread Cert.FfnUpIdeal.nD Cert.FfnUpIdeal.τ).loc Cert.FfnUpIdeal.main_arg3))) = (fun _ => 1#1)

def Pre_FfnUpReferenceIdeal (m : (ℓ : Loc Cert.FfnUpReferenceIdeal.nD Cert.FfnUpReferenceIdeal.τ Cert.FfnUpReferenceIdeal.sig) → Buf (Elt Ideal) ℓ) : Prop :=
  True

def Pre_FfnUpReferenceIdeal_no_gate_is_minus_infinity [hPre_no_gate_is_minus_infinity : Cert.Pre_no_gate_is_minus_infinity.Facts] (m : (ℓ : Loc Cert.FfnUpReferenceIdeal.nD Cert.FfnUpReferenceIdeal.τ Cert.FfnUpReferenceIdeal.sig) → Buf (Elt Ideal) ℓ) : Prop :=
  ∀ c : Dev Cert.FfnUpReferenceIdeal.nD,
    (Cert.Pre_no_gate_is_minus_infinity.fn (F := Ideal) (m ((c.tc : Thread Cert.FfnUpReferenceIdeal.nD Cert.FfnUpReferenceIdeal.τ).loc Cert.FfnUpReferenceIdeal.main_arg0)) (m ((c.tc : Thread Cert.FfnUpReferenceIdeal.nD Cert.FfnUpReferenceIdeal.τ).loc Cert.FfnUpReferenceIdeal.main_arg1)) (m ((c.tc : Thread Cert.FfnUpReferenceIdeal.nD Cert.FfnUpReferenceIdeal.τ).loc Cert.FfnUpReferenceIdeal.main_arg2)) (m ((c.tc : Thread Cert.FfnUpReferenceIdeal.nD Cert.FfnUpReferenceIdeal.τ).loc Cert.FfnUpReferenceIdeal.main_arg3))) = (fun _ => 1#1)

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownReferenceIdeal (m : (ℓ : Loc Cert.FfnDownReferenceIdeal.nD Cert.FfnDownReferenceIdeal.τ Cert.FfnDownReferenceIdeal.sig) → Buf (Elt Ideal) ℓ) : Prop :=
  True

def Pre_BranchGates (m : (ℓ : Loc Cert.BranchGates.nD Cert.BranchGates.τ Cert.BranchGates.sig) → Buf (Elt Bits) ℓ) : Prop :=
  True

def Pre_BranchGatesIdeal (m : (ℓ : Loc Cert.BranchGatesIdeal.nD Cert.BranchGatesIdeal.τ Cert.BranchGatesIdeal.sig) → Buf (Elt Ideal) ℓ) : Prop :=
  True

def Pre_BranchGatesReferenceIdeal (m : (ℓ : Loc Cert.BranchGatesReferenceIdeal.nD Cert.BranchGatesReferenceIdeal.τ Cert.BranchGatesReferenceIdeal.sig) → Buf (Elt Ideal) ℓ) : Prop :=
  True

def Pre_BranchMerge (m : (ℓ : Loc Cert.BranchMerge.nD Cert.BranchMerge.τ Cert.BranchMerge.sig) → Buf (Elt Bits) ℓ) : Prop :=
  True

def Pre_BranchMergeIdeal (m : (ℓ : Loc Cert.BranchMergeIdeal.nD Cert.BranchMergeIdeal.τ Cert.BranchMergeIdeal.sig) → Buf (Elt Ideal) ℓ) : Prop :=
  True

def Pre_BranchMergeIdeal_no_conv_norm_is_minus_infinity [hPre_no_conv_norm_is_minus_infinity : Cert.Pre_no_conv_norm_is_minus_infinity.Facts] (m : (ℓ : Loc Cert.BranchMergeIdeal.nD Cert.BranchMergeIdeal.τ Cert.BranchMergeIdeal.sig) → Buf (Elt Ideal) ℓ) : Prop :=
  ∀ c : Dev Cert.BranchMergeIdeal.nD,
    (Cert.Pre_no_conv_norm_is_minus_infinity.fn (F := Ideal) (m ((c.tc : Thread Cert.BranchMergeIdeal.nD Cert.BranchMergeIdeal.τ).loc Cert.BranchMergeIdeal.main_arg0)) (m ((c.tc : Thread Cert.BranchMergeIdeal.nD Cert.BranchMergeIdeal.τ).loc Cert.BranchMergeIdeal.main_arg1)) (m ((c.tc : Thread Cert.BranchMergeIdeal.nD Cert.BranchMergeIdeal.τ).loc Cert.BranchMergeIdeal.main_arg2)) (m ((c.tc : Thread Cert.BranchMergeIdeal.nD Cert.BranchMergeIdeal.τ).loc Cert.BranchMergeIdeal.main_arg3)) (m ((c.tc : Thread Cert.BranchMergeIdeal.nD Cert.BranchMergeIdeal.τ).loc Cert.BranchMergeIdeal.main_arg4)) (m ((c.tc : Thread Cert.BranchMergeIdeal.nD Cert.BranchMergeIdeal.τ).loc Cert.BranchMergeIdeal.main_arg5)) (m ((c.tc : Thread Cert.BranchMergeIdeal.nD Cert.BranchMergeIdeal.τ).loc Cert.BranchMergeIdeal.main_arg6)) (m ((c.tc : Thread Cert.BranchMergeIdeal.nD Cert.BranchMergeIdeal.τ).loc Cert.BranchMergeIdeal.main_arg7)) (m ((c.tc : Thread Cert.BranchMergeIdeal.nD Cert.BranchMergeIdeal.τ).loc Cert.BranchMergeIdeal.main_arg8)) (m ((c.tc : Thread Cert.BranchMergeIdeal.nD Cert.BranchMergeIdeal.τ).loc Cert.BranchMergeIdeal.main_arg9)) (m ((c.tc : Thread Cert.BranchMergeIdeal.nD Cert.BranchMergeIdeal.τ).loc Cert.BranchMergeIdeal.main_arg10)) (m ((c.tc : Thread Cert.BranchMergeIdeal.nD Cert.BranchMergeIdeal.τ).loc Cert.BranchMergeIdeal.main_arg11)) (m ((c.tc : Thread Cert.BranchMergeIdeal.nD Cert.BranchMergeIdeal.τ).loc Cert.BranchMergeIdeal.main_arg12))) = (fun _ => 1#1)

def Pre_BranchMergeReferenceIdeal (m : (ℓ : Loc Cert.BranchMergeReferenceIdeal.nD Cert.BranchMergeReferenceIdeal.τ Cert.BranchMergeReferenceIdeal.sig) → Buf (Elt Ideal) ℓ) : Prop :=
  True

def Pre_BranchMergeReferenceIdeal_no_conv_norm_is_minus_infinity [hPre_no_conv_norm_is_minus_infinity : Cert.Pre_no_conv_norm_is_minus_infinity.Facts] (m : (ℓ : Loc Cert.BranchMergeReferenceIdeal.nD Cert.BranchMergeReferenceIdeal.τ Cert.BranchMergeReferenceIdeal.sig) → Buf (Elt Ideal) ℓ) : Prop :=
  ∀ c : Dev Cert.BranchMergeReferenceIdeal.nD,
    (Cert.Pre_no_conv_norm_is_minus_infinity.fn (F := Ideal) (m ((c.tc : Thread Cert.BranchMergeReferenceIdeal.nD Cert.BranchMergeReferenceIdeal.τ).loc Cert.BranchMergeReferenceIdeal.main_arg0)) (m ((c.tc : Thread Cert.BranchMergeReferenceIdeal.nD Cert.BranchMergeReferenceIdeal.τ).loc Cert.BranchMergeReferenceIdeal.main_arg1)) (m ((c.tc : Thread Cert.BranchMergeReferenceIdeal.nD Cert.BranchMergeReferenceIdeal.τ).loc Cert.BranchMergeReferenceIdeal.main_arg2)) (m ((c.tc : Thread Cert.BranchMergeReferenceIdeal.nD Cert.BranchMergeReferenceIdeal.τ).loc Cert.BranchMergeReferenceIdeal.main_arg3)) (m ((c.tc : Thread Cert.BranchMergeReferenceIdeal.nD Cert.BranchMergeReferenceIdeal.τ).loc Cert.BranchMergeReferenceIdeal.main_arg4)) (m ((c.tc : Thread Cert.BranchMergeReferenceIdeal.nD Cert.BranchMergeReferenceIdeal.τ).loc Cert.BranchMergeReferenceIdeal.main_arg5)) (m ((c.tc : Thread Cert.BranchMergeReferenceIdeal.nD Cert.BranchMergeReferenceIdeal.τ).loc Cert.BranchMergeReferenceIdeal.main_arg6)) (m ((c.tc : Thread Cert.BranchMergeReferenceIdeal.nD Cert.BranchMergeReferenceIdeal.τ).loc Cert.BranchMergeReferenceIdeal.main_arg7)) (m ((c.tc : Thread Cert.BranchMergeReferenceIdeal.nD Cert.BranchMergeReferenceIdeal.τ).loc Cert.BranchMergeReferenceIdeal.main_arg8)) (m ((c.tc : Thread Cert.BranchMergeReferenceIdeal.nD Cert.BranchMergeReferenceIdeal.τ).loc Cert.BranchMergeReferenceIdeal.main_arg9)) (m ((c.tc : Thread Cert.BranchMergeReferenceIdeal.nD Cert.BranchMergeReferenceIdeal.τ).loc Cert.BranchMergeReferenceIdeal.main_arg10)) (m ((c.tc : Thread Cert.BranchMergeReferenceIdeal.nD Cert.BranchMergeReferenceIdeal.τ).loc Cert.BranchMergeReferenceIdeal.main_arg11)) (m ((c.tc : Thread Cert.BranchMergeReferenceIdeal.nD Cert.BranchMergeReferenceIdeal.τ).loc Cert.BranchMergeReferenceIdeal.main_arg12))) = (fun _ => 1#1)

def Pre_ConvGlu (m : (ℓ : Loc Cert.ConvGlu.nD Cert.ConvGlu.τ Cert.ConvGlu.sig) → Buf (Elt Bits) ℓ) : Prop :=
  True

def Pre_ConvGluIdeal (m : (ℓ : Loc Cert.ConvGluIdeal.nD Cert.ConvGluIdeal.τ Cert.ConvGluIdeal.sig) → Buf (Elt Ideal) ℓ) : Prop :=
  True

def Pre_ConvGluReferenceIdeal (m : (ℓ : Loc Cert.ConvGluReferenceIdeal.nD Cert.ConvGluReferenceIdeal.τ Cert.ConvGluReferenceIdeal.sig) → Buf (Elt Ideal) ℓ) : Prop :=
  True

def Pre_QkvFirst (m : (ℓ : Loc Cert.QkvFirst.nD Cert.QkvFirst.τ Cert.QkvFirst.sig) → Buf (Elt Bits) ℓ) : Prop :=
  True

def Pre_QkvFirstIdeal (m : (ℓ : Loc Cert.QkvFirstIdeal.nD Cert.QkvFirstIdeal.τ Cert.QkvFirstIdeal.sig) → Buf (Elt Ideal) ℓ) : Prop :=
  True

def Pre_QkvFirstIdeal_tables_are_rotary [hPre_tables_are_rotary : Cert.Pre_tables_are_rotary.Facts] (m : (ℓ : Loc Cert.QkvFirstIdeal.nD Cert.QkvFirstIdeal.τ Cert.QkvFirstIdeal.sig) → Buf (Elt Ideal) ℓ) : Prop :=
  ∀ c : Dev Cert.QkvFirstIdeal.nD,
    (Cert.Pre_tables_are_rotary.fn (F := Ideal) (m ((c.tc : Thread Cert.QkvFirstIdeal.nD Cert.QkvFirstIdeal.τ).loc Cert.QkvFirstIdeal.main_arg0)) (m ((c.tc : Thread Cert.QkvFirstIdeal.nD Cert.QkvFirstIdeal.τ).loc Cert.QkvFirstIdeal.main_arg1)) (m ((c.tc : Thread Cert.QkvFirstIdeal.nD Cert.QkvFirstIdeal.τ).loc Cert.QkvFirstIdeal.main_arg2)) (m ((c.tc : Thread Cert.QkvFirstIdeal.nD Cert.QkvFirstIdeal.τ).loc Cert.QkvFirstIdeal.main_arg3)) (m ((c.tc : Thread Cert.QkvFirstIdeal.nD Cert.QkvFirstIdeal.τ).loc Cert.QkvFirstIdeal.main_arg4))) = (fun _ => 1#1)

def Pre_QkvFirstReferenceIdeal (m : (ℓ : Loc Cert.QkvFirstReferenceIdeal.nD Cert.QkvFirstReferenceIdeal.τ Cert.QkvFirstReferenceIdeal.sig) → Buf (Elt Ideal) ℓ) : Prop :=
  True

def Pre_QkvFirstReferenceIdeal_tables_are_rotary [hPre_tables_are_rotary : Cert.Pre_tables_are_rotary.Facts] (m : (ℓ : Loc Cert.QkvFirstReferenceIdeal.nD Cert.QkvFirstReferenceIdeal.τ Cert.QkvFirstReferenceIdeal.sig) → Buf (Elt Ideal) ℓ) : Prop :=
  ∀ c : Dev Cert.QkvFirstReferenceIdeal.nD,
    (Cert.Pre_tables_are_rotary.fn (F := Ideal) (m ((c.tc : Thread Cert.QkvFirstReferenceIdeal.nD Cert.QkvFirstReferenceIdeal.τ).loc Cert.QkvFirstReferenceIdeal.main_arg0)) (m ((c.tc : Thread Cert.QkvFirstReferenceIdeal.nD Cert.QkvFirstReferenceIdeal.τ).loc Cert.QkvFirstReferenceIdeal.main_arg1)) (m ((c.tc : Thread Cert.QkvFirstReferenceIdeal.nD Cert.QkvFirstReferenceIdeal.τ).loc Cert.QkvFirstReferenceIdeal.main_arg2)) (m ((c.tc : Thread Cert.QkvFirstReferenceIdeal.nD Cert.QkvFirstReferenceIdeal.τ).loc Cert.QkvFirstReferenceIdeal.main_arg3)) (m ((c.tc : Thread Cert.QkvFirstReferenceIdeal.nD Cert.QkvFirstReferenceIdeal.τ).loc Cert.QkvFirstReferenceIdeal.main_arg4))) = (fun _ => 1#1)

def Pre_SpatialGating (m : (ℓ : Loc Cert.SpatialGating.nD Cert.SpatialGating.τ Cert.SpatialGating.sig) → Buf (Elt Bits) ℓ) : Prop :=
  True

def Pre_SpatialGatingIdeal (m : (ℓ : Loc Cert.SpatialGatingIdeal.nD Cert.SpatialGatingIdeal.τ Cert.SpatialGatingIdeal.sig) → Buf (Elt Ideal) ℓ) : Prop :=
  True

def Pre_SpatialGatingReferenceIdeal (m : (ℓ : Loc Cert.SpatialGatingReferenceIdeal.nD Cert.SpatialGatingReferenceIdeal.τ Cert.SpatialGatingReferenceIdeal.sig) → Buf (Elt Ideal) ℓ) : Prop :=
  True

def Pre_QkvSecond (m : (ℓ : Loc Cert.QkvSecond.nD Cert.QkvSecond.τ Cert.QkvSecond.sig) → Buf (Elt Bits) ℓ) : Prop :=
  True

def Pre_QkvSecondIdeal (m : (ℓ : Loc Cert.QkvSecondIdeal.nD Cert.QkvSecondIdeal.τ Cert.QkvSecondIdeal.sig) → Buf (Elt Ideal) ℓ) : Prop :=
  True

def Pre_QkvSecondIdeal_tables_are_rotary [hPre_tables_are_rotary : Cert.Pre_tables_are_rotary.Facts] (m : (ℓ : Loc Cert.QkvSecondIdeal.nD Cert.QkvSecondIdeal.τ Cert.QkvSecondIdeal.sig) → Buf (Elt Ideal) ℓ) : Prop :=
  ∀ c : Dev Cert.QkvSecondIdeal.nD,
    (Cert.Pre_tables_are_rotary.fn (F := Ideal) (m ((c.tc : Thread Cert.QkvSecondIdeal.nD Cert.QkvSecondIdeal.τ).loc Cert.QkvSecondIdeal.main_arg0)) (m ((c.tc : Thread Cert.QkvSecondIdeal.nD Cert.QkvSecondIdeal.τ).loc Cert.QkvSecondIdeal.main_arg1)) (m ((c.tc : Thread Cert.QkvSecondIdeal.nD Cert.QkvSecondIdeal.τ).loc Cert.QkvSecondIdeal.main_arg2)) (m ((c.tc : Thread Cert.QkvSecondIdeal.nD Cert.QkvSecondIdeal.τ).loc Cert.QkvSecondIdeal.main_arg3)) (m ((c.tc : Thread Cert.QkvSecondIdeal.nD Cert.QkvSecondIdeal.τ).loc Cert.QkvSecondIdeal.main_arg4))) = (fun _ => 1#1)

def Pre_QkvSecondReferenceIdeal (m : (ℓ : Loc Cert.QkvSecondReferenceIdeal.nD Cert.QkvSecondReferenceIdeal.τ Cert.QkvSecondReferenceIdeal.sig) → Buf (Elt Ideal) ℓ) : Prop :=
  True

def Pre_QkvSecondReferenceIdeal_tables_are_rotary [hPre_tables_are_rotary : Cert.Pre_tables_are_rotary.Facts] (m : (ℓ : Loc Cert.QkvSecondReferenceIdeal.nD Cert.QkvSecondReferenceIdeal.τ Cert.QkvSecondReferenceIdeal.sig) → Buf (Elt Ideal) ℓ) : Prop :=
  ∀ c : Dev Cert.QkvSecondReferenceIdeal.nD,
    (Cert.Pre_tables_are_rotary.fn (F := Ideal) (m ((c.tc : Thread Cert.QkvSecondReferenceIdeal.nD Cert.QkvSecondReferenceIdeal.τ).loc Cert.QkvSecondReferenceIdeal.main_arg0)) (m ((c.tc : Thread Cert.QkvSecondReferenceIdeal.nD Cert.QkvSecondReferenceIdeal.τ).loc Cert.QkvSecondReferenceIdeal.main_arg1)) (m ((c.tc : Thread Cert.QkvSecondReferenceIdeal.nD Cert.QkvSecondReferenceIdeal.τ).loc Cert.QkvSecondReferenceIdeal.main_arg2)) (m ((c.tc : Thread Cert.QkvSecondReferenceIdeal.nD Cert.QkvSecondReferenceIdeal.τ).loc Cert.QkvSecondReferenceIdeal.main_arg3)) (m ((c.tc : Thread Cert.QkvSecondReferenceIdeal.nD Cert.QkvSecondReferenceIdeal.τ).loc Cert.QkvSecondReferenceIdeal.main_arg4))) = (fun _ => 1#1)

def Pre_QkvThird (m : (ℓ : Loc Cert.QkvThird.nD Cert.QkvThird.τ Cert.QkvThird.sig) → Buf (Elt Bits) ℓ) : Prop :=
  True

def Pre_QkvThirdIdeal (m : (ℓ : Loc Cert.QkvThirdIdeal.nD Cert.QkvThirdIdeal.τ Cert.QkvThirdIdeal.sig) → Buf (Elt Ideal) ℓ) : Prop :=
  True

def Pre_QkvThirdIdeal_tables_are_rotary [hPre_tables_are_rotary : Cert.Pre_tables_are_rotary.Facts] (m : (ℓ : Loc Cert.QkvThirdIdeal.nD Cert.QkvThirdIdeal.τ Cert.QkvThirdIdeal.sig) → Buf (Elt Ideal) ℓ) : Prop :=
  ∀ c : Dev Cert.QkvThirdIdeal.nD,
    (Cert.Pre_tables_are_rotary.fn (F := Ideal) (m ((c.tc : Thread Cert.QkvThirdIdeal.nD Cert.QkvThirdIdeal.τ).loc Cert.QkvThirdIdeal.main_arg0)) (m ((c.tc : Thread Cert.QkvThirdIdeal.nD Cert.QkvThirdIdeal.τ).loc Cert.QkvThirdIdeal.main_arg1)) (m ((c.tc : Thread Cert.QkvThirdIdeal.nD Cert.QkvThirdIdeal.τ).loc Cert.QkvThirdIdeal.main_arg2)) (m ((c.tc : Thread Cert.QkvThirdIdeal.nD Cert.QkvThirdIdeal.τ).loc Cert.QkvThirdIdeal.main_arg3)) (m ((c.tc : Thread Cert.QkvThirdIdeal.nD Cert.QkvThirdIdeal.τ).loc Cert.QkvThirdIdeal.main_arg4))) = (fun _ => 1#1)

def Pre_QkvThirdReferenceIdeal (m : (ℓ : Loc Cert.QkvThirdReferenceIdeal.nD Cert.QkvThirdReferenceIdeal.τ Cert.QkvThirdReferenceIdeal.sig) → Buf (Elt Ideal) ℓ) : Prop :=
  True

def Pre_QkvThirdReferenceIdeal_tables_are_rotary [hPre_tables_are_rotary : Cert.Pre_tables_are_rotary.Facts] (m : (ℓ : Loc Cert.QkvThirdReferenceIdeal.nD Cert.QkvThirdReferenceIdeal.τ Cert.QkvThirdReferenceIdeal.sig) → Buf (Elt Ideal) ℓ) : Prop :=
  ∀ c : Dev Cert.QkvThirdReferenceIdeal.nD,
    (Cert.Pre_tables_are_rotary.fn (F := Ideal) (m ((c.tc : Thread Cert.QkvThirdReferenceIdeal.nD Cert.QkvThirdReferenceIdeal.τ).loc Cert.QkvThirdReferenceIdeal.main_arg0)) (m ((c.tc : Thread Cert.QkvThirdReferenceIdeal.nD Cert.QkvThirdReferenceIdeal.τ).loc Cert.QkvThirdReferenceIdeal.main_arg1)) (m ((c.tc : Thread Cert.QkvThirdReferenceIdeal.nD Cert.QkvThirdReferenceIdeal.τ).loc Cert.QkvThirdReferenceIdeal.main_arg2)) (m ((c.tc : Thread Cert.QkvThirdReferenceIdeal.nD Cert.QkvThirdReferenceIdeal.τ).loc Cert.QkvThirdReferenceIdeal.main_arg3)) (m ((c.tc : Thread Cert.QkvThirdReferenceIdeal.nD Cert.QkvThirdReferenceIdeal.τ).loc Cert.QkvThirdReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_queries_keys [hKernelIdeal : Cert.KernelIdeal.Facts] [hPre_finite_queries_keys : Cert.Pre_finite_queries_keys.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_queries_keys m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_queries_keys [hReferenceIdeal : Cert.ReferenceIdeal.Facts] [hPre_finite_queries_keys : Cert.Pre_finite_queries_keys.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_queries_keys m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2)
      ∧ r.2.mem ((c.tc : Thread Cert.FfnUp.nD Cert.FfnUp.τ).loc Cert.FfnUp.main_arg3) = m ((c.tc : Thread Cert.FfnUp.nD Cert.FfnUp.τ).loc Cert.FfnUp.main_arg3))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2)
      ∧ r.2.mem ((c.tc : Thread Cert.FfnUpIdeal.nD Cert.FfnUpIdeal.τ).loc Cert.FfnUpIdeal.main_arg3) = m ((c.tc : Thread Cert.FfnUpIdeal.nD Cert.FfnUpIdeal.τ).loc Cert.FfnUpIdeal.main_arg3))
      ∧ r.2.sem = fun _ => 0)

def quiescent_FfnUpIdeal_pre_no_gate_is_minus_infinity [hFfnUpIdeal : Cert.FfnUpIdeal.Facts] [hPre_no_gate_is_minus_infinity : Cert.Pre_no_gate_is_minus_infinity.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal_no_gate_is_minus_infinity m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2)
      ∧ r.2.mem ((c.tc : Thread Cert.FfnUpIdeal.nD Cert.FfnUpIdeal.τ).loc Cert.FfnUpIdeal.main_arg3) = m ((c.tc : Thread Cert.FfnUpIdeal.nD Cert.FfnUpIdeal.τ).loc Cert.FfnUpIdeal.main_arg3))
      ∧ r.2.sem = fun _ => 0)

def quiescent_FfnUpReferenceIdeal [hFfnUpReferenceIdeal : Cert.FfnUpReferenceIdeal.Facts] : Prop :=
  ∀ (m : (ℓ : Loc Cert.FfnUpReferenceIdeal.nD Cert.FfnUpReferenceIdeal.τ Cert.FfnUpReferenceIdeal.sig) → Buf (Elt Ideal) ℓ) (g : Dev Cert.FfnUpReferenceIdeal.nD → PrngReg), Pre_FfnUpReferenceIdeal m →
    θ_run (Cert.FfnUpReferenceIdeal.defs (F := Ideal)) (onTc (τ := Cert.FfnUpReferenceIdeal.τ) (Cert.FfnUpReferenceIdeal.main (F := Ideal))) ⟨m, fun _ => 0, g⟩ (fun r => (∀ c : Dev Cert.FfnUpReferenceIdeal.nD,
      r.2.mem ((c.tc : Thread Cert.FfnUpReferenceIdeal.nD Cert.FfnUpReferenceIdeal.τ).loc Cert.FfnUpReferenceIdeal.main_arg0) = m ((c.tc : Thread Cert.FfnUpReferenceIdeal.nD Cert.FfnUpReferenceIdeal.τ).loc Cert.FfnUpReferenceIdeal.main_arg0)
      ∧ r.2.mem ((c.tc : Thread Cert.FfnUpReferenceIdeal.nD Cert.FfnUpReferenceIdeal.τ).loc Cert.FfnUpReferenceIdeal.main_arg1) = m ((c.tc : Thread Cert.FfnUpReferenceIdeal.nD Cert.FfnUpReferenceIdeal.τ).loc Cert.FfnUpReferenceIdeal.main_arg1)
      ∧ r.2.mem ((c.tc : Thread Cert.FfnUpReferenceIdeal.nD Cert.FfnUpReferenceIdeal.τ).loc Cert.FfnUpReferenceIdeal.main_arg2) = m ((c.tc : Thread Cert.FfnUpReferenceIdeal.nD Cert.FfnUpReferenceIdeal.τ).loc Cert.FfnUpReferenceIdeal.main_arg2)
      ∧ r.2.mem ((c.tc : Thread Cert.FfnUpReferenceIdeal.nD Cert.FfnUpReferenceIdeal.τ).loc Cert.FfnUpReferenceIdeal.main_arg3) = m ((c.tc : Thread Cert.FfnUpReferenceIdeal.nD Cert.FfnUpReferenceIdeal.τ).loc Cert.FfnUpReferenceIdeal.main_arg3))
      ∧ r.2.sem = fun _ => 0)

def quiescent_FfnUpReferenceIdeal_pre_no_gate_is_minus_infinity [hFfnUpReferenceIdeal : Cert.FfnUpReferenceIdeal.Facts] [hPre_no_gate_is_minus_infinity : Cert.Pre_no_gate_is_minus_infinity.Facts] : Prop :=
  ∀ (m : (ℓ : Loc Cert.FfnUpReferenceIdeal.nD Cert.FfnUpReferenceIdeal.τ Cert.FfnUpReferenceIdeal.sig) → Buf (Elt Ideal) ℓ) (g : Dev Cert.FfnUpReferenceIdeal.nD → PrngReg), Pre_FfnUpReferenceIdeal_no_gate_is_minus_infinity m →
    θ_run (Cert.FfnUpReferenceIdeal.defs (F := Ideal)) (onTc (τ := Cert.FfnUpReferenceIdeal.τ) (Cert.FfnUpReferenceIdeal.main (F := Ideal))) ⟨m, fun _ => 0, g⟩ (fun r => (∀ c : Dev Cert.FfnUpReferenceIdeal.nD,
      r.2.mem ((c.tc : Thread Cert.FfnUpReferenceIdeal.nD Cert.FfnUpReferenceIdeal.τ).loc Cert.FfnUpReferenceIdeal.main_arg0) = m ((c.tc : Thread Cert.FfnUpReferenceIdeal.nD Cert.FfnUpReferenceIdeal.τ).loc Cert.FfnUpReferenceIdeal.main_arg0)
      ∧ r.2.mem ((c.tc : Thread Cert.FfnUpReferenceIdeal.nD Cert.FfnUpReferenceIdeal.τ).loc Cert.FfnUpReferenceIdeal.main_arg1) = m ((c.tc : Thread Cert.FfnUpReferenceIdeal.nD Cert.FfnUpReferenceIdeal.τ).loc Cert.FfnUpReferenceIdeal.main_arg1)
      ∧ r.2.mem ((c.tc : Thread Cert.FfnUpReferenceIdeal.nD Cert.FfnUpReferenceIdeal.τ).loc Cert.FfnUpReferenceIdeal.main_arg2) = m ((c.tc : Thread Cert.FfnUpReferenceIdeal.nD Cert.FfnUpReferenceIdeal.τ).loc Cert.FfnUpReferenceIdeal.main_arg2)
      ∧ r.2.mem ((c.tc : Thread Cert.FfnUpReferenceIdeal.nD Cert.FfnUpReferenceIdeal.τ).loc Cert.FfnUpReferenceIdeal.main_arg3) = m ((c.tc : Thread Cert.FfnUpReferenceIdeal.nD Cert.FfnUpReferenceIdeal.τ).loc Cert.FfnUpReferenceIdeal.main_arg3))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2)
      ∧ r.2.mem ((c.tc : Thread Cert.FfnDown.nD Cert.FfnDown.τ).loc Cert.FfnDown.main_arg3) = m ((c.tc : Thread Cert.FfnDown.nD Cert.FfnDown.τ).loc Cert.FfnDown.main_arg3)
      ∧ r.2.mem ((c.tc : Thread Cert.FfnDown.nD Cert.FfnDown.τ).loc Cert.FfnDown.main_arg4) = m ((c.tc : Thread Cert.FfnDown.nD Cert.FfnDown.τ).loc Cert.FfnDown.main_arg4))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
      ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3)
      ∧ r.2.mem ((c.tc : Thread Cert.FfnDownIdeal.nD Cert.FfnDownIdeal.τ).loc Cert.FfnDownIdeal.main_arg4) = m ((c.tc : Thread Cert.FfnDownIdeal.nD Cert.FfnDownIdeal.τ).loc Cert.FfnDownIdeal.main_arg4))
      ∧ r.2.sem = fun _ => 0)

def quiescent_FfnDownReferenceIdeal [hFfnDownReferenceIdeal : Cert.FfnDownReferenceIdeal.Facts] : Prop :=
  ∀ (m : (ℓ : Loc Cert.FfnDownReferenceIdeal.nD Cert.FfnDownReferenceIdeal.τ Cert.FfnDownReferenceIdeal.sig) → Buf (Elt Ideal) ℓ) (g : Dev Cert.FfnDownReferenceIdeal.nD → PrngReg), Pre_FfnDownReferenceIdeal m →
    θ_run (Cert.FfnDownReferenceIdeal.defs (F := Ideal)) (onTc (τ := Cert.FfnDownReferenceIdeal.τ) (Cert.FfnDownReferenceIdeal.main (F := Ideal))) ⟨m, fun _ => 0, g⟩ (fun r => (∀ c : Dev Cert.FfnDownReferenceIdeal.nD,
      r.2.mem ((c.tc : Thread Cert.FfnDownReferenceIdeal.nD Cert.FfnDownReferenceIdeal.τ).loc Cert.FfnDownReferenceIdeal.main_arg0) = m ((c.tc : Thread Cert.FfnDownReferenceIdeal.nD Cert.FfnDownReferenceIdeal.τ).loc Cert.FfnDownReferenceIdeal.main_arg0)
      ∧ r.2.mem ((c.tc : Thread Cert.FfnDownReferenceIdeal.nD Cert.FfnDownReferenceIdeal.τ).loc Cert.FfnDownReferenceIdeal.main_arg1) = m ((c.tc : Thread Cert.FfnDownReferenceIdeal.nD Cert.FfnDownReferenceIdeal.τ).loc Cert.FfnDownReferenceIdeal.main_arg1)
      ∧ r.2.mem ((c.tc : Thread Cert.FfnDownReferenceIdeal.nD Cert.FfnDownReferenceIdeal.τ).loc Cert.FfnDownReferenceIdeal.main_arg2) = m ((c.tc : Thread Cert.FfnDownReferenceIdeal.nD Cert.FfnDownReferenceIdeal.τ).loc Cert.FfnDownReferenceIdeal.main_arg2)
      ∧ r.2.mem ((c.tc : Thread Cert.FfnDownReferenceIdeal.nD Cert.FfnDownReferenceIdeal.τ).loc Cert.FfnDownReferenceIdeal.main_arg3) = m ((c.tc : Thread Cert.FfnDownReferenceIdeal.nD Cert.FfnDownReferenceIdeal.τ).loc Cert.FfnDownReferenceIdeal.main_arg3)
      ∧ r.2.mem ((c.tc : Thread Cert.FfnDownReferenceIdeal.nD Cert.FfnDownReferenceIdeal.τ).loc Cert.FfnDownReferenceIdeal.main_arg4) = m ((c.tc : Thread Cert.FfnDownReferenceIdeal.nD Cert.FfnDownReferenceIdeal.τ).loc Cert.FfnDownReferenceIdeal.main_arg4))
      ∧ r.2.sem = fun _ => 0)

def quiescent_BranchGates [hBranchGates : Cert.BranchGates.Facts] : Prop :=
  ∀ (m : (ℓ : Loc Cert.BranchGates.nD Cert.BranchGates.τ Cert.BranchGates.sig) → Buf (Elt Bits) ℓ) (g : Dev Cert.BranchGates.nD → PrngReg), Pre_BranchGates m →
    θ_run (Cert.BranchGates.defs (F := Bits)) (onTc (τ := Cert.BranchGates.τ) (Cert.BranchGates.main (F := Bits))) ⟨m, fun _ => 0, g⟩ (fun r => (∀ c : Dev Cert.BranchGates.nD,
      r.2.mem ((c.tc : Thread Cert.BranchGates.nD Cert.BranchGates.τ).loc Cert.BranchGates.main_arg0) = m ((c.tc : Thread Cert.BranchGates.nD Cert.BranchGates.τ).loc Cert.BranchGates.main_arg0)
      ∧ r.2.mem ((c.tc : Thread Cert.BranchGates.nD Cert.BranchGates.τ).loc Cert.BranchGates.main_arg1) = m ((c.tc : Thread Cert.BranchGates.nD Cert.BranchGates.τ).loc Cert.BranchGates.main_arg1)
      ∧ r.2.mem ((c.tc : Thread Cert.BranchGates.nD Cert.BranchGates.τ).loc Cert.BranchGates.main_arg2) = m ((c.tc : Thread Cert.BranchGates.nD Cert.BranchGates.τ).loc Cert.BranchGates.main_arg2)
      ∧ r.2.mem ((c.tc : Thread Cert.BranchGates.nD Cert.BranchGates.τ).loc Cert.BranchGates.main_arg3) = m ((c.tc : Thread Cert.BranchGates.nD Cert.BranchGates.τ).loc Cert.BranchGates.main_arg3)
      ∧ r.2.mem ((c.tc : Thread Cert.BranchGates.nD Cert.BranchGates.τ).loc Cert.BranchGates.main_arg4) = m ((c.tc : Thread Cert.BranchGates.nD Cert.BranchGates.τ).loc Cert.BranchGates.main_arg4)
      ∧ r.2.mem ((c.tc : Thread Cert.BranchGates.nD Cert.BranchGates.τ).loc Cert.BranchGates.main_arg5) = m ((c.tc : Thread Cert.BranchGates.nD Cert.BranchGates.τ).loc Cert.BranchGates.main_arg5))
      ∧ r.2.sem = fun _ => 0)

def quiescent_BranchGatesIdeal [hBranchGatesIdeal : Cert.BranchGatesIdeal.Facts] : Prop :=
  ∀ (m : (ℓ : Loc Cert.BranchGatesIdeal.nD Cert.BranchGatesIdeal.τ Cert.BranchGatesIdeal.sig) → Buf (Elt Ideal) ℓ) (g : Dev Cert.BranchGatesIdeal.nD → PrngReg), Pre_BranchGatesIdeal m →
    θ_run (Cert.BranchGatesIdeal.defs (F := Ideal)) (onTc (τ := Cert.BranchGatesIdeal.τ) (Cert.BranchGatesIdeal.main (F := Ideal))) ⟨m, fun _ => 0, g⟩ (fun r => (∀ c : Dev Cert.BranchGatesIdeal.nD,
      r.2.mem ((c.tc : Thread Cert.BranchGatesIdeal.nD Cert.BranchGatesIdeal.τ).loc Cert.BranchGatesIdeal.main_arg0) = m ((c.tc : Thread Cert.BranchGatesIdeal.nD Cert.BranchGatesIdeal.τ).loc Cert.BranchGatesIdeal.main_arg0)
      ∧ r.2.mem ((c.tc : Thread Cert.BranchGatesIdeal.nD Cert.BranchGatesIdeal.τ).loc Cert.BranchGatesIdeal.main_arg1) = m ((c.tc : Thread Cert.BranchGatesIdeal.nD Cert.BranchGatesIdeal.τ).loc Cert.BranchGatesIdeal.main_arg1)
      ∧ r.2.mem ((c.tc : Thread Cert.BranchGatesIdeal.nD Cert.BranchGatesIdeal.τ).loc Cert.BranchGatesIdeal.main_arg2) = m ((c.tc : Thread Cert.BranchGatesIdeal.nD Cert.BranchGatesIdeal.τ).loc Cert.BranchGatesIdeal.main_arg2)
      ∧ r.2.mem ((c.tc : Thread Cert.BranchGatesIdeal.nD Cert.BranchGatesIdeal.τ).loc Cert.BranchGatesIdeal.main_arg3) = m ((c.tc : Thread Cert.BranchGatesIdeal.nD Cert.BranchGatesIdeal.τ).loc Cert.BranchGatesIdeal.main_arg3)
      ∧ r.2.mem ((c.tc : Thread Cert.BranchGatesIdeal.nD Cert.BranchGatesIdeal.τ).loc Cert.BranchGatesIdeal.main_arg4) = m ((c.tc : Thread Cert.BranchGatesIdeal.nD Cert.BranchGatesIdeal.τ).loc Cert.BranchGatesIdeal.main_arg4)
      ∧ r.2.mem ((c.tc : Thread Cert.BranchGatesIdeal.nD Cert.BranchGatesIdeal.τ).loc Cert.BranchGatesIdeal.main_arg5) = m ((c.tc : Thread Cert.BranchGatesIdeal.nD Cert.BranchGatesIdeal.τ).loc Cert.BranchGatesIdeal.main_arg5))
      ∧ r.2.sem = fun _ => 0)

def quiescent_BranchGatesReferenceIdeal [hBranchGatesReferenceIdeal : Cert.BranchGatesReferenceIdeal.Facts] : Prop :=
  ∀ (m : (ℓ : Loc Cert.BranchGatesReferenceIdeal.nD Cert.BranchGatesReferenceIdeal.τ Cert.BranchGatesReferenceIdeal.sig) → Buf (Elt Ideal) ℓ) (g : Dev Cert.BranchGatesReferenceIdeal.nD → PrngReg), Pre_BranchGatesReferenceIdeal m →
    θ_run (Cert.BranchGatesReferenceIdeal.defs (F := Ideal)) (onTc (τ := Cert.BranchGatesReferenceIdeal.τ) (Cert.BranchGatesReferenceIdeal.main (F := Ideal))) ⟨m, fun _ => 0, g⟩ (fun r => (∀ c : Dev Cert.BranchGatesReferenceIdeal.nD,
      r.2.mem ((c.tc : Thread Cert.BranchGatesReferenceIdeal.nD Cert.BranchGatesReferenceIdeal.τ).loc Cert.BranchGatesReferenceIdeal.main_arg0) = m ((c.tc : Thread Cert.BranchGatesReferenceIdeal.nD Cert.BranchGatesReferenceIdeal.τ).loc Cert.BranchGatesReferenceIdeal.main_arg0)
      ∧ r.2.mem ((c.tc : Thread Cert.BranchGatesReferenceIdeal.nD Cert.BranchGatesReferenceIdeal.τ).loc Cert.BranchGatesReferenceIdeal.main_arg1) = m ((c.tc : Thread Cert.BranchGatesReferenceIdeal.nD Cert.BranchGatesReferenceIdeal.τ).loc Cert.BranchGatesReferenceIdeal.main_arg1)
      ∧ r.2.mem ((c.tc : Thread Cert.BranchGatesReferenceIdeal.nD Cert.BranchGatesReferenceIdeal.τ).loc Cert.BranchGatesReferenceIdeal.main_arg2) = m ((c.tc : Thread Cert.BranchGatesReferenceIdeal.nD Cert.BranchGatesReferenceIdeal.τ).loc Cert.BranchGatesReferenceIdeal.main_arg2)
      ∧ r.2.mem ((c.tc : Thread Cert.BranchGatesReferenceIdeal.nD Cert.BranchGatesReferenceIdeal.τ).loc Cert.BranchGatesReferenceIdeal.main_arg3) = m ((c.tc : Thread Cert.BranchGatesReferenceIdeal.nD Cert.BranchGatesReferenceIdeal.τ).loc Cert.BranchGatesReferenceIdeal.main_arg3)
      ∧ r.2.mem ((c.tc : Thread Cert.BranchGatesReferenceIdeal.nD Cert.BranchGatesReferenceIdeal.τ).loc Cert.BranchGatesReferenceIdeal.main_arg4) = m ((c.tc : Thread Cert.BranchGatesReferenceIdeal.nD Cert.BranchGatesReferenceIdeal.τ).loc Cert.BranchGatesReferenceIdeal.main_arg4)
      ∧ r.2.mem ((c.tc : Thread Cert.BranchGatesReferenceIdeal.nD Cert.BranchGatesReferenceIdeal.τ).loc Cert.BranchGatesReferenceIdeal.main_arg5) = m ((c.tc : Thread Cert.BranchGatesReferenceIdeal.nD Cert.BranchGatesReferenceIdeal.τ).loc Cert.BranchGatesReferenceIdeal.main_arg5))
      ∧ r.2.sem = fun _ => 0)

def quiescent_BranchMerge [hBranchMerge : Cert.BranchMerge.Facts] : Prop :=
  ∀ (m : (ℓ : Loc Cert.BranchMerge.nD Cert.BranchMerge.τ Cert.BranchMerge.sig) → Buf (Elt Bits) ℓ) (g : Dev Cert.BranchMerge.nD → PrngReg), Pre_BranchMerge m →
    θ_run (Cert.BranchMerge.defs (F := Bits)) (onTc (τ := Cert.BranchMerge.τ) (Cert.BranchMerge.main (F := Bits))) ⟨m, fun _ => 0, g⟩ (fun r => (∀ c : Dev Cert.BranchMerge.nD,
      r.2.mem ((c.tc : Thread Cert.BranchMerge.nD Cert.BranchMerge.τ).loc Cert.BranchMerge.main_arg0) = m ((c.tc : Thread Cert.BranchMerge.nD Cert.BranchMerge.τ).loc Cert.BranchMerge.main_arg0)
      ∧ r.2.mem ((c.tc : Thread Cert.BranchMerge.nD Cert.BranchMerge.τ).loc Cert.BranchMerge.main_arg1) = m ((c.tc : Thread Cert.BranchMerge.nD Cert.BranchMerge.τ).loc Cert.BranchMerge.main_arg1)
      ∧ r.2.mem ((c.tc : Thread Cert.BranchMerge.nD Cert.BranchMerge.τ).loc Cert.BranchMerge.main_arg2) = m ((c.tc : Thread Cert.BranchMerge.nD Cert.BranchMerge.τ).loc Cert.BranchMerge.main_arg2)
      ∧ r.2.mem ((c.tc : Thread Cert.BranchMerge.nD Cert.BranchMerge.τ).loc Cert.BranchMerge.main_arg3) = m ((c.tc : Thread Cert.BranchMerge.nD Cert.BranchMerge.τ).loc Cert.BranchMerge.main_arg3)
      ∧ r.2.mem ((c.tc : Thread Cert.BranchMerge.nD Cert.BranchMerge.τ).loc Cert.BranchMerge.main_arg4) = m ((c.tc : Thread Cert.BranchMerge.nD Cert.BranchMerge.τ).loc Cert.BranchMerge.main_arg4)
      ∧ r.2.mem ((c.tc : Thread Cert.BranchMerge.nD Cert.BranchMerge.τ).loc Cert.BranchMerge.main_arg5) = m ((c.tc : Thread Cert.BranchMerge.nD Cert.BranchMerge.τ).loc Cert.BranchMerge.main_arg5)
      ∧ r.2.mem ((c.tc : Thread Cert.BranchMerge.nD Cert.BranchMerge.τ).loc Cert.BranchMerge.main_arg6) = m ((c.tc : Thread Cert.BranchMerge.nD Cert.BranchMerge.τ).loc Cert.BranchMerge.main_arg6)
      ∧ r.2.mem ((c.tc : Thread Cert.BranchMerge.nD Cert.BranchMerge.τ).loc Cert.BranchMerge.main_arg7) = m ((c.tc : Thread Cert.BranchMerge.nD Cert.BranchMerge.τ).loc Cert.BranchMerge.main_arg7)
      ∧ r.2.mem ((c.tc : Thread Cert.BranchMerge.nD Cert.BranchMerge.τ).loc Cert.BranchMerge.main_arg8) = m ((c.tc : Thread Cert.BranchMerge.nD Cert.BranchMerge.τ).loc Cert.BranchMerge.main_arg8)
      ∧ r.2.mem ((c.tc : Thread Cert.BranchMerge.nD Cert.BranchMerge.τ).loc Cert.BranchMerge.main_arg9) = m ((c.tc : Thread Cert.BranchMerge.nD Cert.BranchMerge.τ).loc Cert.BranchMerge.main_arg9)
      ∧ r.2.mem ((c.tc : Thread Cert.BranchMerge.nD Cert.BranchMerge.τ).loc Cert.BranchMerge.main_arg10) = m ((c.tc : Thread Cert.BranchMerge.nD Cert.BranchMerge.τ).loc Cert.BranchMerge.main_arg10)
      ∧ r.2.mem ((c.tc : Thread Cert.BranchMerge.nD Cert.BranchMerge.τ).loc Cert.BranchMerge.main_arg11) = m ((c.tc : Thread Cert.BranchMerge.nD Cert.BranchMerge.τ).loc Cert.BranchMerge.main_arg11)
      ∧ r.2.mem ((c.tc : Thread Cert.BranchMerge.nD Cert.BranchMerge.τ).loc Cert.BranchMerge.main_arg12) = m ((c.tc : Thread Cert.BranchMerge.nD Cert.BranchMerge.τ).loc Cert.BranchMerge.main_arg12))
      ∧ r.2.sem = fun _ => 0)

def quiescent_BranchMergeIdeal [hBranchMergeIdeal : Cert.BranchMergeIdeal.Facts] : Prop :=
  ∀ (m : (ℓ : Loc Cert.BranchMergeIdeal.nD Cert.BranchMergeIdeal.τ Cert.BranchMergeIdeal.sig) → Buf (Elt Ideal) ℓ) (g : Dev Cert.BranchMergeIdeal.nD → PrngReg), Pre_BranchMergeIdeal m →
    θ_run (Cert.BranchMergeIdeal.defs (F := Ideal)) (onTc (τ := Cert.BranchMergeIdeal.τ) (Cert.BranchMergeIdeal.main (F := Ideal))) ⟨m, fun _ => 0, g⟩ (fun r => (∀ c : Dev Cert.BranchMergeIdeal.nD,
      r.2.mem ((c.tc : Thread Cert.BranchMergeIdeal.nD Cert.BranchMergeIdeal.τ).loc Cert.BranchMergeIdeal.main_arg0) = m ((c.tc : Thread Cert.BranchMergeIdeal.nD Cert.BranchMergeIdeal.τ).loc Cert.BranchMergeIdeal.main_arg0)
      ∧ r.2.mem ((c.tc : Thread Cert.BranchMergeIdeal.nD Cert.BranchMergeIdeal.τ).loc Cert.BranchMergeIdeal.main_arg1) = m ((c.tc : Thread Cert.BranchMergeIdeal.nD Cert.BranchMergeIdeal.τ).loc Cert.BranchMergeIdeal.main_arg1)
      ∧ r.2.mem ((c.tc : Thread Cert.BranchMergeIdeal.nD Cert.BranchMergeIdeal.τ).loc Cert.BranchMergeIdeal.main_arg2) = m ((c.tc : Thread Cert.BranchMergeIdeal.nD Cert.BranchMergeIdeal.τ).loc Cert.BranchMergeIdeal.main_arg2)
      ∧ r.2.mem ((c.tc : Thread Cert.BranchMergeIdeal.nD Cert.BranchMergeIdeal.τ).loc Cert.BranchMergeIdeal.main_arg3) = m ((c.tc : Thread Cert.BranchMergeIdeal.nD Cert.BranchMergeIdeal.τ).loc Cert.BranchMergeIdeal.main_arg3)
      ∧ r.2.mem ((c.tc : Thread Cert.BranchMergeIdeal.nD Cert.BranchMergeIdeal.τ).loc Cert.BranchMergeIdeal.main_arg4) = m ((c.tc : Thread Cert.BranchMergeIdeal.nD Cert.BranchMergeIdeal.τ).loc Cert.BranchMergeIdeal.main_arg4)
      ∧ r.2.mem ((c.tc : Thread Cert.BranchMergeIdeal.nD Cert.BranchMergeIdeal.τ).loc Cert.BranchMergeIdeal.main_arg5) = m ((c.tc : Thread Cert.BranchMergeIdeal.nD Cert.BranchMergeIdeal.τ).loc Cert.BranchMergeIdeal.main_arg5)
      ∧ r.2.mem ((c.tc : Thread Cert.BranchMergeIdeal.nD Cert.BranchMergeIdeal.τ).loc Cert.BranchMergeIdeal.main_arg6) = m ((c.tc : Thread Cert.BranchMergeIdeal.nD Cert.BranchMergeIdeal.τ).loc Cert.BranchMergeIdeal.main_arg6)
      ∧ r.2.mem ((c.tc : Thread Cert.BranchMergeIdeal.nD Cert.BranchMergeIdeal.τ).loc Cert.BranchMergeIdeal.main_arg7) = m ((c.tc : Thread Cert.BranchMergeIdeal.nD Cert.BranchMergeIdeal.τ).loc Cert.BranchMergeIdeal.main_arg7)
      ∧ r.2.mem ((c.tc : Thread Cert.BranchMergeIdeal.nD Cert.BranchMergeIdeal.τ).loc Cert.BranchMergeIdeal.main_arg8) = m ((c.tc : Thread Cert.BranchMergeIdeal.nD Cert.BranchMergeIdeal.τ).loc Cert.BranchMergeIdeal.main_arg8)
      ∧ r.2.mem ((c.tc : Thread Cert.BranchMergeIdeal.nD Cert.BranchMergeIdeal.τ).loc Cert.BranchMergeIdeal.main_arg9) = m ((c.tc : Thread Cert.BranchMergeIdeal.nD Cert.BranchMergeIdeal.τ).loc Cert.BranchMergeIdeal.main_arg9)
      ∧ r.2.mem ((c.tc : Thread Cert.BranchMergeIdeal.nD Cert.BranchMergeIdeal.τ).loc Cert.BranchMergeIdeal.main_arg10) = m ((c.tc : Thread Cert.BranchMergeIdeal.nD Cert.BranchMergeIdeal.τ).loc Cert.BranchMergeIdeal.main_arg10)
      ∧ r.2.mem ((c.tc : Thread Cert.BranchMergeIdeal.nD Cert.BranchMergeIdeal.τ).loc Cert.BranchMergeIdeal.main_arg11) = m ((c.tc : Thread Cert.BranchMergeIdeal.nD Cert.BranchMergeIdeal.τ).loc Cert.BranchMergeIdeal.main_arg11)
      ∧ r.2.mem ((c.tc : Thread Cert.BranchMergeIdeal.nD Cert.BranchMergeIdeal.τ).loc Cert.BranchMergeIdeal.main_arg12) = m ((c.tc : Thread Cert.BranchMergeIdeal.nD Cert.BranchMergeIdeal.τ).loc Cert.BranchMergeIdeal.main_arg12))
      ∧ r.2.sem = fun _ => 0)

def quiescent_BranchMergeIdeal_pre_no_conv_norm_is_minus_infinity [hBranchMergeIdeal : Cert.BranchMergeIdeal.Facts] [hPre_no_conv_norm_is_minus_infinity : Cert.Pre_no_conv_norm_is_minus_infinity.Facts] : Prop :=
  ∀ (m : (ℓ : Loc Cert.BranchMergeIdeal.nD Cert.BranchMergeIdeal.τ Cert.BranchMergeIdeal.sig) → Buf (Elt Ideal) ℓ) (g : Dev Cert.BranchMergeIdeal.nD → PrngReg), Pre_BranchMergeIdeal_no_conv_norm_is_minus_infinity m →
    θ_run (Cert.BranchMergeIdeal.defs (F := Ideal)) (onTc (τ := Cert.BranchMergeIdeal.τ) (Cert.BranchMergeIdeal.main (F := Ideal))) ⟨m, fun _ => 0, g⟩ (fun r => (∀ c : Dev Cert.BranchMergeIdeal.nD,
      r.2.mem ((c.tc : Thread Cert.BranchMergeIdeal.nD Cert.BranchMergeIdeal.τ).loc Cert.BranchMergeIdeal.main_arg0) = m ((c.tc : Thread Cert.BranchMergeIdeal.nD Cert.BranchMergeIdeal.τ).loc Cert.BranchMergeIdeal.main_arg0)
      ∧ r.2.mem ((c.tc : Thread Cert.BranchMergeIdeal.nD Cert.BranchMergeIdeal.τ).loc Cert.BranchMergeIdeal.main_arg1) = m ((c.tc : Thread Cert.BranchMergeIdeal.nD Cert.BranchMergeIdeal.τ).loc Cert.BranchMergeIdeal.main_arg1)
      ∧ r.2.mem ((c.tc : Thread Cert.BranchMergeIdeal.nD Cert.BranchMergeIdeal.τ).loc Cert.BranchMergeIdeal.main_arg2) = m ((c.tc : Thread Cert.BranchMergeIdeal.nD Cert.BranchMergeIdeal.τ).loc Cert.BranchMergeIdeal.main_arg2)
      ∧ r.2.mem ((c.tc : Thread Cert.BranchMergeIdeal.nD Cert.BranchMergeIdeal.τ).loc Cert.BranchMergeIdeal.main_arg3) = m ((c.tc : Thread Cert.BranchMergeIdeal.nD Cert.BranchMergeIdeal.τ).loc Cert.BranchMergeIdeal.main_arg3)
      ∧ r.2.mem ((c.tc : Thread Cert.BranchMergeIdeal.nD Cert.BranchMergeIdeal.τ).loc Cert.BranchMergeIdeal.main_arg4) = m ((c.tc : Thread Cert.BranchMergeIdeal.nD Cert.BranchMergeIdeal.τ).loc Cert.BranchMergeIdeal.main_arg4)
      ∧ r.2.mem ((c.tc : Thread Cert.BranchMergeIdeal.nD Cert.BranchMergeIdeal.τ).loc Cert.BranchMergeIdeal.main_arg5) = m ((c.tc : Thread Cert.BranchMergeIdeal.nD Cert.BranchMergeIdeal.τ).loc Cert.BranchMergeIdeal.main_arg5)
      ∧ r.2.mem ((c.tc : Thread Cert.BranchMergeIdeal.nD Cert.BranchMergeIdeal.τ).loc Cert.BranchMergeIdeal.main_arg6) = m ((c.tc : Thread Cert.BranchMergeIdeal.nD Cert.BranchMergeIdeal.τ).loc Cert.BranchMergeIdeal.main_arg6)
      ∧ r.2.mem ((c.tc : Thread Cert.BranchMergeIdeal.nD Cert.BranchMergeIdeal.τ).loc Cert.BranchMergeIdeal.main_arg7) = m ((c.tc : Thread Cert.BranchMergeIdeal.nD Cert.BranchMergeIdeal.τ).loc Cert.BranchMergeIdeal.main_arg7)
      ∧ r.2.mem ((c.tc : Thread Cert.BranchMergeIdeal.nD Cert.BranchMergeIdeal.τ).loc Cert.BranchMergeIdeal.main_arg8) = m ((c.tc : Thread Cert.BranchMergeIdeal.nD Cert.BranchMergeIdeal.τ).loc Cert.BranchMergeIdeal.main_arg8)
      ∧ r.2.mem ((c.tc : Thread Cert.BranchMergeIdeal.nD Cert.BranchMergeIdeal.τ).loc Cert.BranchMergeIdeal.main_arg9) = m ((c.tc : Thread Cert.BranchMergeIdeal.nD Cert.BranchMergeIdeal.τ).loc Cert.BranchMergeIdeal.main_arg9)
      ∧ r.2.mem ((c.tc : Thread Cert.BranchMergeIdeal.nD Cert.BranchMergeIdeal.τ).loc Cert.BranchMergeIdeal.main_arg10) = m ((c.tc : Thread Cert.BranchMergeIdeal.nD Cert.BranchMergeIdeal.τ).loc Cert.BranchMergeIdeal.main_arg10)
      ∧ r.2.mem ((c.tc : Thread Cert.BranchMergeIdeal.nD Cert.BranchMergeIdeal.τ).loc Cert.BranchMergeIdeal.main_arg11) = m ((c.tc : Thread Cert.BranchMergeIdeal.nD Cert.BranchMergeIdeal.τ).loc Cert.BranchMergeIdeal.main_arg11)
      ∧ r.2.mem ((c.tc : Thread Cert.BranchMergeIdeal.nD Cert.BranchMergeIdeal.τ).loc Cert.BranchMergeIdeal.main_arg12) = m ((c.tc : Thread Cert.BranchMergeIdeal.nD Cert.BranchMergeIdeal.τ).loc Cert.BranchMergeIdeal.main_arg12))
      ∧ r.2.sem = fun _ => 0)

def quiescent_BranchMergeReferenceIdeal [hBranchMergeReferenceIdeal : Cert.BranchMergeReferenceIdeal.Facts] : Prop :=
  ∀ (m : (ℓ : Loc Cert.BranchMergeReferenceIdeal.nD Cert.BranchMergeReferenceIdeal.τ Cert.BranchMergeReferenceIdeal.sig) → Buf (Elt Ideal) ℓ) (g : Dev Cert.BranchMergeReferenceIdeal.nD → PrngReg), Pre_BranchMergeReferenceIdeal m →
    θ_run (Cert.BranchMergeReferenceIdeal.defs (F := Ideal)) (onTc (τ := Cert.BranchMergeReferenceIdeal.τ) (Cert.BranchMergeReferenceIdeal.main (F := Ideal))) ⟨m, fun _ => 0, g⟩ (fun r => (∀ c : Dev Cert.BranchMergeReferenceIdeal.nD,
      r.2.mem ((c.tc : Thread Cert.BranchMergeReferenceIdeal.nD Cert.BranchMergeReferenceIdeal.τ).loc Cert.BranchMergeReferenceIdeal.main_arg0) = m ((c.tc : Thread Cert.BranchMergeReferenceIdeal.nD Cert.BranchMergeReferenceIdeal.τ).loc Cert.BranchMergeReferenceIdeal.main_arg0)
      ∧ r.2.mem ((c.tc : Thread Cert.BranchMergeReferenceIdeal.nD Cert.BranchMergeReferenceIdeal.τ).loc Cert.BranchMergeReferenceIdeal.main_arg1) = m ((c.tc : Thread Cert.BranchMergeReferenceIdeal.nD Cert.BranchMergeReferenceIdeal.τ).loc Cert.BranchMergeReferenceIdeal.main_arg1)
      ∧ r.2.mem ((c.tc : Thread Cert.BranchMergeReferenceIdeal.nD Cert.BranchMergeReferenceIdeal.τ).loc Cert.BranchMergeReferenceIdeal.main_arg2) = m ((c.tc : Thread Cert.BranchMergeReferenceIdeal.nD Cert.BranchMergeReferenceIdeal.τ).loc Cert.BranchMergeReferenceIdeal.main_arg2)
      ∧ r.2.mem ((c.tc : Thread Cert.BranchMergeReferenceIdeal.nD Cert.BranchMergeReferenceIdeal.τ).loc Cert.BranchMergeReferenceIdeal.main_arg3) = m ((c.tc : Thread Cert.BranchMergeReferenceIdeal.nD Cert.BranchMergeReferenceIdeal.τ).loc Cert.BranchMergeReferenceIdeal.main_arg3)
      ∧ r.2.mem ((c.tc : Thread Cert.BranchMergeReferenceIdeal.nD Cert.BranchMergeReferenceIdeal.τ).loc Cert.BranchMergeReferenceIdeal.main_arg4) = m ((c.tc : Thread Cert.BranchMergeReferenceIdeal.nD Cert.BranchMergeReferenceIdeal.τ).loc Cert.BranchMergeReferenceIdeal.main_arg4)
      ∧ r.2.mem ((c.tc : Thread Cert.BranchMergeReferenceIdeal.nD Cert.BranchMergeReferenceIdeal.τ).loc Cert.BranchMergeReferenceIdeal.main_arg5) = m ((c.tc : Thread Cert.BranchMergeReferenceIdeal.nD Cert.BranchMergeReferenceIdeal.τ).loc Cert.BranchMergeReferenceIdeal.main_arg5)
      ∧ r.2.mem ((c.tc : Thread Cert.BranchMergeReferenceIdeal.nD Cert.BranchMergeReferenceIdeal.τ).loc Cert.BranchMergeReferenceIdeal.main_arg6) = m ((c.tc : Thread Cert.BranchMergeReferenceIdeal.nD Cert.BranchMergeReferenceIdeal.τ).loc Cert.BranchMergeReferenceIdeal.main_arg6)
      ∧ r.2.mem ((c.tc : Thread Cert.BranchMergeReferenceIdeal.nD Cert.BranchMergeReferenceIdeal.τ).loc Cert.BranchMergeReferenceIdeal.main_arg7) = m ((c.tc : Thread Cert.BranchMergeReferenceIdeal.nD Cert.BranchMergeReferenceIdeal.τ).loc Cert.BranchMergeReferenceIdeal.main_arg7)
      ∧ r.2.mem ((c.tc : Thread Cert.BranchMergeReferenceIdeal.nD Cert.BranchMergeReferenceIdeal.τ).loc Cert.BranchMergeReferenceIdeal.main_arg8) = m ((c.tc : Thread Cert.BranchMergeReferenceIdeal.nD Cert.BranchMergeReferenceIdeal.τ).loc Cert.BranchMergeReferenceIdeal.main_arg8)
      ∧ r.2.mem ((c.tc : Thread Cert.BranchMergeReferenceIdeal.nD Cert.BranchMergeReferenceIdeal.τ).loc Cert.BranchMergeReferenceIdeal.main_arg9) = m ((c.tc : Thread Cert.BranchMergeReferenceIdeal.nD Cert.BranchMergeReferenceIdeal.τ).loc Cert.BranchMergeReferenceIdeal.main_arg9)
      ∧ r.2.mem ((c.tc : Thread Cert.BranchMergeReferenceIdeal.nD Cert.BranchMergeReferenceIdeal.τ).loc Cert.BranchMergeReferenceIdeal.main_arg10) = m ((c.tc : Thread Cert.BranchMergeReferenceIdeal.nD Cert.BranchMergeReferenceIdeal.τ).loc Cert.BranchMergeReferenceIdeal.main_arg10)
      ∧ r.2.mem ((c.tc : Thread Cert.BranchMergeReferenceIdeal.nD Cert.BranchMergeReferenceIdeal.τ).loc Cert.BranchMergeReferenceIdeal.main_arg11) = m ((c.tc : Thread Cert.BranchMergeReferenceIdeal.nD Cert.BranchMergeReferenceIdeal.τ).loc Cert.BranchMergeReferenceIdeal.main_arg11)
      ∧ r.2.mem ((c.tc : Thread Cert.BranchMergeReferenceIdeal.nD Cert.BranchMergeReferenceIdeal.τ).loc Cert.BranchMergeReferenceIdeal.main_arg12) = m ((c.tc : Thread Cert.BranchMergeReferenceIdeal.nD Cert.BranchMergeReferenceIdeal.τ).loc Cert.BranchMergeReferenceIdeal.main_arg12))
      ∧ r.2.sem = fun _ => 0)

def quiescent_BranchMergeReferenceIdeal_pre_no_conv_norm_is_minus_infinity [hBranchMergeReferenceIdeal : Cert.BranchMergeReferenceIdeal.Facts] [hPre_no_conv_norm_is_minus_infinity : Cert.Pre_no_conv_norm_is_minus_infinity.Facts] : Prop :=
  ∀ (m : (ℓ : Loc Cert.BranchMergeReferenceIdeal.nD Cert.BranchMergeReferenceIdeal.τ Cert.BranchMergeReferenceIdeal.sig) → Buf (Elt Ideal) ℓ) (g : Dev Cert.BranchMergeReferenceIdeal.nD → PrngReg), Pre_BranchMergeReferenceIdeal_no_conv_norm_is_minus_infinity m →
    θ_run (Cert.BranchMergeReferenceIdeal.defs (F := Ideal)) (onTc (τ := Cert.BranchMergeReferenceIdeal.τ) (Cert.BranchMergeReferenceIdeal.main (F := Ideal))) ⟨m, fun _ => 0, g⟩ (fun r => (∀ c : Dev Cert.BranchMergeReferenceIdeal.nD,
      r.2.mem ((c.tc : Thread Cert.BranchMergeReferenceIdeal.nD Cert.BranchMergeReferenceIdeal.τ).loc Cert.BranchMergeReferenceIdeal.main_arg0) = m ((c.tc : Thread Cert.BranchMergeReferenceIdeal.nD Cert.BranchMergeReferenceIdeal.τ).loc Cert.BranchMergeReferenceIdeal.main_arg0)
      ∧ r.2.mem ((c.tc : Thread Cert.BranchMergeReferenceIdeal.nD Cert.BranchMergeReferenceIdeal.τ).loc Cert.BranchMergeReferenceIdeal.main_arg1) = m ((c.tc : Thread Cert.BranchMergeReferenceIdeal.nD Cert.BranchMergeReferenceIdeal.τ).loc Cert.BranchMergeReferenceIdeal.main_arg1)
      ∧ r.2.mem ((c.tc : Thread Cert.BranchMergeReferenceIdeal.nD Cert.BranchMergeReferenceIdeal.τ).loc Cert.BranchMergeReferenceIdeal.main_arg2) = m ((c.tc : Thread Cert.BranchMergeReferenceIdeal.nD Cert.BranchMergeReferenceIdeal.τ).loc Cert.BranchMergeReferenceIdeal.main_arg2)
      ∧ r.2.mem ((c.tc : Thread Cert.BranchMergeReferenceIdeal.nD Cert.BranchMergeReferenceIdeal.τ).loc Cert.BranchMergeReferenceIdeal.main_arg3) = m ((c.tc : Thread Cert.BranchMergeReferenceIdeal.nD Cert.BranchMergeReferenceIdeal.τ).loc Cert.BranchMergeReferenceIdeal.main_arg3)
      ∧ r.2.mem ((c.tc : Thread Cert.BranchMergeReferenceIdeal.nD Cert.BranchMergeReferenceIdeal.τ).loc Cert.BranchMergeReferenceIdeal.main_arg4) = m ((c.tc : Thread Cert.BranchMergeReferenceIdeal.nD Cert.BranchMergeReferenceIdeal.τ).loc Cert.BranchMergeReferenceIdeal.main_arg4)
      ∧ r.2.mem ((c.tc : Thread Cert.BranchMergeReferenceIdeal.nD Cert.BranchMergeReferenceIdeal.τ).loc Cert.BranchMergeReferenceIdeal.main_arg5) = m ((c.tc : Thread Cert.BranchMergeReferenceIdeal.nD Cert.BranchMergeReferenceIdeal.τ).loc Cert.BranchMergeReferenceIdeal.main_arg5)
      ∧ r.2.mem ((c.tc : Thread Cert.BranchMergeReferenceIdeal.nD Cert.BranchMergeReferenceIdeal.τ).loc Cert.BranchMergeReferenceIdeal.main_arg6) = m ((c.tc : Thread Cert.BranchMergeReferenceIdeal.nD Cert.BranchMergeReferenceIdeal.τ).loc Cert.BranchMergeReferenceIdeal.main_arg6)
      ∧ r.2.mem ((c.tc : Thread Cert.BranchMergeReferenceIdeal.nD Cert.BranchMergeReferenceIdeal.τ).loc Cert.BranchMergeReferenceIdeal.main_arg7) = m ((c.tc : Thread Cert.BranchMergeReferenceIdeal.nD Cert.BranchMergeReferenceIdeal.τ).loc Cert.BranchMergeReferenceIdeal.main_arg7)
      ∧ r.2.mem ((c.tc : Thread Cert.BranchMergeReferenceIdeal.nD Cert.BranchMergeReferenceIdeal.τ).loc Cert.BranchMergeReferenceIdeal.main_arg8) = m ((c.tc : Thread Cert.BranchMergeReferenceIdeal.nD Cert.BranchMergeReferenceIdeal.τ).loc Cert.BranchMergeReferenceIdeal.main_arg8)
      ∧ r.2.mem ((c.tc : Thread Cert.BranchMergeReferenceIdeal.nD Cert.BranchMergeReferenceIdeal.τ).loc Cert.BranchMergeReferenceIdeal.main_arg9) = m ((c.tc : Thread Cert.BranchMergeReferenceIdeal.nD Cert.BranchMergeReferenceIdeal.τ).loc Cert.BranchMergeReferenceIdeal.main_arg9)
      ∧ r.2.mem ((c.tc : Thread Cert.BranchMergeReferenceIdeal.nD Cert.BranchMergeReferenceIdeal.τ).loc Cert.BranchMergeReferenceIdeal.main_arg10) = m ((c.tc : Thread Cert.BranchMergeReferenceIdeal.nD Cert.BranchMergeReferenceIdeal.τ).loc Cert.BranchMergeReferenceIdeal.main_arg10)
      ∧ r.2.mem ((c.tc : Thread Cert.BranchMergeReferenceIdeal.nD Cert.BranchMergeReferenceIdeal.τ).loc Cert.BranchMergeReferenceIdeal.main_arg11) = m ((c.tc : Thread Cert.BranchMergeReferenceIdeal.nD Cert.BranchMergeReferenceIdeal.τ).loc Cert.BranchMergeReferenceIdeal.main_arg11)
      ∧ r.2.mem ((c.tc : Thread Cert.BranchMergeReferenceIdeal.nD Cert.BranchMergeReferenceIdeal.τ).loc Cert.BranchMergeReferenceIdeal.main_arg12) = m ((c.tc : Thread Cert.BranchMergeReferenceIdeal.nD Cert.BranchMergeReferenceIdeal.τ).loc Cert.BranchMergeReferenceIdeal.main_arg12))
      ∧ r.2.sem = fun _ => 0)

def quiescent_ConvGlu [hConvGlu : Cert.ConvGlu.Facts] : Prop :=
  ∀ (m : (ℓ : Loc Cert.ConvGlu.nD Cert.ConvGlu.τ Cert.ConvGlu.sig) → Buf (Elt Bits) ℓ) (g : Dev Cert.ConvGlu.nD → PrngReg), Pre_ConvGlu m →
    θ_run (Cert.ConvGlu.defs (F := Bits)) (onTc (τ := Cert.ConvGlu.τ) (Cert.ConvGlu.main (F := Bits))) ⟨m, fun _ => 0, g⟩ (fun r => (∀ c : Dev Cert.ConvGlu.nD,
      r.2.mem ((c.tc : Thread Cert.ConvGlu.nD Cert.ConvGlu.τ).loc Cert.ConvGlu.main_arg0) = m ((c.tc : Thread Cert.ConvGlu.nD Cert.ConvGlu.τ).loc Cert.ConvGlu.main_arg0)
      ∧ r.2.mem ((c.tc : Thread Cert.ConvGlu.nD Cert.ConvGlu.τ).loc Cert.ConvGlu.main_arg1) = m ((c.tc : Thread Cert.ConvGlu.nD Cert.ConvGlu.τ).loc Cert.ConvGlu.main_arg1))
      ∧ r.2.sem = fun _ => 0)

def quiescent_ConvGluIdeal [hConvGluIdeal : Cert.ConvGluIdeal.Facts] : Prop :=
  ∀ (m : (ℓ : Loc Cert.ConvGluIdeal.nD Cert.ConvGluIdeal.τ Cert.ConvGluIdeal.sig) → Buf (Elt Ideal) ℓ) (g : Dev Cert.ConvGluIdeal.nD → PrngReg), Pre_ConvGluIdeal m →
    θ_run (Cert.ConvGluIdeal.defs (F := Ideal)) (onTc (τ := Cert.ConvGluIdeal.τ) (Cert.ConvGluIdeal.main (F := Ideal))) ⟨m, fun _ => 0, g⟩ (fun r => (∀ c : Dev Cert.ConvGluIdeal.nD,
      r.2.mem ((c.tc : Thread Cert.ConvGluIdeal.nD Cert.ConvGluIdeal.τ).loc Cert.ConvGluIdeal.main_arg0) = m ((c.tc : Thread Cert.ConvGluIdeal.nD Cert.ConvGluIdeal.τ).loc Cert.ConvGluIdeal.main_arg0)
      ∧ r.2.mem ((c.tc : Thread Cert.ConvGluIdeal.nD Cert.ConvGluIdeal.τ).loc Cert.ConvGluIdeal.main_arg1) = m ((c.tc : Thread Cert.ConvGluIdeal.nD Cert.ConvGluIdeal.τ).loc Cert.ConvGluIdeal.main_arg1))
      ∧ r.2.sem = fun _ => 0)

def quiescent_ConvGluReferenceIdeal [hConvGluReferenceIdeal : Cert.ConvGluReferenceIdeal.Facts] : Prop :=
  ∀ (m : (ℓ : Loc Cert.ConvGluReferenceIdeal.nD Cert.ConvGluReferenceIdeal.τ Cert.ConvGluReferenceIdeal.sig) → Buf (Elt Ideal) ℓ) (g : Dev Cert.ConvGluReferenceIdeal.nD → PrngReg), Pre_ConvGluReferenceIdeal m →
    θ_run (Cert.ConvGluReferenceIdeal.defs (F := Ideal)) (onTc (τ := Cert.ConvGluReferenceIdeal.τ) (Cert.ConvGluReferenceIdeal.main (F := Ideal))) ⟨m, fun _ => 0, g⟩ (fun r => (∀ c : Dev Cert.ConvGluReferenceIdeal.nD,
      r.2.mem ((c.tc : Thread Cert.ConvGluReferenceIdeal.nD Cert.ConvGluReferenceIdeal.τ).loc Cert.ConvGluReferenceIdeal.main_arg0) = m ((c.tc : Thread Cert.ConvGluReferenceIdeal.nD Cert.ConvGluReferenceIdeal.τ).loc Cert.ConvGluReferenceIdeal.main_arg0)
      ∧ r.2.mem ((c.tc : Thread Cert.ConvGluReferenceIdeal.nD Cert.ConvGluReferenceIdeal.τ).loc Cert.ConvGluReferenceIdeal.main_arg1) = m ((c.tc : Thread Cert.ConvGluReferenceIdeal.nD Cert.ConvGluReferenceIdeal.τ).loc Cert.ConvGluReferenceIdeal.main_arg1))
      ∧ r.2.sem = fun _ => 0)

def quiescent_QkvFirst [hQkvFirst : Cert.QkvFirst.Facts] : Prop :=
  ∀ (m : (ℓ : Loc Cert.QkvFirst.nD Cert.QkvFirst.τ Cert.QkvFirst.sig) → Buf (Elt Bits) ℓ) (g : Dev Cert.QkvFirst.nD → PrngReg), Pre_QkvFirst m →
    θ_run (Cert.QkvFirst.defs (F := Bits)) (onTc (τ := Cert.QkvFirst.τ) (Cert.QkvFirst.main (F := Bits))) ⟨m, fun _ => 0, g⟩ (fun r => (∀ c : Dev Cert.QkvFirst.nD,
      r.2.mem ((c.tc : Thread Cert.QkvFirst.nD Cert.QkvFirst.τ).loc Cert.QkvFirst.main_arg0) = m ((c.tc : Thread Cert.QkvFirst.nD Cert.QkvFirst.τ).loc Cert.QkvFirst.main_arg0)
      ∧ r.2.mem ((c.tc : Thread Cert.QkvFirst.nD Cert.QkvFirst.τ).loc Cert.QkvFirst.main_arg1) = m ((c.tc : Thread Cert.QkvFirst.nD Cert.QkvFirst.τ).loc Cert.QkvFirst.main_arg1)
      ∧ r.2.mem ((c.tc : Thread Cert.QkvFirst.nD Cert.QkvFirst.τ).loc Cert.QkvFirst.main_arg2) = m ((c.tc : Thread Cert.QkvFirst.nD Cert.QkvFirst.τ).loc Cert.QkvFirst.main_arg2)
      ∧ r.2.mem ((c.tc : Thread Cert.QkvFirst.nD Cert.QkvFirst.τ).loc Cert.QkvFirst.main_arg3) = m ((c.tc : Thread Cert.QkvFirst.nD Cert.QkvFirst.τ).loc Cert.QkvFirst.main_arg3)
      ∧ r.2.mem ((c.tc : Thread Cert.QkvFirst.nD Cert.QkvFirst.τ).loc Cert.QkvFirst.main_arg4) = m ((c.tc : Thread Cert.QkvFirst.nD Cert.QkvFirst.τ).loc Cert.QkvFirst.main_arg4))
      ∧ r.2.sem = fun _ => 0)

def quiescent_QkvFirstIdeal [hQkvFirstIdeal : Cert.QkvFirstIdeal.Facts] : Prop :=
  ∀ (m : (ℓ : Loc Cert.QkvFirstIdeal.nD Cert.QkvFirstIdeal.τ Cert.QkvFirstIdeal.sig) → Buf (Elt Ideal) ℓ) (g : Dev Cert.QkvFirstIdeal.nD → PrngReg), Pre_QkvFirstIdeal m →
    θ_run (Cert.QkvFirstIdeal.defs (F := Ideal)) (onTc (τ := Cert.QkvFirstIdeal.τ) (Cert.QkvFirstIdeal.main (F := Ideal))) ⟨m, fun _ => 0, g⟩ (fun r => (∀ c : Dev Cert.QkvFirstIdeal.nD,
      r.2.mem ((c.tc : Thread Cert.QkvFirstIdeal.nD Cert.QkvFirstIdeal.τ).loc Cert.QkvFirstIdeal.main_arg0) = m ((c.tc : Thread Cert.QkvFirstIdeal.nD Cert.QkvFirstIdeal.τ).loc Cert.QkvFirstIdeal.main_arg0)
      ∧ r.2.mem ((c.tc : Thread Cert.QkvFirstIdeal.nD Cert.QkvFirstIdeal.τ).loc Cert.QkvFirstIdeal.main_arg1) = m ((c.tc : Thread Cert.QkvFirstIdeal.nD Cert.QkvFirstIdeal.τ).loc Cert.QkvFirstIdeal.main_arg1)
      ∧ r.2.mem ((c.tc : Thread Cert.QkvFirstIdeal.nD Cert.QkvFirstIdeal.τ).loc Cert.QkvFirstIdeal.main_arg2) = m ((c.tc : Thread Cert.QkvFirstIdeal.nD Cert.QkvFirstIdeal.τ).loc Cert.QkvFirstIdeal.main_arg2)
      ∧ r.2.mem ((c.tc : Thread Cert.QkvFirstIdeal.nD Cert.QkvFirstIdeal.τ).loc Cert.QkvFirstIdeal.main_arg3) = m ((c.tc : Thread Cert.QkvFirstIdeal.nD Cert.QkvFirstIdeal.τ).loc Cert.QkvFirstIdeal.main_arg3)
      ∧ r.2.mem ((c.tc : Thread Cert.QkvFirstIdeal.nD Cert.QkvFirstIdeal.τ).loc Cert.QkvFirstIdeal.main_arg4) = m ((c.tc : Thread Cert.QkvFirstIdeal.nD Cert.QkvFirstIdeal.τ).loc Cert.QkvFirstIdeal.main_arg4))
      ∧ r.2.sem = fun _ => 0)

def quiescent_QkvFirstIdeal_pre_tables_are_rotary [hQkvFirstIdeal : Cert.QkvFirstIdeal.Facts] [hPre_tables_are_rotary : Cert.Pre_tables_are_rotary.Facts] : Prop :=
  ∀ (m : (ℓ : Loc Cert.QkvFirstIdeal.nD Cert.QkvFirstIdeal.τ Cert.QkvFirstIdeal.sig) → Buf (Elt Ideal) ℓ) (g : Dev Cert.QkvFirstIdeal.nD → PrngReg), Pre_QkvFirstIdeal_tables_are_rotary m →
    θ_run (Cert.QkvFirstIdeal.defs (F := Ideal)) (onTc (τ := Cert.QkvFirstIdeal.τ) (Cert.QkvFirstIdeal.main (F := Ideal))) ⟨m, fun _ => 0, g⟩ (fun r => (∀ c : Dev Cert.QkvFirstIdeal.nD,
      r.2.mem ((c.tc : Thread Cert.QkvFirstIdeal.nD Cert.QkvFirstIdeal.τ).loc Cert.QkvFirstIdeal.main_arg0) = m ((c.tc : Thread Cert.QkvFirstIdeal.nD Cert.QkvFirstIdeal.τ).loc Cert.QkvFirstIdeal.main_arg0)
      ∧ r.2.mem ((c.tc : Thread Cert.QkvFirstIdeal.nD Cert.QkvFirstIdeal.τ).loc Cert.QkvFirstIdeal.main_arg1) = m ((c.tc : Thread Cert.QkvFirstIdeal.nD Cert.QkvFirstIdeal.τ).loc Cert.QkvFirstIdeal.main_arg1)
      ∧ r.2.mem ((c.tc : Thread Cert.QkvFirstIdeal.nD Cert.QkvFirstIdeal.τ).loc Cert.QkvFirstIdeal.main_arg2) = m ((c.tc : Thread Cert.QkvFirstIdeal.nD Cert.QkvFirstIdeal.τ).loc Cert.QkvFirstIdeal.main_arg2)
      ∧ r.2.mem ((c.tc : Thread Cert.QkvFirstIdeal.nD Cert.QkvFirstIdeal.τ).loc Cert.QkvFirstIdeal.main_arg3) = m ((c.tc : Thread Cert.QkvFirstIdeal.nD Cert.QkvFirstIdeal.τ).loc Cert.QkvFirstIdeal.main_arg3)
      ∧ r.2.mem ((c.tc : Thread Cert.QkvFirstIdeal.nD Cert.QkvFirstIdeal.τ).loc Cert.QkvFirstIdeal.main_arg4) = m ((c.tc : Thread Cert.QkvFirstIdeal.nD Cert.QkvFirstIdeal.τ).loc Cert.QkvFirstIdeal.main_arg4))
      ∧ r.2.sem = fun _ => 0)

def quiescent_QkvFirstReferenceIdeal [hQkvFirstReferenceIdeal : Cert.QkvFirstReferenceIdeal.Facts] : Prop :=
  ∀ (m : (ℓ : Loc Cert.QkvFirstReferenceIdeal.nD Cert.QkvFirstReferenceIdeal.τ Cert.QkvFirstReferenceIdeal.sig) → Buf (Elt Ideal) ℓ) (g : Dev Cert.QkvFirstReferenceIdeal.nD → PrngReg), Pre_QkvFirstReferenceIdeal m →
    θ_run (Cert.QkvFirstReferenceIdeal.defs (F := Ideal)) (onTc (τ := Cert.QkvFirstReferenceIdeal.τ) (Cert.QkvFirstReferenceIdeal.main (F := Ideal))) ⟨m, fun _ => 0, g⟩ (fun r => (∀ c : Dev Cert.QkvFirstReferenceIdeal.nD,
      r.2.mem ((c.tc : Thread Cert.QkvFirstReferenceIdeal.nD Cert.QkvFirstReferenceIdeal.τ).loc Cert.QkvFirstReferenceIdeal.main_arg0) = m ((c.tc : Thread Cert.QkvFirstReferenceIdeal.nD Cert.QkvFirstReferenceIdeal.τ).loc Cert.QkvFirstReferenceIdeal.main_arg0)
      ∧ r.2.mem ((c.tc : Thread Cert.QkvFirstReferenceIdeal.nD Cert.QkvFirstReferenceIdeal.τ).loc Cert.QkvFirstReferenceIdeal.main_arg1) = m ((c.tc : Thread Cert.QkvFirstReferenceIdeal.nD Cert.QkvFirstReferenceIdeal.τ).loc Cert.QkvFirstReferenceIdeal.main_arg1)
      ∧ r.2.mem ((c.tc : Thread Cert.QkvFirstReferenceIdeal.nD Cert.QkvFirstReferenceIdeal.τ).loc Cert.QkvFirstReferenceIdeal.main_arg2) = m ((c.tc : Thread Cert.QkvFirstReferenceIdeal.nD Cert.QkvFirstReferenceIdeal.τ).loc Cert.QkvFirstReferenceIdeal.main_arg2)
      ∧ r.2.mem ((c.tc : Thread Cert.QkvFirstReferenceIdeal.nD Cert.QkvFirstReferenceIdeal.τ).loc Cert.QkvFirstReferenceIdeal.main_arg3) = m ((c.tc : Thread Cert.QkvFirstReferenceIdeal.nD Cert.QkvFirstReferenceIdeal.τ).loc Cert.QkvFirstReferenceIdeal.main_arg3)
      ∧ r.2.mem ((c.tc : Thread Cert.QkvFirstReferenceIdeal.nD Cert.QkvFirstReferenceIdeal.τ).loc Cert.QkvFirstReferenceIdeal.main_arg4) = m ((c.tc : Thread Cert.QkvFirstReferenceIdeal.nD Cert.QkvFirstReferenceIdeal.τ).loc Cert.QkvFirstReferenceIdeal.main_arg4))
      ∧ r.2.sem = fun _ => 0)

def quiescent_QkvFirstReferenceIdeal_pre_tables_are_rotary [hQkvFirstReferenceIdeal : Cert.QkvFirstReferenceIdeal.Facts] [hPre_tables_are_rotary : Cert.Pre_tables_are_rotary.Facts] : Prop :=
  ∀ (m : (ℓ : Loc Cert.QkvFirstReferenceIdeal.nD Cert.QkvFirstReferenceIdeal.τ Cert.QkvFirstReferenceIdeal.sig) → Buf (Elt Ideal) ℓ) (g : Dev Cert.QkvFirstReferenceIdeal.nD → PrngReg), Pre_QkvFirstReferenceIdeal_tables_are_rotary m →
    θ_run (Cert.QkvFirstReferenceIdeal.defs (F := Ideal)) (onTc (τ := Cert.QkvFirstReferenceIdeal.τ) (Cert.QkvFirstReferenceIdeal.main (F := Ideal))) ⟨m, fun _ => 0, g⟩ (fun r => (∀ c : Dev Cert.QkvFirstReferenceIdeal.nD,
      r.2.mem ((c.tc : Thread Cert.QkvFirstReferenceIdeal.nD Cert.QkvFirstReferenceIdeal.τ).loc Cert.QkvFirstReferenceIdeal.main_arg0) = m ((c.tc : Thread Cert.QkvFirstReferenceIdeal.nD Cert.QkvFirstReferenceIdeal.τ).loc Cert.QkvFirstReferenceIdeal.main_arg0)
      ∧ r.2.mem ((c.tc : Thread Cert.QkvFirstReferenceIdeal.nD Cert.QkvFirstReferenceIdeal.τ).loc Cert.QkvFirstReferenceIdeal.main_arg1) = m ((c.tc : Thread Cert.QkvFirstReferenceIdeal.nD Cert.QkvFirstReferenceIdeal.τ).loc Cert.QkvFirstReferenceIdeal.main_arg1)
      ∧ r.2.mem ((c.tc : Thread Cert.QkvFirstReferenceIdeal.nD Cert.QkvFirstReferenceIdeal.τ).loc Cert.QkvFirstReferenceIdeal.main_arg2) = m ((c.tc : Thread Cert.QkvFirstReferenceIdeal.nD Cert.QkvFirstReferenceIdeal.τ).loc Cert.QkvFirstReferenceIdeal.main_arg2)
      ∧ r.2.mem ((c.tc : Thread Cert.QkvFirstReferenceIdeal.nD Cert.QkvFirstReferenceIdeal.τ).loc Cert.QkvFirstReferenceIdeal.main_arg3) = m ((c.tc : Thread Cert.QkvFirstReferenceIdeal.nD Cert.QkvFirstReferenceIdeal.τ).loc Cert.QkvFirstReferenceIdeal.main_arg3)
      ∧ r.2.mem ((c.tc : Thread Cert.QkvFirstReferenceIdeal.nD Cert.QkvFirstReferenceIdeal.τ).loc Cert.QkvFirstReferenceIdeal.main_arg4) = m ((c.tc : Thread Cert.QkvFirstReferenceIdeal.nD Cert.QkvFirstReferenceIdeal.τ).loc Cert.QkvFirstReferenceIdeal.main_arg4))
      ∧ r.2.sem = fun _ => 0)

def quiescent_SpatialGating [hSpatialGating : Cert.SpatialGating.Facts] : Prop :=
  ∀ (m : (ℓ : Loc Cert.SpatialGating.nD Cert.SpatialGating.τ Cert.SpatialGating.sig) → Buf (Elt Bits) ℓ) (g : Dev Cert.SpatialGating.nD → PrngReg), Pre_SpatialGating m →
    θ_run (Cert.SpatialGating.defs (F := Bits)) (onTc (τ := Cert.SpatialGating.τ) (Cert.SpatialGating.main (F := Bits))) ⟨m, fun _ => 0, g⟩ (fun r => (∀ c : Dev Cert.SpatialGating.nD,
      r.2.mem ((c.tc : Thread Cert.SpatialGating.nD Cert.SpatialGating.τ).loc Cert.SpatialGating.main_arg0) = m ((c.tc : Thread Cert.SpatialGating.nD Cert.SpatialGating.τ).loc Cert.SpatialGating.main_arg0)
      ∧ r.2.mem ((c.tc : Thread Cert.SpatialGating.nD Cert.SpatialGating.τ).loc Cert.SpatialGating.main_arg1) = m ((c.tc : Thread Cert.SpatialGating.nD Cert.SpatialGating.τ).loc Cert.SpatialGating.main_arg1)
      ∧ r.2.mem ((c.tc : Thread Cert.SpatialGating.nD Cert.SpatialGating.τ).loc Cert.SpatialGating.main_arg2) = m ((c.tc : Thread Cert.SpatialGating.nD Cert.SpatialGating.τ).loc Cert.SpatialGating.main_arg2)
      ∧ r.2.mem ((c.tc : Thread Cert.SpatialGating.nD Cert.SpatialGating.τ).loc Cert.SpatialGating.main_arg3) = m ((c.tc : Thread Cert.SpatialGating.nD Cert.SpatialGating.τ).loc Cert.SpatialGating.main_arg3)
      ∧ r.2.mem ((c.tc : Thread Cert.SpatialGating.nD Cert.SpatialGating.τ).loc Cert.SpatialGating.main_arg4) = m ((c.tc : Thread Cert.SpatialGating.nD Cert.SpatialGating.τ).loc Cert.SpatialGating.main_arg4)
      ∧ r.2.mem ((c.tc : Thread Cert.SpatialGating.nD Cert.SpatialGating.τ).loc Cert.SpatialGating.main_arg5) = m ((c.tc : Thread Cert.SpatialGating.nD Cert.SpatialGating.τ).loc Cert.SpatialGating.main_arg5))
      ∧ r.2.sem = fun _ => 0)

def quiescent_SpatialGatingIdeal [hSpatialGatingIdeal : Cert.SpatialGatingIdeal.Facts] : Prop :=
  ∀ (m : (ℓ : Loc Cert.SpatialGatingIdeal.nD Cert.SpatialGatingIdeal.τ Cert.SpatialGatingIdeal.sig) → Buf (Elt Ideal) ℓ) (g : Dev Cert.SpatialGatingIdeal.nD → PrngReg), Pre_SpatialGatingIdeal m →
    θ_run (Cert.SpatialGatingIdeal.defs (F := Ideal)) (onTc (τ := Cert.SpatialGatingIdeal.τ) (Cert.SpatialGatingIdeal.main (F := Ideal))) ⟨m, fun _ => 0, g⟩ (fun r => (∀ c : Dev Cert.SpatialGatingIdeal.nD,
      r.2.mem ((c.tc : Thread Cert.SpatialGatingIdeal.nD Cert.SpatialGatingIdeal.τ).loc Cert.SpatialGatingIdeal.main_arg0) = m ((c.tc : Thread Cert.SpatialGatingIdeal.nD Cert.SpatialGatingIdeal.τ).loc Cert.SpatialGatingIdeal.main_arg0)
      ∧ r.2.mem ((c.tc : Thread Cert.SpatialGatingIdeal.nD Cert.SpatialGatingIdeal.τ).loc Cert.SpatialGatingIdeal.main_arg1) = m ((c.tc : Thread Cert.SpatialGatingIdeal.nD Cert.SpatialGatingIdeal.τ).loc Cert.SpatialGatingIdeal.main_arg1)
      ∧ r.2.mem ((c.tc : Thread Cert.SpatialGatingIdeal.nD Cert.SpatialGatingIdeal.τ).loc Cert.SpatialGatingIdeal.main_arg2) = m ((c.tc : Thread Cert.SpatialGatingIdeal.nD Cert.SpatialGatingIdeal.τ).loc Cert.SpatialGatingIdeal.main_arg2)
      ∧ r.2.mem ((c.tc : Thread Cert.SpatialGatingIdeal.nD Cert.SpatialGatingIdeal.τ).loc Cert.SpatialGatingIdeal.main_arg3) = m ((c.tc : Thread Cert.SpatialGatingIdeal.nD Cert.SpatialGatingIdeal.τ).loc Cert.SpatialGatingIdeal.main_arg3)
      ∧ r.2.mem ((c.tc : Thread Cert.SpatialGatingIdeal.nD Cert.SpatialGatingIdeal.τ).loc Cert.SpatialGatingIdeal.main_arg4) = m ((c.tc : Thread Cert.SpatialGatingIdeal.nD Cert.SpatialGatingIdeal.τ).loc Cert.SpatialGatingIdeal.main_arg4)
      ∧ r.2.mem ((c.tc : Thread Cert.SpatialGatingIdeal.nD Cert.SpatialGatingIdeal.τ).loc Cert.SpatialGatingIdeal.main_arg5) = m ((c.tc : Thread Cert.SpatialGatingIdeal.nD Cert.SpatialGatingIdeal.τ).loc Cert.SpatialGatingIdeal.main_arg5))
      ∧ r.2.sem = fun _ => 0)

def quiescent_SpatialGatingReferenceIdeal [hSpatialGatingReferenceIdeal : Cert.SpatialGatingReferenceIdeal.Facts] : Prop :=
  ∀ (m : (ℓ : Loc Cert.SpatialGatingReferenceIdeal.nD Cert.SpatialGatingReferenceIdeal.τ Cert.SpatialGatingReferenceIdeal.sig) → Buf (Elt Ideal) ℓ) (g : Dev Cert.SpatialGatingReferenceIdeal.nD → PrngReg), Pre_SpatialGatingReferenceIdeal m →
    θ_run (Cert.SpatialGatingReferenceIdeal.defs (F := Ideal)) (onTc (τ := Cert.SpatialGatingReferenceIdeal.τ) (Cert.SpatialGatingReferenceIdeal.main (F := Ideal))) ⟨m, fun _ => 0, g⟩ (fun r => (∀ c : Dev Cert.SpatialGatingReferenceIdeal.nD,
      r.2.mem ((c.tc : Thread Cert.SpatialGatingReferenceIdeal.nD Cert.SpatialGatingReferenceIdeal.τ).loc Cert.SpatialGatingReferenceIdeal.main_arg0) = m ((c.tc : Thread Cert.SpatialGatingReferenceIdeal.nD Cert.SpatialGatingReferenceIdeal.τ).loc Cert.SpatialGatingReferenceIdeal.main_arg0)
      ∧ r.2.mem ((c.tc : Thread Cert.SpatialGatingReferenceIdeal.nD Cert.SpatialGatingReferenceIdeal.τ).loc Cert.SpatialGatingReferenceIdeal.main_arg1) = m ((c.tc : Thread Cert.SpatialGatingReferenceIdeal.nD Cert.SpatialGatingReferenceIdeal.τ).loc Cert.SpatialGatingReferenceIdeal.main_arg1)
      ∧ r.2.mem ((c.tc : Thread Cert.SpatialGatingReferenceIdeal.nD Cert.SpatialGatingReferenceIdeal.τ).loc Cert.SpatialGatingReferenceIdeal.main_arg2) = m ((c.tc : Thread Cert.SpatialGatingReferenceIdeal.nD Cert.SpatialGatingReferenceIdeal.τ).loc Cert.SpatialGatingReferenceIdeal.main_arg2)
      ∧ r.2.mem ((c.tc : Thread Cert.SpatialGatingReferenceIdeal.nD Cert.SpatialGatingReferenceIdeal.τ).loc Cert.SpatialGatingReferenceIdeal.main_arg3) = m ((c.tc : Thread Cert.SpatialGatingReferenceIdeal.nD Cert.SpatialGatingReferenceIdeal.τ).loc Cert.SpatialGatingReferenceIdeal.main_arg3)
      ∧ r.2.mem ((c.tc : Thread Cert.SpatialGatingReferenceIdeal.nD Cert.SpatialGatingReferenceIdeal.τ).loc Cert.SpatialGatingReferenceIdeal.main_arg4) = m ((c.tc : Thread Cert.SpatialGatingReferenceIdeal.nD Cert.SpatialGatingReferenceIdeal.τ).loc Cert.SpatialGatingReferenceIdeal.main_arg4)
      ∧ r.2.mem ((c.tc : Thread Cert.SpatialGatingReferenceIdeal.nD Cert.SpatialGatingReferenceIdeal.τ).loc Cert.SpatialGatingReferenceIdeal.main_arg5) = m ((c.tc : Thread Cert.SpatialGatingReferenceIdeal.nD Cert.SpatialGatingReferenceIdeal.τ).loc Cert.SpatialGatingReferenceIdeal.main_arg5))
      ∧ r.2.sem = fun _ => 0)

def quiescent_QkvSecond [hQkvSecond : Cert.QkvSecond.Facts] : Prop :=
  ∀ (m : (ℓ : Loc Cert.QkvSecond.nD Cert.QkvSecond.τ Cert.QkvSecond.sig) → Buf (Elt Bits) ℓ) (g : Dev Cert.QkvSecond.nD → PrngReg), Pre_QkvSecond m →
    θ_run (Cert.QkvSecond.defs (F := Bits)) (onTc (τ := Cert.QkvSecond.τ) (Cert.QkvSecond.main (F := Bits))) ⟨m, fun _ => 0, g⟩ (fun r => (∀ c : Dev Cert.QkvSecond.nD,
      r.2.mem ((c.tc : Thread Cert.QkvSecond.nD Cert.QkvSecond.τ).loc Cert.QkvSecond.main_arg0) = m ((c.tc : Thread Cert.QkvSecond.nD Cert.QkvSecond.τ).loc Cert.QkvSecond.main_arg0)
      ∧ r.2.mem ((c.tc : Thread Cert.QkvSecond.nD Cert.QkvSecond.τ).loc Cert.QkvSecond.main_arg1) = m ((c.tc : Thread Cert.QkvSecond.nD Cert.QkvSecond.τ).loc Cert.QkvSecond.main_arg1)
      ∧ r.2.mem ((c.tc : Thread Cert.QkvSecond.nD Cert.QkvSecond.τ).loc Cert.QkvSecond.main_arg2) = m ((c.tc : Thread Cert.QkvSecond.nD Cert.QkvSecond.τ).loc Cert.QkvSecond.main_arg2)
      ∧ r.2.mem ((c.tc : Thread Cert.QkvSecond.nD Cert.QkvSecond.τ).loc Cert.QkvSecond.main_arg3) = m ((c.tc : Thread Cert.QkvSecond.nD Cert.QkvSecond.τ).loc Cert.QkvSecond.main_arg3)
      ∧ r.2.mem ((c.tc : Thread Cert.QkvSecond.nD Cert.QkvSecond.τ).loc Cert.QkvSecond.main_arg4) = m ((c.tc : Thread Cert.QkvSecond.nD Cert.QkvSecond.τ).loc Cert.QkvSecond.main_arg4))
      ∧ r.2.sem = fun _ => 0)

def quiescent_QkvSecondIdeal [hQkvSecondIdeal : Cert.QkvSecondIdeal.Facts] : Prop :=
  ∀ (m : (ℓ : Loc Cert.QkvSecondIdeal.nD Cert.QkvSecondIdeal.τ Cert.QkvSecondIdeal.sig) → Buf (Elt Ideal) ℓ) (g : Dev Cert.QkvSecondIdeal.nD → PrngReg), Pre_QkvSecondIdeal m →
    θ_run (Cert.QkvSecondIdeal.defs (F := Ideal)) (onTc (τ := Cert.QkvSecondIdeal.τ) (Cert.QkvSecondIdeal.main (F := Ideal))) ⟨m, fun _ => 0, g⟩ (fun r => (∀ c : Dev Cert.QkvSecondIdeal.nD,
      r.2.mem ((c.tc : Thread Cert.QkvSecondIdeal.nD Cert.QkvSecondIdeal.τ).loc Cert.QkvSecondIdeal.main_arg0) = m ((c.tc : Thread Cert.QkvSecondIdeal.nD Cert.QkvSecondIdeal.τ).loc Cert.QkvSecondIdeal.main_arg0)
      ∧ r.2.mem ((c.tc : Thread Cert.QkvSecondIdeal.nD Cert.QkvSecondIdeal.τ).loc Cert.QkvSecondIdeal.main_arg1) = m ((c.tc : Thread Cert.QkvSecondIdeal.nD Cert.QkvSecondIdeal.τ).loc Cert.QkvSecondIdeal.main_arg1)
      ∧ r.2.mem ((c.tc : Thread Cert.QkvSecondIdeal.nD Cert.QkvSecondIdeal.τ).loc Cert.QkvSecondIdeal.main_arg2) = m ((c.tc : Thread Cert.QkvSecondIdeal.nD Cert.QkvSecondIdeal.τ).loc Cert.QkvSecondIdeal.main_arg2)
      ∧ r.2.mem ((c.tc : Thread Cert.QkvSecondIdeal.nD Cert.QkvSecondIdeal.τ).loc Cert.QkvSecondIdeal.main_arg3) = m ((c.tc : Thread Cert.QkvSecondIdeal.nD Cert.QkvSecondIdeal.τ).loc Cert.QkvSecondIdeal.main_arg3)
      ∧ r.2.mem ((c.tc : Thread Cert.QkvSecondIdeal.nD Cert.QkvSecondIdeal.τ).loc Cert.QkvSecondIdeal.main_arg4) = m ((c.tc : Thread Cert.QkvSecondIdeal.nD Cert.QkvSecondIdeal.τ).loc Cert.QkvSecondIdeal.main_arg4))
      ∧ r.2.sem = fun _ => 0)

def quiescent_QkvSecondIdeal_pre_tables_are_rotary [hQkvSecondIdeal : Cert.QkvSecondIdeal.Facts] [hPre_tables_are_rotary : Cert.Pre_tables_are_rotary.Facts] : Prop :=
  ∀ (m : (ℓ : Loc Cert.QkvSecondIdeal.nD Cert.QkvSecondIdeal.τ Cert.QkvSecondIdeal.sig) → Buf (Elt Ideal) ℓ) (g : Dev Cert.QkvSecondIdeal.nD → PrngReg), Pre_QkvSecondIdeal_tables_are_rotary m →
    θ_run (Cert.QkvSecondIdeal.defs (F := Ideal)) (onTc (τ := Cert.QkvSecondIdeal.τ) (Cert.QkvSecondIdeal.main (F := Ideal))) ⟨m, fun _ => 0, g⟩ (fun r => (∀ c : Dev Cert.QkvSecondIdeal.nD,
      r.2.mem ((c.tc : Thread Cert.QkvSecondIdeal.nD Cert.QkvSecondIdeal.τ).loc Cert.QkvSecondIdeal.main_arg0) = m ((c.tc : Thread Cert.QkvSecondIdeal.nD Cert.QkvSecondIdeal.τ).loc Cert.QkvSecondIdeal.main_arg0)
      ∧ r.2.mem ((c.tc : Thread Cert.QkvSecondIdeal.nD Cert.QkvSecondIdeal.τ).loc Cert.QkvSecondIdeal.main_arg1) = m ((c.tc : Thread Cert.QkvSecondIdeal.nD Cert.QkvSecondIdeal.τ).loc Cert.QkvSecondIdeal.main_arg1)
      ∧ r.2.mem ((c.tc : Thread Cert.QkvSecondIdeal.nD Cert.QkvSecondIdeal.τ).loc Cert.QkvSecondIdeal.main_arg2) = m ((c.tc : Thread Cert.QkvSecondIdeal.nD Cert.QkvSecondIdeal.τ).loc Cert.QkvSecondIdeal.main_arg2)
      ∧ r.2.mem ((c.tc : Thread Cert.QkvSecondIdeal.nD Cert.QkvSecondIdeal.τ).loc Cert.QkvSecondIdeal.main_arg3) = m ((c.tc : Thread Cert.QkvSecondIdeal.nD Cert.QkvSecondIdeal.τ).loc Cert.QkvSecondIdeal.main_arg3)
      ∧ r.2.mem ((c.tc : Thread Cert.QkvSecondIdeal.nD Cert.QkvSecondIdeal.τ).loc Cert.QkvSecondIdeal.main_arg4) = m ((c.tc : Thread Cert.QkvSecondIdeal.nD Cert.QkvSecondIdeal.τ).loc Cert.QkvSecondIdeal.main_arg4))
      ∧ r.2.sem = fun _ => 0)

def quiescent_QkvSecondReferenceIdeal [hQkvSecondReferenceIdeal : Cert.QkvSecondReferenceIdeal.Facts] : Prop :=
  ∀ (m : (ℓ : Loc Cert.QkvSecondReferenceIdeal.nD Cert.QkvSecondReferenceIdeal.τ Cert.QkvSecondReferenceIdeal.sig) → Buf (Elt Ideal) ℓ) (g : Dev Cert.QkvSecondReferenceIdeal.nD → PrngReg), Pre_QkvSecondReferenceIdeal m →
    θ_run (Cert.QkvSecondReferenceIdeal.defs (F := Ideal)) (onTc (τ := Cert.QkvSecondReferenceIdeal.τ) (Cert.QkvSecondReferenceIdeal.main (F := Ideal))) ⟨m, fun _ => 0, g⟩ (fun r => (∀ c : Dev Cert.QkvSecondReferenceIdeal.nD,
      r.2.mem ((c.tc : Thread Cert.QkvSecondReferenceIdeal.nD Cert.QkvSecondReferenceIdeal.τ).loc Cert.QkvSecondReferenceIdeal.main_arg0) = m ((c.tc : Thread Cert.QkvSecondReferenceIdeal.nD Cert.QkvSecondReferenceIdeal.τ).loc Cert.QkvSecondReferenceIdeal.main_arg0)
      ∧ r.2.mem ((c.tc : Thread Cert.QkvSecondReferenceIdeal.nD Cert.QkvSecondReferenceIdeal.τ).loc Cert.QkvSecondReferenceIdeal.main_arg1) = m ((c.tc : Thread Cert.QkvSecondReferenceIdeal.nD Cert.QkvSecondReferenceIdeal.τ).loc Cert.QkvSecondReferenceIdeal.main_arg1)
      ∧ r.2.mem ((c.tc : Thread Cert.QkvSecondReferenceIdeal.nD Cert.QkvSecondReferenceIdeal.τ).loc Cert.QkvSecondReferenceIdeal.main_arg2) = m ((c.tc : Thread Cert.QkvSecondReferenceIdeal.nD Cert.QkvSecondReferenceIdeal.τ).loc Cert.QkvSecondReferenceIdeal.main_arg2)
      ∧ r.2.mem ((c.tc : Thread Cert.QkvSecondReferenceIdeal.nD Cert.QkvSecondReferenceIdeal.τ).loc Cert.QkvSecondReferenceIdeal.main_arg3) = m ((c.tc : Thread Cert.QkvSecondReferenceIdeal.nD Cert.QkvSecondReferenceIdeal.τ).loc Cert.QkvSecondReferenceIdeal.main_arg3)
      ∧ r.2.mem ((c.tc : Thread Cert.QkvSecondReferenceIdeal.nD Cert.QkvSecondReferenceIdeal.τ).loc Cert.QkvSecondReferenceIdeal.main_arg4) = m ((c.tc : Thread Cert.QkvSecondReferenceIdeal.nD Cert.QkvSecondReferenceIdeal.τ).loc Cert.QkvSecondReferenceIdeal.main_arg4))
      ∧ r.2.sem = fun _ => 0)

def quiescent_QkvSecondReferenceIdeal_pre_tables_are_rotary [hQkvSecondReferenceIdeal : Cert.QkvSecondReferenceIdeal.Facts] [hPre_tables_are_rotary : Cert.Pre_tables_are_rotary.Facts] : Prop :=
  ∀ (m : (ℓ : Loc Cert.QkvSecondReferenceIdeal.nD Cert.QkvSecondReferenceIdeal.τ Cert.QkvSecondReferenceIdeal.sig) → Buf (Elt Ideal) ℓ) (g : Dev Cert.QkvSecondReferenceIdeal.nD → PrngReg), Pre_QkvSecondReferenceIdeal_tables_are_rotary m →
    θ_run (Cert.QkvSecondReferenceIdeal.defs (F := Ideal)) (onTc (τ := Cert.QkvSecondReferenceIdeal.τ) (Cert.QkvSecondReferenceIdeal.main (F := Ideal))) ⟨m, fun _ => 0, g⟩ (fun r => (∀ c : Dev Cert.QkvSecondReferenceIdeal.nD,
      r.2.mem ((c.tc : Thread Cert.QkvSecondReferenceIdeal.nD Cert.QkvSecondReferenceIdeal.τ).loc Cert.QkvSecondReferenceIdeal.main_arg0) = m ((c.tc : Thread Cert.QkvSecondReferenceIdeal.nD Cert.QkvSecondReferenceIdeal.τ).loc Cert.QkvSecondReferenceIdeal.main_arg0)
      ∧ r.2.mem ((c.tc : Thread Cert.QkvSecondReferenceIdeal.nD Cert.QkvSecondReferenceIdeal.τ).loc Cert.QkvSecondReferenceIdeal.main_arg1) = m ((c.tc : Thread Cert.QkvSecondReferenceIdeal.nD Cert.QkvSecondReferenceIdeal.τ).loc Cert.QkvSecondReferenceIdeal.main_arg1)
      ∧ r.2.mem ((c.tc : Thread Cert.QkvSecondReferenceIdeal.nD Cert.QkvSecondReferenceIdeal.τ).loc Cert.QkvSecondReferenceIdeal.main_arg2) = m ((c.tc : Thread Cert.QkvSecondReferenceIdeal.nD Cert.QkvSecondReferenceIdeal.τ).loc Cert.QkvSecondReferenceIdeal.main_arg2)
      ∧ r.2.mem ((c.tc : Thread Cert.QkvSecondReferenceIdeal.nD Cert.QkvSecondReferenceIdeal.τ).loc Cert.QkvSecondReferenceIdeal.main_arg3) = m ((c.tc : Thread Cert.QkvSecondReferenceIdeal.nD Cert.QkvSecondReferenceIdeal.τ).loc Cert.QkvSecondReferenceIdeal.main_arg3)
      ∧ r.2.mem ((c.tc : Thread Cert.QkvSecondReferenceIdeal.nD Cert.QkvSecondReferenceIdeal.τ).loc Cert.QkvSecondReferenceIdeal.main_arg4) = m ((c.tc : Thread Cert.QkvSecondReferenceIdeal.nD Cert.QkvSecondReferenceIdeal.τ).loc Cert.QkvSecondReferenceIdeal.main_arg4))
      ∧ r.2.sem = fun _ => 0)

def quiescent_QkvThird [hQkvThird : Cert.QkvThird.Facts] : Prop :=
  ∀ (m : (ℓ : Loc Cert.QkvThird.nD Cert.QkvThird.τ Cert.QkvThird.sig) → Buf (Elt Bits) ℓ) (g : Dev Cert.QkvThird.nD → PrngReg), Pre_QkvThird m →
    θ_run (Cert.QkvThird.defs (F := Bits)) (onTc (τ := Cert.QkvThird.τ) (Cert.QkvThird.main (F := Bits))) ⟨m, fun _ => 0, g⟩ (fun r => (∀ c : Dev Cert.QkvThird.nD,
      r.2.mem ((c.tc : Thread Cert.QkvThird.nD Cert.QkvThird.τ).loc Cert.QkvThird.main_arg0) = m ((c.tc : Thread Cert.QkvThird.nD Cert.QkvThird.τ).loc Cert.QkvThird.main_arg0)
      ∧ r.2.mem ((c.tc : Thread Cert.QkvThird.nD Cert.QkvThird.τ).loc Cert.QkvThird.main_arg1) = m ((c.tc : Thread Cert.QkvThird.nD Cert.QkvThird.τ).loc Cert.QkvThird.main_arg1)
      ∧ r.2.mem ((c.tc : Thread Cert.QkvThird.nD Cert.QkvThird.τ).loc Cert.QkvThird.main_arg2) = m ((c.tc : Thread Cert.QkvThird.nD Cert.QkvThird.τ).loc Cert.QkvThird.main_arg2)
      ∧ r.2.mem ((c.tc : Thread Cert.QkvThird.nD Cert.QkvThird.τ).loc Cert.QkvThird.main_arg3) = m ((c.tc : Thread Cert.QkvThird.nD Cert.QkvThird.τ).loc Cert.QkvThird.main_arg3)
      ∧ r.2.mem ((c.tc : Thread Cert.QkvThird.nD Cert.QkvThird.τ).loc Cert.QkvThird.main_arg4) = m ((c.tc : Thread Cert.QkvThird.nD Cert.QkvThird.τ).loc Cert.QkvThird.main_arg4))
      ∧ r.2.sem = fun _ => 0)

def quiescent_QkvThirdIdeal [hQkvThirdIdeal : Cert.QkvThirdIdeal.Facts] : Prop :=
  ∀ (m : (ℓ : Loc Cert.QkvThirdIdeal.nD Cert.QkvThirdIdeal.τ Cert.QkvThirdIdeal.sig) → Buf (Elt Ideal) ℓ) (g : Dev Cert.QkvThirdIdeal.nD → PrngReg), Pre_QkvThirdIdeal m →
    θ_run (Cert.QkvThirdIdeal.defs (F := Ideal)) (onTc (τ := Cert.QkvThirdIdeal.τ) (Cert.QkvThirdIdeal.main (F := Ideal))) ⟨m, fun _ => 0, g⟩ (fun r => (∀ c : Dev Cert.QkvThirdIdeal.nD,
      r.2.mem ((c.tc : Thread Cert.QkvThirdIdeal.nD Cert.QkvThirdIdeal.τ).loc Cert.QkvThirdIdeal.main_arg0) = m ((c.tc : Thread Cert.QkvThirdIdeal.nD Cert.QkvThirdIdeal.τ).loc Cert.QkvThirdIdeal.main_arg0)
      ∧ r.2.mem ((c.tc : Thread Cert.QkvThirdIdeal.nD Cert.QkvThirdIdeal.τ).loc Cert.QkvThirdIdeal.main_arg1) = m ((c.tc : Thread Cert.QkvThirdIdeal.nD Cert.QkvThirdIdeal.τ).loc Cert.QkvThirdIdeal.main_arg1)
      ∧ r.2.mem ((c.tc : Thread Cert.QkvThirdIdeal.nD Cert.QkvThirdIdeal.τ).loc Cert.QkvThirdIdeal.main_arg2) = m ((c.tc : Thread Cert.QkvThirdIdeal.nD Cert.QkvThirdIdeal.τ).loc Cert.QkvThirdIdeal.main_arg2)
      ∧ r.2.mem ((c.tc : Thread Cert.QkvThirdIdeal.nD Cert.QkvThirdIdeal.τ).loc Cert.QkvThirdIdeal.main_arg3) = m ((c.tc : Thread Cert.QkvThirdIdeal.nD Cert.QkvThirdIdeal.τ).loc Cert.QkvThirdIdeal.main_arg3)
      ∧ r.2.mem ((c.tc : Thread Cert.QkvThirdIdeal.nD Cert.QkvThirdIdeal.τ).loc Cert.QkvThirdIdeal.main_arg4) = m ((c.tc : Thread Cert.QkvThirdIdeal.nD Cert.QkvThirdIdeal.τ).loc Cert.QkvThirdIdeal.main_arg4))
      ∧ r.2.sem = fun _ => 0)

def quiescent_QkvThirdIdeal_pre_tables_are_rotary [hQkvThirdIdeal : Cert.QkvThirdIdeal.Facts] [hPre_tables_are_rotary : Cert.Pre_tables_are_rotary.Facts] : Prop :=
  ∀ (m : (ℓ : Loc Cert.QkvThirdIdeal.nD Cert.QkvThirdIdeal.τ Cert.QkvThirdIdeal.sig) → Buf (Elt Ideal) ℓ) (g : Dev Cert.QkvThirdIdeal.nD → PrngReg), Pre_QkvThirdIdeal_tables_are_rotary m →
    θ_run (Cert.QkvThirdIdeal.defs (F := Ideal)) (onTc (τ := Cert.QkvThirdIdeal.τ) (Cert.QkvThirdIdeal.main (F := Ideal))) ⟨m, fun _ => 0, g⟩ (fun r => (∀ c : Dev Cert.QkvThirdIdeal.nD,
      r.2.mem ((c.tc : Thread Cert.QkvThirdIdeal.nD Cert.QkvThirdIdeal.τ).loc Cert.QkvThirdIdeal.main_arg0) = m ((c.tc : Thread Cert.QkvThirdIdeal.nD Cert.QkvThirdIdeal.τ).loc Cert.QkvThirdIdeal.main_arg0)
      ∧ r.2.mem ((c.tc : Thread Cert.QkvThirdIdeal.nD Cert.QkvThirdIdeal.τ).loc Cert.QkvThirdIdeal.main_arg1) = m ((c.tc : Thread Cert.QkvThirdIdeal.nD Cert.QkvThirdIdeal.τ).loc Cert.QkvThirdIdeal.main_arg1)
      ∧ r.2.mem ((c.tc : Thread Cert.QkvThirdIdeal.nD Cert.QkvThirdIdeal.τ).loc Cert.QkvThirdIdeal.main_arg2) = m ((c.tc : Thread Cert.QkvThirdIdeal.nD Cert.QkvThirdIdeal.τ).loc Cert.QkvThirdIdeal.main_arg2)
      ∧ r.2.mem ((c.tc : Thread Cert.QkvThirdIdeal.nD Cert.QkvThirdIdeal.τ).loc Cert.QkvThirdIdeal.main_arg3) = m ((c.tc : Thread Cert.QkvThirdIdeal.nD Cert.QkvThirdIdeal.τ).loc Cert.QkvThirdIdeal.main_arg3)
      ∧ r.2.mem ((c.tc : Thread Cert.QkvThirdIdeal.nD Cert.QkvThirdIdeal.τ).loc Cert.QkvThirdIdeal.main_arg4) = m ((c.tc : Thread Cert.QkvThirdIdeal.nD Cert.QkvThirdIdeal.τ).loc Cert.QkvThirdIdeal.main_arg4))
      ∧ r.2.sem = fun _ => 0)

def quiescent_QkvThirdReferenceIdeal [hQkvThirdReferenceIdeal : Cert.QkvThirdReferenceIdeal.Facts] : Prop :=
  ∀ (m : (ℓ : Loc Cert.QkvThirdReferenceIdeal.nD Cert.QkvThirdReferenceIdeal.τ Cert.QkvThirdReferenceIdeal.sig) → Buf (Elt Ideal) ℓ) (g : Dev Cert.QkvThirdReferenceIdeal.nD → PrngReg), Pre_QkvThirdReferenceIdeal m →
    θ_run (Cert.QkvThirdReferenceIdeal.defs (F := Ideal)) (onTc (τ := Cert.QkvThirdReferenceIdeal.τ) (Cert.QkvThirdReferenceIdeal.main (F := Ideal))) ⟨m, fun _ => 0, g⟩ (fun r => (∀ c : Dev Cert.QkvThirdReferenceIdeal.nD,
      r.2.mem ((c.tc : Thread Cert.QkvThirdReferenceIdeal.nD Cert.QkvThirdReferenceIdeal.τ).loc Cert.QkvThirdReferenceIdeal.main_arg0) = m ((c.tc : Thread Cert.QkvThirdReferenceIdeal.nD Cert.QkvThirdReferenceIdeal.τ).loc Cert.QkvThirdReferenceIdeal.main_arg0)
      ∧ r.2.mem ((c.tc : Thread Cert.QkvThirdReferenceIdeal.nD Cert.QkvThirdReferenceIdeal.τ).loc Cert.QkvThirdReferenceIdeal.main_arg1) = m ((c.tc : Thread Cert.QkvThirdReferenceIdeal.nD Cert.QkvThirdReferenceIdeal.τ).loc Cert.QkvThirdReferenceIdeal.main_arg1)
      ∧ r.2.mem ((c.tc : Thread Cert.QkvThirdReferenceIdeal.nD Cert.QkvThirdReferenceIdeal.τ).loc Cert.QkvThirdReferenceIdeal.main_arg2) = m ((c.tc : Thread Cert.QkvThirdReferenceIdeal.nD Cert.QkvThirdReferenceIdeal.τ).loc Cert.QkvThirdReferenceIdeal.main_arg2)
      ∧ r.2.mem ((c.tc : Thread Cert.QkvThirdReferenceIdeal.nD Cert.QkvThirdReferenceIdeal.τ).loc Cert.QkvThirdReferenceIdeal.main_arg3) = m ((c.tc : Thread Cert.QkvThirdReferenceIdeal.nD Cert.QkvThirdReferenceIdeal.τ).loc Cert.QkvThirdReferenceIdeal.main_arg3)
      ∧ r.2.mem ((c.tc : Thread Cert.QkvThirdReferenceIdeal.nD Cert.QkvThirdReferenceIdeal.τ).loc Cert.QkvThirdReferenceIdeal.main_arg4) = m ((c.tc : Thread Cert.QkvThirdReferenceIdeal.nD Cert.QkvThirdReferenceIdeal.τ).loc Cert.QkvThirdReferenceIdeal.main_arg4))
      ∧ r.2.sem = fun _ => 0)

def quiescent_QkvThirdReferenceIdeal_pre_tables_are_rotary [hQkvThirdReferenceIdeal : Cert.QkvThirdReferenceIdeal.Facts] [hPre_tables_are_rotary : Cert.Pre_tables_are_rotary.Facts] : Prop :=
  ∀ (m : (ℓ : Loc Cert.QkvThirdReferenceIdeal.nD Cert.QkvThirdReferenceIdeal.τ Cert.QkvThirdReferenceIdeal.sig) → Buf (Elt Ideal) ℓ) (g : Dev Cert.QkvThirdReferenceIdeal.nD → PrngReg), Pre_QkvThirdReferenceIdeal_tables_are_rotary m →
    θ_run (Cert.QkvThirdReferenceIdeal.defs (F := Ideal)) (onTc (τ := Cert.QkvThirdReferenceIdeal.τ) (Cert.QkvThirdReferenceIdeal.main (F := Ideal))) ⟨m, fun _ => 0, g⟩ (fun r => (∀ c : Dev Cert.QkvThirdReferenceIdeal.nD,
      r.2.mem ((c.tc : Thread Cert.QkvThirdReferenceIdeal.nD Cert.QkvThirdReferenceIdeal.τ).loc Cert.QkvThirdReferenceIdeal.main_arg0) = m ((c.tc : Thread Cert.QkvThirdReferenceIdeal.nD Cert.QkvThirdReferenceIdeal.τ).loc Cert.QkvThirdReferenceIdeal.main_arg0)
      ∧ r.2.mem ((c.tc : Thread Cert.QkvThirdReferenceIdeal.nD Cert.QkvThirdReferenceIdeal.τ).loc Cert.QkvThirdReferenceIdeal.main_arg1) = m ((c.tc : Thread Cert.QkvThirdReferenceIdeal.nD Cert.QkvThirdReferenceIdeal.τ).loc Cert.QkvThirdReferenceIdeal.main_arg1)
      ∧ r.2.mem ((c.tc : Thread Cert.QkvThirdReferenceIdeal.nD Cert.QkvThirdReferenceIdeal.τ).loc Cert.QkvThirdReferenceIdeal.main_arg2) = m ((c.tc : Thread Cert.QkvThirdReferenceIdeal.nD Cert.QkvThirdReferenceIdeal.τ).loc Cert.QkvThirdReferenceIdeal.main_arg2)
      ∧ r.2.mem ((c.tc : Thread Cert.QkvThirdReferenceIdeal.nD Cert.QkvThirdReferenceIdeal.τ).loc Cert.QkvThirdReferenceIdeal.main_arg3) = m ((c.tc : Thread Cert.QkvThirdReferenceIdeal.nD Cert.QkvThirdReferenceIdeal.τ).loc Cert.QkvThirdReferenceIdeal.main_arg3)
      ∧ r.2.mem ((c.tc : Thread Cert.QkvThirdReferenceIdeal.nD Cert.QkvThirdReferenceIdeal.τ).loc Cert.QkvThirdReferenceIdeal.main_arg4) = m ((c.tc : Thread Cert.QkvThirdReferenceIdeal.nD Cert.QkvThirdReferenceIdeal.τ).loc Cert.QkvThirdReferenceIdeal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_queries_keys [hKernelIdeal : Cert.KernelIdeal.Facts] [hReferenceIdeal : Cert.ReferenceIdeal.Facts] [hPre_finite_queries_keys : Cert.Pre_finite_queries_keys.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_queries_keys m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_FfnUp_FfnUpIdeal : Prop :=
  True

def algebraic_FfnUpIdeal_FfnUpReferenceIdeal_pre_no_gate_is_minus_infinity [hFfnUpIdeal : Cert.FfnUpIdeal.Facts] [hFfnUpReferenceIdeal : Cert.FfnUpReferenceIdeal.Facts] [hPre_no_gate_is_minus_infinity : Cert.Pre_no_gate_is_minus_infinity.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpReferenceIdeal.nD Cert.FfnUpReferenceIdeal.τ Cert.FfnUpReferenceIdeal.sig) → Buf (Elt Ideal) ℓ) (g' : Dev Cert.FfnUpReferenceIdeal.nD → PrngReg), Pre_FfnUpIdeal_no_gate_is_minus_infinity m →
    (∀ c : Dev Cert.FfnUpIdeal.nD,
      m' ((c.tc : Thread Cert.FfnUpReferenceIdeal.nD Cert.FfnUpReferenceIdeal.τ).loc Cert.FfnUpReferenceIdeal.main_arg0) = m ((c.tc : Thread Cert.FfnUpIdeal.nD Cert.FfnUpIdeal.τ).loc Cert.FfnUpIdeal.main_arg0)
      ∧ m' ((c.tc : Thread Cert.FfnUpReferenceIdeal.nD Cert.FfnUpReferenceIdeal.τ).loc Cert.FfnUpReferenceIdeal.main_arg1) = m ((c.tc : Thread Cert.FfnUpIdeal.nD Cert.FfnUpIdeal.τ).loc Cert.FfnUpIdeal.main_arg1)
      ∧ m' ((c.tc : Thread Cert.FfnUpReferenceIdeal.nD Cert.FfnUpReferenceIdeal.τ).loc Cert.FfnUpReferenceIdeal.main_arg2) = m ((c.tc : Thread Cert.FfnUpIdeal.nD Cert.FfnUpIdeal.τ).loc Cert.FfnUpIdeal.main_arg2)
      ∧ m' ((c.tc : Thread Cert.FfnUpReferenceIdeal.nD Cert.FfnUpReferenceIdeal.τ).loc Cert.FfnUpReferenceIdeal.main_arg3) = m ((c.tc : Thread Cert.FfnUpIdeal.nD Cert.FfnUpIdeal.τ).loc Cert.FfnUpIdeal.main_arg3)) →
    ∃ (v0 : (c : Dev Cert.FfnUpIdeal.nD) → Buf (Elt Ideal) ((c.tc : Thread Cert.FfnUpIdeal.nD Cert.FfnUpIdeal.τ).loc Cert.FfnUpIdeal.main_v0_0)) (v1 : (c : Dev Cert.FfnUpIdeal.nD) → Buf (Elt Ideal) ((c.tc : Thread Cert.FfnUpIdeal.nD Cert.FfnUpIdeal.τ).loc Cert.FfnUpIdeal.main_v0_1)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v0_0) = v0 c
          ∧ r.2.mem ((c.tc : Thread Cert.FfnUpIdeal.nD Cert.FfnUpIdeal.τ).loc Cert.FfnUpIdeal.main_v0_1) = v1 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2)
          ∧ r.2.mem ((c.tc : Thread Cert.FfnUpIdeal.nD Cert.FfnUpIdeal.τ).loc Cert.FfnUpIdeal.main_arg3) = m ((c.tc : Thread Cert.FfnUpIdeal.nD Cert.FfnUpIdeal.τ).loc Cert.FfnUpIdeal.main_arg3))
      ∧ θ_run (Cert.FfnUpReferenceIdeal.defs (F := Ideal)) (onTc (τ := Cert.FfnUpReferenceIdeal.τ) (Cert.FfnUpReferenceIdeal.main (F := Ideal))) ⟨m', fun _ => 0, g'⟩ (fun r => ∀ c : Dev Cert.FfnUpReferenceIdeal.nD,
          r.2.mem ((c.tc : Thread Cert.FfnUpReferenceIdeal.nD Cert.FfnUpReferenceIdeal.τ).loc Cert.FfnUpReferenceIdeal.main_v9) = v0 c
          ∧ r.2.mem ((c.tc : Thread Cert.FfnUpReferenceIdeal.nD Cert.FfnUpReferenceIdeal.τ).loc Cert.FfnUpReferenceIdeal.main_v12) = v1 c
          ∧ r.2.mem ((c.tc : Thread Cert.FfnUpReferenceIdeal.nD Cert.FfnUpReferenceIdeal.τ).loc Cert.FfnUpReferenceIdeal.main_arg0) = m' ((c.tc : Thread Cert.FfnUpReferenceIdeal.nD Cert.FfnUpReferenceIdeal.τ).loc Cert.FfnUpReferenceIdeal.main_arg0)
          ∧ r.2.mem ((c.tc : Thread Cert.FfnUpReferenceIdeal.nD Cert.FfnUpReferenceIdeal.τ).loc Cert.FfnUpReferenceIdeal.main_arg1) = m' ((c.tc : Thread Cert.FfnUpReferenceIdeal.nD Cert.FfnUpReferenceIdeal.τ).loc Cert.FfnUpReferenceIdeal.main_arg1)
          ∧ r.2.mem ((c.tc : Thread Cert.FfnUpReferenceIdeal.nD Cert.FfnUpReferenceIdeal.τ).loc Cert.FfnUpReferenceIdeal.main_arg2) = m' ((c.tc : Thread Cert.FfnUpReferenceIdeal.nD Cert.FfnUpReferenceIdeal.τ).loc Cert.FfnUpReferenceIdeal.main_arg2)
          ∧ r.2.mem ((c.tc : Thread Cert.FfnUpReferenceIdeal.nD Cert.FfnUpReferenceIdeal.τ).loc Cert.FfnUpReferenceIdeal.main_arg3) = m' ((c.tc : Thread Cert.FfnUpReferenceIdeal.nD Cert.FfnUpReferenceIdeal.τ).loc Cert.FfnUpReferenceIdeal.main_arg3))

def preserves_FfnDown_FfnDownIdeal : Prop :=
  True

def algebraic_FfnDownIdeal_FfnDownReferenceIdeal [hFfnDownIdeal : Cert.FfnDownIdeal.Facts] [hFfnDownReferenceIdeal : Cert.FfnDownReferenceIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownReferenceIdeal.nD Cert.FfnDownReferenceIdeal.τ Cert.FfnDownReferenceIdeal.sig) → Buf (Elt Ideal) ℓ) (g' : Dev Cert.FfnDownReferenceIdeal.nD → PrngReg), Pre_FfnDownIdeal m →
    (∀ c : Dev Cert.FfnDownIdeal.nD,
      m' ((c.tc : Thread Cert.FfnDownReferenceIdeal.nD Cert.FfnDownReferenceIdeal.τ).loc Cert.FfnDownReferenceIdeal.main_arg0) = m ((c.tc : Thread Cert.FfnDownIdeal.nD Cert.FfnDownIdeal.τ).loc Cert.FfnDownIdeal.main_arg0)
      ∧ m' ((c.tc : Thread Cert.FfnDownReferenceIdeal.nD Cert.FfnDownReferenceIdeal.τ).loc Cert.FfnDownReferenceIdeal.main_arg1) = m ((c.tc : Thread Cert.FfnDownIdeal.nD Cert.FfnDownIdeal.τ).loc Cert.FfnDownIdeal.main_arg1)
      ∧ m' ((c.tc : Thread Cert.FfnDownReferenceIdeal.nD Cert.FfnDownReferenceIdeal.τ).loc Cert.FfnDownReferenceIdeal.main_arg2) = m ((c.tc : Thread Cert.FfnDownIdeal.nD Cert.FfnDownIdeal.τ).loc Cert.FfnDownIdeal.main_arg2)
      ∧ m' ((c.tc : Thread Cert.FfnDownReferenceIdeal.nD Cert.FfnDownReferenceIdeal.τ).loc Cert.FfnDownReferenceIdeal.main_arg3) = m ((c.tc : Thread Cert.FfnDownIdeal.nD Cert.FfnDownIdeal.τ).loc Cert.FfnDownIdeal.main_arg3)
      ∧ m' ((c.tc : Thread Cert.FfnDownReferenceIdeal.nD Cert.FfnDownReferenceIdeal.τ).loc Cert.FfnDownReferenceIdeal.main_arg4) = m ((c.tc : Thread Cert.FfnDownIdeal.nD Cert.FfnDownIdeal.τ).loc Cert.FfnDownIdeal.main_arg4)) →
    ∃ (v0 : (c : Dev Cert.FfnDownIdeal.nD) → Buf (Elt Ideal) ((c.tc : Thread Cert.FfnDownIdeal.nD Cert.FfnDownIdeal.τ).loc Cert.FfnDownIdeal.main_v2_0)) (v1 : (c : Dev Cert.FfnDownIdeal.nD) → Buf (Elt Ideal) ((c.tc : Thread Cert.FfnDownIdeal.nD Cert.FfnDownIdeal.τ).loc Cert.FfnDownIdeal.main_v2_1)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v2_0) = v0 c
          ∧ r.2.mem ((c.tc : Thread Cert.FfnDownIdeal.nD Cert.FfnDownIdeal.τ).loc Cert.FfnDownIdeal.main_v2_1) = v1 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
          ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3)
          ∧ r.2.mem ((c.tc : Thread Cert.FfnDownIdeal.nD Cert.FfnDownIdeal.τ).loc Cert.FfnDownIdeal.main_arg4) = m ((c.tc : Thread Cert.FfnDownIdeal.nD Cert.FfnDownIdeal.τ).loc Cert.FfnDownIdeal.main_arg4))
      ∧ θ_run (Cert.FfnDownReferenceIdeal.defs (F := Ideal)) (onTc (τ := Cert.FfnDownReferenceIdeal.τ) (Cert.FfnDownReferenceIdeal.main (F := Ideal))) ⟨m', fun _ => 0, g'⟩ (fun r => ∀ c : Dev Cert.FfnDownReferenceIdeal.nD,
          r.2.mem ((c.tc : Thread Cert.FfnDownReferenceIdeal.nD Cert.FfnDownReferenceIdeal.τ).loc Cert.FfnDownReferenceIdeal.main_v33) = v0 c
          ∧ r.2.mem ((c.tc : Thread Cert.FfnDownReferenceIdeal.nD Cert.FfnDownReferenceIdeal.τ).loc Cert.FfnDownReferenceIdeal.main_v34) = v1 c
          ∧ r.2.mem ((c.tc : Thread Cert.FfnDownReferenceIdeal.nD Cert.FfnDownReferenceIdeal.τ).loc Cert.FfnDownReferenceIdeal.main_arg0) = m' ((c.tc : Thread Cert.FfnDownReferenceIdeal.nD Cert.FfnDownReferenceIdeal.τ).loc Cert.FfnDownReferenceIdeal.main_arg0)
          ∧ r.2.mem ((c.tc : Thread Cert.FfnDownReferenceIdeal.nD Cert.FfnDownReferenceIdeal.τ).loc Cert.FfnDownReferenceIdeal.main_arg1) = m' ((c.tc : Thread Cert.FfnDownReferenceIdeal.nD Cert.FfnDownReferenceIdeal.τ).loc Cert.FfnDownReferenceIdeal.main_arg1)
          ∧ r.2.mem ((c.tc : Thread Cert.FfnDownReferenceIdeal.nD Cert.FfnDownReferenceIdeal.τ).loc Cert.FfnDownReferenceIdeal.main_arg2) = m' ((c.tc : Thread Cert.FfnDownReferenceIdeal.nD Cert.FfnDownReferenceIdeal.τ).loc Cert.FfnDownReferenceIdeal.main_arg2)
          ∧ r.2.mem ((c.tc : Thread Cert.FfnDownReferenceIdeal.nD Cert.FfnDownReferenceIdeal.τ).loc Cert.FfnDownReferenceIdeal.main_arg3) = m' ((c.tc : Thread Cert.FfnDownReferenceIdeal.nD Cert.FfnDownReferenceIdeal.τ).loc Cert.FfnDownReferenceIdeal.main_arg3)
          ∧ r.2.mem ((c.tc : Thread Cert.FfnDownReferenceIdeal.nD Cert.FfnDownReferenceIdeal.τ).loc Cert.FfnDownReferenceIdeal.main_arg4) = m' ((c.tc : Thread Cert.FfnDownReferenceIdeal.nD Cert.FfnDownReferenceIdeal.τ).loc Cert.FfnDownReferenceIdeal.main_arg4))

def preserves_BranchGates_BranchGatesIdeal : Prop :=
  True

def algebraic_BranchGatesIdeal_BranchGatesReferenceIdeal [hBranchGatesIdeal : Cert.BranchGatesIdeal.Facts] [hBranchGatesReferenceIdeal : Cert.BranchGatesReferenceIdeal.Facts] : Prop :=
  ∀ (m : (ℓ : Loc Cert.BranchGatesIdeal.nD Cert.BranchGatesIdeal.τ Cert.BranchGatesIdeal.sig) → Buf (Elt Ideal) ℓ) (g : Dev Cert.BranchGatesIdeal.nD → PrngReg)
    (m' : (ℓ : Loc Cert.BranchGatesReferenceIdeal.nD Cert.BranchGatesReferenceIdeal.τ Cert.BranchGatesReferenceIdeal.sig) → Buf (Elt Ideal) ℓ) (g' : Dev Cert.BranchGatesReferenceIdeal.nD → PrngReg), Pre_BranchGatesIdeal m →
    (∀ c : Dev Cert.BranchGatesIdeal.nD,
      m' ((c.tc : Thread Cert.BranchGatesReferenceIdeal.nD Cert.BranchGatesReferenceIdeal.τ).loc Cert.BranchGatesReferenceIdeal.main_arg0) = m ((c.tc : Thread Cert.BranchGatesIdeal.nD Cert.BranchGatesIdeal.τ).loc Cert.BranchGatesIdeal.main_arg0)
      ∧ m' ((c.tc : Thread Cert.BranchGatesReferenceIdeal.nD Cert.BranchGatesReferenceIdeal.τ).loc Cert.BranchGatesReferenceIdeal.main_arg1) = m ((c.tc : Thread Cert.BranchGatesIdeal.nD Cert.BranchGatesIdeal.τ).loc Cert.BranchGatesIdeal.main_arg1)
      ∧ m' ((c.tc : Thread Cert.BranchGatesReferenceIdeal.nD Cert.BranchGatesReferenceIdeal.τ).loc Cert.BranchGatesReferenceIdeal.main_arg2) = m ((c.tc : Thread Cert.BranchGatesIdeal.nD Cert.BranchGatesIdeal.τ).loc Cert.BranchGatesIdeal.main_arg2)
      ∧ m' ((c.tc : Thread Cert.BranchGatesReferenceIdeal.nD Cert.BranchGatesReferenceIdeal.τ).loc Cert.BranchGatesReferenceIdeal.main_arg3) = m ((c.tc : Thread Cert.BranchGatesIdeal.nD Cert.BranchGatesIdeal.τ).loc Cert.BranchGatesIdeal.main_arg3)
      ∧ m' ((c.tc : Thread Cert.BranchGatesReferenceIdeal.nD Cert.BranchGatesReferenceIdeal.τ).loc Cert.BranchGatesReferenceIdeal.main_arg4) = m ((c.tc : Thread Cert.BranchGatesIdeal.nD Cert.BranchGatesIdeal.τ).loc Cert.BranchGatesIdeal.main_arg4)
      ∧ m' ((c.tc : Thread Cert.BranchGatesReferenceIdeal.nD Cert.BranchGatesReferenceIdeal.τ).loc Cert.BranchGatesReferenceIdeal.main_arg5) = m ((c.tc : Thread Cert.BranchGatesIdeal.nD Cert.BranchGatesIdeal.τ).loc Cert.BranchGatesIdeal.main_arg5)) →
    ∃ (v0 : (c : Dev Cert.BranchGatesIdeal.nD) → Buf (Elt Ideal) ((c.tc : Thread Cert.BranchGatesIdeal.nD Cert.BranchGatesIdeal.τ).loc Cert.BranchGatesIdeal.main_v0_0)) (v1 : (c : Dev Cert.BranchGatesIdeal.nD) → Buf (Elt Ideal) ((c.tc : Thread Cert.BranchGatesIdeal.nD Cert.BranchGatesIdeal.τ).loc Cert.BranchGatesIdeal.main_v0_1)) (v2 : (c : Dev Cert.BranchGatesIdeal.nD) → Buf (Elt Ideal) ((c.tc : Thread Cert.BranchGatesIdeal.nD Cert.BranchGatesIdeal.τ).loc Cert.BranchGatesIdeal.main_v0_2)) (v3 : (c : Dev Cert.BranchGatesIdeal.nD) → Buf (Elt Ideal) ((c.tc : Thread Cert.BranchGatesIdeal.nD Cert.BranchGatesIdeal.τ).loc Cert.BranchGatesIdeal.main_v0_3)) (v4 : (c : Dev Cert.BranchGatesIdeal.nD) → Buf (Elt Ideal) ((c.tc : Thread Cert.BranchGatesIdeal.nD Cert.BranchGatesIdeal.τ).loc Cert.BranchGatesIdeal.main_v0_4)),
      θ_run (Cert.BranchGatesIdeal.defs (F := Ideal)) (onTc (τ := Cert.BranchGatesIdeal.τ) (Cert.BranchGatesIdeal.main (F := Ideal))) ⟨m, fun _ => 0, g⟩ (fun r => ∀ c : Dev Cert.BranchGatesIdeal.nD,
          r.2.mem ((c.tc : Thread Cert.BranchGatesIdeal.nD Cert.BranchGatesIdeal.τ).loc Cert.BranchGatesIdeal.main_v0_0) = v0 c
          ∧ r.2.mem ((c.tc : Thread Cert.BranchGatesIdeal.nD Cert.BranchGatesIdeal.τ).loc Cert.BranchGatesIdeal.main_v0_1) = v1 c
          ∧ r.2.mem ((c.tc : Thread Cert.BranchGatesIdeal.nD Cert.BranchGatesIdeal.τ).loc Cert.BranchGatesIdeal.main_v0_2) = v2 c
          ∧ r.2.mem ((c.tc : Thread Cert.BranchGatesIdeal.nD Cert.BranchGatesIdeal.τ).loc Cert.BranchGatesIdeal.main_v0_3) = v3 c
          ∧ r.2.mem ((c.tc : Thread Cert.BranchGatesIdeal.nD Cert.BranchGatesIdeal.τ).loc Cert.BranchGatesIdeal.main_v0_4) = v4 c
          ∧ r.2.mem ((c.tc : Thread Cert.BranchGatesIdeal.nD Cert.BranchGatesIdeal.τ).loc Cert.BranchGatesIdeal.main_arg0) = m ((c.tc : Thread Cert.BranchGatesIdeal.nD Cert.BranchGatesIdeal.τ).loc Cert.BranchGatesIdeal.main_arg0)
          ∧ r.2.mem ((c.tc : Thread Cert.BranchGatesIdeal.nD Cert.BranchGatesIdeal.τ).loc Cert.BranchGatesIdeal.main_arg1) = m ((c.tc : Thread Cert.BranchGatesIdeal.nD Cert.BranchGatesIdeal.τ).loc Cert.BranchGatesIdeal.main_arg1)
          ∧ r.2.mem ((c.tc : Thread Cert.BranchGatesIdeal.nD Cert.BranchGatesIdeal.τ).loc Cert.BranchGatesIdeal.main_arg2) = m ((c.tc : Thread Cert.BranchGatesIdeal.nD Cert.BranchGatesIdeal.τ).loc Cert.BranchGatesIdeal.main_arg2)
          ∧ r.2.mem ((c.tc : Thread Cert.BranchGatesIdeal.nD Cert.BranchGatesIdeal.τ).loc Cert.BranchGatesIdeal.main_arg3) = m ((c.tc : Thread Cert.BranchGatesIdeal.nD Cert.BranchGatesIdeal.τ).loc Cert.BranchGatesIdeal.main_arg3)
          ∧ r.2.mem ((c.tc : Thread Cert.BranchGatesIdeal.nD Cert.BranchGatesIdeal.τ).loc Cert.BranchGatesIdeal.main_arg4) = m ((c.tc : Thread Cert.BranchGatesIdeal.nD Cert.BranchGatesIdeal.τ).loc Cert.BranchGatesIdeal.main_arg4)
          ∧ r.2.mem ((c.tc : Thread Cert.BranchGatesIdeal.nD Cert.BranchGatesIdeal.τ).loc Cert.BranchGatesIdeal.main_arg5) = m ((c.tc : Thread Cert.BranchGatesIdeal.nD Cert.BranchGatesIdeal.τ).loc Cert.BranchGatesIdeal.main_arg5))
      ∧ θ_run (Cert.BranchGatesReferenceIdeal.defs (F := Ideal)) (onTc (τ := Cert.BranchGatesReferenceIdeal.τ) (Cert.BranchGatesReferenceIdeal.main (F := Ideal))) ⟨m', fun _ => 0, g'⟩ (fun r => ∀ c : Dev Cert.BranchGatesReferenceIdeal.nD,
          r.2.mem ((c.tc : Thread Cert.BranchGatesReferenceIdeal.nD Cert.BranchGatesReferenceIdeal.τ).loc Cert.BranchGatesReferenceIdeal.main_v10) = v0 c
          ∧ r.2.mem ((c.tc : Thread Cert.BranchGatesReferenceIdeal.nD Cert.BranchGatesReferenceIdeal.τ).loc Cert.BranchGatesReferenceIdeal.main_v13) = v1 c
          ∧ r.2.mem ((c.tc : Thread Cert.BranchGatesReferenceIdeal.nD Cert.BranchGatesReferenceIdeal.τ).loc Cert.BranchGatesReferenceIdeal.main_v16) = v2 c
          ∧ r.2.mem ((c.tc : Thread Cert.BranchGatesReferenceIdeal.nD Cert.BranchGatesReferenceIdeal.τ).loc Cert.BranchGatesReferenceIdeal.main_v19) = v3 c
          ∧ r.2.mem ((c.tc : Thread Cert.BranchGatesReferenceIdeal.nD Cert.BranchGatesReferenceIdeal.τ).loc Cert.BranchGatesReferenceIdeal.main_v22) = v4 c
          ∧ r.2.mem ((c.tc : Thread Cert.BranchGatesReferenceIdeal.nD Cert.BranchGatesReferenceIdeal.τ).loc Cert.BranchGatesReferenceIdeal.main_arg0) = m' ((c.tc : Thread Cert.BranchGatesReferenceIdeal.nD Cert.BranchGatesReferenceIdeal.τ).loc Cert.BranchGatesReferenceIdeal.main_arg0)
          ∧ r.2.mem ((c.tc : Thread Cert.BranchGatesReferenceIdeal.nD Cert.BranchGatesReferenceIdeal.τ).loc Cert.BranchGatesReferenceIdeal.main_arg1) = m' ((c.tc : Thread Cert.BranchGatesReferenceIdeal.nD Cert.BranchGatesReferenceIdeal.τ).loc Cert.BranchGatesReferenceIdeal.main_arg1)
          ∧ r.2.mem ((c.tc : Thread Cert.BranchGatesReferenceIdeal.nD Cert.BranchGatesReferenceIdeal.τ).loc Cert.BranchGatesReferenceIdeal.main_arg2) = m' ((c.tc : Thread Cert.BranchGatesReferenceIdeal.nD Cert.BranchGatesReferenceIdeal.τ).loc Cert.BranchGatesReferenceIdeal.main_arg2)
          ∧ r.2.mem ((c.tc : Thread Cert.BranchGatesReferenceIdeal.nD Cert.BranchGatesReferenceIdeal.τ).loc Cert.BranchGatesReferenceIdeal.main_arg3) = m' ((c.tc : Thread Cert.BranchGatesReferenceIdeal.nD Cert.BranchGatesReferenceIdeal.τ).loc Cert.BranchGatesReferenceIdeal.main_arg3)
          ∧ r.2.mem ((c.tc : Thread Cert.BranchGatesReferenceIdeal.nD Cert.BranchGatesReferenceIdeal.τ).loc Cert.BranchGatesReferenceIdeal.main_arg4) = m' ((c.tc : Thread Cert.BranchGatesReferenceIdeal.nD Cert.BranchGatesReferenceIdeal.τ).loc Cert.BranchGatesReferenceIdeal.main_arg4)
          ∧ r.2.mem ((c.tc : Thread Cert.BranchGatesReferenceIdeal.nD Cert.BranchGatesReferenceIdeal.τ).loc Cert.BranchGatesReferenceIdeal.main_arg5) = m' ((c.tc : Thread Cert.BranchGatesReferenceIdeal.nD Cert.BranchGatesReferenceIdeal.τ).loc Cert.BranchGatesReferenceIdeal.main_arg5))

def preserves_BranchMerge_BranchMergeIdeal : Prop :=
  True

def algebraic_BranchMergeIdeal_BranchMergeReferenceIdeal_pre_no_conv_norm_is_minus_infinity [hBranchMergeIdeal : Cert.BranchMergeIdeal.Facts] [hBranchMergeReferenceIdeal : Cert.BranchMergeReferenceIdeal.Facts] [hPre_no_conv_norm_is_minus_infinity : Cert.Pre_no_conv_norm_is_minus_infinity.Facts] : Prop :=
  ∀ (m : (ℓ : Loc Cert.BranchMergeIdeal.nD Cert.BranchMergeIdeal.τ Cert.BranchMergeIdeal.sig) → Buf (Elt Ideal) ℓ) (g : Dev Cert.BranchMergeIdeal.nD → PrngReg)
    (m' : (ℓ : Loc Cert.BranchMergeReferenceIdeal.nD Cert.BranchMergeReferenceIdeal.τ Cert.BranchMergeReferenceIdeal.sig) → Buf (Elt Ideal) ℓ) (g' : Dev Cert.BranchMergeReferenceIdeal.nD → PrngReg), Pre_BranchMergeIdeal_no_conv_norm_is_minus_infinity m →
    (∀ c : Dev Cert.BranchMergeIdeal.nD,
      m' ((c.tc : Thread Cert.BranchMergeReferenceIdeal.nD Cert.BranchMergeReferenceIdeal.τ).loc Cert.BranchMergeReferenceIdeal.main_arg0) = m ((c.tc : Thread Cert.BranchMergeIdeal.nD Cert.BranchMergeIdeal.τ).loc Cert.BranchMergeIdeal.main_arg0)
      ∧ m' ((c.tc : Thread Cert.BranchMergeReferenceIdeal.nD Cert.BranchMergeReferenceIdeal.τ).loc Cert.BranchMergeReferenceIdeal.main_arg1) = m ((c.tc : Thread Cert.BranchMergeIdeal.nD Cert.BranchMergeIdeal.τ).loc Cert.BranchMergeIdeal.main_arg1)
      ∧ m' ((c.tc : Thread Cert.BranchMergeReferenceIdeal.nD Cert.BranchMergeReferenceIdeal.τ).loc Cert.BranchMergeReferenceIdeal.main_arg2) = m ((c.tc : Thread Cert.BranchMergeIdeal.nD Cert.BranchMergeIdeal.τ).loc Cert.BranchMergeIdeal.main_arg2)
      ∧ m' ((c.tc : Thread Cert.BranchMergeReferenceIdeal.nD Cert.BranchMergeReferenceIdeal.τ).loc Cert.BranchMergeReferenceIdeal.main_arg3) = m ((c.tc : Thread Cert.BranchMergeIdeal.nD Cert.BranchMergeIdeal.τ).loc Cert.BranchMergeIdeal.main_arg3)
      ∧ m' ((c.tc : Thread Cert.BranchMergeReferenceIdeal.nD Cert.BranchMergeReferenceIdeal.τ).loc Cert.BranchMergeReferenceIdeal.main_arg4) = m ((c.tc : Thread Cert.BranchMergeIdeal.nD Cert.BranchMergeIdeal.τ).loc Cert.BranchMergeIdeal.main_arg4)
      ∧ m' ((c.tc : Thread Cert.BranchMergeReferenceIdeal.nD Cert.BranchMergeReferenceIdeal.τ).loc Cert.BranchMergeReferenceIdeal.main_arg5) = m ((c.tc : Thread Cert.BranchMergeIdeal.nD Cert.BranchMergeIdeal.τ).loc Cert.BranchMergeIdeal.main_arg5)
      ∧ m' ((c.tc : Thread Cert.BranchMergeReferenceIdeal.nD Cert.BranchMergeReferenceIdeal.τ).loc Cert.BranchMergeReferenceIdeal.main_arg6) = m ((c.tc : Thread Cert.BranchMergeIdeal.nD Cert.BranchMergeIdeal.τ).loc Cert.BranchMergeIdeal.main_arg6)
      ∧ m' ((c.tc : Thread Cert.BranchMergeReferenceIdeal.nD Cert.BranchMergeReferenceIdeal.τ).loc Cert.BranchMergeReferenceIdeal.main_arg7) = m ((c.tc : Thread Cert.BranchMergeIdeal.nD Cert.BranchMergeIdeal.τ).loc Cert.BranchMergeIdeal.main_arg7)
      ∧ m' ((c.tc : Thread Cert.BranchMergeReferenceIdeal.nD Cert.BranchMergeReferenceIdeal.τ).loc Cert.BranchMergeReferenceIdeal.main_arg8) = m ((c.tc : Thread Cert.BranchMergeIdeal.nD Cert.BranchMergeIdeal.τ).loc Cert.BranchMergeIdeal.main_arg8)
      ∧ m' ((c.tc : Thread Cert.BranchMergeReferenceIdeal.nD Cert.BranchMergeReferenceIdeal.τ).loc Cert.BranchMergeReferenceIdeal.main_arg9) = m ((c.tc : Thread Cert.BranchMergeIdeal.nD Cert.BranchMergeIdeal.τ).loc Cert.BranchMergeIdeal.main_arg9)
      ∧ m' ((c.tc : Thread Cert.BranchMergeReferenceIdeal.nD Cert.BranchMergeReferenceIdeal.τ).loc Cert.BranchMergeReferenceIdeal.main_arg10) = m ((c.tc : Thread Cert.BranchMergeIdeal.nD Cert.BranchMergeIdeal.τ).loc Cert.BranchMergeIdeal.main_arg10)
      ∧ m' ((c.tc : Thread Cert.BranchMergeReferenceIdeal.nD Cert.BranchMergeReferenceIdeal.τ).loc Cert.BranchMergeReferenceIdeal.main_arg11) = m ((c.tc : Thread Cert.BranchMergeIdeal.nD Cert.BranchMergeIdeal.τ).loc Cert.BranchMergeIdeal.main_arg11)
      ∧ m' ((c.tc : Thread Cert.BranchMergeReferenceIdeal.nD Cert.BranchMergeReferenceIdeal.τ).loc Cert.BranchMergeReferenceIdeal.main_arg12) = m ((c.tc : Thread Cert.BranchMergeIdeal.nD Cert.BranchMergeIdeal.τ).loc Cert.BranchMergeIdeal.main_arg12)) →
    ∃ (v0 : (c : Dev Cert.BranchMergeIdeal.nD) → Buf (Elt Ideal) ((c.tc : Thread Cert.BranchMergeIdeal.nD Cert.BranchMergeIdeal.τ).loc Cert.BranchMergeIdeal.main_v4_0)) (v1 : (c : Dev Cert.BranchMergeIdeal.nD) → Buf (Elt Ideal) ((c.tc : Thread Cert.BranchMergeIdeal.nD Cert.BranchMergeIdeal.τ).loc Cert.BranchMergeIdeal.main_v4_1)),
      θ_run (Cert.BranchMergeIdeal.defs (F := Ideal)) (onTc (τ := Cert.BranchMergeIdeal.τ) (Cert.BranchMergeIdeal.main (F := Ideal))) ⟨m, fun _ => 0, g⟩ (fun r => ∀ c : Dev Cert.BranchMergeIdeal.nD,
          r.2.mem ((c.tc : Thread Cert.BranchMergeIdeal.nD Cert.BranchMergeIdeal.τ).loc Cert.BranchMergeIdeal.main_v4_0) = v0 c
          ∧ r.2.mem ((c.tc : Thread Cert.BranchMergeIdeal.nD Cert.BranchMergeIdeal.τ).loc Cert.BranchMergeIdeal.main_v4_1) = v1 c
          ∧ r.2.mem ((c.tc : Thread Cert.BranchMergeIdeal.nD Cert.BranchMergeIdeal.τ).loc Cert.BranchMergeIdeal.main_arg0) = m ((c.tc : Thread Cert.BranchMergeIdeal.nD Cert.BranchMergeIdeal.τ).loc Cert.BranchMergeIdeal.main_arg0)
          ∧ r.2.mem ((c.tc : Thread Cert.BranchMergeIdeal.nD Cert.BranchMergeIdeal.τ).loc Cert.BranchMergeIdeal.main_arg1) = m ((c.tc : Thread Cert.BranchMergeIdeal.nD Cert.BranchMergeIdeal.τ).loc Cert.BranchMergeIdeal.main_arg1)
          ∧ r.2.mem ((c.tc : Thread Cert.BranchMergeIdeal.nD Cert.BranchMergeIdeal.τ).loc Cert.BranchMergeIdeal.main_arg2) = m ((c.tc : Thread Cert.BranchMergeIdeal.nD Cert.BranchMergeIdeal.τ).loc Cert.BranchMergeIdeal.main_arg2)
          ∧ r.2.mem ((c.tc : Thread Cert.BranchMergeIdeal.nD Cert.BranchMergeIdeal.τ).loc Cert.BranchMergeIdeal.main_arg3) = m ((c.tc : Thread Cert.BranchMergeIdeal.nD Cert.BranchMergeIdeal.τ).loc Cert.BranchMergeIdeal.main_arg3)
          ∧ r.2.mem ((c.tc : Thread Cert.BranchMergeIdeal.nD Cert.BranchMergeIdeal.τ).loc Cert.BranchMergeIdeal.main_arg4) = m ((c.tc : Thread Cert.BranchMergeIdeal.nD Cert.BranchMergeIdeal.τ).loc Cert.BranchMergeIdeal.main_arg4)
          ∧ r.2.mem ((c.tc : Thread Cert.BranchMergeIdeal.nD Cert.BranchMergeIdeal.τ).loc Cert.BranchMergeIdeal.main_arg5) = m ((c.tc : Thread Cert.BranchMergeIdeal.nD Cert.BranchMergeIdeal.τ).loc Cert.BranchMergeIdeal.main_arg5)
          ∧ r.2.mem ((c.tc : Thread Cert.BranchMergeIdeal.nD Cert.BranchMergeIdeal.τ).loc Cert.BranchMergeIdeal.main_arg6) = m ((c.tc : Thread Cert.BranchMergeIdeal.nD Cert.BranchMergeIdeal.τ).loc Cert.BranchMergeIdeal.main_arg6)
          ∧ r.2.mem ((c.tc : Thread Cert.BranchMergeIdeal.nD Cert.BranchMergeIdeal.τ).loc Cert.BranchMergeIdeal.main_arg7) = m ((c.tc : Thread Cert.BranchMergeIdeal.nD Cert.BranchMergeIdeal.τ).loc Cert.BranchMergeIdeal.main_arg7)
          ∧ r.2.mem ((c.tc : Thread Cert.BranchMergeIdeal.nD Cert.BranchMergeIdeal.τ).loc Cert.BranchMergeIdeal.main_arg8) = m ((c.tc : Thread Cert.BranchMergeIdeal.nD Cert.BranchMergeIdeal.τ).loc Cert.BranchMergeIdeal.main_arg8)
          ∧ r.2.mem ((c.tc : Thread Cert.BranchMergeIdeal.nD Cert.BranchMergeIdeal.τ).loc Cert.BranchMergeIdeal.main_arg9) = m ((c.tc : Thread Cert.BranchMergeIdeal.nD Cert.BranchMergeIdeal.τ).loc Cert.BranchMergeIdeal.main_arg9)
          ∧ r.2.mem ((c.tc : Thread Cert.BranchMergeIdeal.nD Cert.BranchMergeIdeal.τ).loc Cert.BranchMergeIdeal.main_arg10) = m ((c.tc : Thread Cert.BranchMergeIdeal.nD Cert.BranchMergeIdeal.τ).loc Cert.BranchMergeIdeal.main_arg10)
          ∧ r.2.mem ((c.tc : Thread Cert.BranchMergeIdeal.nD Cert.BranchMergeIdeal.τ).loc Cert.BranchMergeIdeal.main_arg11) = m ((c.tc : Thread Cert.BranchMergeIdeal.nD Cert.BranchMergeIdeal.τ).loc Cert.BranchMergeIdeal.main_arg11)
          ∧ r.2.mem ((c.tc : Thread Cert.BranchMergeIdeal.nD Cert.BranchMergeIdeal.τ).loc Cert.BranchMergeIdeal.main_arg12) = m ((c.tc : Thread Cert.BranchMergeIdeal.nD Cert.BranchMergeIdeal.τ).loc Cert.BranchMergeIdeal.main_arg12))
      ∧ θ_run (Cert.BranchMergeReferenceIdeal.defs (F := Ideal)) (onTc (τ := Cert.BranchMergeReferenceIdeal.τ) (Cert.BranchMergeReferenceIdeal.main (F := Ideal))) ⟨m', fun _ => 0, g'⟩ (fun r => ∀ c : Dev Cert.BranchMergeReferenceIdeal.nD,
          r.2.mem ((c.tc : Thread Cert.BranchMergeReferenceIdeal.nD Cert.BranchMergeReferenceIdeal.τ).loc Cert.BranchMergeReferenceIdeal.main_v80) = v0 c
          ∧ r.2.mem ((c.tc : Thread Cert.BranchMergeReferenceIdeal.nD Cert.BranchMergeReferenceIdeal.τ).loc Cert.BranchMergeReferenceIdeal.main_v81) = v1 c
          ∧ r.2.mem ((c.tc : Thread Cert.BranchMergeReferenceIdeal.nD Cert.BranchMergeReferenceIdeal.τ).loc Cert.BranchMergeReferenceIdeal.main_arg0) = m' ((c.tc : Thread Cert.BranchMergeReferenceIdeal.nD Cert.BranchMergeReferenceIdeal.τ).loc Cert.BranchMergeReferenceIdeal.main_arg0)
          ∧ r.2.mem ((c.tc : Thread Cert.BranchMergeReferenceIdeal.nD Cert.BranchMergeReferenceIdeal.τ).loc Cert.BranchMergeReferenceIdeal.main_arg1) = m' ((c.tc : Thread Cert.BranchMergeReferenceIdeal.nD Cert.BranchMergeReferenceIdeal.τ).loc Cert.BranchMergeReferenceIdeal.main_arg1)
          ∧ r.2.mem ((c.tc : Thread Cert.BranchMergeReferenceIdeal.nD Cert.BranchMergeReferenceIdeal.τ).loc Cert.BranchMergeReferenceIdeal.main_arg2) = m' ((c.tc : Thread Cert.BranchMergeReferenceIdeal.nD Cert.BranchMergeReferenceIdeal.τ).loc Cert.BranchMergeReferenceIdeal.main_arg2)
          ∧ r.2.mem ((c.tc : Thread Cert.BranchMergeReferenceIdeal.nD Cert.BranchMergeReferenceIdeal.τ).loc Cert.BranchMergeReferenceIdeal.main_arg3) = m' ((c.tc : Thread Cert.BranchMergeReferenceIdeal.nD Cert.BranchMergeReferenceIdeal.τ).loc Cert.BranchMergeReferenceIdeal.main_arg3)
          ∧ r.2.mem ((c.tc : Thread Cert.BranchMergeReferenceIdeal.nD Cert.BranchMergeReferenceIdeal.τ).loc Cert.BranchMergeReferenceIdeal.main_arg4) = m' ((c.tc : Thread Cert.BranchMergeReferenceIdeal.nD Cert.BranchMergeReferenceIdeal.τ).loc Cert.BranchMergeReferenceIdeal.main_arg4)
          ∧ r.2.mem ((c.tc : Thread Cert.BranchMergeReferenceIdeal.nD Cert.BranchMergeReferenceIdeal.τ).loc Cert.BranchMergeReferenceIdeal.main_arg5) = m' ((c.tc : Thread Cert.BranchMergeReferenceIdeal.nD Cert.BranchMergeReferenceIdeal.τ).loc Cert.BranchMergeReferenceIdeal.main_arg5)
          ∧ r.2.mem ((c.tc : Thread Cert.BranchMergeReferenceIdeal.nD Cert.BranchMergeReferenceIdeal.τ).loc Cert.BranchMergeReferenceIdeal.main_arg6) = m' ((c.tc : Thread Cert.BranchMergeReferenceIdeal.nD Cert.BranchMergeReferenceIdeal.τ).loc Cert.BranchMergeReferenceIdeal.main_arg6)
          ∧ r.2.mem ((c.tc : Thread Cert.BranchMergeReferenceIdeal.nD Cert.BranchMergeReferenceIdeal.τ).loc Cert.BranchMergeReferenceIdeal.main_arg7) = m' ((c.tc : Thread Cert.BranchMergeReferenceIdeal.nD Cert.BranchMergeReferenceIdeal.τ).loc Cert.BranchMergeReferenceIdeal.main_arg7)
          ∧ r.2.mem ((c.tc : Thread Cert.BranchMergeReferenceIdeal.nD Cert.BranchMergeReferenceIdeal.τ).loc Cert.BranchMergeReferenceIdeal.main_arg8) = m' ((c.tc : Thread Cert.BranchMergeReferenceIdeal.nD Cert.BranchMergeReferenceIdeal.τ).loc Cert.BranchMergeReferenceIdeal.main_arg8)
          ∧ r.2.mem ((c.tc : Thread Cert.BranchMergeReferenceIdeal.nD Cert.BranchMergeReferenceIdeal.τ).loc Cert.BranchMergeReferenceIdeal.main_arg9) = m' ((c.tc : Thread Cert.BranchMergeReferenceIdeal.nD Cert.BranchMergeReferenceIdeal.τ).loc Cert.BranchMergeReferenceIdeal.main_arg9)
          ∧ r.2.mem ((c.tc : Thread Cert.BranchMergeReferenceIdeal.nD Cert.BranchMergeReferenceIdeal.τ).loc Cert.BranchMergeReferenceIdeal.main_arg10) = m' ((c.tc : Thread Cert.BranchMergeReferenceIdeal.nD Cert.BranchMergeReferenceIdeal.τ).loc Cert.BranchMergeReferenceIdeal.main_arg10)
          ∧ r.2.mem ((c.tc : Thread Cert.BranchMergeReferenceIdeal.nD Cert.BranchMergeReferenceIdeal.τ).loc Cert.BranchMergeReferenceIdeal.main_arg11) = m' ((c.tc : Thread Cert.BranchMergeReferenceIdeal.nD Cert.BranchMergeReferenceIdeal.τ).loc Cert.BranchMergeReferenceIdeal.main_arg11)
          ∧ r.2.mem ((c.tc : Thread Cert.BranchMergeReferenceIdeal.nD Cert.BranchMergeReferenceIdeal.τ).loc Cert.BranchMergeReferenceIdeal.main_arg12) = m' ((c.tc : Thread Cert.BranchMergeReferenceIdeal.nD Cert.BranchMergeReferenceIdeal.τ).loc Cert.BranchMergeReferenceIdeal.main_arg12))

def preserves_ConvGlu_ConvGluIdeal : Prop :=
  True

def algebraic_ConvGluIdeal_ConvGluReferenceIdeal [hConvGluIdeal : Cert.ConvGluIdeal.Facts] [hConvGluReferenceIdeal : Cert.ConvGluReferenceIdeal.Facts] : Prop :=
  ∀ (m : (ℓ : Loc Cert.ConvGluIdeal.nD Cert.ConvGluIdeal.τ Cert.ConvGluIdeal.sig) → Buf (Elt Ideal) ℓ) (g : Dev Cert.ConvGluIdeal.nD → PrngReg)
    (m' : (ℓ : Loc Cert.ConvGluReferenceIdeal.nD Cert.ConvGluReferenceIdeal.τ Cert.ConvGluReferenceIdeal.sig) → Buf (Elt Ideal) ℓ) (g' : Dev Cert.ConvGluReferenceIdeal.nD → PrngReg), Pre_ConvGluIdeal m →
    (∀ c : Dev Cert.ConvGluIdeal.nD,
      m' ((c.tc : Thread Cert.ConvGluReferenceIdeal.nD Cert.ConvGluReferenceIdeal.τ).loc Cert.ConvGluReferenceIdeal.main_arg0) = m ((c.tc : Thread Cert.ConvGluIdeal.nD Cert.ConvGluIdeal.τ).loc Cert.ConvGluIdeal.main_arg0)
      ∧ m' ((c.tc : Thread Cert.ConvGluReferenceIdeal.nD Cert.ConvGluReferenceIdeal.τ).loc Cert.ConvGluReferenceIdeal.main_arg1) = m ((c.tc : Thread Cert.ConvGluIdeal.nD Cert.ConvGluIdeal.τ).loc Cert.ConvGluIdeal.main_arg1)) →
    ∃ (v0 : (c : Dev Cert.ConvGluIdeal.nD) → Buf (Elt Ideal) ((c.tc : Thread Cert.ConvGluIdeal.nD Cert.ConvGluIdeal.τ).loc Cert.ConvGluIdeal.main_v0)),
      θ_run (Cert.ConvGluIdeal.defs (F := Ideal)) (onTc (τ := Cert.ConvGluIdeal.τ) (Cert.ConvGluIdeal.main (F := Ideal))) ⟨m, fun _ => 0, g⟩ (fun r => ∀ c : Dev Cert.ConvGluIdeal.nD,
          r.2.mem ((c.tc : Thread Cert.ConvGluIdeal.nD Cert.ConvGluIdeal.τ).loc Cert.ConvGluIdeal.main_v0) = v0 c
          ∧ r.2.mem ((c.tc : Thread Cert.ConvGluIdeal.nD Cert.ConvGluIdeal.τ).loc Cert.ConvGluIdeal.main_arg0) = m ((c.tc : Thread Cert.ConvGluIdeal.nD Cert.ConvGluIdeal.τ).loc Cert.ConvGluIdeal.main_arg0)
          ∧ r.2.mem ((c.tc : Thread Cert.ConvGluIdeal.nD Cert.ConvGluIdeal.τ).loc Cert.ConvGluIdeal.main_arg1) = m ((c.tc : Thread Cert.ConvGluIdeal.nD Cert.ConvGluIdeal.τ).loc Cert.ConvGluIdeal.main_arg1))
      ∧ θ_run (Cert.ConvGluReferenceIdeal.defs (F := Ideal)) (onTc (τ := Cert.ConvGluReferenceIdeal.τ) (Cert.ConvGluReferenceIdeal.main (F := Ideal))) ⟨m', fun _ => 0, g'⟩ (fun r => ∀ c : Dev Cert.ConvGluReferenceIdeal.nD,
          r.2.mem ((c.tc : Thread Cert.ConvGluReferenceIdeal.nD Cert.ConvGluReferenceIdeal.τ).loc Cert.ConvGluReferenceIdeal.main_v15) = v0 c
          ∧ r.2.mem ((c.tc : Thread Cert.ConvGluReferenceIdeal.nD Cert.ConvGluReferenceIdeal.τ).loc Cert.ConvGluReferenceIdeal.main_arg0) = m' ((c.tc : Thread Cert.ConvGluReferenceIdeal.nD Cert.ConvGluReferenceIdeal.τ).loc Cert.ConvGluReferenceIdeal.main_arg0)
          ∧ r.2.mem ((c.tc : Thread Cert.ConvGluReferenceIdeal.nD Cert.ConvGluReferenceIdeal.τ).loc Cert.ConvGluReferenceIdeal.main_arg1) = m' ((c.tc : Thread Cert.ConvGluReferenceIdeal.nD Cert.ConvGluReferenceIdeal.τ).loc Cert.ConvGluReferenceIdeal.main_arg1))

def preserves_QkvFirst_QkvFirstIdeal : Prop :=
  IdealRules.named_const.Statement Cert.QkvFirstIdeal.κ "scale" .f32 0x3DB504F3#32 (((Real.sqrt 128)⁻¹ : ℝ) : EReal)

def algebraic_QkvFirstIdeal_QkvFirstReferenceIdeal_pre_tables_are_rotary [hQkvFirstIdeal : Cert.QkvFirstIdeal.Facts] [hQkvFirstReferenceIdeal : Cert.QkvFirstReferenceIdeal.Facts] [hPre_tables_are_rotary : Cert.Pre_tables_are_rotary.Facts] : Prop :=
  ∀ (m : (ℓ : Loc Cert.QkvFirstIdeal.nD Cert.QkvFirstIdeal.τ Cert.QkvFirstIdeal.sig) → Buf (Elt Ideal) ℓ) (g : Dev Cert.QkvFirstIdeal.nD → PrngReg)
    (m' : (ℓ : Loc Cert.QkvFirstReferenceIdeal.nD Cert.QkvFirstReferenceIdeal.τ Cert.QkvFirstReferenceIdeal.sig) → Buf (Elt Ideal) ℓ) (g' : Dev Cert.QkvFirstReferenceIdeal.nD → PrngReg), Pre_QkvFirstIdeal_tables_are_rotary m →
    (∀ c : Dev Cert.QkvFirstIdeal.nD,
      m' ((c.tc : Thread Cert.QkvFirstReferenceIdeal.nD Cert.QkvFirstReferenceIdeal.τ).loc Cert.QkvFirstReferenceIdeal.main_arg0) = m ((c.tc : Thread Cert.QkvFirstIdeal.nD Cert.QkvFirstIdeal.τ).loc Cert.QkvFirstIdeal.main_arg0)
      ∧ m' ((c.tc : Thread Cert.QkvFirstReferenceIdeal.nD Cert.QkvFirstReferenceIdeal.τ).loc Cert.QkvFirstReferenceIdeal.main_arg1) = m ((c.tc : Thread Cert.QkvFirstIdeal.nD Cert.QkvFirstIdeal.τ).loc Cert.QkvFirstIdeal.main_arg1)
      ∧ m' ((c.tc : Thread Cert.QkvFirstReferenceIdeal.nD Cert.QkvFirstReferenceIdeal.τ).loc Cert.QkvFirstReferenceIdeal.main_arg2) = m ((c.tc : Thread Cert.QkvFirstIdeal.nD Cert.QkvFirstIdeal.τ).loc Cert.QkvFirstIdeal.main_arg2)
      ∧ m' ((c.tc : Thread Cert.QkvFirstReferenceIdeal.nD Cert.QkvFirstReferenceIdeal.τ).loc Cert.QkvFirstReferenceIdeal.main_arg3) = m ((c.tc : Thread Cert.QkvFirstIdeal.nD Cert.QkvFirstIdeal.τ).loc Cert.QkvFirstIdeal.main_arg3)
      ∧ m' ((c.tc : Thread Cert.QkvFirstReferenceIdeal.nD Cert.QkvFirstReferenceIdeal.τ).loc Cert.QkvFirstReferenceIdeal.main_arg4) = m ((c.tc : Thread Cert.QkvFirstIdeal.nD Cert.QkvFirstIdeal.τ).loc Cert.QkvFirstIdeal.main_arg4)) →
    ∃ (v0 : (c : Dev Cert.QkvFirstIdeal.nD) → Buf (Elt Ideal) ((c.tc : Thread Cert.QkvFirstIdeal.nD Cert.QkvFirstIdeal.τ).loc Cert.QkvFirstIdeal.main_v0)),
      θ_run (Cert.QkvFirstIdeal.defs (F := Ideal)) (onTc (τ := Cert.QkvFirstIdeal.τ) (Cert.QkvFirstIdeal.main (F := Ideal))) ⟨m, fun _ => 0, g⟩ (fun r => ∀ c : Dev Cert.QkvFirstIdeal.nD,
          r.2.mem ((c.tc : Thread Cert.QkvFirstIdeal.nD Cert.QkvFirstIdeal.τ).loc Cert.QkvFirstIdeal.main_v0) = v0 c
          ∧ r.2.mem ((c.tc : Thread Cert.QkvFirstIdeal.nD Cert.QkvFirstIdeal.τ).loc Cert.QkvFirstIdeal.main_arg0) = m ((c.tc : Thread Cert.QkvFirstIdeal.nD Cert.QkvFirstIdeal.τ).loc Cert.QkvFirstIdeal.main_arg0)
          ∧ r.2.mem ((c.tc : Thread Cert.QkvFirstIdeal.nD Cert.QkvFirstIdeal.τ).loc Cert.QkvFirstIdeal.main_arg1) = m ((c.tc : Thread Cert.QkvFirstIdeal.nD Cert.QkvFirstIdeal.τ).loc Cert.QkvFirstIdeal.main_arg1)
          ∧ r.2.mem ((c.tc : Thread Cert.QkvFirstIdeal.nD Cert.QkvFirstIdeal.τ).loc Cert.QkvFirstIdeal.main_arg2) = m ((c.tc : Thread Cert.QkvFirstIdeal.nD Cert.QkvFirstIdeal.τ).loc Cert.QkvFirstIdeal.main_arg2)
          ∧ r.2.mem ((c.tc : Thread Cert.QkvFirstIdeal.nD Cert.QkvFirstIdeal.τ).loc Cert.QkvFirstIdeal.main_arg3) = m ((c.tc : Thread Cert.QkvFirstIdeal.nD Cert.QkvFirstIdeal.τ).loc Cert.QkvFirstIdeal.main_arg3)
          ∧ r.2.mem ((c.tc : Thread Cert.QkvFirstIdeal.nD Cert.QkvFirstIdeal.τ).loc Cert.QkvFirstIdeal.main_arg4) = m ((c.tc : Thread Cert.QkvFirstIdeal.nD Cert.QkvFirstIdeal.τ).loc Cert.QkvFirstIdeal.main_arg4))
      ∧ θ_run (Cert.QkvFirstReferenceIdeal.defs (F := Ideal)) (onTc (τ := Cert.QkvFirstReferenceIdeal.τ) (Cert.QkvFirstReferenceIdeal.main (F := Ideal))) ⟨m', fun _ => 0, g'⟩ (fun r => ∀ c : Dev Cert.QkvFirstReferenceIdeal.nD,
          r.2.mem ((c.tc : Thread Cert.QkvFirstReferenceIdeal.nD Cert.QkvFirstReferenceIdeal.τ).loc Cert.QkvFirstReferenceIdeal.main_v54) = v0 c
          ∧ r.2.mem ((c.tc : Thread Cert.QkvFirstReferenceIdeal.nD Cert.QkvFirstReferenceIdeal.τ).loc Cert.QkvFirstReferenceIdeal.main_arg0) = m' ((c.tc : Thread Cert.QkvFirstReferenceIdeal.nD Cert.QkvFirstReferenceIdeal.τ).loc Cert.QkvFirstReferenceIdeal.main_arg0)
          ∧ r.2.mem ((c.tc : Thread Cert.QkvFirstReferenceIdeal.nD Cert.QkvFirstReferenceIdeal.τ).loc Cert.QkvFirstReferenceIdeal.main_arg1) = m' ((c.tc : Thread Cert.QkvFirstReferenceIdeal.nD Cert.QkvFirstReferenceIdeal.τ).loc Cert.QkvFirstReferenceIdeal.main_arg1)
          ∧ r.2.mem ((c.tc : Thread Cert.QkvFirstReferenceIdeal.nD Cert.QkvFirstReferenceIdeal.τ).loc Cert.QkvFirstReferenceIdeal.main_arg2) = m' ((c.tc : Thread Cert.QkvFirstReferenceIdeal.nD Cert.QkvFirstReferenceIdeal.τ).loc Cert.QkvFirstReferenceIdeal.main_arg2)
          ∧ r.2.mem ((c.tc : Thread Cert.QkvFirstReferenceIdeal.nD Cert.QkvFirstReferenceIdeal.τ).loc Cert.QkvFirstReferenceIdeal.main_arg3) = m' ((c.tc : Thread Cert.QkvFirstReferenceIdeal.nD Cert.QkvFirstReferenceIdeal.τ).loc Cert.QkvFirstReferenceIdeal.main_arg3)
          ∧ r.2.mem ((c.tc : Thread Cert.QkvFirstReferenceIdeal.nD Cert.QkvFirstReferenceIdeal.τ).loc Cert.QkvFirstReferenceIdeal.main_arg4) = m' ((c.tc : Thread Cert.QkvFirstReferenceIdeal.nD Cert.QkvFirstReferenceIdeal.τ).loc Cert.QkvFirstReferenceIdeal.main_arg4))

def preserves_SpatialGating_SpatialGatingIdeal : Prop :=
  IdealRules.named_const.Statement Cert.SpatialGatingIdeal.κ "half_root" .f32 0x3F3504F3#32 (((Real.sqrt 2)⁻¹ : ℝ) : EReal)

def algebraic_SpatialGatingIdeal_SpatialGatingReferenceIdeal [hSpatialGatingIdeal : Cert.SpatialGatingIdeal.Facts] [hSpatialGatingReferenceIdeal : Cert.SpatialGatingReferenceIdeal.Facts] : Prop :=
  ∀ (m : (ℓ : Loc Cert.SpatialGatingIdeal.nD Cert.SpatialGatingIdeal.τ Cert.SpatialGatingIdeal.sig) → Buf (Elt Ideal) ℓ) (g : Dev Cert.SpatialGatingIdeal.nD → PrngReg)
    (m' : (ℓ : Loc Cert.SpatialGatingReferenceIdeal.nD Cert.SpatialGatingReferenceIdeal.τ Cert.SpatialGatingReferenceIdeal.sig) → Buf (Elt Ideal) ℓ) (g' : Dev Cert.SpatialGatingReferenceIdeal.nD → PrngReg), Pre_SpatialGatingIdeal m →
    (∀ c : Dev Cert.SpatialGatingIdeal.nD,
      m' ((c.tc : Thread Cert.SpatialGatingReferenceIdeal.nD Cert.SpatialGatingReferenceIdeal.τ).loc Cert.SpatialGatingReferenceIdeal.main_arg0) = m ((c.tc : Thread Cert.SpatialGatingIdeal.nD Cert.SpatialGatingIdeal.τ).loc Cert.SpatialGatingIdeal.main_arg0)
      ∧ m' ((c.tc : Thread Cert.SpatialGatingReferenceIdeal.nD Cert.SpatialGatingReferenceIdeal.τ).loc Cert.SpatialGatingReferenceIdeal.main_arg1) = m ((c.tc : Thread Cert.SpatialGatingIdeal.nD Cert.SpatialGatingIdeal.τ).loc Cert.SpatialGatingIdeal.main_arg1)
      ∧ m' ((c.tc : Thread Cert.SpatialGatingReferenceIdeal.nD Cert.SpatialGatingReferenceIdeal.τ).loc Cert.SpatialGatingReferenceIdeal.main_arg2) = m ((c.tc : Thread Cert.SpatialGatingIdeal.nD Cert.SpatialGatingIdeal.τ).loc Cert.SpatialGatingIdeal.main_arg2)
      ∧ m' ((c.tc : Thread Cert.SpatialGatingReferenceIdeal.nD Cert.SpatialGatingReferenceIdeal.τ).loc Cert.SpatialGatingReferenceIdeal.main_arg3) = m ((c.tc : Thread Cert.SpatialGatingIdeal.nD Cert.SpatialGatingIdeal.τ).loc Cert.SpatialGatingIdeal.main_arg3)
      ∧ m' ((c.tc : Thread Cert.SpatialGatingReferenceIdeal.nD Cert.SpatialGatingReferenceIdeal.τ).loc Cert.SpatialGatingReferenceIdeal.main_arg4) = m ((c.tc : Thread Cert.SpatialGatingIdeal.nD Cert.SpatialGatingIdeal.τ).loc Cert.SpatialGatingIdeal.main_arg4)
      ∧ m' ((c.tc : Thread Cert.SpatialGatingReferenceIdeal.nD Cert.SpatialGatingReferenceIdeal.τ).loc Cert.SpatialGatingReferenceIdeal.main_arg5) = m ((c.tc : Thread Cert.SpatialGatingIdeal.nD Cert.SpatialGatingIdeal.τ).loc Cert.SpatialGatingIdeal.main_arg5)) →
    ∃ (v0 : (c : Dev Cert.SpatialGatingIdeal.nD) → Buf (Elt Ideal) ((c.tc : Thread Cert.SpatialGatingIdeal.nD Cert.SpatialGatingIdeal.τ).loc Cert.SpatialGatingIdeal.main_v2_0)) (v1 : (c : Dev Cert.SpatialGatingIdeal.nD) → Buf (Elt Ideal) ((c.tc : Thread Cert.SpatialGatingIdeal.nD Cert.SpatialGatingIdeal.τ).loc Cert.SpatialGatingIdeal.main_v2_1)),
      θ_run (Cert.SpatialGatingIdeal.defs (F := Ideal)) (onTc (τ := Cert.SpatialGatingIdeal.τ) (Cert.SpatialGatingIdeal.main (F := Ideal))) ⟨m, fun _ => 0, g⟩ (fun r => ∀ c : Dev Cert.SpatialGatingIdeal.nD,
          r.2.mem ((c.tc : Thread Cert.SpatialGatingIdeal.nD Cert.SpatialGatingIdeal.τ).loc Cert.SpatialGatingIdeal.main_v2_0) = v0 c
          ∧ r.2.mem ((c.tc : Thread Cert.SpatialGatingIdeal.nD Cert.SpatialGatingIdeal.τ).loc Cert.SpatialGatingIdeal.main_v2_1) = v1 c
          ∧ r.2.mem ((c.tc : Thread Cert.SpatialGatingIdeal.nD Cert.SpatialGatingIdeal.τ).loc Cert.SpatialGatingIdeal.main_arg0) = m ((c.tc : Thread Cert.SpatialGatingIdeal.nD Cert.SpatialGatingIdeal.τ).loc Cert.SpatialGatingIdeal.main_arg0)
          ∧ r.2.mem ((c.tc : Thread Cert.SpatialGatingIdeal.nD Cert.SpatialGatingIdeal.τ).loc Cert.SpatialGatingIdeal.main_arg1) = m ((c.tc : Thread Cert.SpatialGatingIdeal.nD Cert.SpatialGatingIdeal.τ).loc Cert.SpatialGatingIdeal.main_arg1)
          ∧ r.2.mem ((c.tc : Thread Cert.SpatialGatingIdeal.nD Cert.SpatialGatingIdeal.τ).loc Cert.SpatialGatingIdeal.main_arg2) = m ((c.tc : Thread Cert.SpatialGatingIdeal.nD Cert.SpatialGatingIdeal.τ).loc Cert.SpatialGatingIdeal.main_arg2)
          ∧ r.2.mem ((c.tc : Thread Cert.SpatialGatingIdeal.nD Cert.SpatialGatingIdeal.τ).loc Cert.SpatialGatingIdeal.main_arg3) = m ((c.tc : Thread Cert.SpatialGatingIdeal.nD Cert.SpatialGatingIdeal.τ).loc Cert.SpatialGatingIdeal.main_arg3)
          ∧ r.2.mem ((c.tc : Thread Cert.SpatialGatingIdeal.nD Cert.SpatialGatingIdeal.τ).loc Cert.SpatialGatingIdeal.main_arg4) = m ((c.tc : Thread Cert.SpatialGatingIdeal.nD Cert.SpatialGatingIdeal.τ).loc Cert.SpatialGatingIdeal.main_arg4)
          ∧ r.2.mem ((c.tc : Thread Cert.SpatialGatingIdeal.nD Cert.SpatialGatingIdeal.τ).loc Cert.SpatialGatingIdeal.main_arg5) = m ((c.tc : Thread Cert.SpatialGatingIdeal.nD Cert.SpatialGatingIdeal.τ).loc Cert.SpatialGatingIdeal.main_arg5))
      ∧ θ_run (Cert.SpatialGatingReferenceIdeal.defs (F := Ideal)) (onTc (τ := Cert.SpatialGatingReferenceIdeal.τ) (Cert.SpatialGatingReferenceIdeal.main (F := Ideal))) ⟨m', fun _ => 0, g'⟩ (fun r => ∀ c : Dev Cert.SpatialGatingReferenceIdeal.nD,
          r.2.mem ((c.tc : Thread Cert.SpatialGatingReferenceIdeal.nD Cert.SpatialGatingReferenceIdeal.τ).loc Cert.SpatialGatingReferenceIdeal.main_v58) = v0 c
          ∧ r.2.mem ((c.tc : Thread Cert.SpatialGatingReferenceIdeal.nD Cert.SpatialGatingReferenceIdeal.τ).loc Cert.SpatialGatingReferenceIdeal.main_v59) = v1 c
          ∧ r.2.mem ((c.tc : Thread Cert.SpatialGatingReferenceIdeal.nD Cert.SpatialGatingReferenceIdeal.τ).loc Cert.SpatialGatingReferenceIdeal.main_arg0) = m' ((c.tc : Thread Cert.SpatialGatingReferenceIdeal.nD Cert.SpatialGatingReferenceIdeal.τ).loc Cert.SpatialGatingReferenceIdeal.main_arg0)
          ∧ r.2.mem ((c.tc : Thread Cert.SpatialGatingReferenceIdeal.nD Cert.SpatialGatingReferenceIdeal.τ).loc Cert.SpatialGatingReferenceIdeal.main_arg1) = m' ((c.tc : Thread Cert.SpatialGatingReferenceIdeal.nD Cert.SpatialGatingReferenceIdeal.τ).loc Cert.SpatialGatingReferenceIdeal.main_arg1)
          ∧ r.2.mem ((c.tc : Thread Cert.SpatialGatingReferenceIdeal.nD Cert.SpatialGatingReferenceIdeal.τ).loc Cert.SpatialGatingReferenceIdeal.main_arg2) = m' ((c.tc : Thread Cert.SpatialGatingReferenceIdeal.nD Cert.SpatialGatingReferenceIdeal.τ).loc Cert.SpatialGatingReferenceIdeal.main_arg2)
          ∧ r.2.mem ((c.tc : Thread Cert.SpatialGatingReferenceIdeal.nD Cert.SpatialGatingReferenceIdeal.τ).loc Cert.SpatialGatingReferenceIdeal.main_arg3) = m' ((c.tc : Thread Cert.SpatialGatingReferenceIdeal.nD Cert.SpatialGatingReferenceIdeal.τ).loc Cert.SpatialGatingReferenceIdeal.main_arg3)
          ∧ r.2.mem ((c.tc : Thread Cert.SpatialGatingReferenceIdeal.nD Cert.SpatialGatingReferenceIdeal.τ).loc Cert.SpatialGatingReferenceIdeal.main_arg4) = m' ((c.tc : Thread Cert.SpatialGatingReferenceIdeal.nD Cert.SpatialGatingReferenceIdeal.τ).loc Cert.SpatialGatingReferenceIdeal.main_arg4)
          ∧ r.2.mem ((c.tc : Thread Cert.SpatialGatingReferenceIdeal.nD Cert.SpatialGatingReferenceIdeal.τ).loc Cert.SpatialGatingReferenceIdeal.main_arg5) = m' ((c.tc : Thread Cert.SpatialGatingReferenceIdeal.nD Cert.SpatialGatingReferenceIdeal.τ).loc Cert.SpatialGatingReferenceIdeal.main_arg5))

def preserves_QkvSecond_QkvSecondIdeal : Prop :=
  IdealRules.named_const.Statement Cert.QkvSecondIdeal.κ "scale" .f32 0x3DB504F3#32 (((Real.sqrt 128)⁻¹ : ℝ) : EReal)

def algebraic_QkvSecondIdeal_QkvSecondReferenceIdeal_pre_tables_are_rotary [hQkvSecondIdeal : Cert.QkvSecondIdeal.Facts] [hQkvSecondReferenceIdeal : Cert.QkvSecondReferenceIdeal.Facts] [hPre_tables_are_rotary : Cert.Pre_tables_are_rotary.Facts] : Prop :=
  ∀ (m : (ℓ : Loc Cert.QkvSecondIdeal.nD Cert.QkvSecondIdeal.τ Cert.QkvSecondIdeal.sig) → Buf (Elt Ideal) ℓ) (g : Dev Cert.QkvSecondIdeal.nD → PrngReg)
    (m' : (ℓ : Loc Cert.QkvSecondReferenceIdeal.nD Cert.QkvSecondReferenceIdeal.τ Cert.QkvSecondReferenceIdeal.sig) → Buf (Elt Ideal) ℓ) (g' : Dev Cert.QkvSecondReferenceIdeal.nD → PrngReg), Pre_QkvSecondIdeal_tables_are_rotary m →
    (∀ c : Dev Cert.QkvSecondIdeal.nD,
      m' ((c.tc : Thread Cert.QkvSecondReferenceIdeal.nD Cert.QkvSecondReferenceIdeal.τ).loc Cert.QkvSecondReferenceIdeal.main_arg0) = m ((c.tc : Thread Cert.QkvSecondIdeal.nD Cert.QkvSecondIdeal.τ).loc Cert.QkvSecondIdeal.main_arg0)
      ∧ m' ((c.tc : Thread Cert.QkvSecondReferenceIdeal.nD Cert.QkvSecondReferenceIdeal.τ).loc Cert.QkvSecondReferenceIdeal.main_arg1) = m ((c.tc : Thread Cert.QkvSecondIdeal.nD Cert.QkvSecondIdeal.τ).loc Cert.QkvSecondIdeal.main_arg1)
      ∧ m' ((c.tc : Thread Cert.QkvSecondReferenceIdeal.nD Cert.QkvSecondReferenceIdeal.τ).loc Cert.QkvSecondReferenceIdeal.main_arg2) = m ((c.tc : Thread Cert.QkvSecondIdeal.nD Cert.QkvSecondIdeal.τ).loc Cert.QkvSecondIdeal.main_arg2)
      ∧ m' ((c.tc : Thread Cert.QkvSecondReferenceIdeal.nD Cert.QkvSecondReferenceIdeal.τ).loc Cert.QkvSecondReferenceIdeal.main_arg3) = m ((c.tc : Thread Cert.QkvSecondIdeal.nD Cert.QkvSecondIdeal.τ).loc Cert.QkvSecondIdeal.main_arg3)
      ∧ m' ((c.tc : Thread Cert.QkvSecondReferenceIdeal.nD Cert.QkvSecondReferenceIdeal.τ).loc Cert.QkvSecondReferenceIdeal.main_arg4) = m ((c.tc : Thread Cert.QkvSecondIdeal.nD Cert.QkvSecondIdeal.τ).loc Cert.QkvSecondIdeal.main_arg4)) →
    ∃ (v0 : (c : Dev Cert.QkvSecondIdeal.nD) → Buf (Elt Ideal) ((c.tc : Thread Cert.QkvSecondIdeal.nD Cert.QkvSecondIdeal.τ).loc Cert.QkvSecondIdeal.main_v0)),
      θ_run (Cert.QkvSecondIdeal.defs (F := Ideal)) (onTc (τ := Cert.QkvSecondIdeal.τ) (Cert.QkvSecondIdeal.main (F := Ideal))) ⟨m, fun _ => 0, g⟩ (fun r => ∀ c : Dev Cert.QkvSecondIdeal.nD,
          r.2.mem ((c.tc : Thread Cert.QkvSecondIdeal.nD Cert.QkvSecondIdeal.τ).loc Cert.QkvSecondIdeal.main_v0) = v0 c
          ∧ r.2.mem ((c.tc : Thread Cert.QkvSecondIdeal.nD Cert.QkvSecondIdeal.τ).loc Cert.QkvSecondIdeal.main_arg0) = m ((c.tc : Thread Cert.QkvSecondIdeal.nD Cert.QkvSecondIdeal.τ).loc Cert.QkvSecondIdeal.main_arg0)
          ∧ r.2.mem ((c.tc : Thread Cert.QkvSecondIdeal.nD Cert.QkvSecondIdeal.τ).loc Cert.QkvSecondIdeal.main_arg1) = m ((c.tc : Thread Cert.QkvSecondIdeal.nD Cert.QkvSecondIdeal.τ).loc Cert.QkvSecondIdeal.main_arg1)
          ∧ r.2.mem ((c.tc : Thread Cert.QkvSecondIdeal.nD Cert.QkvSecondIdeal.τ).loc Cert.QkvSecondIdeal.main_arg2) = m ((c.tc : Thread Cert.QkvSecondIdeal.nD Cert.QkvSecondIdeal.τ).loc Cert.QkvSecondIdeal.main_arg2)
          ∧ r.2.mem ((c.tc : Thread Cert.QkvSecondIdeal.nD Cert.QkvSecondIdeal.τ).loc Cert.QkvSecondIdeal.main_arg3) = m ((c.tc : Thread Cert.QkvSecondIdeal.nD Cert.QkvSecondIdeal.τ).loc Cert.QkvSecondIdeal.main_arg3)
          ∧ r.2.mem ((c.tc : Thread Cert.QkvSecondIdeal.nD Cert.QkvSecondIdeal.τ).loc Cert.QkvSecondIdeal.main_arg4) = m ((c.tc : Thread Cert.QkvSecondIdeal.nD Cert.QkvSecondIdeal.τ).loc Cert.QkvSecondIdeal.main_arg4))
      ∧ θ_run (Cert.QkvSecondReferenceIdeal.defs (F := Ideal)) (onTc (τ := Cert.QkvSecondReferenceIdeal.τ) (Cert.QkvSecondReferenceIdeal.main (F := Ideal))) ⟨m', fun _ => 0, g'⟩ (fun r => ∀ c : Dev Cert.QkvSecondReferenceIdeal.nD,
          r.2.mem ((c.tc : Thread Cert.QkvSecondReferenceIdeal.nD Cert.QkvSecondReferenceIdeal.τ).loc Cert.QkvSecondReferenceIdeal.main_v57) = v0 c
          ∧ r.2.mem ((c.tc : Thread Cert.QkvSecondReferenceIdeal.nD Cert.QkvSecondReferenceIdeal.τ).loc Cert.QkvSecondReferenceIdeal.main_arg0) = m' ((c.tc : Thread Cert.QkvSecondReferenceIdeal.nD Cert.QkvSecondReferenceIdeal.τ).loc Cert.QkvSecondReferenceIdeal.main_arg0)
          ∧ r.2.mem ((c.tc : Thread Cert.QkvSecondReferenceIdeal.nD Cert.QkvSecondReferenceIdeal.τ).loc Cert.QkvSecondReferenceIdeal.main_arg1) = m' ((c.tc : Thread Cert.QkvSecondReferenceIdeal.nD Cert.QkvSecondReferenceIdeal.τ).loc Cert.QkvSecondReferenceIdeal.main_arg1)
          ∧ r.2.mem ((c.tc : Thread Cert.QkvSecondReferenceIdeal.nD Cert.QkvSecondReferenceIdeal.τ).loc Cert.QkvSecondReferenceIdeal.main_arg2) = m' ((c.tc : Thread Cert.QkvSecondReferenceIdeal.nD Cert.QkvSecondReferenceIdeal.τ).loc Cert.QkvSecondReferenceIdeal.main_arg2)
          ∧ r.2.mem ((c.tc : Thread Cert.QkvSecondReferenceIdeal.nD Cert.QkvSecondReferenceIdeal.τ).loc Cert.QkvSecondReferenceIdeal.main_arg3) = m' ((c.tc : Thread Cert.QkvSecondReferenceIdeal.nD Cert.QkvSecondReferenceIdeal.τ).loc Cert.QkvSecondReferenceIdeal.main_arg3)
          ∧ r.2.mem ((c.tc : Thread Cert.QkvSecondReferenceIdeal.nD Cert.QkvSecondReferenceIdeal.τ).loc Cert.QkvSecondReferenceIdeal.main_arg4) = m' ((c.tc : Thread Cert.QkvSecondReferenceIdeal.nD Cert.QkvSecondReferenceIdeal.τ).loc Cert.QkvSecondReferenceIdeal.main_arg4))

def preserves_QkvThird_QkvThirdIdeal : Prop :=
  IdealRules.named_const.Statement Cert.QkvThirdIdeal.κ "scale" .f32 0x3DB504F3#32 (((Real.sqrt 128)⁻¹ : ℝ) : EReal)

def algebraic_QkvThirdIdeal_QkvThirdReferenceIdeal_pre_tables_are_rotary [hQkvThirdIdeal : Cert.QkvThirdIdeal.Facts] [hQkvThirdReferenceIdeal : Cert.QkvThirdReferenceIdeal.Facts] [hPre_tables_are_rotary : Cert.Pre_tables_are_rotary.Facts] : Prop :=
  ∀ (m : (ℓ : Loc Cert.QkvThirdIdeal.nD Cert.QkvThirdIdeal.τ Cert.QkvThirdIdeal.sig) → Buf (Elt Ideal) ℓ) (g : Dev Cert.QkvThirdIdeal.nD → PrngReg)
    (m' : (ℓ : Loc Cert.QkvThirdReferenceIdeal.nD Cert.QkvThirdReferenceIdeal.τ Cert.QkvThirdReferenceIdeal.sig) → Buf (Elt Ideal) ℓ) (g' : Dev Cert.QkvThirdReferenceIdeal.nD → PrngReg), Pre_QkvThirdIdeal_tables_are_rotary m →
    (∀ c : Dev Cert.QkvThirdIdeal.nD,
      m' ((c.tc : Thread Cert.QkvThirdReferenceIdeal.nD Cert.QkvThirdReferenceIdeal.τ).loc Cert.QkvThirdReferenceIdeal.main_arg0) = m ((c.tc : Thread Cert.QkvThirdIdeal.nD Cert.QkvThirdIdeal.τ).loc Cert.QkvThirdIdeal.main_arg0)
      ∧ m' ((c.tc : Thread Cert.QkvThirdReferenceIdeal.nD Cert.QkvThirdReferenceIdeal.τ).loc Cert.QkvThirdReferenceIdeal.main_arg1) = m ((c.tc : Thread Cert.QkvThirdIdeal.nD Cert.QkvThirdIdeal.τ).loc Cert.QkvThirdIdeal.main_arg1)
      ∧ m' ((c.tc : Thread Cert.QkvThirdReferenceIdeal.nD Cert.QkvThirdReferenceIdeal.τ).loc Cert.QkvThirdReferenceIdeal.main_arg2) = m ((c.tc : Thread Cert.QkvThirdIdeal.nD Cert.QkvThirdIdeal.τ).loc Cert.QkvThirdIdeal.main_arg2)
      ∧ m' ((c.tc : Thread Cert.QkvThirdReferenceIdeal.nD Cert.QkvThirdReferenceIdeal.τ).loc Cert.QkvThirdReferenceIdeal.main_arg3) = m ((c.tc : Thread Cert.QkvThirdIdeal.nD Cert.QkvThirdIdeal.τ).loc Cert.QkvThirdIdeal.main_arg3)
      ∧ m' ((c.tc : Thread Cert.QkvThirdReferenceIdeal.nD Cert.QkvThirdReferenceIdeal.τ).loc Cert.QkvThirdReferenceIdeal.main_arg4) = m ((c.tc : Thread Cert.QkvThirdIdeal.nD Cert.QkvThirdIdeal.τ).loc Cert.QkvThirdIdeal.main_arg4)) →
    ∃ (v0 : (c : Dev Cert.QkvThirdIdeal.nD) → Buf (Elt Ideal) ((c.tc : Thread Cert.QkvThirdIdeal.nD Cert.QkvThirdIdeal.τ).loc Cert.QkvThirdIdeal.main_v0)),
      θ_run (Cert.QkvThirdIdeal.defs (F := Ideal)) (onTc (τ := Cert.QkvThirdIdeal.τ) (Cert.QkvThirdIdeal.main (F := Ideal))) ⟨m, fun _ => 0, g⟩ (fun r => ∀ c : Dev Cert.QkvThirdIdeal.nD,
          r.2.mem ((c.tc : Thread Cert.QkvThirdIdeal.nD Cert.QkvThirdIdeal.τ).loc Cert.QkvThirdIdeal.main_v0) = v0 c
          ∧ r.2.mem ((c.tc : Thread Cert.QkvThirdIdeal.nD Cert.QkvThirdIdeal.τ).loc Cert.QkvThirdIdeal.main_arg0) = m ((c.tc : Thread Cert.QkvThirdIdeal.nD Cert.QkvThirdIdeal.τ).loc Cert.QkvThirdIdeal.main_arg0)
          ∧ r.2.mem ((c.tc : Thread Cert.QkvThirdIdeal.nD Cert.QkvThirdIdeal.τ).loc Cert.QkvThirdIdeal.main_arg1) = m ((c.tc : Thread Cert.QkvThirdIdeal.nD Cert.QkvThirdIdeal.τ).loc Cert.QkvThirdIdeal.main_arg1)
          ∧ r.2.mem ((c.tc : Thread Cert.QkvThirdIdeal.nD Cert.QkvThirdIdeal.τ).loc Cert.QkvThirdIdeal.main_arg2) = m ((c.tc : Thread Cert.QkvThirdIdeal.nD Cert.QkvThirdIdeal.τ).loc Cert.QkvThirdIdeal.main_arg2)
          ∧ r.2.mem ((c.tc : Thread Cert.QkvThirdIdeal.nD Cert.QkvThirdIdeal.τ).loc Cert.QkvThirdIdeal.main_arg3) = m ((c.tc : Thread Cert.QkvThirdIdeal.nD Cert.QkvThirdIdeal.τ).loc Cert.QkvThirdIdeal.main_arg3)
          ∧ r.2.mem ((c.tc : Thread Cert.QkvThirdIdeal.nD Cert.QkvThirdIdeal.τ).loc Cert.QkvThirdIdeal.main_arg4) = m ((c.tc : Thread Cert.QkvThirdIdeal.nD Cert.QkvThirdIdeal.τ).loc Cert.QkvThirdIdeal.main_arg4))
      ∧ θ_run (Cert.QkvThirdReferenceIdeal.defs (F := Ideal)) (onTc (τ := Cert.QkvThirdReferenceIdeal.τ) (Cert.QkvThirdReferenceIdeal.main (F := Ideal))) ⟨m', fun _ => 0, g'⟩ (fun r => ∀ c : Dev Cert.QkvThirdReferenceIdeal.nD,
          r.2.mem ((c.tc : Thread Cert.QkvThirdReferenceIdeal.nD Cert.QkvThirdReferenceIdeal.τ).loc Cert.QkvThirdReferenceIdeal.main_v57) = v0 c
          ∧ r.2.mem ((c.tc : Thread Cert.QkvThirdReferenceIdeal.nD Cert.QkvThirdReferenceIdeal.τ).loc Cert.QkvThirdReferenceIdeal.main_arg0) = m' ((c.tc : Thread Cert.QkvThirdReferenceIdeal.nD Cert.QkvThirdReferenceIdeal.τ).loc Cert.QkvThirdReferenceIdeal.main_arg0)
          ∧ r.2.mem ((c.tc : Thread Cert.QkvThirdReferenceIdeal.nD Cert.QkvThirdReferenceIdeal.τ).loc Cert.QkvThirdReferenceIdeal.main_arg1) = m' ((c.tc : Thread Cert.QkvThirdReferenceIdeal.nD Cert.QkvThirdReferenceIdeal.τ).loc Cert.QkvThirdReferenceIdeal.main_arg1)
          ∧ r.2.mem ((c.tc : Thread Cert.QkvThirdReferenceIdeal.nD Cert.QkvThirdReferenceIdeal.τ).loc Cert.QkvThirdReferenceIdeal.main_arg2) = m' ((c.tc : Thread Cert.QkvThirdReferenceIdeal.nD Cert.QkvThirdReferenceIdeal.τ).loc Cert.QkvThirdReferenceIdeal.main_arg2)
          ∧ r.2.mem ((c.tc : Thread Cert.QkvThirdReferenceIdeal.nD Cert.QkvThirdReferenceIdeal.τ).loc Cert.QkvThirdReferenceIdeal.main_arg3) = m' ((c.tc : Thread Cert.QkvThirdReferenceIdeal.nD Cert.QkvThirdReferenceIdeal.τ).loc Cert.QkvThirdReferenceIdeal.main_arg3)
          ∧ r.2.mem ((c.tc : Thread Cert.QkvThirdReferenceIdeal.nD Cert.QkvThirdReferenceIdeal.τ).loc Cert.QkvThirdReferenceIdeal.main_arg4) = m' ((c.tc : Thread Cert.QkvThirdReferenceIdeal.nD Cert.QkvThirdReferenceIdeal.τ).loc Cert.QkvThirdReferenceIdeal.main_arg4))

def Claim : Prop :=
  ∃ (hKernel : Cert.Kernel.Facts) (hKernelIdeal : Cert.KernelIdeal.Facts) (hReferenceIdeal : Cert.ReferenceIdeal.Facts) (hFfnUp : Cert.FfnUp.Facts) (hFfnUpIdeal : Cert.FfnUpIdeal.Facts) (hFfnUpReferenceIdeal : Cert.FfnUpReferenceIdeal.Facts) (hFfnDown : Cert.FfnDown.Facts) (hFfnDownIdeal : Cert.FfnDownIdeal.Facts) (hFfnDownReferenceIdeal : Cert.FfnDownReferenceIdeal.Facts) (hBranchGates : Cert.BranchGates.Facts) (hBranchGatesIdeal : Cert.BranchGatesIdeal.Facts) (hBranchGatesReferenceIdeal : Cert.BranchGatesReferenceIdeal.Facts) (hBranchMerge : Cert.BranchMerge.Facts) (hBranchMergeIdeal : Cert.BranchMergeIdeal.Facts) (hBranchMergeReferenceIdeal : Cert.BranchMergeReferenceIdeal.Facts) (hConvGlu : Cert.ConvGlu.Facts) (hConvGluIdeal : Cert.ConvGluIdeal.Facts) (hConvGluReferenceIdeal : Cert.ConvGluReferenceIdeal.Facts) (hQkvFirst : Cert.QkvFirst.Facts) (hQkvFirstIdeal : Cert.QkvFirstIdeal.Facts) (hQkvFirstReferenceIdeal : Cert.QkvFirstReferenceIdeal.Facts) (hSpatialGating : Cert.SpatialGating.Facts) (hSpatialGatingIdeal : Cert.SpatialGatingIdeal.Facts) (hSpatialGatingReferenceIdeal : Cert.SpatialGatingReferenceIdeal.Facts) (hQkvSecond : Cert.QkvSecond.Facts) (hQkvSecondIdeal : Cert.QkvSecondIdeal.Facts) (hQkvSecondReferenceIdeal : Cert.QkvSecondReferenceIdeal.Facts) (hQkvThird : Cert.QkvThird.Facts) (hQkvThirdIdeal : Cert.QkvThirdIdeal.Facts) (hQkvThirdReferenceIdeal : Cert.QkvThirdReferenceIdeal.Facts) (hPre_finite_queries_keys : Cert.Pre_finite_queries_keys.Facts) (hPre_no_gate_is_minus_infinity : Cert.Pre_no_gate_is_minus_infinity.Facts) (hPre_no_conv_norm_is_minus_infinity : Cert.Pre_no_conv_norm_is_minus_infinity.Facts) (hPre_tables_are_rotary : Cert.Pre_tables_are_rotary.Facts),
    quiescent_Kernel (hKernel := hKernel)
    ∧ quiescent_KernelIdeal (hKernelIdeal := hKernelIdeal)
    ∧ quiescent_KernelIdeal_pre_finite_queries_keys (hKernelIdeal := hKernelIdeal) (hPre_finite_queries_keys := hPre_finite_queries_keys)
    ∧ quiescent_ReferenceIdeal (hReferenceIdeal := hReferenceIdeal)
    ∧ quiescent_ReferenceIdeal_pre_finite_queries_keys (hReferenceIdeal := hReferenceIdeal) (hPre_finite_queries_keys := hPre_finite_queries_keys)
    ∧ quiescent_FfnUp (hFfnUp := hFfnUp)
    ∧ quiescent_FfnUpIdeal (hFfnUpIdeal := hFfnUpIdeal)
    ∧ quiescent_FfnUpIdeal_pre_no_gate_is_minus_infinity (hFfnUpIdeal := hFfnUpIdeal) (hPre_no_gate_is_minus_infinity := hPre_no_gate_is_minus_infinity)
    ∧ quiescent_FfnUpReferenceIdeal (hFfnUpReferenceIdeal := hFfnUpReferenceIdeal)
    ∧ quiescent_FfnUpReferenceIdeal_pre_no_gate_is_minus_infinity (hFfnUpReferenceIdeal := hFfnUpReferenceIdeal) (hPre_no_gate_is_minus_infinity := hPre_no_gate_is_minus_infinity)
    ∧ quiescent_FfnDown (hFfnDown := hFfnDown)
    ∧ quiescent_FfnDownIdeal (hFfnDownIdeal := hFfnDownIdeal)
    ∧ quiescent_FfnDownReferenceIdeal (hFfnDownReferenceIdeal := hFfnDownReferenceIdeal)
    ∧ quiescent_BranchGates (hBranchGates := hBranchGates)
    ∧ quiescent_BranchGatesIdeal (hBranchGatesIdeal := hBranchGatesIdeal)
    ∧ quiescent_BranchGatesReferenceIdeal (hBranchGatesReferenceIdeal := hBranchGatesReferenceIdeal)
    ∧ quiescent_BranchMerge (hBranchMerge := hBranchMerge)
    ∧ quiescent_BranchMergeIdeal (hBranchMergeIdeal := hBranchMergeIdeal)
    ∧ quiescent_BranchMergeIdeal_pre_no_conv_norm_is_minus_infinity (hBranchMergeIdeal := hBranchMergeIdeal) (hPre_no_conv_norm_is_minus_infinity := hPre_no_conv_norm_is_minus_infinity)
    ∧ quiescent_BranchMergeReferenceIdeal (hBranchMergeReferenceIdeal := hBranchMergeReferenceIdeal)
    ∧ quiescent_BranchMergeReferenceIdeal_pre_no_conv_norm_is_minus_infinity (hBranchMergeReferenceIdeal := hBranchMergeReferenceIdeal) (hPre_no_conv_norm_is_minus_infinity := hPre_no_conv_norm_is_minus_infinity)
    ∧ quiescent_ConvGlu (hConvGlu := hConvGlu)
    ∧ quiescent_ConvGluIdeal (hConvGluIdeal := hConvGluIdeal)
    ∧ quiescent_ConvGluReferenceIdeal (hConvGluReferenceIdeal := hConvGluReferenceIdeal)
    ∧ quiescent_QkvFirst (hQkvFirst := hQkvFirst)
    ∧ quiescent_QkvFirstIdeal (hQkvFirstIdeal := hQkvFirstIdeal)
    ∧ quiescent_QkvFirstIdeal_pre_tables_are_rotary (hQkvFirstIdeal := hQkvFirstIdeal) (hPre_tables_are_rotary := hPre_tables_are_rotary)
    ∧ quiescent_QkvFirstReferenceIdeal (hQkvFirstReferenceIdeal := hQkvFirstReferenceIdeal)
    ∧ quiescent_QkvFirstReferenceIdeal_pre_tables_are_rotary (hQkvFirstReferenceIdeal := hQkvFirstReferenceIdeal) (hPre_tables_are_rotary := hPre_tables_are_rotary)
    ∧ quiescent_SpatialGating (hSpatialGating := hSpatialGating)
    ∧ quiescent_SpatialGatingIdeal (hSpatialGatingIdeal := hSpatialGatingIdeal)
    ∧ quiescent_SpatialGatingReferenceIdeal (hSpatialGatingReferenceIdeal := hSpatialGatingReferenceIdeal)
    ∧ quiescent_QkvSecond (hQkvSecond := hQkvSecond)
    ∧ quiescent_QkvSecondIdeal (hQkvSecondIdeal := hQkvSecondIdeal)
    ∧ quiescent_QkvSecondIdeal_pre_tables_are_rotary (hQkvSecondIdeal := hQkvSecondIdeal) (hPre_tables_are_rotary := hPre_tables_are_rotary)
    ∧ quiescent_QkvSecondReferenceIdeal (hQkvSecondReferenceIdeal := hQkvSecondReferenceIdeal)
    ∧ quiescent_QkvSecondReferenceIdeal_pre_tables_are_rotary (hQkvSecondReferenceIdeal := hQkvSecondReferenceIdeal) (hPre_tables_are_rotary := hPre_tables_are_rotary)
    ∧ quiescent_QkvThird (hQkvThird := hQkvThird)
    ∧ quiescent_QkvThirdIdeal (hQkvThirdIdeal := hQkvThirdIdeal)
    ∧ quiescent_QkvThirdIdeal_pre_tables_are_rotary (hQkvThirdIdeal := hQkvThirdIdeal) (hPre_tables_are_rotary := hPre_tables_are_rotary)
    ∧ quiescent_QkvThirdReferenceIdeal (hQkvThirdReferenceIdeal := hQkvThirdReferenceIdeal)
    ∧ quiescent_QkvThirdReferenceIdeal_pre_tables_are_rotary (hQkvThirdReferenceIdeal := hQkvThirdReferenceIdeal) (hPre_tables_are_rotary := hPre_tables_are_rotary)
    ∧ preserves_Kernel_KernelIdeal
    ∧ algebraic_KernelIdeal_ReferenceIdeal_pre_finite_queries_keys (hKernelIdeal := hKernelIdeal) (hReferenceIdeal := hReferenceIdeal) (hPre_finite_queries_keys := hPre_finite_queries_keys)
    ∧ preserves_FfnUp_FfnUpIdeal
    ∧ algebraic_FfnUpIdeal_FfnUpReferenceIdeal_pre_no_gate_is_minus_infinity (hFfnUpIdeal := hFfnUpIdeal) (hFfnUpReferenceIdeal := hFfnUpReferenceIdeal) (hPre_no_gate_is_minus_infinity := hPre_no_gate_is_minus_infinity)
    ∧ preserves_FfnDown_FfnDownIdeal
    ∧ algebraic_FfnDownIdeal_FfnDownReferenceIdeal (hFfnDownIdeal := hFfnDownIdeal) (hFfnDownReferenceIdeal := hFfnDownReferenceIdeal)
    ∧ preserves_BranchGates_BranchGatesIdeal
    ∧ algebraic_BranchGatesIdeal_BranchGatesReferenceIdeal (hBranchGatesIdeal := hBranchGatesIdeal) (hBranchGatesReferenceIdeal := hBranchGatesReferenceIdeal)
    ∧ preserves_BranchMerge_BranchMergeIdeal
    ∧ algebraic_BranchMergeIdeal_BranchMergeReferenceIdeal_pre_no_conv_norm_is_minus_infinity (hBranchMergeIdeal := hBranchMergeIdeal) (hBranchMergeReferenceIdeal := hBranchMergeReferenceIdeal) (hPre_no_conv_norm_is_minus_infinity := hPre_no_conv_norm_is_minus_infinity)
    ∧ preserves_ConvGlu_ConvGluIdeal
    ∧ algebraic_ConvGluIdeal_ConvGluReferenceIdeal (hConvGluIdeal := hConvGluIdeal) (hConvGluReferenceIdeal := hConvGluReferenceIdeal)
    ∧ preserves_QkvFirst_QkvFirstIdeal
    ∧ algebraic_QkvFirstIdeal_QkvFirstReferenceIdeal_pre_tables_are_rotary (hQkvFirstIdeal := hQkvFirstIdeal) (hQkvFirstReferenceIdeal := hQkvFirstReferenceIdeal) (hPre_tables_are_rotary := hPre_tables_are_rotary)
    ∧ preserves_SpatialGating_SpatialGatingIdeal
    ∧ algebraic_SpatialGatingIdeal_SpatialGatingReferenceIdeal (hSpatialGatingIdeal := hSpatialGatingIdeal) (hSpatialGatingReferenceIdeal := hSpatialGatingReferenceIdeal)
    ∧ preserves_QkvSecond_QkvSecondIdeal
    ∧ algebraic_QkvSecondIdeal_QkvSecondReferenceIdeal_pre_tables_are_rotary (hQkvSecondIdeal := hQkvSecondIdeal) (hQkvSecondReferenceIdeal := hQkvSecondReferenceIdeal) (hPre_tables_are_rotary := hPre_tables_are_rotary)
    ∧ preserves_QkvThird_QkvThirdIdeal
    ∧ algebraic_QkvThirdIdeal_QkvThirdReferenceIdeal_pre_tables_are_rotary (hQkvThirdIdeal := hQkvThirdIdeal) (hQkvThirdReferenceIdeal := hQkvThirdReferenceIdeal) (hPre_tables_are_rotary := hPre_tables_are_rotary)
-- ==== Pre_finite_queries_keys.lean ====
abbrev S8192x1536 : Shape := ⟨2, ![8192, 1536]⟩
abbrev S8192x1024 : Shape := ⟨2, ![8192, 1024]⟩
abbrev S_ : Shape := ⟨0, ![]⟩

class Facts : Prop where
  slices_S8192x1536_S8192x1024_0_0 : S8192x1536.Slices ![0, 0] S8192x1024
  bitsLt_bf16_f32 : FTy.bits .bf16 < FTy.bits .f32
  bcast_S_S8192x1024 : S_.BroadcastsInDim S8192x1024 (![] : Fin 0 → Fin S8192x1024.rank)

variable [Facts]

def fn {F : FTy → Type} [FloatOps F] (main_arg0 : FVec F S8192x1536 .bf16) (main_arg1 : FVec F S8192x1536 .bf16) (main_arg2 : FVec F S8192x1536 .bf16) : IVec S8192x1024 1 :=
  let main_v0 : FVec F S8192x1024 .bf16 := (extractStridedSlice S8192x1024 ![0, 0] · slices_S8192x1536_S8192x1024_0_0) main_arg0
  let main_v1 : FVec F S8192x1024 .f32 := (extf .f32 · bitsLt_bf16_f32) main_v0
  let main_v2 : FVec F S8192x1024 .f32 := Host.absf main_v1
  let main_cst : FVec F S_ .f32 := constant S_ .f32 0x7F800000#32
  let main_v3 : FVec F S8192x1024 .f32 := broadcastInDim S8192x1024 ![] bcast_S_S8192x1024 main_cst
  let main_v4 : IVec S8192x1024 1 := cmpf .olt main_v2 main_v3
  let main_v5 : FVec F S8192x1024 .bf16 := (extractStridedSlice S8192x1024 ![0, 0] · slices_S8192x1536_S8192x1024_0_0) main_arg1
  let main_v6 : FVec F S8192x1024 .f32 := (extf .f32 · bitsLt_bf16_f32) main_v5
  let main_v7 : FVec F S8192x1024 .f32 := Host.absf main_v6
  let main_cst_0 : FVec F S_ .f32 := constant S_ .f32 0x7F800000#32
  let main_v8 : FVec F S8192x1024 .f32 := broadcastInDim S8192x1024 ![] bcast_S_S8192x1024 main_cst_0
  let main_v9 : IVec S8192x1024 1 := cmpf .olt main_v7 main_v8
  let main_v10 : FVec F S8192x1024 .bf16 := (extractStridedSlice S8192x1024 ![0, 0] · slices_S8192x1536_S8192x1024_0_0) main_arg2
  let main_v11 : FVec F S8192x1024 .f32 := (extf .f32 · bitsLt_bf16_f32) main_v10
  let main_v12 : FVec F S8192x1024 .f32 := Host.absf main_v11
  let main_cst_1 : FVec F S_ .f32 := constant S_ .f32 0x7F800000#32
  let main_v13 : FVec F S8192x1024 .f32 := broadcastInDim S8192x1024 ![] bcast_S_S8192x1024 main_cst_1
  let main_v14 : IVec S8192x1024 1 := cmpf .olt main_v12 main_v13
  let main_v15 : IVec S8192x1024 1 := andi main_v4 main_v9
  let main_v16 : IVec S8192x1024 1 := andi main_v15 main_v14
  main_v16
-- ==== Pre_no_conv_norm_is_minus_infinity.lean ====
abbrev S8192x512 : Shape := ⟨2, ![8192, 512]⟩
abbrev S8x8192x128 : Shape := ⟨3, ![8, 8192, 128]⟩
abbrev S8192x1024 : Shape := ⟨2, ![8192, 1024]⟩
abbrev S8192x6144 : Shape := ⟨2, ![8192, 6144]⟩
abbrev S8192x2048 : Shape := ⟨2, ![8192, 2048]⟩
abbrev S512x2048 : Shape := ⟨2, ![512, 2048]⟩
abbrev S1024x2048 : Shape := ⟨2, ![1024, 2048]⟩
abbrev S2048x2048 : Shape := ⟨2, ![2048, 2048]⟩
abbrev S2x1024 : Shape := ⟨2, ![2, 1024]⟩
abbrev S2x2048 : Shape := ⟨2, ![2, 2048]⟩
abbrev S8192x8x128 : Shape := ⟨3, ![8192, 8, 128]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

class Facts : Prop where
  transposes_S8x8192x128_S8192x8x128_1_0_2 : S8x8192x128.Transposes [1, 0, 2] S8192x8x128
  shapeCasts_S8192x8x128_S8192x1024 : S8192x8x128.ShapeCasts S8192x1024
  slices_S2x1024_S1x1024_0_0 : S2x1024.Slices ![0, 0] S1x1024
  shapeCasts_S1x1024_S1024 : S1x1024.ShapeCasts S1024
  reducesTo_S8192x1024_S8192_d1 : S8192x1024.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x1024_0_1 : S8192x1.BroadcastsInDim S8192x1024 (![0, 1] : Fin 2 → Fin S8192x1024.rank)
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  bcast_S_S8192x1024 : S_.BroadcastsInDim S8192x1024 (![] : Fin 0 → Fin S8192x1024.rank)

variable [Facts]

def fn_part1 {F : FTy → Type} [FloatOps F] (main_v3 : FVec F S1024 .f32) (main_v5 : FVec F S1024 .f32) (main_v16 : FVec F S8192x1 .f32) (main_v18 : FVec F S8192x1024 .f32) (main_cst_3 : FVec F S_ .f32) : IVec S8192x1024 1 :=
  let main_v19 : FVec F S8192x1 .f32 := broadcastInDim S8192x1 ![] bcast_S_S8192x1 main_cst_3
  let main_v20 : FVec F S8192x1 .f32 := addf main_v16 main_v19
  let main_v21 : FVec F S8192x1 .f32 := Host.rsqrt main_v20
  let main_v22 : FVec F S8192x1024 .f32 := broadcastInDim S8192x1024 ![0, 1] bcast_S8192x1_S8192x1024_0_1 main_v21
  let main_v23 : FVec F S8192x1024 .f32 := mulf main_v18 main_v22
  let main_v24 : FVec F S1x1024 .f32 := broadcastInDim S1x1024 ![1] bcast_S1024_S1x1024_1 main_v3
  let main_v25 : FVec F S8192x1024 .f32 := broadcastInDim S8192x1024 ![0, 1] bcast_S1x1024_S8192x1024_0_1 main_v24
  let main_v26 : FVec F S8192x1024 .f32 := mulf main_v23 main_v25
  let main_v27 : FVec F S1x1024 .f32 := broadcastInDim S1x1024 ![1] bcast_S1024_S1x1024_1 main_v5
  let main_v28 : FVec F S8192x1024 .f32 := broadcastInDim S8192x1024 ![0, 1] bcast_S1x1024_S8192x1024_0_1 main_v27
  let main_v29 : FVec F S8192x1024 .f32 := addf main_v26 main_v28
  let main_cst_4 : FVec F S_ .f32 := constant S_ .f32 0xFF800000#32
  let main_v30 : FVec F S8192x1024 .f32 := broadcastInDim S8192x1024 ![] bcast_S_S8192x1024 main_cst_4
  let main_v31 : IVec S8192x1024 1 := cmpf .ogt main_v29 main_v30
  main_v31

def fn {F : FTy → Type} [FloatOps F] (main_arg0 : FVec F S8192x512 .bf16) (main_arg1 : FVec F S8x8192x128 .f32) (main_arg2 : FVec F S8192x1024 .bf16) (main_arg3 : FVec F S8192x6144 .bf16) (main_arg4 : FVec F S8192x2048 .f32) (main_arg5 : FVec F S512x2048 .bf16) (main_arg6 : FVec F S1024x2048 .bf16) (main_arg7 : FVec F S1024x2048 .bf16) (main_arg8 : FVec F S2048x2048 .bf16) (main_arg9 : FVec F S2x1024 .f32) (main_arg10 : FVec F S2x1024 .f32) (main_arg11 : FVec F S2x2048 .f32) (main_arg12 : FVec F S2x2048 .f32) : IVec S8192x1024 1 :=
  let main_v0 : FVec F S8192x8x128 .f32 := (transpose S8192x8x128 [1, 0, 2] · transposes_S8x8192x128_S8192x8x128_1_0_2) main_arg1
  let main_v1 : FVec F S8192x1024 .f32 := shapeCast S8192x1024 main_v0 shapeCasts_S8192x8x128_S8192x1024
  let main_v2 : FVec F S1x1024 .f32 := (extractStridedSlice S1x1024 ![0, 0] · slices_S2x1024_S1x1024_0_0) main_arg9
  let main_v3 : FVec F S1024 .f32 := shapeCast S1024 main_v2 shapeCasts_S1x1024_S1024
  let main_v4 : FVec F S1x1024 .f32 := (extractStridedSlice S1x1024 ![0, 0] · slices_S2x1024_S1x1024_0_0) main_arg10
  let main_v5 : FVec F S1024 .f32 := shapeCast S1024 main_v4 shapeCasts_S1x1024_S1024
  let main_cst : FVec F S_ .f32 := constant S_ .f32 0x00000000#32
  let main_v6 : FVec F S8192 .f32 := (fun x v => Host.reduceAdd x v reducesTo_S8192x1024_S8192_d1 h_S_) main_v1 main_cst
  let main_v7 : FVec F S8192x1 .f32 := broadcastInDim S8192x1 ![0] bcast_S8192_S8192x1_0 main_v6
  let main_cst_0 : FVec F S_ .f32 := constant S_ .f32 0x44800000#32
  let main_v8 : FVec F S8192x1 .f32 := broadcastInDim S8192x1 ![] bcast_S_S8192x1 main_cst_0
  let main_v9 : FVec F S8192x1 .f32 := Host.divf main_v7 main_v8
  let main_v10 : FVec F S8192x1024 .f32 := broadcastInDim S8192x1024 ![0, 1] bcast_S8192x1_S8192x1024_0_1 main_v9
  let main_v11 : FVec F S8192x1024 .f32 := subf main_v1 main_v10
  let main_v12 : FVec F S8192x1024 .f32 := mulf main_v11 main_v11
  let main_cst_1 : FVec F S_ .f32 := constant S_ .f32 0x00000000#32
  let main_v13 : FVec F S8192 .f32 := (fun x v => Host.reduceAdd x v reducesTo_S8192x1024_S8192_d1 h_S_) main_v12 main_cst_1
  let main_v14 : FVec F S8192x1 .f32 := broadcastInDim S8192x1 ![0] bcast_S8192_S8192x1_0 main_v13
  let main_cst_2 : FVec F S_ .f32 := constant S_ .f32 0x44800000#32
  let main_v15 : FVec F S8192x1 .f32 := broadcastInDim S8192x1 ![] bcast_S_S8192x1 main_cst_2
  let main_v16 : FVec F S8192x1 .f32 := Host.divf main_v14 main_v15
  let main_v17 : FVec F S8192x1024 .f32 := broadcastInDim S8192x1024 ![0, 1] bcast_S8192x1_S8192x1024_0_1 main_v9
  let main_v18 : FVec F S8192x1024 .f32 := subf main_v1 main_v17
  let main_cst_3 : FVec F S_ .f32 := constant S_ .f32 0x3727C5AC#32
  fn_part1 (F := F) main_v3 main_v5 main_v16 main_v18 main_cst_3
-- ==== Pre_no_gate_is_minus_infinity.lean ====
abbrev S8192x2048 : Shape := ⟨2, ![8192, 2048]⟩
abbrev S2x2048x5632 : Shape := ⟨3, ![2, 2048, 5632]⟩
abbrev S2x5632x2048 : Shape := ⟨3, ![2, 5632, 2048]⟩
abbrev S1x2048x5632 : Shape := ⟨3, ![1, 2048, 5632]⟩
abbrev S2048x5632 : Shape := ⟨2, ![2048, 5632]⟩
abbrev S8192x5632 : Shape := ⟨2, ![8192, 5632]⟩
abbrev S_ : Shape := ⟨0, ![]⟩

class Facts : Prop where
  bitsLt_bf16_f32 : FTy.bits .bf16 < FTy.bits .f32
  slices_S2x2048x5632_S1x2048x5632_0_0_0 : S2x2048x5632.Slices ![0, 0, 0] S1x2048x5632
  shapeCasts_S1x2048x5632_S2048x5632 : S1x2048x5632.ShapeCasts S2048x5632
  bcast_S_S8192x5632 : S_.BroadcastsInDim S8192x5632 (![] : Fin 0 → Fin S8192x5632.rank)
  dot_S8192x2048_S2048x5632_S8192x5632_1_0_0_1_n_n_wf : DotDims.WF S8192x2048 S2048x5632 S8192x5632 [1] [0] [0] [1] [] []

variable [Facts]

def dot_S8192x2048_S2048x5632_S8192x5632_1_0_0_1_n_n : DotDims S8192x2048 S2048x5632 S8192x5632 where
  lhsContracting := [1]
  rhsContracting := [0]
  lhsNonContracting := [0]
  rhsNonContracting := [1]
  lhsBatch := []
  rhsBatch := []
  wf := dot_S8192x2048_S2048x5632_S8192x5632_1_0_0_1_n_n_wf
def fn {F : FTy → Type} [FloatOps F] (main_arg0 : FVec F S8192x2048 .bf16) (main_arg1 : FVec F S2x2048x5632 .f32) (main_arg2 : FVec F S2x2048x5632 .f32) (main_arg3 : FVec F S2x5632x2048 .f32) : IVec S8192x5632 1 :=
  let main_v0 : FVec F S8192x2048 .f32 := (extf .f32 · bitsLt_bf16_f32) main_arg0
  let main_v1 : FVec F S1x2048x5632 .f32 := (extractStridedSlice S1x2048x5632 ![0, 0, 0] · slices_S2x2048x5632_S1x2048x5632_0_0_0) main_arg1
  let main_v2 : FVec F S2048x5632 .f32 := shapeCast S2048x5632 main_v1 shapeCasts_S1x2048x5632_S2048x5632
  let main_v3 : FVec F S8192x5632 .f32 := (fun l r => Host.dotGeneral dot_S8192x2048_S2048x5632_S8192x5632_1_0_0_1_n_n none l r) main_v0 main_v2
  let main_cst : FVec F S_ .f32 := constant S_ .f32 0xFF800000#32
  let main_v4 : FVec F S8192x5632 .f32 := broadcastInDim S8192x5632 ![] bcast_S_S8192x5632 main_cst
  let main_v5 : IVec S8192x5632 1 := cmpf .ogt main_v3 main_v4
  main_v5
-- ==== Pre_tables_are_rotary.lean ====
abbrev S8192x2048 : Shape := ⟨2, ![8192, 2048]⟩
abbrev S2x2048x14848 : Shape := ⟨3, ![2, 2048, 14848]⟩
abbrev S2048x128 : Shape := ⟨2, ![2048, 128]⟩
abbrev S2048x16 : Shape := ⟨2, ![2048, 16]⟩
abbrev S_ : Shape := ⟨0, ![]⟩
abbrev S2048x96 : Shape := ⟨2, ![2048, 96]⟩

class Facts : Prop where
  slices_S2048x128_S2048x16_0_0 : S2048x128.Slices ![0, 0] S2048x16
  slices_S2048x128_S2048x16_0_16 : S2048x128.Slices ![0, 16] S2048x16
  bcast_S_S2048x16 : S_.BroadcastsInDim S2048x16 (![] : Fin 0 → Fin S2048x16.rank)
  bcast_S_S2048x96 : S_.BroadcastsInDim S2048x96 (![] : Fin 0 → Fin S2048x96.rank)
  concatenates_S2048x16_S2048x16_S2048x96_S2048x128_d1 : Shape.Concatenates [S2048x16, S2048x16, S2048x96] S2048x128 1

variable [Facts]

def fn {F : FTy → Type} [FloatOps F] (main_arg0 : FVec F S8192x2048 .bf16) (main_arg1 : FVec F S2x2048x14848 .f32) (main_arg2 : FVec F S2048x128 .f32) (main_arg3 : FVec F S2048x128 .f32) (main_arg4 : FVec F S2048x128 .f32) : IVec S2048x128 1 :=
  let main_v0 : FVec F S2048x16 .f32 := (extractStridedSlice S2048x16 ![0, 0] · slices_S2048x128_S2048x16_0_0) main_arg2
  let main_v1 : FVec F S2048x16 .f32 := (extractStridedSlice S2048x16 ![0, 16] · slices_S2048x128_S2048x16_0_16) main_arg4
  let main_cst : FVec F S_ .f32 := constant S_ .f32 0x00000000#32
  let main_v2 : FVec F S2048x16 .f32 := broadcastInDim S2048x16 ![] bcast_S_S2048x16 main_cst
  let main_cst_0 : FVec F S_ .f32 := constant S_ .f32 0x00000000#32
  let main_v3 : FVec F S2048x96 .f32 := broadcastInDim S2048x96 ![] bcast_S_S2048x96 main_cst_0
  let main_cst_1 : FVec F S_ .f32 := constant S_ .f32 0x3F800000#32
  let main_v4 : FVec F S2048x96 .f32 := broadcastInDim S2048x96 ![] bcast_S_S2048x96 main_cst_1
  let main_v5 : FVec F S2048x96 .f32 := addf main_v3 main_v4
  let main_v6 : FVec F S2048x128 .f32 := concatenate S2048x128 1 [⟨S2048x16, main_v0⟩, ⟨S2048x16, main_v0⟩, ⟨S2048x96, main_v5⟩] concatenates_S2048x16_S2048x16_S2048x96_S2048x128_d1
  let main_v7 : IVec S2048x128 1 := cmpf .oeq main_arg2 main_v6
  let main_v8 : FVec F S2048x16 .f32 := Host.negf main_v1
  let main_v9 : FVec F S2048x128 .f32 := concatenate S2048x128 1 [⟨S2048x16, main_v8⟩, ⟨S2048x16, main_v2⟩, ⟨S2048x96, main_v3⟩] concatenates_S2048x16_S2048x16_S2048x96_S2048x128_d1
  let main_v10 : IVec S2048x128 1 := cmpf .oeq main_arg3 main_v9
  let main_v11 : IVec S2048x128 1 := andi main_v7 main_v10
  let main_v12 : FVec F S2048x128 .f32 := concatenate S2048x128 1 [⟨S2048x16, main_v2⟩, ⟨S2048x16, main_v1⟩, ⟨S2048x96, main_v3⟩] concatenates_S2048x16_S2048x16_S2048x96_S2048x128_d1
  let main_v13 : IVec S2048x128 1 := cmpf .oeq main_arg4 main_v12
  let main_v14 : IVec S2048x128 1 := andi main_v11 main_v13
  main_v14
-- ==== Kernel.lean ====
abbrev S8192x1536 : Shape := ⟨2, ![8192, 1536]⟩
abbrev S8192x512 : Shape := ⟨2, ![8192, 512]⟩
abbrev S2048x128 : Shape := ⟨2, ![2048, 128]⟩
abbrev S2048x256 : Shape := ⟨2, ![2048, 256]⟩
abbrev S128x256 : Shape := ⟨2, ![128, 256]⟩
abbrev S128x128 : Shape := ⟨2, ![128, 128]⟩
abbrev S128 : Shape := ⟨1, ![128]⟩
abbrev S128x1 : Shape := ⟨2, ![128, 1]⟩
abbrev S256x128 : Shape := ⟨2, ![256, 128]⟩
abbrev S256x256 : Shape := ⟨2, ![256, 256]⟩
abbrev S64x128 : Shape := ⟨2, ![64, 128]⟩
abbrev S64x256 : Shape := ⟨2, ![64, 256]⟩

abbrev nBuf : Space → Nat
  | .hbm => 4
  | .vmem => 32
  | .smem => 0
  | _ => 0

abbrev bufTy : (tb : Table) → Fin (tcTables nBuf tb) → BufTy
  | .hbm, ⟨0, _⟩ => ⟨S8192x1536, .bf16⟩
  | .hbm, ⟨1, _⟩ => ⟨S8192x1536, .bf16⟩
  | .hbm, ⟨2, _⟩ => ⟨S8192x1536, .bf16⟩
  | .hbm, ⟨3, _⟩ => ⟨S8192x512, .bf16⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .bf16⟩
  | .local _ .vmem, ⟨9, _⟩ => ⟨S2048x128, .bf16⟩
  | .local _ .vmem, ⟨10, _⟩ => ⟨S2048x128, .bf16⟩
  | .local _ .vmem, ⟨11, _⟩ => ⟨S2048x128, .bf16⟩
  | .local _ .vmem, ⟨12, _⟩ => ⟨S2048x128, .bf16⟩
  | .local _ .vmem, ⟨13, _⟩ => ⟨S2048x128, .bf16⟩
  | .local _ .vmem, ⟨14, _⟩ => ⟨S2048x128, .bf16⟩
  | .local _ .vmem, ⟨15, _⟩ => ⟨S2048x128, .bf16⟩
  | .local _ .vmem, ⟨16, _⟩ => ⟨S2048x128, .bf16⟩
  | .local _ .vmem, ⟨17, _⟩ => ⟨S2048x128, .bf16⟩
  | .local _ .vmem, ⟨18, _⟩ => ⟨S2048x128, .bf16⟩
  | .local _ .vmem, ⟨19, _⟩ => ⟨S2048x128, .bf16⟩
  | .local _ .vmem, ⟨20, _⟩ => ⟨S2048x128, .f32⟩
  | .local _ .vmem, ⟨21, _⟩ => ⟨S2048x128, .f32⟩
  | .local _ .vmem, ⟨22, _⟩ => ⟨S2048x128, .f32⟩
  | .local _ .vmem, ⟨23, _⟩ => ⟨S2048x128, .f32⟩
  | .local _ .vmem, ⟨24, _⟩ => ⟨S2048x128, .f32⟩
  | .local _ .vmem, ⟨25, _⟩ => ⟨S2048x128, .f32⟩
  | .local _ .vmem, ⟨26, _⟩ => ⟨S2048x128, .f32⟩
  | .local _ .vmem, ⟨27, _⟩ => ⟨S2048x128, .f32⟩
  | .local _ .vmem, ⟨28, _⟩ => ⟨S2048x128, .f32⟩
  | .local _ .vmem, ⟨29, _⟩ => ⟨S2048x256, .bf16⟩
  | .local _ .vmem, ⟨30, _⟩ => ⟨S2048x256, .bf16⟩
  | .local _ .vmem, ⟨31, _⟩ => ⟨S2048x256, .bf16⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_scratch6 : Ref sig .tc := ⟨.vmem, 26, rfl⟩
abbrev cc0_scratch7 : Ref sig .tc := ⟨.vmem, 27, rfl⟩
abbrev cc0_scratch8 : Ref sig .tc := ⟨.vmem, 28, rfl⟩
abbrev cc0_scratch9 : Ref sig .tc := ⟨.vmem, 29, rfl⟩
abbrev cc0_scratch10 : Ref sig .tc := ⟨.vmem, 30, rfl⟩
abbrev cc0_scratch11 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8192x1536 : Shape := ⟨2, ![8192, 1536]⟩
abbrev S4x2x1x1024x3x4x128 : Shape := ⟨7, ![4, 2, 1, 1024, 3, 4, 128]⟩
abbrev S3x4x2x1024x1x4x128 : Shape := ⟨7, ![3, 4, 2, 1024, 1, 4, 128]⟩
abbrev S3x4x2048x4x128 : Shape := ⟨5, ![3, 4, 2048, 4, 128]⟩
abbrev S4x2x4x256x3x4x128 : Shape := ⟨7, ![4, 2, 4, 256, 3, 4, 128]⟩
abbrev S3x4x2x256x4x4x128 : Shape := ⟨7, ![3, 4, 2, 256, 4, 4, 128]⟩
abbrev S4x2x16x64x3x4x128 : Shape := ⟨7, ![4, 2, 16, 64, 3, 4, 128]⟩
abbrev S3x4x2x64x16x4x128 : Shape := ⟨7, ![3, 4, 2, 64, 16, 4, 128]⟩
abbrev S3x1x4x2048x4x128 : Shape := ⟨6, ![3, 1, 4, 2048, 4, 128]⟩
abbrev S3x3x4x2048x4x128 : Shape := ⟨6, ![3, 3, 4, 2048, 4, 128]⟩
abbrev S1x3x4x2048x4x128 : Shape := ⟨6, ![1, 3, 4, 2048, 4, 128]⟩
abbrev S3x4x4x2048x2048 : Shape := ⟨5, ![3, 4, 4, 2048, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S1x2048x2048 : Shape := ⟨3, ![1, 2048, 2048]⟩
abbrev S3x2048x2048 : Shape := ⟨3, ![3, 2048, 2048]⟩
abbrev S3x1x1x2048x2048 : Shape := ⟨5, ![3, 1, 1, 2048, 2048]⟩
abbrev S3x4x4x2048 : Shape := ⟨4, ![3, 4, 4, 2048]⟩
abbrev S3x4x4x2048x1 : Shape := ⟨5, ![3, 4, 4, 2048, 1]⟩
abbrev S3x4x4x128x2048 : Shape := ⟨5, ![3, 4, 4, 128, 2048]⟩
abbrev S3x4x2048x4 : Shape := ⟨4, ![3, 4, 2048, 4]⟩
abbrev S4x2048x4 : Shape := ⟨3, ![4, 2048, 4]⟩
abbrev S1x4x2048x4 : Shape := ⟨4, ![1, 4, 2048, 4]⟩
abbrev S3x4x2048x4x1 : Shape := ⟨5, ![3, 4, 2048, 4, 1]⟩
abbrev S4x2048x4x128 : Shape := ⟨4, ![4, 2048, 4, 128]⟩
abbrev S8192x512 : Shape := ⟨2, ![8192, 512]⟩

abbrev nBuf : Space → Nat
  | .hbm => 134
  | .vmem => 0
  | .smem => 0
  | _ => 0

abbrev hbmTy0_0 (i : Nat) : BufTy := match i % 128 with
  | 0 => ⟨S8192x1536, .bf16⟩
  | 1 => ⟨S8192x1536, .bf16⟩
  | 2 => ⟨S8192x1536, .bf16⟩
  | 3 => ⟨S8192x1536, .f32⟩
  | 4 => ⟨S4x2x1x1024x3x4x128, .f32⟩
  | 5 => ⟨S3x4x2x1024x1x4x128, .f32⟩
  | 6 => ⟨S3x4x2048x4x128, .f32⟩
  | 7 => ⟨S8192x1536, .f32⟩
  | 8 => ⟨S4x2x4x256x3x4x128, .f32⟩
  | 9 => ⟨S3x4x2x256x4x4x128, .f32⟩
  | 10 => ⟨S3x4x2048x4x128, .f32⟩
  | 11 => ⟨S8192x1536, .f32⟩
  | 12 => ⟨S4x2x16x64x3x4x128, .f32⟩
  | 13 => ⟨S3x4x2x64x16x4x128, .f32⟩
  | 14 => ⟨S3x4x2048x4x128, .f32⟩
  | 15 => ⟨S3x1x4x2048x4x128, .f32⟩
  | 16 => ⟨S3x1x4x2048x4x128, .f32⟩
  | 17 => ⟨S3x1x4x2048x4x128, .f32⟩
  | 18 => ⟨S3x3x4x2048x4x128, .f32⟩
  | 19 => ⟨S1x3x4x2048x4x128, .f32⟩
  | 20 => ⟨S3x4x2048x4x128, .f32⟩
  | 21 => ⟨S1x3x4x2048x4x128, .f32⟩
  | 22 => ⟨S3x4x2048x4x128, .f32⟩
  | 23 => ⟨S1x3x4x2048x4x128, .f32⟩
  | 24 => ⟨S3x4x2048x4x128, .f32⟩
  | 25 => ⟨S3x4x4x2048x2048, .f32⟩
  | 26 => ⟨S2048, .i32⟩
  | 27 => ⟨S2048x1, .i32⟩
  | 28 => ⟨S1x2048, .i32⟩
  | 29 => ⟨S2048x2048, .i32⟩
  | 30 => ⟨S2048x2048, .i32⟩
  | 31 => ⟨S2048x2048, .i32⟩
  | 32 => ⟨S_, .i32⟩
  | 33 => ⟨S2048x2048, .i32⟩
  | 34 => ⟨S2048x2048, .i1⟩
  | 35 => ⟨S_, .i32⟩
  | 36 => ⟨S2048x2048, .i32⟩
  | 37 => ⟨S2048x2048, .i1⟩
  | 38 => ⟨S2048x2048, .i1⟩
  | 39 => ⟨S_, .i32⟩
  | 40 => ⟨S2048x2048, .i32⟩
  | 41 => ⟨S2048x2048, .i32⟩
  | 42 => ⟨S_, .i32⟩
  | 43 => ⟨S2048x2048, .i32⟩
  | 44 => ⟨S2048x2048, .i1⟩
  | 45 => ⟨S2048x2048, .i1⟩
  | 46 => ⟨S2048, .i32⟩
  | 47 => ⟨S2048x1, .i32⟩
  | 48 => ⟨S1x2048, .i32⟩
  | 49 => ⟨S2048x2048, .i32⟩
  | 50 => ⟨S2048x2048, .i32⟩
  | 51 => ⟨S2048x2048, .i32⟩
  | 52 => ⟨S_, .i32⟩
  | 53 => ⟨S2048x2048, .i32⟩
  | 54 => ⟨S2048x2048, .i1⟩
  | 55 => ⟨S_, .i32⟩
  | 56 => ⟨S2048x2048, .i32⟩
  | 57 => ⟨S2048x2048, .i1⟩
  | 58 => ⟨S2048x2048, .i1⟩
  | 59 => ⟨S_, .i32⟩
  | 60 => ⟨S2048x2048, .i32⟩
  | 61 => ⟨S2048x2048, .i32⟩
  | 62 => ⟨S_, .i32⟩
  | 63 => ⟨S2048x2048, .i32⟩
  | 64 => ⟨S2048x2048, .i1⟩
  | 65 => ⟨S2048x2048, .i1⟩
  | 66 => ⟨S2048, .i32⟩
  | 67 => ⟨S2048x1, .i32⟩
  | 68 => ⟨S1x2048, .i32⟩
  | 69 => ⟨S2048x2048, .i32⟩
  | 70 => ⟨S2048x2048, .i32⟩
  | 71 => ⟨S2048x2048, .i32⟩
  | 72 => ⟨S_, .i32⟩
  | 73 => ⟨S2048x2048, .i32⟩
  | 74 => ⟨S2048x2048, .i1⟩
  | 75 => ⟨S_, .i32⟩
  | 76 => ⟨S2048x2048, .i32⟩
  | 77 => ⟨S2048x2048, .i1⟩
  | 78 => ⟨S2048x2048, .i1⟩
  | 79 => ⟨S_, .i32⟩
  | 80 => ⟨S2048x2048, .i32⟩
  | 81 => ⟨S2048x2048, .i32⟩
  | 82 => ⟨S_, .i32⟩
  | 83 => ⟨S2048x2048, .i32⟩
  | 84 => ⟨S2048x2048, .i1⟩
  | 85 => ⟨S2048x2048, .i1⟩
  | 86 => ⟨S1x2048x2048, .i1⟩
  | 87 => ⟨S1x2048x2048, .i1⟩
  | 88 => ⟨S1x2048x2048, .i1⟩
  | 89 => ⟨S3x2048x2048, .i1⟩
  | 90 => ⟨S3x1x1x2048x2048, .i1⟩
  | 91 => ⟨S_, .f32⟩
  | 92 => ⟨S_, .f32⟩
  | 93 => ⟨S3x4x4x2048x2048, .i1⟩
  | 94 => ⟨S3x4x4x2048x2048, .f32⟩
  | 95 => ⟨S3x4x4x2048x2048, .f32⟩
  | 96 => ⟨S_, .f32⟩
  | 97 => ⟨S3x4x4x2048, .f32⟩
  | 98 => ⟨S3x4x4x2048x1, .f32⟩
  | 99 => ⟨S3x4x4x2048x2048, .f32⟩
  | 100 => ⟨S3x4x4x2048x2048, .f32⟩
  | 101 => ⟨S3x4x4x2048x2048, .f32⟩
  | 102 => ⟨S_, .f32⟩
  | 103 => ⟨S3x4x4x2048, .f32⟩
  | 104 => ⟨S3x4x4x2048x1, .f32⟩
  | 105 => ⟨S3x4x4x2048x2048, .f32⟩
  | 106 => ⟨S3x4x4x2048x2048, .f32⟩
  | 107 => ⟨S3x4x4x128x2048, .f32⟩
  | 108 => ⟨S3x4x2048x4x128, .f32⟩
  | 109 => ⟨S3x4x4x2048x1, .f32⟩
  | 110 => ⟨S3x4x4x2048x1, .f32⟩
  | 111 => ⟨S3x4x4x2048, .f32⟩
  | 112 => ⟨S3x4x2048x4, .f32⟩
  | 113 => ⟨S_, .f32⟩
  | 114 => ⟨S4x2048x4, .f32⟩
  | 115 => ⟨S_, .f32⟩
  | 116 => ⟨S4x2048x4, .f32⟩
  | 117 => ⟨S4x2048x4, .f32⟩
  | 118 => ⟨S1x4x2048x4, .f32⟩
  | 119 => ⟨S3x4x2048x4, .f32⟩
  | 120 => ⟨S3x4x2048x4, .f32⟩
  | 121 => ⟨S3x4x2048x4, .f32⟩
  | 122 => ⟨S_, .f32⟩
  | 123 => ⟨S4x2048x4, .f32⟩
  | 124 => ⟨S1x4x2048x4, .f32⟩
  | 125 => ⟨S3x4x2048x4, .f32⟩
  | 126 => ⟨S3x4x2048x4, .f32⟩
  | 127 => ⟨S3x4x2048x4x1, .f32⟩
  | _ => ⟨S8192x1536, .bf16⟩

abbrev hbmTy0_1 (i : Nat) : BufTy := match i % 128 with
  | 0 => ⟨S3x4x2048x4x128, .f32⟩
  | 1 => ⟨S3x4x2048x4x128, .f32⟩
  | 2 => ⟨S_, .f32⟩
  | 3 => ⟨S4x2048x4x128, .f32⟩
  | 4 => ⟨S8192x512, .f32⟩
  | 5 => ⟨S8192x512, .bf16⟩
  | _ => ⟨S8192x1536, .bf16⟩

abbrev hbmTy (i : Nat) : BufTy := match i / 128 with
  | 0 => hbmTy0_0 i
  | 1 => hbmTy0_1 i
  | _ => ⟨S8192x1536, .bf16⟩

abbrev bufTy : (tb : Table) → Fin (tcTables nBuf tb) → BufTy
  | .hbm, ⟨i, _⟩ => hbmTy i
  | _, _ => ⟨S8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_c : Ref sig .tc := ⟨.hbm, 32, rfl⟩
abbrev main_v29 : Ref sig .tc := ⟨.hbm, 33, rfl⟩
abbrev main_v30 : Ref sig .tc := ⟨.hbm, 34, rfl⟩
abbrev main_c_0 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_c_1 : Ref sig .tc := ⟨.hbm, 39, rfl⟩
abbrev main_v34 : Ref sig .tc := ⟨.hbm, 40, rfl⟩
abbrev main_v35 : Ref sig .tc := ⟨.hbm, 41, rfl⟩
abbrev main_c_2 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_c_3 : Ref sig .tc := ⟨.hbm, 52, rfl⟩
abbrev main_v45 : Ref sig .tc := ⟨.hbm, 53, rfl⟩
abbrev main_v46 : Ref sig .tc := ⟨.hbm, 54, rfl⟩
abbrev main_c_4 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_c_5 : Ref sig .tc := ⟨.hbm, 59, rfl⟩
abbrev main_v50 : Ref sig .tc := ⟨.hbm, 60, rfl⟩
abbrev main_v51 : Ref sig .tc := ⟨.hbm, 61, rfl⟩
abbrev main_c_6 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_c_7 : Ref sig .tc := ⟨.hbm, 72, rfl⟩
abbrev main_v61 : Ref sig .tc := ⟨.hbm, 73, rfl⟩
abbrev main_v62 : Ref sig .tc := ⟨.hbm, 74, rfl⟩
abbrev main_c_8 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_c_9 : Ref sig .tc := ⟨.hbm, 79, rfl⟩
abbrev main_v66 : Ref sig .tc := ⟨.hbm, 80, rfl⟩
abbrev main_v67 : Ref sig .tc := ⟨.hbm, 81, rfl⟩
abbrev main_c_10 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_cst : Ref sig .tc := ⟨.hbm, 91, rfl⟩
abbrev main_call0_v0 : Ref sig .tc := ⟨.hbm, 92, rfl⟩
abbrev main_call0_v1 : Ref sig .tc := ⟨.hbm, 93, rfl⟩
abbrev main_call0_v2 : Ref sig .tc := ⟨.hbm, 94, rfl⟩
abbrev main_v76 : Ref sig .tc := ⟨.hbm, 95, rfl⟩
abbrev main_cst_11 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_cst_12 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_cst_13 : Ref sig .tc := ⟨.hbm, 113, rfl⟩
abbrev main_v92 : Ref sig .tc := ⟨.hbm, 114, rfl⟩
abbrev main_cst_14 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_cst_15 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_cst_16 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩

abbrev nD : Nat := 1
abbrev τ : Topo := Topo.v7x

variable {F : FTy → Type} [FloatOps F]
-- ==== FfnUp.lean ====
abbrev S8192x2048 : Shape := ⟨2, ![8192, 2048]⟩
abbrev S2x2048x5632 : Shape := ⟨3, ![2, 2048, 5632]⟩
abbrev S2x5632x2048 : Shape := ⟨3, ![2, 5632, 2048]⟩
abbrev S8192x5632 : Shape := ⟨2, ![8192, 5632]⟩
abbrev S5632x2048 : Shape := ⟨2, ![5632, 2048]⟩
abbrev S1024x2048 : Shape := ⟨2, ![1024, 2048]⟩
abbrev S1x2048x512 : Shape := ⟨3, ![1, 2048, 512]⟩
abbrev S1x64x2048 : Shape := ⟨3, ![1, 64, 2048]⟩
abbrev S1024x512 : Shape := ⟨2, ![1024, 512]⟩
abbrev S64x2048 : Shape := ⟨2, ![64, 2048]⟩
abbrev S2048x1024 : Shape := ⟨2, ![2048, 1024]⟩
abbrev S2048x512 : Shape := ⟨2, ![2048, 512]⟩
abbrev S1024x1024 : Shape := ⟨2, ![1024, 1024]⟩

abbrev nBuf : Space → Nat
  | .hbm => 6
  | .vmem => 13
  | .smem => 0
  | _ => 0

abbrev bufTy : (tb : Table) → Fin (tcTables nBuf tb) → BufTy
  | .hbm, ⟨0, _⟩ => ⟨S8192x2048, .bf16⟩
  | .hbm, ⟨1, _⟩ => ⟨S2x2048x5632, .f32⟩
  | .hbm, ⟨2, _⟩ => ⟨S2x2048x5632, .f32⟩
  | .hbm, ⟨3, _⟩ => ⟨S2x5632x2048, .f32⟩
  | .hbm, ⟨4, _⟩ => ⟨S8192x5632, .bf16⟩
  | .hbm, ⟨5, _⟩ => ⟨S5632x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1x64x2048, .f32⟩
  | .local _ .vmem, ⟨7, _⟩ => ⟨S1x64x2048, .f32⟩
  | .local _ .vmem, ⟨8, _⟩ => ⟨S1024x512, .bf16⟩
  | .local _ .vmem, ⟨9, _⟩ => ⟨S1024x512, .bf16⟩
  | .local _ .vmem, ⟨10, _⟩ => ⟨S64x2048, .bf16⟩
  | .local _ .vmem, ⟨11, _⟩ => ⟨S64x2048, .bf16⟩
  | .local _ .vmem, ⟨12, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![11, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  let c0_i32_1 : BitVec 32 := 0#32
  let c0_i32_2 : BitVec 32 := 0#32
  ![c0_i32_0.toNat, c0_i32_1.toNat, v1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c0_i32 : BitVec 32 := 0#32
  let v1 : BitVec 32 := Scalar.addi c0_i32 v0
  let c0_i32_0 : BitVec 32 := 0#32
  let c0_i32_1 : BitVec 32 := 0#32
  let c0_i32_2 : BitVec 32 := 0#32
  ![c0_i32_0.toNat, c0_i32_1.toNat, v1.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnUpReferenceIdeal.lean ====
abbrev S8192x2048 : Shape := ⟨2, ![8192, 2048]⟩
abbrev S2x2048x5632 : Shape := ⟨3, ![2, 2048, 5632]⟩
abbrev S2x5632x2048 : Shape := ⟨3, ![2, 5632, 2048]⟩
abbrev S1x2048x5632 : Shape := ⟨3, ![1, 2048, 5632]⟩
abbrev S2048x5632 : Shape := ⟨2, ![2048, 5632]⟩
abbrev S8192x5632 : Shape := ⟨2, ![8192, 5632]⟩
abbrev S_ : Shape := ⟨0, ![]⟩
abbrev S1x5632x2048 : Shape := ⟨3, ![1, 5632, 2048]⟩
abbrev S5632x2048 : Shape := ⟨2, ![5632, 2048]⟩

abbrev nBuf : Space → Nat
  | .hbm => 25
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x5632, .f32⟩
  | .hbm, ⟨2, _⟩ => ⟨S2x2048x5632, .f32⟩
  | .hbm, ⟨3, _⟩ => ⟨S2x5632x2048, .f32⟩
  | .hbm, ⟨4, _⟩ => ⟨S8192x2048, .f32⟩
  | .hbm, ⟨5, _⟩ => ⟨S1x2048x5632, .f32⟩
  | .hbm, ⟨6, _⟩ => ⟨S2048x5632, .f32⟩
  | .hbm, ⟨7, _⟩ => ⟨S8192x5632, .f32⟩
  | .hbm, ⟨8, _⟩ => ⟨S8192x5632, .f32⟩
  | .hbm, ⟨9, _⟩ => ⟨S8192x5632, .f32⟩
  | .hbm, ⟨10, _⟩ => ⟨S_, .f32⟩
  | .hbm, ⟨11, _⟩ => ⟨S8192x5632, .f32⟩
  | .hbm, ⟨12, _⟩ => ⟨S8192x5632, .f32⟩
  | .hbm, ⟨13, _⟩ => ⟨S_, .f32⟩
  | .hbm, ⟨14, _⟩ => ⟨S8192x5632, .f32⟩
  | .hbm, ⟨15, _⟩ => ⟨S8192x5632, .f32⟩
  | .hbm, ⟨16, _⟩ => ⟨S8192x5632, .f32⟩
  | .hbm, ⟨17, _⟩ => ⟨S1x2048x5632, .f32⟩
  | .hbm, ⟨18, _⟩ => ⟨S2048x5632, .f32⟩
  | .hbm, ⟨19, _⟩ => ⟨S8192x5632, .f32⟩
  | .hbm, ⟨20, _⟩ => ⟨S8192x5632, .f32⟩
  | .hbm, ⟨21, _⟩ => ⟨S8192x5632, .bf16⟩
  | .hbm, ⟨22, _⟩ => ⟨S1x5632x2048, .f32⟩
  | .hbm, ⟨23, _⟩ => ⟨S5632x2048, .f32⟩
  | .hbm, ⟨24, _⟩ => ⟨S5632x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩

abbrev nD : Nat := 1
abbrev τ : Topo := Topo.v7x

variable {F : FTy → Type} [FloatOps F]
-- ==== FfnDown.lean ====
abbrev S8192x5632 : Shape := ⟨2, ![8192, 5632]⟩
abbrev S8192x2048 : Shape := ⟨2, ![8192, 2048]⟩
abbrev S5632x2048 : Shape := ⟨2, ![5632, 2048]⟩
abbrev S2x2048 : Shape := ⟨2, ![2, 2048]⟩
abbrev S2x1x2048 : Shape := ⟨3, ![2, 1, 2048]⟩
abbrev S256x5632 : Shape := ⟨2, ![256, 5632]⟩
abbrev S256x2048 : Shape := ⟨2, ![256, 2048]⟩
abbrev S1x1x2048 : Shape := ⟨3, ![1, 1, 2048]⟩
abbrev S1x2048 : Shape := ⟨2, ![1, 2048]⟩
abbrev S256 : Shape := ⟨1, ![256]⟩
abbrev S256x1 : Shape := ⟨2, ![256, 1]⟩

abbrev nBuf : Space → Nat
  | .hbm => 9
  | .vmem => 11
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .f32⟩
  | .hbm, ⟨2, _⟩ => ⟨S5632x2048, .bf16⟩
  | .hbm, ⟨3, _⟩ => ⟨S2x2048, .f32⟩
  | .hbm, ⟨4, _⟩ => ⟨S2x2048, .f32⟩
  | .hbm, ⟨5, _⟩ => ⟨S2x1x2048, .f32⟩
  | .hbm, ⟨6, _⟩ => ⟨S2x1x2048, .f32⟩
  | .hbm, ⟨7, _⟩ => ⟨S8192x2048, .f32⟩
  | .hbm, ⟨8, _⟩ => ⟨S8192x2048, .bf16⟩
  | .local _ .vmem, ⟨0, _⟩ => ⟨S256x5632, .bf16⟩
  | .local _ .vmem, ⟨1, _⟩ => ⟨S256x5632, .bf16⟩
  | .local _ .vmem, ⟨2, _⟩ => ⟨S256x2048, .f32⟩
  | .local _ .vmem, ⟨3, _⟩ => ⟨S256x2048, .f32⟩
  | .local _ .vmem, ⟨4, _⟩ => ⟨S5632x2048, .bf16⟩
  | .local _ .vmem, ⟨5, _⟩ => ⟨S1x1x2048, .f32⟩
  | .local _ .vmem, ⟨6, _⟩ => ⟨S1x1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S5632x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnDownReferenceIdeal.lean ====
abbrev S8192x5632 : Shape := ⟨2, ![8192, 5632]⟩
abbrev S8192x2048 : Shape := ⟨2, ![8192, 2048]⟩
abbrev S5632x2048 : Shape := ⟨2, ![5632, 2048]⟩
abbrev S2x2048 : Shape := ⟨2, ![2, 2048]⟩
abbrev S_ : Shape := ⟨0, ![]⟩
abbrev S1x2048 : Shape := ⟨2, ![1, 2048]⟩
abbrev S2048 : Shape := ⟨1, ![2048]⟩
abbrev S8192 : Shape := ⟨1, ![8192]⟩
abbrev S8192x1 : Shape := ⟨2, ![8192, 1]⟩

abbrev nBuf : Space → Nat
  | .hbm => 46
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .f32⟩
  | .hbm, ⟨2, _⟩ => ⟨S5632x2048, .bf16⟩
  | .hbm, ⟨3, _⟩ => ⟨S2x2048, .f32⟩
  | .hbm, ⟨4, _⟩ => ⟨S2x2048, .f32⟩
  | .hbm, ⟨5, _⟩ => ⟨S_, .f32⟩
  | .hbm, ⟨6, _⟩ => ⟨S8192x2048, .f32⟩
  | .hbm, ⟨7, _⟩ => ⟨S8192x2048, .f32⟩
  | .hbm, ⟨8, _⟩ => ⟨S8192x5632, .f32⟩
  | .hbm, ⟨9, _⟩ => ⟨S5632x2048, .f32⟩
  | .hbm, ⟨10, _⟩ => ⟨S8192x2048, .f32⟩
  | .hbm, ⟨11, _⟩ => ⟨S8192x2048, .f32⟩
  | .hbm, ⟨12, _⟩ => ⟨S1x2048, .f32⟩
  | .hbm, ⟨13, _⟩ => ⟨S2048, .f32⟩
  | .hbm, ⟨14, _⟩ => ⟨S1x2048, .f32⟩
  | .hbm, ⟨15, _⟩ => ⟨S2048, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x2048, .f32⟩
  | .hbm, ⟨32, _⟩ => ⟨S8192x2048, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x1, .f32⟩
  | .hbm, ⟨37, _⟩ => ⟨S8192x2048, .f32⟩
  | .hbm, ⟨38, _⟩ => ⟨S8192x2048, .f32⟩
  | .hbm, ⟨39, _⟩ => ⟨S1x2048, .f32⟩
  | .hbm, ⟨40, _⟩ => ⟨S8192x2048, .f32⟩
  | .hbm, ⟨41, _⟩ => ⟨S8192x2048, .f32⟩
  | .hbm, ⟨42, _⟩ => ⟨S1x2048, .f32⟩
  | .hbm, ⟨43, _⟩ => ⟨S8192x2048, .f32⟩
  | .hbm, ⟨44, _⟩ => ⟨S8192x2048, .f32⟩
  | .hbm, ⟨45, _⟩ => ⟨S8192x2048, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== BranchGates.lean ====
abbrev S8192x2048 : Shape := ⟨2, ![8192, 2048]⟩
abbrev S2x2048x14848 : Shape := ⟨3, ![2, 2048, 14848]⟩
abbrev S2x512x2048 : Shape := ⟨3, ![2, 512, 2048]⟩
abbrev S2x1024x2048 : Shape := ⟨3, ![2, 1024, 2048]⟩
abbrev S2x2048x2048 : Shape := ⟨3, ![2, 2048, 2048]⟩
abbrev S8192x6144 : Shape := ⟨2, ![8192, 6144]⟩
abbrev S512x2048 : Shape := ⟨2, ![512, 2048]⟩
abbrev S1024x2048 : Shape := ⟨2, ![1024, 2048]⟩
abbrev S2048x2048 : Shape := ⟨2, ![2048, 2048]⟩
abbrev S1x2048x512 : Shape := ⟨3, ![1, 2048, 512]⟩
abbrev S1x16x2048 : Shape := ⟨3, ![1, 16, 2048]⟩
abbrev S1x32x2048 : Shape := ⟨3, ![1, 32, 2048]⟩
abbrev S1x64x2048 : Shape := ⟨3, ![1, 64, 2048]⟩
abbrev S1024x1536 : Shape := ⟨2, ![1024, 1536]⟩
abbrev S16x2048 : Shape := ⟨2, ![16, 2048]⟩
abbrev S32x2048 : Shape := ⟨2, ![32, 2048]⟩
abbrev S64x2048 : Shape := ⟨2, ![64, 2048]⟩
abbrev S2048x1536 : Shape := ⟨2, ![2048, 1536]⟩
abbrev S2048x512 : Shape := ⟨2, ![2048, 512]⟩

abbrev nBuf : Space → Nat
  | .hbm => 11
  | .vmem => 27
  | .smem => 0
  | _ => 0

abbrev bufTy : (tb : Table) → Fin (tcTables nBuf tb) → BufTy
  | .hbm, ⟨0, _⟩ => ⟨S8192x2048, .bf16⟩
  | .hbm, ⟨1, _⟩ => ⟨S2x2048x14848, .f32⟩
  | .hbm, ⟨2, _⟩ => ⟨S2x512x2048, .f32⟩
  | .hbm, ⟨3, _⟩ => ⟨S2x1024x2048, .f32⟩
  | .hbm, ⟨4, _⟩ => ⟨S2x1024x2048, .f32⟩
  | .hbm, ⟨5, _⟩ => ⟨S2x2048x2048, .f32⟩
  | .hbm, ⟨6, _⟩ => ⟨S8192x6144, .bf16⟩
  | .hbm, ⟨7, _⟩ => ⟨S512x2048, .bf16⟩
  | .hbm, ⟨8, _⟩ => ⟨S1024x2048, .bf16⟩
  | .hbm, ⟨9, _⟩ => ⟨S1024x2048, .bf16⟩
  | .hbm, ⟨10, _⟩ => ⟨S2048x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1x2048x512, .f32⟩
  | .local _ .vmem, ⟨7, _⟩ => ⟨S1x2048x512, .f32⟩
  | .local _ .vmem, ⟨8, _⟩ => ⟨S1x16x2048, .f32⟩
  | .local _ .vmem, ⟨9, _⟩ => ⟨S1x16x2048, .f32⟩
  | .local _ .vmem, ⟨10, _⟩ => ⟨S1x32x2048, .f32⟩
  | .local _ .vmem, ⟨11, _⟩ => ⟨S1x32x2048, .f32⟩
  | .local _ .vmem, ⟨12, _⟩ => ⟨S1x32x2048, .f32⟩
  | .local _ .vmem, ⟨13, _⟩ => ⟨S1x32x2048, .f32⟩
  | .local _ .vmem, ⟨14, _⟩ => ⟨S1x64x2048, .f32⟩
  | .local _ .vmem, ⟨15, _⟩ => ⟨S1x64x2048, .f32⟩
  | .local _ .vmem, ⟨16, _⟩ => ⟨S1024x1536, .bf16⟩
  | .local _ .vmem, ⟨17, _⟩ => ⟨S1024x1536, .bf16⟩
  | .local _ .vmem, ⟨18, _⟩ => ⟨S16x2048, .bf16⟩
  | .local _ .vmem, ⟨19, _⟩ => ⟨S16x2048, .bf16⟩
  | .local _ .vmem, ⟨20, _⟩ => ⟨S32x2048, .bf16⟩
  | .local _ .vmem, ⟨21, _⟩ => ⟨S32x2048, .bf16⟩
  | .local _ .vmem, ⟨22, _⟩ => ⟨S32x2048, .bf16⟩
  | .local _ .vmem, ⟨23, _⟩ => ⟨S32x2048, .bf16⟩
  | .local _ .vmem, ⟨24, _⟩ => ⟨S64x2048, .bf16⟩
  | .local _ .vmem, ⟨25, _⟩ => ⟨S64x2048, .bf16⟩
  | .local _ .vmem, ⟨26, _⟩ => ⟨S2048x1536, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli c3_i32 arg0
  let c17_i32 : BitVec 32 := 17#32
  let v1 : BitVec 32 := Scalar.addi c17_i32 v0
  let c0_i32 : BitVec 32 := 0#32
  let c0_i32_0 : BitVec 32 := 0#32
  let c0_i32_1 : BitVec 32 := 0#32
  ![c0_i32.toNat, c0_i32_0.toNat, v1.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli c3_i32 arg0
  let c18_i32 : BitVec 32 := 18#32
  let v1 : BitVec 32 := Scalar.addi c18_i32 v0
  let c0_i32 : BitVec 32 := 0#32
  let c0_i32_0 : BitVec 32 := 0#32
  let c0_i32_1 : BitVec 32 := 0#32
  ![c0_i32.toNat, c0_i32_0.toNat, v1.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli c3_i32 arg0
  let c19_i32 : BitVec 32 := 19#32
  let v1 : BitVec 32 := Scalar.addi c19_i32 v0
  let c0_i32 : BitVec 32 := 0#32
  let c0_i32_0 : BitVec 32 := 0#32
  let c0_i32_1 : BitVec 32 := 0#32
  ![c0_i32.toNat, c0_i32_0.toNat, v1.toNat]

def cc0_transform_4 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x16x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x32x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x32x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x1536 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S16x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S32x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S32x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S64x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== BranchGatesReferenceIdeal.lean ====
abbrev S8192x2048 : Shape := ⟨2, ![8192, 2048]⟩
abbrev S2x2048x14848 : Shape := ⟨3, ![2, 2048, 14848]⟩
abbrev S2x512x2048 : Shape := ⟨3, ![2, 512, 2048]⟩
abbrev S2x1024x2048 : Shape := ⟨3, ![2, 1024, 2048]⟩
abbrev S2x2048x2048 : Shape := ⟨3, ![2, 2048, 2048]⟩
abbrev S1x2048x6144 : Shape := ⟨3, ![1, 2048, 6144]⟩
abbrev S2048x6144 : Shape := ⟨2, ![2048, 6144]⟩
abbrev S8192x6144 : Shape := ⟨2, ![8192, 6144]⟩
abbrev S_ : Shape := ⟨0, ![]⟩
abbrev S1x512x2048 : Shape := ⟨3, ![1, 512, 2048]⟩
abbrev S512x2048 : Shape := ⟨2, ![512, 2048]⟩
abbrev S1x1024x2048 : Shape := ⟨3, ![1, 1024, 2048]⟩
abbrev S1024x2048 : Shape := ⟨2, ![1024, 2048]⟩
abbrev S1x2048x2048 : Shape := ⟨3, ![1, 2048, 2048]⟩
abbrev S2048x2048 : Shape := ⟨2, ![2048, 2048]⟩

abbrev nBuf : Space → Nat
  | .hbm => 31
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x14848, .f32⟩
  | .hbm, ⟨2, _⟩ => ⟨S2x512x2048, .f32⟩
  | .hbm, ⟨3, _⟩ => ⟨S2x1024x2048, .f32⟩
  | .hbm, ⟨4, _⟩ => ⟨S2x1024x2048, .f32⟩
  | .hbm, ⟨5, _⟩ => ⟨S2x2048x2048, .f32⟩
  | .hbm, ⟨6, _⟩ => ⟨S8192x2048, .f32⟩
  | .hbm, ⟨7, _⟩ => ⟨S1x2048x6144, .f32⟩
  | .hbm, ⟨8, _⟩ => ⟨S2048x6144, .f32⟩
  | .hbm, ⟨9, _⟩ => ⟨S8192x6144, .f32⟩
  | .hbm, ⟨10, _⟩ => ⟨S8192x6144, .f32⟩
  | .hbm, ⟨11, _⟩ => ⟨S8192x6144, .f32⟩
  | .hbm, ⟨12, _⟩ => ⟨S_, .f32⟩
  | .hbm, ⟨13, _⟩ => ⟨S8192x6144, .f32⟩
  | .hbm, ⟨14, _⟩ => ⟨S8192x6144, .f32⟩
  | .hbm, ⟨15, _⟩ => ⟨S_, .f32⟩
  | .hbm, ⟨16, _⟩ => ⟨S8192x6144, .f32⟩
  | .hbm, ⟨17, _⟩ => ⟨S8192x6144, .f32⟩
  | .hbm, ⟨18, _⟩ => ⟨S8192x6144, .bf16⟩
  | .hbm, ⟨19, _⟩ => ⟨S1x512x2048, .f32⟩
  | .hbm, ⟨20, _⟩ => ⟨S512x2048, .f32⟩
  | .hbm, ⟨21, _⟩ => ⟨S512x2048, .bf16⟩
  | .hbm, ⟨22, _⟩ => ⟨S1x1024x2048, .f32⟩
  | .hbm, ⟨23, _⟩ => ⟨S1024x2048, .f32⟩
  | .hbm, ⟨24, _⟩ => ⟨S1024x2048, .bf16⟩
  | .hbm, ⟨25, _⟩ => ⟨S1x1024x2048, .f32⟩
  | .hbm, ⟨26, _⟩ => ⟨S1024x2048, .f32⟩
  | .hbm, ⟨27, _⟩ => ⟨S1024x2048, .bf16⟩
  | .hbm, ⟨28, _⟩ => ⟨S1x2048x2048, .f32⟩
  | .hbm, ⟨29, _⟩ => ⟨S2048x2048, .f32⟩
  | .hbm, ⟨30, _⟩ => ⟨S2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== BranchMerge.lean ====
abbrev S8192x512 : Shape := ⟨2, ![8192, 512]⟩
abbrev S8x8192x128 : Shape := ⟨3, ![8, 8192, 128]⟩
abbrev S8192x1024 : Shape := ⟨2, ![8192, 1024]⟩
abbrev S8192x6144 : Shape := ⟨2, ![8192, 6144]⟩
abbrev S8192x2048 : Shape := ⟨2, ![8192, 2048]⟩
abbrev S512x2048 : Shape := ⟨2, ![512, 2048]⟩
abbrev S1024x2048 : Shape := ⟨2, ![1024, 2048]⟩
abbrev S2048x2048 : Shape := ⟨2, ![2048, 2048]⟩
abbrev S2x1024 : Shape := ⟨2, ![2, 1024]⟩
abbrev S2x2048 : Shape := ⟨2, ![2, 2048]⟩
abbrev S2x1x1024 : Shape := ⟨3, ![2, 1, 1024]⟩
abbrev S2x1x2048 : Shape := ⟨3, ![2, 1, 2048]⟩
abbrev S256x512 : Shape := ⟨2, ![256, 512]⟩
abbrev S8x256x128 : Shape := ⟨3, ![8, 256, 128]⟩
abbrev S256x1024 : Shape := ⟨2, ![256, 1024]⟩
abbrev S256x2048 : Shape := ⟨2, ![256, 2048]⟩
abbrev S1x1x1024 : Shape := ⟨3, ![1, 1, 1024]⟩
abbrev S1x1x2048 : Shape := ⟨3, ![1, 1, 2048]⟩
abbrev S1x256x128 : Shape := ⟨3, ![1, 256, 128]⟩
abbrev S256x128 : Shape := ⟨2, ![256, 128]⟩
abbrev S1x1024 : Shape := ⟨2, ![1, 1024]⟩
abbrev S256 : Shape := ⟨1, ![256]⟩
abbrev S256x1 : Shape := ⟨2, ![256, 1]⟩
abbrev S1x2048 : Shape := ⟨2, ![1, 2048]⟩

abbrev nBuf : Space → Nat
  | .hbm => 19
  | .vmem => 26
  | .smem => 0
  | _ => 0

abbrev bufTy : (tb : Table) → Fin (tcTables nBuf tb) → BufTy
  | .hbm, ⟨0, _⟩ => ⟨S8192x512, .bf16⟩
  | .hbm, ⟨1, _⟩ => ⟨S8x8192x128, .f32⟩
  | .hbm, ⟨2, _⟩ => ⟨S8192x1024, .bf16⟩
  | .hbm, ⟨3, _⟩ => ⟨S8192x6144, .bf16⟩
  | .hbm, ⟨4, _⟩ => ⟨S8192x2048, .f32⟩
  | .hbm, ⟨5, _⟩ => ⟨S512x2048, .bf16⟩
  | .hbm, ⟨6, _⟩ => ⟨S1024x2048, .bf16⟩
  | .hbm, ⟨7, _⟩ => ⟨S1024x2048, .bf16⟩
  | .hbm, ⟨8, _⟩ => ⟨S2048x2048, .bf16⟩
  | .hbm, ⟨9, _⟩ => ⟨S2x1024, .f32⟩
  | .hbm, ⟨10, _⟩ => ⟨S2x1024, .f32⟩
  | .hbm, ⟨11, _⟩ => ⟨S2x2048, .f32⟩
  | .hbm, ⟨12, _⟩ => ⟨S2x2048, .f32⟩
  | .hbm, ⟨13, _⟩ => ⟨S2x1x1024, .f32⟩
  | .hbm, ⟨14, _⟩ => ⟨S2x1x1024, .f32⟩
  | .hbm, ⟨15, _⟩ => ⟨S2x1x2048, .f32⟩
  | .hbm, ⟨16, _⟩ => ⟨S2x1x2048, .f32⟩
  | .hbm, ⟨17, _⟩ => ⟨S8192x2048, .f32⟩
  | .hbm, ⟨18, _⟩ => ⟨S8192x2048, .bf16⟩
  | .local _ .vmem, ⟨0, _⟩ => ⟨S256x512, .bf16⟩
  | .local _ .vmem, ⟨1, _⟩ => ⟨S256x512, .bf16⟩
  | .local _ .vmem, ⟨2, _⟩ => ⟨S8x256x128, .f32⟩
  | .local _ .vmem, ⟨3, _⟩ => ⟨S8x256x128, .f32⟩
  | .local _ .vmem, ⟨4, _⟩ => ⟨S256x1024, .bf16⟩
  | .local _ .vmem, ⟨5, _⟩ => ⟨S256x1024, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S256x2048, .bf16⟩
  | .local _ .vmem, ⟨11, _⟩ => ⟨S256x2048, .bf16⟩
  | .local _ .vmem, ⟨12, _⟩ => ⟨S256x2048, .f32⟩
  | .local _ .vmem, ⟨13, _⟩ => ⟨S256x2048, .f32⟩
  | .local _ .vmem, ⟨14, _⟩ => ⟨S512x2048, .bf16⟩
  | .local _ .vmem, ⟨15, _⟩ => ⟨S1024x2048, .bf16⟩
  | .local _ .vmem, ⟨16, _⟩ => ⟨S1024x2048, .bf16⟩
  | .local _ .vmem, ⟨17, _⟩ => ⟨S2048x2048, .bf16⟩
  | .local _ .vmem, ⟨18, _⟩ => ⟨S1x1x1024, .f32⟩
  | .local _ .vmem, ⟨19, _⟩ => ⟨S1x1x1024, .f32⟩
  | .local _ .vmem, ⟨20, _⟩ => ⟨S1x1x2048, .f32⟩
  | .local _ .vmem, ⟨21, _⟩ => ⟨S1x1x2048, .f32⟩
  | .local _ .vmem, ⟨22, _⟩ => ⟨S256x2048, .f32⟩
  | .local _ .vmem, ⟨23, _⟩ => ⟨S256x2048, .f32⟩
  | .local _ .vmem, ⟨24, _⟩ => ⟨S256x2048, .bf16⟩
  | .local _ .vmem, ⟨25, _⟩ => ⟨S256x2048, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4_0 : Ref sig .tc := ⟨.hbm, 17, rfl⟩
abbrev main_v4_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem15_1 : DmaSem sig := 23
abbrev cc0_sem16_0 : DmaSem sig := 24
abbrev cc0_sem16_1 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S512x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2048x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x2048 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== BranchMergeReferenceIdeal.lean ====
abbrev S8192x512 : Shape := ⟨2, ![8192, 512]⟩
abbrev S8x8192x128 : Shape := ⟨3, ![8, 8192, 128]⟩
abbrev S8192x1024 : Shape := ⟨2, ![8192, 1024]⟩
abbrev S8192x6144 : Shape := ⟨2, ![8192, 6144]⟩
abbrev S8192x2048 : Shape := ⟨2, ![8192, 2048]⟩
abbrev S512x2048 : Shape := ⟨2, ![512, 2048]⟩
abbrev S1024x2048 : Shape := ⟨2, ![1024, 2048]⟩
abbrev S2048x2048 : Shape := ⟨2, ![2048, 2048]⟩
abbrev S2x1024 : Shape := ⟨2, ![2, 1024]⟩
abbrev S2x2048 : Shape := ⟨2, ![2, 2048]⟩
abbrev S8192x8x128 : Shape := ⟨3, ![8192, 8, 128]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S2048 : Shape := ⟨1, ![2048]⟩

abbrev nBuf : Space → Nat
  | .hbm => 114
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8x8192x128, .f32⟩
  | .hbm, ⟨2, _⟩ => ⟨S8192x1024, .bf16⟩
  | .hbm, ⟨3, _⟩ => ⟨S8192x6144, .bf16⟩
  | .hbm, ⟨4, _⟩ => ⟨S8192x2048, .f32⟩
  | .hbm, ⟨5, _⟩ => ⟨S512x2048, .bf16⟩
  | .hbm, ⟨6, _⟩ => ⟨S1024x2048, .bf16⟩
  | .hbm, ⟨7, _⟩ => ⟨S1024x2048, .bf16⟩
  | .hbm, ⟨8, _⟩ => ⟨S2048x2048, .bf16⟩
  | .hbm, ⟨9, _⟩ => ⟨S2x1024, .f32⟩
  | .hbm, ⟨10, _⟩ => ⟨S2x1024, .f32⟩
  | .hbm, ⟨11, _⟩ => ⟨S2x2048, .f32⟩
  | .hbm, ⟨12, _⟩ => ⟨S2x2048, .f32⟩
  | .hbm, ⟨13, _⟩ => ⟨S8192x512, .f32⟩
  | .hbm, ⟨14, _⟩ => ⟨S8192x1024, .f32⟩
  | .hbm, ⟨15, _⟩ => ⟨S8192x6144, .f32⟩
  | .hbm, ⟨16, _⟩ => ⟨S512x2048, .f32⟩
  | .hbm, ⟨17, _⟩ => ⟨S1024x2048, .f32⟩
  | .hbm, ⟨18, _⟩ => ⟨S1024x2048, .f32⟩
  | .hbm, ⟨19, _⟩ => ⟨S2048x2048, .f32⟩
  | .hbm, ⟨20, _⟩ => ⟨S8192x2048, .f32⟩
  | .hbm, ⟨21, _⟩ => ⟨S8192x8x128, .f32⟩
  | .hbm, ⟨22, _⟩ => ⟨S8192x1024, .f32⟩
  | .hbm, ⟨23, _⟩ => ⟨S1x1024, .f32⟩
  | .hbm, ⟨24, _⟩ => ⟨S1024, .f32⟩
  | .hbm, ⟨25, _⟩ => ⟨S1x1024, .f32⟩
  | .hbm, ⟨26, _⟩ => ⟨S1024, .f32⟩
  | .hbm, ⟨27, _⟩ => ⟨S_, .f32⟩
  | .hbm, ⟨28, _⟩ => ⟨S8192, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S8192x1, .f32⟩
  | .hbm, ⟨48, _⟩ => ⟨S8192x1024, .f32⟩
  | .hbm, ⟨49, _⟩ => ⟨S8192x1024, .f32⟩
  | .hbm, ⟨50, _⟩ => ⟨S1x1024, .f32⟩
  | .hbm, ⟨51, _⟩ => ⟨S8192x1024, .f32⟩
  | .hbm, ⟨52, _⟩ => ⟨S8192x1024, .f32⟩
  | .hbm, ⟨53, _⟩ => ⟨S1x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S8192x1024, .f32⟩
  | .hbm, ⟨60, _⟩ => ⟨S8192x1024, .f32⟩
  | .hbm, ⟨61, _⟩ => ⟨S_, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x2048, .f32⟩
  | .hbm, ⟨66, _⟩ => ⟨S8192x2048, .f32⟩
  | .hbm, ⟨67, _⟩ => ⟨S8192x2048, .f32⟩
  | .hbm, ⟨68, _⟩ => ⟨S8192x2048, .f32⟩
  | .hbm, ⟨69, _⟩ => ⟨S8192x2048, .f32⟩
  | .hbm, ⟨70, _⟩ => ⟨S8192x2048, .f32⟩
  | .hbm, ⟨71, _⟩ => ⟨S8192x2048, .f32⟩
  | .hbm, ⟨72, _⟩ => ⟨S8192x2048, .f32⟩
  | .hbm, ⟨73, _⟩ => ⟨S8192x2048, .f32⟩
  | .hbm, ⟨74, _⟩ => ⟨S8192x2048, .f32⟩
  | .hbm, ⟨75, _⟩ => ⟨S_, .f32⟩
  | .hbm, ⟨76, _⟩ => ⟨S8192x2048, .f32⟩
  | .hbm, ⟨77, _⟩ => ⟨S8192x2048, .f32⟩
  | .hbm, ⟨78, _⟩ => ⟨S8192x2048, .f32⟩
  | .hbm, ⟨79, _⟩ => ⟨S8192x2048, .f32⟩
  | .hbm, ⟨80, _⟩ => ⟨S1x2048, .f32⟩
  | .hbm, ⟨81, _⟩ => ⟨S2048, .f32⟩
  | .hbm, ⟨82, _⟩ => ⟨S1x2048, .f32⟩
  | .hbm, ⟨83, _⟩ => ⟨S2048, .f32⟩
  | .hbm, ⟨84, _⟩ => ⟨S_, .f32⟩
  | .hbm, ⟨85, _⟩ => ⟨S8192, .f32⟩
  | .hbm, ⟨86, _⟩ => ⟨S8192x1, .f32⟩
  | .hbm, ⟨87, _⟩ => ⟨S_, .f32⟩
  | .hbm, ⟨88, _⟩ => ⟨S8192x1, .f32⟩
  | .hbm, ⟨89, _⟩ => ⟨S8192x1, .f32⟩
  | .hbm, ⟨90, _⟩ => ⟨S8192x2048, .f32⟩
  | .hbm, ⟨91, _⟩ => ⟨S8192x2048, .f32⟩
  | .hbm, ⟨92, _⟩ => ⟨S8192x2048, .f32⟩
  | .hbm, ⟨93, _⟩ => ⟨S_, .f32⟩
  | .hbm, ⟨94, _⟩ => ⟨S8192, .f32⟩
  | .hbm, ⟨95, _⟩ => ⟨S8192x1, .f32⟩
  | .hbm, ⟨96, _⟩ => ⟨S_, .f32⟩
  | .hbm, ⟨97, _⟩ => ⟨S8192x1, .f32⟩
  | .hbm, ⟨98, _⟩ => ⟨S8192x1, .f32⟩
  | .hbm, ⟨99, _⟩ => ⟨S8192x2048, .f32⟩
  | .hbm, ⟨100, _⟩ => ⟨S8192x2048, .f32⟩
  | .hbm, ⟨101, _⟩ => ⟨S_, .f32⟩
  | .hbm, ⟨102, _⟩ => ⟨S8192x1, .f32⟩
  | .hbm, ⟨103, _⟩ => ⟨S8192x1, .f32⟩
  | .hbm, ⟨104, _⟩ => ⟨S8192x1, .f32⟩
  | .hbm, ⟨105, _⟩ => ⟨S8192x2048, .f32⟩
  | .hbm, ⟨106, _⟩ => ⟨S8192x2048, .f32⟩
  | .hbm, ⟨107, _⟩ => ⟨S1x2048, .f32⟩
  | .hbm, ⟨108, _⟩ => ⟨S8192x2048, .f32⟩
  | .hbm, ⟨109, _⟩ => ⟨S8192x2048, .f32⟩
  | .hbm, ⟨110, _⟩ => ⟨S1x2048, .f32⟩
  | .hbm, ⟨111, _⟩ => ⟨S8192x2048, .f32⟩
  | .hbm, ⟨112, _⟩ => ⟨S8192x2048, .f32⟩
  | .hbm, ⟨113, _⟩ => ⟨S8192x2048, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst : Ref sig .tc := ⟨.hbm, 27, rfl⟩
abbrev main_v14 : Ref sig .tc := ⟨.hbm, 28, rfl⟩
abbrev main_v15 : Ref sig .tc := ⟨.hbm, 29, rfl⟩
abbrev main_cst_0 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_1 : Ref sig .tc := ⟨.hbm, 36, rfl⟩
abbrev main_v21 : Ref sig .tc := ⟨.hbm, 37, rfl⟩
abbrev main_v22 : Ref sig .tc := ⟨.hbm, 38, rfl⟩
abbrev main_cst_2 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_3 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_call0_v0 : Ref sig .tc := ⟨.hbm, 56, rfl⟩
abbrev main_call0_v1 : Ref sig .tc := ⟨.hbm, 57, rfl⟩
abbrev main_call0_cst : Ref sig .tc := ⟨.hbm, 58, rfl⟩
abbrev main_call0_v2 : Ref sig .tc := ⟨.hbm, 59, rfl⟩
abbrev main_call0_v3 : Ref sig .tc := ⟨.hbm, 60, rfl⟩
abbrev main_call0_cst_0 : Ref sig .tc := ⟨.hbm, 61, rfl⟩
abbrev main_call0_v4 : Ref sig .tc := ⟨.hbm, 62, rfl⟩
abbrev main_call0_v5 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_4 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_5 : Ref sig .tc := ⟨.hbm, 84, rfl⟩
abbrev main_v57 : Ref sig .tc := ⟨.hbm, 85, rfl⟩
abbrev main_v58 : Ref sig .tc := ⟨.hbm, 86, rfl⟩
abbrev main_cst_6 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_cst_7 : Ref sig .tc := ⟨.hbm, 93, rfl⟩
abbrev main_v64 : Ref sig .tc := ⟨.hbm, 94, rfl⟩
abbrev main_v65 : Ref sig .tc := ⟨.hbm, 95, rfl⟩
abbrev main_cst_8 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_cst_9 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩

abbrev nD : Nat := 1
abbrev τ : Topo := Topo.v7x

variable {F : FTy → Type} [FloatOps F]
-- ==== ConvGlu.lean ====
abbrev S8192x2048 : Shape := ⟨2, ![8192, 2048]⟩
abbrev S2x2048x14848 : Shape := ⟨3, ![2, 2048, 14848]⟩
abbrev S8x8192x128 : Shape := ⟨3, ![8, 8192, 128]⟩
abbrev S1024x2048 : Shape := ⟨2, ![1024, 2048]⟩
abbrev S1x2048x512 : Shape := ⟨3, ![1, 2048, 512]⟩
abbrev S4x1024x128 : Shape := ⟨3, ![4, 1024, 128]⟩
abbrev S2048x1024 : Shape := ⟨2, ![2048, 1024]⟩
abbrev S2048x512 : Shape := ⟨2, ![2048, 512]⟩
abbrev S1024x1024 : Shape := ⟨2, ![1024, 1024]⟩
abbrev S1024x512 : Shape := ⟨2, ![1024, 512]⟩
abbrev S1024x128 : Shape := ⟨2, ![1024, 128]⟩
abbrev S1x1024x128 : Shape := ⟨3, ![1, 1024, 128]⟩

abbrev nBuf : Space → Nat
  | .hbm => 3
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S2x2048x14848, .f32⟩
  | .hbm, ⟨2, _⟩ => ⟨S8x8192x128, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S4x1024x128, .bf16⟩
  | .local _ .vmem, ⟨7, _⟩ => ⟨S4x1024x128, .bf16⟩
  | .local _ .vmem, ⟨8, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c9_i32 : BitVec 32 := 9#32
  let v1 : BitVec 32 := Scalar.addi c9_i32 v0
  let c0_i32 : BitVec 32 := 0#32
  let c0_i32_0 : BitVec 32 := 0#32
  let c0_i32_1 : BitVec 32 := 0#32
  ![c0_i32.toNat, c0_i32_0.toNat, v1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c11_i32 : BitVec 32 := 11#32
  let v1 : BitVec 32 := Scalar.addi c11_i32 v0
  let c0_i32 : BitVec 32 := 0#32
  let c0_i32_0 : BitVec 32 := 0#32
  let c0_i32_1 : BitVec 32 := 0#32
  ![c0_i32.toNat, c0_i32_0.toNat, v1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ConvGluReferenceIdeal.lean ====
abbrev S8192x2048 : Shape := ⟨2, ![8192, 2048]⟩
abbrev S2x2048x14848 : Shape := ⟨3, ![2, 2048, 14848]⟩
abbrev S1x2048x2048 : Shape := ⟨3, ![1, 2048, 2048]⟩
abbrev S2048x2048 : Shape := ⟨2, ![2048, 2048]⟩
abbrev S8192x1024 : Shape := ⟨2, ![8192, 1024]⟩
abbrev S_ : Shape := ⟨0, ![]⟩
abbrev S8192x8x128 : Shape := ⟨3, ![8192, 8, 128]⟩
abbrev S8x8192x128 : Shape := ⟨3, ![8, 8192, 128]⟩

abbrev nBuf : Space → Nat
  | .hbm => 20
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x14848, .f32⟩
  | .hbm, ⟨2, _⟩ => ⟨S8192x2048, .f32⟩
  | .hbm, ⟨3, _⟩ => ⟨S1x2048x2048, .f32⟩
  | .hbm, ⟨4, _⟩ => ⟨S2048x2048, .f32⟩
  | .hbm, ⟨5, _⟩ => ⟨S8192x2048, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x8x128, .f32⟩
  | .hbm, ⟨18, _⟩ => ⟨S8x8192x128, .f32⟩
  | .hbm, ⟨19, _⟩ => ⟨S8x8192x128, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩

abbrev nD : Nat := 1
abbrev τ : Topo := Topo.v7x

variable {F : FTy → Type} [FloatOps F]
-- ==== QkvFirst.lean ====
abbrev S8192x2048 : Shape := ⟨2, ![8192, 2048]⟩
abbrev S2x2048x14848 : Shape := ⟨3, ![2, 2048, 14848]⟩
abbrev S2048x128 : Shape := ⟨2, ![2048, 128]⟩
abbrev S8192x1536 : Shape := ⟨2, ![8192, 1536]⟩
abbrev S1024x2048 : Shape := ⟨2, ![1024, 2048]⟩
abbrev S1x2048x512 : Shape := ⟨3, ![1, 2048, 512]⟩
abbrev S1024x128 : Shape := ⟨2, ![1024, 128]⟩
abbrev S1024x1536 : Shape := ⟨2, ![1024, 1536]⟩
abbrev S2048x1536 : Shape := ⟨2, ![2048, 1536]⟩
abbrev S2048x512 : Shape := ⟨2, ![2048, 512]⟩

abbrev nBuf : Space → Nat
  | .hbm => 6
  | .vmem => 14
  | .smem => 0
  | _ => 0

abbrev bufTy : (tb : Table) → Fin (tcTables nBuf tb) → BufTy
  | .hbm, ⟨0, _⟩ => ⟨S8192x2048, .bf16⟩
  | .hbm, ⟨1, _⟩ => ⟨S2x2048x14848, .f32⟩
  | .hbm, ⟨2, _⟩ => ⟨S2048x128, .f32⟩
  | .hbm, ⟨3, _⟩ => ⟨S2048x128, .f32⟩
  | .hbm, ⟨4, _⟩ => ⟨S2048x128, .f32⟩
  | .hbm, ⟨5, _⟩ => ⟨S8192x1536, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x1536, .bf16⟩
  | .local _ .vmem, ⟨12, _⟩ => ⟨S1024x1536, .bf16⟩
  | .local _ .vmem, ⟨13, _⟩ => ⟨S2048x1536, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c3_i32 : BitVec 32 := 3#32
  let c0_i32_1 : BitVec 32 := 0#32
  ![c0_i32.toNat, c0_i32_0.toNat, c3_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c6_i32 : BitVec 32 := 6#32
  let c0_i32_1 : BitVec 32 := 0#32
  ![c0_i32.toNat, c0_i32_0.toNat, c6_i32.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x1536 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== QkvFirstIdeal.lean ====
variable {F : FTy → Type} [FloatOps F] [Named F]
def κ : String → Option EReal := fun
  | "scale" => some (((Real.sqrt 128)⁻¹ : ℝ) : EReal)
  | _ => none
-- ==== QkvFirstReferenceIdeal.lean ====
abbrev S8192x2048 : Shape := ⟨2, ![8192, 2048]⟩
abbrev S2x2048x14848 : Shape := ⟨3, ![2, 2048, 14848]⟩
abbrev S2048x128 : Shape := ⟨2, ![2048, 128]⟩
abbrev S2048x16 : Shape := ⟨2, ![2048, 16]⟩
abbrev S1x2048x512 : Shape := ⟨3, ![1, 2048, 512]⟩
abbrev S2048x512 : Shape := ⟨2, ![2048, 512]⟩
abbrev S8192x512 : Shape := ⟨2, ![8192, 512]⟩
abbrev S4x2048x4x128 : Shape := ⟨4, ![4, 2048, 4, 128]⟩
abbrev S1x2048x1x16 : Shape := ⟨4, ![1, 2048, 1, 16]⟩
abbrev S4x2048x4x16 : Shape := ⟨4, ![4, 2048, 4, 16]⟩
abbrev S4x2048x4x96 : Shape := ⟨4, ![4, 2048, 4, 96]⟩
abbrev S_ : Shape := ⟨0, ![]⟩
abbrev S8192x1536 : Shape := ⟨2, ![8192, 1536]⟩

abbrev nBuf : Space → Nat
  | .hbm => 61
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x14848, .f32⟩
  | .hbm, ⟨2, _⟩ => ⟨S2048x128, .f32⟩
  | .hbm, ⟨3, _⟩ => ⟨S2048x128, .f32⟩
  | .hbm, ⟨4, _⟩ => ⟨S2048x128, .f32⟩
  | .hbm, ⟨5, _⟩ => ⟨S8192x2048, .f32⟩
  | .hbm, ⟨6, _⟩ => ⟨S2048x16, .f32⟩
  | .hbm, ⟨7, _⟩ => ⟨S2048x16, .f32⟩
  | .hbm, ⟨8, _⟩ => ⟨S1x2048x512, .f32⟩
  | .hbm, ⟨9, _⟩ => ⟨S2048x512, .f32⟩
  | .hbm, ⟨10, _⟩ => ⟨S8192x512, .f32⟩
  | .hbm, ⟨11, _⟩ => ⟨S4x2048x4x128, .f32⟩
  | .hbm, ⟨12, _⟩ => ⟨S1x2048x512, .f32⟩
  | .hbm, ⟨13, _⟩ => ⟨S2048x512, .f32⟩
  | .hbm, ⟨14, _⟩ => ⟨S8192x512, .f32⟩
  | .hbm, ⟨15, _⟩ => ⟨S4x2048x4x128, .f32⟩
  | .hbm, ⟨16, _⟩ => ⟨S1x2048x512, .f32⟩
  | .hbm, ⟨17, _⟩ => ⟨S2048x512, .f32⟩
  | .hbm, ⟨18, _⟩ => ⟨S8192x512, .f32⟩
  | .hbm, ⟨19, _⟩ => ⟨S4x2048x4x128, .f32⟩
  | .hbm, ⟨20, _⟩ => ⟨S1x2048x1x16, .f32⟩
  | .hbm, ⟨21, _⟩ => ⟨S1x2048x1x16, .f32⟩
  | .hbm, ⟨22, _⟩ => ⟨S4x2048x4x16, .f32⟩
  | .hbm, ⟨23, _⟩ => ⟨S4x2048x4x16, .f32⟩
  | .hbm, ⟨24, _⟩ => ⟨S4x2048x4x16, .f32⟩
  | .hbm, ⟨25, _⟩ => ⟨S4x2048x4x16, .f32⟩
  | .hbm, ⟨26, _⟩ => ⟨S4x2048x4x16, .f32⟩
  | .hbm, ⟨27, _⟩ => ⟨S4x2048x4x16, .f32⟩
  | .hbm, ⟨28, _⟩ => ⟨S4x2048x4x16, .f32⟩
  | .hbm, ⟨29, _⟩ => ⟨S4x2048x4x16, .f32⟩
  | .hbm, ⟨30, _⟩ => ⟨S4x2048x4x16, .f32⟩
  | .hbm, ⟨31, _⟩ => ⟨S4x2048x4x16, .f32⟩
  | .hbm, ⟨32, _⟩ => ⟨S4x2048x4x16, .f32⟩
  | .hbm, ⟨33, _⟩ => ⟨S4x2048x4x16, .f32⟩
  | .hbm, ⟨34, _⟩ => ⟨S4x2048x4x96, .f32⟩
  | .hbm, ⟨35, _⟩ => ⟨S4x2048x4x128, .f32⟩
  | .hbm, ⟨36, _⟩ => ⟨S_, .f32⟩
  | .hbm, ⟨37, _⟩ => ⟨S_, .f32⟩
  | .hbm, ⟨38, _⟩ => ⟨S4x2048x4x128, .f32⟩
  | .hbm, ⟨39, _⟩ => ⟨S4x2048x4x128, .f32⟩
  | .hbm, ⟨40, _⟩ => ⟨S1x2048x1x16, .f32⟩
  | .hbm, ⟨41, _⟩ => ⟨S1x2048x1x16, .f32⟩
  | .hbm, ⟨42, _⟩ => ⟨S4x2048x4x16, .f32⟩
  | .hbm, ⟨43, _⟩ => ⟨S4x2048x4x16, .f32⟩
  | .hbm, ⟨44, _⟩ => ⟨S4x2048x4x16, .f32⟩
  | .hbm, ⟨45, _⟩ => ⟨S4x2048x4x16, .f32⟩
  | .hbm, ⟨46, _⟩ => ⟨S4x2048x4x16, .f32⟩
  | .hbm, ⟨47, _⟩ => ⟨S4x2048x4x16, .f32⟩
  | .hbm, ⟨48, _⟩ => ⟨S4x2048x4x16, .f32⟩
  | .hbm, ⟨49, _⟩ => ⟨S4x2048x4x16, .f32⟩
  | .hbm, ⟨50, _⟩ => ⟨S4x2048x4x16, .f32⟩
  | .hbm, ⟨51, _⟩ => ⟨S4x2048x4x16, .f32⟩
  | .hbm, ⟨52, _⟩ => ⟨S4x2048x4x16, .f32⟩
  | .hbm, ⟨53, _⟩ => ⟨S4x2048x4x16, .f32⟩
  | .hbm, ⟨54, _⟩ => ⟨S4x2048x4x96, .f32⟩
  | .hbm, ⟨55, _⟩ => ⟨S4x2048x4x128, .f32⟩
  | .hbm, ⟨56, _⟩ => ⟨S8192x512, .f32⟩
  | .hbm, ⟨57, _⟩ => ⟨S8192x512, .f32⟩
  | .hbm, ⟨58, _⟩ => ⟨S8192x512, .f32⟩
  | .hbm, ⟨59, _⟩ => ⟨S8192x1536, .f32⟩
  | .hbm, ⟨60, _⟩ => ⟨S8192x1536, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_cst : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩

abbrev nD : Nat := 1
abbrev τ : Topo := Topo.v7x

variable {F : FTy → Type} [FloatOps F]
-- ==== SpatialGating.lean ====
abbrev S8192x2048 : Shape := ⟨2, ![8192, 2048]⟩
abbrev S2x2048x14848 : Shape := ⟨3, ![2, 2048, 14848]⟩
abbrev S2x8x128x128 : Shape := ⟨4, ![2, 8, 128, 128]⟩
abbrev S2x128x8 : Shape := ⟨3, ![2, 128, 8]⟩
abbrev S2x1024 : Shape := ⟨2, ![2, 1024]⟩
abbrev S2x1x1024 : Shape := ⟨3, ![2, 1, 1024]⟩
abbrev S8192x1024 : Shape := ⟨2, ![8192, 1024]⟩
abbrev S512x2048 : Shape := ⟨2, ![512, 2048]⟩
abbrev S1x2048x512 : Shape := ⟨3, ![1, 2048, 512]⟩
abbrev S1x8x128x128 : Shape := ⟨4, ![1, 8, 128, 128]⟩
abbrev S1x128x8 : Shape := ⟨3, ![1, 128, 8]⟩
abbrev S1x1x1024 : Shape := ⟨3, ![1, 1, 1024]⟩
abbrev S512x1024 : Shape := ⟨2, ![512, 1024]⟩
abbrev S2048x2048 : Shape := ⟨2, ![2048, 2048]⟩
abbrev S2048x512 : Shape := ⟨2, ![2048, 512]⟩
abbrev S1x1024 : Shape := ⟨2, ![1, 1024]⟩
abbrev S512 : Shape := ⟨1, ![512]⟩
abbrev S512x1 : Shape := ⟨2, ![512, 1]⟩
abbrev S128x128 : Shape := ⟨2, ![128, 128]⟩
abbrev S1x1x128x128 : Shape := ⟨4, ![1, 1, 128, 128]⟩
abbrev S128x512 : Shape := ⟨2, ![128, 512]⟩
abbrev S1x128x1 : Shape := ⟨3, ![1, 128, 1]⟩
abbrev S128x1 : Shape := ⟨2, ![128, 1]⟩

abbrev nBuf : Space → Nat
  | .hbm => 10
  | .vmem => 15
  | .smem => 0
  | _ => 0

abbrev bufTy : (tb : Table) → Fin (tcTables nBuf tb) → BufTy
  | .hbm, ⟨0, _⟩ => ⟨S8192x2048, .f32⟩
  | .hbm, ⟨1, _⟩ => ⟨S2x2048x14848, .f32⟩
  | .hbm, ⟨2, _⟩ => ⟨S2x8x128x128, .f32⟩
  | .hbm, ⟨3, _⟩ => ⟨S2x128x8, .f32⟩
  | .hbm, ⟨4, _⟩ => ⟨S2x1024, .f32⟩
  | .hbm, ⟨5, _⟩ => ⟨S2x1024, .f32⟩
  | .hbm, ⟨6, _⟩ => ⟨S2x1x1024, .f32⟩
  | .hbm, ⟨7, _⟩ => ⟨S2x1x1024, .f32⟩
  | .hbm, ⟨8, _⟩ => ⟨S8192x1024, .bf16⟩
  | .hbm, ⟨9, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1x8x128x128, .f32⟩
  | .local _ .vmem, ⟨7, _⟩ => ⟨S1x128x8, .f32⟩
  | .local _ .vmem, ⟨8, _⟩ => ⟨S1x1x1024, .f32⟩
  | .local _ .vmem, ⟨9, _⟩ => ⟨S1x1x1024, .f32⟩
  | .local _ .vmem, ⟨10, _⟩ => ⟨S512x1024, .bf16⟩
  | .local _ .vmem, ⟨11, _⟩ => ⟨S512x1024, .bf16⟩
  | .local _ .vmem, ⟨12, _⟩ => ⟨S512x2048, .bf16⟩
  | .local _ .vmem, ⟨13, _⟩ => ⟨S512x2048, .bf16⟩
  | .local _ .vmem, ⟨14, _⟩ => ⟨S2048x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c13_i32 : BitVec 32 := 13#32
  let c0_i32_1 : BitVec 32 := 0#32
  ![c0_i32.toNat, c0_i32_0.toNat, c13_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c14_i32 : BitVec 32 := 14#32
  let c0_i32_1 : BitVec 32 := 0#32
  ![c0_i32.toNat, c0_i32_0.toNat, c14_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c15_i32 : BitVec 32 := 15#32
  let c0_i32_1 : BitVec 32 := 0#32
  ![c0_i32.toNat, c0_i32_0.toNat, c15_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c16_i32 : BitVec 32 := 16#32
  let c0_i32_1 : BitVec 32 := 0#32
  ![c0_i32.toNat, c0_i32_0.toNat, c16_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]
-- ==== SpatialGatingIdeal.lean ====
variable {F : FTy → Type} [FloatOps F] [Named F]
def κ : String → Option EReal := fun
  | "half_root" => some (((Real.sqrt 2)⁻¹ : ℝ) : EReal)
  | _ => none
-- ==== SpatialGatingReferenceIdeal.lean ====
abbrev S8192x2048 : Shape := ⟨2, ![8192, 2048]⟩
abbrev S2x2048x14848 : Shape := ⟨3, ![2, 2048, 14848]⟩
abbrev S2x8x128x128 : Shape := ⟨4, ![2, 8, 128, 128]⟩
abbrev S2x128x8 : Shape := ⟨3, ![2, 128, 8]⟩
abbrev S2x1024 : Shape := ⟨2, ![2, 1024]⟩
abbrev S1x2048x2048 : Shape := ⟨3, ![1, 2048, 2048]⟩
abbrev S2048x2048 : Shape := ⟨2, ![2048, 2048]⟩
abbrev S_ : Shape := ⟨0, ![]⟩
abbrev S8192x1024 : Shape := ⟨2, ![8192, 1024]⟩
abbrev S1x1024 : Shape := ⟨2, ![1, 1024]⟩
abbrev S1024 : Shape := ⟨1, ![1024]⟩
abbrev S8192 : Shape := ⟨1, ![8192]⟩
abbrev S8192x1 : Shape := ⟨2, ![8192, 1]⟩
abbrev S64x128x8x128 : Shape := ⟨4, ![64, 128, 8, 128]⟩
abbrev S128x128 : Shape := ⟨2, ![128, 128]⟩
abbrev S1x128x128 : Shape := ⟨3, ![1, 128, 128]⟩
abbrev S1x8x128x128 : Shape := ⟨4, ![1, 8, 128, 128]⟩
abbrev S8x128x128 : Shape := ⟨3, ![8, 128, 128]⟩
abbrev S8x64x128x128 : Shape := ⟨4, ![8, 64, 128, 128]⟩
abbrev S1x128x8 : Shape := ⟨3, ![1, 128, 8]⟩
abbrev S128x8 : Shape := ⟨2, ![128, 8]⟩
abbrev S1x128x8x1 : Shape := ⟨4, ![1, 128, 8, 1]⟩

abbrev nBuf : Space → Nat
  | .hbm => 87
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2x2048x14848, .f32⟩
  | .hbm, ⟨2, _⟩ => ⟨S2x8x128x128, .f32⟩
  | .hbm, ⟨3, _⟩ => ⟨S2x128x8, .f32⟩
  | .hbm, ⟨4, _⟩ => ⟨S2x1024, .f32⟩
  | .hbm, ⟨5, _⟩ => ⟨S2x1024, .f32⟩
  | .hbm, ⟨6, _⟩ => ⟨S1x2048x2048, .f32⟩
  | .hbm, ⟨7, _⟩ => ⟨S2048x2048, .f32⟩
  | .hbm, ⟨8, _⟩ => ⟨S8192x2048, .f32⟩
  | .hbm, ⟨9, _⟩ => ⟨S_, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S_, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S_, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S1024, .f32⟩
  | .hbm, ⟨25, _⟩ => ⟨S1x1024, .f32⟩
  | .hbm, ⟨26, _⟩ => ⟨S1024, .f32⟩
  | .hbm, ⟨27, _⟩ => ⟨S_, .f32⟩
  | .hbm, ⟨28, _⟩ => ⟨S8192, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S8192x1, .f32⟩
  | .hbm, ⟨48, _⟩ => ⟨S8192x1024, .f32⟩
  | .hbm, ⟨49, _⟩ => ⟨S8192x1024, .f32⟩
  | .hbm, ⟨50, _⟩ => ⟨S1x1024, .f32⟩
  | .hbm, ⟨51, _⟩ => ⟨S8192x1024, .f32⟩
  | .hbm, ⟨52, _⟩ => ⟨S8192x1024, .f32⟩
  | .hbm, ⟨53, _⟩ => ⟨S1x1024, .f32⟩
  | .hbm, ⟨54, _⟩ => ⟨S8192x1024, .f32⟩
  | .hbm, ⟨55, _⟩ => ⟨S8192x1024, .f32⟩
  | .hbm, ⟨56, _⟩ => ⟨S64x128x8x128, .f32⟩
  | .hbm, ⟨57, _⟩ => ⟨S_, .i1⟩
  | .hbm, ⟨58, _⟩ => ⟨S128x128, .i1⟩
  | .hbm, ⟨59, _⟩ => ⟨S128x128, .i32⟩
  | .hbm, ⟨60, _⟩ => ⟨S_, .i32⟩
  | .hbm, ⟨61, _⟩ => ⟨S128x128, .i32⟩
  | .hbm, ⟨62, _⟩ => ⟨S128x128, .i32⟩
  | .hbm, ⟨63, _⟩ => ⟨S128x128, .i32⟩
  | .hbm, ⟨64, _⟩ => ⟨S128x128, .i1⟩
  | .hbm, ⟨65, _⟩ => ⟨S_, .i1⟩
  | .hbm, ⟨66, _⟩ => ⟨S128x128, .i1⟩
  | .hbm, ⟨67, _⟩ => ⟨S128x128, .i1⟩
  | .hbm, ⟨68, _⟩ => ⟨S1x128x128, .i1⟩
  | .hbm, ⟨69, _⟩ => ⟨S1x8x128x128, .f32⟩
  | .hbm, ⟨70, _⟩ => ⟨S8x128x128, .f32⟩
  | .hbm, ⟨71, _⟩ => ⟨S_, .i32⟩
  | .hbm, ⟨72, _⟩ => ⟨S_, .f32⟩
  | .hbm, ⟨73, _⟩ => ⟨S8x128x128, .i1⟩
  | .hbm, ⟨74, _⟩ => ⟨S8x128x128, .f32⟩
  | .hbm, ⟨75, _⟩ => ⟨S8x128x128, .f32⟩
  | .hbm, ⟨76, _⟩ => ⟨S8x64x128x128, .f32⟩
  | .hbm, ⟨77, _⟩ => ⟨S64x128x8x128, .f32⟩
  | .hbm, ⟨78, _⟩ => ⟨S1x128x8, .f32⟩
  | .hbm, ⟨79, _⟩ => ⟨S128x8, .f32⟩
  | .hbm, ⟨80, _⟩ => ⟨S1x128x8x1, .f32⟩
  | .hbm, ⟨81, _⟩ => ⟨S64x128x8x128, .f32⟩
  | .hbm, ⟨82, _⟩ => ⟨S64x128x8x128, .f32⟩
  | .hbm, ⟨83, _⟩ => ⟨S8192x1024, .f32⟩
  | .hbm, ⟨84, _⟩ => ⟨S8192x1024, .f32⟩
  | .hbm, ⟨85, _⟩ => ⟨S8192x1024, .bf16⟩
  | .hbm, ⟨86, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_c : Ref sig .tc := ⟨.hbm, 57, rfl⟩
abbrev main_v43 : Ref sig .tc := ⟨.hbm, 58, rfl⟩
abbrev main_call0_v0 : Ref sig .tc := ⟨.hbm, 59, rfl⟩
abbrev main_call0_c : Ref sig .tc := ⟨.hbm, 60, rfl⟩
abbrev main_call0_v1 : Ref sig .tc := ⟨.hbm, 61, rfl⟩
abbrev main_call0_v2 : Ref sig .tc := ⟨.hbm, 62, rfl⟩
abbrev main_call0_v3 : Ref sig .tc := ⟨.hbm, 63, rfl⟩
abbrev main_call0_v4 : Ref sig .tc := ⟨.hbm, 64, rfl⟩
abbrev main_call0_c_0 : Ref sig .tc := ⟨.hbm, 65, rfl⟩
abbrev main_call0_v5 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_c_7 : Ref sig .tc := ⟨.hbm, 71, rfl⟩
abbrev main_call1_v0 : Ref sig .tc := ⟨.hbm, 72, rfl⟩
abbrev main_call1_v1 : Ref sig .tc := ⟨.hbm, 73, rfl⟩
abbrev main_call1_v2 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩

abbrev nD : Nat := 1
abbrev τ : Topo := Topo.v7x

variable {F : FTy → Type} [FloatOps F]
-- ==== QkvSecond.lean ====
abbrev S8192x2048 : Shape := ⟨2, ![8192, 2048]⟩
abbrev S2x2048x14848 : Shape := ⟨3, ![2, 2048, 14848]⟩
abbrev S2048x128 : Shape := ⟨2, ![2048, 128]⟩
abbrev S8192x1536 : Shape := ⟨2, ![8192, 1536]⟩
abbrev S1024x2048 : Shape := ⟨2, ![1024, 2048]⟩
abbrev S1x2048x512 : Shape := ⟨3, ![1, 2048, 512]⟩
abbrev S1024x128 : Shape := ⟨2, ![1024, 128]⟩
abbrev S1024x1536 : Shape := ⟨2, ![1024, 1536]⟩
abbrev S2048x1536 : Shape := ⟨2, ![2048, 1536]⟩
abbrev S12x1024x128 : Shape := ⟨3, ![12, 1024, 128]⟩
abbrev S2048x512 : Shape := ⟨2, ![2048, 512]⟩
abbrev S1x1024x128 : Shape := ⟨3, ![1, 1024, 128]⟩
abbrev S1x256x128 : Shape := ⟨3, ![1, 256, 128]⟩
abbrev S256x128 : Shape := ⟨2, ![256, 128]⟩

abbrev nBuf : Space → Nat
  | .hbm => 6
  | .vmem => 15
  | .smem => 0
  | _ => 0

abbrev bufTy : (tb : Table) → Fin (tcTables nBuf tb) → BufTy
  | .hbm, ⟨0, _⟩ => ⟨S8192x2048, .bf16⟩
  | .hbm, ⟨1, _⟩ => ⟨S2x2048x14848, .f32⟩
  | .hbm, ⟨2, _⟩ => ⟨S2048x128, .f32⟩
  | .hbm, ⟨3, _⟩ => ⟨S2048x128, .f32⟩
  | .hbm, ⟨4, _⟩ => ⟨S2048x128, .f32⟩
  | .hbm, ⟨5, _⟩ => ⟨S8192x1536, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x1536, .bf16⟩
  | .local _ .vmem, ⟨12, _⟩ => ⟨S1024x1536, .bf16⟩
  | .local _ .vmem, ⟨13, _⟩ => ⟨S2048x1536, .bf16⟩
  | .local _ .vmem, ⟨14, _⟩ => ⟨S12x1024x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c1_i32 : BitVec 32 := 1#32
  let c0_i32_1 : BitVec 32 := 0#32
  ![c0_i32.toNat, c0_i32_0.toNat, c1_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c4_i32 : BitVec 32 := 4#32
  let c0_i32_1 : BitVec 32 := 0#32
  ![c0_i32.toNat, c0_i32_0.toNat, c4_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c7_i32 : BitVec 32 := 7#32
  let c0_i32_1 : BitVec 32 := 0#32
  ![c0_i32.toNat, c0_i32_0.toNat, c7_i32.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x1536 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== QkvSecondIdeal.lean ====
variable {F : FTy → Type} [FloatOps F] [Named F]
def κ : String → Option EReal := fun
  | "scale" => some (((Real.sqrt 128)⁻¹ : ℝ) : EReal)
  | _ => none
-- ==== QkvSecondReferenceIdeal.lean ====
abbrev S8192x2048 : Shape := ⟨2, ![8192, 2048]⟩
abbrev S2x2048x14848 : Shape := ⟨3, ![2, 2048, 14848]⟩
abbrev S2048x128 : Shape := ⟨2, ![2048, 128]⟩
abbrev S2048x16 : Shape := ⟨2, ![2048, 16]⟩
abbrev S1x2048x512 : Shape := ⟨3, ![1, 2048, 512]⟩
abbrev S2048x512 : Shape := ⟨2, ![2048, 512]⟩
abbrev S8192x512 : Shape := ⟨2, ![8192, 512]⟩
abbrev S4x2048x4x128 : Shape := ⟨4, ![4, 2048, 4, 128]⟩
abbrev S1x2048x1x16 : Shape := ⟨4, ![1, 2048, 1, 16]⟩
abbrev S4x2048x4x16 : Shape := ⟨4, ![4, 2048, 4, 16]⟩
abbrev S4x2048x4x96 : Shape := ⟨4, ![4, 2048, 4, 96]⟩
abbrev S_ : Shape := ⟨0, ![]⟩
abbrev S8192x1536 : Shape := ⟨2, ![8192, 1536]⟩
abbrev S8x256x4x1536 : Shape := ⟨4, ![8, 256, 4, 1536]⟩
abbrev S8x4x256x1536 : Shape := ⟨4, ![8, 4, 256, 1536]⟩

abbrev nBuf : Space → Nat
  | .hbm => 64
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x14848, .f32⟩
  | .hbm, ⟨2, _⟩ => ⟨S2048x128, .f32⟩
  | .hbm, ⟨3, _⟩ => ⟨S2048x128, .f32⟩
  | .hbm, ⟨4, _⟩ => ⟨S2048x128, .f32⟩
  | .hbm, ⟨5, _⟩ => ⟨S8192x2048, .f32⟩
  | .hbm, ⟨6, _⟩ => ⟨S2048x16, .f32⟩
  | .hbm, ⟨7, _⟩ => ⟨S2048x16, .f32⟩
  | .hbm, ⟨8, _⟩ => ⟨S1x2048x512, .f32⟩
  | .hbm, ⟨9, _⟩ => ⟨S2048x512, .f32⟩
  | .hbm, ⟨10, _⟩ => ⟨S8192x512, .f32⟩
  | .hbm, ⟨11, _⟩ => ⟨S4x2048x4x128, .f32⟩
  | .hbm, ⟨12, _⟩ => ⟨S1x2048x512, .f32⟩
  | .hbm, ⟨13, _⟩ => ⟨S2048x512, .f32⟩
  | .hbm, ⟨14, _⟩ => ⟨S8192x512, .f32⟩
  | .hbm, ⟨15, _⟩ => ⟨S4x2048x4x128, .f32⟩
  | .hbm, ⟨16, _⟩ => ⟨S1x2048x512, .f32⟩
  | .hbm, ⟨17, _⟩ => ⟨S2048x512, .f32⟩
  | .hbm, ⟨18, _⟩ => ⟨S8192x512, .f32⟩
  | .hbm, ⟨19, _⟩ => ⟨S4x2048x4x128, .f32⟩
  | .hbm, ⟨20, _⟩ => ⟨S1x2048x1x16, .f32⟩
  | .hbm, ⟨21, _⟩ => ⟨S1x2048x1x16, .f32⟩
  | .hbm, ⟨22, _⟩ => ⟨S4x2048x4x16, .f32⟩
  | .hbm, ⟨23, _⟩ => ⟨S4x2048x4x16, .f32⟩
  | .hbm, ⟨24, _⟩ => ⟨S4x2048x4x16, .f32⟩
  | .hbm, ⟨25, _⟩ => ⟨S4x2048x4x16, .f32⟩
  | .hbm, ⟨26, _⟩ => ⟨S4x2048x4x16, .f32⟩
  | .hbm, ⟨27, _⟩ => ⟨S4x2048x4x16, .f32⟩
  | .hbm, ⟨28, _⟩ => ⟨S4x2048x4x16, .f32⟩
  | .hbm, ⟨29, _⟩ => ⟨S4x2048x4x16, .f32⟩
  | .hbm, ⟨30, _⟩ => ⟨S4x2048x4x16, .f32⟩
  | .hbm, ⟨31, _⟩ => ⟨S4x2048x4x16, .f32⟩
  | .hbm, ⟨32, _⟩ => ⟨S4x2048x4x16, .f32⟩
  | .hbm, ⟨33, _⟩ => ⟨S4x2048x4x16, .f32⟩
  | .hbm, ⟨34, _⟩ => ⟨S4x2048x4x96, .f32⟩
  | .hbm, ⟨35, _⟩ => ⟨S4x2048x4x128, .f32⟩
  | .hbm, ⟨36, _⟩ => ⟨S_, .f32⟩
  | .hbm, ⟨37, _⟩ => ⟨S_, .f32⟩
  | .hbm, ⟨38, _⟩ => ⟨S4x2048x4x128, .f32⟩
  | .hbm, ⟨39, _⟩ => ⟨S4x2048x4x128, .f32⟩
  | .hbm, ⟨40, _⟩ => ⟨S1x2048x1x16, .f32⟩
  | .hbm, ⟨41, _⟩ => ⟨S1x2048x1x16, .f32⟩
  | .hbm, ⟨42, _⟩ => ⟨S4x2048x4x16, .f32⟩
  | .hbm, ⟨43, _⟩ => ⟨S4x2048x4x16, .f32⟩
  | .hbm, ⟨44, _⟩ => ⟨S4x2048x4x16, .f32⟩
  | .hbm, ⟨45, _⟩ => ⟨S4x2048x4x16, .f32⟩
  | .hbm, ⟨46, _⟩ => ⟨S4x2048x4x16, .f32⟩
  | .hbm, ⟨47, _⟩ => ⟨S4x2048x4x16, .f32⟩
  | .hbm, ⟨48, _⟩ => ⟨S4x2048x4x16, .f32⟩
  | .hbm, ⟨49, _⟩ => ⟨S4x2048x4x16, .f32⟩
  | .hbm, ⟨50, _⟩ => ⟨S4x2048x4x16, .f32⟩
  | .hbm, ⟨51, _⟩ => ⟨S4x2048x4x16, .f32⟩
  | .hbm, ⟨52, _⟩ => ⟨S4x2048x4x16, .f32⟩
  | .hbm, ⟨53, _⟩ => ⟨S4x2048x4x16, .f32⟩
  | .hbm, ⟨54, _⟩ => ⟨S4x2048x4x96, .f32⟩
  | .hbm, ⟨55, _⟩ => ⟨S4x2048x4x128, .f32⟩
  | .hbm, ⟨56, _⟩ => ⟨S8192x512, .f32⟩
  | .hbm, ⟨57, _⟩ => ⟨S8192x512, .f32⟩
  | .hbm, ⟨58, _⟩ => ⟨S8192x512, .f32⟩
  | .hbm, ⟨59, _⟩ => ⟨S8192x1536, .f32⟩
  | .hbm, ⟨60, _⟩ => ⟨S8x256x4x1536, .f32⟩
  | .hbm, ⟨61, _⟩ => ⟨S8x4x256x1536, .f32⟩
  | .hbm, ⟨62, _⟩ => ⟨S8192x1536, .f32⟩
  | .hbm, ⟨63, _⟩ => ⟨S8192x1536, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_cst : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩

abbrev nD : Nat := 1
abbrev τ : Topo := Topo.v7x

variable {F : FTy → Type} [FloatOps F]
-- ==== QkvThird.lean ====
abbrev S8192x2048 : Shape := ⟨2, ![8192, 2048]⟩
abbrev S2x2048x14848 : Shape := ⟨3, ![2, 2048, 14848]⟩
abbrev S2048x128 : Shape := ⟨2, ![2048, 128]⟩
abbrev S8192x1536 : Shape := ⟨2, ![8192, 1536]⟩
abbrev S1024x2048 : Shape := ⟨2, ![1024, 2048]⟩
abbrev S1x2048x512 : Shape := ⟨3, ![1, 2048, 512]⟩
abbrev S1024x128 : Shape := ⟨2, ![1024, 128]⟩
abbrev S1024x1536 : Shape := ⟨2, ![1024, 1536]⟩
abbrev S2048x1536 : Shape := ⟨2, ![2048, 1536]⟩
abbrev S12x1024x128 : Shape := ⟨3, ![12, 1024, 128]⟩
abbrev S2048x512 : Shape := ⟨2, ![2048, 512]⟩
abbrev S1x1024x128 : Shape := ⟨3, ![1, 1024, 128]⟩
abbrev S1x256x128 : Shape := ⟨3, ![1, 256, 128]⟩
abbrev S256x128 : Shape := ⟨2, ![256, 128]⟩
abbrev S1x64x128 : Shape := ⟨3, ![1, 64, 128]⟩
abbrev S64x128 : Shape := ⟨2, ![64, 128]⟩

abbrev nBuf : Space → Nat
  | .hbm => 6
  | .vmem => 16
  | .smem => 0
  | _ => 0

abbrev bufTy : (tb : Table) → Fin (tcTables nBuf tb) → BufTy
  | .hbm, ⟨0, _⟩ => ⟨S8192x2048, .bf16⟩
  | .hbm, ⟨1, _⟩ => ⟨S2x2048x14848, .f32⟩
  | .hbm, ⟨2, _⟩ => ⟨S2048x128, .f32⟩
  | .hbm, ⟨3, _⟩ => ⟨S2048x128, .f32⟩
  | .hbm, ⟨4, _⟩ => ⟨S2048x128, .f32⟩
  | .hbm, ⟨5, _⟩ => ⟨S8192x1536, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x1536, .bf16⟩
  | .local _ .vmem, ⟨12, _⟩ => ⟨S1024x1536, .bf16⟩
  | .local _ .vmem, ⟨13, _⟩ => ⟨S2048x1536, .bf16⟩
  | .local _ .vmem, ⟨14, _⟩ => ⟨S12x1024x128, .f32⟩
  | .local _ .vmem, ⟨15, _⟩ => ⟨S12x1024x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c2_i32 : BitVec 32 := 2#32
  let c0_i32_1 : BitVec 32 := 0#32
  ![c0_i32.toNat, c0_i32_0.toNat, c2_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c5_i32 : BitVec 32 := 5#32
  let c0_i32_1 : BitVec 32 := 0#32
  ![c0_i32.toNat, c0_i32_0.toNat, c5_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c8_i32 : BitVec 32 := 8#32
  let c0_i32_1 : BitVec 32 := 0#32
  ![c0_i32.toNat, c0_i32_0.toNat, c8_i32.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x1536 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== QkvThirdIdeal.lean ====
variable {F : FTy → Type} [FloatOps F] [Named F]
def κ : String → Option EReal := fun
  | "scale" => some (((Real.sqrt 128)⁻¹ : ℝ) : EReal)
  | _ => none
-- ==== QkvThirdReferenceIdeal.lean ====
abbrev S8192x2048 : Shape := ⟨2, ![8192, 2048]⟩
abbrev S2x2048x14848 : Shape := ⟨3, ![2, 2048, 14848]⟩
abbrev S2048x128 : Shape := ⟨2, ![2048, 128]⟩
abbrev S2048x16 : Shape := ⟨2, ![2048, 16]⟩
abbrev S1x2048x512 : Shape := ⟨3, ![1, 2048, 512]⟩
abbrev S2048x512 : Shape := ⟨2, ![2048, 512]⟩
abbrev S8192x512 : Shape := ⟨2, ![8192, 512]⟩
abbrev S4x2048x4x128 : Shape := ⟨4, ![4, 2048, 4, 128]⟩
abbrev S1x2048x1x16 : Shape := ⟨4, ![1, 2048, 1, 16]⟩
abbrev S4x2048x4x16 : Shape := ⟨4, ![4, 2048, 4, 16]⟩
abbrev S4x2048x4x96 : Shape := ⟨4, ![4, 2048, 4, 96]⟩
abbrev S_ : Shape := ⟨0, ![]⟩
abbrev S8192x1536 : Shape := ⟨2, ![8192, 1536]⟩
abbrev S8x64x16x1536 : Shape := ⟨4, ![8, 64, 16, 1536]⟩
abbrev S8x16x64x1536 : Shape := ⟨4, ![8, 16, 64, 1536]⟩

abbrev nBuf : Space → Nat
  | .hbm => 64
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x14848, .f32⟩
  | .hbm, ⟨2, _⟩ => ⟨S2048x128, .f32⟩
  | .hbm, ⟨3, _⟩ => ⟨S2048x128, .f32⟩
  | .hbm, ⟨4, _⟩ => ⟨S2048x128, .f32⟩
  | .hbm, ⟨5, _⟩ => ⟨S8192x2048, .f32⟩
  | .hbm, ⟨6, _⟩ => ⟨S2048x16, .f32⟩
  | .hbm, ⟨7, _⟩ => ⟨S2048x16, .f32⟩
  | .hbm, ⟨8, _⟩ => ⟨S1x2048x512, .f32⟩
  | .hbm, ⟨9, _⟩ => ⟨S2048x512, .f32⟩
  | .hbm, ⟨10, _⟩ => ⟨S8192x512, .f32⟩
  | .hbm, ⟨11, _⟩ => ⟨S4x2048x4x128, .f32⟩
  | .hbm, ⟨12, _⟩ => ⟨S1x2048x512, .f32⟩
  | .hbm, ⟨13, _⟩ => ⟨S2048x512, .f32⟩
  | .hbm, ⟨14, _⟩ => ⟨S8192x512, .f32⟩
  | .hbm, ⟨15, _⟩ => ⟨S4x2048x4x128, .f32⟩
  | .hbm, ⟨16, _⟩ => ⟨S1x2048x512, .f32⟩
  | .hbm, ⟨17, _⟩ => ⟨S2048x512, .f32⟩
  | .hbm, ⟨18, _⟩ => ⟨S8192x512, .f32⟩
  | .hbm, ⟨19, _⟩ => ⟨S4x2048x4x128, .f32⟩
  | .hbm, ⟨20, _⟩ => ⟨S1x2048x1x16, .f32⟩
  | .hbm, ⟨21, _⟩ => ⟨S1x2048x1x16, .f32⟩
  | .hbm, ⟨22, _⟩ => ⟨S4x2048x4x16, .f32⟩
  | .hbm, ⟨23, _⟩ => ⟨S4x2048x4x16, .f32⟩
  | .hbm, ⟨24, _⟩ => ⟨S4x2048x4x16, .f32⟩
  | .hbm, ⟨25, _⟩ => ⟨S4x2048x4x16, .f32⟩
  | .hbm, ⟨26, _⟩ => ⟨S4x2048x4x16, .f32⟩
  | .hbm, ⟨27, _⟩ => ⟨S4x2048x4x16, .f32⟩
  | .hbm, ⟨28, _⟩ => ⟨S4x2048x4x16, .f32⟩
  | .hbm, ⟨29, _⟩ => ⟨S4x2048x4x16, .f32⟩
  | .hbm, ⟨30, _⟩ => ⟨S4x2048x4x16, .f32⟩
  | .hbm, ⟨31, _⟩ => ⟨S4x2048x4x16, .f32⟩
  | .hbm, ⟨32, _⟩ => ⟨S4x2048x4x16, .f32⟩
  | .hbm, ⟨33, _⟩ => ⟨S4x2048x4x16, .f32⟩
  | .hbm, ⟨34, _⟩ => ⟨S4x2048x4x96, .f32⟩
  | .hbm, ⟨35, _⟩ => ⟨S4x2048x4x128, .f32⟩
  | .hbm, ⟨36, _⟩ => ⟨S_, .f32⟩
  | .hbm, ⟨37, _⟩ => ⟨S_, .f32⟩
  | .hbm, ⟨38, _⟩ => ⟨S4x2048x4x128, .f32⟩
  | .hbm, ⟨39, _⟩ => ⟨S4x2048x4x128, .f32⟩
  | .hbm, ⟨40, _⟩ => ⟨S1x2048x1x16, .f32⟩
  | .hbm, ⟨41, _⟩ => ⟨S1x2048x1x16, .f32⟩
  | .hbm, ⟨42, _⟩ => ⟨S4x2048x4x16, .f32⟩
  | .hbm, ⟨43, _⟩ => ⟨S4x2048x4x16, .f32⟩
  | .hbm, ⟨44, _⟩ => ⟨S4x2048x4x16, .f32⟩
  | .hbm, ⟨45, _⟩ => ⟨S4x2048x4x16, .f32⟩
  | .hbm, ⟨46, _⟩ => ⟨S4x2048x4x16, .f32⟩
  | .hbm, ⟨47, _⟩ => ⟨S4x2048x4x16, .f32⟩
  | .hbm, ⟨48, _⟩ => ⟨S4x2048x4x16, .f32⟩
  | .hbm, ⟨49, _⟩ => ⟨S4x2048x4x16, .f32⟩
  | .hbm, ⟨50, _⟩ => ⟨S4x2048x4x16, .f32⟩
  | .hbm, ⟨51, _⟩ => ⟨S4x2048x4x16, .f32⟩
  | .hbm, ⟨52, _⟩ => ⟨S4x2048x4x16, .f32⟩
  | .hbm, ⟨53, _⟩ => ⟨S4x2048x4x16, .f32⟩
  | .hbm, ⟨54, _⟩ => ⟨S4x2048x4x96, .f32⟩
  | .hbm, ⟨55, _⟩ => ⟨S4x2048x4x128, .f32⟩
  | .hbm, ⟨56, _⟩ => ⟨S8192x512, .f32⟩
  | .hbm, ⟨57, _⟩ => ⟨S8192x512, .f32⟩
  | .hbm, ⟨58, _⟩ => ⟨S8192x512, .f32⟩
  | .hbm, ⟨59, _⟩ => ⟨S8192x1536, .f32⟩
  | .hbm, ⟨60, _⟩ => ⟨S8x64x16x1536, .f32⟩
  | .hbm, ⟨61, _⟩ => ⟨S8x16x64x1536, .f32⟩
  | .hbm, ⟨62, _⟩ => ⟨S8192x1536, .f32⟩
  | .hbm, ⟨63, _⟩ => ⟨S8192x1536, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_cst : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩

abbrev nD : Nat := 1
abbrev τ : Topo := Topo.v7x

variable {F : FTy → Type} [FloatOps F]
-- ==== Proof.Attn.Algebra.lean ====
module

public import Idealize.ShloMosaic.PureOps.Ideal
public import Mathlib.Data.EReal.Operations
public import Mathlib.Data.EReal.Inv
public import Mathlib.Analysis.SpecialFunctions.Log.Basic

@[expose] public section

noncomputable section

/-! # The arithmetic of a softmax over three groups of keys, on the extended reals

A row of masked scores is a function `Fin n → EReal` whose entries are `⊥` where the mask excludes the key.
`top` is its maximum, `mix` the sum of a value row weighted by the exponentials of the scores less the maximum.
The kernel sums the three groups' `mix`es rescaled to the common maximum and divides once; the reference
normalises each group and weights the groups by the softmax of their log-sum-exps. `merge_eq` says the two agree
for scores that are finite wherever they are not masked, whatever the values are. -/

namespace Cert.Attn

open Idealize.ShloMosaic

/-- The maximum of a row of scores (`⊥` for a row all masked). -/
def top {n : ℕ} (s : Fin n → EReal) : EReal := Finset.univ.sup s

/-- The values `v` summed with weights the exponentials of the scores `s` less their maximum. -/
def mix {n : ℕ} (s v : Fin n → EReal) : EReal := ∑ u, Ideal.exp (s u - top s) * v u

/-- A masked score contributes nothing: the exponential of `⊥` less anything is zero. -/
theorem exp_bot_sub (x : EReal) : Ideal.exp (⊥ - x) = 0 := by simp [sub_eq_add_neg]

/-- Scores of one row, over the keys of a block and over all the keys: where the block's keys sit among all the
    keys by an injection and every other key is masked, the maximum is the same. -/
theorem top_reindex {n N : ℕ} (φ : Fin n → Fin N) (S : Fin N → EReal)
    (hout : ∀ u, (∀ j, φ j ≠ u) → S u = ⊥) : top (fun j => S (φ j)) = top S := by
  apply le_antisymm
  · exact Finset.sup_le fun j _ => Finset.le_sup (f := S) (Finset.mem_univ (φ j))
  · refine Finset.sup_le fun u _ => ?_
    by_cases h : ∃ j, φ j = u
    · obtain ⟨j, rfl⟩ := h
      exact Finset.le_sup (f := fun j => S (φ j)) (Finset.mem_univ j)
    · rw [hout u (by simpa using h)]; exact bot_le

/-- … and so is the weighted sum. -/
theorem mix_reindex {n N : ℕ} (φ : Fin n → Fin N) (hφ : Function.Injective φ) (S V : Fin N → EReal)
    (hout : ∀ u, (∀ j, φ j ≠ u) → S u = ⊥) : mix (fun j => S (φ j)) (fun j => V (φ j)) = mix S V := by
  unfold mix
  rw [top_reindex φ S hout]
  have := Finset.sum_map Finset.univ ⟨φ, hφ⟩ (fun u => Ideal.exp (S u - top S) * V u)
  simp only [Function.Embedding.coeFn_mk] at this
  rw [← this]
  refine Finset.sum_subset (Finset.subset_univ _) fun u _ hu => ?_
  rw [hout u fun j hj => hu (Finset.mem_map.mpr ⟨j, Finset.mem_univ j, hj⟩), exp_bot_sub, zero_mul]

/-- A nonnegative real goes inside a sum of extended reals. -/
theorem coe_mul_sum {ι : Type} (s : Finset ι) (c : ℝ) (hc : 0 ≤ c) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha, EReal.left_distrib_of_nonneg_of_ne_top
      (by exact_mod_cast hc) (EReal.coe_ne_top c), ih]

/-- A sum of reals is real. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The kernel's merge of three groups: maxima `M`, sums of weights `D`, weighted values `N`. -/
def mergeK (M D N : Fin 3 → EReal) : EReal :=
  let m := max (max (M 0) (M 1)) (M 2)
  Ideal.div (((0 + Ideal.exp (M 0 - m) * N 0) + Ideal.exp (M 1 - m) * N 1) + Ideal.exp (M 2 - m) * N 2)
    (((0 + Ideal.exp (M 0 - m) * D 0) + Ideal.exp (M 1 - m) * D 1) + Ideal.exp (M 2 - m) * D 2)

/-- The reference's weight of group `g`: the softmax, with shift `x`, of the log-sum-exps. -/
def groupWeight (x : EReal) (L : Fin 3 → EReal) (g : Fin 3) : EReal :=
  Ideal.div (Ideal.exp (L g - x)) (∑ h, Ideal.exp (L h - x))

/-- The two merges agree when the maxima `M`, the exponentials `p` and the softmax's shift are real, each group's
    exponentials being nonnegative with a positive sum; the values `v` are arbitrary extended reals. -/
theorem merge_real {n : ℕ} (M : Fin 3 → ℝ) (p : Fin 3 → Fin n → ℝ) (hp : ∀ g u, 0 ≤ p g u)
    (hD : ∀ g, 0 < ∑ u, p g u) (v : Fin 3 → Fin n → EReal) (x : ℝ) :
    mergeK (fun g => (M g : EReal)) (fun g => ∑ u, (p g u : EReal)) (fun g => ∑ u, (p g u : EReal) * v g u)
      = ∑ g, groupWeight x (fun g => (M g : EReal) + Ideal.log (∑ u, (p g u : EReal))) g
          * ∑ u, v g u * Ideal.div (p g u) (∑ u, (p g u : EReal)) := by
  set D : Fin 3 → ℝ := fun g => ∑ u, p g u with hDdef
  have hDc : ∀ g, (∑ u, (p g u : EReal)) = ((D g : ℝ) : EReal) := fun g => (coe_sum _ _).symm
  set m : ℝ := max (max (M 0) (M 1)) (M 2) with hm
  have hmc : max (max ((M 0 : ℝ) : EReal) (M 1)) (M 2) = ((m : ℝ) : EReal) := by
    rw [hm, EReal.coe_strictMono.monotone.map_max, EReal.coe_strictMono.monotone.map_max]
  set w : Fin 3 → ℝ := fun g => Real.exp (M g - m) with hw
  have hwpos : ∀ g, 0 < w g := fun g => Real.exp_pos _
  have hwc : ∀ g, Ideal.exp (((M g : ℝ) : EReal) - (m : EReal)) = ((w g : ℝ) : EReal) := fun g => by
    rw [← EReal.coe_sub, Ideal.exp_coe]
  set z : ℝ := w 0 * D 0 + w 1 * D 1 + w 2 * D 2 with hz
  have hzpos : 0 < z := by
    have := fun g => mul_pos (hwpos g) (hD g)
    have h0 := this 0; have h1 := this 1; have h2 := this 2
    simp only [hz, hDdef]; linarith
  -- the reference's weights
  have hE : ∀ g, Ideal.exp (((M g : ℝ) : EReal) + Ideal.log ((D g : ℝ) : EReal) - (x : EReal))
      = ((Real.exp (M g - x) * D g : ℝ) : EReal) := fun g => by
    rw [Ideal.log_coe, if_neg (not_le.mpr (hD g)), ← EReal.coe_add, ← EReal.coe_sub, Ideal.exp_coe]
    congr 1
    rw [show M g + Real.log (D g) - x = (M g - x) + Real.log (D g) by ring, Real.exp_add, Real.exp_log (hD g)]
  set k : ℝ := Real.exp (m - x) with hk
  have hkpos : 0 < k := Real.exp_pos _
  have hEk : ∀ g, Real.exp (M g - x) = k * w g := fun g => by
    rw [hk, hw, ← Real.exp_add]; congr 1; ring
  have hW : ∀ g, groupWeight x (fun g => (M g : EReal) + Ideal.log (∑ u, (p g u : EReal))) g
      = ((w g * D g / z : ℝ) : EReal) := fun g => by
    unfold groupWeight
    simp only [hDc, hE]
    rw [← coe_sum]
    have hs : (∑ h, Real.exp (M h - x) * D h) = k * z := by
      rw [Fin.sum_univ_three, hEk, hEk, hEk, hz]; ring
    rw [hs, Ideal.div_coe (mul_pos hkpos hzpos).ne', ← EReal.coe_mul]
    congr 1
    rw [hEk]; field_simp
  unfold mergeK
  simp only [hW]
  simp only [hDc, hmc, hwc, zero_add]
  rw [← EReal.coe_mul, ← EReal.coe_mul, ← EReal.coe_mul, ← EReal.coe_add, ← EReal.coe_add, ← hz,
    Ideal.div_coe hzpos.ne', mul_comm]
  have hz0 : 0 ≤ 1 / z := by positivity
  rw [EReal.left_distrib_of_nonneg_of_ne_top (by exact_mod_cast hz0) (EReal.coe_ne_top _),
    EReal.left_distrib_of_nonneg_of_ne_top (by exact_mod_cast hz0) (EReal.coe_ne_top _), Fin.sum_univ_three]
  have key : ∀ g, ((1 / z : ℝ) : EReal) * (((w g : ℝ) : EReal) * ∑ u, (p g u : EReal) * v g u)
      = ((w g * D g / z : ℝ) : EReal) * ∑ u, v g u * Ideal.div (p g u) ((D g : ℝ) : EReal) := fun g => by
    rw [coe_mul_sum _ _ (hwpos g).le, coe_mul_sum _ _ hz0,
      coe_mul_sum _ _ (div_nonneg (mul_nonneg (hwpos g).le (hD g).le) hzpos.le)]
    refine Finset.sum_congr rfl fun u _ => ?_
    rw [Ideal.div_coe (hD g).ne', ← EReal.coe_mul, mul_comm (v g u), ← mul_assoc, ← mul_assoc, ← mul_assoc,
      ← EReal.coe_mul, ← EReal.coe_mul, ← EReal.coe_mul]
    congr 2
    have := (hD g).ne'
    field_simp
  rw [key 0, key 1, key 2]

/-- A row of scores that are real or masked, not all masked, has a real maximum. -/
theorem top_real {n : ℕ} (s : Fin n → EReal) (hs : ∀ u, s u ≠ ⊤) (u₀ : Fin n) (h₀ : s u₀ ≠ ⊥) :
    ∃ r : ℝ, top s = r := by
  have h1 : top s ≠ ⊤ := by
    have : top s < ⊤ := (Finset.sup_lt_iff (by simp)).mpr fun u _ => lt_top_iff_ne_top.mpr (hs u)
    exact this.ne
  have h2 : top s ≠ ⊥ := fun h => h₀ (by
    have := Finset.le_sup (f := s) (Finset.mem_univ u₀)
    change s u₀ ≤ top s at this
    rw [h] at this; exact le_bot_iff.mp this)
  exact ⟨(top s).toReal, (EReal.coe_toReal h1 h2).symm⟩

/-- The exponential of a real-or-masked score less a real is a nonnegative real, positive where not masked. -/
theorem exp_real (s : EReal) (hs : s ≠ ⊤) (r : ℝ) :
    ∃ p : ℝ, Ideal.exp (s - r) = p ∧ 0 ≤ p ∧ (s ≠ ⊥ → 0 < p) := by
  induction s with
  | bot => exact ⟨0, by rw [exp_bot_sub]; rfl, le_rfl, fun h => absurd rfl h⟩
  | coe a => exact ⟨Real.exp (a - r), by rw [← EReal.coe_sub, Ideal.exp_coe], (Real.exp_pos _).le, fun _ => Real.exp_pos _⟩
  | top => exact absurd rfl hs

/-- The log-sum-exp of a group. -/
def lse {n : ℕ} (s : Fin n → EReal) : EReal := top s + Ideal.log (∑ u, Ideal.exp (s u - top s))

/-- The reference's output of one lane: the groups' normalised sums, weighted by the softmax of the log-sum-exps. -/
def mergeR {n : ℕ} (s v : Fin 3 → Fin n → EReal) : EReal :=
  ∑ g, groupWeight (top fun g => lse (s g)) (fun g => lse (s g)) g
    * ∑ u, v g u * Ideal.div (Ideal.exp (s g u - top (s g))) (∑ u, Ideal.exp (s g u - top (s g)))

/-- The kernel's merge of the three groups' statistics is the reference's, where every score is finite or masked
    and each group has an unmasked key. -/
theorem merge_eq {n : ℕ} (s v : Fin 3 → Fin n → EReal) (hs : ∀ g u, s g u ≠ ⊤) (u₀ : Fin n) (h₀ : ∀ g, s g u₀ ≠ ⊥) :
    mergeK (fun g => top (s g)) (fun g => mix (s g) fun _ => 1) (fun g => mix (s g) (v g)) = mergeR s v := by
  choose M hM using fun g => top_real (s g) (hs g) u₀ (h₀ g)
  choose p hp hp0 hpp using fun g u => exp_real (s g u) (hs g u) (M g)
  have hD : ∀ g, 0 < ∑ u, p g u := fun g =>
    Finset.sum_pos' (fun u _ => hp0 g u) ⟨u₀, Finset.mem_univ _, hpp g u₀ (h₀ g)⟩
  have hL : ∀ g, ∃ l : ℝ, lse (s g) = l := fun g => by
    refine ⟨M g + Real.log (∑ u, p g u), ?_⟩
    unfold lse
    simp only [hM, hp]
    rw [← coe_sum, Ideal.log_coe, if_neg (not_le.mpr (hD g)), EReal.coe_add]
  choose L hLe using hL
  obtain ⟨x, hx⟩ := top_real (fun g => lse (s g)) (fun g => by rw [hLe]; exact EReal.coe_ne_top _) 0
    (by rw [hLe]; exact EReal.coe_ne_bot _)
  unfold mergeR
  rw [hx]
  unfold mix lse
  simp only [hM, hp, mul_one]
  exact merge_real M p hp0 hD v x

end Cert.Attn

end
-- ==== Proof.Attn.Block.lean ====
module

public import proofs.«01_k».proof.Proof.Attn.Algebra
public import proofs.«01_k».proof.Proof.Gen.KernelIdeal.Skeleton
public import Idealize.ShloMosaic.Lib.Pipeline.Value
public import Idealize.ShloMosaic.Lib.ValueIdx
public import Idealize.ShloMosaic.PureOps.Ideal.Laws
public import Idealize.ShloMosaic.PureOps.IdealRules

@[expose] public section

noncomputable section

/-! # One block of 128 queries

The kernel treats 48 blocks alike: scores of the 128 queries against `n` keys (128 for a class's first block, 256
for the others), masked; each row's maximum; the exponentials of the scores less it; and their product with the
values beside a column of ones. Here are the three arrays a block stores, as functions of its queries, keys,
values-and-ones and mask, and what each holds at a row. -/

namespace Cert.Attn

open Idealize.ShloMosaic Idealize.ShloMosaic.ValueIdx Cert.KernelIdeal

/-- The shape of a matrix of `a` rows and `b` columns. -/
abbrev Mat (a b : ℕ) : Shape := ⟨2, ![a, b]⟩

section Block

variable {n : ℕ} (D : DotDims (Mat 128 128) (Mat n 128) (Mat 128 n)) (D' : DotDims (Mat 128 n) (Mat n 256) (Mat 128 256))
  (hred : (Mat 128 n).Reduces [1] ⟨1, ![128]⟩) (hbc : (Mat 128 1).Broadcasts (Mat 128 n))
  (msk : IVec (Mat 128 n) 1) (Q : FVec Ideal (Mat 128 128) .bf16) (K : FVec Ideal (Mat n 128) .bf16)
  (VC : FVec Ideal (Mat n 256) .bf16)

/-- The masked scores. -/
def bScore : FVec Ideal (Mat 128 n) .f32 :=
  select msk (matmul D none Q K (constant (Mat 128 n) .f32 0x00000000#32))
    (broadcast (Mat 128 n) (Named.named (F := Ideal) κ "mask" 0xF149F2CA#32 : Ideal .f32))

/-- Each row's maximum, as a column. -/
def bTop : FVec Ideal (Mat 128 1) .f32 :=
  shapeCast (Mat 128 1) (multiReduction .maximumf [1] ⟨1, ![128]⟩ (bScore D msk Q K) 0xFF800000#32 hred (.inl rfl) rfl)
    Gen.shapeCasts_S128_S128x1

/-- The exponentials times the values beside ones. -/
def bProd : FVec Ideal (Mat 128 256) .f32 :=
  matmul D' none (truncf .bf16 (exp (subf (bScore D msk Q K) (broadcastTo (Mat 128 n) (bTop D hred msk Q K) hbc)))
    Gen.bitsLt_bf16_f32) VC (constant (Mat 128 256) .f32 0x00000000#32)

/-- The block's stored maxima. -/
def bM : FVec Ideal (Mat 128 128) .f32 :=
  shapeCast (Mat 128 128) (broadcastTo (Mat 128 128) (shapeCast (Mat 128 1) (bTop D hred msk Q K) Gen.shapeCasts_S128x1_S128x1)
    Gen.broadcasts_S128x1_S128x128) Gen.shapeCasts_S128x128_S128x128

/-- The block's stored sums of exponentials. -/
def bD : FVec Ideal (Mat 128 128) .f32 :=
  shapeCast (Mat 128 128) (extractStridedSlice (Mat 128 128) ![0, 128] (bProd D D' hred hbc msk Q K VC)
    Gen.slices_S128x256_o0_128_S128x128) Gen.shapeCasts_S128x128_S128x128

/-- The block's stored weighted values. -/
def bP : FVec Ideal (Mat 128 128) .f32 :=
  shapeCast (Mat 128 128) (extractStridedSlice (Mat 128 128) ![0, 0] (bProd D D' hred hbc msk Q K VC)
    Gen.slices_S128x256_o0_0_S128x128) Gen.shapeCasts_S128x128_S128x128

/-- The masked score of query row `r` against key row `j`. -/
def rowScore (r : Fin 128) (j : Fin n) : EReal :=
  if msk (ix2 r j) = 1#1 then ∑ d : Fin 128, Q (ix2 r d) * K (ix2 j d) else ⊥

/-- The scores' product: 128 features contracted, the last axis of both operands. -/
structure ScoreDot (D : DotDims (Mat 128 128) (Mat n 128) (Mat 128 n)) : Prop where
  rank : D.contr.rank = 1
  size : ∀ h : 0 < D.contr.rank, D.contr.size ⟨0, h⟩ = 128
  lhs : ∀ (i : (Mat 128 n).Idx) (q : D.contr.Idx) (h : 0 < D.contr.rank),
    (D.lhsIdx i q 0).val = (i 0).val ∧ (D.lhsIdx i q 1).val = (q ⟨0, h⟩).val
  rhs : ∀ (i : (Mat 128 n).Idx) (q : D.contr.Idx) (h : 0 < D.contr.rank),
    (D.rhsIdx i q 0).val = (i 1).val ∧ (D.rhsIdx i q 1).val = (q ⟨0, h⟩).val

/-- The values' product: the keys contracted, the last axis of the weights and the first of the values. -/
structure ValueDot (D' : DotDims (Mat 128 n) (Mat n 256) (Mat 128 256)) : Prop where
  rank : D'.contr.rank = 1
  size : ∀ h : 0 < D'.contr.rank, D'.contr.size ⟨0, h⟩ = n
  lhs : ∀ (i : (Mat 128 256).Idx) (q : D'.contr.Idx) (h : 0 < D'.contr.rank),
    (D'.lhsIdx i q 0).val = (i 0).val ∧ (D'.lhsIdx i q 1).val = (q ⟨0, h⟩).val
  rhs : ∀ (i : (Mat 128 256).Idx) (q : D'.contr.Idx) (h : 0 < D'.contr.rank),
    (D'.rhsIdx i q 0).val = (q ⟨0, h⟩).val ∧ (D'.rhsIdx i q 1).val = (i 1).val

theorem ScoreDot.pos {D : DotDims (Mat 128 128) (Mat n 128) (Mat 128 n)} (h : ScoreDot D) : 0 < D.contr.rank := by
  rw [h.rank]; decide

theorem ValueDot.pos {D' : DotDims (Mat 128 n) (Mat n 256) (Mat 128 256)} (h : ValueDot D') : 0 < D'.contr.rank := by
  rw [h.rank]; decide

variable (hD : ScoreDot D)

include hD in
theorem bScore_apply (r : Fin 128) (j : Fin n) : bScore D msk Q K (ix2 r j) = rowScore msk Q K r j := by
  unfold bScore rowScore
  rw [select_apply, broadcast_apply, IdealRules.named_const.ideal_named_scalar _ _ _ _ rfl]
  simp only [matmul]
  rw [Ideal.matmul_constant_zero_apply, ← Equiv.sum_comp (contrEquiv1 D 128 hD.rank (hD.size hD.pos)).symm]
  have : ∀ d : Fin 128, Q (D.lhsIdx (ix2 r j) ((contrEquiv1 D 128 hD.rank (hD.size hD.pos)).symm d)) * K (D.rhsIdx (ix2 r j) ((contrEquiv1 D 128 hD.rank (hD.size hD.pos)).symm d))
      = Q (ix2 r d) * K (ix2 j d) := fun d => by
    have hd := contrEquiv1_symm_val D 128 hD.rank (hD.size hD.pos) d
    have el : D.lhsIdx (ix2 r j) ((contrEquiv1 D 128 hD.rank (hD.size hD.pos)).symm d) = ix2 r d :=
      Shape.idx_ext₂ (hD.lhs _ _ hD.pos).1 ((hD.lhs _ _ hD.pos).2.trans hd)
    have er : D.rhsIdx (ix2 r j) ((contrEquiv1 D 128 hD.rank (hD.size hD.pos)).symm d) = ix2 j d :=
      Shape.idx_ext₂ (hD.rhs _ _ hD.pos).1 ((hD.rhs _ _ hD.pos).2.trans hd)
    rw [el, er]
  simp only [this]
  by_cases h : msk (ix2 r j) = 1#1
  · rw [if_pos h, h, select_one]
  · rw [if_neg h, eq_zero_of_ne_one h, select_zero]

include hD in
theorem bTop_apply (r : Fin 128) (z : Fin 1) : bTop D hred msk Q K (ix2 r z) = top (rowScore msk Q K r) := by
  unfold bTop
  rw [shapeCast_apply _ _ _ (ix1 r) (by
    rw [Shape.rowMajor_val_one, Shape.rowMajor_val_two]
    show r.val = r.val * 1 + z.val
    omega)]
  refine (Ideal.multiReduction_maximumf_single _ _ _ _ _ _).trans ?_
  unfold top
  rw [show (FloatOps.ofBits (F := Ideal) .f32 0xFF800000#32) = (⊥ : EReal) from by show Ideal.ofBits .f32 0xFF800000#32 = ⊥; simp [Ideal.ofBits, Ideal.ieee]]
  have : (bScore D msk Q K ∘ hred.lift (ix1 r)) = rowScore msk Q K r := by
    funext j
    rw [← bScore_apply D msk Q K hD r j]
    exact congrArg (bScore D msk Q K) (Shape.idx_ext₂ rfl rfl)
  rw [this]
  rfl

variable (hD' : ValueDot D')

include hD hD' in
/-- Row `r`, column `c` of the product: the row's weights against column `c` of the values beside ones. -/
theorem bProd_apply (r : Fin 128) (c : Fin 256) :
    bProd D D' hred hbc msk Q K VC (ix2 r c) = mix (rowScore msk Q K r) (fun j => VC (ix2 j c)) := by
  unfold bProd mix
  simp only [matmul]
  rw [Ideal.matmul_constant_zero_apply, ← Equiv.sum_comp (contrEquiv1 D' n hD'.rank (hD'.size hD'.pos)).symm]
  refine Finset.sum_congr rfl fun j _ => ?_
  have hd := contrEquiv1_symm_val D' n hD'.rank (hD'.size hD'.pos) j
  have el : D'.lhsIdx (ix2 r c) ((contrEquiv1 D' n hD'.rank (hD'.size hD'.pos)).symm j) = ix2 r j :=
    Shape.idx_ext₂ (hD'.lhs _ _ hD'.pos).1 ((hD'.lhs _ _ hD'.pos).2.trans hd)
  have er : D'.rhsIdx (ix2 r c) ((contrEquiv1 D' n hD'.rank (hD'.size hD'.pos)).symm j) = ix2 j c :=
    Shape.idx_ext₂ ((hD'.rhs _ _ hD'.pos).1.trans hd) (hD'.rhs _ _ hD'.pos).2
  rw [el, er]
  congr 1
  show Ideal.exp (bScore D msk Q K (ix2 r j) - broadcastTo (Mat 128 n) (bTop D hred msk Q K) hbc (ix2 r j)) = _
  rw [bScore_apply D msk Q K hD, broadcastTo_apply _ hbc (ix2 r j) (ix2 r 0) (fun a => by
    match a with
    | ⟨0, _⟩ => rfl
    | ⟨1, _⟩ => rfl), bTop_apply D hred msk Q K hD]

include hD in
/-- The stored maximum of row `r`, in every lane. -/
theorem bM_apply (r l : Fin 128) : bM D hred msk Q K (ix2 r l) = top (rowScore msk Q K r) := by
  unfold bM
  rw [shapeCast_self, shapeCast_self]
  exact (broadcastTo_apply _ _ (ix2 r l) (ix2 r (0 : Fin 1)) (fun a => by
    match a with
    | ⟨0, _⟩ => rfl
    | ⟨1, _⟩ => rfl)).trans (bTop_apply D hred msk Q K hD r 0)

include hD hD' in
/-- The stored sum of row `r`, in every lane, where the right half of the values' array is ones. -/
theorem bD_apply (hone : ∀ (j : Fin n) (c : Fin 128), VC (ix2 j (⟨128 + c.val, by omega⟩ : Fin 256)) = 1) (r l : Fin 128) :
    bD D D' hred hbc msk Q K VC (ix2 r l) = mix (rowScore msk Q K r) (fun _ => 1) := by
  unfold bD
  rw [shapeCast_self]
  refine (extractStridedSlice_apply _ _ _ (ix2 r l) (ix2 r (⟨128 + l.val, by omega⟩ : Fin 256))
    (fun a => by
      match a with
      | ⟨0, _⟩ => exact (Nat.zero_add _).symm
      | ⟨1, _⟩ => rfl)).trans ((bProd_apply D D' hred hbc msk Q K VC hD hD' _ _).trans ?_)
  congr 1
  funext j
  exact hone j l

include hD hD' in
/-- The stored weighted values of row `r`. -/
theorem bP_apply (r l : Fin 128) :
    bP D D' hred hbc msk Q K VC (ix2 r l)
      = mix (rowScore msk Q K r) (fun j => VC (ix2 j (⟨l.val, by omega⟩ : Fin 256))) := by
  unfold bP
  rw [shapeCast_self]
  exact (extractStridedSlice_apply _ _ _ (ix2 r l) (ix2 r (⟨l.val, by omega⟩ : Fin 256))
    (fun a => by
      match a with
      | ⟨0, _⟩ => exact (Nat.zero_add _).symm
      | ⟨1, _⟩ => exact (Nat.zero_add _).symm)).trans (bProd_apply D D' hred hbc msk Q K VC hD hD' _ _)

end Block

end Cert.Attn

end
-- ==== Proof.Attn.Spec.lean ====
module

public import proofs.«01_k».proof.Proof.Attn.Block
public import Idealize.ShloMosaic.Lib.WordCmp
public import Idealize.ShloMosaic.Lib.Affine

@[expose] public section

noncomputable section

/-! # The scores in token order, and what the kernel's blocks are in them

In each tile of 1024 tokens the rows of an argument lie by residue class modulo the dilation `d`, `per = 1024 / d`
rows to a class. Position `p` of class `c` is the token `c + d * p`. -/

namespace Cert.Attn

open Idealize.ShloMosaic Idealize.ShloMosaic.ValueIdx Cert.KernelIdeal

/-- The row holding position `p` of class `c`. -/
def row (per c p : ℕ) : Fin 2048 := ⟨(p / per * 1024 + c * per + p % per) % 2048, Nat.mod_lt _ (by decide)⟩

/-- The token at position `p` of class `c`. -/
def tok (d c p : ℕ) : Fin 2048 := ⟨(c + d * p) % 2048, Nat.mod_lt _ (by decide)⟩

/-- The row holding token `t`. -/
def tokRow (d per : ℕ) (t : Fin 2048) : Fin 2048 := row per (t.val % d) (t.val / d)

/-- Whether query token `t` attends key token `u`: at a distance behind it, zero included, that is a multiple of
    the dilation and at most 128 times it. -/
def Sees (d : ℕ) (t u : Fin 2048) : Prop := u.val ≤ t.val ∧ t.val - u.val ≤ 128 * d ∧ (t.val - u.val) % d = 0

instance (d : ℕ) (t u : Fin 2048) : Decidable (Sees d t u) := inferInstanceAs (Decidable (_ ∧ _ ∧ _))

/-- The score of query token `t` against key token `u`, `⊥` where it is masked. -/
def score (d per : ℕ) (Q K : Fin 2048 → Fin 128 → EReal) (t u : Fin 2048) : EReal :=
  if Sees d t u then ∑ x, Q (tokRow d per t) x * K (tokRow d per u) x else ⊥

/-- `A` holds the rows of `X` at the positions of class `c` from `p` on. -/
def Rows {n m : ℕ} (A : FVec Ideal (Mat n m) .bf16) (X : Fin 2048 → Fin m → EReal) (per c p : ℕ) : Prop :=
  ∀ (r : Fin n) (x : Fin m), A (ix2 r x) = X (row per c (p + r.val)) x

theorem tokRow_tok {d : ℕ} (per : ℕ) {c p : ℕ} (hd : d = 1 ∨ d = 4 ∨ d = 16) (hc : c < d) (hp : d * (p + 1) ≤ 2048) :
    tokRow d per (tok d c p) = row per c p := by
  have h1 : (c + d * p) % 2048 % d = c := by rcases hd with rfl | rfl | rfl <;> omega
  have h2 : (c + d * p) % 2048 / d = p := by rcases hd with rfl | rfl | rfl <;> omega
  show row per ((c + d * p) % 2048 % d) ((c + d * p) % 2048 / d) = _
  rw [h1, h2]

/-- The band mask of a 128 by 256 block: keys at most 128 positions behind the query, whose position in the key
    block is 128 on. -/
theorem band_mask (r : Fin 128) (j : Fin 256) :
    Gen.k0_pay2 (ix2 r j) = 1#1 ↔ r.val ≤ j.val ∧ j.val ≤ r.val + 128 := by
  have h1 := r.isLt
  have h2 := j.isLt
  have e0 : iota .tc S128x256 32 [0] Gen.iota_S128x256_d0_w32 (ix2 r j) = BitVec.ofNat 32 r.val := iota_single_apply _ _ _ _ _ _
  have e1 : iota .tc S128x256 32 [1] Gen.iota_S128x256_d1_w32 (ix2 r j) = BitVec.ofNat 32 j.val := iota_single_apply _ _ _ _ _ _
  have key : Gen.k0_pay2 (ix2 r j) = IntOp.andi (IntOp.cmpi .sge (BitVec.ofNat 32 j.val) (BitVec.ofNat 32 r.val))
      (IntOp.cmpi .sle (BitVec.ofNat 32 j.val) (IntOp.addi (BitVec.ofNat 32 r.val) (BitVec.ofNat 32 128))) := by
    rw [← e0, ← e1]
    rfl
  rw [key, IntOp.andi_eq_one, WordCmp.addi_ofNat, WordCmp.cmpi_sge_ofNat_eq_one_iff (by omega) (by omega),
    WordCmp.cmpi_sle_ofNat_eq_one_iff (by omega) (by omega)]

/-- The causal mask of a 128 by 128 block. -/
theorem causal_mask (r j : Fin 128) : Gen.k0_pay3 (ix2 r j) = 1#1 ↔ j.val ≤ r.val := by
  have h1 := r.isLt
  have h2 := j.isLt
  have e0 : iota .tc S128x128 32 [0] Gen.iota_S128x128_d0_w32 (ix2 r j) = BitVec.ofNat 32 r.val := iota_single_apply _ _ _ _ _ _
  have e1 : iota .tc S128x128 32 [1] Gen.iota_S128x128_d1_w32 (ix2 r j) = BitVec.ofNat 32 j.val := iota_single_apply _ _ _ _ _ _
  have key : Gen.k0_pay3 (ix2 r j) = IntOp.cmpi .sle (BitVec.ofNat 32 j.val) (BitVec.ofNat 32 r.val) := by
    rw [← e0, ← e1]
    rfl
  rw [key, WordCmp.cmpi_sle_ofNat_eq_one_iff (by omega) (by omega)]

variable {d per c i : ℕ} {Q K V : Fin 2048 → Fin 128 → EReal}

section Causal

variable {Qb Kb : FVec Ideal (Mat 128 128) .bf16}

/-- The scores of a class's first block are the scores in token order. -/
theorem causal_score (hd : d = 1 ∨ d = 4 ∨ d = 16) (hc : c < d) (hQ : Rows Qb Q per c 0) (hK : Rows Kb K per c 0)
    (r : Fin 128) (t : Fin 2048) (ht : t.val = c + d * r.val) :
    rowScore Gen.k0_pay3 Qb Kb r = fun j : Fin 128 => score d per Q K t (tok d c j.val) := by
  funext j
  have h1 := r.isLt
  have h2 := j.isLt
  obtain rfl : t = tok d c r.val := Fin.ext (by
    show t.val = (c + d * r.val) % 2048
    rcases hd with rfl | rfl | rfl <;> omega)
  unfold rowScore score
  refine if_congr ?_ ?_ rfl
  · rw [causal_mask]
    show _ ↔ (c + d * j.val) % 2048 ≤ (c + d * r.val) % 2048 ∧ (c + d * r.val) % 2048 - (c + d * j.val) % 2048 ≤ 128 * d
      ∧ ((c + d * r.val) % 2048 - (c + d * j.val) % 2048) % d = 0
    rcases hd with rfl | rfl | rfl <;> omega
  · rw [tokRow_tok per hd hc (by rcases hd with rfl | rfl | rfl <;> omega),
      tokRow_tok per hd hc (by rcases hd with rfl | rfl | rfl <;> omega)]
    refine Finset.sum_congr rfl fun x _ => ?_
    rw [hQ, hK, Nat.zero_add, Nat.zero_add]

/-- Every key outside a class's first block is masked. -/
theorem causal_out (hd : d = 1 ∨ d = 4 ∨ d = 16) (hc : c < d) (r : Fin 128) (t : Fin 2048) (ht : t.val = c + d * r.val)
    (u : Fin 2048) (hu : ∀ j : Fin 128, tok d c j.val ≠ u) : score d per Q K t u = ⊥ := by
  have h1 := r.isLt
  refine if_neg fun h => ?_
  have h2 : u.val ≤ t.val ∧ t.val - u.val ≤ 128 * d ∧ (t.val - u.val) % d = 0 := h
  refine hu ⟨u.val / d, ?_⟩ (Fin.ext ?_)
  · rcases hd with rfl | rfl | rfl <;> omega
  · show (c + d * (u.val / d)) % 2048 = u.val
    rcases hd with rfl | rfl | rfl <;> omega

end Causal

section Band

variable {Qb : FVec Ideal (Mat 128 128) .bf16} {Kb : FVec Ideal (Mat 256 128) .bf16}

/-- The scores of a later block are the scores in token order. -/
theorem band_score (hd : d = 1 ∨ d = 4 ∨ d = 16) (hc : c < d) (hb : d * (128 * i + 256) ≤ 2048)
    (hQ : Rows Qb Q per c (128 * i + 128)) (hK : Rows Kb K per c (128 * i))
    (r : Fin 128) (t : Fin 2048) (ht : t.val = c + d * (128 * i + 128 + r.val)) :
    rowScore Gen.k0_pay2 Qb Kb r = fun j : Fin 256 => score d per Q K t (tok d c (128 * i + j.val)) := by
  funext j
  have h1 := r.isLt
  have h2 := j.isLt
  obtain rfl : t = tok d c (128 * i + 128 + r.val) := Fin.ext (by
    show t.val = (c + d * (128 * i + 128 + r.val)) % 2048
    rcases hd with rfl | rfl | rfl <;> omega)
  unfold rowScore score
  refine if_congr ?_ ?_ rfl
  · rw [band_mask]
    show _ ↔ (c + d * (128 * i + j.val)) % 2048 ≤ (c + d * (128 * i + 128 + r.val)) % 2048
      ∧ (c + d * (128 * i + 128 + r.val)) % 2048 - (c + d * (128 * i + j.val)) % 2048 ≤ 128 * d
      ∧ ((c + d * (128 * i + 128 + r.val)) % 2048 - (c + d * (128 * i + j.val)) % 2048) % d = 0
    rcases hd with rfl | rfl | rfl <;> omega
  · rw [tokRow_tok per hd hc (by rcases hd with rfl | rfl | rfl <;> omega),
      tokRow_tok per hd hc (by rcases hd with rfl | rfl | rfl <;> omega)]
    refine Finset.sum_congr rfl fun x _ => ?_
    rw [hQ, hK]

/-- Every key outside a later block's is masked. -/
theorem band_out (hd : d = 1 ∨ d = 4 ∨ d = 16) (hc : c < d) (hb : d * (128 * i + 256) ≤ 2048)
    (r : Fin 128) (t : Fin 2048) (ht : t.val = c + d * (128 * i + 128 + r.val))
    (u : Fin 2048) (hu : ∀ j : Fin 256, tok d c (128 * i + j.val) ≠ u) : score d per Q K t u = ⊥ := by
  have h1 := r.isLt
  refine if_neg fun h => ?_
  have h2 : u.val ≤ t.val ∧ t.val - u.val ≤ 128 * d ∧ (t.val - u.val) % d = 0 := h
  refine hu ⟨u.val / d - 128 * i, ?_⟩ (Fin.ext ?_)
  · rcases hd with rfl | rfl | rfl <;> omega
  · show (c + d * (128 * i + (u.val / d - 128 * i))) % 2048 = u.val
    rcases hd with rfl | rfl | rfl <;> omega

end Band

/-- Positions of a class are different tokens. -/
theorem tok_inj (hd : d = 1 ∨ d = 4 ∨ d = 16) {n p : ℕ} (hb : c + d * (p + n) ≤ 2048 + c) (hc : c < d) :
    Function.Injective fun j : Fin n => tok d c (p + j.val) := fun a b h => by
  have h1 := a.isLt
  have h2 := b.isLt
  have h3 : (c + d * (p + a.val)) % 2048 = (c + d * (p + b.val)) % 2048 := congrArg Fin.val h
  refine Fin.ext ?_
  rcases hd with rfl | rfl | rfl <;> omega

end Cert.Attn

end
-- ==== Proof.Attn.Piece.lean ====
module

public import proofs.«01_k».proof.Proof.Attn.Spec
public import Idealize.ShloMosaic.Lib.WholeRead

@[expose] public section

noncomputable section

/-! # What one stored block holds, in token order -/

namespace Cert.Attn

open Idealize.ShloMosaic Idealize.ShloMosaic.ValueIdx Cert.KernelIdeal

/-- The rows of a block of queries, keys or values. -/
abbrev rowsOf (X : Vec Ideal S2048x128 .bf16) : Fin 2048 → Fin 128 → EReal := fun r x => X (ix2 r x)

/-- Values with ones beside them, 128 columns of each. -/
def besideOnes (V : Fin 2048 → Fin 128 → EReal) (r : Fin 2048) (x : Fin 256) : EReal :=
  if h : x.val < 128 then V r ⟨x.val, h⟩ else 1

/-- The maximum of each token's scores, in every lane. -/
def statM (d per : ℕ) (Q K : Fin 2048 → Fin 128 → EReal) : S2048x128.Idx → EReal :=
  fun y => top (score d per Q K (y 0))

/-- The sum of the exponentials of each token's scores less their maximum, in every lane. -/
def statD (d per : ℕ) (Q K : Fin 2048 → Fin 128 → EReal) : S2048x128.Idx → EReal :=
  fun y => mix (score d per Q K (y 0)) fun _ => 1

/-- The values weighted with those exponentials. -/
def statP (d per : ℕ) (Q K V : Fin 2048 → Fin 128 → EReal) : S2048x128.Idx → EReal :=
  fun y => mix (score d per Q K (y 0)) fun u => V (tokRow d per u) (y 1)

/-- A load of `n` rows from row `o` on, where positions `p` to `p + n` of class `c` lie in one tile from row `o` on. -/
theorem rows_load {n m : ℕ} {a : Memref sig .tc .vmem (Mat 2048 m) .bf16} {h : a.IsWhole} {X : Vec Ideal (Mat 2048 m) .bf16}
    {o : ℕ} {inb : ∀ b, ![o, 0] b + (Mat n m).size b ≤ (Mat 2048 m).size b} {per c p : ℕ}
    (hn : p % per + n ≤ per) (ho : p / per * 1024 + c * per + p % per = o) :
    Rows (View.readAt (Elt Ideal) a.view (Rect.unit (s := Mat 2048 m) ![o, 0] (Mat n m).size inb).toLoadRect (h.unread X))
      (fun r x => X (ix2 r x)) per c p := fun r x => by
  have hr := r.isLt
  have hbd : o + n ≤ 2048 := inb 0
  have h1 : (p + r.val) / per = p / per := by
    rw [← Nat.mod_add_div p per, Nat.add_right_comm, Nat.add_mul_div_left _ _ (by omega), Nat.add_mul_div_left _ _ (by omega),
      Nat.div_eq_of_lt (by omega), Nat.div_eq_of_lt (Nat.mod_lt _ (by omega))]
  have h2 : (p + r.val) % per = p % per + r.val := by
    rw [Nat.add_mod, Nat.mod_eq_of_lt (a := r.val) (by omega), Nat.mod_eq_of_lt (by omega)]
  refine (h.readAt_unread X (Rect.unit (s := Mat 2048 m) ![o, 0] (Mat n m).size inb).toLoadRect (ix2 r x)).trans (congrArg X (Shape.idx_ext₂ ?_ ?_))
  · show o + 1 * r.val = ((p + r.val) / per * 1024 + c * per + (p + r.val) % per) % 2048
    rw [h1, h2, Nat.mod_eq_of_lt (by omega)]
    omega
  · show 0 + 1 * x.val = x.val
    omega

/-- The rows read back from an array of values and ones. -/
theorem rows_readCov {n : ℕ} {a : Memref sig .tc .vmem S2048x256 .bf16} {L : List (View.Piece (Elt Ideal) S2048x256 .bf16)}
    {V : Fin 2048 → Fin 128 → EReal} (hL : ∀ y, View.canon L y = besideOnes V (y 0) (y 1))
    {o : ℕ} {inb : ∀ b, ![o, 0] b + (Mat n 256).size b ≤ S2048x256.size b} {per c p : ℕ}
    (hn : p % per + n ≤ per) (ho : p / per * 1024 + c * per + p % per = o) :
    Rows (a.view.readCov L (Rect.unit (s := S2048x256) ![o, 0] (Mat n 256).size inb).toLoadRect)
      (besideOnes V) per c p := fun r x => by
  have hr := r.isLt
  have hbd : o + n ≤ 2048 := inb 0
  have h1 : (p + r.val) / per = p / per := by
    rw [← Nat.mod_add_div p per, Nat.add_right_comm, Nat.add_mul_div_left _ _ (by omega), Nat.add_mul_div_left _ _ (by omega),
      Nat.div_eq_of_lt (by omega), Nat.div_eq_of_lt (Nat.mod_lt _ (by omega))]
  have h2 : (p + r.val) % per = p % per + r.val := by
    rw [Nat.add_mod, Nat.mod_eq_of_lt (a := r.val) (by omega), Nat.mod_eq_of_lt (by omega)]
  refine (congrFun (View.readCov_eq_canon' a.view L (Rect.unit (s := S2048x256) ![o, 0] (Mat n 256).size inb).toLoadRect) (ix2 r x)).trans ((hL _).trans ?_)
  congr 1
  · refine Fin.ext ?_
    show o + 1 * r.val = ((p + r.val) / per * 1024 + c * per + (p + r.val) % per) % 2048
    rw [h1, h2, Nat.mod_eq_of_lt (by omega)]
    omega
  · refine Fin.ext ?_
    show 0 + 1 * x.val = x.val
    omega

/-- Two runs of rows, the second's positions following the first's, one above the other. -/
theorem rows_cat {n₁ n₂ m : ℕ} {A₁ : FVec Ideal (Mat n₁ m) .bf16} {A₂ : FVec Ideal (Mat n₂ m) .bf16}
    (h : Shape.Concatenates [Mat n₁ m, Mat n₂ m] (Mat (n₁ + n₂) m) 0) {X : Fin 2048 → Fin m → EReal} {per c p : ℕ}
    (h₁ : Rows A₁ X per c p) (h₂ : Rows A₂ X per c (p + n₁)) :
    Rows (concatenate (Mat (n₁ + n₂) m) 0 [⟨Mat n₁ m, A₁⟩, ⟨Mat n₂ m, A₂⟩] h) X per c p := fun r x => by
  have hr := r.isLt
  by_cases hlt : r.val < n₁
  · refine (concatenate_pair_apply_left (t := Mat (n₁ + n₂) m) 0 A₁ A₂ h (ix2 r x) rfl (ix2 ⟨r.val, hlt⟩ x) (fun b => by
      match b with
      | ⟨0, _⟩ => rfl
      | ⟨1, _⟩ => rfl)).trans (h₁ _ _)
  · refine (concatenate_pair_apply_right (t := Mat (n₁ + n₂) m) 0 A₁ A₂ h (ix2 r x) rfl rfl (ix2 ⟨r.val - n₁, by omega⟩ x) (fun b hb => by
      match b with
      | ⟨0, _⟩ => exact absurd rfl hb
      | ⟨1, _⟩ => rfl) (by show r.val - n₁ + n₁ = r.val; omega)).trans ((h₂ _ _).trans ?_)
    show X (row per c (p + n₁ + (r.val - n₁))) x = _
    rw [Nat.add_assoc, Nat.add_sub_cancel' (by omega)]

variable {d per c i : ℕ} {Q K V : Fin 2048 → Fin 128 → EReal} {off st : Fin 2 → ℕ}

section Causal

variable {Qb Kb : FVec Ideal (Mat 128 128) .bf16} {VCb : FVec Ideal (Mat 128 256) .bf16}

theorem causal_scoreDot : ScoreDot dot_S128x128_S128x128_S128x128_1_1_0_0_n_n where
  rank := rfl
  size _ := rfl
  lhs i q h := ⟨by unfold DotDims.lhsIdx; rw [dif_neg (by decide), dif_pos (by decide)]; rfl, DotDims.lhsIdx_val_of_single _ rfl i q⟩
  rhs i q h := ⟨by unfold DotDims.rhsIdx; rw [dif_neg (by decide), dif_pos (by decide)]; rfl, DotDims.rhsIdx_val_of_single _ rfl i q⟩

theorem causal_valueDot : ValueDot dot_S128x128_S128x256_S128x256_1_0_0_1_n_n where
  rank := rfl
  size _ := rfl
  lhs i q h := ⟨by unfold DotDims.lhsIdx; rw [dif_neg (by decide), dif_pos (by decide)]; rfl, DotDims.lhsIdx_val_of_single _ rfl i q⟩
  rhs i q h := ⟨DotDims.rhsIdx_val_of_single _ rfl i q, by unfold DotDims.rhsIdx; rw [dif_neg (by decide), dif_pos (by decide)]; rfl⟩

/-- A class's first block stores as maxima those of the tokens' scores. -/
theorem causal_M (hd : d = 1 ∨ d = 4 ∨ d = 16) (hc : c < d) (h0 : off 0 = c) (hs : st 0 = d)
    (hQ : Rows Qb Q per c 0) (hK : Rows Kb K per c 0) (r l : Fin 128) (y : S2048x128.Idx)
    (hy0 : (y 0).val = off 0 + st 0 * r.val) (_ : (y 1).val = off 1 + st 1 * l.val) :
    bM dot_S128x128_S128x128_S128x128_1_1_0_0_n_n Gen.reduces_S128x128_S128 Gen.k0_pay3 Qb Kb (ix2 r l)
      = statM d per Q K y := by
  have hy : (y 0).val = c + d * r.val := by rw [hy0, h0, hs]
  rw [bM_apply _ _ _ _ _ causal_scoreDot, causal_score hd hc hQ hK r (y 0) hy]
  exact top_reindex (fun j : Fin 128 => tok d c j.val) _ (causal_out hd hc r (y 0) hy)

/-- It stores as sums of exponentials those of the tokens' scores. -/
theorem causal_D (hd : d = 1 ∨ d = 4 ∨ d = 16) (hc : c < d) (h0 : off 0 = c) (hs : st 0 = d)
    (hQ : Rows Qb Q per c 0) (hK : Rows Kb K per c 0)
    (hV : Rows VCb (besideOnes V) per c 0) (r l : Fin 128) (y : S2048x128.Idx)
    (hy0 : (y 0).val = off 0 + st 0 * r.val) (_ : (y 1).val = off 1 + st 1 * l.val) :
    bD dot_S128x128_S128x128_S128x128_1_1_0_0_n_n dot_S128x128_S128x256_S128x256_1_0_0_1_n_n Gen.reduces_S128x128_S128
      Gen.broadcasts_S128x1_S128x128 Gen.k0_pay3 Qb Kb VCb (ix2 r l) = statD d per Q K y := by
  have hy : (y 0).val = c + d * r.val := by rw [hy0, h0, hs]
  rw [bD_apply _ _ _ _ _ _ _ _ causal_scoreDot causal_valueDot (fun j x => (hV j ⟨128 + x.val, by omega⟩).trans (dif_neg (by simp))),
    causal_score hd hc hQ hK r (y 0) hy]
  exact mix_reindex (fun j : Fin 128 => tok d c j.val)
    (by simpa using tok_inj (c := c) hd (n := 128) (p := 0) (by rcases hd with rfl | rfl | rfl <;> omega) hc) _ (fun _ => 1)
    (causal_out hd hc r (y 0) hy)

/-- It stores as weighted values those of the tokens. -/
theorem causal_P (hd : d = 1 ∨ d = 4 ∨ d = 16) (hc : c < d) (h0 : off 0 = c) (hs : st 0 = d) (h1 : off 1 = 0) (hs1 : st 1 = 1)
    (hQ : Rows Qb Q per c 0) (hK : Rows Kb K per c 0)
    (hV : Rows VCb (besideOnes V) per c 0) (r l : Fin 128) (y : S2048x128.Idx)
    (hy0 : (y 0).val = off 0 + st 0 * r.val) (hy1 : (y 1).val = off 1 + st 1 * l.val) :
    bP dot_S128x128_S128x128_S128x128_1_1_0_0_n_n dot_S128x128_S128x256_S128x256_1_0_0_1_n_n Gen.reduces_S128x128_S128
      Gen.broadcasts_S128x1_S128x128 Gen.k0_pay3 Qb Kb VCb (ix2 r l) = statP d per Q K V y := by
  have hy : (y 0).val = c + d * r.val := by rw [hy0, h0, hs]
  have hl : (y 1).val = l.val := by rw [hy1, h1, hs1, Nat.zero_add, Nat.one_mul]
  have hl' : y 1 = l := Fin.ext hl
  have hv : ∀ j : Fin 128, VCb (ix2 j (⟨l.val, by omega⟩ : Fin 256)) = V (tokRow d per (tok d c j.val)) (y 1) := fun j => by
    have hj := j.isLt
    rw [tokRow_tok per hd hc (by rcases hd with rfl | rfl | rfl <;> omega), hl']
    exact (hV _ _).trans ((dif_pos l.isLt).trans (by rw [Nat.zero_add]))
  rw [bP_apply _ _ _ _ _ _ _ _ causal_scoreDot causal_valueDot, causal_score hd hc hQ hK r (y 0) hy]
  simp only [hv]
  exact mix_reindex (fun j : Fin 128 => tok d c j.val)
    (by simpa using tok_inj (c := c) hd (n := 128) (p := 0) (by rcases hd with rfl | rfl | rfl <;> omega) hc) _
    (fun u => V (tokRow d per u) (y 1)) (causal_out hd hc r (y 0) hy)

end Causal

section Band

variable {Qb : FVec Ideal (Mat 128 128) .bf16} {Kb : FVec Ideal (Mat 256 128) .bf16} {VCb : FVec Ideal (Mat 256 256) .bf16}

theorem band_scoreDot : ScoreDot dot_S128x128_S256x128_S128x256_1_1_0_0_n_n where
  rank := rfl
  size _ := rfl
  lhs i q h := ⟨by unfold DotDims.lhsIdx; rw [dif_neg (by decide), dif_pos (by decide)]; rfl, DotDims.lhsIdx_val_of_single _ rfl i q⟩
  rhs i q h := ⟨by unfold DotDims.rhsIdx; rw [dif_neg (by decide), dif_pos (by decide)]; rfl, DotDims.rhsIdx_val_of_single _ rfl i q⟩

theorem band_valueDot : ValueDot dot_S128x256_S256x256_S128x256_1_0_0_1_n_n where
  rank := rfl
  size _ := rfl
  lhs i q h := ⟨by unfold DotDims.lhsIdx; rw [dif_neg (by decide), dif_pos (by decide)]; rfl, DotDims.lhsIdx_val_of_single _ rfl i q⟩
  rhs i q h := ⟨DotDims.rhsIdx_val_of_single _ rfl i q, by unfold DotDims.rhsIdx; rw [dif_neg (by decide), dif_pos (by decide)]; rfl⟩

/-- A later block stores as maxima those of the tokens' scores. -/
theorem band_M (hd : d = 1 ∨ d = 4 ∨ d = 16) (hc : c < d) (hb : d * (128 * i + 256) ≤ 2048)
    (h0 : off 0 = c + d * (128 * i + 128)) (hs : st 0 = d)
    (hQ : Rows Qb Q per c (128 * i + 128)) (hK : Rows Kb K per c (128 * i)) (r l : Fin 128) (y : S2048x128.Idx)
    (hy0 : (y 0).val = off 0 + st 0 * r.val) (_ : (y 1).val = off 1 + st 1 * l.val) :
    bM dot_S128x128_S256x128_S128x256_1_1_0_0_n_n Gen.reduces_S128x256_S128 Gen.k0_pay2 Qb Kb (ix2 r l)
      = statM d per Q K y := by
  have hy : (y 0).val = c + d * (128 * i + 128 + r.val) := by rw [hy0, h0, hs]; ring
  rw [bM_apply _ _ _ _ _ band_scoreDot, band_score hd hc hb hQ hK r (y 0) hy]
  exact top_reindex (fun j : Fin 256 => tok d c (128 * i + j.val)) _ (band_out hd hc hb r (y 0) hy)

/-- It stores as sums of exponentials those of the tokens' scores. -/
theorem band_D (hd : d = 1 ∨ d = 4 ∨ d = 16) (hc : c < d) (hb : d * (128 * i + 256) ≤ 2048)
    (h0 : off 0 = c + d * (128 * i + 128)) (hs : st 0 = d)
    (hQ : Rows Qb Q per c (128 * i + 128)) (hK : Rows Kb K per c (128 * i)) (hV : Rows VCb (besideOnes V) per c (128 * i)) (r l : Fin 128) (y : S2048x128.Idx)
    (hy0 : (y 0).val = off 0 + st 0 * r.val) (_ : (y 1).val = off 1 + st 1 * l.val) :
    bD dot_S128x128_S256x128_S128x256_1_1_0_0_n_n dot_S128x256_S256x256_S128x256_1_0_0_1_n_n Gen.reduces_S128x256_S128
      Gen.broadcasts_S128x1_S128x256 Gen.k0_pay2 Qb Kb VCb (ix2 r l) = statD d per Q K y := by
  have hy : (y 0).val = c + d * (128 * i + 128 + r.val) := by rw [hy0, h0, hs]; ring
  rw [bD_apply _ _ _ _ _ _ _ _ band_scoreDot band_valueDot (fun j x => (hV j ⟨128 + x.val, by omega⟩).trans (dif_neg (by simp))),
    band_score hd hc hb hQ hK r (y 0) hy]
  exact mix_reindex (fun j : Fin 256 => tok d c (128 * i + j.val))
    (tok_inj (n := 256) (p := 128 * i) hd (by omega) hc) _ (fun _ => 1) (band_out hd hc hb r (y 0) hy)

/-- It stores as weighted values those of the tokens. -/
theorem band_P (hd : d = 1 ∨ d = 4 ∨ d = 16) (hc : c < d) (hb : d * (128 * i + 256) ≤ 2048)
    (h0 : off 0 = c + d * (128 * i + 128)) (hs : st 0 = d) (h1 : off 1 = 0) (hs1 : st 1 = 1)
    (hQ : Rows Qb Q per c (128 * i + 128)) (hK : Rows Kb K per c (128 * i)) (hV : Rows VCb (besideOnes V) per c (128 * i)) (r l : Fin 128) (y : S2048x128.Idx)
    (hy0 : (y 0).val = off 0 + st 0 * r.val) (hy1 : (y 1).val = off 1 + st 1 * l.val) :
    bP dot_S128x128_S256x128_S128x256_1_1_0_0_n_n dot_S128x256_S256x256_S128x256_1_0_0_1_n_n Gen.reduces_S128x256_S128
      Gen.broadcasts_S128x1_S128x256 Gen.k0_pay2 Qb Kb VCb (ix2 r l) = statP d per Q K V y := by
  have hy : (y 0).val = c + d * (128 * i + 128 + r.val) := by rw [hy0, h0, hs]; ring
  have hl : (y 1).val = l.val := by rw [hy1, h1, hs1, Nat.zero_add, Nat.one_mul]
  have hl' : y 1 = l := Fin.ext hl
  have hv : ∀ j : Fin 256, VCb (ix2 j (⟨l.val, by omega⟩ : Fin 256)) = V (tokRow d per (tok d c (128 * i + j.val))) (y 1) := fun j => by
    have hj := j.isLt
    rw [tokRow_tok per hd hc (by rcases hd with rfl | rfl | rfl <;> omega), hl']
    exact (hV j ⟨l.val, by omega⟩).trans (dif_pos l.isLt)
  rw [bP_apply _ _ _ _ _ _ _ _ band_scoreDot band_valueDot, band_score hd hc hb hQ hK r (y 0) hy]
  simp only [hv]
  exact mix_reindex (fun j : Fin 256 => tok d c (128 * i + j.val))
    (tok_inj (n := 256) (p := 128 * i) hd (by omega) hc) _ (fun u => V (tokRow d per u) (y 1)) (band_out hd hc hb r (y 0) hy)

end Band

/-! ## A list of stored blocks -/

variable {inb : ∀ a : Fin 2, S128x128.size a = 0 ∨ off a + st a * (S128x128.size a - 1) < S2048x128.size a}
  {sp : ∀ a : Fin 2, 0 < st a} {G : S2048x128.Idx → EReal} {w : (Mat 128 128).Idx → EReal}
  {L : List (View.Piece (Elt Ideal) S2048x128 .f32)}

/-- A list of stores all of `G`'s blocks, one more of them in front. -/
theorem stores_cons (h : ∀ (r l : Fin 128) (y : S2048x128.Idx), (y 0).val = off 0 + st 0 * r.val →
      (y 1).val = off 1 + st 1 * l.val → w (ix2 r l) = G y)
    (hL : ∀ p ∈ L, ∀ x : p.1.shape.Idx, p.2 x = G (p.1.emb x)) :
    ∀ p ∈ (⟨⟨⟨off, S128x128.size, st, inb⟩, sp⟩, w⟩ :: L : List (View.Piece (Elt Ideal) S2048x128 .f32)),
      ∀ x : p.1.shape.Idx, p.2 x = G (p.1.emb x) :=
  List.forall_mem_cons.2 ⟨fun x => by
    obtain ⟨r, l, rfl⟩ : ∃ (r l : Fin 128), x = ix2 r l := ⟨x 0, x 1, eq_ix2 x⟩
    exact h r l _ rfl rfl, hL⟩

theorem stores_nil : ∀ p ∈ ([] : List (View.Piece (Elt Ideal) S2048x128 .f32)), ∀ x : p.1.shape.Idx, p.2 x = G (p.1.emb x) :=
  fun _ h => absurd h List.not_mem_nil

/-! ## The values beside ones -/

theorem ones_apply (y : S2048x128.Idx) : Gen.k0_pay4 (F := Ideal) y = 1 := by
  show Ideal.ofBits .bf16 0x3F80#16 = 1
  simp [Ideal.ofBits, Ideal.ieee]
  rw [← EReal.coe_mul, ← EReal.coe_one]
  norm_num

theorem values_stored (W : Vec Ideal S2048x128 .bf16) : Gen.k0_pay5 (F := Ideal) W = W := shapeCast_self W _

/-- The array of values beside ones, read back. -/
theorem canon_besideOnes {a : Memref sig .tc .vmem S2048x128 .bf16} {h : a.IsWhole} {X : Vec Ideal S2048x128 .bf16}
    {inb : ∀ b, ![0, 0] b + S2048x128.size b ≤ S2048x128.size b}
    {inb₀ : ∀ b, ![0, 0] b + S2048x128.size b ≤ S2048x256.size b} {inb₁ : ∀ b, ![0, 128] b + S2048x128.size b ≤ S2048x256.size b}
    (y : S2048x256.Idx) :
    View.canon (Val := Elt Ideal) (s := S2048x256) (e := .bf16)
      [⟨Rect.unit (s := S2048x256) ![0, 0] S2048x128.size inb₀, Gen.k0_pay5 (F := Ideal)
        (View.readAt (Elt Ideal) a.view (Rect.unit (s := S2048x128) ![0, 0] S2048x128.size inb).toLoadRect (h.unread X))⟩,
       ⟨Rect.unit (s := S2048x256) ![0, 128] S2048x128.size inb₁, Gen.k0_pay4 (F := Ideal)⟩] y
      = besideOnes (rowsOf X) (y 0) (y 1) := by
  refine View.canon_apply_of_pieces (Val := Elt Ideal) (e := .bf16) (fun y => besideOnes (rowsOf X) (y 0) (y 1)) _ ?_ y ?_
  · refine List.forall_mem_cons.2 ⟨fun x => ?_, List.forall_mem_cons.2 ⟨fun x => ?_, fun _ h => absurd h List.not_mem_nil⟩⟩
    · obtain ⟨r, l, rfl⟩ : ∃ (r : Fin 2048) (l : Fin 128), x = ix2 r l := ⟨x 0, x 1, eq_ix2 x⟩
      have e0 : ((Rect.unit (s := S2048x256) ![0, 0] S2048x128.size inb₀).emb (ix2 r l) 1).val = l.val := by
        show 0 + 1 * l.val = l.val
        omega
      refine (congrFun (values_stored _) (ix2 r l)).trans
        ((h.readAt_unread X (Rect.unit (s := S2048x128) ![0, 0] S2048x128.size inb).toLoadRect (ix2 r l)).trans ?_)
      refine Eq.trans ?_ (dif_pos (e0.trans_lt l.isLt)).symm
      refine congrArg X (Shape.idx_ext₂ rfl ?_)
      show 0 + 1 * l.val = 0 + 1 * l.val
      rfl
    · obtain ⟨r, l, rfl⟩ : ∃ (r : Fin 2048) (l : Fin 128), x = ix2 r l := ⟨x 0, x 1, eq_ix2 x⟩
      refine (ones_apply (ix2 r l)).trans (Eq.symm (dif_neg ?_))
      show ¬ 128 + 1 * l.val < 128
      omega
  · obtain ⟨r, l, rfl⟩ : ∃ (r : Fin 2048) (l : Fin 256), y = ix2 r l := ⟨y 0, y 1, eq_ix2 y⟩
    have hr := r.isLt
    have hl := l.isLt
    by_cases hc : l.val < 128
    · refine ⟨_, List.mem_cons_self, (Rect.mem_set_unit (inb := inb₀)).2 fun b => ?_⟩
      match b with
      | ⟨0, _⟩ => exact ⟨Nat.zero_le _, by show r.val < 0 + 2048; omega⟩
      | ⟨1, _⟩ => exact ⟨Nat.zero_le _, by show l.val < 0 + 128; omega⟩
    · refine ⟨_, List.mem_cons_of_mem _ List.mem_cons_self, (Rect.mem_set_unit (inb := inb₁)).2 fun b => ?_⟩
      match b with
      | ⟨0, _⟩ => exact ⟨Nat.zero_le _, by show r.val < 0 + 2048; omega⟩
      | ⟨1, _⟩ => exact ⟨by show 128 ≤ l.val; omega, by show l.val < 128 + 128; omega⟩

end Cert.Attn

end
-- ==== Proof.Attn.Group0.lean ====
module

public import proofs.«01_k».proof.Proof.Attn.Piece
public import proofs.«01_k».proof.Proof.Gen.KernelIdeal.Frame

@[expose] public section

set_option maxRecDepth 50000

noncomputable section

/-! # The statistics of the undilated group -/

namespace Cert.Attn

open Idealize.ShloMosaic Idealize.ShloMosaic.ValueIdx Cert.KernelIdeal Cert.KernelIdeal.Gen

variable (c : Dev nD) (q : Memref sig .tc .vmem S2048x128 .bf16) (hq : q.IsWhole) (k : Memref sig .tc .vmem S2048x128 .bf16)
  (hk : k.IsWhole) (v : Memref sig .tc .vmem S2048x128 .bf16) (hv : v.IsWhole) (vc : Memref sig .tc .vmem S2048x256 .bf16)
  (xq xk xv : Vec Ideal S2048x128 .bf16)

/-- The array of values beside ones holds them. -/
theorem values0 (y : S2048x256.Idx) : View.canon (kernelRun0_A.sl.HS9_2 (F := Ideal) c v hv xv) y = besideOnes (rowsOf xv) (y 0) (y 1) :=
  canon_besideOnes y

/-- Every store of maxima is of the tokens'. -/
theorem stores0_M : ∀ p ∈ kernelRun0_A.sl.HS0_16 (F := Ideal) c q hq k hk xq xk, ∀ x : p.1.shape.Idx,
    p.2 x = statM 1 1024 (rowsOf xq) (rowsOf xk) (p.1.emb x) :=
  stores_cons (band_M (i := 14) (c := 0) (off := ![1920, 0]) (st := fun _ => 1) (.inl rfl) (by decide) (by decide) rfl rfl (rows_load (by decide) (by decide)) (rows_load (by decide) (by decide))) <|
  stores_cons (band_M (i := 13) (c := 0) (off := ![1792, 0]) (st := fun _ => 1) (.inl rfl) (by decide) (by decide) rfl rfl (rows_load (by decide) (by decide)) (rows_load (by decide) (by decide))) <|
  stores_cons (band_M (i := 12) (c := 0) (off := ![1664, 0]) (st := fun _ => 1) (.inl rfl) (by decide) (by decide) rfl rfl (rows_load (by decide) (by decide)) (rows_load (by decide) (by decide))) <|
  stores_cons (band_M (i := 11) (c := 0) (off := ![1536, 0]) (st := fun _ => 1) (.inl rfl) (by decide) (by decide) rfl rfl (rows_load (by decide) (by decide)) (rows_load (by decide) (by decide))) <|
  stores_cons (band_M (i := 10) (c := 0) (off := ![1408, 0]) (st := fun _ => 1) (.inl rfl) (by decide) (by decide) rfl rfl (rows_load (by decide) (by decide)) (rows_load (by decide) (by decide))) <|
  stores_cons (band_M (i := 9) (c := 0) (off := ![1280, 0]) (st := fun _ => 1) (.inl rfl) (by decide) (by decide) rfl rfl (rows_load (by decide) (by decide)) (rows_load (by decide) (by decide))) <|
  stores_cons (band_M (i := 8) (c := 0) (off := ![1152, 0]) (st := fun _ => 1) (.inl rfl) (by decide) (by decide) rfl rfl (rows_load (by decide) (by decide)) (rows_load (by decide) (by decide))) <|
  stores_cons (band_M (i := 7) (c := 0) (off := ![1024, 0]) (st := fun _ => 1) (.inl rfl) (by decide) (by decide) rfl rfl (rows_load (by decide) (by decide)) (rows_cat (n₁ := 128) (n₂ := 128) concatenates_S128x128_S128x128_S256x128_d0 (rows_load (by decide) (by decide)) (rows_load (by decide) (by decide)))) <|
  stores_cons (band_M (i := 6) (c := 0) (off := ![896, 0]) (st := fun _ => 1) (.inl rfl) (by decide) (by decide) rfl rfl (rows_load (by decide) (by decide)) (rows_load (by decide) (by decide))) <|
  stores_cons (band_M (i := 5) (c := 0) (off := ![768, 0]) (st := fun _ => 1) (.inl rfl) (by decide) (by decide) rfl rfl (rows_load (by decide) (by decide)) (rows_load (by decide) (by decide))) <|
  stores_cons (band_M (i := 4) (c := 0) (off := ![640, 0]) (st := fun _ => 1) (.inl rfl) (by decide) (by decide) rfl rfl (rows_load (by decide) (by decide)) (rows_load (by decide) (by decide))) <|
  stores_cons (band_M (i := 3) (c := 0) (off := ![512, 0]) (st := fun _ => 1) (.inl rfl) (by decide) (by decide) rfl rfl (rows_load (by decide) (by decide)) (rows_load (by decide) (by decide))) <|
  stores_cons (band_M (i := 2) (c := 0) (off := ![384, 0]) (st := fun _ => 1) (.inl rfl) (by decide) (by decide) rfl rfl (rows_load (by decide) (by decide)) (rows_load (by decide) (by decide))) <|
  stores_cons (band_M (i := 1) (c := 0) (off := ![256, 0]) (st := fun _ => 1) (.inl rfl) (by decide) (by decide) rfl rfl (rows_load (by decide) (by decide)) (rows_load (by decide) (by decide))) <|
  stores_cons (band_M (i := 0) (c := 0) (off := ![128, 0]) (st := fun _ => 1) (.inl rfl) (by decide) (by decide) rfl rfl (rows_load (by decide) (by decide)) (rows_load (by decide) (by decide))) <|
  stores_cons (causal_M (c := 0) (off := ![0, 0]) (st := fun _ => 1) (.inl rfl) (by decide) rfl rfl (rows_load (by decide) (by decide)) (rows_load (by decide) (by decide))) <|
  stores_nil

/-- Every store of sums of exponentials is of the tokens'. -/
theorem stores0_D : ∀ p ∈ kernelRun0_A.sl.HS1_16 (F := Ideal) c q hq k hk v hv vc xq xk xv, ∀ x : p.1.shape.Idx,
    p.2 x = statD 1 1024 (rowsOf xq) (rowsOf xk) (p.1.emb x) :=
  stores_cons (band_D (V := rowsOf xv) (i := 14) (c := 0) (off := ![1920, 0]) (st := fun _ => 1) (.inl rfl) (by decide) (by decide) rfl rfl (rows_load (by decide) (by decide)) (rows_load (by decide) (by decide)) (rows_readCov (values0 c v hv xv) (by decide) (by decide))) <|
  stores_cons (band_D (V := rowsOf xv) (i := 13) (c := 0) (off := ![1792, 0]) (st := fun _ => 1) (.inl rfl) (by decide) (by decide) rfl rfl (rows_load (by decide) (by decide)) (rows_load (by decide) (by decide)) (rows_readCov (values0 c v hv xv) (by decide) (by decide))) <|
  stores_cons (band_D (V := rowsOf xv) (i := 12) (c := 0) (off := ![1664, 0]) (st := fun _ => 1) (.inl rfl) (by decide) (by decide) rfl rfl (rows_load (by decide) (by decide)) (rows_load (by decide) (by decide)) (rows_readCov (values0 c v hv xv) (by decide) (by decide))) <|
  stores_cons (band_D (V := rowsOf xv) (i := 11) (c := 0) (off := ![1536, 0]) (st := fun _ => 1) (.inl rfl) (by decide) (by decide) rfl rfl (rows_load (by decide) (by decide)) (rows_load (by decide) (by decide)) (rows_readCov (values0 c v hv xv) (by decide) (by decide))) <|
  stores_cons (band_D (V := rowsOf xv) (i := 10) (c := 0) (off := ![1408, 0]) (st := fun _ => 1) (.inl rfl) (by decide) (by decide) rfl rfl (rows_load (by decide) (by decide)) (rows_load (by decide) (by decide)) (rows_readCov (values0 c v hv xv) (by decide) (by decide))) <|
  stores_cons (band_D (V := rowsOf xv) (i := 9) (c := 0) (off := ![1280, 0]) (st := fun _ => 1) (.inl rfl) (by decide) (by decide) rfl rfl (rows_load (by decide) (by decide)) (rows_load (by decide) (by decide)) (rows_readCov (values0 c v hv xv) (by decide) (by decide))) <|
  stores_cons (band_D (V := rowsOf xv) (i := 8) (c := 0) (off := ![1152, 0]) (st := fun _ => 1) (.inl rfl) (by decide) (by decide) rfl rfl (rows_load (by decide) (by decide)) (rows_load (by decide) (by decide)) (rows_readCov (values0 c v hv xv) (by decide) (by decide))) <|
  stores_cons (band_D (V := rowsOf xv) (i := 7) (c := 0) (off := ![1024, 0]) (st := fun _ => 1) (.inl rfl) (by decide) (by decide) rfl rfl (rows_load (by decide) (by decide)) (rows_cat (n₁ := 128) (n₂ := 128) concatenates_S128x128_S128x128_S256x128_d0 (rows_load (by decide) (by decide)) (rows_load (by decide) (by decide))) (rows_cat (n₁ := 128) (n₂ := 128) concatenates_S128x256_S128x256_S256x256_d0 (rows_readCov (values0 c v hv xv) (by decide) (by decide)) (rows_readCov (values0 c v hv xv) (by decide) (by decide)))) <|
  stores_cons (band_D (V := rowsOf xv) (i := 6) (c := 0) (off := ![896, 0]) (st := fun _ => 1) (.inl rfl) (by decide) (by decide) rfl rfl (rows_load (by decide) (by decide)) (rows_load (by decide) (by decide)) (rows_readCov (values0 c v hv xv) (by decide) (by decide))) <|
  stores_cons (band_D (V := rowsOf xv) (i := 5) (c := 0) (off := ![768, 0]) (st := fun _ => 1) (.inl rfl) (by decide) (by decide) rfl rfl (rows_load (by decide) (by decide)) (rows_load (by decide) (by decide)) (rows_readCov (values0 c v hv xv) (by decide) (by decide))) <|
  stores_cons (band_D (V := rowsOf xv) (i := 4) (c := 0) (off := ![640, 0]) (st := fun _ => 1) (.inl rfl) (by decide) (by decide) rfl rfl (rows_load (by decide) (by decide)) (rows_load (by decide) (by decide)) (rows_readCov (values0 c v hv xv) (by decide) (by decide))) <|
  stores_cons (band_D (V := rowsOf xv) (i := 3) (c := 0) (off := ![512, 0]) (st := fun _ => 1) (.inl rfl) (by decide) (by decide) rfl rfl (rows_load (by decide) (by decide)) (rows_load (by decide) (by decide)) (rows_readCov (values0 c v hv xv) (by decide) (by decide))) <|
  stores_cons (band_D (V := rowsOf xv) (i := 2) (c := 0) (off := ![384, 0]) (st := fun _ => 1) (.inl rfl) (by decide) (by decide) rfl rfl (rows_load (by decide) (by decide)) (rows_load (by decide) (by decide)) (rows_readCov (values0 c v hv xv) (by decide) (by decide))) <|
  stores_cons (band_D (V := rowsOf xv) (i := 1) (c := 0) (off := ![256, 0]) (st := fun _ => 1) (.inl rfl) (by decide) (by decide) rfl rfl (rows_load (by decide) (by decide)) (rows_load (by decide) (by decide)) (rows_readCov (values0 c v hv xv) (by decide) (by decide))) <|
  stores_cons (band_D (V := rowsOf xv) (i := 0) (c := 0) (off := ![128, 0]) (st := fun _ => 1) (.inl rfl) (by decide) (by decide) rfl rfl (rows_load (by decide) (by decide)) (rows_load (by decide) (by decide)) (rows_readCov (values0 c v hv xv) (by decide) (by decide))) <|
  stores_cons (causal_D (V := rowsOf xv) (c := 0) (off := ![0, 0]) (st := fun _ => 1) (.inl rfl) (by decide) rfl rfl (rows_load (by decide) (by decide)) (rows_load (by decide) (by decide)) (rows_readCov (values0 c v hv xv) (by decide) (by decide))) <|
  stores_nil

/-- Every store of weighted values is of the tokens'. -/
theorem stores0_P : ∀ p ∈ kernelRun0_A.sl.HS2_16 (F := Ideal) c q hq k hk v hv vc xq xk xv, ∀ x : p.1.shape.Idx,
    p.2 x = statP 1 1024 (rowsOf xq) (rowsOf xk) (rowsOf xv) (p.1.emb x) :=
  stores_cons (band_P (i := 14) (c := 0) (off := ![1920, 0]) (st := fun _ => 1) (.inl rfl) (by decide) (by decide) rfl rfl rfl rfl (rows_load (by decide) (by decide)) (rows_load (by decide) (by decide)) (rows_readCov (values0 c v hv xv) (by decide) (by decide))) <|
  stores_cons (band_P (i := 13) (c := 0) (off := ![1792, 0]) (st := fun _ => 1) (.inl rfl) (by decide) (by decide) rfl rfl rfl rfl (rows_load (by decide) (by decide)) (rows_load (by decide) (by decide)) (rows_readCov (values0 c v hv xv) (by decide) (by decide))) <|
  stores_cons (band_P (i := 12) (c := 0) (off := ![1664, 0]) (st := fun _ => 1) (.inl rfl) (by decide) (by decide) rfl rfl rfl rfl (rows_load (by decide) (by decide)) (rows_load (by decide) (by decide)) (rows_readCov (values0 c v hv xv) (by decide) (by decide))) <|
  stores_cons (band_P (i := 11) (c := 0) (off := ![1536, 0]) (st := fun _ => 1) (.inl rfl) (by decide) (by decide) rfl rfl rfl rfl (rows_load (by decide) (by decide)) (rows_load (by decide) (by decide)) (rows_readCov (values0 c v hv xv) (by decide) (by decide))) <|
  stores_cons (band_P (i := 10) (c := 0) (off := ![1408, 0]) (st := fun _ => 1) (.inl rfl) (by decide) (by decide) rfl rfl rfl rfl (rows_load (by decide) (by decide)) (rows_load (by decide) (by decide)) (rows_readCov (values0 c v hv xv) (by decide) (by decide))) <|
  stores_cons (band_P (i := 9) (c := 0) (off := ![1280, 0]) (st := fun _ => 1) (.inl rfl) (by decide) (by decide) rfl rfl rfl rfl (rows_load (by decide) (by decide)) (rows_load (by decide) (by decide)) (rows_readCov (values0 c v hv xv) (by decide) (by decide))) <|
  stores_cons (band_P (i := 8) (c := 0) (off := ![1152, 0]) (st := fun _ => 1) (.inl rfl) (by decide) (by decide) rfl rfl rfl rfl (rows_load (by decide) (by decide)) (rows_load (by decide) (by decide)) (rows_readCov (values0 c v hv xv) (by decide) (by decide))) <|
  stores_cons (band_P (i := 7) (c := 0) (off := ![1024, 0]) (st := fun _ => 1) (.inl rfl) (by decide) (by decide) rfl rfl rfl rfl (rows_load (by decide) (by decide)) (rows_cat (n₁ := 128) (n₂ := 128) concatenates_S128x128_S128x128_S256x128_d0 (rows_load (by decide) (by decide)) (rows_load (by decide) (by decide))) (rows_cat (n₁ := 128) (n₂ := 128) concatenates_S128x256_S128x256_S256x256_d0 (rows_readCov (values0 c v hv xv) (by decide) (by decide)) (rows_readCov (values0 c v hv xv) (by decide) (by decide)))) <|
  stores_cons (band_P (i := 6) (c := 0) (off := ![896, 0]) (st := fun _ => 1) (.inl rfl) (by decide) (by decide) rfl rfl rfl rfl (rows_load (by decide) (by decide)) (rows_load (by decide) (by decide)) (rows_readCov (values0 c v hv xv) (by decide) (by decide))) <|
  stores_cons (band_P (i := 5) (c := 0) (off := ![768, 0]) (st := fun _ => 1) (.inl rfl) (by decide) (by decide) rfl rfl rfl rfl (rows_load (by decide) (by decide)) (rows_load (by decide) (by decide)) (rows_readCov (values0 c v hv xv) (by decide) (by decide))) <|
  stores_cons (band_P (i := 4) (c := 0) (off := ![640, 0]) (st := fun _ => 1) (.inl rfl) (by decide) (by decide) rfl rfl rfl rfl (rows_load (by decide) (by decide)) (rows_load (by decide) (by decide)) (rows_readCov (values0 c v hv xv) (by decide) (by decide))) <|
  stores_cons (band_P (i := 3) (c := 0) (off := ![512, 0]) (st := fun _ => 1) (.inl rfl) (by decide) (by decide) rfl rfl rfl rfl (rows_load (by decide) (by decide)) (rows_load (by decide) (by decide)) (rows_readCov (values0 c v hv xv) (by decide) (by decide))) <|
  stores_cons (band_P (i := 2) (c := 0) (off := ![384, 0]) (st := fun _ => 1) (.inl rfl) (by decide) (by decide) rfl rfl rfl rfl (rows_load (by decide) (by decide)) (rows_load (by decide) (by decide)) (rows_readCov (values0 c v hv xv) (by decide) (by decide))) <|
  stores_cons (band_P (i := 1) (c := 0) (off := ![256, 0]) (st := fun _ => 1) (.inl rfl) (by decide) (by decide) rfl rfl rfl rfl (rows_load (by decide) (by decide)) (rows_load (by decide) (by decide)) (rows_readCov (values0 c v hv xv) (by decide) (by decide))) <|
  stores_cons (band_P (i := 0) (c := 0) (off := ![128, 0]) (st := fun _ => 1) (.inl rfl) (by decide) (by decide) rfl rfl rfl rfl (rows_load (by decide) (by decide)) (rows_load (by decide) (by decide)) (rows_readCov (values0 c v hv xv) (by decide) (by decide))) <|
  stores_cons (causal_P (c := 0) (off := ![0, 0]) (st := fun _ => 1) (.inl rfl) (by decide) rfl rfl rfl rfl (rows_load (by decide) (by decide)) (rows_load (by decide) (by decide)) (rows_readCov (values0 c v hv xv) (by decide) (by decide))) <|
  stores_nil

end Cert.Attn
-- ==== Proof.Attn.Group1.lean ====
module

public import proofs.«01_k».proof.Proof.Attn.Piece
public import proofs.«01_k».proof.Proof.Gen.KernelIdeal.Frame

@[expose] public section

set_option maxRecDepth 50000

noncomputable section

/-! # The statistics of the group of dilation 4 -/

namespace Cert.Attn

open Idealize.ShloMosaic Idealize.ShloMosaic.ValueIdx Cert.KernelIdeal Cert.KernelIdeal.Gen

variable (c : Dev nD) (q : Memref sig .tc .vmem S2048x128 .bf16) (hq : q.IsWhole) (k : Memref sig .tc .vmem S2048x128 .bf16)
  (hk : k.IsWhole) (v : Memref sig .tc .vmem S2048x128 .bf16) (hv : v.IsWhole) (vc : Memref sig .tc .vmem S2048x256 .bf16)
  (xq xk xv : Vec Ideal S2048x128 .bf16)

/-- The array of values beside ones holds them. -/
theorem values1 (y : S2048x256.Idx) : View.canon (kernelRun0_A.sl.HS10_2 (F := Ideal) c v hv xv) y = besideOnes (rowsOf xv) (y 0) (y 1) :=
  canon_besideOnes y

/-- Every store of maxima is of the tokens'. -/
theorem stores1_M : ∀ p ∈ kernelRun0_A.sl.HS3_16 (F := Ideal) c q hq k hk xq xk, ∀ x : p.1.shape.Idx,
    p.2 x = statM 4 256 (rowsOf xq) (rowsOf xk) (p.1.emb x) :=
  stores_cons (band_M (i := 2) (c := 3) (off := ![1539, 0]) (st := ![4, 1]) (.inr (.inl rfl)) (by decide) (by decide) rfl rfl (rows_load (by decide) (by decide)) (rows_load (by decide) (by decide))) <|
  stores_cons (band_M (i := 1) (c := 3) (off := ![1027, 0]) (st := ![4, 1]) (.inr (.inl rfl)) (by decide) (by decide) rfl rfl (rows_load (by decide) (by decide)) (rows_cat (n₁ := 128) (n₂ := 128) concatenates_S128x128_S128x128_S256x128_d0 (rows_load (by decide) (by decide)) (rows_load (by decide) (by decide)))) <|
  stores_cons (band_M (i := 0) (c := 3) (off := ![515, 0]) (st := ![4, 1]) (.inr (.inl rfl)) (by decide) (by decide) rfl rfl (rows_load (by decide) (by decide)) (rows_load (by decide) (by decide))) <|
  stores_cons (causal_M (c := 3) (off := ![3, 0]) (st := ![4, 1]) (.inr (.inl rfl)) (by decide) rfl rfl (rows_load (by decide) (by decide)) (rows_load (by decide) (by decide))) <|
  stores_cons (band_M (i := 2) (c := 2) (off := ![1538, 0]) (st := ![4, 1]) (.inr (.inl rfl)) (by decide) (by decide) rfl rfl (rows_load (by decide) (by decide)) (rows_load (by decide) (by decide))) <|
  stores_cons (band_M (i := 1) (c := 2) (off := ![1026, 0]) (st := ![4, 1]) (.inr (.inl rfl)) (by decide) (by decide) rfl rfl (rows_load (by decide) (by decide)) (rows_cat (n₁ := 128) (n₂ := 128) concatenates_S128x128_S128x128_S256x128_d0 (rows_load (by decide) (by decide)) (rows_load (by decide) (by decide)))) <|
  stores_cons (band_M (i := 0) (c := 2) (off := ![514, 0]) (st := ![4, 1]) (.inr (.inl rfl)) (by decide) (by decide) rfl rfl (rows_load (by decide) (by decide)) (rows_load (by decide) (by decide))) <|
  stores_cons (causal_M (c := 2) (off := ![2, 0]) (st := ![4, 1]) (.inr (.inl rfl)) (by decide) rfl rfl (rows_load (by decide) (by decide)) (rows_load (by decide) (by decide))) <|
  stores_cons (band_M (i := 2) (c := 1) (off := ![1537, 0]) (st := ![4, 1]) (.inr (.inl rfl)) (by decide) (by decide) rfl rfl (rows_load (by decide) (by decide)) (rows_load (by decide) (by decide))) <|
  stores_cons (band_M (i := 1) (c := 1) (off := ![1025, 0]) (st := ![4, 1]) (.inr (.inl rfl)) (by decide) (by decide) rfl rfl (rows_load (by decide) (by decide)) (rows_cat (n₁ := 128) (n₂ := 128) concatenates_S128x128_S128x128_S256x128_d0 (rows_load (by decide) (by decide)) (rows_load (by decide) (by decide)))) <|
  stores_cons (band_M (i := 0) (c := 1) (off := ![513, 0]) (st := ![4, 1]) (.inr (.inl rfl)) (by decide) (by decide) rfl rfl (rows_load (by decide) (by decide)) (rows_load (by decide) (by decide))) <|
  stores_cons (causal_M (c := 1) (off := ![1, 0]) (st := ![4, 1]) (.inr (.inl rfl)) (by decide) rfl rfl (rows_load (by decide) (by decide)) (rows_load (by decide) (by decide))) <|
  stores_cons (band_M (i := 2) (c := 0) (off := ![1536, 0]) (st := ![4, 1]) (.inr (.inl rfl)) (by decide) (by decide) rfl rfl (rows_load (by decide) (by decide)) (rows_load (by decide) (by decide))) <|
  stores_cons (band_M (i := 1) (c := 0) (off := ![1024, 0]) (st := ![4, 1]) (.inr (.inl rfl)) (by decide) (by decide) rfl rfl (rows_load (by decide) (by decide)) (rows_cat (n₁ := 128) (n₂ := 128) concatenates_S128x128_S128x128_S256x128_d0 (rows_load (by decide) (by decide)) (rows_load (by decide) (by decide)))) <|
  stores_cons (band_M (i := 0) (c := 0) (off := ![512, 0]) (st := ![4, 1]) (.inr (.inl rfl)) (by decide) (by decide) rfl rfl (rows_load (by decide) (by decide)) (rows_load (by decide) (by decide))) <|
  stores_cons (causal_M (c := 0) (off := ![0, 0]) (st := ![4, 1]) (.inr (.inl rfl)) (by decide) rfl rfl (rows_load (by decide) (by decide)) (rows_load (by decide) (by decide))) <|
  stores_nil

/-- Every store of sums of exponentials is of the tokens'. -/
theorem stores1_D : ∀ p ∈ kernelRun0_A.sl.HS4_16 (F := Ideal) c q hq k hk v hv vc xq xk xv, ∀ x : p.1.shape.Idx,
    p.2 x = statD 4 256 (rowsOf xq) (rowsOf xk) (p.1.emb x) :=
  stores_cons (band_D (V := rowsOf xv) (i := 2) (c := 3) (off := ![1539, 0]) (st := ![4, 1]) (.inr (.inl rfl)) (by decide) (by decide) rfl rfl (rows_load (by decide) (by decide)) (rows_load (by decide) (by decide)) (rows_readCov (values1 c v hv xv) (by decide) (by decide))) <|
  stores_cons (band_D (V := rowsOf xv) (i := 1) (c := 3) (off := ![1027, 0]) (st := ![4, 1]) (.inr (.inl rfl)) (by decide) (by decide) rfl rfl (rows_load (by decide) (by decide)) (rows_cat (n₁ := 128) (n₂ := 128) concatenates_S128x128_S128x128_S256x128_d0 (rows_load (by decide) (by decide)) (rows_load (by decide) (by decide))) (rows_cat (n₁ := 128) (n₂ := 128) concatenates_S128x256_S128x256_S256x256_d0 (rows_readCov (values1 c v hv xv) (by decide) (by decide)) (rows_readCov (values1 c v hv xv) (by decide) (by decide)))) <|
  stores_cons (band_D (V := rowsOf xv) (i := 0) (c := 3) (off := ![515, 0]) (st := ![4, 1]) (.inr (.inl rfl)) (by decide) (by decide) rfl rfl (rows_load (by decide) (by decide)) (rows_load (by decide) (by decide)) (rows_readCov (values1 c v hv xv) (by decide) (by decide))) <|
  stores_cons (causal_D (V := rowsOf xv) (c := 3) (off := ![3, 0]) (st := ![4, 1]) (.inr (.inl rfl)) (by decide) rfl rfl (rows_load (by decide) (by decide)) (rows_load (by decide) (by decide)) (rows_readCov (values1 c v hv xv) (by decide) (by decide))) <|
  stores_cons (band_D (V := rowsOf xv) (i := 2) (c := 2) (off := ![1538, 0]) (st := ![4, 1]) (.inr (.inl rfl)) (by decide) (by decide) rfl rfl (rows_load (by decide) (by decide)) (rows_load (by decide) (by decide)) (rows_readCov (values1 c v hv xv) (by decide) (by decide))) <|
  stores_cons (band_D (V := rowsOf xv) (i := 1) (c := 2) (off := ![1026, 0]) (st := ![4, 1]) (.inr (.inl rfl)) (by decide) (by decide) rfl rfl (rows_load (by decide) (by decide)) (rows_cat (n₁ := 128) (n₂ := 128) concatenates_S128x128_S128x128_S256x128_d0 (rows_load (by decide) (by decide)) (rows_load (by decide) (by decide))) (rows_cat (n₁ := 128) (n₂ := 128) concatenates_S128x256_S128x256_S256x256_d0 (rows_readCov (values1 c v hv xv) (by decide) (by decide)) (rows_readCov (values1 c v hv xv) (by decide) (by decide)))) <|
  stores_cons (band_D (V := rowsOf xv) (i := 0) (c := 2) (off := ![514, 0]) (st := ![4, 1]) (.inr (.inl rfl)) (by decide) (by decide) rfl rfl (rows_load (by decide) (by decide)) (rows_load (by decide) (by decide)) (rows_readCov (values1 c v hv xv) (by decide) (by decide))) <|
  stores_cons (causal_D (V := rowsOf xv) (c := 2) (off := ![2, 0]) (st := ![4, 1]) (.inr (.inl rfl)) (by decide) rfl rfl (rows_load (by decide) (by decide)) (rows_load (by decide) (by decide)) (rows_readCov (values1 c v hv xv) (by decide) (by decide))) <|
  stores_cons (band_D (V := rowsOf xv) (i := 2) (c := 1) (off := ![1537, 0]) (st := ![4, 1]) (.inr (.inl rfl)) (by decide) (by decide) rfl rfl (rows_load (by decide) (by decide)) (rows_load (by decide) (by decide)) (rows_readCov (values1 c v hv xv) (by decide) (by decide))) <|
  stores_cons (band_D (V := rowsOf xv) (i := 1) (c := 1) (off := ![1025, 0]) (st := ![4, 1]) (.inr (.inl rfl)) (by decide) (by decide) rfl rfl (rows_load (by decide) (by decide)) (rows_cat (n₁ := 128) (n₂ := 128) concatenates_S128x128_S128x128_S256x128_d0 (rows_load (by decide) (by decide)) (rows_load (by decide) (by decide))) (rows_cat (n₁ := 128) (n₂ := 128) concatenates_S128x256_S128x256_S256x256_d0 (rows_readCov (values1 c v hv xv) (by decide) (by decide)) (rows_readCov (values1 c v hv xv) (by decide) (by decide)))) <|
  stores_cons (band_D (V := rowsOf xv) (i := 0) (c := 1) (off := ![513, 0]) (st := ![4, 1]) (.inr (.inl rfl)) (by decide) (by decide) rfl rfl (rows_load (by decide) (by decide)) (rows_load (by decide) (by decide)) (rows_readCov (values1 c v hv xv) (by decide) (by decide))) <|
  stores_cons (causal_D (V := rowsOf xv) (c := 1) (off := ![1, 0]) (st := ![4, 1]) (.inr (.inl rfl)) (by decide) rfl rfl (rows_load (by decide) (by decide)) (rows_load (by decide) (by decide)) (rows_readCov (values1 c v hv xv) (by decide) (by decide))) <|
  stores_cons (band_D (V := rowsOf xv) (i := 2) (c := 0) (off := ![1536, 0]) (st := ![4, 1]) (.inr (.inl rfl)) (by decide) (by decide) rfl rfl (rows_load (by decide) (by decide)) (rows_load (by decide) (by decide)) (rows_readCov (values1 c v hv xv) (by decide) (by decide))) <|
  stores_cons (band_D (V := rowsOf xv) (i := 1) (c := 0) (off := ![1024, 0]) (st := ![4, 1]) (.inr (.inl rfl)) (by decide) (by decide) rfl rfl (rows_load (by decide) (by decide)) (rows_cat (n₁ := 128) (n₂ := 128) concatenates_S128x128_S128x128_S256x128_d0 (rows_load (by decide) (by decide)) (rows_load (by decide) (by decide))) (rows_cat (n₁ := 128) (n₂ := 128) concatenates_S128x256_S128x256_S256x256_d0 (rows_readCov (values1 c v hv xv) (by decide) (by decide)) (rows_readCov (values1 c v hv xv) (by decide) (by decide)))) <|
  stores_cons (band_D (V := rowsOf xv) (i := 0) (c := 0) (off := ![512, 0]) (st := ![4, 1]) (.inr (.inl rfl)) (by decide) (by decide) rfl rfl (rows_load (by decide) (by decide)) (rows_load (by decide) (by decide)) (rows_readCov (values1 c v hv xv) (by decide) (by decide))) <|
  stores_cons (causal_D (V := rowsOf xv) (c := 0) (off := ![0, 0]) (st := ![4, 1]) (.inr (.inl rfl)) (by decide) rfl rfl (rows_load (by decide) (by decide)) (rows_load (by decide) (by decide)) (rows_readCov (values1 c v hv xv) (by decide) (by decide))) <|
  stores_nil

/-- Every store of weighted values is of the tokens'. -/
theorem stores1_P : ∀ p ∈ kernelRun0_A.sl.HS5_16 (F := Ideal) c q hq k hk v hv vc xq xk xv, ∀ x : p.1.shape.Idx,
    p.2 x = statP 4 256 (rowsOf xq) (rowsOf xk) (rowsOf xv) (p.1.emb x) :=
  stores_cons (band_P (i := 2) (c := 3) (off := ![1539, 0]) (st := ![4, 1]) (.inr (.inl rfl)) (by decide) (by decide) rfl rfl rfl rfl (rows_load (by decide) (by decide)) (rows_load (by decide) (by decide)) (rows_readCov (values1 c v hv xv) (by decide) (by decide))) <|
  stores_cons (band_P (i := 1) (c := 3) (off := ![1027, 0]) (st := ![4, 1]) (.inr (.inl rfl)) (by decide) (by decide) rfl rfl rfl rfl (rows_load (by decide) (by decide)) (rows_cat (n₁ := 128) (n₂ := 128) concatenates_S128x128_S128x128_S256x128_d0 (rows_load (by decide) (by decide)) (rows_load (by decide) (by decide))) (rows_cat (n₁ := 128) (n₂ := 128) concatenates_S128x256_S128x256_S256x256_d0 (rows_readCov (values1 c v hv xv) (by decide) (by decide)) (rows_readCov (values1 c v hv xv) (by decide) (by decide)))) <|
  stores_cons (band_P (i := 0) (c := 3) (off := ![515, 0]) (st := ![4, 1]) (.inr (.inl rfl)) (by decide) (by decide) rfl rfl rfl rfl (rows_load (by decide) (by decide)) (rows_load (by decide) (by decide)) (rows_readCov (values1 c v hv xv) (by decide) (by decide))) <|
  stores_cons (causal_P (c := 3) (off := ![3, 0]) (st := ![4, 1]) (.inr (.inl rfl)) (by decide) rfl rfl rfl rfl (rows_load (by decide) (by decide)) (rows_load (by decide) (by decide)) (rows_readCov (values1 c v hv xv) (by decide) (by decide))) <|
  stores_cons (band_P (i := 2) (c := 2) (off := ![1538, 0]) (st := ![4, 1]) (.inr (.inl rfl)) (by decide) (by decide) rfl rfl rfl rfl (rows_load (by decide) (by decide)) (rows_load (by decide) (by decide)) (rows_readCov (values1 c v hv xv) (by decide) (by decide))) <|
  stores_cons (band_P (i := 1) (c := 2) (off := ![1026, 0]) (st := ![4, 1]) (.inr (.inl rfl)) (by decide) (by decide) rfl rfl rfl rfl (rows_load (by decide) (by decide)) (rows_cat (n₁ := 128) (n₂ := 128) concatenates_S128x128_S128x128_S256x128_d0 (rows_load (by decide) (by decide)) (rows_load (by decide) (by decide))) (rows_cat (n₁ := 128) (n₂ := 128) concatenates_S128x256_S128x256_S256x256_d0 (rows_readCov (values1 c v hv xv) (by decide) (by decide)) (rows_readCov (values1 c v hv xv) (by decide) (by decide)))) <|
  stores_cons (band_P (i := 0) (c := 2) (off := ![514, 0]) (st := ![4, 1]) (.inr (.inl rfl)) (by decide) (by decide) rfl rfl rfl rfl (rows_load (by decide) (by decide)) (rows_load (by decide) (by decide)) (rows_readCov (values1 c v hv xv) (by decide) (by decide))) <|
  stores_cons (causal_P (c := 2) (off := ![2, 0]) (st := ![4, 1]) (.inr (.inl rfl)) (by decide) rfl rfl rfl rfl (rows_load (by decide) (by decide)) (rows_load (by decide) (by decide)) (rows_readCov (values1 c v hv xv) (by decide) (by decide))) <|
  stores_cons (band_P (i := 2) (c := 1) (off := ![1537, 0]) (st := ![4, 1]) (.inr (.inl rfl)) (by decide) (by decide) rfl rfl rfl rfl (rows_load (by decide) (by decide)) (rows_load (by decide) (by decide)) (rows_readCov (values1 c v hv xv) (by decide) (by decide))) <|
  stores_cons (band_P (i := 1) (c := 1) (off := ![1025, 0]) (st := ![4, 1]) (.inr (.inl rfl)) (by decide) (by decide) rfl rfl rfl rfl (rows_load (by decide) (by decide)) (rows_cat (n₁ := 128) (n₂ := 128) concatenates_S128x128_S128x128_S256x128_d0 (rows_load (by decide) (by decide)) (rows_load (by decide) (by decide))) (rows_cat (n₁ := 128) (n₂ := 128) concatenates_S128x256_S128x256_S256x256_d0 (rows_readCov (values1 c v hv xv) (by decide) (by decide)) (rows_readCov (values1 c v hv xv) (by decide) (by decide)))) <|
  stores_cons (band_P (i := 0) (c := 1) (off := ![513, 0]) (st := ![4, 1]) (.inr (.inl rfl)) (by decide) (by decide) rfl rfl rfl rfl (rows_load (by decide) (by decide)) (rows_load (by decide) (by decide)) (rows_readCov (values1 c v hv xv) (by decide) (by decide))) <|
  stores_cons (causal_P (c := 1) (off := ![1, 0]) (st := ![4, 1]) (.inr (.inl rfl)) (by decide) rfl rfl rfl rfl (rows_load (by decide) (by decide)) (rows_load (by decide) (by decide)) (rows_readCov (values1 c v hv xv) (by decide) (by decide))) <|
  stores_cons (band_P (i := 2) (c := 0) (off := ![1536, 0]) (st := ![4, 1]) (.inr (.inl rfl)) (by decide) (by decide) rfl rfl rfl rfl (rows_load (by decide) (by decide)) (rows_load (by decide) (by decide)) (rows_readCov (values1 c v hv xv) (by decide) (by decide))) <|
  stores_cons (band_P (i := 1) (c := 0) (off := ![1024, 0]) (st := ![4, 1]) (.inr (.inl rfl)) (by decide) (by decide) rfl rfl rfl rfl (rows_load (by decide) (by decide)) (rows_cat (n₁ := 128) (n₂ := 128) concatenates_S128x128_S128x128_S256x128_d0 (rows_load (by decide) (by decide)) (rows_load (by decide) (by decide))) (rows_cat (n₁ := 128) (n₂ := 128) concatenates_S128x256_S128x256_S256x256_d0 (rows_readCov (values1 c v hv xv) (by decide) (by decide)) (rows_readCov (values1 c v hv xv) (by decide) (by decide)))) <|
  stores_cons (band_P (i := 0) (c := 0) (off := ![512, 0]) (st := ![4, 1]) (.inr (.inl rfl)) (by decide) (by decide) rfl rfl rfl rfl (rows_load (by decide) (by decide)) (rows_load (by decide) (by decide)) (rows_readCov (values1 c v hv xv) (by decide) (by decide))) <|
  stores_cons (causal_P (c := 0) (off := ![0, 0]) (st := ![4, 1]) (.inr (.inl rfl)) (by decide) rfl rfl rfl rfl (rows_load (by decide) (by decide)) (rows_load (by decide) (by decide)) (rows_readCov (values1 c v hv xv) (by decide) (by decide))) <|
  stores_nil

end Cert.Attn
-- ==== Proof.Attn.Group2.lean ====
module

public import proofs.«01_k».proof.Proof.Attn.Piece
public import proofs.«01_k».proof.Proof.Gen.KernelIdeal.Frame

@[expose] public section

set_option maxRecDepth 50000

noncomputable section

/-! # The statistics of the group of dilation 16 -/

namespace Cert.Attn

open Idealize.ShloMosaic Idealize.ShloMosaic.ValueIdx Cert.KernelIdeal Cert.KernelIdeal.Gen

variable (c : Dev nD) (q : Memref sig .tc .vmem S2048x128 .bf16) (hq : q.IsWhole) (k : Memref sig .tc .vmem S2048x128 .bf16)
  (hk : k.IsWhole) (v : Memref sig .tc .vmem S2048x128 .bf16) (hv : v.IsWhole) (vc : Memref sig .tc .vmem S2048x256 .bf16)
  (xq xk xv : Vec Ideal S2048x128 .bf16)

/-- The array of values beside ones holds them. -/
theorem values2 (y : S2048x256.Idx) : View.canon (kernelRun0_A.sl.HS11_2 (F := Ideal) c v hv xv) y = besideOnes (rowsOf xv) (y 0) (y 1) :=
  canon_besideOnes y

/-- Every store of maxima is of the tokens'. -/
theorem stores2_M : ∀ p ∈ kernelRun0_A.sl.HS6_16 (F := Ideal) c q hq k hk xq xk, ∀ x : p.1.shape.Idx,
    p.2 x = statM 16 64 (rowsOf xq) (rowsOf xk) (p.1.emb x) :=
  stores_cons (causal_M (c := 15) (off := ![15, 0]) (st := ![16, 1]) (.inr (.inr rfl)) (by decide) rfl rfl (rows_cat (n₁ := 64) (n₂ := 64) concatenates_S64x128_S64x128_S128x128_d0 (rows_load (by decide) (by decide)) (rows_load (by decide) (by decide))) (rows_cat (n₁ := 64) (n₂ := 64) concatenates_S64x128_S64x128_S128x128_d0 (rows_load (by decide) (by decide)) (rows_load (by decide) (by decide)))) <|
  stores_cons (causal_M (c := 14) (off := ![14, 0]) (st := ![16, 1]) (.inr (.inr rfl)) (by decide) rfl rfl (rows_cat (n₁ := 64) (n₂ := 64) concatenates_S64x128_S64x128_S128x128_d0 (rows_load (by decide) (by decide)) (rows_load (by decide) (by decide))) (rows_cat (n₁ := 64) (n₂ := 64) concatenates_S64x128_S64x128_S128x128_d0 (rows_load (by decide) (by decide)) (rows_load (by decide) (by decide)))) <|
  stores_cons (causal_M (c := 13) (off := ![13, 0]) (st := ![16, 1]) (.inr (.inr rfl)) (by decide) rfl rfl (rows_cat (n₁ := 64) (n₂ := 64) concatenates_S64x128_S64x128_S128x128_d0 (rows_load (by decide) (by decide)) (rows_load (by decide) (by decide))) (rows_cat (n₁ := 64) (n₂ := 64) concatenates_S64x128_S64x128_S128x128_d0 (rows_load (by decide) (by decide)) (rows_load (by decide) (by decide)))) <|
  stores_cons (causal_M (c := 12) (off := ![12, 0]) (st := ![16, 1]) (.inr (.inr rfl)) (by decide) rfl rfl (rows_cat (n₁ := 64) (n₂ := 64) concatenates_S64x128_S64x128_S128x128_d0 (rows_load (by decide) (by decide)) (rows_load (by decide) (by decide))) (rows_cat (n₁ := 64) (n₂ := 64) concatenates_S64x128_S64x128_S128x128_d0 (rows_load (by decide) (by decide)) (rows_load (by decide) (by decide)))) <|
  stores_cons (causal_M (c := 11) (off := ![11, 0]) (st := ![16, 1]) (.inr (.inr rfl)) (by decide) rfl rfl (rows_cat (n₁ := 64) (n₂ := 64) concatenates_S64x128_S64x128_S128x128_d0 (rows_load (by decide) (by decide)) (rows_load (by decide) (by decide))) (rows_cat (n₁ := 64) (n₂ := 64) concatenates_S64x128_S64x128_S128x128_d0 (rows_load (by decide) (by decide)) (rows_load (by decide) (by decide)))) <|
  stores_cons (causal_M (c := 10) (off := ![10, 0]) (st := ![16, 1]) (.inr (.inr rfl)) (by decide) rfl rfl (rows_cat (n₁ := 64) (n₂ := 64) concatenates_S64x128_S64x128_S128x128_d0 (rows_load (by decide) (by decide)) (rows_load (by decide) (by decide))) (rows_cat (n₁ := 64) (n₂ := 64) concatenates_S64x128_S64x128_S128x128_d0 (rows_load (by decide) (by decide)) (rows_load (by decide) (by decide)))) <|
  stores_cons (causal_M (c := 9) (off := ![9, 0]) (st := ![16, 1]) (.inr (.inr rfl)) (by decide) rfl rfl (rows_cat (n₁ := 64) (n₂ := 64) concatenates_S64x128_S64x128_S128x128_d0 (rows_load (by decide) (by decide)) (rows_load (by decide) (by decide))) (rows_cat (n₁ := 64) (n₂ := 64) concatenates_S64x128_S64x128_S128x128_d0 (rows_load (by decide) (by decide)) (rows_load (by decide) (by decide)))) <|
  stores_cons (causal_M (c := 8) (off := ![8, 0]) (st := ![16, 1]) (.inr (.inr rfl)) (by decide) rfl rfl (rows_cat (n₁ := 64) (n₂ := 64) concatenates_S64x128_S64x128_S128x128_d0 (rows_load (by decide) (by decide)) (rows_load (by decide) (by decide))) (rows_cat (n₁ := 64) (n₂ := 64) concatenates_S64x128_S64x128_S128x128_d0 (rows_load (by decide) (by decide)) (rows_load (by decide) (by decide)))) <|
  stores_cons (causal_M (c := 7) (off := ![7, 0]) (st := ![16, 1]) (.inr (.inr rfl)) (by decide) rfl rfl (rows_cat (n₁ := 64) (n₂ := 64) concatenates_S64x128_S64x128_S128x128_d0 (rows_load (by decide) (by decide)) (rows_load (by decide) (by decide))) (rows_cat (n₁ := 64) (n₂ := 64) concatenates_S64x128_S64x128_S128x128_d0 (rows_load (by decide) (by decide)) (rows_load (by decide) (by decide)))) <|
  stores_cons (causal_M (c := 6) (off := ![6, 0]) (st := ![16, 1]) (.inr (.inr rfl)) (by decide) rfl rfl (rows_cat (n₁ := 64) (n₂ := 64) concatenates_S64x128_S64x128_S128x128_d0 (rows_load (by decide) (by decide)) (rows_load (by decide) (by decide))) (rows_cat (n₁ := 64) (n₂ := 64) concatenates_S64x128_S64x128_S128x128_d0 (rows_load (by decide) (by decide)) (rows_load (by decide) (by decide)))) <|
  stores_cons (causal_M (c := 5) (off := ![5, 0]) (st := ![16, 1]) (.inr (.inr rfl)) (by decide) rfl rfl (rows_cat (n₁ := 64) (n₂ := 64) concatenates_S64x128_S64x128_S128x128_d0 (rows_load (by decide) (by decide)) (rows_load (by decide) (by decide))) (rows_cat (n₁ := 64) (n₂ := 64) concatenates_S64x128_S64x128_S128x128_d0 (rows_load (by decide) (by decide)) (rows_load (by decide) (by decide)))) <|
  stores_cons (causal_M (c := 4) (off := ![4, 0]) (st := ![16, 1]) (.inr (.inr rfl)) (by decide) rfl rfl (rows_cat (n₁ := 64) (n₂ := 64) concatenates_S64x128_S64x128_S128x128_d0 (rows_load (by decide) (by decide)) (rows_load (by decide) (by decide))) (rows_cat (n₁ := 64) (n₂ := 64) concatenates_S64x128_S64x128_S128x128_d0 (rows_load (by decide) (by decide)) (rows_load (by decide) (by decide)))) <|
  stores_cons (causal_M (c := 3) (off := ![3, 0]) (st := ![16, 1]) (.inr (.inr rfl)) (by decide) rfl rfl (rows_cat (n₁ := 64) (n₂ := 64) concatenates_S64x128_S64x128_S128x128_d0 (rows_load (by decide) (by decide)) (rows_load (by decide) (by decide))) (rows_cat (n₁ := 64) (n₂ := 64) concatenates_S64x128_S64x128_S128x128_d0 (rows_load (by decide) (by decide)) (rows_load (by decide) (by decide)))) <|
  stores_cons (causal_M (c := 2) (off := ![2, 0]) (st := ![16, 1]) (.inr (.inr rfl)) (by decide) rfl rfl (rows_cat (n₁ := 64) (n₂ := 64) concatenates_S64x128_S64x128_S128x128_d0 (rows_load (by decide) (by decide)) (rows_load (by decide) (by decide))) (rows_cat (n₁ := 64) (n₂ := 64) concatenates_S64x128_S64x128_S128x128_d0 (rows_load (by decide) (by decide)) (rows_load (by decide) (by decide)))) <|
  stores_cons (causal_M (c := 1) (off := ![1, 0]) (st := ![16, 1]) (.inr (.inr rfl)) (by decide) rfl rfl (rows_cat (n₁ := 64) (n₂ := 64) concatenates_S64x128_S64x128_S128x128_d0 (rows_load (by decide) (by decide)) (rows_load (by decide) (by decide))) (rows_cat (n₁ := 64) (n₂ := 64) concatenates_S64x128_S64x128_S128x128_d0 (rows_load (by decide) (by decide)) (rows_load (by decide) (by decide)))) <|
  stores_cons (causal_M (c := 0) (off := ![0, 0]) (st := ![16, 1]) (.inr (.inr rfl)) (by decide) rfl rfl (rows_cat (n₁ := 64) (n₂ := 64) concatenates_S64x128_S64x128_S128x128_d0 (rows_load (by decide) (by decide)) (rows_load (by decide) (by decide))) (rows_cat (n₁ := 64) (n₂ := 64) concatenates_S64x128_S64x128_S128x128_d0 (rows_load (by decide) (by decide)) (rows_load (by decide) (by decide)))) <|
  stores_nil

/-- Every store of sums of exponentials is of the tokens'. -/
theorem stores2_D : ∀ p ∈ kernelRun0_A.sl.HS7_16 (F := Ideal) c q hq k hk v hv vc xq xk xv, ∀ x : p.1.shape.Idx,
    p.2 x = statD 16 64 (rowsOf xq) (rowsOf xk) (p.1.emb x) :=
  stores_cons (causal_D (V := rowsOf xv) (c := 15) (off := ![15, 0]) (st := ![16, 1]) (.inr (.inr rfl)) (by decide) rfl rfl (rows_cat (n₁ := 64) (n₂ := 64) concatenates_S64x128_S64x128_S128x128_d0 (rows_load (by decide) (by decide)) (rows_load (by decide) (by decide))) (rows_cat (n₁ := 64) (n₂ := 64) concatenates_S64x128_S64x128_S128x128_d0 (rows_load (by decide) (by decide)) (rows_load (by decide) (by decide))) (rows_cat (n₁ := 64) (n₂ := 64) concatenates_S64x256_S64x256_S128x256_d0 (rows_readCov (values2 c v hv xv) (by decide) (by decide)) (rows_readCov (values2 c v hv xv) (by decide) (by decide)))) <|
  stores_cons (causal_D (V := rowsOf xv) (c := 14) (off := ![14, 0]) (st := ![16, 1]) (.inr (.inr rfl)) (by decide) rfl rfl (rows_cat (n₁ := 64) (n₂ := 64) concatenates_S64x128_S64x128_S128x128_d0 (rows_load (by decide) (by decide)) (rows_load (by decide) (by decide))) (rows_cat (n₁ := 64) (n₂ := 64) concatenates_S64x128_S64x128_S128x128_d0 (rows_load (by decide) (by decide)) (rows_load (by decide) (by decide))) (rows_cat (n₁ := 64) (n₂ := 64) concatenates_S64x256_S64x256_S128x256_d0 (rows_readCov (values2 c v hv xv) (by decide) (by decide)) (rows_readCov (values2 c v hv xv) (by decide) (by decide)))) <|
  stores_cons (causal_D (V := rowsOf xv) (c := 13) (off := ![13, 0]) (st := ![16, 1]) (.inr (.inr rfl)) (by decide) rfl rfl (rows_cat (n₁ := 64) (n₂ := 64) concatenates_S64x128_S64x128_S128x128_d0 (rows_load (by decide) (by decide)) (rows_load (by decide) (by decide))) (rows_cat (n₁ := 64) (n₂ := 64) concatenates_S64x128_S64x128_S128x128_d0 (rows_load (by decide) (by decide)) (rows_load (by decide) (by decide))) (rows_cat (n₁ := 64) (n₂ := 64) concatenates_S64x256_S64x256_S128x256_d0 (rows_readCov (values2 c v hv xv) (by decide) (by decide)) (rows_readCov (values2 c v hv xv) (by decide) (by decide)))) <|
  stores_cons (causal_D (V := rowsOf xv) (c := 12) (off := ![12, 0]) (st := ![16, 1]) (.inr (.inr rfl)) (by decide) rfl rfl (rows_cat (n₁ := 64) (n₂ := 64) concatenates_S64x128_S64x128_S128x128_d0 (rows_load (by decide) (by decide)) (rows_load (by decide) (by decide))) (rows_cat (n₁ := 64) (n₂ := 64) concatenates_S64x128_S64x128_S128x128_d0 (rows_load (by decide) (by decide)) (rows_load (by decide) (by decide))) (rows_cat (n₁ := 64) (n₂ := 64) concatenates_S64x256_S64x256_S128x256_d0 (rows_readCov (values2 c v hv xv) (by decide) (by decide)) (rows_readCov (values2 c v hv xv) (by decide) (by decide)))) <|
  stores_cons (causal_D (V := rowsOf xv) (c := 11) (off := ![11, 0]) (st := ![16, 1]) (.inr (.inr rfl)) (by decide) rfl rfl (rows_cat (n₁ := 64) (n₂ := 64) concatenates_S64x128_S64x128_S128x128_d0 (rows_load (by decide) (by decide)) (rows_load (by decide) (by decide))) (rows_cat (n₁ := 64) (n₂ := 64) concatenates_S64x128_S64x128_S128x128_d0 (rows_load (by decide) (by decide)) (rows_load (by decide) (by decide))) (rows_cat (n₁ := 64) (n₂ := 64) concatenates_S64x256_S64x256_S128x256_d0 (rows_readCov (values2 c v hv xv) (by decide) (by decide)) (rows_readCov (values2 c v hv xv) (by decide) (by decide)))) <|
  stores_cons (causal_D (V := rowsOf xv) (c := 10) (off := ![10, 0]) (st := ![16, 1]) (.inr (.inr rfl)) (by decide) rfl rfl (rows_cat (n₁ := 64) (n₂ := 64) concatenates_S64x128_S64x128_S128x128_d0 (rows_load (by decide) (by decide)) (rows_load (by decide) (by decide))) (rows_cat (n₁ := 64) (n₂ := 64) concatenates_S64x128_S64x128_S128x128_d0 (rows_load (by decide) (by decide)) (rows_load (by decide) (by decide))) (rows_cat (n₁ := 64) (n₂ := 64) concatenates_S64x256_S64x256_S128x256_d0 (rows_readCov (values2 c v hv xv) (by decide) (by decide)) (rows_readCov (values2 c v hv xv) (by decide) (by decide)))) <|
  stores_cons (causal_D (V := rowsOf xv) (c := 9) (off := ![9, 0]) (st := ![16, 1]) (.inr (.inr rfl)) (by decide) rfl rfl (rows_cat (n₁ := 64) (n₂ := 64) concatenates_S64x128_S64x128_S128x128_d0 (rows_load (by decide) (by decide)) (rows_load (by decide) (by decide))) (rows_cat (n₁ := 64) (n₂ := 64) concatenates_S64x128_S64x128_S128x128_d0 (rows_load (by decide) (by decide)) (rows_load (by decide) (by decide))) (rows_cat (n₁ := 64) (n₂ := 64) concatenates_S64x256_S64x256_S128x256_d0 (rows_readCov (values2 c v hv xv) (by decide) (by decide)) (rows_readCov (values2 c v hv xv) (by decide) (by decide)))) <|
  stores_cons (causal_D (V := rowsOf xv) (c := 8) (off := ![8, 0]) (st := ![16, 1]) (.inr (.inr rfl)) (by decide) rfl rfl (rows_cat (n₁ := 64) (n₂ := 64) concatenates_S64x128_S64x128_S128x128_d0 (rows_load (by decide) (by decide)) (rows_load (by decide) (by decide))) (rows_cat (n₁ := 64) (n₂ := 64) concatenates_S64x128_S64x128_S128x128_d0 (rows_load (by decide) (by decide)) (rows_load (by decide) (by decide))) (rows_cat (n₁ := 64) (n₂ := 64) concatenates_S64x256_S64x256_S128x256_d0 (rows_readCov (values2 c v hv xv) (by decide) (by decide)) (rows_readCov (values2 c v hv xv) (by decide) (by decide)))) <|
  stores_cons (causal_D (V := rowsOf xv) (c := 7) (off := ![7, 0]) (st := ![16, 1]) (.inr (.inr rfl)) (by decide) rfl rfl (rows_cat (n₁ := 64) (n₂ := 64) concatenates_S64x128_S64x128_S128x128_d0 (rows_load (by decide) (by decide)) (rows_load (by decide) (by decide))) (rows_cat (n₁ := 64) (n₂ := 64) concatenates_S64x128_S64x128_S128x128_d0 (rows_load (by decide) (by decide)) (rows_load (by decide) (by decide))) (rows_cat (n₁ := 64) (n₂ := 64) concatenates_S64x256_S64x256_S128x256_d0 (rows_readCov (values2 c v hv xv) (by decide) (by decide)) (rows_readCov (values2 c v hv xv) (by decide) (by decide)))) <|
  stores_cons (causal_D (V := rowsOf xv) (c := 6) (off := ![6, 0]) (st := ![16, 1]) (.inr (.inr rfl)) (by decide) rfl rfl (rows_cat (n₁ := 64) (n₂ := 64) concatenates_S64x128_S64x128_S128x128_d0 (rows_load (by decide) (by decide)) (rows_load (by decide) (by decide))) (rows_cat (n₁ := 64) (n₂ := 64) concatenates_S64x128_S64x128_S128x128_d0 (rows_load (by decide) (by decide)) (rows_load (by decide) (by decide))) (rows_cat (n₁ := 64) (n₂ := 64) concatenates_S64x256_S64x256_S128x256_d0 (rows_readCov (values2 c v hv xv) (by decide) (by decide)) (rows_readCov (values2 c v hv xv) (by decide) (by decide)))) <|
  stores_cons (causal_D (V := rowsOf xv) (c := 5) (off := ![5, 0]) (st := ![16, 1]) (.inr (.inr rfl)) (by decide) rfl rfl (rows_cat (n₁ := 64) (n₂ := 64) concatenates_S64x128_S64x128_S128x128_d0 (rows_load (by decide) (by decide)) (rows_load (by decide) (by decide))) (rows_cat (n₁ := 64) (n₂ := 64) concatenates_S64x128_S64x128_S128x128_d0 (rows_load (by decide) (by decide)) (rows_load (by decide) (by decide))) (rows_cat (n₁ := 64) (n₂ := 64) concatenates_S64x256_S64x256_S128x256_d0 (rows_readCov (values2 c v hv xv) (by decide) (by decide)) (rows_readCov (values2 c v hv xv) (by decide) (by decide)))) <|
  stores_cons (causal_D (V := rowsOf xv) (c := 4) (off := ![4, 0]) (st := ![16, 1]) (.inr (.inr rfl)) (by decide) rfl rfl (rows_cat (n₁ := 64) (n₂ := 64) concatenates_S64x128_S64x128_S128x128_d0 (rows_load (by decide) (by decide)) (rows_load (by decide) (by decide))) (rows_cat (n₁ := 64) (n₂ := 64) concatenates_S64x128_S64x128_S128x128_d0 (rows_load (by decide) (by decide)) (rows_load (by decide) (by decide))) (rows_cat (n₁ := 64) (n₂ := 64) concatenates_S64x256_S64x256_S128x256_d0 (rows_readCov (values2 c v hv xv) (by decide) (by decide)) (rows_readCov (values2 c v hv xv) (by decide) (by decide)))) <|
  stores_cons (causal_D (V := rowsOf xv) (c := 3) (off := ![3, 0]) (st := ![16, 1]) (.inr (.inr rfl)) (by decide) rfl rfl (rows_cat (n₁ := 64) (n₂ := 64) concatenates_S64x128_S64x128_S128x128_d0 (rows_load (by decide) (by decide)) (rows_load (by decide) (by decide))) (rows_cat (n₁ := 64) (n₂ := 64) concatenates_S64x128_S64x128_S128x128_d0 (rows_load (by decide) (by decide)) (rows_load (by decide) (by decide))) (rows_cat (n₁ := 64) (n₂ := 64) concatenates_S64x256_S64x256_S128x256_d0 (rows_readCov (values2 c v hv xv) (by decide) (by decide)) (rows_readCov (values2 c v hv xv) (by decide) (by decide)))) <|
  stores_cons (causal_D (V := rowsOf xv) (c := 2) (off := ![2, 0]) (st := ![16, 1]) (.inr (.inr rfl)) (by decide) rfl rfl (rows_cat (n₁ := 64) (n₂ := 64) concatenates_S64x128_S64x128_S128x128_d0 (rows_load (by decide) (by decide)) (rows_load (by decide) (by decide))) (rows_cat (n₁ := 64) (n₂ := 64) concatenates_S64x128_S64x128_S128x128_d0 (rows_load (by decide) (by decide)) (rows_load (by decide) (by decide))) (rows_cat (n₁ := 64) (n₂ := 64) concatenates_S64x256_S64x256_S128x256_d0 (rows_readCov (values2 c v hv xv) (by decide) (by decide)) (rows_readCov (values2 c v hv xv) (by decide) (by decide)))) <|
  stores_cons (causal_D (V := rowsOf xv) (c := 1) (off := ![1, 0]) (st := ![16, 1]) (.inr (.inr rfl)) (by decide) rfl rfl (rows_cat (n₁ := 64) (n₂ := 64) concatenates_S64x128_S64x128_S128x128_d0 (rows_load (by decide) (by decide)) (rows_load (by decide) (by decide))) (rows_cat (n₁ := 64) (n₂ := 64) concatenates_S64x128_S64x128_S128x128_d0 (rows_load (by decide) (by decide)) (rows_load (by decide) (by decide))) (rows_cat (n₁ := 64) (n₂ := 64) concatenates_S64x256_S64x256_S128x256_d0 (rows_readCov (values2 c v hv xv) (by decide) (by decide)) (rows_readCov (values2 c v hv xv) (by decide) (by decide)))) <|
  stores_cons (causal_D (V := rowsOf xv) (c := 0) (off := ![0, 0]) (st := ![16, 1]) (.inr (.inr rfl)) (by decide) rfl rfl (rows_cat (n₁ := 64) (n₂ := 64) concatenates_S64x128_S64x128_S128x128_d0 (rows_load (by decide) (by decide)) (rows_load (by decide) (by decide))) (rows_cat (n₁ := 64) (n₂ := 64) concatenates_S64x128_S64x128_S128x128_d0 (rows_load (by decide) (by decide)) (rows_load (by decide) (by decide))) (rows_cat (n₁ := 64) (n₂ := 64) concatenates_S64x256_S64x256_S128x256_d0 (rows_readCov (values2 c v hv xv) (by decide) (by decide)) (rows_readCov (values2 c v hv xv) (by decide) (by decide)))) <|
  stores_nil

/-- Every store of weighted values is of the tokens'. -/
theorem stores2_P : ∀ p ∈ kernelRun0_A.sl.HS8_16 (F := Ideal) c q hq k hk v hv vc xq xk xv, ∀ x : p.1.shape.Idx,
    p.2 x = statP 16 64 (rowsOf xq) (rowsOf xk) (rowsOf xv) (p.1.emb x) :=
  stores_cons (causal_P (c := 15) (off := ![15, 0]) (st := ![16, 1]) (.inr (.inr rfl)) (by decide) rfl rfl rfl rfl (rows_cat (n₁ := 64) (n₂ := 64) concatenates_S64x128_S64x128_S128x128_d0 (rows_load (by decide) (by decide)) (rows_load (by decide) (by decide))) (rows_cat (n₁ := 64) (n₂ := 64) concatenates_S64x128_S64x128_S128x128_d0 (rows_load (by decide) (by decide)) (rows_load (by decide) (by decide))) (rows_cat (n₁ := 64) (n₂ := 64) concatenates_S64x256_S64x256_S128x256_d0 (rows_readCov (values2 c v hv xv) (by decide) (by decide)) (rows_readCov (values2 c v hv xv) (by decide) (by decide)))) <|
  stores_cons (causal_P (c := 14) (off := ![14, 0]) (st := ![16, 1]) (.inr (.inr rfl)) (by decide) rfl rfl rfl rfl (rows_cat (n₁ := 64) (n₂ := 64) concatenates_S64x128_S64x128_S128x128_d0 (rows_load (by decide) (by decide)) (rows_load (by decide) (by decide))) (rows_cat (n₁ := 64) (n₂ := 64) concatenates_S64x128_S64x128_S128x128_d0 (rows_load (by decide) (by decide)) (rows_load (by decide) (by decide))) (rows_cat (n₁ := 64) (n₂ := 64) concatenates_S64x256_S64x256_S128x256_d0 (rows_readCov (values2 c v hv xv) (by decide) (by decide)) (rows_readCov (values2 c v hv xv) (by decide) (by decide)))) <|
  stores_cons (causal_P (c := 13) (off := ![13, 0]) (st := ![16, 1]) (.inr (.inr rfl)) (by decide) rfl rfl rfl rfl (rows_cat (n₁ := 64) (n₂ := 64) concatenates_S64x128_S64x128_S128x128_d0 (rows_load (by decide) (by decide)) (rows_load (by decide) (by decide))) (rows_cat (n₁ := 64) (n₂ := 64) concatenates_S64x128_S64x128_S128x128_d0 (rows_load (by decide) (by decide)) (rows_load (by decide) (by decide))) (rows_cat (n₁ := 64) (n₂ := 64) concatenates_S64x256_S64x256_S128x256_d0 (rows_readCov (values2 c v hv xv) (by decide) (by decide)) (rows_readCov (values2 c v hv xv) (by decide) (by decide)))) <|
  stores_cons (causal_P (c := 12) (off := ![12, 0]) (st := ![16, 1]) (.inr (.inr rfl)) (by decide) rfl rfl rfl rfl (rows_cat (n₁ := 64) (n₂ := 64) concatenates_S64x128_S64x128_S128x128_d0 (rows_load (by decide) (by decide)) (rows_load (by decide) (by decide))) (rows_cat (n₁ := 64) (n₂ := 64) concatenates_S64x128_S64x128_S128x128_d0 (rows_load (by decide) (by decide)) (rows_load (by decide) (by decide))) (rows_cat (n₁ := 64) (n₂ := 64) concatenates_S64x256_S64x256_S128x256_d0 (rows_readCov (values2 c v hv xv) (by decide) (by decide)) (rows_readCov (values2 c v hv xv) (by decide) (by decide)))) <|
  stores_cons (causal_P (c := 11) (off := ![11, 0]) (st := ![16, 1]) (.inr (.inr rfl)) (by decide) rfl rfl rfl rfl (rows_cat (n₁ := 64) (n₂ := 64) concatenates_S64x128_S64x128_S128x128_d0 (rows_load (by decide) (by decide)) (rows_load (by decide) (by decide))) (rows_cat (n₁ := 64) (n₂ := 64) concatenates_S64x128_S64x128_S128x128_d0 (rows_load (by decide) (by decide)) (rows_load (by decide) (by decide))) (rows_cat (n₁ := 64) (n₂ := 64) concatenates_S64x256_S64x256_S128x256_d0 (rows_readCov (values2 c v hv xv) (by decide) (by decide)) (rows_readCov (values2 c v hv xv) (by decide) (by decide)))) <|
  stores_cons (causal_P (c := 10) (off := ![10, 0]) (st := ![16, 1]) (.inr (.inr rfl)) (by decide) rfl rfl rfl rfl (rows_cat (n₁ := 64) (n₂ := 64) concatenates_S64x128_S64x128_S128x128_d0 (rows_load (by decide) (by decide)) (rows_load (by decide) (by decide))) (rows_cat (n₁ := 64) (n₂ := 64) concatenates_S64x128_S64x128_S128x128_d0 (rows_load (by decide) (by decide)) (rows_load (by decide) (by decide))) (rows_cat (n₁ := 64) (n₂ := 64) concatenates_S64x256_S64x256_S128x256_d0 (rows_readCov (values2 c v hv xv) (by decide) (by decide)) (rows_readCov (values2 c v hv xv) (by decide) (by decide)))) <|
  stores_cons (causal_P (c := 9) (off := ![9, 0]) (st := ![16, 1]) (.inr (.inr rfl)) (by decide) rfl rfl rfl rfl (rows_cat (n₁ := 64) (n₂ := 64) concatenates_S64x128_S64x128_S128x128_d0 (rows_load (by decide) (by decide)) (rows_load (by decide) (by decide))) (rows_cat (n₁ := 64) (n₂ := 64) concatenates_S64x128_S64x128_S128x128_d0 (rows_load (by decide) (by decide)) (rows_load (by decide) (by decide))) (rows_cat (n₁ := 64) (n₂ := 64) concatenates_S64x256_S64x256_S128x256_d0 (rows_readCov (values2 c v hv xv) (by decide) (by decide)) (rows_readCov (values2 c v hv xv) (by decide) (by decide)))) <|
  stores_cons (causal_P (c := 8) (off := ![8, 0]) (st := ![16, 1]) (.inr (.inr rfl)) (by decide) rfl rfl rfl rfl (rows_cat (n₁ := 64) (n₂ := 64) concatenates_S64x128_S64x128_S128x128_d0 (rows_load (by decide) (by decide)) (rows_load (by decide) (by decide))) (rows_cat (n₁ := 64) (n₂ := 64) concatenates_S64x128_S64x128_S128x128_d0 (rows_load (by decide) (by decide)) (rows_load (by decide) (by decide))) (rows_cat (n₁ := 64) (n₂ := 64) concatenates_S64x256_S64x256_S128x256_d0 (rows_readCov (values2 c v hv xv) (by decide) (by decide)) (rows_readCov (values2 c v hv xv) (by decide) (by decide)))) <|
  stores_cons (causal_P (c := 7) (off := ![7, 0]) (st := ![16, 1]) (.inr (.inr rfl)) (by decide) rfl rfl rfl rfl (rows_cat (n₁ := 64) (n₂ := 64) concatenates_S64x128_S64x128_S128x128_d0 (rows_load (by decide) (by decide)) (rows_load (by decide) (by decide))) (rows_cat (n₁ := 64) (n₂ := 64) concatenates_S64x128_S64x128_S128x128_d0 (rows_load (by decide) (by decide)) (rows_load (by decide) (by decide))) (rows_cat (n₁ := 64) (n₂ := 64) concatenates_S64x256_S64x256_S128x256_d0 (rows_readCov (values2 c v hv xv) (by decide) (by decide)) (rows_readCov (values2 c v hv xv) (by decide) (by decide)))) <|
  stores_cons (causal_P (c := 6) (off := ![6, 0]) (st := ![16, 1]) (.inr (.inr rfl)) (by decide) rfl rfl rfl rfl (rows_cat (n₁ := 64) (n₂ := 64) concatenates_S64x128_S64x128_S128x128_d0 (rows_load (by decide) (by decide)) (rows_load (by decide) (by decide))) (rows_cat (n₁ := 64) (n₂ := 64) concatenates_S64x128_S64x128_S128x128_d0 (rows_load (by decide) (by decide)) (rows_load (by decide) (by decide))) (rows_cat (n₁ := 64) (n₂ := 64) concatenates_S64x256_S64x256_S128x256_d0 (rows_readCov (values2 c v hv xv) (by decide) (by decide)) (rows_readCov (values2 c v hv xv) (by decide) (by decide)))) <|
  stores_cons (causal_P (c := 5) (off := ![5, 0]) (st := ![16, 1]) (.inr (.inr rfl)) (by decide) rfl rfl rfl rfl (rows_cat (n₁ := 64) (n₂ := 64) concatenates_S64x128_S64x128_S128x128_d0 (rows_load (by decide) (by decide)) (rows_load (by decide) (by decide))) (rows_cat (n₁ := 64) (n₂ := 64) concatenates_S64x128_S64x128_S128x128_d0 (rows_load (by decide) (by decide)) (rows_load (by decide) (by decide))) (rows_cat (n₁ := 64) (n₂ := 64) concatenates_S64x256_S64x256_S128x256_d0 (rows_readCov (values2 c v hv xv) (by decide) (by decide)) (rows_readCov (values2 c v hv xv) (by decide) (by decide)))) <|
  stores_cons (causal_P (c := 4) (off := ![4, 0]) (st := ![16, 1]) (.inr (.inr rfl)) (by decide) rfl rfl rfl rfl (rows_cat (n₁ := 64) (n₂ := 64) concatenates_S64x128_S64x128_S128x128_d0 (rows_load (by decide) (by decide)) (rows_load (by decide) (by decide))) (rows_cat (n₁ := 64) (n₂ := 64) concatenates_S64x128_S64x128_S128x128_d0 (rows_load (by decide) (by decide)) (rows_load (by decide) (by decide))) (rows_cat (n₁ := 64) (n₂ := 64) concatenates_S64x256_S64x256_S128x256_d0 (rows_readCov (values2 c v hv xv) (by decide) (by decide)) (rows_readCov (values2 c v hv xv) (by decide) (by decide)))) <|
  stores_cons (causal_P (c := 3) (off := ![3, 0]) (st := ![16, 1]) (.inr (.inr rfl)) (by decide) rfl rfl rfl rfl (rows_cat (n₁ := 64) (n₂ := 64) concatenates_S64x128_S64x128_S128x128_d0 (rows_load (by decide) (by decide)) (rows_load (by decide) (by decide))) (rows_cat (n₁ := 64) (n₂ := 64) concatenates_S64x128_S64x128_S128x128_d0 (rows_load (by decide) (by decide)) (rows_load (by decide) (by decide))) (rows_cat (n₁ := 64) (n₂ := 64) concatenates_S64x256_S64x256_S128x256_d0 (rows_readCov (values2 c v hv xv) (by decide) (by decide)) (rows_readCov (values2 c v hv xv) (by decide) (by decide)))) <|
  stores_cons (causal_P (c := 2) (off := ![2, 0]) (st := ![16, 1]) (.inr (.inr rfl)) (by decide) rfl rfl rfl rfl (rows_cat (n₁ := 64) (n₂ := 64) concatenates_S64x128_S64x128_S128x128_d0 (rows_load (by decide) (by decide)) (rows_load (by decide) (by decide))) (rows_cat (n₁ := 64) (n₂ := 64) concatenates_S64x128_S64x128_S128x128_d0 (rows_load (by decide) (by decide)) (rows_load (by decide) (by decide))) (rows_cat (n₁ := 64) (n₂ := 64) concatenates_S64x256_S64x256_S128x256_d0 (rows_readCov (values2 c v hv xv) (by decide) (by decide)) (rows_readCov (values2 c v hv xv) (by decide) (by decide)))) <|
  stores_cons (causal_P (c := 1) (off := ![1, 0]) (st := ![16, 1]) (.inr (.inr rfl)) (by decide) rfl rfl rfl rfl (rows_cat (n₁ := 64) (n₂ := 64) concatenates_S64x128_S64x128_S128x128_d0 (rows_load (by decide) (by decide)) (rows_load (by decide) (by decide))) (rows_cat (n₁ := 64) (n₂ := 64) concatenates_S64x128_S64x128_S128x128_d0 (rows_load (by decide) (by decide)) (rows_load (by decide) (by decide))) (rows_cat (n₁ := 64) (n₂ := 64) concatenates_S64x256_S64x256_S128x256_d0 (rows_readCov (values2 c v hv xv) (by decide) (by decide)) (rows_readCov (values2 c v hv xv) (by decide) (by decide)))) <|
  stores_cons (causal_P (c := 0) (off := ![0, 0]) (st := ![16, 1]) (.inr (.inr rfl)) (by decide) rfl rfl rfl rfl (rows_cat (n₁ := 64) (n₂ := 64) concatenates_S64x128_S64x128_S128x128_d0 (rows_load (by decide) (by decide)) (rows_load (by decide) (by decide))) (rows_cat (n₁ := 64) (n₂ := 64) concatenates_S64x128_S64x128_S128x128_d0 (rows_load (by decide) (by decide)) (rows_load (by decide) (by decide))) (rows_cat (n₁ := 64) (n₂ := 64) concatenates_S64x256_S64x256_S128x256_d0 (rows_readCov (values2 c v hv xv) (by decide) (by decide)) (rows_readCov (values2 c v hv xv) (by decide) (by decide)))) <|
  stores_nil

end Cert.Attn
-- ==== Proof.Attn.Stats.lean ====
module

public import proofs.«01_k».proof.Proof.Attn.Group0
public import proofs.«01_k».proof.Proof.Attn.Group1
public import proofs.«01_k».proof.Proof.Attn.Group2

@[expose] public section

set_option maxRecDepth 50000

noncomputable section

/-! # What the arrays of statistics hold once every block is stored -/

namespace Cert.Attn

open Idealize.ShloMosaic Idealize.ShloMosaic.ValueIdx Cert.KernelIdeal Cert.KernelIdeal.Gen

/-- The rows and lanes a stored block covers: their offsets, strides and numbers. -/
def extent (p : View.Piece (Elt Ideal) S2048x128 .f32) : List ℕ :=
  [p.1.off 0, p.1.stride 0, p.1.size 0, p.1.off 1, p.1.stride 1, p.1.size 1]

/-- Blocks of 128 rows at a stride, from the offsets `f n` on, in all lanes: they cover a row that one of them meets. -/
theorem covered {L : List (View.Piece (Elt Ideal) S2048x128 .f32)} {st : ℕ} {f : ℕ → ℕ}
    (h : L.map extent = (List.range 16).reverse.map fun n => [f n, st, 128, 0, 1, 128]) (y : S2048x128.Idx)
    (ho : ∃ n < 16, ∃ j < 128, (y 0).val = f n + st * j) : ∃ p ∈ L, y ∈ p.1.set := by
  obtain ⟨n, hn, j, hj, e⟩ := ho
  have hm : [f n, st, 128, 0, 1, 128] ∈ L.map extent := by
    rw [h]
    exact List.mem_map.2 ⟨n, by simpa using hn, rfl⟩
  obtain ⟨p, hp, he⟩ := List.mem_map.1 hm
  simp only [extent, List.cons.injEq, and_true] at he
  obtain ⟨e0, e1, e2, e3, e4, e5⟩ := he
  refine ⟨p, hp, (LoadRect.mem_set _).2 fun a => ?_⟩
  match a with
  | ⟨0, _⟩ => exact ⟨j, hj.trans_eq e2.symm, e.trans (by rw [← e0, ← e1]; rfl)⟩
  | ⟨1, _⟩ => exact ⟨(y 1).val, (y 1).isLt.trans_eq e5.symm, by
      show (y 1).val = p.1.off 1 + p.1.stride 1 * (y 1).val
      rw [e3, e4, Nat.zero_add, Nat.one_mul]⟩

/-- Every row lies in one of sixteen consecutive blocks. -/
theorem block0 (y : Fin 2048) : ∃ n < 16, ∃ j < 128, y.val = 128 * n + 1 * j :=
  ⟨y.val / 128, by omega, y.val % 128, by omega, by omega⟩

/-- Every row lies in one of four blocks of one of four classes. -/
theorem block1 (y : Fin 2048) : ∃ n < 16, ∃ j < 128, y.val = n / 4 + 512 * (n % 4) + 4 * j :=
  have h := y.isLt
  have e : (4 * (y.val % 4) + y.val / 512) / 4 = y.val % 4 := by omega
  have e' : (4 * (y.val % 4) + y.val / 512) % 4 = y.val / 512 := by omega
  ⟨4 * (y.val % 4) + y.val / 512, by omega, y.val % 512 / 4, by omega, by rw [e, e']; omega⟩

/-- Every row lies in the block of one of sixteen classes. -/
theorem block2 (y : Fin 2048) : ∃ n < 16, ∃ j < 128, y.val = n + 16 * j :=
  ⟨y.val % 16, by omega, y.val / 16, by omega, by omega⟩

variable (c : Dev nD) (q : Memref sig .tc .vmem S2048x128 .bf16) (hq : q.IsWhole) (k : Memref sig .tc .vmem S2048x128 .bf16)
  (hk : k.IsWhole) (v : Memref sig .tc .vmem S2048x128 .bf16) (hv : v.IsWhole) (vc : Memref sig .tc .vmem S2048x256 .bf16)
  (xq xk xv : Vec Ideal S2048x128 .bf16) (y : S2048x128.Idx)

/-- The maxima of the undilated group. -/
theorem stats0_M : View.canon (kernelRun0_A.sl.HS0_16 (F := Ideal) c q hq k hk xq xk) y = statM 1 1024 (rowsOf xq) (rowsOf xk) y :=
  View.canon_apply_of_pieces _ _ (stores0_M c q hq k hk xq xk) y (covered (f := fun n => 128 * n) rfl y (block0 (y 0)))

/-- Its sums of exponentials. -/
theorem stats0_D : View.canon (kernelRun0_A.sl.HS1_16 (F := Ideal) c q hq k hk v hv vc xq xk xv) y
    = statD 1 1024 (rowsOf xq) (rowsOf xk) y :=
  View.canon_apply_of_pieces _ _ (stores0_D c q hq k hk v hv vc xq xk xv) y (covered (f := fun n => 128 * n) rfl y (block0 (y 0)))

/-- Its weighted values. -/
theorem stats0_P : View.canon (kernelRun0_A.sl.HS2_16 (F := Ideal) c q hq k hk v hv vc xq xk xv) y
    = statP 1 1024 (rowsOf xq) (rowsOf xk) (rowsOf xv) y :=
  View.canon_apply_of_pieces _ _ (stores0_P c q hq k hk v hv vc xq xk xv) y (covered (f := fun n => 128 * n) rfl y (block0 (y 0)))

/-- The maxima of the group of dilation 4. -/
theorem stats1_M : View.canon (kernelRun0_A.sl.HS3_16 (F := Ideal) c q hq k hk xq xk) y = statM 4 256 (rowsOf xq) (rowsOf xk) y :=
  View.canon_apply_of_pieces _ _ (stores1_M c q hq k hk xq xk) y (covered (f := fun n => n / 4 + 512 * (n % 4)) rfl y (block1 (y 0)))

/-- Its sums of exponentials. -/
theorem stats1_D : View.canon (kernelRun0_A.sl.HS4_16 (F := Ideal) c q hq k hk v hv vc xq xk xv) y
    = statD 4 256 (rowsOf xq) (rowsOf xk) y :=
  View.canon_apply_of_pieces _ _ (stores1_D c q hq k hk v hv vc xq xk xv) y (covered (f := fun n => n / 4 + 512 * (n % 4)) rfl y (block1 (y 0)))

/-- Its weighted values. -/
theorem stats1_P : View.canon (kernelRun0_A.sl.HS5_16 (F := Ideal) c q hq k hk v hv vc xq xk xv) y
    = statP 4 256 (rowsOf xq) (rowsOf xk) (rowsOf xv) y :=
  View.canon_apply_of_pieces _ _ (stores1_P c q hq k hk v hv vc xq xk xv) y (covered (f := fun n => n / 4 + 512 * (n % 4)) rfl y (block1 (y 0)))

/-- The maxima of the group of dilation 16. -/
theorem stats2_M : View.canon (kernelRun0_A.sl.HS6_16 (F := Ideal) c q hq k hk xq xk) y = statM 16 64 (rowsOf xq) (rowsOf xk) y :=
  View.canon_apply_of_pieces _ _ (stores2_M c q hq k hk xq xk) y (covered (f := fun n => n) rfl y (block2 (y 0)))

/-- Its sums of exponentials. -/
theorem stats2_D : View.canon (kernelRun0_A.sl.HS7_16 (F := Ideal) c q hq k hk v hv vc xq xk xv) y
    = statD 16 64 (rowsOf xq) (rowsOf xk) y :=
  View.canon_apply_of_pieces _ _ (stores2_D c q hq k hk v hv vc xq xk xv) y (covered (f := fun n => n) rfl y (block2 (y 0)))

/-- Its weighted values. -/
theorem stats2_P : View.canon (kernelRun0_A.sl.HS8_16 (F := Ideal) c q hq k hk v hv vc xq xk xv) y
    = statP 16 64 (rowsOf xq) (rowsOf xk) (rowsOf xv) y :=
  View.canon_apply_of_pieces _ _ (stores2_P c q hq k hk v hv vc xq xk xv) y (covered (f := fun n => n) rfl y (block2 (y 0)))

end Cert.Attn
-- ==== Proof.Attn.Out.lean ====
module

public import proofs.«01_k».proof.Proof.Attn.Stats

@[expose] public section

set_option maxRecDepth 50000

noncomputable section

/-! # What one grid point stores: the merged attention of its tokens -/

namespace Cert.Attn

open Idealize.ShloMosaic Idealize.ShloMosaic.ValueIdx Cert.KernelIdeal Cert.KernelIdeal.Gen

/-- The merge of the three groups over a block of rows: maxima `M`, sums `D`, weighted values `N`. -/
def mergeBlock (M₀ M₁ M₂ D₀ N₀ D₁ N₁ D₂ N₂ : FVec Ideal S256x128 .f32) : FVec Ideal S256x128 .bf16 :=
  truncf .bf16 (divf
    (addf (addf (addf (broadcast S256x128 (Scalar.ofBits .f32 0x00000000#32)) (mulf (exp (subf M₀ (maximumf (maximumf M₀ M₁) M₂))) N₀))
      (mulf (exp (subf M₁ (maximumf (maximumf M₀ M₁) M₂))) N₁)) (mulf (exp (subf M₂ (maximumf (maximumf M₀ M₁) M₂))) N₂))
    (addf (addf (addf (broadcast S256x128 (Scalar.ofBits .f32 0x00000000#32)) (mulf (exp (subf M₀ (maximumf (maximumf M₀ M₁) M₂))) D₀))
      (mulf (exp (subf M₁ (maximumf (maximumf M₀ M₁) M₂))) D₁)) (mulf (exp (subf M₂ (maximumf (maximumf M₀ M₁) M₂))) D₂)))
    bitsLt_bf16_f32

/-- At each entry it is the merge of the statistics there. -/
theorem mergeBlock_apply (M₀ M₁ M₂ D₀ N₀ D₁ N₁ D₂ N₂ : FVec Ideal S256x128 .f32) (x : S256x128.Idx) :
    mergeBlock M₀ M₁ M₂ D₀ N₀ D₁ N₁ D₂ N₂ x
      = mergeK ![M₀ x, M₁ x, M₂ x] ![D₀ x, D₁ x, D₂ x] ![N₀ x, N₁ x, N₂ x] := by
  have h0 : (Scalar.ofBits .f32 0x00000000#32 : Ideal .f32) = (0 : EReal) := by simp [Ideal.ofBits, Ideal.ieee]
  show Ideal.div (((_ + _ : EReal) + _ : EReal) + _) (((_ + _ : EReal) + _ : EReal) + _) = _
  simp only [broadcast, h0]
  rfl

/-- The merged attention of a token, feature by feature, from the three groups' queries, keys and values. -/
def outVal (x₀ x₁ x₂ x₃ x₄ x₅ x₆ x₇ x₈ : Vec Ideal S2048x128 .bf16) (y : S2048x128.Idx) : EReal :=
  mergeK ![statM 1 1024 (rowsOf x₀) (rowsOf x₁) y, statM 4 256 (rowsOf x₃) (rowsOf x₄) y, statM 16 64 (rowsOf x₆) (rowsOf x₇) y]
    ![statD 1 1024 (rowsOf x₀) (rowsOf x₁) y, statD 4 256 (rowsOf x₃) (rowsOf x₄) y, statD 16 64 (rowsOf x₆) (rowsOf x₇) y]
    ![statP 1 1024 (rowsOf x₀) (rowsOf x₁) (rowsOf x₂) y, statP 4 256 (rowsOf x₃) (rowsOf x₄) (rowsOf x₅) y,
      statP 16 64 (rowsOf x₆) (rowsOf x₇) (rowsOf x₈) y]

section Merge

variable {LM₀ LM₁ LM₂ LD₀ LN₀ LD₁ LN₁ LD₂ LN₂ : List (View.Piece (Elt Ideal) S2048x128 .f32)}
  {x₀ x₁ x₂ x₃ x₄ x₅ x₆ x₇ x₈ : Vec Ideal S2048x128 .bf16}

/-- The lists of stores behind the nine arrays of statistics leave the three groups' statistics there. -/
structure Stored : Prop where
  M₀ : ∀ y, View.canon LM₀ y = statM 1 1024 (rowsOf x₀) (rowsOf x₁) y
  D₀ : ∀ y, View.canon LD₀ y = statD 1 1024 (rowsOf x₀) (rowsOf x₁) y
  N₀ : ∀ y, View.canon LN₀ y = statP 1 1024 (rowsOf x₀) (rowsOf x₁) (rowsOf x₂) y
  M₁ : ∀ y, View.canon LM₁ y = statM 4 256 (rowsOf x₃) (rowsOf x₄) y
  D₁ : ∀ y, View.canon LD₁ y = statD 4 256 (rowsOf x₃) (rowsOf x₄) y
  N₁ : ∀ y, View.canon LN₁ y = statP 4 256 (rowsOf x₃) (rowsOf x₄) (rowsOf x₅) y
  M₂ : ∀ y, View.canon LM₂ y = statM 16 64 (rowsOf x₆) (rowsOf x₇) y
  D₂ : ∀ y, View.canon LD₂ y = statD 16 64 (rowsOf x₆) (rowsOf x₇) y
  N₂ : ∀ y, View.canon LN₂ y = statP 16 64 (rowsOf x₆) (rowsOf x₇) (rowsOf x₈) y

/-- A list of stores of merged rows, one more of them in front. -/
theorem merged_cons (S : Stored (LM₀ := LM₀) (LM₁ := LM₁) (LM₂ := LM₂) (LD₀ := LD₀) (LN₀ := LN₀) (LD₁ := LD₁) (LN₁ := LN₁) (LD₂ := LD₂)
      (LN₂ := LN₂) (x₀ := x₀) (x₁ := x₁) (x₂ := x₂) (x₃ := x₃) (x₄ := x₄) (x₅ := x₅) (x₆ := x₆) (x₇ := x₇) (x₈ := x₈))
    (a₁₂ a₁₃ a₁₄ a₁₅ a₁₆ a₁₇ a₁₈ a₁₉ a₂₀ : Memref sig .tc .vmem S2048x128 .f32) (o : ℕ)
    (inb : ∀ b, ![o, 0] b + S256x128.size b ≤ S2048x128.size b)
    {W : FVec Ideal S256x128 .bf16} {L : List (View.Piece (Elt Ideal) S2048x128 .bf16)}
    (hW : W = mergeBlock
      (a₁₂.view.readCov LM₀ (Rect.unit (s := S2048x128) ![o, 0] S256x128.size inb).toLoadRect)
      (a₁₅.view.readCov LM₁ (Rect.unit (s := S2048x128) ![o, 0] S256x128.size inb).toLoadRect)
      (a₁₈.view.readCov LM₂ (Rect.unit (s := S2048x128) ![o, 0] S256x128.size inb).toLoadRect)
      (a₁₃.view.readCov LD₀ (Rect.unit (s := S2048x128) ![o, 0] S256x128.size inb).toLoadRect)
      (a₁₄.view.readCov LN₀ (Rect.unit (s := S2048x128) ![o, 0] S256x128.size inb).toLoadRect)
      (a₁₆.view.readCov LD₁ (Rect.unit (s := S2048x128) ![o, 0] S256x128.size inb).toLoadRect)
      (a₁₇.view.readCov LN₁ (Rect.unit (s := S2048x128) ![o, 0] S256x128.size inb).toLoadRect)
      (a₁₉.view.readCov LD₂ (Rect.unit (s := S2048x128) ![o, 0] S256x128.size inb).toLoadRect)
      (a₂₀.view.readCov LN₂ (Rect.unit (s := S2048x128) ![o, 0] S256x128.size inb).toLoadRect))
    (hL : ∀ p ∈ L, ∀ x : p.1.shape.Idx, p.2 x = outVal x₀ x₁ x₂ x₃ x₄ x₅ x₆ x₇ x₈ (p.1.emb x)) :
    ∀ p ∈ (⟨Rect.unit (s := S2048x128) ![o, 0] S256x128.size inb, W⟩ :: L : List (View.Piece (Elt Ideal) S2048x128 .bf16)),
      ∀ x : p.1.shape.Idx, p.2 x = outVal x₀ x₁ x₂ x₃ x₄ x₅ x₆ x₇ x₈ (p.1.emb x) :=
  List.forall_mem_cons.2 ⟨fun x => by
    subst hW
    refine (mergeBlock_apply _ _ _ _ _ _ _ _ _ x).trans ?_
    simp only [View.readCov_eq_canon', S.M₀, S.D₀, S.N₀, S.M₁, S.D₁, S.N₁, S.M₂, S.D₂, S.N₂]
    rfl, hL⟩

end Merge

/-- After the body, the output's block holds the merged attention. -/
theorem out_block (c : Dev nD) (i : grid0.Coords)
  (arg2 : Memref sig .tc .vmem S2048x128 .bf16) (harg2 : arg2.IsWhole) (arg3 : Memref sig .tc .vmem S2048x128 .bf16) (harg3 : arg3.IsWhole)
  (arg4 : Memref sig .tc .vmem S2048x128 .bf16) (harg4 : arg4.IsWhole) (arg5 : Memref sig .tc .vmem S2048x128 .bf16) (harg5 : arg5.IsWhole)
  (arg6 : Memref sig .tc .vmem S2048x128 .bf16) (harg6 : arg6.IsWhole) (arg7 : Memref sig .tc .vmem S2048x128 .bf16) (harg7 : arg7.IsWhole)
  (arg8 : Memref sig .tc .vmem S2048x128 .bf16) (harg8 : arg8.IsWhole) (arg9 : Memref sig .tc .vmem S2048x128 .bf16) (harg9 : arg9.IsWhole)
  (arg10 : Memref sig .tc .vmem S2048x128 .bf16) (harg10 : arg10.IsWhole) (arg11 : Memref sig .tc .vmem S2048x128 .bf16) (harg11 : arg11.IsWhole)
  (arg12 : Memref sig .tc .vmem S2048x128 .f32) (harg12 : arg12.IsWhole) (arg13 : Memref sig .tc .vmem S2048x128 .f32) (harg13 : arg13.IsWhole)
  (arg14 : Memref sig .tc .vmem S2048x128 .f32) (harg14 : arg14.IsWhole) (arg15 : Memref sig .tc .vmem S2048x128 .f32) (harg15 : arg15.IsWhole)
  (arg16 : Memref sig .tc .vmem S2048x128 .f32) (harg16 : arg16.IsWhole) (arg17 : Memref sig .tc .vmem S2048x128 .f32) (harg17 : arg17.IsWhole)
  (arg18 : Memref sig .tc .vmem S2048x128 .f32) (harg18 : arg18.IsWhole) (arg19 : Memref sig .tc .vmem S2048x128 .f32) (harg19 : arg19.IsWhole)
  (arg20 : Memref sig .tc .vmem S2048x128 .f32) (harg20 : arg20.IsWhole) (arg21 : Memref sig .tc .vmem S2048x256 .bf16) (harg21 : arg21.IsWhole)
  (arg22 : Memref sig .tc .vmem S2048x256 .bf16) (harg22 : arg22.IsWhole) (arg23 : Memref sig .tc .vmem S2048x256 .bf16) (harg23 : arg23.IsWhole)
  (x0 x1 x2 x3 x4 x5 x6 x7 x8 : Vec Ideal S2048x128 .bf16) (y : S2048x128.Idx) :
    out0_A_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 y
      = outVal x0 x1 x2 x3 x4 x5 x6 x7 x8 y := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8)]
  refine View.canon_apply_of_pieces _ _ ?_ y (cover0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 y)
  have S : Stored (x₀ := x0) (x₁ := x1) (x₂ := x2) (x₃ := x3) (x₄ := x4) (x₅ := x5) (x₆ := x6) (x₇ := x7) (x₈ := x8) :=
    ⟨stats0_M c arg2 harg2 arg3 harg3 x0 x1, stats0_D c arg2 harg2 arg3 harg3 arg4 harg4 arg21 x0 x1 x2,
      stats0_P c arg2 harg2 arg3 harg3 arg4 harg4 arg21 x0 x1 x2,
      stats1_M c arg5 harg5 arg6 harg6 x3 x4, stats1_D c arg5 harg5 arg6 harg6 arg7 harg7 arg22 x3 x4 x5,
      stats1_P c arg5 harg5 arg6 harg6 arg7 harg7 arg22 x3 x4 x5,
      stats2_M c arg8 harg8 arg9 harg9 x6 x7, stats2_D c arg8 harg8 arg9 harg9 arg10 harg10 arg23 x6 x7 x8,
      stats2_P c arg8 harg8 arg9 harg9 arg10 harg10 arg23 x6 x7 x8⟩
  exact merged_cons S arg12 arg13 arg14 arg15 arg16 arg17 arg18 arg19 arg20 1792 inb_S2048x128_S256x128_1792_0 rfl <|
    merged_cons S arg12 arg13 arg14 arg15 arg16 arg17 arg18 arg19 arg20 1536 inb_S2048x128_S256x128_1536_0 rfl <|
    merged_cons S arg12 arg13 arg14 arg15 arg16 arg17 arg18 arg19 arg20 1280 inb_S2048x128_S256x128_1280_0 rfl <|
    merged_cons S arg12 arg13 arg14 arg15 arg16 arg17 arg18 arg19 arg20 1024 inb_S2048x128_S256x128_1024_0 rfl <|
    merged_cons S arg12 arg13 arg14 arg15 arg16 arg17 arg18 arg19 arg20 768 inb_S2048x128_S256x128_768_0 rfl <|
    merged_cons S arg12 arg13 arg14 arg15 arg16 arg17 arg18 arg19 arg20 512 inb_S2048x128_S256x128_512_0 rfl <|
    merged_cons S arg12 arg13 arg14 arg15 arg16 arg17 arg18 arg19 arg20 256 inb_S2048x128_S256x128_256_0 rfl <|
    merged_cons S arg12 arg13 arg14 arg15 arg16 arg17 arg18 arg19 arg20 0 inb_S2048x128_S256x128_0_0 rfl <|
    fun _ h => absurd h List.not_mem_nil

end Cert.Attn
-- ==== Proof.Attn.Final.lean ====
module

public import proofs.«01_k».proof.Proof.Attn.Out
public import proofs.«01_k».proof.Proof.Gen.KernelIdeal.Value
public import Idealize.ShloMosaic.Lib.Pipeline.ValueKit

@[expose] public section

set_option maxRecDepth 16384

noncomputable section

/-! # What the result array of the kernel holds -/

namespace Cert.Attn

open Idealize.ShloMosaic Idealize.ShloMosaic.ValueIdx Idealize.ShloMosaic.TcCoe Cert.KernelIdeal Cert.KernelIdeal.Gen

/-- The queries (`p = 0`), keys (`p = 1`) or values (`p = 2`) of batch `b` and slot `s` in an argument. -/
def win (A : S8192x1536.Idx → EReal) (p b s : ℕ) : Vec Ideal S2048x128 .bf16 := fun y =>
  A (ValueIdx.ix2 (⟨(2048 * b + (y 0).val) % 8192, Nat.mod_lt _ (by norm_num)⟩ : Fin 8192)
    (⟨(512 * p + 128 * s + (y 1).val) % 1536, Nat.mod_lt _ (by norm_num)⟩ : Fin 1536))

/-- The kernel's result, entry by entry, from its arguments. -/
def kernelVal (A₀ A₁ A₂ : S8192x1536.Idx → EReal) : S8192x512.Idx → EReal := fun i =>
  let b := (i 0).val / 2048
  let s := (i 1).val / 128
  outVal (win A₀ 0 b s) (win A₀ 1 b s) (win A₀ 2 b s) (win A₁ 0 b s) (win A₁ 1 b s) (win A₁ 2 b s)
    (win A₂ 0 b s) (win A₂ 1 b s) (win A₂ 2 b s)
    (ValueIdx.ix2 (⟨(i 0).val % 2048, Nat.mod_lt _ (by norm_num)⟩ : Fin 2048) (⟨(i 1).val % 128, Nat.mod_lt _ (by norm_num)⟩ : Fin 128))

/-- At the place of a block's entry. -/
theorem kernelVal_at (A₀ A₁ A₂ : S8192x1536.Idx → EReal) (i : S8192x512.Idx) (b s : ℕ) (y : S2048x128.Idx)
    (h0 : (i 0).val = b * 2048 + (y 0).val) (h1 : (i 1).val = s * 128 + (y 1).val) :
    kernelVal A₀ A₁ A₂ i = outVal (win A₀ 0 b s) (win A₀ 1 b s) (win A₀ 2 b s) (win A₁ 0 b s) (win A₁ 1 b s) (win A₁ 2 b s)
      (win A₂ 0 b s) (win A₂ 1 b s) (win A₂ 2 b s) y := by
  have hy0 : (y 0).val < 2048 := (y 0).isLt
  have hy1 : (y 1).val < 128 := (y 1).isLt
  have e0 : (i 0).val / 2048 = b := by omega
  have e1 : (i 1).val / 128 = s := by omega
  unfold kernelVal
  rw [e0, e1]
  refine congrArg (outVal (win A₀ 0 b s) (win A₀ 1 b s) (win A₀ 2 b s) (win A₁ 0 b s) (win A₁ 1 b s) (win A₁ 2 b s)
    (win A₂ 0 b s) (win A₂ 1 b s) (win A₂ 2 b s)) (Shape.idx_ext₂ ?_ ?_)
  · show (i 0).val % 2048 = (y 0).val
    omega
  · show (i 1).val % 128 = (y 1).val
    omega

variable (m : (ℓ : Loc nD τ sig) → Buf (Elt Ideal) ℓ)

/-- Point `t` stages batch `t / 4`, slot `t % 4` of each part of each argument, and writes its block of the result. -/
theorem index_at : ∀ t : Fin grid0.N, win0_0.index t = ![t.val / 4, t.val % 4] ∧ win0_1.index t = ![t.val / 4, 4 + t.val % 4]
    ∧ win0_2.index t = ![t.val / 4, 8 + t.val % 4] ∧ win0_3.index t = ![t.val / 4, t.val % 4] ∧ win0_4.index t = ![t.val / 4, 4 + t.val % 4]
    ∧ win0_5.index t = ![t.val / 4, 8 + t.val % 4] ∧ win0_6.index t = ![t.val / 4, t.val % 4] ∧ win0_7.index t = ![t.val / 4, 4 + t.val % 4]
    ∧ win0_8.index t = ![t.val / 4, 8 + t.val % 4] ∧ win0_9.index t = ![t.val / 4, t.val % 4] := by decide +kernel

theorem iblk_at (c : Dev nD) (t : Fin cfg0.N) : (iblk m c 0 t = win (m ((c : Thread nD τ).loc main_arg0)) 0 (t.val / 4) (t.val % 4)
    ∧ iblk m c 1 t = win (m ((c : Thread nD τ).loc main_arg0)) 1 (t.val / 4) (t.val % 4)
    ∧ iblk m c 2 t = win (m ((c : Thread nD τ).loc main_arg0)) 2 (t.val / 4) (t.val % 4))
    ∧ (iblk m c 3 t = win (m ((c : Thread nD τ).loc main_arg1)) 0 (t.val / 4) (t.val % 4)
    ∧ iblk m c 4 t = win (m ((c : Thread nD τ).loc main_arg1)) 1 (t.val / 4) (t.val % 4)
    ∧ iblk m c 5 t = win (m ((c : Thread nD τ).loc main_arg1)) 2 (t.val / 4) (t.val % 4))
    ∧ (iblk m c 6 t = win (m ((c : Thread nD τ).loc main_arg2)) 0 (t.val / 4) (t.val % 4)
    ∧ iblk m c 7 t = win (m ((c : Thread nD τ).loc main_arg2)) 1 (t.val / 4) (t.val % 4)
    ∧ iblk m c 8 t = win (m ((c : Thread nD τ).loc main_arg2)) 2 (t.val / 4) (t.val % 4)) := by
  obtain ⟨e0, e1, e2, e3, e4, e5, e6, e7, e8, e9⟩ := index_at t
  have ht : t.val < 16 := t.isLt.trans_eq N_0
  refine ⟨⟨?_, ?_, ?_⟩, ⟨?_, ?_, ?_⟩, ?_, ?_, ?_⟩ <;> (funext y; unfold win; blk_ext [iblk, V, e0, e1, e2, e3, e4, e5, e6, e7, e8])

/-- The result array after the run. -/
theorem final_eq (c : Dev nD) : (dats m 0 c).arrAt 9 cfg0.N = kernelVal (m ((c : Thread nD τ).loc main_arg0))
    (m ((c : Thread nD τ).loc main_arg1)) (m ((c : Thread nD τ).loc main_arg2)) := by
  refine (dats m 0 c).arrAt_eq_of_covers 9 _ (by decide +kernel) fun t hf y => ?_
  obtain ⟨e0, e1, e2, e3, e4, e5, e6, e7, e8, e9⟩ := index_at t
  have ht : t.val < 16 := t.isLt.trans_eq N_0
  obtain ⟨⟨h0, h1, h2⟩, ⟨h3, h4, h5⟩, h6, h7, h8⟩ := iblk_at m c t
  blk_simp
  rw [after0_9]
  unfold outsAt0
  refine (out_block _ _ _ _ _ _ _ _ _ _ _ _ _ _ _ _ _ _ _ _ _ _ _ _ _ _ _ _ _ _ _ _ _ _ _ _ _ _ _ _ _ _ _ _ _ _ _ _ _ _ _ _ _ _ _ _).trans ?_
  rw [h0, h1, h2, h3, h4, h5, h6, h7, h8]
  refine (kernelVal_at _ _ _ _ _ _ _ ?_ ?_).symm
  · blk_simp [e9]
  · blk_simp [e9]

end Cert.Attn
-- ==== Proof.Attn.RefTokens.lean ====
module

public import proofs.«01_k».proof.Proof.Attn.Final
public import proofs.«01_k».proof.Proof.Gen.ReferenceIdeal.Read
public import Idealize.ShloMosaic.Lib.ValueIdxRank6

@[expose] public section

set_option maxRecDepth 16384

noncomputable section

/-! # The reference's queries, keys and values in token order

The reference cuts an argument's rows into batches, tiles, classes and positions, and its columns into queries, keys
and values by slot, swaps classes and positions, and joins the rows again: token `t` is then the row `tokRow d per t`
of the argument. -/

namespace Cert.Attn

open Idealize.ShloMosaic Idealize.ShloMosaic.ValueIdx Cert.ReferenceIdeal Cert.ReferenceIdeal.Gen Cert.ReferenceIdeal.Read

/-- Rank 7: the row-major position as one sum of products. -/
theorem rowMajor_val_seven {e : Fin 7 → Nat} (i : (⟨7, e⟩ : Shape).Idx) :
    ((⟨7, e⟩ : Shape).rowMajor i).val
      = ((((((i 0).val * e 1 + (i 1).val) * e 2 + (i 2).val) * e 3 + (i 3).val) * e 4 + (i 4).val) * e 5 + (i 5).val) * e 6
        + (i 6).val := by
  show (Shape.rowMajorPi e i).val = _
  rw [Shape.rowMajorPi_succ_val, Shape.rowMajorPi_succ_val, Shape.rowMajorPi_succ_val, Shape.rowMajorPi_succ_val,
    Shape.rowMajorPi_succ_val, Shape.rowMajorPi_succ_val, Shape.rowMajorPi_succ_val]
  simp [Shape.rowMajorPi_zero, Fin.prod_univ_succ, Nat.add_mul, Nat.mul_assoc, Nat.add_assoc]

/-- A rank-7 index from its coordinates. -/
abbrev ix7 {n0 n1 n2 n3 n4 n5 n6 : Nat} (a : Fin n0) (b : Fin n1) (c : Fin n2) (d : Fin n3) (e : Fin n4) (f : Fin n5)
    (g : Fin n6) : (⟨7, ![n0, n1, n2, n3, n4, n5, n6]⟩ : Shape).Idx :=
  fun h => match h with | ⟨0, _⟩ => a | ⟨1, _⟩ => b | ⟨2, _⟩ => c | ⟨3, _⟩ => d | ⟨4, _⟩ => e | ⟨5, _⟩ => f | ⟨6, _⟩ => g

/-- The dilations, each with its count of positions to a tile. -/
def Dil (d per : ℕ) : Prop := (d = 1 ∧ per = 1024) ∨ (d = 4 ∧ per = 256) ∨ (d = 16 ∧ per = 64)

/-- The row of a token, by tile, class and position. -/
theorem tokRow_val {d per : ℕ} (h : Dil d per) (t : Fin 2048) :
    (tokRow d per t).val = t.val / 1024 * 1024 + t.val % d * per + t.val % 1024 / d := by
  have ht := t.isLt
  show (t.val / d / per * 1024 + t.val % d * per + t.val / d % per) % 2048 = _
  rw [← Nat.mod_mul_right_div_self t.val d per, Nat.div_div_eq_div_mul, show d * per = 1024 by
    rcases h with ⟨rfl, rfl⟩ | ⟨rfl, rfl⟩ | ⟨rfl, rfl⟩ <;> rfl]
  refine Nat.mod_eq_of_lt ?_
  rcases h with ⟨rfl, rfl⟩ | ⟨rfl, rfl⟩ | ⟨rfl, rfl⟩ <;> omega

/-- An argument cut up, its classes and positions swapped, and joined again, at a token. -/
theorem by_token {d per : ℕ} (h : Dil d per) (A : S8192x1536.Idx → EReal)
    (h1 : S8192x1536.ShapeCasts ⟨7, ![4, 2, d, per, 3, 4, 128]⟩)
    (h2 : (⟨7, ![4, 2, d, per, 3, 4, 128]⟩ : Shape).Transposes [4, 0, 1, 3, 2, 5, 6] ⟨7, ![3, 4, 2, per, d, 4, 128]⟩)
    (h3 : (⟨7, ![3, 4, 2, per, d, 4, 128]⟩ : Shape).ShapeCasts S3x4x2048x4x128)
    (p : Fin 3) (b : Fin 4) (t : Fin 2048) (s : Fin 4) (x : Fin 128) :
    shapeCast S3x4x2048x4x128 (transpose ⟨7, ![3, 4, 2, per, d, 4, 128]⟩ [4, 0, 1, 3, 2, 5, 6]
        (shapeCast ⟨7, ![4, 2, d, per, 3, 4, 128]⟩ A h1) h2) h3 (ValueIdx.ix5 p b t s x)
      = win A p b s (ValueIdx.ix2 (tokRow d per t) x) := by
  have hp := p.isLt
  have hb := b.isLt
  have ht := t.isLt
  have hs := s.isLt
  have hx := x.isLt
  have a1 : t.val % 1024 / d < per := by rcases h with ⟨rfl, rfl⟩ | ⟨rfl, rfl⟩ | ⟨rfl, rfl⟩ <;> omega
  have a2 : t.val % d < d := by rcases h with ⟨rfl, rfl⟩ | ⟨rfl, rfl⟩ | ⟨rfl, rfl⟩ <;> omega
  have a3 : t.val / 1024 < 2 := by omega
  refine (shapeCast_apply _ h3 (ValueIdx.ix5 p b t s x) (ix7 p b ⟨t.val / 1024, a3⟩ ⟨t.val % 1024 / d, a1⟩ ⟨t.val % d, a2⟩ s x) ?_).trans ?_
  · rw [rowMajor_val_seven, Shape.rowMajor_val_five]
    show (((((p.val * 4 + b.val) * 2 + t.val / 1024) * per + t.val % 1024 / d) * d + t.val % d) * 4 + s.val) * 128 + x.val
      = (((p.val * 4 + b.val) * 2048 + t.val) * 4 + s.val) * 128 + x.val
    clear h1 h2 h3
    rcases h with ⟨rfl, rfl⟩ | ⟨rfl, rfl⟩ | ⟨rfl, rfl⟩ <;> omega
  refine (transpose_apply [4, 0, 1, 3, 2, 5, 6] _ h2 _
    (ix7 b ⟨t.val / 1024, a3⟩ ⟨t.val % d, a2⟩ ⟨t.val % 1024 / d, a1⟩ p s x) (fun k => match k with
    | ⟨0, _⟩ => rfl
    | ⟨1, _⟩ => rfl
    | ⟨2, _⟩ => rfl
    | ⟨3, _⟩ => rfl
    | ⟨4, _⟩ => rfl
    | ⟨5, _⟩ => rfl
    | ⟨6, _⟩ => rfl)).trans ?_
  refine shapeCast_apply A h1 _ _ ?_
  have e0 : (2048 * b.val + (tokRow d per t).val) % 8192 = 2048 * b.val + (t.val / 1024 * 1024 + t.val % d * per + t.val % 1024 / d) := by
    rw [tokRow_val h, Nat.mod_eq_of_lt]
    have := (tokRow d per t).isLt
    rw [tokRow_val h] at this
    omega
  have e1 : (512 * p.val + 128 * s.val + x.val) % 1536 = 512 * p.val + 128 * s.val + x.val := Nat.mod_eq_of_lt (by omega)
  rw [rowMajor_val_seven, Shape.rowMajor_val_two]
  show (2048 * b.val + (tokRow d per t).val) % 8192 * 1536
      + (512 * p.val + 128 * s.val + x.val) % 1536
    = (((((b.val * 2 + t.val / 1024) * d + t.val % d) * per + t.val % 1024 / d) * 3 + p.val) * 4 + s.val) * 128 + x.val
  rw [e0, e1]
  clear h1 h2 h3 e0 e1
  rcases h with ⟨rfl, rfl⟩ | ⟨rfl, rfl⟩ | ⟨rfl, rfl⟩ <;> omega

/-- The dilations of the three groups. -/
def dil : Fin 3 → ℕ := ![1, 4, 16]

/-- Their positions to a tile. -/
def pers : Fin 3 → ℕ := ![1024, 256, 64]

variable (x0 x1 x2 : S8192x1536.Idx → EReal)

/-- The argument of a group. -/
def argOf : Fin 3 → S8192x1536.Idx → EReal := ![x0, x1, x2]

/-- The reference's stack of queries, keys and values (`p`) of the groups (`g`). -/
theorem stack_apply (p g : Fin 3) (b : Fin 4) (t : Fin 2048) (s : Fin 4) (x : Fin 128) :
    val_main_v15 (F := Ideal) x0 x1 x2 (ValueIdx.ix6 p g b t s x)
      = win (argOf x0 x1 x2 g) p b s (ValueIdx.ix2 (tokRow (dil g) (pers g) t) x) := by
  have piece : ∀ (k : Fin 3) (v : S3x1x4x2048x4x128.Idx → EReal),
      (([⟨S3x1x4x2048x4x128, val_main_v12 (F := Ideal) x0⟩, ⟨S3x1x4x2048x4x128, val_main_v13 (F := Ideal) x1⟩,
          ⟨S3x1x4x2048x4x128, val_main_v14 (F := Ideal) x2⟩] : List ((s : Shape) × (s.Idx → EReal)))[k.val]'(k.isLt))
        = ⟨S3x1x4x2048x4x128, v⟩ →
      val_main_v15 (F := Ideal) x0 x1 x2 (ValueIdx.ix6 p k b t s x) = v (ValueIdx.ix6 p (0 : Fin 1) b t s x) := fun k v hv =>
    concatenate_apply_piece (1 : Fin 6)
      [⟨S3x1x4x2048x4x128, val_main_v12 (F := Ideal) x0⟩, ⟨S3x1x4x2048x4x128, val_main_v13 (F := Ideal) x1⟩,
      ⟨S3x1x4x2048x4x128, val_main_v14 (F := Ideal) x2⟩] _ (ValueIdx.ix6 p k b t s x) k.val k.isLt S3x1x4x2048x4x128 v hv rfl k.val
      (by fin_cases k <;> rfl) (ValueIdx.ix6 p (0 : Fin 1) b t s x)
      (fun c hc => match c with
        | ⟨0, _⟩ => rfl
        | ⟨1, _⟩ => absurd rfl hc
        | ⟨2, _⟩ => rfl
        | ⟨3, _⟩ => rfl
        | ⟨4, _⟩ => rfl
        | ⟨5, _⟩ => rfl) rfl
  match g with
  | ⟨0, _⟩ =>
    refine (piece 0 _ rfl).trans ((val_main_v12_apply (F := Ideal) x0 _).trans ?_)
    refine (congrArg (val_main_v3 (F := Ideal) x0) (a₂ := ValueIdx.ix5 p b t s x) (ValueIdx.eq_ix5 _)).trans ?_
    exact by_token (Or.inl ⟨rfl, rfl⟩) (val_main_v0 (F := Ideal) x0) _ _ _ p b t s x
  | ⟨1, _⟩ =>
    refine (piece 1 _ rfl).trans ((val_main_v13_apply (F := Ideal) x1 _).trans ?_)
    refine (congrArg (val_main_v7 (F := Ideal) x1) (a₂ := ValueIdx.ix5 p b t s x) (ValueIdx.eq_ix5 _)).trans ?_
    exact by_token (Or.inr (Or.inl ⟨rfl, rfl⟩)) (val_main_v4 (F := Ideal) x1) _ _ _ p b t s x
  | ⟨2, _⟩ =>
    refine (piece 2 _ rfl).trans ((val_main_v14_apply (F := Ideal) x2 _).trans ?_)
    refine (congrArg (val_main_v11 (F := Ideal) x2) (a₂ := ValueIdx.ix5 p b t s x) (ValueIdx.eq_ix5 _)).trans ?_
    exact by_token (Or.inr (Or.inr ⟨rfl, rfl⟩)) (val_main_v8 (F := Ideal) x2) _ _ _ p b t s x

/-- The queries (`p = 0`), keys and values of a group's batch and slot, row by row. -/
def rowsAt (p g : Fin 3) (b s : Fin 4) : Fin 2048 → Fin 128 → EReal := rowsOf (win (argOf x0 x1 x2 g) p b s)

theorem queries_apply (g : Fin 3) (b : Fin 4) (t : Fin 2048) (s : Fin 4) (x : Fin 128) :
    val_main_v17 (F := Ideal) x0 x1 x2 (ValueIdx.ix5 g b t s x) = rowsAt x0 x1 x2 0 g b s (tokRow (dil g) (pers g) t) x := by
  refine (shapeCast_apply _ _ _ (ValueIdx.ix6 (0 : Fin 1) g b t s x) ?_).trans ((val_main_v16_apply (F := Ideal) x0 x1 x2 _).trans ?_)
  · rw [Shape.rowMajor_val_six, Shape.rowMajor_val_five]
    show ((((0 * 3 + g.val) * 4 + b.val) * 2048 + t.val) * 4 + s.val) * 128 + x.val = _
    rw [Nat.zero_mul, Nat.zero_add]; rfl
  exact (congrArg (val_main_v15 (F := Ideal) x0 x1 x2) (a₂ := ValueIdx.ix6 0 g b t s x) (ValueIdx.eq_ix6 _)).trans (stack_apply x0 x1 x2 0 g b t s x)

theorem keys_apply (g : Fin 3) (b : Fin 4) (t : Fin 2048) (s : Fin 4) (x : Fin 128) :
    val_main_v19 (F := Ideal) x0 x1 x2 (ValueIdx.ix5 g b t s x) = rowsAt x0 x1 x2 1 g b s (tokRow (dil g) (pers g) t) x := by
  refine (shapeCast_apply _ _ _ (ValueIdx.ix6 (0 : Fin 1) g b t s x) ?_).trans ((val_main_v18_apply (F := Ideal) x0 x1 x2 _).trans ?_)
  · rw [Shape.rowMajor_val_six, Shape.rowMajor_val_five]
    show ((((0 * 3 + g.val) * 4 + b.val) * 2048 + t.val) * 4 + s.val) * 128 + x.val = _
    rw [Nat.zero_mul, Nat.zero_add]; rfl
  exact (congrArg (val_main_v15 (F := Ideal) x0 x1 x2) (a₂ := ValueIdx.ix6 1 g b t s x) (ValueIdx.eq_ix6 _)).trans (stack_apply x0 x1 x2 1 g b t s x)

theorem values_apply (g : Fin 3) (b : Fin 4) (t : Fin 2048) (s : Fin 4) (x : Fin 128) :
    val_main_v21 (F := Ideal) x0 x1 x2 (ValueIdx.ix5 g b t s x) = rowsAt x0 x1 x2 2 g b s (tokRow (dil g) (pers g) t) x := by
  refine (shapeCast_apply _ _ _ (ValueIdx.ix6 (0 : Fin 1) g b t s x) ?_).trans ((val_main_v20_apply (F := Ideal) x0 x1 x2 _).trans ?_)
  · rw [Shape.rowMajor_val_six, Shape.rowMajor_val_five]
    show ((((0 * 3 + g.val) * 4 + b.val) * 2048 + t.val) * 4 + s.val) * 128 + x.val = _
    rw [Nat.zero_mul, Nat.zero_add]; rfl
  exact (congrArg (val_main_v15 (F := Ideal) x0 x1 x2) (a₂ := ValueIdx.ix6 2 g b t s x) (ValueIdx.eq_ix6 _)).trans (stack_apply x0 x1 x2 2 g b t s x)

end Cert.Attn

end
-- ==== Proof.Attn.RefMask.lean ====
module

public import proofs.«01_k».proof.Proof.Attn.RefTokens

@[expose] public section

set_option maxRecDepth 16384

noncomputable section

/-! # The reference's masks -/

namespace Cert.Attn

open Idealize.ShloMosaic Idealize.ShloMosaic.ValueIdx Cert.ReferenceIdeal Cert.ReferenceIdeal.Gen Cert.ReferenceIdeal.Read

/-- The reference's test of a query and a key: the distance back is not negative, at most the window, and a multiple
    of the dilation. -/
def seesWord (w d q k : BitVec 32) : BitVec 1 :=
  IntOp.andi (IntOp.andi (IntOp.cmpi .sge (IntOp.subi q k) 0#32) (IntOp.cmpi .sle (IntOp.subi q k) w))
    (IntOp.cmpi .eq (IntOp.remsi .host (IntOp.subi q k) d) 0#32)

/-- It is the test of `Sees`. -/
theorem seesWord_eq_one (d : ℕ) (hd : d = 1 ∨ d = 4 ∨ d = 16) (q k : Fin 2048) :
    seesWord (BitVec.ofNat 32 (128 * d)) (BitVec.ofNat 32 d) (BitVec.ofNat 32 q.val) (BitVec.ofNat 32 k.val) = 1#1
      ↔ Sees d q k := by
  have hq := q.isLt
  have hk := k.isLt
  unfold seesWord Sees
  rw [IntOp.andi_eq_one, IntOp.andi_eq_one]
  by_cases h : k.val ≤ q.val
  · have e : IntOp.subi (BitVec.ofNat 32 q.val) (BitVec.ofNat 32 k.val) = BitVec.ofNat 32 (q.val - k.val) := by
      apply BitVec.eq_of_toNat_eq
      show (BitVec.ofNat 32 q.val - BitVec.ofNat 32 k.val).toNat = _
      rw [BitVec.toNat_sub, BitVec.toNat_ofNat, BitVec.toNat_ofNat, BitVec.toNat_ofNat]
      omega
    have hr : IntOp.cmpi .eq (IntOp.remsi .host (BitVec.ofNat 32 (q.val - k.val)) (BitVec.ofNat 32 d)) 0#32 = 1#1
        ↔ (q.val - k.val) % d = 0 := by
      have hn : (BitVec.ofNat 32 (q.val - k.val)).toNat = q.val - k.val := by rw [BitVec.toNat_ofNat]; omega
      rw [IntOp.cmpi_eq, IntOp.remsi_eq_zero_iff .host (by rw [hn]; omega) d (by omega) (by omega), hn, Nat.dvd_iff_mod_eq_zero]
    rw [e, hr, show (0#32 : BitVec 32) = BitVec.ofNat 32 0 from rfl, WordCmp.cmpi_sge_ofNat_eq_one_iff (by omega) (by omega),
      WordCmp.cmpi_sle_ofNat_eq_one_iff (by omega) (by omega)]
    omega
  · have e : ¬IntOp.cmpi .sge (IntOp.subi (BitVec.ofNat 32 q.val) (BitVec.ofNat 32 k.val)) 0#32 = 1#1 := by
      rw [IntOp.cmpi_sge]
      have h1 : (IntOp.subi (BitVec.ofNat 32 q.val) (BitVec.ofNat 32 k.val)).toNat = q.val + 4294967296 - k.val := by
        show (BitVec.ofNat 32 q.val - BitVec.ofNat 32 k.val).toNat = _
        rw [BitVec.toNat_sub, BitVec.toNat_ofNat, BitVec.toNat_ofNat]
        omega
      generalize IntOp.subi (BitVec.ofNat 32 q.val) (BitVec.ofNat 32 k.val) = z at h1 ⊢
      have h2 : z.toInt < 0 := by
        rw [BitVec.toInt_eq_toNat_cond, h1, if_neg (by omega)]
        omega
      exact not_le.mpr h2
    exact ⟨fun h' => absurd h'.1.1 e, fun h' => absurd h'.1 h⟩

/-- The masks of the three groups. -/
theorem mask_apply (g : Fin 3) (q k : Fin 2048) :
    val_main_v74 (F := Ideal) (ValueIdx.ix3 g q k)
      = seesWord (BitVec.ofNat 32 (128 * dil g)) (BitVec.ofNat 32 (dil g)) (BitVec.ofNat 32 q.val) (BitVec.ofNat 32 k.val) := by
  have piece : ∀ (n : Fin 3) (v : S1x2048x2048.Idx → BitVec 1),
      (([⟨S1x2048x2048, val_main_v71 (F := Ideal)⟩, ⟨S1x2048x2048, val_main_v72 (F := Ideal)⟩,
          ⟨S1x2048x2048, val_main_v73 (F := Ideal)⟩] : List ((s : Shape) × (s.Idx → BitVec 1)))[n.val]'(n.isLt))
        = ⟨S1x2048x2048, v⟩ →
      val_main_v74 (F := Ideal) (ValueIdx.ix3 n q k) = v (ValueIdx.ix3 (0 : Fin 1) q k) := fun n v hv =>
    concatenate_apply_piece (0 : Fin 3)
      [⟨S1x2048x2048, val_main_v71 (F := Ideal)⟩, ⟨S1x2048x2048, val_main_v72 (F := Ideal)⟩,
      ⟨S1x2048x2048, val_main_v73 (F := Ideal)⟩] _ (ValueIdx.ix3 n q k) n.val n.isLt S1x2048x2048 v hv rfl n.val
      (by fin_cases n <;> rfl) (ValueIdx.ix3 (0 : Fin 1) q k)
      (fun c hc => match c with
        | ⟨0, _⟩ => absurd rfl hc
        | ⟨1, _⟩ => rfl
        | ⟨2, _⟩ => rfl) rfl
  match g with
  | ⟨0, _⟩ =>
    refine (piece 0 _ rfl).trans ((val_main_v71_apply (F := Ideal) _).trans ?_)
    simp only [val_main_v38_apply, val_main_v33_apply, val_main_v30_apply, val_main_v32_apply, val_main_v37_apply,
      val_main_v35_apply, val_main_v28_apply, val_main_v26_apply, val_main_v27_apply, val_main_v24_apply,
      val_main_v25_apply, val_main_v23_apply, val_main_v29_apply, val_main_v31_apply, val_main_v34_apply,
      val_main_v36_apply, val_main_c_apply, val_main_c_0_apply, val_main_c_1_apply, val_main_c_2_apply]
    rfl
  | ⟨1, _⟩ =>
    refine (piece 1 _ rfl).trans ((val_main_v72_apply (F := Ideal) _).trans ?_)
    simp only [val_main_v54_apply, val_main_v49_apply, val_main_v46_apply, val_main_v48_apply, val_main_v53_apply,
      val_main_v51_apply, val_main_v44_apply, val_main_v42_apply, val_main_v43_apply, val_main_v40_apply,
      val_main_v41_apply, val_main_v39_apply, val_main_v45_apply, val_main_v47_apply, val_main_v50_apply,
      val_main_v52_apply, val_main_c_3_apply, val_main_c_4_apply, val_main_c_5_apply, val_main_c_6_apply]
    rfl
  | ⟨2, _⟩ =>
    refine (piece 2 _ rfl).trans ((val_main_v73_apply (F := Ideal) _).trans ?_)
    simp only [val_main_v70_apply, val_main_v65_apply, val_main_v62_apply, val_main_v64_apply, val_main_v69_apply,
      val_main_v67_apply, val_main_v60_apply, val_main_v58_apply, val_main_v59_apply, val_main_v56_apply,
      val_main_v57_apply, val_main_v55_apply, val_main_v61_apply, val_main_v63_apply, val_main_v66_apply,
      val_main_v68_apply, val_main_c_7_apply, val_main_c_8_apply, val_main_c_9_apply, val_main_c_10_apply]
    rfl

end Cert.Attn

end
-- ==== Proof.Attn.RefValue.lean ====
module

public import proofs.«01_k».proof.Proof.Attn.RefMask
public import Idealize.ShloMosaic.Lib.KernelVsHost

@[expose] public section

set_option maxRecDepth 16384

noncomputable section

/-! # What the reference computes -/

namespace Cert.Attn

open Idealize.ShloMosaic Cert.ReferenceIdeal Cert.ReferenceIdeal.Gen Cert.ReferenceIdeal.Read

variable (x0 x1 x2 : S8192x1536.Idx → EReal) (b s : Fin 4) (t : Fin 2048)

/-- The scores of token `t` in a batch and slot, by group. -/
def scores (g : Fin 3) (u : Fin 2048) : EReal :=
  score (dil g) (pers g) (rowsAt x0 x1 x2 0 g b s) (rowsAt x0 x1 x2 1 g b s) t u

/-- The values of a lane, by group. -/
def vals (x : Fin 128) (g : Fin 3) (u : Fin 2048) : EReal := rowsAt x0 x1 x2 2 g b s (tokRow (dil g) (pers g) u) x

theorem neg_inf : (FloatOps.ofBits (F := Ideal) .f32 0xFF800000#32) = (⊥ : EReal) := by
  show Ideal.ofBits .f32 0xFF800000#32 = ⊥
  simp [Ideal.ofBits, Ideal.ieee]

theorem zero_word : (FloatOps.ofBits (F := Ideal) .f32 0x00000000#32) = (0 : EReal) := by
  show Ideal.ofBits .f32 0x00000000#32 = 0
  simp [Ideal.ofBits, Ideal.ieee]

theorem scores_apply (g : Fin 3) (u : Fin 2048) :
    val_main_v76 (F := Ideal) x0 x1 x2 (ValueIdx.ix5 g b s t u) = scores x0 x1 x2 b s t g u := by
  have hm : val_main_call0_v1 (F := Ideal) (ValueIdx.ix5 g b s t u) = seesWord (BitVec.ofNat 32 (128 * dil g)) (BitVec.ofNat 32 (dil g)) (BitVec.ofNat 32 t.val) (BitVec.ofNat 32 u.val) :=
    (val_main_call0_v1_apply (F := Ideal) _).trans ((val_main_v75_apply (F := Ideal) _).trans
      ((congrArg (val_main_v74 (F := Ideal)) (a₂ := ValueIdx.ix3 g t u) (ValueIdx.eq_ix3 _)).trans (mask_apply g t u)))
  have hd : val_main_v22 (F := Ideal) x0 x1 x2 (ValueIdx.ix5 g b s t u)
      = ∑ x, rowsAt x0 x1 x2 0 g b s (tokRow (dil g) (pers g) t) x * rowsAt x0 x1 x2 1 g b s (tokRow (dil g) (pers g) u) x := by
    refine (val_main_v22_apply x0 x1 x2 _).trans (Finset.sum_congr rfl fun x _ => congrArg₂ (· * ·) ?_ ?_)
    · exact (congrArg (val_main_v17 (F := Ideal) x0 x1 x2) (a₂ := ValueIdx.ix5 g b t s x) (ValueIdx.eq_ix5 _)).trans
        (queries_apply x0 x1 x2 g b t s x)
    · exact (congrArg (val_main_v19 (F := Ideal) x0 x1 x2) (a₂ := ValueIdx.ix5 g b u s x) (ValueIdx.eq_ix5 _)).trans
        (keys_apply x0 x1 x2 g b u s x)
  have hb : val_main_call0_v2 (F := Ideal) (ValueIdx.ix5 g b s t u) = (⊥ : EReal) :=
    (val_main_call0_v2_apply (F := Ideal) _).trans neg_inf
  rw [val_main_v76_apply, hm, hd, hb]
  exact if_congr (seesWord_eq_one (dil g) (by fin_cases g <;> simp [dil]) t u) rfl rfl

/-- A maximum from `⊥` is the greatest of the scores. -/
theorem fold_top {n : ℕ} (f : Fin n → EReal) :
    (Finset.univ : Finset (Fin n)).fold max (FloatOps.ofBits (F := Ideal) .f32 0xFF800000#32) f = top f := by
  rw [neg_inf]
  rfl

theorem top_apply (g : Fin 3) :
    val_main_v77 (F := Ideal) x0 x1 x2 (ValueIdx.ix4 g b s t) = top (scores x0 x1 x2 b s t g) := by
  have h' : Shape.Reduces S3x4x4x2048x2048 [4] S3x4x4x2048 := by decide
  refine (congrFun (hostReduce_maximumf_eq_multiReduction _ _ _ _ h' (by decide) (by decide)) _).trans
    ((Ideal.multiReduction_maximumf_single _ _ h' _ _ _).trans ?_)
  refine (fold_top _).trans (congrArg top (funext fun u => ?_))
  exact (congrArg (val_main_v76 (F := Ideal) x0 x1 x2) (a₂ := ValueIdx.ix5 g b s t u) (ValueIdx.eq_ix5 _)).trans
    (scores_apply x0 x1 x2 b s t g u)

theorem top_col (g : Fin 3) :
    val_main_v78 (F := Ideal) x0 x1 x2 (ValueIdx.ix5 g b s t (0 : Fin 1)) = top (scores x0 x1 x2 b s t g) :=
  (val_main_v78_apply (F := Ideal) x0 x1 x2 _).trans
    ((congrArg (val_main_v77 (F := Ideal) x0 x1 x2) (a₂ := ValueIdx.ix4 g b s t) (ValueIdx.eq_ix4 _)).trans (top_apply x0 x1 x2 b s t g))

theorem exp_apply (g : Fin 3) (u : Fin 2048) :
    val_main_v81 (F := Ideal) x0 x1 x2 (ValueIdx.ix5 g b s t u)
      = Ideal.exp (scores x0 x1 x2 b s t g u - top (scores x0 x1 x2 b s t g)) := by
  have h : val_main_v79 (F := Ideal) x0 x1 x2 (ValueIdx.ix5 g b s t u) = top (scores x0 x1 x2 b s t g) :=
    (val_main_v79_apply (F := Ideal) x0 x1 x2 _).trans
      ((congrArg (val_main_v78 (F := Ideal) x0 x1 x2) (a₂ := ValueIdx.ix5 g b s t (0 : Fin 1)) (ValueIdx.eq_ix5 _)).trans (top_col x0 x1 x2 b s t g))
  rw [val_main_v81_apply, val_main_v80_apply, h, scores_apply]
  rfl

theorem den_col (g : Fin 3) :
    val_main_v83 (F := Ideal) x0 x1 x2 (ValueIdx.ix5 g b s t (0 : Fin 1))
      = ∑ u, Ideal.exp (scores x0 x1 x2 b s t g u - top (scores x0 x1 x2 b s t g)) := by
  refine (val_main_v83_apply (F := Ideal) x0 x1 x2 _).trans
    ((congrArg (val_main_v82 (F := Ideal) x0 x1 x2) (a₂ := ValueIdx.ix4 g b s t) (ValueIdx.eq_ix4 _)).trans
    ((val_main_v82_apply x0 x1 x2 _).trans ?_))
  rw [val_main_cst_12_apply, zero_word, zero_add]
  exact Finset.sum_congr rfl fun u _ =>
    (congrArg (val_main_v81 (F := Ideal) x0 x1 x2) (a₂ := ValueIdx.ix5 g b s t u) (ValueIdx.eq_ix5 _)).trans (exp_apply x0 x1 x2 b s t g u)

theorem part_apply (g : Fin 3) (x : Fin 128) :
    val_main_v87 (F := Ideal) x0 x1 x2 (ValueIdx.ix5 g b t s x)
      = ∑ u, vals x0 x1 x2 b s x g u * Ideal.div (Ideal.exp (scores x0 x1 x2 b s t g u - top (scores x0 x1 x2 b s t g)))
          (∑ u, Ideal.exp (scores x0 x1 x2 b s t g u - top (scores x0 x1 x2 b s t g))) := by
  refine (val_main_v87_apply (F := Ideal) x0 x1 x2 _).trans
    ((congrArg (val_main_v86 (F := Ideal) x0 x1 x2) (a₂ := ValueIdx.ix5 g b s x t) (ValueIdx.eq_ix5 _)).trans
    ((val_main_v86_apply x0 x1 x2 _).trans (Finset.sum_congr rfl fun u _ => congrArg₂ (· * ·) ?_ ?_)))
  · exact (congrArg (val_main_v21 (F := Ideal) x0 x1 x2) (a₂ := ValueIdx.ix5 g b u s x) (ValueIdx.eq_ix5 _)).trans
      (values_apply x0 x1 x2 g b u s x)
  · refine (congrArg (val_main_v85 (F := Ideal) x0 x1 x2) (a₂ := ValueIdx.ix5 g b s t u) (ValueIdx.eq_ix5 _)).trans ?_
    have h : val_main_v84 (F := Ideal) x0 x1 x2 (ValueIdx.ix5 g b s t u)
        = ∑ u, Ideal.exp (scores x0 x1 x2 b s t g u - top (scores x0 x1 x2 b s t g)) :=
      (val_main_v84_apply (F := Ideal) x0 x1 x2 _).trans
        ((congrArg (val_main_v83 (F := Ideal) x0 x1 x2) (a₂ := ValueIdx.ix5 g b s t (0 : Fin 1)) (ValueIdx.eq_ix5 _)).trans (den_col x0 x1 x2 b s t g))
    rw [val_main_v85_apply, h, exp_apply]
    rfl

theorem lse_apply (g : Fin 3) :
    val_main_v91 (F := Ideal) x0 x1 x2 (ValueIdx.ix4 g b t s) = lse (scores x0 x1 x2 b s t g) := by
  refine (val_main_v91_apply (F := Ideal) x0 x1 x2 _).trans
    ((congrArg (val_main_v90 (F := Ideal) x0 x1 x2) (a₂ := ValueIdx.ix4 g b s t) (ValueIdx.eq_ix4 _)).trans
    ((shapeCast_apply _ _ _ (ValueIdx.ix5 g b s t (0 : Fin 1)) ?_).trans ?_))
  · rw [Shape.rowMajor_val_five, Shape.rowMajor_val_four]
    show (((g.val * 4 + b.val) * 4 + s.val) * 2048 + t.val) * 1 + 0 = ((g.val * 4 + b.val) * 4 + s.val) * 2048 + t.val
    omega
  · rw [val_main_v89_apply, val_main_v88_apply, top_col, den_col]
    rfl

theorem reduces_groups : Shape.Reduces S3x4x2048x4 [0] S4x2048x4 := by decide

theorem groups_reduce (y : FVec Ideal S3x4x2048x4 .f32) :
    Host.reduce FloatOps.maximumf y (constant S_ .f32 0xFF800000#32) reducesTo_S3x4x2048x4_S4x2048x4_d0 h_S_
      = multiReduction .maximumf [0] S4x2048x4 y 0xFF800000#32 reduces_groups (by decide) (by decide) :=
  hostReduce_maximumf_eq_multiReduction y _ _ _ reduces_groups (by decide) (by decide)

/-- The maximum over the groups is a fold over the three of them. -/
theorem groups_fold (y : FVec Ideal S3x4x2048x4 .f32) :
    multiReduction .maximumf [0] S4x2048x4 y 0xFF800000#32 reduces_groups (by decide) (by decide) (ValueIdx.ix3 b t s)
      = (Finset.univ : Finset (Fin 3)).fold max (FloatOps.ofBits .f32 0xFF800000#32) (y ∘ reduces_groups.lift (ValueIdx.ix3 b t s)) :=
  Ideal.multiReduction_maximumf_single y _ reduces_groups _ _ _

theorem groups_top (y : FVec Ideal S3x4x2048x4 .f32) :
    (Finset.univ : Finset (Fin 3)).fold max (FloatOps.ofBits .f32 0xFF800000#32) (y ∘ reduces_groups.lift (ValueIdx.ix3 b t s))
      = top fun h : Fin 3 => y (ValueIdx.ix4 h b t s) :=
  (fold_top _).trans (congrArg top (funext fun h => congrArg y (ValueIdx.eq_ix4 _)))

theorem shift_read :
    val_main_v92 (F := Ideal) x0 x1 x2 (ValueIdx.ix3 b t s)
      = top fun h : Fin 3 => val_main_v91 (F := Ideal) x0 x1 x2 (ValueIdx.ix4 h b t s) := by
  unfold val_main_v92 val_main_cst_13
  generalize val_main_v91 (F := Ideal) x0 x1 x2 = y
  exact (congrFun (groups_reduce y) (ValueIdx.ix3 b t s)).trans ((groups_fold b s t y).trans (groups_top b s t y))

theorem floor_read : val_main_v93 (F := Ideal) (ValueIdx.ix3 b t s) = (⊥ : EReal) :=
  (val_main_v93_apply (F := Ideal) _).trans neg_inf

theorem shift_apply (g : Fin 3) :
    val_main_v96 (F := Ideal) x0 x1 x2 (ValueIdx.ix4 g b t s) = top fun h => lse (scores x0 x1 x2 b s t h) := by
  refine (val_main_v96_apply (F := Ideal) x0 x1 x2 _).trans ((val_main_v95_apply (F := Ideal) x0 x1 x2 _).trans
    ((congrArg (val_main_v94 (F := Ideal) x0 x1 x2) (a₂ := ValueIdx.ix3 b t s) (ValueIdx.eq_ix3 _)).trans ?_))
  rw [val_main_v94_apply, shift_read, floor_read]
  simp only [lse_apply]
  exact max_eq_right bot_le

theorem share_apply (g : Fin 3) :
    val_main_v98 (F := Ideal) x0 x1 x2 (ValueIdx.ix4 g b t s)
      = Ideal.exp (lse (scores x0 x1 x2 b s t g) - top fun h => lse (scores x0 x1 x2 b s t h)) := by
  rw [val_main_v98_apply, val_main_v97_apply, shift_apply, lse_apply]
  rfl

theorem weight_apply (g : Fin 3) (x : Fin 128) :
    val_main_v104 (F := Ideal) x0 x1 x2 (ValueIdx.ix5 g b t s x)
      = groupWeight (top fun h => lse (scores x0 x1 x2 b s t h)) (fun h => lse (scores x0 x1 x2 b s t h)) g := by
  have h99 : val_main_v99 (F := Ideal) x0 x1 x2 (ValueIdx.ix3 b t s)
      = ∑ h, Ideal.exp (lse (scores x0 x1 x2 b s t h) - top fun h => lse (scores x0 x1 x2 b s t h)) := by
    refine (val_main_v99_apply x0 x1 x2 _).trans ?_
    rw [val_main_cst_15_apply, zero_word, zero_add]
    exact Finset.sum_congr rfl fun h _ =>
      (congrArg (val_main_v98 (F := Ideal) x0 x1 x2) (a₂ := ValueIdx.ix4 h b t s) (ValueIdx.eq_ix4 _)).trans (share_apply x0 x1 x2 b s t h)
  have h101 : val_main_v101 (F := Ideal) x0 x1 x2 (ValueIdx.ix4 g b t s)
      = ∑ h, Ideal.exp (lse (scores x0 x1 x2 b s t h) - top fun h => lse (scores x0 x1 x2 b s t h)) :=
    (val_main_v101_apply (F := Ideal) x0 x1 x2 _).trans ((val_main_v100_apply (F := Ideal) x0 x1 x2 _).trans
      ((congrArg (val_main_v99 (F := Ideal) x0 x1 x2) (a₂ := ValueIdx.ix3 b t s) (ValueIdx.eq_ix3 _)).trans h99))
  refine (val_main_v104_apply (F := Ideal) x0 x1 x2 _).trans ((val_main_v103_apply (F := Ideal) x0 x1 x2 _).trans
    ((congrArg (val_main_v102 (F := Ideal) x0 x1 x2) (a₂ := ValueIdx.ix4 g b t s) (ValueIdx.eq_ix4 _)).trans ?_))
  rw [val_main_v102_apply, h101, share_apply]
  rfl

/-- The reference at a token, slot and lane. -/
theorem merged_apply (x : Fin 128) :
    val_main_v106 (F := Ideal) x0 x1 x2 (ValueIdx.ix4 b t s x) = mergeR (scores x0 x1 x2 b s t) (vals x0 x1 x2 b s x) := by
  refine (val_main_v106_apply x0 x1 x2 _).trans ?_
  rw [val_main_cst_16_apply, zero_word, zero_add]
  refine Finset.sum_congr rfl fun g _ =>
    (congrArg (val_main_v105 (F := Ideal) x0 x1 x2) (a₂ := ValueIdx.ix5 g b t s x) (ValueIdx.eq_ix5 _)).trans ?_
  rw [val_main_v105_apply, weight_apply, part_apply]
  rfl

/-- The reference's result. -/
theorem ref_apply (i : S8192x512.Idx) (x : Fin 128) (h0 : (i 0).val = b.val * 2048 + t.val) (h1 : (i 1).val = s.val * 128 + x.val) :
    val_main_v108 (F := Ideal) x0 x1 x2 i = mergeR (scores x0 x1 x2 b s t) (vals x0 x1 x2 b s x) := by
  refine (shapeCast_apply _ _ _ (ValueIdx.ix4 b t s x) ?_).trans (merged_apply x0 x1 x2 b s t x)
  rw [Shape.rowMajor_val_four, Shape.rowMajor_val_two]
  show ((b.val * 2048 + t.val) * 4 + s.val) * 128 + x.val = (i 0).val * 512 + (i 1).val
  rw [h0, h1]
  omega

end Cert.Attn

end
-- ==== Proof.Attn.Agree.lean ====
module

public import proofs.«01_k».proof.Proof.Attn.RefValue
public import proofs.«01_k».proof.Pre_finite_queries_keys
public import Idealize.ShloMosaic.Lib.Affine

@[expose] public section

set_option maxRecDepth 16384

noncomputable section

/-! # The kernel's result is the reference's, for finite queries and keys -/

namespace Cert.Attn

open Idealize.ShloMosaic Cert.ReferenceIdeal Cert.ReferenceIdeal.Gen Cert.ReferenceIdeal.Read

/-- The queries and keys of an argument, its first 1024 columns, are real numbers. -/
def RealQK (A : S8192x1536.Idx → EReal) : Prop := ∀ (r : Fin 8192) (c : Fin 1536), c.val < 1024 → ∃ v : ℝ, A (ValueIdx.ix2 r c) = v

variable (x0 x1 x2 : S8192x1536.Idx → EReal) (h : ∀ g, RealQK (argOf x0 x1 x2 g))
include h

/-- A query's or key's entry is real. -/
theorem rowsAt_real (p g : Fin 3) (hp : p.val < 2) (b s : Fin 4) (r : Fin 2048) (x : Fin 128) :
    ∃ v : ℝ, rowsAt x0 x1 x2 p g b s r x = v := by
  have hs := s.isLt
  have hx := x.isLt
  refine h g _ _ ?_
  show (512 * p.val + 128 * s.val + x.val) % 1536 < 1024
  omega

/-- Against a key it sees, a query's score is real. -/
theorem scores_real (b s : Fin 4) (t : Fin 2048) (g : Fin 3) (u : Fin 2048) (hsee : Sees (dil g) t u) :
    ∃ v : ℝ, scores x0 x1 x2 b s t g u = v := by
  choose q hq using fun x => rowsAt_real x0 x1 x2 h 0 g (by decide) b s (tokRow (dil g) (pers g) t) x
  choose k hk using fun x => rowsAt_real x0 x1 x2 h 1 g (by decide) b s (tokRow (dil g) (pers g) u) x
  refine ⟨∑ x, q x * k x, ?_⟩
  unfold scores score
  rw [if_pos hsee, coe_sum]
  exact Finset.sum_congr rfl fun x _ => by rw [hq, hk, EReal.coe_mul]

theorem scores_ne_top (b s : Fin 4) (t : Fin 2048) (g : Fin 3) (u : Fin 2048) : scores x0 x1 x2 b s t g u ≠ ⊤ := by
  by_cases hsee : Sees (dil g) t u
  · obtain ⟨v, hv⟩ := scores_real x0 x1 x2 h b s t g u hsee
    rw [hv]; exact EReal.coe_ne_top v
  · unfold scores score
    rw [if_neg hsee]; exact bot_ne_top

/-- Every query sees its own key. -/
theorem scores_own (b s : Fin 4) (t : Fin 2048) (g : Fin 3) : scores x0 x1 x2 b s t g t ≠ ⊥ := by
  obtain ⟨v, hv⟩ := scores_real x0 x1 x2 h b s t g t ⟨le_rfl, by rw [Nat.sub_self]; exact Nat.zero_le _, by rw [Nat.sub_self, Nat.zero_mod]⟩
  rw [hv]; exact EReal.coe_ne_bot v

theorem values_agree : kernelVal x0 x1 x2 = val_main_v108 (F := Ideal) x0 x1 x2 := by
  funext i
  have hi0 : (i 0).val < 8192 := (i 0).isLt
  have hi1 : (i 1).val < 512 := (i 1).isLt
  obtain ⟨b, hb⟩ : ∃ b : Fin 4, b.val = (i 0).val / 2048 := ⟨⟨(i 0).val / 2048, by omega⟩, rfl⟩
  obtain ⟨t, ht⟩ : ∃ t : Fin 2048, t.val = (i 0).val % 2048 := ⟨⟨(i 0).val % 2048, by omega⟩, rfl⟩
  obtain ⟨s, hs⟩ : ∃ s : Fin 4, s.val = (i 1).val / 128 := ⟨⟨(i 1).val / 128, by omega⟩, rfl⟩
  obtain ⟨x, hx⟩ : ∃ x : Fin 128, x.val = (i 1).val % 128 := ⟨⟨(i 1).val % 128, by omega⟩, rfl⟩
  have h0 : (i 0).val = b.val * 2048 + t.val := by omega
  have h1 : (i 1).val = s.val * 128 + x.val := by omega
  refine (kernelVal_at x0 x1 x2 i b.val s.val (ValueIdx.ix2 t x) h0 h1).trans ?_
  refine Eq.trans ?_ ((merge_eq (scores x0 x1 x2 b s t) (vals x0 x1 x2 b s x) (scores_ne_top x0 x1 x2 h b s t) t
    (scores_own x0 x1 x2 h b s t)).trans (ref_apply x0 x1 x2 b s t i x h0 h1).symm)
  unfold outVal
  congr 1 <;> funext g <;> match g with
    | ⟨0, _⟩ => rfl
    | ⟨1, _⟩ => rfl
    | ⟨2, _⟩ => rfl

omit h in
/-- An entry whose absolute value is below infinity is real. -/
theorem real_of_abs_lt (v : EReal) (hv : max v (-v) < ⊤) : ∃ r : ℝ, v = r := by
  induction v with
  | bot => simp at hv
  | coe r => exact ⟨r, rfl⟩
  | top => simp at hv

omit h in
theorem real_of_pre [Cert.Pre_finite_queries_keys.Facts] (hp : Cert.Pre_finite_queries_keys.fn (F := Ideal) x0 x1 x2 = fun _ => 1#1) :
    ∀ g, RealQK (argOf x0 x1 x2 g) := by
  have key : ∀ (A : S8192x1536.Idx → EReal) (j : Cert.Pre_finite_queries_keys.S8192x1024.Idx),
      cmpf (F := Ideal) (φ := .f32) .olt (Host.absf (extf .f32 (extractStridedSlice Cert.Pre_finite_queries_keys.S8192x1024 ![0, 0] (A : FVec Ideal S8192x1536 .bf16)
          Cert.Pre_finite_queries_keys.Facts.slices_S8192x1536_S8192x1024_0_0) Cert.Pre_finite_queries_keys.Facts.bitsLt_bf16_f32))
        (broadcastInDim Cert.Pre_finite_queries_keys.S8192x1024 ![] Cert.Pre_finite_queries_keys.Facts.bcast_S_S8192x1024
          (constant Cert.Pre_finite_queries_keys.S_ .f32 0x7F800000#32)) j = 1#1 →
      ∃ r : ℝ, A (ValueIdx.ix2 ⟨(j 0).val, (j 0).isLt⟩ ⟨(j 1).val, lt_trans (j 1).isLt (by decide)⟩) = r := by
    intro A j hj
    have e : extractStridedSlice Cert.Pre_finite_queries_keys.S8192x1024 ![0, 0] (A : FVec Ideal S8192x1536 .bf16)
        Cert.Pre_finite_queries_keys.Facts.slices_S8192x1536_S8192x1024_0_0 j
        = A (ValueIdx.ix2 ⟨(j 0).val, (j 0).isLt⟩ ⟨(j 1).val, lt_trans (j 1).isLt (by decide)⟩) :=
      extractStridedSlice_apply ![0, 0] (A : FVec Ideal S8192x1536 .bf16) Cert.Pre_finite_queries_keys.Facts.slices_S8192x1536_S8192x1024_0_0 j
        (ValueIdx.ix2 (n0 := 8192) (n1 := 1536) ⟨(j 0).val, (j 0).isLt⟩ ⟨(j 1).val, lt_trans (j 1).isLt (by decide)⟩) (fun a => match a with
        | ⟨0, _⟩ => (Nat.zero_add _).symm
        | ⟨1, _⟩ => (Nat.zero_add _).symm)
    have hj' : Ideal.cmp .olt (max (A (ValueIdx.ix2 ⟨(j 0).val, (j 0).isLt⟩ ⟨(j 1).val, lt_trans (j 1).isLt (by decide)⟩))
        (-A (ValueIdx.ix2 ⟨(j 0).val, (j 0).isLt⟩ ⟨(j 1).val, lt_trans (j 1).isLt (by decide)⟩))) (Ideal.ofBits .f32 0x7F800000#32) = 1#1 := by
      rw [← e]
      exact hj
    refine real_of_abs_lt _ ?_
    have ht : Ideal.ofBits .f32 0x7F800000#32 = (⊤ : EReal) := by simp [Ideal.ofBits, Ideal.ieee]
    rw [ht] at hj'
    by_contra hn
    simp only [Ideal.cmp, decide_eq_false hn] at hj'
    exact absurd hj' (by decide)
  intro g r c hc
  have hj := congrFun hp (ValueIdx.ix2 r ⟨c.val, hc⟩)
  obtain ⟨h01, h2⟩ := IntOp.andi_eq_one.1 hj
  obtain ⟨h0, h1⟩ := IntOp.andi_eq_one.1 h01
  match g with
  | ⟨0, _⟩ => exact key x0 _ h0
  | ⟨1, _⟩ => exact key x1 _ h1
  | ⟨2, _⟩ => exact key x2 _ h2

end Cert.Attn

end
-- ==== Proof.Dense.Base.lean ====
module

public import Idealize.ShloMosaic.Lib.Pipeline.Value
public import Idealize.ShloMosaic.Lib.ValueIdx
public import Idealize.ShloMosaic.Lib.ValueLayout
public import Idealize.ShloMosaic.PureOps.Ideal.Laws
public import Idealize.ShloMosaic.PureOps.IdealRules

@[expose] public section

noncomputable section

/-! # Rows of matrices

A product of two matrices read at an entry, the first of a stack of matrices, and the layer norm of the rows of a matrix,
as the dense calls use them. -/

namespace Cert.Dense

open Idealize.ShloMosaic Idealize.ShloMosaic.ValueIdx

/-- The shape of a matrix of `a` rows and `b` columns. -/
abbrev Mat (a b : ℕ) : Shape := ⟨2, ![a, b]⟩

/-- A row times a matrix: the last axis of the left operand contracted with the first of the right. -/
structure RowDot {a k b : ℕ} (D : DotDims (Mat a k) (Mat k b) (Mat a b)) : Prop where
  rank : D.contr.rank = 1
  size : ∀ h : 0 < D.contr.rank, D.contr.size ⟨0, h⟩ = k
  lhs : ∀ (i : (Mat a b).Idx) (q : D.contr.Idx) (h : 0 < D.contr.rank),
    (D.lhsIdx i q 0).val = (i 0).val ∧ (D.lhsIdx i q 1).val = (q ⟨0, h⟩).val
  rhs : ∀ (i : (Mat a b).Idx) (q : D.contr.Idx) (h : 0 < D.contr.rank),
    (D.rhsIdx i q 0).val = (q ⟨0, h⟩).val ∧ (D.rhsIdx i q 1).val = (i 1).val

/-- An entry of the product, into zeros, is the sum of the products along the row and the column. -/
theorem RowDot.matmul_apply {a k b : ℕ} {D : DotDims (Mat a k) (Mat k b) (Mat a b)} (hD : RowDot D) {φ ψ : FTy}
    (X : FVec Ideal (Mat a k) φ) (W : FVec Ideal (Mat k b) ψ) (r : Fin a) (c : Fin b) :
    matmul D none X W (constant (Mat a b) .f32 0x00000000#32) (ix2 r c) = ∑ j : Fin k, X (ix2 r j) * W (ix2 j c) := by
  have hpos : 0 < D.contr.rank := by rw [hD.rank]; decide
  simp only [matmul]
  rw [Ideal.matmul_constant_zero_apply, ← Equiv.sum_comp (contrEquiv1 D k hD.rank (hD.size hpos)).symm]
  refine Finset.sum_congr rfl fun d _ => ?_
  have hd := contrEquiv1_symm_val D k hD.rank (hD.size hpos) d
  have el : D.lhsIdx (ix2 r c) ((contrEquiv1 D k hD.rank (hD.size hpos)).symm d) = ix2 r d :=
    Shape.idx_ext₂ (hD.lhs _ _ hpos).1 ((hD.lhs _ _ hpos).2.trans hd)
  have er : D.rhsIdx (ix2 r c) ((contrEquiv1 D k hD.rank (hD.size hpos)).symm d) = ix2 d c :=
    Shape.idx_ext₂ ((hD.rhs _ _ hpos).1.trans hd) (hD.rhs _ _ hpos).2
  rw [el, er]

/-! ## Stacks of matrices -/

/-- The shape of a stack of `a` matrices of `b` rows and `c` columns. -/
abbrev Stack (a b c : ℕ) : Shape := ⟨3, ![a, b, c]⟩

/-- Token `r` times column `k` of the first matrix of a stack. -/
def colDot {n : ℕ} (X : (Mat 8192 2048).Idx → EReal) (W : (Stack 2 2048 n).Idx → EReal) (r : Fin 8192) (k : Fin n) : EReal :=
  ∑ j : Fin 2048, X (ValueIdx.ix2 r j) * W (ValueIdx.ix3 (0 : Fin 2) j k)

/-- The first matrix of a stack. -/
def first {a b : ℕ} (W : (Stack 2 a b).Idx → EReal) : (Mat a b).Idx → EReal := fun i => W (ValueIdx.ix3 (0 : Fin 2) (i 0) (i 1))

/-- A stack of one matrix, as the matrix. -/
theorem drop_apply {a b : ℕ} (w : (Stack 1 a b).Idx → EReal) (h : (Stack 1 a b).ShapeCasts (Mat a b)) (j : Fin a) (k : Fin b) :
    shapeCast (Mat a b) w h (ix2 j k) = w (ix3 (0 : Fin 1) j k) :=
  shapeCast_apply _ _ _ _ (by
    rw [Shape.rowMajor_val_three, Shape.rowMajor_val_two]
    show (0 * a + j.val) * b + k.val = j.val * b + k.val
    rw [Nat.zero_mul, Nat.zero_add])

/-- A pair of rows, as a stack of two matrices of one row. -/
theorem lift_apply {n : ℕ} (A : (Mat 2 n).Idx → EReal) (h : (Mat 2 n).ShapeCasts (Stack 2 1 n)) (l : Fin 2) (k : Fin n) :
    shapeCast (Stack 2 1 n) A h (ix3 l (0 : Fin 1) k) = A (ix2 l k) :=
  shapeCast_apply _ _ _ _ (by
    rw [Shape.rowMajor_val_three, Shape.rowMajor_val_two]
    show l.val * n + k.val = (l.val * 1 + 0) * n + k.val
    rw [Nat.mul_one, Nat.add_zero])

/-! ## The layer norm of a row -/

/-- The mean of a row: its sum over its length, the number the word `w` is of. -/
def mean {n : ℕ} (w : BitVec 32) (y : Fin n → EReal) : EReal := Ideal.div (∑ k, y k) (Ideal.ofBits .f32 w)

/-- The row less its mean, over its standard deviation, times a gain and shifted. -/
def lnRow {n : ℕ} (w : BitVec 32) (y g b : Fin n → EReal) (c : Fin n) : EReal :=
  (y c - mean w y) * Ideal.rsqrt (mean w (fun k => (y k - mean w y) * (y k - mean w y)) + Ideal.ofBits .f32 0x3727C5AC#32) * g c + b c

theorem lnRow_congr {n : ℕ} {w : BitVec 32} {y y' g g' b b' : Fin n → EReal} (hy : ∀ k, y k = y' k) (hg : ∀ k, g k = g' k) (hb : ∀ k, b k = b' k)
    (c : Fin n) : lnRow w y g b c = lnRow w y' g' b' c := by
  rw [funext hy, funext hg, funext hb]

section Block

variable {a n : ℕ} (w : BitVec 32) (hred : (Mat a n).Reduces [1] ⟨1, ![a]⟩) (hcol : (⟨1, ![a]⟩ : Shape).ShapeCasts (Mat a 1))
  (hbc : (Mat a 1).Broadcasts (Mat a n)) (hbr : (Mat 1 n).Broadcasts (Mat a n))
  (Y : FVec Ideal (Mat a n) .f32) (G B : FVec Ideal (Mat 1 n) .f32)

/-- The means of a block's rows, as a column. -/
def bMean : FVec Ideal (Mat a 1) .f32 :=
  divf (shapeCast (Mat a 1) (multiReduction .add [1] ⟨1, ![a]⟩ Y 0x00000000#32 hred (.inl rfl) rfl) hcol)
    (broadcast (Mat a 1) (Scalar.ofBits (F := Ideal) .f32 w))

/-- A block's rows less their means. -/
def bCent : FVec Ideal (Mat a n) .f32 := subf Y (broadcastTo (Mat a n) (bMean w hred hcol Y) hbc)

/-- The layer norm of a block's rows. -/
def bLn : FVec Ideal (Mat a n) .f32 :=
  addf (mulf (mulf (bCent w hred hcol hbc Y)
    (broadcastTo (Mat a n) (rsqrt (addf (bMean w hred hcol (mulf (bCent w hred hcol hbc Y) (bCent w hred hcol hbc Y)))
      (broadcast (Mat a 1) (Scalar.ofBits (F := Ideal) .f32 0x3727C5AC#32)))) hbc))
    (broadcastTo (Mat a n) G hbr)) (broadcastTo (Mat a n) B hbr)

theorem col_apply (x : FVec Ideal (Mat a 1) .f32) (r : Fin a) (c : Fin n) :
    broadcastTo (Mat a n) x hbc (ix2 r c) = x (ix2 r (0 : Fin 1)) :=
  broadcastTo_apply _ hbc (ix2 r c) (ix2 r (0 : Fin 1)) (fun ax => by
    match ax with
    | ⟨0, _⟩ =>
      show r.val = if a = 1 then 0 else r.val
      split
      · have := r.isLt; omega
      · rfl
    | ⟨1, _⟩ => rfl)

theorem bMean_apply (r : Fin a) (z : Fin 1) : bMean w hred hcol Y (ix2 r z) = mean w (fun k => Y (ix2 r k)) := by
  unfold bMean mean
  show Ideal.div _ _ = _
  rw [shapeCast_apply _ _ _ (ix1 r) (by
    rw [Shape.rowMajor_val_one, Shape.rowMajor_val_two]
    show r.val = r.val * 1 + z.val
    omega)]
  refine congrArg₂ Ideal.div ?_ rfl
  refine (Ideal.multiReduction_add_single _ _ _ _ _ _).trans ?_
  exact Finset.sum_congr rfl fun k _ => congrArg Y (Shape.idx_ext₂ rfl rfl)

theorem bCent_apply (r : Fin a) (c : Fin n) :
    bCent w hred hcol hbc Y (ix2 r c) = Y (ix2 r c) - mean w (fun k => Y (ix2 r k)) := by
  unfold bCent
  show Y (ix2 r c) - _ = _
  rw [col_apply, bMean_apply]

theorem bLn_apply (r : Fin a) (c : Fin n) :
    bLn w hred hcol hbc hbr Y G B (ix2 r c)
      = lnRow w (fun k => Y (ix2 r k)) (fun k => G (ix2 (0 : Fin 1) k)) (fun k => B (ix2 (0 : Fin 1) k)) c := by
  unfold bLn lnRow
  show bCent w hred hcol hbc Y (ix2 r c) * _ * _ + _ = _
  rw [col_apply, broadcastTo_1b_ab_apply, broadcastTo_1b_ab_apply, bCent_apply]
  show _ * Ideal.rsqrt (bMean w hred hcol _ (ix2 r (0 : Fin 1)) + _) * _ + _ = _
  rw [bMean_apply]
  have e : (fun k => mulf (bCent w hred hcol hbc Y) (bCent w hred hcol hbc Y) (ix2 r k))
      = fun k => (Y (ix2 r k) - mean w (fun k => Y (ix2 r k))) * (Y (ix2 r k) - mean w (fun k => Y (ix2 r k))) := funext fun k => by
    show bCent w hred hcol hbc Y (ix2 r k) * bCent w hred hcol hbc Y (ix2 r k) = _
    rw [bCent_apply]
  rw [e]
  rfl

end Block

end Cert.Dense
-- ==== Proof.Dense.Halves.lean ====
module

public import Idealize.ShloMosaic.PureOps.Ideal.Laws
public import Idealize.ShloMosaic.PureOps.IdealRules

@[expose] public section

noncomputable section

/-! # The sigmoid by a hyperbolic tangent of half its argument -/

namespace Cert.Dense

open Idealize.ShloMosaic

theorem half_word : Ideal.ofBits .f32 0x3F000000#32 = ((1 / 2 : ℝ) : EReal) := by
  simp [Ideal.ofBits, Ideal.ieee]
  rw [← EReal.coe_mul]
  norm_num

theorem one_word : Ideal.ofBits .f32 0x3F800000#32 = 1 := by
  simp [Ideal.ofBits, Ideal.ieee]
  rw [← EReal.coe_mul]
  norm_num

theorem half_tanh (r : ℝ) : 1 / 2 * Real.tanh (1 / 2 * r) + 1 / 2 = (1 + Real.exp (-r))⁻¹ := by
  have h0 : Real.exp (-r) = Real.exp (-(1 / 2 * r)) * Real.exp (-(1 / 2 * r)) := by rw [← Real.exp_add]; ring_nf
  have h1 : Real.exp (1 / 2 * r) * Real.exp (-(1 / 2 * r)) = 1 := by rw [← Real.exp_add]; simp
  rw [Real.tanh_eq_sinh_div_cosh, Real.sinh_eq, Real.cosh_eq, h0]
  have p : 0 < Real.exp (1 / 2 * r) := Real.exp_pos _
  have q : 0 < Real.exp (-(1 / 2 * r)) := Real.exp_pos _
  generalize Real.exp (1 / 2 * r) = a at *
  generalize Real.exp (-(1 / 2 * r)) = b at *
  have e : a = b⁻¹ := eq_inv_of_mul_eq_one_left h1
  subst e
  field_simp
  ring

/-- A sum of products with halved factors is half the sum, at the infinities too. -/
theorem sum_half {n : ℕ} (x w : Fin n → EReal) :
    ∑ j, x j * (w j * ((1 / 2 : ℝ) : EReal)) = ((1 / 2 : ℝ) : EReal) * ∑ j, x j * w j := by
  have hp : (0 : EReal) ≤ ((1 / 2 : ℝ) : EReal) := EReal.coe_nonneg.mpr (by norm_num)
  have key : ∀ s : Finset (Fin n), ∑ j ∈ s, x j * (w j * ((1 / 2 : ℝ) : EReal)) = ((1 / 2 : ℝ) : EReal) * ∑ j ∈ s, x j * w j := by
    intro s
    induction s using Finset.cons_induction with
    | empty => simp
    | cons a s ha ih =>
      rw [Finset.sum_cons, Finset.sum_cons, ih, EReal.left_distrib_of_nonneg_of_ne_top hp (EReal.coe_ne_top _),
        ← mul_assoc, mul_comm (x a * w a)]
  exact key _

theorem half_top : ((1 / 2 : ℝ) : EReal) * ⊤ = ⊤ := EReal.coe_mul_top_of_pos (by norm_num)

theorem half_bot : ((1 / 2 : ℝ) : EReal) * ⊥ = ⊥ := EReal.coe_mul_bot_of_pos (by norm_num)

/-- Half a hyperbolic tangent of half the argument, and a half, is the sigmoid, at the infinities too. -/
theorem half_logistic (g : EReal) :
    ((1 / 2 : ℝ) : EReal) * Ideal.tanh (((1 / 2 : ℝ) : EReal) * g) + ((1 / 2 : ℝ) : EReal) = Ideal.logistic g := by
  induction g with
  | bot =>
    rw [half_bot, Ideal.tanh_bot, Ideal.logistic_bot]
    rw [show (-1 : EReal) = ((-1 : ℝ) : EReal) from rfl, ← EReal.coe_mul, ← EReal.coe_add]
    norm_num
  | top =>
    rw [half_top, Ideal.tanh_top, Ideal.logistic_top, mul_one, ← EReal.coe_add]
    norm_num
  | coe r =>
    rw [← EReal.coe_mul, Ideal.tanh_coe, ← EReal.coe_mul, ← EReal.coe_add, Ideal.logistic_coe, half_tanh]

/-- The half argument and its product with its hyperbolic tangent make the argument times its sigmoid, except at
minus infinity, where the first is zero and the second is not. -/
theorem half_silu {g : EReal} (hg : g ≠ ⊥) :
    ((1 / 2 : ℝ) : EReal) * g + ((1 / 2 : ℝ) : EReal) * g * Ideal.tanh (((1 / 2 : ℝ) : EReal) * g) = g * Ideal.logistic g := by
  induction g with
  | bot => exact absurd rfl hg
  | top =>
    rw [half_top, Ideal.tanh_top, Ideal.logistic_top, mul_one]
    rfl
  | coe r =>
    rw [← EReal.coe_mul, Ideal.tanh_coe, ← EReal.coe_mul, ← EReal.coe_add, Ideal.logistic_coe, ← EReal.coe_mul, ← half_tanh]
    congr 1
    ring

end Cert.Dense
-- ==== Proof.Dense.Up.lean ====
module

public import proofs.«01_k».proof.Proof.Dense.Base
public import proofs.«01_k».proof.Proof.Dense.Halves
public import proofs.«01_k».proof.Proof.Gen.FfnUpIdeal.Value
public import proofs.«01_k».proof.Proof.Gen.FfnUpReferenceIdeal.Read
public import proofs.«01_k».proof.Proof.Gen.Pre_no_gate_is_minus_infinity
public import Idealize.ShloMosaic.Lib.Pipeline.ValueKit

@[expose] public section

set_option maxRecDepth 16384

noncomputable section

/-! # The feed-forward up projection with its gate -/

namespace Cert.Dense

open Idealize.ShloMosaic Idealize.ShloMosaic.ValueIdx

/-- The gated product of every token. -/
def upVal (X : (Mat 8192 2048).Idx → EReal) (G U : (Stack 2 2048 5632).Idx → EReal) : (Mat 8192 5632).Idx → EReal := fun i =>
  colDot X G (i 0) (i 1) * Ideal.logistic (colDot X G (i 0) (i 1)) * colDot X U (i 0) (i 1)

section Kernel

open Idealize.ShloMosaic.TcCoe Cert.FfnUpIdeal Cert.FfnUpIdeal.Gen

theorem upDot : RowDot dot_S1024x2048_S2048x1024_S1024x1024_1_0_0_1_n_n where
  rank := rfl
  size := fun _ => rfl
  lhs := fun i q _ => ⟨by unfold DotDims.lhsIdx; rw [dif_neg (by decide), dif_pos (by decide)]; rfl, DotDims.lhsIdx_val_of_single _ rfl i q⟩
  rhs := fun i q _ => ⟨DotDims.rhsIdx_val_of_single _ rfl i q, by unfold DotDims.rhsIdx; rw [dif_neg (by decide), dif_pos (by decide)]; rfl⟩

/-- The staged weights: 512 halved gate columns, then 512 up columns. -/
def staged (g u : Vec Ideal S1x2048x512 .f32) : Vec Ideal S2048x1024 .bf16 :=
  View.canon [⟨Rect.unit ![0, 512] ![2048, 512] inb_S2048x1024_S2048x512_0_512, k0_pay2 u⟩,
    ⟨Rect.unit ![0, 0] ![2048, 512] inb_S2048x1024_S2048x512_0_0, k0_pay1 g⟩]

theorem pay1_apply (g : Vec Ideal S1x2048x512 .f32) (j : Fin 2048) (k : Fin 512) :
    k0_pay1 g (ValueIdx.ix2 j k) = g (ValueIdx.ix3 (0 : Fin 1) j k) * Ideal.ofBits .f32 0x3F000000#32 := by
  unfold k0_pay1
  refine (shapeCast_apply _ _ _ (ValueIdx.ix2 j k) rfl).trans ?_
  exact congrArg (· * Ideal.ofBits .f32 0x3F000000#32) (drop_apply g shapeCasts_S1x2048x512_S2048x512 j k)

theorem pay2_apply (u : Vec Ideal S1x2048x512 .f32) (j : Fin 2048) (k : Fin 512) :
    k0_pay2 u (ValueIdx.ix2 j k) = u (ValueIdx.ix3 (0 : Fin 1) j k) := by
  unfold k0_pay2
  refine (shapeCast_apply _ _ _ (ValueIdx.ix2 j k) rfl).trans ?_
  exact drop_apply u shapeCasts_S1x2048x512_S2048x512 j k

theorem staged_gate (g u : Vec Ideal S1x2048x512 .f32) (j : Fin 2048) (k : Fin 1024) (k' : Fin 512) (hk : k.val = k'.val) :
    staged g u (ValueIdx.ix2 j k) = g (ValueIdx.ix3 (0 : Fin 1) j k') * Ideal.ofBits .f32 0x3F000000#32 := by
  unfold staged
  have hk' := k'.isLt
  canon_tiles x h
  · exfalso
    have h1' : k.val = 512 + (x 1).val := h1
    omega
  · have h0' : j.val = (x 0).val := h0
    have h1' : k.val = (x 1).val := h1
    rw [show x = ValueIdx.ix2 j k' from Shape.idx_ext₂ h0'.symm (h1'.symm.trans hk)]
    exact pay1_apply g j k'

theorem staged_up (g u : Vec Ideal S1x2048x512 .f32) (j : Fin 2048) (k : Fin 1024) (k' : Fin 512) (hk : k.val = 512 + k'.val) :
    staged g u (ValueIdx.ix2 j k) = u (ValueIdx.ix3 (0 : Fin 1) j k') := by
  unfold staged
  canon_tiles x h
  · have h0' : j.val = (x 0).val := h0
    have h1' : k.val = 512 + (x 1).val := h1
    rw [show x = ValueIdx.ix2 j k' from Shape.idx_ext₂ h0'.symm (by show (x 1).val = k'.val; omega)]
    exact pay2_apply u j k'
  · exfalso
    have h1' : k.val = (x 1).val := h1
    have : (x 1).val < 512 := (x 1).isLt
    omega

/-- What a block of 1024 tokens stores for 512 columns. -/
theorem up_block (x : Vec Ideal S1024x2048 .bf16) (g u : Vec Ideal S1x2048x512 .f32) (r : Fin 1024) (k : Fin 512)
    {P Q : EReal} (hP : ∑ j : Fin 2048, x (ValueIdx.ix2 r j) * g (ValueIdx.ix3 (0 : Fin 1) j k) = P)
    (hQ : ∑ j : Fin 2048, x (ValueIdx.ix2 r j) * u (ValueIdx.ix3 (0 : Fin 1) j k) = Q) (hg : P ≠ ⊥) :
    k0_pay4 x (staged g u) (ValueIdx.ix2 r k) = P * Ideal.logistic P * Q := by
  subst hP hQ
  have hk := k.isLt
  let M : FVec Ideal S1024x1024 .f32 := matmul (φ₁ := .bf16) (φ₂ := .bf16) dot_S1024x2048_S2048x1024_S1024x1024_1_0_0_1_n_n none x (staged g u)
    (constant S1024x1024 .f32 0x00000000#32)
  have e1 : extractStridedSlice S1024x512 ![0, 0] M slices_S1024x1024_o0_0_S1024x512 (ValueIdx.ix2 r k)
      = ((1 / 2 : ℝ) : EReal) * ∑ j : Fin 2048, x (ValueIdx.ix2 r j) * g (ValueIdx.ix3 (0 : Fin 1) j k) := by
    refine (extractStridedSlice_apply _ _ _ _ (ValueIdx.ix2 r (⟨k.val, by omega⟩ : Fin 1024)) (fun a => by
      match a with
      | ⟨0, _⟩ => exact (Nat.zero_add _).symm
      | ⟨1, _⟩ => exact (Nat.zero_add _).symm)).trans ?_
    refine (upDot.matmul_apply (φ := .bf16) (ψ := .bf16) x (staged g u) r _).trans ?_
    rw [← sum_half, ← half_word]
    exact Finset.sum_congr rfl fun j _ => congrArg (x (ValueIdx.ix2 r j) * ·) (staged_gate g u j _ k rfl)
  have e2 : extractStridedSlice S1024x512 ![0, 512] M slices_S1024x1024_o0_512_S1024x512 (ValueIdx.ix2 r k)
      = ∑ j : Fin 2048, x (ValueIdx.ix2 r j) * u (ValueIdx.ix3 (0 : Fin 1) j k) := by
    refine (extractStridedSlice_apply _ _ _ _ (ValueIdx.ix2 r (⟨512 + k.val, by omega⟩ : Fin 1024)) (fun a => by
      match a with
      | ⟨0, _⟩ => exact (Nat.zero_add _).symm
      | ⟨1, _⟩ => rfl)).trans ?_
    refine (upDot.matmul_apply (φ := .bf16) (ψ := .bf16) x (staged g u) r _).trans ?_
    exact Finset.sum_congr rfl fun j _ => congrArg (x (ValueIdx.ix2 r j) * ·) (staged_up g u j _ k rfl)
  rw [← half_silu hg]
  show (extractStridedSlice S1024x512 ![0, 0] M slices_S1024x1024_o0_0_S1024x512 (ValueIdx.ix2 r k)
    + extractStridedSlice S1024x512 ![0, 0] M slices_S1024x1024_o0_0_S1024x512 (ValueIdx.ix2 r k)
      * Ideal.tanh (extractStridedSlice S1024x512 ![0, 0] M slices_S1024x1024_o0_0_S1024x512 (ValueIdx.ix2 r k)))
    * extractStridedSlice S1024x512 ![0, 512] M slices_S1024x1024_o0_512_S1024x512 (ValueIdx.ix2 r k) = _
  rw [e1, e2]

variable (m : (ℓ : Loc nD τ sig) → Buf (Elt Ideal) ℓ)

theorem up_index : ∀ t : Fin grid0.N, win0_0.index t = ![t.val % 8, 0] ∧ win0_1.index t = ![0, 0, t.val / 8]
    ∧ win0_2.index t = ![0, 0, t.val / 8] ∧ win0_3.index t = ![0, t.val, 0] ∧ win0_4.index t = ![t.val % 8, t.val / 8]
    ∧ win0_5.index t = ![t.val, 0] := by decide +kernel

/-- At a point that does not stage, the weights are those of the point before. -/
theorem same_block (c : Dev nD) (t s : Fin cfg0.N) (h : t.val / 8 = s.val / 8) :
    iblk m c 1 t = iblk m c 1 s ∧ iblk m c 2 t = iblk m c 2 s := by
  obtain ⟨-, e1, e2, -⟩ := up_index t
  obtain ⟨-, f1, f2, -⟩ := up_index s
  constructor <;> (funext y; blk_ext [iblk, V, e1, e2, f1, f2, h])

/-- The staged weights are those of the point's column block. -/
theorem scratch_at (c : Dev nD) : ∀ (n : ℕ) (t : Fin cfg0.N), t.val = n → (outsAt0 m c t.val t.isLt).2.2 = staged (iblk m c 1 t) (iblk m c 2 t) := by
  intro n
  induction n with
  | zero =>
    intro t ht
    rw [outsAt0_A m c t (by omega)]
    frame_out
  | succ n ih =>
    intro t ht
    by_cases h : t.val % 8 = 0
    · rw [outsAt0_A m c t h]
      frame_out
    · have hs := ih ⟨t.val - 1, by have := t.isLt; omega⟩ (by show t.val - 1 = n; omega)
      obtain ⟨b1, b2⟩ := same_block m c t ⟨t.val - 1, by have := t.isLt; omega⟩ (by show t.val / 8 = (t.val - 1) / 8; omega)
      rw [outsAt0_B m c t h, b1, b2]
      unfold sout0_B_0
      exact hs

theorem out_at (c : Dev nD) (t : Fin cfg0.N) : (outsAt0 m c t.val t.isLt).1 = k0_pay4 (iblk m c 0 t) (staged (iblk m c 1 t) (iblk m c 2 t)) := by
  by_cases h : t.val % 8 = 0
  · rw [outsAt0_A m c t h]
    frame_out
    rw [View.readCov_eq_canon']
    refine congrArg (k0_pay4 (iblk m c 0 t)) (funext fun j => ?_)
    exact congrArg (staged (iblk m c 1 t) (iblk m c 2 t)) (funext fun a => Fin.ext (by
      match a with
      | ⟨0, _⟩ => show 0 + 1 * (j 0).val = (j 0).val; omega
      | ⟨1, _⟩ => show 0 + 1 * (j 1).val = (j 1).val; omega))
  · have hs := scratch_at m c (t.val - 1) ⟨t.val - 1, by have := t.isLt; omega⟩ rfl
    obtain ⟨b1, b2⟩ := same_block m c t ⟨t.val - 1, by have := t.isLt; omega⟩ (by show t.val / 8 = (t.val - 1) / 8; omega)
    rw [outsAt0_B m c t h, b1, b2]
    frame_out
    refine congrArg (k0_pay4 (iblk m c 0 t)) ?_
    exact (Memref.IsWhole.read_unread _ _).trans hs

theorem cast_at (c : Dev nD) (t : Fin cfg0.N) : (outsAt0 m c t.val t.isLt).2.1 = k0_pay3 (iblk m c 3 t) := by
  by_cases h : t.val % 8 = 0
  · rw [outsAt0_A m c t h]
    frame_out
  · rw [outsAt0_B m c t h]
    frame_out

theorem up_iblk (c : Dev nD) (t : Fin cfg0.N) (i : (Mat 8192 5632).Idx) (r : Fin 1024) (k : Fin 512)
    (h0 : (i 0).val = t.val % 8 * 1024 + r.val) (h1 : (i 1).val = t.val / 8 * 512 + k.val) :
    (∀ j : Fin 2048, iblk m c 0 t (ValueIdx.ix2 r j) = m ((c : Thread nD τ).loc main_arg0) (ValueIdx.ix2 (i 0) j))
    ∧ (∀ j : Fin 2048, iblk m c 1 t (ValueIdx.ix3 (0 : Fin 1) j k) = m ((c : Thread nD τ).loc main_arg1) (ValueIdx.ix3 (0 : Fin 2) j (i 1)))
    ∧ (∀ j : Fin 2048, iblk m c 2 t (ValueIdx.ix3 (0 : Fin 1) j k) = m ((c : Thread nD τ).loc main_arg2) (ValueIdx.ix3 (0 : Fin 2) j (i 1))) := by
  obtain ⟨e0, e1, e2, -⟩ := up_index t
  refine ⟨fun j => ?_, fun j => ?_, fun j => ?_⟩
  · refine (congrArg (V m c main_arg0) (Shape.idx_ext₂ ?_ ?_)).trans (congrFun (V_main_arg0 m c) (ValueIdx.ix2 (i 0) j)) <;> blk_simp [e0, h0]
  · refine (congrArg (V m c main_arg1) (?_ : _ = ValueIdx.ix3 (0 : Fin 2) j (i 1))).trans (congrFun (V_main_arg1 m c) _)
    funext a
    refine Fin.ext ?_
    match a with
    | ⟨0, _⟩ => blk_simp [e1]; rfl
    | ⟨1, _⟩ => blk_simp [e1]
    | ⟨2, _⟩ => blk_simp [e1, h1]
  · refine (congrArg (V m c main_arg2) (?_ : _ = ValueIdx.ix3 (0 : Fin 2) j (i 1))).trans (congrFun (V_main_arg2 m c) _)
    funext a
    refine Fin.ext ?_
    match a with
    | ⟨0, _⟩ => blk_simp [e2]; rfl
    | ⟨1, _⟩ => blk_simp [e2]
    | ⟨2, _⟩ => blk_simp [e2, h1]

theorem up_at (c : Dev nD) (t : Fin cfg0.N) (i : (Mat 8192 5632).Idx) (r : Fin 1024) (k : Fin 512)
    (h0 : (i 0).val = t.val % 8 * 1024 + r.val) (h1 : (i 1).val = t.val / 8 * 512 + k.val)
    (hg : colDot (m ((c : Thread nD τ).loc main_arg0)) (m ((c : Thread nD τ).loc main_arg1)) (i 0) (i 1) ≠ ⊥) :
    k0_pay4 (iblk m c 0 t) (staged (iblk m c 1 t) (iblk m c 2 t)) (ValueIdx.ix2 r k)
      = upVal (m ((c : Thread nD τ).loc main_arg0)) (m ((c : Thread nD τ).loc main_arg1)) (m ((c : Thread nD τ).loc main_arg2)) i := by
  obtain ⟨b0, b1, b2⟩ := up_iblk m c t i r k h0 h1
  exact up_block _ _ _ r k (Finset.sum_congr rfl fun j _ => congrArg₂ (· * ·) (b0 j) (b1 j))
    (Finset.sum_congr rfl fun j _ => congrArg₂ (· * ·) (b0 j) (b2 j)) hg

/-- The first result after the run: the gated product. -/
theorem up_final (c : Dev nD)
    (hg : ∀ r k, colDot (m ((c : Thread nD τ).loc main_arg0)) (m ((c : Thread nD τ).loc main_arg1)) r k ≠ ⊥) :
    (dats m 0 c).arrAt 4 cfg0.N
      = upVal (m ((c : Thread nD τ).loc main_arg0)) (m ((c : Thread nD τ).loc main_arg1)) (m ((c : Thread nD τ).loc main_arg2)) := by
  refine (dats m 0 c).arrAt_eq_of_covers 4 _ (by decide +kernel) fun t hf y => ?_
  obtain ⟨e0, e1, e2, e3, e4, e5⟩ := up_index t
  rw [after0_4, out_at]
  refine (congrArg (k0_pay4 (iblk m c 0 t) (staged (iblk m c 1 t) (iblk m c 2 t)))
    (Shape.idx_ext₂ rfl rfl : y = ValueIdx.ix2 (y 0) (y 1))).trans (up_at m c t _ (y 0) (y 1) ?_ ?_ (hg _ _))
  · blk_simp [e4]
  · blk_simp [e4]

theorem first_at (c : Dev nD) (t : Fin cfg0.N) (i : (Mat 5632 2048).Idx) (r : Fin 64) (k : Fin 2048)
    (h0 : (i 0).val = t.val * 64 + r.val) (h1 : (i 1).val = k.val) :
    iblk m c 3 t (ValueIdx.ix3 (0 : Fin 1) r k) = first (m ((c : Thread nD τ).loc main_arg3)) i := by
  obtain ⟨-, -, -, e3, -⟩ := up_index t
  refine (congrArg (V m c main_arg3) (?_ : _ = ValueIdx.ix3 (0 : Fin 2) (i 0) (i 1))).trans (congrFun (V_main_arg3 m c) _)
  funext a
  refine Fin.ext ?_
  match a with
  | ⟨0, _⟩ => blk_simp [e3]; rfl
  | ⟨1, _⟩ => blk_simp [e3, h0]
  | ⟨2, _⟩ => blk_simp [e3, h1]

/-- The second result after the run: the first matrix of the down weights. -/
theorem up_final' (c : Dev nD) : (dats m 0 c).arrAt 5 cfg0.N = first (m ((c : Thread nD τ).loc main_arg3)) := by
  refine (dats m 0 c).arrAt_eq_of_covers 5 _ (by decide +kernel) fun t hf y => ?_
  obtain ⟨e0, e1, e2, e3, e4, e5⟩ := up_index t
  rw [after0_5, cast_at]
  refine (congrArg (k0_pay3 (iblk m c 3 t)) (Shape.idx_ext₂ rfl rfl : y = ValueIdx.ix2 (y 0) (y 1))).trans
    ((drop_apply (iblk m c 3 t) shapeCasts_S1x64x2048_S64x2048 (y 0) (y 1)).trans (first_at m c t _ (y 0) (y 1) ?_ ?_))
  · blk_simp [e5]
  · blk_simp [e5]

end Kernel

section Reference

open Cert.FfnUpReferenceIdeal Cert.FfnUpReferenceIdeal.Gen Cert.FfnUpReferenceIdeal.Read

variable (x0 : (Mat 8192 2048).Idx → EReal) (x1 x2 : (Stack 2 2048 5632).Idx → EReal) (x3 : (Stack 2 5632 2048).Idx → EReal)

theorem ref_gate (r : Fin 8192) (k : Fin 5632) : val_main_v3 (F := Ideal) x0 x1 (ValueIdx.ix2 r k) = colDot x0 x1 r k := by
  rw [val_main_v3_apply]
  refine Finset.sum_congr rfl fun j _ => congrArg₂ (· * ·) (congrArg x0 (Shape.idx_ext₂ rfl rfl)) ?_
  rw [val_main_v2_apply, val_main_v1_apply]
  refine congrArg x1 (funext fun a => Fin.ext ?_)
  have := k.isLt
  have := j.isLt
  match a with
  | ⟨0, _⟩ => rfl
  | ⟨1, _⟩ => show (j.val * 5632 + k.val) / 5632 % 2048 = j.val; omega
  | ⟨2, _⟩ => show (j.val * 5632 + k.val) % 5632 = k.val; omega

theorem ref_lift (r : Fin 8192) (k : Fin 5632) : val_main_v7 (F := Ideal) x0 x2 (ValueIdx.ix2 r k) = colDot x0 x2 r k :=
  ref_gate x0 x2 r k

theorem ref_up : val_main_v9 (F := Ideal) x0 x1 x2 = upVal x0 x1 x2 := by
  funext i
  obtain ⟨r, k, rfl⟩ : ∃ (r : Fin 8192) (k : Fin 5632), i = ValueIdx.ix2 r k := ⟨i 0, i 1, Shape.idx_ext₂ rfl rfl⟩
  rw [val_main_v9_apply, val_main_v8_apply, val_main_v4_apply, val_main_call0_v5_apply, val_main_call0_v4_apply,
    val_main_call0_v3_apply, val_main_call0_v2_apply, val_main_call0_v1_apply, val_main_call0_v0_apply, val_main_call0_cst_apply,
    val_main_call0_cst_0_apply, ref_gate, ref_lift]
  show colDot x0 x1 r k * Ideal.div (Ideal.ofBits .f32 0x3F800000#32) (Ideal.ofBits .f32 0x3F800000#32 + Ideal.exp (-colDot x0 x1 r k))
    * colDot x0 x2 r k = _
  rw [one_word]
  rfl

theorem ref_first : val_main_v12 (F := Ideal) x3 = first x3 := by
  funext i
  rw [val_main_v12_apply, val_main_v11_apply, val_main_v10_apply]
  refine congrArg x3 (funext fun a => Fin.ext ?_)
  have h0 : (i 0).val < 5632 := (i 0).isLt
  have h1 : (i 1).val < 2048 := (i 1).isLt
  match a with
  | ⟨0, _⟩ => rfl
  | ⟨1, _⟩ => show ((i 0).val * 2048 + (i 1).val) / 2048 % 5632 = (i 0).val; omega
  | ⟨2, _⟩ => show ((i 0).val * 2048 + (i 1).val) % 2048 = (i 1).val; omega

theorem gate_of_pre (hp : Cert.Pre_no_gate_is_minus_infinity.fn (F := Ideal) x0 x1 x2 x3 = fun _ => 1#1) (r : Fin 8192) (k : Fin 5632) :
    colDot x0 x1 r k ≠ ⊥ := by
  have h : Ideal.cmp .ogt (val_main_v3 (F := Ideal) x0 x1 (ValueIdx.ix2 r k)) (Ideal.ofBits .f32 0xFF800000#32) = 1#1 := congrFun hp (ValueIdx.ix2 r k)
  rw [ref_gate] at h
  intro e
  have hb : Ideal.ofBits .f32 0xFF800000#32 = (⊥ : EReal) := by simp [Ideal.ofBits, Ideal.ieee]
  rw [e, hb] at h
  have hn : ¬ (⊥ : EReal) > ⊥ := lt_irrefl _
  simp only [Ideal.cmp, decide_eq_false hn] at h
  exact absurd h (by decide)

end Reference

end Cert.Dense
-- ==== Proof.Dense.Down.lean ====
module

public import proofs.«01_k».proof.Proof.Dense.Base
public import proofs.«01_k».proof.Proof.Gen.FfnDownIdeal.Value
public import proofs.«01_k».proof.Proof.Gen.FfnDownReferenceIdeal.Read
public import Idealize.ShloMosaic.Lib.Pipeline.ValueKit

@[expose] public section

set_option maxRecDepth 16384

noncomputable section

/-! # The feed-forward down projection with its residual and layer norm -/

namespace Cert.Dense

open Idealize.ShloMosaic Idealize.ShloMosaic.ValueIdx

/-- The residual sum of token `r` at a feature. -/
def downSum (H : (Mat 8192 5632).Idx → EReal) (X : (Mat 8192 2048).Idx → EReal) (W : (Mat 5632 2048).Idx → EReal)
    (r : Fin 8192) (k : Fin 2048) : EReal :=
  Ideal.ofBits .f32 0x3FB504F3#32 * X (ValueIdx.ix2 r k) + ∑ j : Fin 5632, H (ValueIdx.ix2 r j) * W (ValueIdx.ix2 j k)

/-- The layer norm of each token's residual sum. -/
def downVal (H : (Mat 8192 5632).Idx → EReal) (X : (Mat 8192 2048).Idx → EReal) (W : (Mat 5632 2048).Idx → EReal)
    (G B : (Mat 2 2048).Idx → EReal) : (Mat 8192 2048).Idx → EReal := fun i =>
  lnRow 0x45000000#32 (downSum H X W (i 0)) (fun k => G (ValueIdx.ix2 (0 : Fin 2) k)) (fun k => B (ValueIdx.ix2 (0 : Fin 2) k)) (i 1)

section Kernel

open Idealize.ShloMosaic.TcCoe Cert.FfnDownIdeal Cert.FfnDownIdeal.Gen

theorem downDot : RowDot dot_S256x5632_S5632x2048_S256x2048_1_0_0_1_n_n where
  rank := rfl
  size := fun _ => rfl
  lhs := fun i q _ => ⟨by unfold DotDims.lhsIdx; rw [dif_neg (by decide), dif_pos (by decide)]; rfl, DotDims.lhsIdx_val_of_single _ rfl i q⟩
  rhs := fun i q _ => ⟨DotDims.rhsIdx_val_of_single _ rfl i q, by unfold DotDims.rhsIdx; rw [dif_neg (by decide), dif_pos (by decide)]; rfl⟩

/-- What a block of 256 tokens stores. -/
theorem down_block (h : Vec Ideal S256x5632 .bf16) (w : Vec Ideal S5632x2048 .bf16) (x : Vec Ideal S256x2048 .f32)
    (g b : Vec Ideal S1x1x2048 .f32) (r : Fin 256) (k : Fin 2048) : k0_pay1 h w x g b (ValueIdx.ix2 r k)
      = lnRow 0x45000000#32 (fun k => Ideal.ofBits .f32 0x3FB504F3#32 * x (ValueIdx.ix2 r k) + ∑ j : Fin 5632, h (ValueIdx.ix2 r j) * w (ValueIdx.ix2 j k))
        (fun k => g (ValueIdx.ix3 (0 : Fin 1) (0 : Fin 1) k)) (fun k => b (ValueIdx.ix3 (0 : Fin 1) (0 : Fin 1) k)) k := by
  have e : k0_pay1 h w x g b = bLn 0x45000000#32 reduces_S256x2048_S256 shapeCasts_S256_S256x1 broadcasts_S256x1_S256x2048 broadcasts_S1x2048_S256x2048
      (addf (mulf (broadcast S256x2048 (Scalar.ofBits (F := Ideal) .f32 0x3FB504F3#32)) x)
        (matmul dot_S256x5632_S5632x2048_S256x2048_1_0_0_1_n_n none h w (constant S256x2048 .f32 0x00000000#32)))
      (shapeCast S1x2048 g shapeCasts_S1x1x2048_S1x2048) (shapeCast S1x2048 b shapeCasts_S1x1x2048_S1x2048) := rfl
  rw [e]
  exact (bLn_apply _ _ _ _ _ _ _ _ r k).trans
    (lnRow_congr (fun k => congrArg (Ideal.ofBits .f32 0x3FB504F3#32 * x (ValueIdx.ix2 r k) + ·) (downDot.matmul_apply (φ := .bf16) (ψ := .bf16) h w r k)) (drop_apply g shapeCasts_S1x1x2048_S1x2048 0) (drop_apply b shapeCasts_S1x1x2048_S1x2048 0) k)

variable (m : (ℓ : Loc nD τ sig) → Buf (Elt Ideal) ℓ)

theorem V_v0 (c : Dev nD) : V m c main_v0 = shapeCast S2x1x2048 (m ((c : Thread nD τ).loc main_arg3)) shapeCasts_S2x2048_S2x1x2048 := by
  unfold V hostOps0
  run_tidy
  rfl

theorem V_v1 (c : Dev nD) : V m c main_v1 = shapeCast S2x1x2048 (m ((c : Thread nD τ).loc main_arg4)) shapeCasts_S2x2048_S2x1x2048 := by
  unfold V hostOps0
  run_tidy
  rfl

theorem down_index : ∀ t : Fin grid0.N, win0_0.index t = ![t.val, 0] ∧ win0_1.index t = ![t.val, 0]
    ∧ win0_2.index t = ![0, 0] ∧ win0_3.index t = ![0, 0, 0] ∧ win0_4.index t = ![0, 0, 0] ∧ win0_5.index t = ![t.val, 0]
    ∧ win0_6.index t = ![t.val, 0] := by decide +kernel

theorem down_iblk (c : Dev nD) (t : Fin cfg0.N) (r : Fin 256) (i : Fin 8192) (hi : i.val = t.val * 256 + r.val) :
    (∀ j : Fin 5632, iblk m c 0 t (ValueIdx.ix2 r j) = m ((c : Thread nD τ).loc main_arg0) (ValueIdx.ix2 i j))
    ∧ (∀ k : Fin 2048, iblk m c 1 t (ValueIdx.ix2 r k) = m ((c : Thread nD τ).loc main_arg1) (ValueIdx.ix2 i k))
    ∧ (∀ (j : Fin 5632) (k : Fin 2048), iblk m c 2 t (ValueIdx.ix2 j k) = m ((c : Thread nD τ).loc main_arg2) (ValueIdx.ix2 j k))
    ∧ (∀ k : Fin 2048, iblk m c 3 t (ValueIdx.ix3 (0 : Fin 1) (0 : Fin 1) k) = m ((c : Thread nD τ).loc main_arg3) (ValueIdx.ix2 (0 : Fin 2) k))
    ∧ (∀ k : Fin 2048, iblk m c 4 t (ValueIdx.ix3 (0 : Fin 1) (0 : Fin 1) k) = m ((c : Thread nD τ).loc main_arg4) (ValueIdx.ix2 (0 : Fin 2) k)) := by
  obtain ⟨e0, e1, e2, e3, e4, e5, e6⟩ := down_index t
  refine ⟨fun j => ?_, fun k => ?_, fun j k => ?_, fun k => ?_, fun k => ?_⟩
  · refine (congrArg (V m c main_arg0) (Shape.idx_ext₂ ?_ ?_)).trans (congrFun (V_main_arg0 m c) (ValueIdx.ix2 i j)) <;> blk_simp [e0, hi]
  · refine (congrArg (V m c main_arg1) (Shape.idx_ext₂ ?_ ?_)).trans (congrFun (V_main_arg1 m c) (ValueIdx.ix2 i k)) <;> blk_simp [e1, hi]
  · refine (congrArg (V m c main_arg2) (Shape.idx_ext₂ ?_ ?_)).trans (congrFun (V_main_arg2 m c) (ValueIdx.ix2 j k)) <;> blk_simp [e2]
  · refine (congrArg (V m c main_v0) (?_ : _ = ValueIdx.ix3 (0 : Fin 2) (0 : Fin 1) k)).trans ((congrFun (V_v0 m c) _).trans (lift_apply _ shapeCasts_S2x2048_S2x1x2048 0 k))
    funext a
    refine Fin.ext ?_
    match a with
    | ⟨0, _⟩ => blk_simp [e3]; rfl
    | ⟨1, _⟩ => blk_simp [e3]
    | ⟨2, _⟩ => blk_simp [e3]
  · refine (congrArg (V m c main_v1) (?_ : _ = ValueIdx.ix3 (0 : Fin 2) (0 : Fin 1) k)).trans ((congrFun (V_v1 m c) _).trans (lift_apply _ shapeCasts_S2x2048_S2x1x2048 0 k))
    funext a
    refine Fin.ext ?_
    match a with
    | ⟨0, _⟩ => blk_simp [e4]; rfl
    | ⟨1, _⟩ => blk_simp [e4]
    | ⟨2, _⟩ => blk_simp [e4]

theorem down_at (c : Dev nD) (t : Fin cfg0.N) (i : (Mat 8192 2048).Idx) (r : Fin 256) (k : Fin 2048) (h0 : (i 0).val = t.val * 256 + r.val)
    (h1 : (i 1).val = k.val) :
    k0_pay1 (iblk m c 0 t) (iblk m c 2 t) (iblk m c 1 t) (iblk m c 3 t) (iblk m c 4 t) (ValueIdx.ix2 r k)
      = downVal (m ((c : Thread nD τ).loc main_arg0)) (m ((c : Thread nD τ).loc main_arg1)) (m ((c : Thread nD τ).loc main_arg2))
        (m ((c : Thread nD τ).loc main_arg3)) (m ((c : Thread nD τ).loc main_arg4)) i := by
  obtain ⟨b0, b1, b2, b3, b4⟩ := down_iblk m c t r (i 0) h0
  have ek : k = i 1 := Fin.ext h1.symm
  subst ek
  refine (down_block _ _ _ _ _ r (i 1)).trans (lnRow_congr (fun k => ?_) b3 b4 (i 1))
  exact congrArg₂ (fun u v => Ideal.ofBits .f32 0x3FB504F3#32 * u + v) (b1 k)
    (Finset.sum_congr rfl fun j _ => congrArg₂ (· * ·) (b0 j) (b2 j k))

theorem out5 (x0 : Vec Ideal S256x5632 .bf16) (x1 : Vec Ideal S256x2048 .f32) (x2 : Vec Ideal S5632x2048 .bf16)
    (x3 x4 : Vec Ideal S1x1x2048 .f32) : out0_5 x0 x1 x2 x3 x4 = k0_pay1 x0 x2 x1 x3 x4 := by
  frame_out

theorem out6 (x0 : Vec Ideal S256x5632 .bf16) (x1 : Vec Ideal S256x2048 .f32) (x2 : Vec Ideal S5632x2048 .bf16)
    (x3 x4 : Vec Ideal S1x1x2048 .f32) : out0_6 x0 x1 x2 x3 x4 = k0_pay2 x0 x2 x1 x3 x4 := by
  frame_out

/-- The first result after the run: the layer norm. -/
theorem down_final (c : Dev nD) : (dats m 0 c).arrAt 5 cfg0.N
      = downVal (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t hf y => ?_
  obtain ⟨e0, e1, e2, e3, e4, e5, e6⟩ := down_index t
  rw [after0_5, out5]
  refine (congrArg (k0_pay1 (iblk m c 0 t) (iblk m c 2 t) (iblk m c 1 t) (iblk m c 3 t) (iblk m c 4 t))
    (Shape.idx_ext₂ rfl rfl : y = ValueIdx.ix2 (y 0) (y 1))).trans (down_at m c t _ (y 0) (y 1) ?_ ?_)
  · blk_simp [e5]
  · blk_simp [e5]

/-- The second result after the run: the same again. -/
theorem down_final' (c : Dev nD) : (dats m 0 c).arrAt 6 cfg0.N
      = downVal (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 6 _ (by decide +kernel) fun t hf y => ?_
  obtain ⟨e0, e1, e2, e3, e4, e5, e6⟩ := down_index t
  rw [after0_6, out6]
  refine (congrArg (k0_pay1 (iblk m c 0 t) (iblk m c 2 t) (iblk m c 1 t) (iblk m c 3 t) (iblk m c 4 t))
    (Shape.idx_ext₂ rfl rfl : y = ValueIdx.ix2 (y 0) (y 1))).trans (down_at m c t _ (y 0) (y 1) ?_ ?_)
  · blk_simp [e6]
  · blk_simp [e6]

end Kernel

section Reference

open Cert.FfnDownReferenceIdeal Cert.FfnDownReferenceIdeal.Gen Cert.FfnDownReferenceIdeal.Read

variable (x0 : (Mat 8192 5632).Idx → EReal) (x1 : (Mat 8192 2048).Idx → EReal) (x2 : (Mat 5632 2048).Idx → EReal)
  (x3 x4 : (Mat 2 2048).Idx → EReal)

theorem ref_sum (r : Fin 8192) (k : Fin 2048) : val_main_v5 (F := Ideal) x0 x1 x2 (ValueIdx.ix2 r k) = downSum x0 x1 x2 r k := by
  refine congrArg₂ (· + ·) ?_ ((val_main_v4_apply x0 x2 _).trans (Finset.sum_congr rfl fun j _ =>
    congrArg₂ (· * ·) (congrArg x0 (Shape.idx_ext₂ rfl rfl)) (congrArg x2 (Shape.idx_ext₂ rfl rfl))))
  exact congrArg (· * x1 (ValueIdx.ix2 r k)) (val_main_v0_apply (F := Ideal) _)

theorem ref_mean (r : Fin 8192) : val_main_v13 (F := Ideal) x0 x1 x2 (ValueIdx.ix2 r (0 : Fin 1)) = mean 0x45000000#32 (downSum x0 x1 x2 r) := by
  refine congrArg₂ Ideal.div ?_ (val_main_v12_apply (F := Ideal) _)
  rw [val_main_v11_apply, val_main_v10_apply, val_main_cst_0_apply]
  refine Eq.trans (congrArg₂ (· + ·) (Ideal.ofBits_zero_f32 : Ideal.ofBits .f32 0x00000000#32 = 0) (Finset.sum_congr rfl fun k _ => ?_)) (zero_add _)
  exact (congrArg (val_main_v5 (F := Ideal) x0 x1 x2) (Shape.idx_ext₂ rfl rfl : idx_main_v10 (idx_main_v11 (ValueIdx.ix2 r (0 : Fin 1))) k = ValueIdx.ix2 r k)).trans (ref_sum x0 x1 x2 r k)

theorem ref_cent (r : Fin 8192) (k : Fin 2048) : val_main_v15 (F := Ideal) x0 x1 x2 (ValueIdx.ix2 r k)
    = downSum x0 x1 x2 r k - mean 0x45000000#32 (downSum x0 x1 x2 r) := by
  have ei : idx_main_v14 (ValueIdx.ix2 r k) = ValueIdx.ix2 r (0 : Fin 1) := Shape.idx_ext₂ rfl rfl
  rw [val_main_v15_apply, val_main_v14_apply, ei, ref_mean, ref_sum]
  rfl

theorem ref_var (r : Fin 8192) : val_main_v20 (F := Ideal) x0 x1 x2 (ValueIdx.ix2 r (0 : Fin 1))
    = mean 0x45000000#32 (fun k => (downSum x0 x1 x2 r k - mean 0x45000000#32 (downSum x0 x1 x2 r)) * (downSum x0 x1 x2 r k - mean 0x45000000#32 (downSum x0 x1 x2 r))) := by
  refine congrArg₂ Ideal.div ?_ (val_main_v19_apply (F := Ideal) _)
  rw [val_main_v18_apply, val_main_v17_apply, val_main_cst_2_apply]
  refine Eq.trans (congrArg₂ (· + ·) (Ideal.ofBits_zero_f32 : Ideal.ofBits .f32 0x00000000#32 = 0) (Finset.sum_congr rfl fun k _ => ?_)) (zero_add _)
  refine (congrArg (val_main_v16 (F := Ideal) x0 x1 x2) (Shape.idx_ext₂ rfl rfl : idx_main_v17 (idx_main_v18 (ValueIdx.ix2 r (0 : Fin 1))) k = ValueIdx.ix2 r k)).trans ?_
  exact congrArg₂ (· * ·) (ref_cent x0 x1 x2 r k) (ref_cent x0 x1 x2 r k)

theorem ref_down : val_main_v33 (F := Ideal) x0 x1 x2 x3 x4 = downVal x0 x1 x2 x3 x4 := by
  funext i
  obtain ⟨r, k, rfl⟩ : ∃ (r : Fin 8192) (k : Fin 2048), i = ValueIdx.ix2 r k := ⟨i 0, i 1, Shape.idx_ext₂ rfl rfl⟩
  have e1 : idx_main_v21 (ValueIdx.ix2 r k) = ValueIdx.ix2 r (0 : Fin 1) := Shape.idx_ext₂ rfl rfl
  have e2 : idx_main_v26 (ValueIdx.ix2 r k) = ValueIdx.ix2 r (0 : Fin 1) := Shape.idx_ext₂ rfl rfl
  have e3 : idx_main_v6 (idx_main_v7 (idx_main_v28 (idx_main_v29 (ValueIdx.ix2 r k)))) = ValueIdx.ix2 (0 : Fin 2) k :=
    Shape.idx_ext₂ rfl (Nat.mod_eq_of_lt k.isLt)
  have e4 : idx_main_v8 (idx_main_v9 (idx_main_v31 (idx_main_v32 (ValueIdx.ix2 r k)))) = ValueIdx.ix2 (0 : Fin 2) k :=
    Shape.idx_ext₂ rfl (Nat.mod_eq_of_lt k.isLt)
  rw [val_main_v33_apply, val_main_v30_apply, val_main_v27_apply, val_main_v22_apply, val_main_v21_apply, val_main_v26_apply,
    val_main_v25_apply, val_main_v29_apply, val_main_v28_apply, val_main_v7_apply, val_main_v6_apply, val_main_v32_apply,
    val_main_v31_apply, val_main_v9_apply, val_main_v8_apply, e1, e2, e3, e4, val_main_v24_apply, val_main_v23_apply,
    ref_mean, ref_var, ref_sum]
  rfl

theorem ref_down' : val_main_v34 (F := Ideal) x0 x1 x2 x3 x4 = downVal x0 x1 x2 x3 x4 := ref_down x0 x1 x2 x3 x4

end Reference

end Cert.Dense
-- ==== Proof.Dense.Gates.lean ====
module

public import proofs.«01_k».proof.Proof.Dense.Base
public import proofs.«01_k».proof.Proof.Dense.Halves
public import proofs.«01_k».proof.Proof.Gen.BranchGatesIdeal.Value
public import proofs.«01_k».proof.Proof.Gen.BranchGatesReferenceIdeal.Read
public import Idealize.ShloMosaic.Lib.Pipeline.ValueKit

@[expose] public section

set_option maxRecDepth 16384

noncomputable section

/-! # The three branches' gates -/

namespace Cert.Dense

open Idealize.ShloMosaic Idealize.ShloMosaic.ValueIdx

/-- The gates of every token: the sigmoid of its product with the last 6144 columns. -/
def gateVal (X : (Mat 8192 2048).Idx → EReal) (W : (Stack 2 2048 14848).Idx → EReal) : (Mat 8192 6144).Idx → EReal := fun i =>
  Ideal.logistic (colDot X W (i 0) ⟨8704 + (i 1).val, by have : (i 1).val < 6144 := (i 1).isLt; omega⟩)

section Kernel

open Idealize.ShloMosaic.TcCoe Cert.BranchGatesIdeal Cert.BranchGatesIdeal.Gen

theorem gateDot : RowDot dot_S1024x2048_S2048x1536_S1024x1536_1_0_0_1_n_n where
  rank := rfl
  size := fun _ => rfl
  lhs := fun i q _ => ⟨by unfold DotDims.lhsIdx; rw [dif_neg (by decide), dif_pos (by decide)]; rfl, DotDims.lhsIdx_val_of_single _ rfl i q⟩
  rhs := fun i q _ => ⟨DotDims.rhsIdx_val_of_single _ rfl i q, by unfold DotDims.rhsIdx; rw [dif_neg (by decide), dif_pos (by decide)]; rfl⟩

/-- The staged weights: three tiles of 512 columns, halved. -/
def tiles (a b d : Vec Ideal S1x2048x512 .f32) : Vec Ideal S2048x1536 .bf16 :=
  View.canon [⟨Rect.unit ![0, 1024] ![2048, 512] inb_S2048x1536_S2048x512_0_1024, k0_pay4 d⟩,
    ⟨Rect.unit ![0, 512] ![2048, 512] inb_S2048x1536_S2048x512_0_512, k0_pay3 b⟩,
    ⟨Rect.unit ![0, 0] ![2048, 512] inb_S2048x1536_S2048x512_0_0, k0_pay2 a⟩]

theorem tile_apply (g : Vec Ideal S1x2048x512 .f32) (j : Fin 2048) (k : Fin 512) :
    k0_pay2 g (ValueIdx.ix2 j k) = g (ValueIdx.ix3 (0 : Fin 1) j k) * Ideal.ofBits .f32 0x3F000000#32 := by
  unfold k0_pay2
  refine (shapeCast_apply _ _ _ (ValueIdx.ix2 j k) rfl).trans ?_
  exact congrArg (· * Ideal.ofBits .f32 0x3F000000#32) (drop_apply g shapeCasts_S1x2048x512_S2048x512 j k)

/-- The staged weights from the columns the three tiles are of. -/
theorem tiles_apply (a b d : Vec Ideal S1x2048x512 .f32) (f : Fin 2048 → ℕ → EReal)
    (ha : ∀ (j : Fin 2048) (k : Fin 512), a (ValueIdx.ix3 (0 : Fin 1) j k) = f j k.val)
    (hb : ∀ (j : Fin 2048) (k : Fin 512), b (ValueIdx.ix3 (0 : Fin 1) j k) = f j (512 + k.val))
    (hd : ∀ (j : Fin 2048) (k : Fin 512), d (ValueIdx.ix3 (0 : Fin 1) j k) = f j (1024 + k.val)) (j : Fin 2048) (k : Fin 1536) :
    tiles a b d (ValueIdx.ix2 j k) = f j k.val * Ideal.ofBits .f32 0x3F000000#32 := by
  have piece : ∀ (g : Vec Ideal S1x2048x512 .f32) (o : ℕ) (_ : ∀ (j : Fin 2048) (k : Fin 512), g (ValueIdx.ix3 (0 : Fin 1) j k) = f j (o + k.val))
      (x : S2048x512.Idx) (_ : j.val = (x 0).val) (_ : k.val = o + (x 1).val),
      k0_pay2 g x = f j k.val * Ideal.ofBits .f32 0x3F000000#32 := by
    intro g o hg x h0 h1
    obtain ⟨k', hk'⟩ : ∃ k' : Fin 512, k' = x 1 := ⟨x 1, rfl⟩
    rw [show x = ValueIdx.ix2 j k' from Shape.idx_ext₂ h0.symm (congrArg Fin.val hk'.symm), tile_apply, hg, h1, hk']
  unfold tiles
  canon_tiles x h
  · exact piece d 1024 hd x h0 h1
  · exact piece b 512 hb x h0 h1
  · exact piece a 0 (fun j k => (ha j k).trans (congrArg (f j) (Nat.zero_add _).symm)) x h0 (h1.trans (Nat.zero_add _).symm)

/-- What a block of 1024 tokens stores for 1536 columns. -/
theorem gate_block (x : Vec Ideal S1024x2048 .bf16) (w : Vec Ideal S2048x1536 .bf16) (f : Fin 2048 → EReal) (r : Fin 1024) (k : Fin 1536)
    (hw : ∀ j, w (ValueIdx.ix2 j k) = f j * Ideal.ofBits .f32 0x3F000000#32) {P : EReal}
    (hP : ∑ j : Fin 2048, x (ValueIdx.ix2 r j) * f j = P) : k0_pay1 (k0_pay9 x w) (ValueIdx.ix2 r k) = Ideal.logistic P := by
  subst hP
  have e : matmul (F := Ideal) (φ₁ := .bf16) (φ₂ := .bf16) dot_S1024x2048_S2048x1536_S1024x1536_1_0_0_1_n_n none x w (constant S1024x1536 .f32 0x00000000#32)
      (ValueIdx.ix2 r k) = ((1 / 2 : ℝ) : EReal) * ∑ j : Fin 2048, x (ValueIdx.ix2 r j) * f j := by
    refine (gateDot.matmul_apply (φ := .bf16) (ψ := .bf16) x w r k).trans ?_
    rw [← sum_half, ← half_word]
    exact Finset.sum_congr rfl fun j _ => congrArg (x (ValueIdx.ix2 r j) * ·) (hw j)
  rw [← half_logistic, ← e, ← half_word]
  rfl

variable (m : (ℓ : Loc nD τ sig) → Buf (Elt Ideal) ℓ)

theorem gate_index : ∀ t : Fin grid0.N, win0_0.index t = ![t.val % 8, 0] ∧ win0_1.index t = ![0, 0, t.val / 8 * 3 + 17]
    ∧ win0_2.index t = ![0, 0, t.val / 8 * 3 + 18] ∧ win0_3.index t = ![0, 0, t.val / 8 * 3 + 19]
    ∧ win0_8.index t = ![t.val % 8, t.val / 8] := by decide +kernel

theorem cast_index : ∀ t : Fin grid0.N, (win0_4.index t = ![0, t.val, 0] ∧ win0_5.index t = ![0, t.val, 0]
    ∧ win0_6.index t = ![0, t.val, 0] ∧ win0_7.index t = ![0, t.val, 0]) ∧ win0_9.index t = ![t.val, 0]
    ∧ win0_10.index t = ![t.val, 0] ∧ win0_11.index t = ![t.val, 0] ∧ win0_12.index t = ![t.val, 0] := by decide +kernel

/-- At a point that does not stage, the weights are those of the point before. -/
theorem same_tiles (c : Dev nD) (t s : Fin cfg0.N) (h : t.val / 8 = s.val / 8) :
    iblk m c 1 t = iblk m c 1 s ∧ iblk m c 2 t = iblk m c 2 s ∧ iblk m c 3 t = iblk m c 3 s := by
  obtain ⟨-, e1, e2, e3, -⟩ := gate_index t
  obtain ⟨-, f1, f2, f3, -⟩ := gate_index s
  refine ⟨?_, ?_, ?_⟩ <;> (funext y; blk_ext [iblk, V, e1, e2, e3, f1, f2, f3, h])

/-- The staged weights are those of the point's column block. -/
theorem tiles_at (c : Dev nD) : ∀ (n : ℕ) (t : Fin cfg0.N), t.val = n →
    (outsAt0 m c t.val t.isLt).2.2.2.2.2 = tiles (iblk m c 1 t) (iblk m c 2 t) (iblk m c 3 t) := by
  intro n
  induction n with
  | zero =>
    intro t ht
    rw [outsAt0_A m c t (by omega)]
    frame_out
  | succ n ih =>
    intro t ht
    by_cases h : t.val % 8 = 0
    · rw [outsAt0_A m c t h]
      frame_out
    · have hs := ih ⟨t.val - 1, by have := t.isLt; omega⟩ (by show t.val - 1 = n; omega)
      obtain ⟨b1, b2, b3⟩ := same_tiles m c t ⟨t.val - 1, by have := t.isLt; omega⟩ (by show t.val / 8 = (t.val - 1) / 8; omega)
      rw [outsAt0_B m c t h, b1, b2, b3]
      unfold sout0_B_0
      exact hs

theorem gate_out (c : Dev nD) (t : Fin cfg0.N) : (outsAt0 m c t.val t.isLt).1
    = k0_pay1 (k0_pay9 (iblk m c 0 t) (tiles (iblk m c 1 t) (iblk m c 2 t) (iblk m c 3 t))) := by
  by_cases h : t.val % 8 = 0
  · rw [outsAt0_A m c t h]
    frame_out
    rw [View.readCov_eq_canon']
    refine congrArg (fun w => k0_pay1 (k0_pay9 (iblk m c 0 t) w)) (funext fun j => ?_)
    exact congrArg (tiles (iblk m c 1 t) (iblk m c 2 t) (iblk m c 3 t)) (funext fun a => Fin.ext (by
      match a with
      | ⟨0, _⟩ => show 0 + 1 * (j 0).val = (j 0).val; omega
      | ⟨1, _⟩ => show 0 + 1 * (j 1).val = (j 1).val; omega))
  · have hs := tiles_at m c (t.val - 1) ⟨t.val - 1, by have := t.isLt; omega⟩ rfl
    obtain ⟨b1, b2, b3⟩ := same_tiles m c t ⟨t.val - 1, by have := t.isLt; omega⟩ (by show t.val / 8 = (t.val - 1) / 8; omega)
    rw [outsAt0_B m c t h, b1, b2, b3]
    frame_out
    refine congrArg (fun w => k0_pay1 (k0_pay9 (iblk m c 0 t) w)) ?_
    exact (Memref.IsWhole.read_unread _ _).trans hs

theorem gate_cast (c : Dev nD) (t : Fin cfg0.N) : ((outsAt0 m c t.val t.isLt).2.1 = k0_pay5 (iblk m c 4 t)
    ∧ (outsAt0 m c t.val t.isLt).2.2.1 = k0_pay6 (iblk m c 5 t)) ∧ (outsAt0 m c t.val t.isLt).2.2.2.1 = k0_pay7 (iblk m c 6 t)
    ∧ (outsAt0 m c t.val t.isLt).2.2.2.2.1 = k0_pay8 (iblk m c 7 t) := by
  refine ⟨⟨?_, ?_⟩, ?_, ?_⟩ <;> (by_cases h : t.val % 8 = 0
    <;> [rw [outsAt0_A m c t h]; rw [outsAt0_B m c t h]] <;> frame_out)

/-- The gate columns of a point's column block, from the weights, at row `j`. -/
def gateCol (W : (Stack 2 2048 14848).Idx → EReal) (q : ℕ) (j : Fin 2048) (k : ℕ) : EReal :=
  W (ValueIdx.ix3 (0 : Fin 2) j (⟨(8704 + q * 1536 + k) % 14848, Nat.mod_lt _ (by norm_num)⟩ : Fin 14848))

theorem tile_iblk (c : Dev nD) (t : Fin cfg0.N) :
    (∀ (j : Fin 2048) (k : Fin 512), iblk m c 1 t (ValueIdx.ix3 (0 : Fin 1) j k) = gateCol (m ((c : Thread nD τ).loc main_arg1)) (t.val / 8) j k.val)
    ∧ (∀ (j : Fin 2048) (k : Fin 512), iblk m c 2 t (ValueIdx.ix3 (0 : Fin 1) j k) = gateCol (m ((c : Thread nD τ).loc main_arg1)) (t.val / 8) j (512 + k.val))
    ∧ (∀ (j : Fin 2048) (k : Fin 512), iblk m c 3 t (ValueIdx.ix3 (0 : Fin 1) j k) = gateCol (m ((c : Thread nD τ).loc main_arg1)) (t.val / 8) j (1024 + k.val)) := by
  obtain ⟨-, e1, e2, e3, -⟩ := gate_index t
  have ht : t.val < 32 := t.isLt.trans_eq N_0
  refine ⟨fun j k => ?_, fun j k => ?_, fun j k => ?_⟩
  all_goals
    have hk := k.isLt
    refine (congrArg (V m c main_arg1) ?_).trans (congrFun (V_main_arg1 m c) _)
    funext a
    refine Fin.ext ?_
    match a with
    | ⟨0, _⟩ => blk_simp [e1, e2, e3]; rfl
    | ⟨1, _⟩ => blk_simp [e1, e2, e3]
    | ⟨2, _⟩ =>
      blk_simp [e1, e2, e3]
      show _ + k.val = (8704 + t.val / 8 * 1536 + _) % 14848
      omega

theorem gate_at (c : Dev nD) (t : Fin cfg0.N) (i : (Mat 8192 6144).Idx) (r : Fin 1024) (k : Fin 1536)
    (h0 : (i 0).val = t.val % 8 * 1024 + r.val) (h1 : (i 1).val = t.val / 8 * 1536 + k.val) :
    k0_pay1 (k0_pay9 (iblk m c 0 t) (tiles (iblk m c 1 t) (iblk m c 2 t) (iblk m c 3 t))) (ValueIdx.ix2 r k)
      = gateVal (m ((c : Thread nD τ).loc main_arg0)) (m ((c : Thread nD τ).loc main_arg1)) i := by
  obtain ⟨e0, -⟩ := gate_index t
  obtain ⟨ba, bb, bd⟩ := tile_iblk m c t
  have hi : (i 1).val < 6144 := (i 1).isLt
  have b0 : ∀ j : Fin 2048, iblk m c 0 t (ValueIdx.ix2 r j) = m ((c : Thread nD τ).loc main_arg0) (ValueIdx.ix2 (i 0) j) := fun j => by
    refine (congrArg (V m c main_arg0) (Shape.idx_ext₂ ?_ ?_)).trans (congrFun (V_main_arg0 m c) (ValueIdx.ix2 (i 0) j)) <;> blk_simp [e0, h0]
  refine gate_block _ _ _ r k (fun j => tiles_apply _ _ _ _ ba bb bd j k) (Finset.sum_congr rfl fun j _ => congrArg₂ (· * ·) (b0 j) ?_)
  unfold gateCol
  refine congrArg (fun q => m ((c : Thread nD τ).loc main_arg1) (ValueIdx.ix3 (0 : Fin 2) j q)) (Fin.ext ?_)
  show (8704 + t.val / 8 * 1536 + k.val) % 14848 = 8704 + (i 1).val
  omega

/-- The first result after the run: the gates. -/
theorem gate_final (c : Dev nD) : (dats m 0 c).arrAt 8 cfg0.N
    = gateVal (m ((c : Thread nD τ).loc main_arg0)) (m ((c : Thread nD τ).loc main_arg1)) := by
  refine (dats m 0 c).arrAt_eq_of_covers 8 _ (by decide +kernel) fun t hf y => ?_
  obtain ⟨-, -, -, -, e8⟩ := gate_index t
  rw [after0_8, gate_out]
  refine (congrArg (k0_pay1 (k0_pay9 (iblk m c 0 t) (tiles (iblk m c 1 t) (iblk m c 2 t) (iblk m c 3 t))))
    (Shape.idx_ext₂ rfl rfl : y = ValueIdx.ix2 (y 0) (y 1))).trans (gate_at m c t _ (y 0) (y 1) ?_ ?_)
  · blk_simp [e8]
  · blk_simp [e8]

theorem first4 (c : Dev nD) (t : Fin cfg0.N) (i : (Mat 512 2048).Idx) (r : Fin 16) (k : Fin 2048) (h0 : (i 0).val = t.val * 16 + r.val)
    (h1 : (i 1).val = k.val) : iblk m c 4 t (ValueIdx.ix3 (0 : Fin 1) r k) = first (m ((c : Thread nD τ).loc main_arg2)) i := by
  obtain ⟨⟨e4, e5, e6, e7⟩, -⟩ := cast_index t
  refine (congrArg (V m c main_arg2) (?_ : _ = ValueIdx.ix3 (0 : Fin 2) (i 0) (i 1))).trans (congrFun (V_main_arg2 m c) _)
  funext a
  refine Fin.ext ?_
  match a with
  | ⟨0, _⟩ => blk_simp [e4]; rfl
  | ⟨1, _⟩ => blk_simp [e4, h0]
  | ⟨2, _⟩ => blk_simp [e4, h1]

theorem first5 (c : Dev nD) (t : Fin cfg0.N) (i : (Mat 1024 2048).Idx) (r : Fin 32) (k : Fin 2048) (h0 : (i 0).val = t.val * 32 + r.val)
    (h1 : (i 1).val = k.val) : iblk m c 5 t (ValueIdx.ix3 (0 : Fin 1) r k) = first (m ((c : Thread nD τ).loc main_arg3)) i
    ∧ iblk m c 6 t (ValueIdx.ix3 (0 : Fin 1) r k) = first (m ((c : Thread nD τ).loc main_arg4)) i := by
  obtain ⟨⟨e4, e5, e6, e7⟩, -⟩ := cast_index t
  constructor
  · refine (congrArg (V m c main_arg3) (?_ : _ = ValueIdx.ix3 (0 : Fin 2) (i 0) (i 1))).trans (congrFun (V_main_arg3 m c) _)
    funext a
    refine Fin.ext ?_
    match a with
    | ⟨0, _⟩ => blk_simp [e5]; rfl
    | ⟨1, _⟩ => blk_simp [e5, h0]
    | ⟨2, _⟩ => blk_simp [e5, h1]
  · refine (congrArg (V m c main_arg4) (?_ : _ = ValueIdx.ix3 (0 : Fin 2) (i 0) (i 1))).trans (congrFun (V_main_arg4 m c) _)
    funext a
    refine Fin.ext ?_
    match a with
    | ⟨0, _⟩ => blk_simp [e6]; rfl
    | ⟨1, _⟩ => blk_simp [e6, h0]
    | ⟨2, _⟩ => blk_simp [e6, h1]

theorem first7 (c : Dev nD) (t : Fin cfg0.N) (i : (Mat 2048 2048).Idx) (r : Fin 64) (k : Fin 2048) (h0 : (i 0).val = t.val * 64 + r.val)
    (h1 : (i 1).val = k.val) : iblk m c 7 t (ValueIdx.ix3 (0 : Fin 1) r k) = first (m ((c : Thread nD τ).loc main_arg5)) i := by
  obtain ⟨⟨e4, e5, e6, e7⟩, -⟩ := cast_index t
  refine (congrArg (V m c main_arg5) (?_ : _ = ValueIdx.ix3 (0 : Fin 2) (i 0) (i 1))).trans (congrFun (V_main_arg5 m c) _)
  funext a
  refine Fin.ext ?_
  match a with
  | ⟨0, _⟩ => blk_simp [e7]; rfl
  | ⟨1, _⟩ => blk_simp [e7, h0]
  | ⟨2, _⟩ => blk_simp [e7, h1]

/-- The other results after the run: the first matrices of the projections' weights. -/
theorem cast_final (c : Dev nD) : ((dats m 0 c).arrAt 9 cfg0.N = first (m ((c : Thread nD τ).loc main_arg2))
    ∧ (dats m 0 c).arrAt 10 cfg0.N = first (m ((c : Thread nD τ).loc main_arg3)))
    ∧ (dats m 0 c).arrAt 11 cfg0.N = first (m ((c : Thread nD τ).loc main_arg4))
    ∧ (dats m 0 c).arrAt 12 cfg0.N = first (m ((c : Thread nD τ).loc main_arg5)) := by
  refine ⟨⟨?_, ?_⟩, ?_, ?_⟩
  · refine (dats m 0 c).arrAt_eq_of_covers 9 _ (by decide +kernel) fun t hf y => ?_
    obtain ⟨-, e, -, -, -⟩ := cast_index t
    rw [after0_9, (gate_cast m c t).1.1]
    refine (congrArg (k0_pay5 (iblk m c 4 t)) (Shape.idx_ext₂ rfl rfl : y = ValueIdx.ix2 (y 0) (y 1))).trans
      ((drop_apply (iblk m c 4 t) shapeCasts_S1x16x2048_S16x2048 (y 0) (y 1)).trans (first4 m c t _ (y 0) (y 1) ?_ ?_)) <;> blk_simp [e]
  · refine (dats m 0 c).arrAt_eq_of_covers 10 _ (by decide +kernel) fun t hf y => ?_
    obtain ⟨-, -, e, -, -⟩ := cast_index t
    rw [after0_10, (gate_cast m c t).1.2]
    refine (congrArg (k0_pay6 (iblk m c 5 t)) (Shape.idx_ext₂ rfl rfl : y = ValueIdx.ix2 (y 0) (y 1))).trans
      ((drop_apply (iblk m c 5 t) shapeCasts_S1x32x2048_S32x2048 (y 0) (y 1)).trans (first5 m c t _ (y 0) (y 1) ?_ ?_).1) <;> blk_simp [e]
  · refine (dats m 0 c).arrAt_eq_of_covers 11 _ (by decide +kernel) fun t hf y => ?_
    obtain ⟨-, -, -, e, -⟩ := cast_index t
    rw [after0_11, (gate_cast m c t).2.1]
    refine (congrArg (k0_pay7 (iblk m c 6 t)) (Shape.idx_ext₂ rfl rfl : y = ValueIdx.ix2 (y 0) (y 1))).trans
      ((drop_apply (iblk m c 6 t) shapeCasts_S1x32x2048_S32x2048 (y 0) (y 1)).trans (first5 m c t _ (y 0) (y 1) ?_ ?_).2) <;> blk_simp [e]
  · refine (dats m 0 c).arrAt_eq_of_covers 12 _ (by decide +kernel) fun t hf y => ?_
    obtain ⟨-, -, -, -, e⟩ := cast_index t
    rw [after0_12, (gate_cast m c t).2.2]
    refine (congrArg (k0_pay8 (iblk m c 7 t)) (Shape.idx_ext₂ rfl rfl : y = ValueIdx.ix2 (y 0) (y 1))).trans
      ((drop_apply (iblk m c 7 t) shapeCasts_S1x64x2048_S64x2048 (y 0) (y 1)).trans (first7 m c t _ (y 0) (y 1) ?_ ?_)) <;> blk_simp [e]

end Kernel

section Reference

open Cert.BranchGatesReferenceIdeal Cert.BranchGatesReferenceIdeal.Gen Cert.BranchGatesReferenceIdeal.Read

variable (x0 : (Mat 8192 2048).Idx → EReal) (x1 : (Stack 2 2048 14848).Idx → EReal) (x2 : (Stack 2 512 2048).Idx → EReal)
  (x3 x4 : (Stack 2 1024 2048).Idx → EReal) (x5 : (Stack 2 2048 2048).Idx → EReal)

theorem ref_gates : val_main_v10 (F := Ideal) x0 x1 = gateVal x0 x1 := by
  funext i
  have h : val_main_v3 (F := Ideal) x0 x1 i
      = colDot x0 x1 (i 0) ⟨8704 + (i 1).val, by have : (i 1).val < 6144 := (i 1).isLt; omega⟩ := by
    rw [val_main_v3_apply]
    refine Finset.sum_congr rfl fun j _ => congrArg₂ (· * ·) (congrArg x0 (Shape.idx_ext₂ rfl rfl)) ?_
    rw [val_main_v2_apply, val_main_v1_apply]
    refine congrArg x1 (funext fun a => Fin.ext ?_)
    have hk : (i 1).val < 6144 := (i 1).isLt
    have hj := j.isLt
    match a with
    | ⟨0, _⟩ => rfl
    | ⟨1, _⟩ => show (j.val * 6144 + (i 1).val) / 6144 % 2048 = j.val; omega
    | ⟨2, _⟩ => show 8704 + (j.val * 6144 + (i 1).val) % 6144 = 8704 + (i 1).val; omega
  rw [val_main_v10_apply, val_main_v9_apply, val_main_v8_apply, val_main_v7_apply, val_main_v6_apply, val_main_v5_apply,
    val_main_v4_apply, val_main_cst_apply, val_main_cst_0_apply, h]
  show Ideal.div (Ideal.ofBits .f32 0x3F800000#32) (Ideal.ofBits .f32 0x3F800000#32 + Ideal.exp (-colDot x0 x1 (i 0) _)) = _
  rw [one_word]
  rfl

theorem ref_first2 : val_main_v13 (F := Ideal) x2 = first x2 := by
  funext i
  rw [val_main_v13_apply, val_main_v12_apply, val_main_v11_apply]
  refine congrArg x2 (funext fun a => Fin.ext ?_)
  have h0 : (i 0).val < 512 := (i 0).isLt
  have h1 : (i 1).val < 2048 := (i 1).isLt
  match a with
  | ⟨0, _⟩ => rfl
  | ⟨1, _⟩ => show ((i 0).val * 2048 + (i 1).val) / 2048 % 512 = (i 0).val; omega
  | ⟨2, _⟩ => show ((i 0).val * 2048 + (i 1).val) % 2048 = (i 1).val; omega

theorem ref_first3 : val_main_v16 (F := Ideal) x3 = first x3 := by
  funext i
  rw [val_main_v16_apply, val_main_v15_apply, val_main_v14_apply]
  refine congrArg x3 (funext fun a => Fin.ext ?_)
  have h0 : (i 0).val < 1024 := (i 0).isLt
  have h1 : (i 1).val < 2048 := (i 1).isLt
  match a with
  | ⟨0, _⟩ => rfl
  | ⟨1, _⟩ => show ((i 0).val * 2048 + (i 1).val) / 2048 % 1024 = (i 0).val; omega
  | ⟨2, _⟩ => show ((i 0).val * 2048 + (i 1).val) % 2048 = (i 1).val; omega

theorem ref_first4 : val_main_v19 (F := Ideal) x4 = first x4 := ref_first3 x4

theorem ref_first5 : val_main_v22 (F := Ideal) x5 = first x5 := by
  funext i
  rw [val_main_v22_apply, val_main_v21_apply, val_main_v20_apply]
  refine congrArg x5 (funext fun a => Fin.ext ?_)
  have h0 : (i 0).val < 2048 := (i 0).isLt
  have h1 : (i 1).val < 2048 := (i 1).isLt
  match a with
  | ⟨0, _⟩ => rfl
  | ⟨1, _⟩ => show ((i 0).val * 2048 + (i 1).val) / 2048 % 2048 = (i 0).val; omega
  | ⟨2, _⟩ => show ((i 0).val * 2048 + (i 1).val) % 2048 = (i 1).val; omega

end Reference

end Cert.Dense
-- ==== Proof.Dense.MergeValue.lean ====
module

public import proofs.«01_k».proof.Proof.Dense.Base

@[expose] public section

noncomputable section

/-! # The branches merged, projected and normalized

The value both programs of the merge are shown to compute. -/

namespace Cert.Dense

open Idealize.ShloMosaic Idealize.ShloMosaic.ValueIdx

/-- An entry times its sigmoid. -/
def silu (g : EReal) : EReal := g * Ideal.logistic g

/-- A row of the convolution's 1024 channels, which lie by blocks of 128. -/
def chans {a : ℕ} (C : (Stack 8 a 128).Idx → EReal) (r : Fin a) (k : Fin 1024) : EReal :=
  C (ix3 (⟨k.val / 128, by have := k.isLt; omega⟩ : Fin 8) r (⟨k.val % 128, Nat.mod_lt _ (by norm_num)⟩ : Fin 128))

/-- The layer norm of token `r`'s channels. -/
def convNorm (C : (Stack 8 8192 128).Idx → EReal) (G B : (Mat 2 1024).Idx → EReal) (r : Fin 8192) : Fin 1024 → EReal :=
  lnRow 0x44800000#32 (chans C r) (fun k => G (ix2 (0 : Fin 2) k)) (fun k => B (ix2 (0 : Fin 2) k))

/-- Three rows times three columns, each product times its gate. -/
def gated (a : Fin 512 → EReal) (z h : Fin 1024 → EReal) (ga gc gg : EReal) (wa : Fin 512 → EReal) (wc wg : Fin 1024 → EReal) : EReal :=
  ga * (∑ j, a j * wa j) + gc * (∑ j, z j * wc j) + gg * ∑ j, h j * wg j

/-- The residual and a row times a column. -/
def residual (x : EReal) (y wo : Fin 2048 → EReal) : EReal := Ideal.ofBits .f32 0x3FB504F3#32 * x + ∑ j, y j * wo j

/-- The merged branches of token `r` at a feature. -/
def merged (A : (Mat 8192 512).Idx → EReal) (C : (Stack 8 8192 128).Idx → EReal) (H : (Mat 8192 1024).Idx → EReal)
    (T : (Mat 8192 6144).Idx → EReal) (Wa : (Mat 512 2048).Idx → EReal) (Wc Wg : (Mat 1024 2048).Idx → EReal)
    (Cg Cb : (Mat 2 1024).Idx → EReal) (r : Fin 8192) (k : Fin 2048) : EReal :=
  gated (fun j => A (ix2 r j)) (fun j => silu (convNorm C Cg Cb r j)) (fun j => H (ix2 r j))
    (T (ix2 r (⟨k.val, by have := k.isLt; omega⟩ : Fin 6144))) (T (ix2 r (⟨2048 + k.val, by have := k.isLt; omega⟩ : Fin 6144)))
    (T (ix2 r (⟨4096 + k.val, by have := k.isLt; omega⟩ : Fin 6144)))
    (fun j => Wa (ix2 j k)) (fun j => Wc (ix2 j k)) (fun j => Wg (ix2 j k))

/-- The residual sum of token `r` at a feature. -/
def mergeSum (A : (Mat 8192 512).Idx → EReal) (C : (Stack 8 8192 128).Idx → EReal) (H : (Mat 8192 1024).Idx → EReal)
    (T : (Mat 8192 6144).Idx → EReal) (X : (Mat 8192 2048).Idx → EReal) (Wa : (Mat 512 2048).Idx → EReal)
    (Wc Wg : (Mat 1024 2048).Idx → EReal) (Wo : (Mat 2048 2048).Idx → EReal) (Cg Cb : (Mat 2 1024).Idx → EReal)
    (r : Fin 8192) (k : Fin 2048) : EReal :=
  residual (X (ix2 r k)) (merged A C H T Wa Wc Wg Cg Cb r) (fun j => Wo (ix2 j k))

/-- The layer norm of each token's residual sum. -/
def mergeVal (A : (Mat 8192 512).Idx → EReal) (C : (Stack 8 8192 128).Idx → EReal) (H : (Mat 8192 1024).Idx → EReal)
    (T : (Mat 8192 6144).Idx → EReal) (X : (Mat 8192 2048).Idx → EReal) (Wa : (Mat 512 2048).Idx → EReal)
    (Wc Wg : (Mat 1024 2048).Idx → EReal) (Wo : (Mat 2048 2048).Idx → EReal) (Cg Cb : (Mat 2 1024).Idx → EReal)
    (G B : (Mat 2 2048).Idx → EReal) : (Mat 8192 2048).Idx → EReal := fun i =>
  lnRow 0x45000000#32 (mergeSum A C H T X Wa Wc Wg Wo Cg Cb (i 0)) (fun k => G (ix2 (0 : Fin 2) k)) (fun k => B (ix2 (0 : Fin 2) k)) (i 1)

end Cert.Dense
-- ==== Proof.Dense.Merge.lean ====
module

public import proofs.«01_k».proof.Proof.Dense.MergeValue
public import proofs.«01_k».proof.Proof.Dense.Halves
public import proofs.«01_k».proof.Proof.Gen.BranchMergeIdeal.Value
public import Idealize.ShloMosaic.Lib.Pipeline.ValueKit

@[expose] public section

set_option maxRecDepth 16384

noncomputable section

/-! # The merge's kernel -/

namespace Cert.Dense

open Idealize.ShloMosaic Idealize.ShloMosaic.ValueIdx Idealize.ShloMosaic.TcCoe Cert.BranchMergeIdeal Cert.BranchMergeIdeal.Gen

theorem attnDot : RowDot dot_S256x512_S512x2048_S256x2048_1_0_0_1_n_n where
  rank := rfl
  size := fun _ => rfl
  lhs := fun i q _ => ⟨by unfold DotDims.lhsIdx; rw [dif_neg (by decide), dif_pos (by decide)]; rfl, DotDims.lhsIdx_val_of_single _ rfl i q⟩
  rhs := fun i q _ => ⟨DotDims.rhsIdx_val_of_single _ rfl i q, by unfold DotDims.rhsIdx; rw [dif_neg (by decide), dif_pos (by decide)]; rfl⟩

theorem branchDot : RowDot dot_S256x1024_S1024x2048_S256x2048_1_0_0_1_n_n where
  rank := rfl
  size := fun _ => rfl
  lhs := fun i q _ => ⟨by unfold DotDims.lhsIdx; rw [dif_neg (by decide), dif_pos (by decide)]; rfl, DotDims.lhsIdx_val_of_single _ rfl i q⟩
  rhs := fun i q _ => ⟨DotDims.rhsIdx_val_of_single _ rfl i q, by unfold DotDims.rhsIdx; rw [dif_neg (by decide), dif_pos (by decide)]; rfl⟩

theorem outDot : RowDot dot_S256x2048_S2048x2048_S256x2048_1_0_0_1_n_n where
  rank := rfl
  size := fun _ => rfl
  lhs := fun i q _ => ⟨by unfold DotDims.lhsIdx; rw [dif_neg (by decide), dif_pos (by decide)]; rfl, DotDims.lhsIdx_val_of_single _ rfl i q⟩
  rhs := fun i q _ => ⟨DotDims.rhsIdx_val_of_single _ rfl i q, by unfold DotDims.rhsIdx; rw [dif_neg (by decide), dif_pos (by decide)]; rfl⟩

/-- One block of 128 channels. -/
def chanBlock (x : Vec Ideal S8x256x128 .f32) (n : Fin 8) : FVec Ideal S256x128 .f32 := fun i => x (ValueIdx.ix3 n (i 0) (i 1))

theorem chanBlock_eq (x : Vec Ideal S8x256x128 .f32) (n : Fin 8) (h) :
    shapeCast S256x128 (View.ld x (Rect.unit (s := S8x256x128) ![n.val, 0, 0] S1x256x128.size h)) shapeCasts_S1x256x128_S256x128 = chanBlock x n := by
  funext i
  refine (congrArg _ (Shape.idx_ext₂ rfl rfl : i = ValueIdx.ix2 (i 0) (i 1))).trans
    ((drop_apply (View.ld x (Rect.unit (s := S8x256x128) ![n.val, 0, 0] S1x256x128.size h)) shapeCasts_S1x256x128_S256x128 (i 0) (i 1)).trans ?_)
  refine congrArg x (funext fun a => Fin.ext ?_)
  match a with
  | ⟨0, _⟩ => show n.val + 1 * 0 = n.val; omega
  | ⟨1, _⟩ => show 0 + 1 * (i 0).val = (i 0).val; omega
  | ⟨2, _⟩ => show 0 + 1 * (i 1).val = (i 1).val; omega

/-- The eight blocks of channels, side by side. -/
def beside (x : Vec Ideal S8x256x128 .f32) : FVec Ideal S256x1024 .f32 :=
  concatenate S256x1024 1 (List.ofFn fun n : Fin 8 => (⟨S256x128, chanBlock x n⟩ : (s : Shape) × (s.Idx → EReal)))
    concatenates_S256x128_S256x128_S256x128_S256x128_S256x128_S256x128_S256x128_S256x128_S256x1024_d1

theorem beside_apply (x : Vec Ideal S8x256x128 .f32) (r : Fin 256) (k : Fin 1024) : beside x (ValueIdx.ix2 r k) = chans x r k := by
  unfold beside
  refine (concatenate_ofFn_apply (t := S256x1024) 1 (fun n : Fin 8 => chanBlock x n) _ rfl 128 rfl (ValueIdx.ix2 r k)
    (⟨k.val / 128, by have := k.isLt; omega⟩ : Fin 8) rfl (ValueIdx.ix2 r (⟨k.val % 128, Nat.mod_lt _ (by norm_num)⟩ : Fin 128)) rfl (fun b hb => ?_)).trans rfl
  match b with
  | ⟨0, _⟩ => rfl
  | ⟨1, _⟩ => exact absurd rfl hb

/-- The channels less their mean. -/
theorem cent_eq (x : Vec Ideal S8x256x128 .f32) :
    k0_pay3 (View.ld x r0_0) (View.ld x r0_1) (View.ld x r0_2) (View.ld x r0_3) (View.ld x r0_4) (View.ld x r0_5) (View.ld x r0_6) (View.ld x r0_7)
      = bCent 0x44800000#32 reduces_S256x1024_S256 shapeCasts_S256_S256x1 broadcasts_S256x1_S256x1024 (beside x) := by
  have p0 := chanBlock_eq x 0 inb_S8x256x128_S1x256x128_0_0_0
  have p1 := chanBlock_eq x 1 inb_S8x256x128_S1x256x128_1_0_0
  have p2 := chanBlock_eq x 2 inb_S8x256x128_S1x256x128_2_0_0
  have p3 := chanBlock_eq x 3 inb_S8x256x128_S1x256x128_3_0_0
  have p4 := chanBlock_eq x 4 inb_S8x256x128_S1x256x128_4_0_0
  have p5 := chanBlock_eq x 5 inb_S8x256x128_S1x256x128_5_0_0
  have p6 := chanBlock_eq x 6 inb_S8x256x128_S1x256x128_6_0_0
  have p7 := chanBlock_eq x 7 inb_S8x256x128_S1x256x128_7_0_0
  have e : beside x = concatenate S256x1024 1 [⟨S256x128, shapeCast S256x128 (View.ld x r0_0) shapeCasts_S1x256x128_S256x128⟩,
      ⟨S256x128, shapeCast S256x128 (View.ld x r0_1) shapeCasts_S1x256x128_S256x128⟩,
      ⟨S256x128, shapeCast S256x128 (View.ld x r0_2) shapeCasts_S1x256x128_S256x128⟩,
      ⟨S256x128, shapeCast S256x128 (View.ld x r0_3) shapeCasts_S1x256x128_S256x128⟩,
      ⟨S256x128, shapeCast S256x128 (View.ld x r0_4) shapeCasts_S1x256x128_S256x128⟩,
      ⟨S256x128, shapeCast S256x128 (View.ld x r0_5) shapeCasts_S1x256x128_S256x128⟩,
      ⟨S256x128, shapeCast S256x128 (View.ld x r0_6) shapeCasts_S1x256x128_S256x128⟩,
      ⟨S256x128, shapeCast S256x128 (View.ld x r0_7) shapeCasts_S1x256x128_S256x128⟩]
      concatenates_S256x128_S256x128_S256x128_S256x128_S256x128_S256x128_S256x128_S256x128_S256x1024_d1 :=
    (congrArg₂ (fun (u : Fin 8 → FVec Ideal S256x128 .f32) (_ : Unit) => concatenate S256x1024 1
        [⟨S256x128, u 0⟩, ⟨S256x128, u 1⟩, ⟨S256x128, u 2⟩, ⟨S256x128, u 3⟩, ⟨S256x128, u 4⟩, ⟨S256x128, u 5⟩, ⟨S256x128, u 6⟩, ⟨S256x128, u 7⟩]
        concatenates_S256x128_S256x128_S256x128_S256x128_S256x128_S256x128_S256x128_S256x128_S256x1024_d1)
      (funext fun n => by
        match n with
        | ⟨0, _⟩ => exact p0
        | ⟨1, _⟩ => exact p1
        | ⟨2, _⟩ => exact p2
        | ⟨3, _⟩ => exact p3
        | ⟨4, _⟩ => exact p4
        | ⟨5, _⟩ => exact p5
        | ⟨6, _⟩ => exact p6
        | ⟨7, _⟩ => exact p7 :
        (fun n : Fin 8 => shapeCast S256x128 (View.ld x (Rect.unit (s := S8x256x128) ![n.val, 0, 0] S1x256x128.size
          (by revert n; decide))) shapeCasts_S1x256x128_S256x128) = chanBlock x) (rfl : () = ())).symm
  rw [e]
  rfl

/-- The hidden activation of a block, as the kernel takes it: half the argument, and that times its hyperbolic tangent. -/
def halved (L : FVec Ideal S256x1024 .f32) : FVec Ideal S256x1024 .bf16 :=
  truncf .bf16 (addf (mulf (broadcast S256x1024 (Scalar.ofBits (F := Ideal) .f32 0x3F000000#32)) L)
    (mulf (mulf (broadcast S256x1024 (Scalar.ofBits (F := Ideal) .f32 0x3F000000#32)) L)
      (tanh (mulf (broadcast S256x1024 (Scalar.ofBits (F := Ideal) .f32 0x3F000000#32)) L)))) bitsLt_bf16_f32

theorem halved_apply (L : FVec Ideal S256x1024 .f32) (i : S256x1024.Idx) (h : L i ≠ ⊥) : halved L i = silu (L i) := by
  show Ideal.ofBits .f32 0x3F000000#32 * L i + Ideal.ofBits .f32 0x3F000000#32 * L i * Ideal.tanh (Ideal.ofBits .f32 0x3F000000#32 * L i) = _
  rw [half_word]
  exact half_silu h

/-- The three gated branches of a block. -/
theorem gated_block (a : Vec Ideal S256x512 .bf16) (x : Vec Ideal S8x256x128 .f32) (h : Vec Ideal S256x1024 .bf16)
    (ga gc gg : Vec Ideal S256x2048 .bf16) (wa : Vec Ideal S512x2048 .bf16) (wc wg : Vec Ideal S1024x2048 .bf16)
    (g b : Vec Ideal S1x1x1024 .f32) (r : Fin 256) (k : Fin 2048) (z : Fin 1024 → EReal)
    (hz : ∀ j, lnRow 0x44800000#32 (chans x r) (fun k => g (ValueIdx.ix3 (0 : Fin 1) (0 : Fin 1) k)) (fun k => b (ValueIdx.ix3 (0 : Fin 1) (0 : Fin 1) k)) j = z j)
    (hb : ∀ j, z j ≠ ⊥) :
    addf (k0_pay4 (k0_pay1 g) (k0_pay2 b)
        (bCent 0x44800000#32 reduces_S256x1024_S256 shapeCasts_S256_S256x1 broadcasts_S256x1_S256x1024 (beside x)) a wa ga wc gc)
        (mulf (k0_pay6 gg) (k0_pay5 h wg)) (ValueIdx.ix2 r k)
      = gated (fun j => a (ValueIdx.ix2 r j)) (fun j => silu (z j)) (fun j => h (ValueIdx.ix2 r j)) (ga (ValueIdx.ix2 r k)) (gc (ValueIdx.ix2 r k))
        (gg (ValueIdx.ix2 r k)) (fun j => wa (ValueIdx.ix2 j k)) (fun j => wc (ValueIdx.ix2 j k)) (fun j => wg (ValueIdx.ix2 j k)) := by
  have hL : ∀ j, bLn 0x44800000#32 reduces_S256x1024_S256 shapeCasts_S256_S256x1 broadcasts_S256x1_S256x1024 broadcasts_S1x1024_S256x1024 (beside x)
      (shapeCast S1x1024 g shapeCasts_S1x1x1024_S1x1024) (shapeCast S1x1024 b shapeCasts_S1x1x1024_S1x1024) (ValueIdx.ix2 r j) = z j := fun j =>
    (bLn_apply _ _ _ _ _ _ _ _ r j).trans ((lnRow_congr (fun k => beside_apply x r k) (drop_apply g shapeCasts_S1x1x1024_S1x1024 0)
      (drop_apply b shapeCasts_S1x1x1024_S1x1024 0) j).trans (hz j))
  have e : k0_pay4 (k0_pay1 g) (k0_pay2 b)
        (bCent 0x44800000#32 reduces_S256x1024_S256 shapeCasts_S256_S256x1 broadcasts_S256x1_S256x1024 (beside x)) a wa ga wc gc (ValueIdx.ix2 r k)
      = ga (ValueIdx.ix2 r k) * matmul (F := Ideal) (φ₁ := .bf16) (φ₂ := .bf16) dot_S256x512_S512x2048_S256x2048_1_0_0_1_n_n none a wa (constant S256x2048 .f32 0x00000000#32) (ValueIdx.ix2 r k)
        + gc (ValueIdx.ix2 r k) * matmul (F := Ideal) (φ₁ := .bf16) (φ₂ := .bf16) dot_S256x1024_S1024x2048_S256x2048_1_0_0_1_n_n none
          (halved (bLn 0x44800000#32 reduces_S256x1024_S256 shapeCasts_S256_S256x1 broadcasts_S256x1_S256x1024 broadcasts_S1x1024_S256x1024 (beside x)
            (shapeCast S1x1024 g shapeCasts_S1x1x1024_S1x1024) (shapeCast S1x1024 b shapeCasts_S1x1x1024_S1x1024))) wc
          (constant S256x2048 .f32 0x00000000#32) (ValueIdx.ix2 r k) := rfl
  have e' : mulf (k0_pay6 gg) (k0_pay5 h wg) (ValueIdx.ix2 r k) = gg (ValueIdx.ix2 r k)
      * matmul (F := Ideal) (φ₁ := .bf16) (φ₂ := .bf16) dot_S256x1024_S1024x2048_S256x2048_1_0_0_1_n_n none h wg (constant S256x2048 .f32 0x00000000#32) (ValueIdx.ix2 r k) := rfl
  refine (congrArg₂ (· + ·) e e').trans ?_
  rw [attnDot.matmul_apply (φ := .bf16) (ψ := .bf16), branchDot.matmul_apply (φ := .bf16) (ψ := .bf16), branchDot.matmul_apply (φ := .bf16) (ψ := .bf16)]
  refine congrArg (fun s => ga (ValueIdx.ix2 r k) * _ + gc (ValueIdx.ix2 r k) * s + gg (ValueIdx.ix2 r k) * _) (Finset.sum_congr rfl fun j _ => ?_)
  refine congrArg (· * wc (ValueIdx.ix2 j k)) ((halved_apply _ _ ?_).trans (congrArg silu (hL j)))
  rw [hL]
  exact hb j

/-- What a block of 256 tokens stores. -/
def stored (a : Vec Ideal S256x512 .bf16) (x : Vec Ideal S8x256x128 .f32) (h : Vec Ideal S256x1024 .bf16)
    (ga gc gg : Vec Ideal S256x2048 .bf16) (y : Vec Ideal S256x2048 .f32) (wa : Vec Ideal S512x2048 .bf16)
    (wc wg : Vec Ideal S1024x2048 .bf16) (wo : Vec Ideal S2048x2048 .bf16) (g b : Vec Ideal S1x1x1024 .f32) (g' b' : Vec Ideal S1x1x2048 .f32) :
    Vec Ideal S256x2048 .f32 :=
  bLn 0x45000000#32 reduces_S256x2048_S256 shapeCasts_S256_S256x1 broadcasts_S256x1_S256x2048 broadcasts_S1x2048_S256x2048
    (addf (mulf (broadcast S256x2048 (Scalar.ofBits (F := Ideal) .f32 0x3FB504F3#32)) y)
      (matmul (F := Ideal) (φ₁ := .bf16) (φ₂ := .bf16) dot_S256x2048_S2048x2048_S256x2048_1_0_0_1_n_n none
        (addf (k0_pay4 (k0_pay1 g) (k0_pay2 b)
          (bCent 0x44800000#32 reduces_S256x1024_S256 shapeCasts_S256_S256x1 broadcasts_S256x1_S256x1024 (beside x)) a wa ga wc gc)
          (mulf (k0_pay6 gg) (k0_pay5 h wg))) wo (constant S256x2048 .f32 0x00000000#32)))
    (shapeCast S1x2048 g' shapeCasts_S1x1x2048_S1x2048) (shapeCast S1x2048 b' shapeCasts_S1x1x2048_S1x2048)

theorem stored_apply (a : Vec Ideal S256x512 .bf16) (x : Vec Ideal S8x256x128 .f32) (h : Vec Ideal S256x1024 .bf16)
    (ga gc gg : Vec Ideal S256x2048 .bf16) (y : Vec Ideal S256x2048 .f32) (wa : Vec Ideal S512x2048 .bf16)
    (wc wg : Vec Ideal S1024x2048 .bf16) (wo : Vec Ideal S2048x2048 .bf16) (g b : Vec Ideal S1x1x1024 .f32) (g' b' : Vec Ideal S1x1x2048 .f32)
    (r : Fin 256) (k : Fin 2048) (z : Fin 1024 → EReal)
    (hz : ∀ j, lnRow 0x44800000#32 (chans x r) (fun k => g (ValueIdx.ix3 (0 : Fin 1) (0 : Fin 1) k)) (fun k => b (ValueIdx.ix3 (0 : Fin 1) (0 : Fin 1) k)) j = z j)
    (hb : ∀ j, z j ≠ ⊥) :
    stored a x h ga gc gg y wa wc wg wo g b g' b' (ValueIdx.ix2 r k)
      = lnRow 0x45000000#32 (fun k => residual (y (ValueIdx.ix2 r k))
          (fun q => gated (fun j => a (ValueIdx.ix2 r j)) (fun j => silu (z j)) (fun j => h (ValueIdx.ix2 r j)) (ga (ValueIdx.ix2 r q)) (gc (ValueIdx.ix2 r q))
            (gg (ValueIdx.ix2 r q)) (fun j => wa (ValueIdx.ix2 j q)) (fun j => wc (ValueIdx.ix2 j q)) (fun j => wg (ValueIdx.ix2 j q)))
          (fun j => wo (ValueIdx.ix2 j k)))
        (fun k => g' (ValueIdx.ix3 (0 : Fin 1) (0 : Fin 1) k)) (fun k => b' (ValueIdx.ix3 (0 : Fin 1) (0 : Fin 1) k)) k := by
  unfold stored
  refine (bLn_apply _ _ _ _ _ _ _ _ r k).trans (lnRow_congr (fun k => ?_) (drop_apply g' shapeCasts_S1x1x2048_S1x2048 0)
    (drop_apply b' shapeCasts_S1x1x2048_S1x2048 0) k)
  refine congrArg (Ideal.ofBits .f32 0x3FB504F3#32 * y (ValueIdx.ix2 r k) + ·) ((outDot.matmul_apply (φ := .bf16) (ψ := .bf16) _ wo r k).trans
    (Finset.sum_congr rfl fun j _ => congrArg (· * wo (ValueIdx.ix2 j k)) ?_))
  exact gated_block a x h ga gc gg wa wc wg g b r j z hz hb

theorem merge15 (x0 : Vec Ideal S256x512 .bf16) (x1 : Vec Ideal S8x256x128 .f32) (x2 : Vec Ideal S256x1024 .bf16)
    (x3 x4 x5 : Vec Ideal S256x2048 .bf16) (x6 : Vec Ideal S256x2048 .f32) (x7 : Vec Ideal S512x2048 .bf16) (x8 x9 : Vec Ideal S1024x2048 .bf16)
    (x10 : Vec Ideal S2048x2048 .bf16) (x11 x12 : Vec Ideal S1x1x1024 .f32) (x13 x14 : Vec Ideal S1x1x2048 .f32) :
    out0_15 x0 x1 x2 x3 x4 x5 x6 x7 x8 x9 x10 x11 x12 x13 x14 = k0_pay7 (k0_pay4 (k0_pay1 x11) (k0_pay2 x12)
      (k0_pay3 (View.ld x1 r0_0) (View.ld x1 r0_1) (View.ld x1 r0_2) (View.ld x1 r0_3) (View.ld x1 r0_4) (View.ld x1 r0_5) (View.ld x1 r0_6) (View.ld x1 r0_7))
      x0 x7 x3 x8 x4) (k0_pay5 x2 x9) (k0_pay6 x5) x10 x6 x13 x14 := by
  frame_out [k0_pay9, k0_pay10, k0_pay11]

theorem merge16 (x0 : Vec Ideal S256x512 .bf16) (x1 : Vec Ideal S8x256x128 .f32) (x2 : Vec Ideal S256x1024 .bf16)
    (x3 x4 x5 : Vec Ideal S256x2048 .bf16) (x6 : Vec Ideal S256x2048 .f32) (x7 : Vec Ideal S512x2048 .bf16) (x8 x9 : Vec Ideal S1024x2048 .bf16)
    (x10 : Vec Ideal S2048x2048 .bf16) (x11 x12 : Vec Ideal S1x1x1024 .f32) (x13 x14 : Vec Ideal S1x1x2048 .f32) :
    out0_16 x0 x1 x2 x3 x4 x5 x6 x7 x8 x9 x10 x11 x12 x13 x14 = k0_pay8 (k0_pay4 (k0_pay1 x11) (k0_pay2 x12)
      (k0_pay3 (View.ld x1 r0_0) (View.ld x1 r0_1) (View.ld x1 r0_2) (View.ld x1 r0_3) (View.ld x1 r0_4) (View.ld x1 r0_5) (View.ld x1 r0_6) (View.ld x1 r0_7))
      x0 x7 x3 x8 x4) (k0_pay5 x2 x9) (k0_pay6 x5) x10 x6 x13 x14 := by
  frame_out [k0_pay9, k0_pay10, k0_pay11]

theorem stored_eq (x0 : Vec Ideal S256x512 .bf16) (x1 : Vec Ideal S8x256x128 .f32) (x2 : Vec Ideal S256x1024 .bf16)
    (x3 x4 x5 : Vec Ideal S256x2048 .bf16) (x6 : Vec Ideal S256x2048 .f32) (x7 : Vec Ideal S512x2048 .bf16) (x8 x9 : Vec Ideal S1024x2048 .bf16)
    (x10 : Vec Ideal S2048x2048 .bf16) (x11 x12 : Vec Ideal S1x1x1024 .f32) (x13 x14 : Vec Ideal S1x1x2048 .f32) :
    k0_pay7 (k0_pay4 (k0_pay1 x11) (k0_pay2 x12)
      (k0_pay3 (View.ld x1 r0_0) (View.ld x1 r0_1) (View.ld x1 r0_2) (View.ld x1 r0_3) (View.ld x1 r0_4) (View.ld x1 r0_5) (View.ld x1 r0_6) (View.ld x1 r0_7))
      x0 x7 x3 x8 x4) (k0_pay5 x2 x9) (k0_pay6 x5) x10 x6 x13 x14 = stored x0 x1 x2 x3 x4 x5 x6 x7 x8 x9 x10 x11 x12 x13 x14 := by
  rw [cent_eq]
  rfl

variable (m : (ℓ : Loc nD τ sig) → Buf (Elt Ideal) ℓ)

theorem merge_v0 (c : Dev nD) : V m c main_v0 = shapeCast S2x1x1024 (m ((c : Thread nD τ).loc main_arg9)) shapeCasts_S2x1024_S2x1x1024 := by
  unfold V hostOps0
  run_tidy
  rfl

theorem merge_v1 (c : Dev nD) : V m c main_v1 = shapeCast S2x1x1024 (m ((c : Thread nD τ).loc main_arg10)) shapeCasts_S2x1024_S2x1x1024 := by
  unfold V hostOps0
  run_tidy
  rfl

theorem merge_v2 (c : Dev nD) : V m c main_v2 = shapeCast S2x1x2048 (m ((c : Thread nD τ).loc main_arg11)) shapeCasts_S2x2048_S2x1x2048 := by
  unfold V hostOps0
  run_tidy
  rfl

theorem merge_v3 (c : Dev nD) : V m c main_v3 = shapeCast S2x1x2048 (m ((c : Thread nD τ).loc main_arg12)) shapeCasts_S2x2048_S2x1x2048 := by
  unfold V hostOps0
  run_tidy
  rfl

theorem token_index : ∀ t : Fin grid0.N, win0_0.index t = ![t.val, 0] ∧ win0_1.index t = ![0, t.val, 0] ∧ win0_2.index t = ![t.val, 0]
    ∧ win0_3.index t = ![t.val, 0] ∧ win0_4.index t = ![t.val, 1] ∧ win0_5.index t = ![t.val, 2] ∧ win0_6.index t = ![t.val, 0]
    ∧ win0_15.index t = ![t.val, 0] ∧ win0_16.index t = ![t.val, 0] := by decide +kernel

theorem weight_index : ∀ t : Fin grid0.N, win0_7.index t = ![0, 0] ∧ win0_8.index t = ![0, 0] ∧ win0_9.index t = ![0, 0]
    ∧ win0_10.index t = ![0, 0] ∧ win0_11.index t = ![0, 0, 0] ∧ win0_12.index t = ![0, 0, 0] ∧ win0_13.index t = ![0, 0, 0]
    ∧ win0_14.index t = ![0, 0, 0] := by decide +kernel

/-- The blocks of a point that hold its tokens. -/
theorem token_iblk (c : Dev nD) (t : Fin cfg0.N) (r : Fin 256) (i : Fin 8192) (hi : i.val = t.val * 256 + r.val) :
    (∀ j : Fin 512, iblk m c 0 t (ValueIdx.ix2 r j) = m ((c : Thread nD τ).loc main_arg0) (ValueIdx.ix2 i j))
    ∧ (∀ k : Fin 1024, chans (iblk m c 1 t) r k = chans (m ((c : Thread nD τ).loc main_arg1)) i k)
    ∧ (∀ j : Fin 1024, iblk m c 2 t (ValueIdx.ix2 r j) = m ((c : Thread nD τ).loc main_arg2) (ValueIdx.ix2 i j))
    ∧ (∀ k : Fin 2048, iblk m c 3 t (ValueIdx.ix2 r k) = m ((c : Thread nD τ).loc main_arg3) (ValueIdx.ix2 i (⟨k.val, by have := k.isLt; omega⟩ : Fin 6144)))
    ∧ (∀ k : Fin 2048, iblk m c 4 t (ValueIdx.ix2 r k) = m ((c : Thread nD τ).loc main_arg3) (ValueIdx.ix2 i (⟨2048 + k.val, by have := k.isLt; omega⟩ : Fin 6144)))
    ∧ (∀ k : Fin 2048, iblk m c 5 t (ValueIdx.ix2 r k) = m ((c : Thread nD τ).loc main_arg3) (ValueIdx.ix2 i (⟨4096 + k.val, by have := k.isLt; omega⟩ : Fin 6144)))
    ∧ (∀ k : Fin 2048, iblk m c 6 t (ValueIdx.ix2 r k) = m ((c : Thread nD τ).loc main_arg4) (ValueIdx.ix2 i k)) := by
  obtain ⟨e0, e1, e2, e3, e4, e5, e6, -⟩ := token_index t
  refine ⟨fun j => ?_, fun k => ?_, fun j => ?_, fun k => ?_, fun k => ?_, fun k => ?_, fun k => ?_⟩
  · refine (congrArg (V m c main_arg0) (Shape.idx_ext₂ ?_ ?_)).trans (congrFun (V_main_arg0 m c) (ValueIdx.ix2 i j)) <;> blk_simp [e0, hi]
  · unfold chans
    refine (congrArg (V m c main_arg1) ?_).trans (congrFun (V_main_arg1 m c) _)
    funext a
    refine Fin.ext ?_
    match a with
    | ⟨0, _⟩ => blk_simp [e1]
    | ⟨1, _⟩ => blk_simp [e1, hi]
    | ⟨2, _⟩ => blk_simp [e1]
  · refine (congrArg (V m c main_arg2) (Shape.idx_ext₂ ?_ ?_)).trans (congrFun (V_main_arg2 m c) (ValueIdx.ix2 i j)) <;> blk_simp [e2, hi]
  · refine (congrArg (V m c main_arg3) (Shape.idx_ext₂ ?_ ?_)).trans (congrFun (V_main_arg3 m c) (ValueIdx.ix2 i _)) <;> blk_simp [e3, hi]
  · refine (congrArg (V m c main_arg3) (Shape.idx_ext₂ ?_ ?_)).trans (congrFun (V_main_arg3 m c) (ValueIdx.ix2 i _)) <;> blk_simp [e4, hi]
  · refine (congrArg (V m c main_arg3) (Shape.idx_ext₂ ?_ ?_)).trans (congrFun (V_main_arg3 m c) (ValueIdx.ix2 i _)) <;> blk_simp [e5, hi]
  · refine (congrArg (V m c main_arg4) (Shape.idx_ext₂ ?_ ?_)).trans (congrFun (V_main_arg4 m c) (ValueIdx.ix2 i k)) <;> blk_simp [e6, hi]

/-- The blocks of a point that hold the weights. -/
theorem weight_iblk (c : Dev nD) (t : Fin cfg0.N) :
    (∀ (j : Fin 512) (k : Fin 2048), iblk m c 7 t (ValueIdx.ix2 j k) = m ((c : Thread nD τ).loc main_arg5) (ValueIdx.ix2 j k))
    ∧ (∀ (j : Fin 1024) (k : Fin 2048), iblk m c 8 t (ValueIdx.ix2 j k) = m ((c : Thread nD τ).loc main_arg6) (ValueIdx.ix2 j k))
    ∧ (∀ (j : Fin 1024) (k : Fin 2048), iblk m c 9 t (ValueIdx.ix2 j k) = m ((c : Thread nD τ).loc main_arg7) (ValueIdx.ix2 j k))
    ∧ (∀ j k : Fin 2048, iblk m c 10 t (ValueIdx.ix2 j k) = m ((c : Thread nD τ).loc main_arg8) (ValueIdx.ix2 j k)) := by
  obtain ⟨e7, e8, e9, e10, -⟩ := weight_index t
  refine ⟨fun j k => ?_, fun j k => ?_, fun j k => ?_, fun j k => ?_⟩
  · refine (congrArg (V m c main_arg5) (Shape.idx_ext₂ ?_ ?_)).trans (congrFun (V_main_arg5 m c) (ValueIdx.ix2 j k)) <;> blk_simp [e7]
  · refine (congrArg (V m c main_arg6) (Shape.idx_ext₂ ?_ ?_)).trans (congrFun (V_main_arg6 m c) (ValueIdx.ix2 j k)) <;> blk_simp [e8]
  · refine (congrArg (V m c main_arg7) (Shape.idx_ext₂ ?_ ?_)).trans (congrFun (V_main_arg7 m c) (ValueIdx.ix2 j k)) <;> blk_simp [e9]
  · refine (congrArg (V m c main_arg8) (Shape.idx_ext₂ ?_ ?_)).trans (congrFun (V_main_arg8 m c) (ValueIdx.ix2 j k)) <;> blk_simp [e10]

/-- The blocks of a point that hold the gains and the shifts. -/
theorem norm_iblk (c : Dev nD) (t : Fin cfg0.N) :
    ((∀ k : Fin 1024, iblk m c 11 t (ValueIdx.ix3 (0 : Fin 1) (0 : Fin 1) k) = m ((c : Thread nD τ).loc main_arg9) (ValueIdx.ix2 (0 : Fin 2) k))
      ∧ (∀ k : Fin 1024, iblk m c 12 t (ValueIdx.ix3 (0 : Fin 1) (0 : Fin 1) k) = m ((c : Thread nD τ).loc main_arg10) (ValueIdx.ix2 (0 : Fin 2) k)))
    ∧ (∀ k : Fin 2048, iblk m c 13 t (ValueIdx.ix3 (0 : Fin 1) (0 : Fin 1) k) = m ((c : Thread nD τ).loc main_arg11) (ValueIdx.ix2 (0 : Fin 2) k))
    ∧ (∀ k : Fin 2048, iblk m c 14 t (ValueIdx.ix3 (0 : Fin 1) (0 : Fin 1) k) = m ((c : Thread nD τ).loc main_arg12) (ValueIdx.ix2 (0 : Fin 2) k)) := by
  obtain ⟨-, -, -, -, e11, e12, e13, e14⟩ := weight_index t
  refine ⟨⟨fun k => ?_, fun k => ?_⟩, fun k => ?_, fun k => ?_⟩
  · refine (congrArg (V m c main_v0) (?_ : _ = ValueIdx.ix3 (0 : Fin 2) (0 : Fin 1) k)).trans ((congrFun (merge_v0 m c) _).trans (lift_apply _ shapeCasts_S2x1024_S2x1x1024 0 k))
    funext a
    refine Fin.ext ?_
    match a with
    | ⟨0, _⟩ => blk_simp [e11]; rfl
    | ⟨1, _⟩ => blk_simp [e11]
    | ⟨2, _⟩ => blk_simp [e11]
  · refine (congrArg (V m c main_v1) (?_ : _ = ValueIdx.ix3 (0 : Fin 2) (0 : Fin 1) k)).trans ((congrFun (merge_v1 m c) _).trans (lift_apply _ shapeCasts_S2x1024_S2x1x1024 0 k))
    funext a
    refine Fin.ext ?_
    match a with
    | ⟨0, _⟩ => blk_simp [e12]; rfl
    | ⟨1, _⟩ => blk_simp [e12]
    | ⟨2, _⟩ => blk_simp [e12]
  · refine (congrArg (V m c main_v2) (?_ : _ = ValueIdx.ix3 (0 : Fin 2) (0 : Fin 1) k)).trans ((congrFun (merge_v2 m c) _).trans (lift_apply _ shapeCasts_S2x2048_S2x1x2048 0 k))
    funext a
    refine Fin.ext ?_
    match a with
    | ⟨0, _⟩ => blk_simp [e13]; rfl
    | ⟨1, _⟩ => blk_simp [e13]
    | ⟨2, _⟩ => blk_simp [e13]
  · refine (congrArg (V m c main_v3) (?_ : _ = ValueIdx.ix3 (0 : Fin 2) (0 : Fin 1) k)).trans ((congrFun (merge_v3 m c) _).trans (lift_apply _ shapeCasts_S2x2048_S2x1x2048 0 k))
    funext a
    refine Fin.ext ?_
    match a with
    | ⟨0, _⟩ => blk_simp [e14]; rfl
    | ⟨1, _⟩ => blk_simp [e14]
    | ⟨2, _⟩ => blk_simp [e14]

/-- The merge of the arguments. -/
abbrev mergeArgs (c : Dev nD) : (Mat 8192 2048).Idx → EReal :=
  mergeVal (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12))

theorem merge_at (c : Dev nD) (t : Fin cfg0.N) (i : (Mat 8192 2048).Idx) (r : Fin 256) (k : Fin 2048) (h0 : (i 0).val = t.val * 256 + r.val)
    (h1 : (i 1).val = k.val)
    (hp : ∀ r j, convNorm (m ((c : Thread nD τ).loc main_arg1)) (m ((c : Thread nD τ).loc main_arg9)) (m ((c : Thread nD τ).loc main_arg10)) r j ≠ ⊥) :
    stored (iblk m c 0 t) (iblk m c 1 t) (iblk m c 2 t) (iblk m c 3 t) (iblk m c 4 t) (iblk m c 5 t) (iblk m c 6 t) (iblk m c 7 t) (iblk m c 8 t)
      (iblk m c 9 t) (iblk m c 10 t) (iblk m c 11 t) (iblk m c 12 t) (iblk m c 13 t) (iblk m c 14 t) (ValueIdx.ix2 r k) = mergeArgs m c i := by
  obtain ⟨b0, b1, b2, b3, b4, b5, b6⟩ := token_iblk m c t r (i 0) h0
  obtain ⟨b7, b8, b9, b10⟩ := weight_iblk m c t
  obtain ⟨⟨b11, b12⟩, b13, b14⟩ := norm_iblk m c t
  have ek : k = i 1 := Fin.ext h1.symm
  subst ek
  refine (stored_apply _ _ _ _ _ _ _ _ _ _ _ _ _ _ _ r (i 1) (convNorm (m ((c : Thread nD τ).loc main_arg1)) (m ((c : Thread nD τ).loc main_arg9))
    (m ((c : Thread nD τ).loc main_arg10)) (i 0)) (fun j => lnRow_congr b1 b11 b12 j) (hp (i 0))).trans (lnRow_congr (fun k => ?_) b13 b14 (i 1))
  unfold mergeSum residual merged gated
  refine congrArg₂ (fun u v => Ideal.ofBits .f32 0x3FB504F3#32 * u + v) (b6 k) (Finset.sum_congr rfl fun q _ => congrArg₂ (· * ·) ?_ (b10 q k))
  refine congrArg₂ (· + ·) (congrArg₂ (· + ·) ?_ ?_) ?_
  · exact congrArg₂ (· * ·) (b3 q) (Finset.sum_congr rfl fun j _ => congrArg₂ (· * ·) (b0 j) (b7 j q))
  · exact congrArg₂ (· * ·) (b4 q) (Finset.sum_congr rfl fun j _ => congrArg (silu _ * ·) (b8 j q))
  · exact congrArg₂ (· * ·) (b5 q) (Finset.sum_congr rfl fun j _ => congrArg₂ (· * ·) (b2 j) (b9 j q))

/-- The first result after the run: the layer norm. -/
theorem merge_final (c : Dev nD)
    (hp : ∀ r j, convNorm (m ((c : Thread nD τ).loc main_arg1)) (m ((c : Thread nD τ).loc main_arg9)) (m ((c : Thread nD τ).loc main_arg10)) r j ≠ ⊥) :
    (dats m 0 c).arrAt 15 cfg0.N = mergeArgs m c := by
  refine (dats m 0 c).arrAt_eq_of_covers 15 _ (by decide +kernel) fun t hf y => ?_
  obtain ⟨-, -, -, -, -, -, -, e15, e16⟩ := token_index t
  rw [after0_15, merge15, stored_eq]
  refine (congrArg (stored (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) (iblk m c 12 t) (iblk m c 13 t) (iblk m c 14 t))
    (Shape.idx_ext₂ rfl rfl : y = ValueIdx.ix2 (y 0) (y 1))).trans (merge_at m c t _ (y 0) (y 1) ?_ ?_ hp)
  · blk_simp [e15]
  · blk_simp [e15]

/-- The second result after the run: the same again. -/
theorem merge_final' (c : Dev nD)
    (hp : ∀ r j, convNorm (m ((c : Thread nD τ).loc main_arg1)) (m ((c : Thread nD τ).loc main_arg9)) (m ((c : Thread nD τ).loc main_arg10)) r j ≠ ⊥) :
    (dats m 0 c).arrAt 16 cfg0.N = mergeArgs m c := by
  refine (dats m 0 c).arrAt_eq_of_covers 16 _ (by decide +kernel) fun t hf y => ?_
  obtain ⟨-, -, -, -, -, -, -, e15, e16⟩ := token_index t
  rw [after0_16, merge16]
  refine (congrFun (stored_eq (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) (iblk m c 12 t) (iblk m c 13 t) (iblk m c 14 t)) y).trans ?_
  refine (congrArg (stored (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) (iblk m c 12 t) (iblk m c 13 t) (iblk m c 14 t))
    (Shape.idx_ext₂ rfl rfl : y = ValueIdx.ix2 (y 0) (y 1))).trans (merge_at m c t _ (y 0) (y 1) ?_ ?_ hp)
  · blk_simp [e16]
  · blk_simp [e16]

end Cert.Dense
-- ==== Proof.Dense.MergeReference.lean ====
module

public import proofs.«01_k».proof.Proof.Dense.MergeValue
public import proofs.«01_k».proof.Proof.Dense.Halves
public import proofs.«01_k».proof.Proof.Gen.BranchMergeReferenceIdeal.Read
public import proofs.«01_k».proof.Proof.Gen.Pre_no_conv_norm_is_minus_infinity

@[expose] public section

set_option maxRecDepth 16384

noncomputable section

/-! # The merge's reference -/

namespace Cert.Dense

open Idealize.ShloMosaic Idealize.ShloMosaic.ValueIdx Cert.BranchMergeReferenceIdeal Cert.BranchMergeReferenceIdeal.Gen Cert.BranchMergeReferenceIdeal.Read

variable (x0 : (Mat 8192 512).Idx → EReal) (x1 : (Stack 8 8192 128).Idx → EReal) (x2 : (Mat 8192 1024).Idx → EReal)
  (x3 : (Mat 8192 6144).Idx → EReal) (x4 : (Mat 8192 2048).Idx → EReal) (x5 : (Mat 512 2048).Idx → EReal)
  (x6 x7 : (Mat 1024 2048).Idx → EReal) (x8 : (Mat 2048 2048).Idx → EReal) (x9 x10 : (Mat 2 1024).Idx → EReal)
  (x11 x12 : (Mat 2 2048).Idx → EReal)

theorem ref_chans (r : Fin 8192) (k : Fin 1024) : val_main_v9 (F := Ideal) x1 (ix2 r k) = chans x1 r k := by
  rw [val_main_v9_apply, val_main_v8_apply]
  unfold chans
  refine congrArg x1 (funext fun a => Fin.ext ?_)
  have hr := r.isLt
  have hk := k.isLt
  match a with
  | ⟨0, _⟩ => show (r.val * 1024 + k.val) / 128 % 8 = k.val / 128; omega
  | ⟨1, _⟩ => show (r.val * 1024 + k.val) / 1024 = r.val; omega
  | ⟨2, _⟩ => show (r.val * 1024 + k.val) % 128 = k.val % 128; omega

theorem conv_mean (r : Fin 8192) : val_main_v17 (F := Ideal) x1 (ix2 r (0 : Fin 1)) = mean 0x44800000#32 (chans x1 r) := by
  refine congrArg₂ Ideal.div ?_ (val_main_v16_apply (F := Ideal) _)
  rw [val_main_v15_apply, val_main_v14_apply, val_main_cst_apply]
  refine Eq.trans (congrArg₂ (· + ·) (Ideal.ofBits_zero_f32 : Ideal.ofBits .f32 0x00000000#32 = 0) (Finset.sum_congr rfl fun k _ => ?_)) (zero_add _)
  exact (congrArg (val_main_v9 (F := Ideal) x1) (Shape.idx_ext₂ rfl rfl : idx_main_v14 (idx_main_v15 (ix2 r (0 : Fin 1))) k = ix2 r k)).trans (ref_chans x1 r k)

theorem conv_cent (r : Fin 8192) (k : Fin 1024) : val_main_v19 (F := Ideal) x1 (ix2 r k) = chans x1 r k - mean 0x44800000#32 (chans x1 r) := by
  have ei : idx_main_v18 (ix2 r k) = ix2 r (0 : Fin 1) := Shape.idx_ext₂ rfl rfl
  rw [val_main_v19_apply, val_main_v18_apply, ei, conv_mean, ref_chans]
  rfl

theorem conv_var (r : Fin 8192) : val_main_v24 (F := Ideal) x1 (ix2 r (0 : Fin 1))
    = mean 0x44800000#32 (fun k => (chans x1 r k - mean 0x44800000#32 (chans x1 r)) * (chans x1 r k - mean 0x44800000#32 (chans x1 r))) := by
  refine congrArg₂ Ideal.div ?_ (val_main_v23_apply (F := Ideal) _)
  rw [val_main_v22_apply, val_main_v21_apply, val_main_cst_1_apply]
  refine Eq.trans (congrArg₂ (· + ·) (Ideal.ofBits_zero_f32 : Ideal.ofBits .f32 0x00000000#32 = 0) (Finset.sum_congr rfl fun k _ => ?_)) (zero_add _)
  refine (congrArg (val_main_v20 (F := Ideal) x1) (Shape.idx_ext₂ rfl rfl : idx_main_v21 (idx_main_v22 (ix2 r (0 : Fin 1))) k = ix2 r k)).trans ?_
  exact congrArg₂ (· * ·) (conv_cent x1 r k) (conv_cent x1 r k)

theorem ref_conv (r : Fin 8192) (k : Fin 1024) : val_main_v37 (F := Ideal) x1 x9 x10 (ix2 r k) = convNorm x1 x9 x10 r k := by
  have e1 : idx_main_v25 (ix2 r k) = ix2 r (0 : Fin 1) := Shape.idx_ext₂ rfl rfl
  have e2 : idx_main_v30 (ix2 r k) = ix2 r (0 : Fin 1) := Shape.idx_ext₂ rfl rfl
  have e3 : idx_main_v10 (idx_main_v11 (idx_main_v32 (idx_main_v33 (ix2 r k)))) = ix2 (0 : Fin 2) k :=
    Shape.idx_ext₂ rfl (Nat.mod_eq_of_lt k.isLt)
  have e4 : idx_main_v12 (idx_main_v13 (idx_main_v35 (idx_main_v36 (ix2 r k)))) = ix2 (0 : Fin 2) k :=
    Shape.idx_ext₂ rfl (Nat.mod_eq_of_lt k.isLt)
  rw [val_main_v37_apply, val_main_v34_apply, val_main_v31_apply, val_main_v26_apply, val_main_v25_apply, val_main_v30_apply,
    val_main_v29_apply, val_main_v33_apply, val_main_v32_apply, val_main_v11_apply, val_main_v10_apply, val_main_v36_apply,
    val_main_v35_apply, val_main_v13_apply, val_main_v12_apply, e1, e2, e3, e4, val_main_v28_apply, val_main_v27_apply,
    conv_mean, conv_var, ref_chans]
  rfl

theorem ref_silu (r : Fin 8192) (k : Fin 1024) : val_main_v38 (F := Ideal) x1 x9 x10 (ix2 r k) = silu (convNorm x1 x9 x10 r k) := by
  rw [val_main_v38_apply, val_main_call0_v5_apply, val_main_call0_v4_apply, val_main_call0_cst_0_apply, val_main_call0_v3_apply,
    val_main_call0_v2_apply, val_main_call0_cst_apply, val_main_call0_v1_apply, val_main_call0_v0_apply, ref_conv]
  show convNorm x1 x9 x10 r k * Ideal.div (Ideal.ofBits .f32 0x3F800000#32) (Ideal.ofBits .f32 0x3F800000#32 + Ideal.exp (-convNorm x1 x9 x10 r k)) = _
  rw [one_word]
  rfl

theorem ref_merged (r : Fin 8192) (k : Fin 2048) :
    val_main_v48 (F := Ideal) x0 x1 x2 x3 x5 x6 x7 x9 x10 (ix2 r k) = merged x0 x1 x2 x3 x5 x6 x7 x9 x10 r k := by
  have g1 : val_main_v41 (F := Ideal) x3 (ix2 r k) = x3 (ix2 r (⟨k.val, by have := k.isLt; omega⟩ : Fin 6144)) :=
    (val_main_v41_apply (F := Ideal) x3 _).trans (congrArg x3 (Shape.idx_ext₂ rfl rfl))
  have g2 : val_main_v42 (F := Ideal) x3 (ix2 r k) = x3 (ix2 r (⟨2048 + k.val, by have := k.isLt; omega⟩ : Fin 6144)) :=
    (val_main_v42_apply (F := Ideal) x3 _).trans (congrArg x3 (Shape.idx_ext₂ rfl rfl))
  have g3 : val_main_v43 (F := Ideal) x3 (ix2 r k) = x3 (ix2 r (⟨4096 + k.val, by have := k.isLt; omega⟩ : Fin 6144)) :=
    (val_main_v43_apply (F := Ideal) x3 _).trans (congrArg x3 (Shape.idx_ext₂ rfl rfl))
  have y1 : val_main_v7 (F := Ideal) x0 x5 (ix2 r k) = ∑ j : Fin 512, x0 (ix2 r j) * x5 (ix2 j k) :=
    (val_main_v7_apply x0 x5 _).trans (Finset.sum_congr rfl fun j _ =>
      congrArg₂ (· * ·) (congrArg x0 (Shape.idx_ext₂ rfl rfl)) (congrArg x5 (Shape.idx_ext₂ rfl rfl)))
  have y2 : val_main_v39 (F := Ideal) x1 x6 x9 x10 (ix2 r k) = ∑ j : Fin 1024, silu (convNorm x1 x9 x10 r j) * x6 (ix2 j k) :=
    (val_main_v39_apply x1 x6 x9 x10 _).trans (Finset.sum_congr rfl fun j _ =>
      congrArg₂ (· * ·) ((congrArg (val_main_v38 (F := Ideal) x1 x9 x10) (Shape.idx_ext₂ rfl rfl : lidx_main_v39 (ix2 r k) j = ix2 r j)).trans
        (ref_silu x1 x9 x10 r j)) (congrArg x6 (Shape.idx_ext₂ rfl rfl)))
  have y3 : val_main_v40 (F := Ideal) x2 x7 (ix2 r k) = ∑ j : Fin 1024, x2 (ix2 r j) * x7 (ix2 j k) :=
    (val_main_v40_apply x2 x7 _).trans (Finset.sum_congr rfl fun j _ =>
      congrArg₂ (· * ·) (congrArg x2 (Shape.idx_ext₂ rfl rfl)) (congrArg x7 (Shape.idx_ext₂ rfl rfl)))
  rw [val_main_v48_apply, val_main_v46_apply, val_main_v44_apply, val_main_v45_apply, val_main_v47_apply, g1, g2, g3, y1, y2, y3]
  rfl

theorem ref_mergeSum (r : Fin 8192) (k : Fin 2048) :
    val_main_v52 (F := Ideal) x0 x1 x2 x3 x4 x5 x6 x7 x8 x9 x10 (ix2 r k) = mergeSum x0 x1 x2 x3 x4 x5 x6 x7 x8 x9 x10 r k := by
  refine congrArg₂ (· + ·) (congrArg (· * x4 (ix2 r k)) (val_main_v49_apply (F := Ideal) _)) ?_
  refine (val_main_v51_apply x0 x1 x2 x3 x5 x6 x7 x8 x9 x10 _).trans (Finset.sum_congr rfl fun j _ => congrArg₂ (· * ·) ?_ (congrArg x8 (Shape.idx_ext₂ rfl rfl)))
  exact (congrArg (val_main_v48 (F := Ideal) x0 x1 x2 x3 x5 x6 x7 x9 x10) (Shape.idx_ext₂ rfl rfl : lidx_main_v51 (ix2 r k) j = ix2 r j)).trans
    (ref_merged x0 x1 x2 x3 x5 x6 x7 x9 x10 r j)

theorem merge_mean (r : Fin 8192) : val_main_v60 (F := Ideal) x0 x1 x2 x3 x4 x5 x6 x7 x8 x9 x10 (ix2 r (0 : Fin 1))
    = mean 0x45000000#32 (mergeSum x0 x1 x2 x3 x4 x5 x6 x7 x8 x9 x10 r) := by
  refine congrArg₂ Ideal.div ?_ (val_main_v59_apply (F := Ideal) _)
  rw [val_main_v58_apply, val_main_v57_apply, val_main_cst_5_apply]
  refine Eq.trans (congrArg₂ (· + ·) (Ideal.ofBits_zero_f32 : Ideal.ofBits .f32 0x00000000#32 = 0) (Finset.sum_congr rfl fun k _ => ?_)) (zero_add _)
  exact (congrArg (val_main_v52 (F := Ideal) x0 x1 x2 x3 x4 x5 x6 x7 x8 x9 x10)
    (Shape.idx_ext₂ rfl rfl : idx_main_v57 (idx_main_v58 (ix2 r (0 : Fin 1))) k = ix2 r k)).trans (ref_mergeSum x0 x1 x2 x3 x4 x5 x6 x7 x8 x9 x10 r k)

theorem merge_cent (r : Fin 8192) (k : Fin 2048) : val_main_v62 (F := Ideal) x0 x1 x2 x3 x4 x5 x6 x7 x8 x9 x10 (ix2 r k)
    = mergeSum x0 x1 x2 x3 x4 x5 x6 x7 x8 x9 x10 r k - mean 0x45000000#32 (mergeSum x0 x1 x2 x3 x4 x5 x6 x7 x8 x9 x10 r) := by
  have ei : idx_main_v61 (ix2 r k) = ix2 r (0 : Fin 1) := Shape.idx_ext₂ rfl rfl
  rw [val_main_v62_apply, val_main_v61_apply, ei, merge_mean, ref_mergeSum]
  rfl

theorem merge_var (r : Fin 8192) : val_main_v67 (F := Ideal) x0 x1 x2 x3 x4 x5 x6 x7 x8 x9 x10 (ix2 r (0 : Fin 1))
    = mean 0x45000000#32 (fun k => (mergeSum x0 x1 x2 x3 x4 x5 x6 x7 x8 x9 x10 r k - mean 0x45000000#32 (mergeSum x0 x1 x2 x3 x4 x5 x6 x7 x8 x9 x10 r))
      * (mergeSum x0 x1 x2 x3 x4 x5 x6 x7 x8 x9 x10 r k - mean 0x45000000#32 (mergeSum x0 x1 x2 x3 x4 x5 x6 x7 x8 x9 x10 r))) := by
  refine congrArg₂ Ideal.div ?_ (val_main_v66_apply (F := Ideal) _)
  rw [val_main_v65_apply, val_main_v64_apply, val_main_cst_7_apply]
  refine Eq.trans (congrArg₂ (· + ·) (Ideal.ofBits_zero_f32 : Ideal.ofBits .f32 0x00000000#32 = 0) (Finset.sum_congr rfl fun k _ => ?_)) (zero_add _)
  refine (congrArg (val_main_v63 (F := Ideal) x0 x1 x2 x3 x4 x5 x6 x7 x8 x9 x10)
    (Shape.idx_ext₂ rfl rfl : idx_main_v64 (idx_main_v65 (ix2 r (0 : Fin 1))) k = ix2 r k)).trans ?_
  exact congrArg₂ (· * ·) (merge_cent x0 x1 x2 x3 x4 x5 x6 x7 x8 x9 x10 r k) (merge_cent x0 x1 x2 x3 x4 x5 x6 x7 x8 x9 x10 r k)

theorem ref_merge : val_main_v80 (F := Ideal) x0 x1 x2 x3 x4 x5 x6 x7 x8 x9 x10 x11 x12 = mergeVal x0 x1 x2 x3 x4 x5 x6 x7 x8 x9 x10 x11 x12 := by
  funext i
  obtain ⟨r, k, rfl⟩ : ∃ (r : Fin 8192) (k : Fin 2048), i = ix2 r k := ⟨i 0, i 1, Shape.idx_ext₂ rfl rfl⟩
  have e1 : idx_main_v68 (ix2 r k) = ix2 r (0 : Fin 1) := Shape.idx_ext₂ rfl rfl
  have e2 : idx_main_v73 (ix2 r k) = ix2 r (0 : Fin 1) := Shape.idx_ext₂ rfl rfl
  have e3 : idx_main_v53 (idx_main_v54 (idx_main_v75 (idx_main_v76 (ix2 r k)))) = ix2 (0 : Fin 2) k :=
    Shape.idx_ext₂ rfl (Nat.mod_eq_of_lt k.isLt)
  have e4 : idx_main_v55 (idx_main_v56 (idx_main_v78 (idx_main_v79 (ix2 r k)))) = ix2 (0 : Fin 2) k :=
    Shape.idx_ext₂ rfl (Nat.mod_eq_of_lt k.isLt)
  rw [val_main_v80_apply, val_main_v77_apply, val_main_v74_apply, val_main_v69_apply, val_main_v68_apply, val_main_v73_apply,
    val_main_v72_apply, val_main_v76_apply, val_main_v75_apply, val_main_v54_apply, val_main_v53_apply, val_main_v79_apply,
    val_main_v78_apply, val_main_v56_apply, val_main_v55_apply, e1, e2, e3, e4, val_main_v71_apply, val_main_v70_apply,
    merge_mean, merge_var, ref_mergeSum]
  rfl

theorem ref_merge' : val_main_v81 (F := Ideal) x0 x1 x2 x3 x4 x5 x6 x7 x8 x9 x10 x11 x12 = mergeVal x0 x1 x2 x3 x4 x5 x6 x7 x8 x9 x10 x11 x12 :=
  ref_merge x0 x1 x2 x3 x4 x5 x6 x7 x8 x9 x10 x11 x12

theorem conv_of_pre (hp : Cert.Pre_no_conv_norm_is_minus_infinity.fn (F := Ideal) x0 x1 x2 x3 x4 x5 x6 x7 x8 x9 x10 x11 x12 = fun _ => 1#1)
    (r : Fin 8192) (k : Fin 1024) : convNorm x1 x9 x10 r k ≠ ⊥ := by
  have h : Ideal.cmp .ogt (val_main_v37 (F := Ideal) x1 x9 x10 (ix2 r k)) (Ideal.ofBits .f32 0xFF800000#32) = 1#1 := congrFun hp (ix2 r k)
  rw [ref_conv] at h
  intro e
  have hb : Ideal.ofBits .f32 0xFF800000#32 = (⊥ : EReal) := by simp [Ideal.ofBits, Ideal.ieee]
  rw [e, hb] at h
  have hn : ¬ (⊥ : EReal) > ⊥ := lt_irrefl _
  simp only [Ideal.cmp, decide_eq_false hn] at h
  exact absurd h (by decide)

end Cert.Dense
-- ==== Proof.Dense.Glu.lean ====
module

public import proofs.«01_k».proof.Proof.Dense.Base
public import proofs.«01_k».proof.Proof.Dense.Halves
public import proofs.«01_k».proof.Proof.Gen.ConvGluIdeal.Value
public import proofs.«01_k».proof.Proof.Gen.ConvGluReferenceIdeal.Read
public import Idealize.ShloMosaic.Lib.Pipeline.ValueKit

@[expose] public section

set_option maxRecDepth 16384

noncomputable section

/-! # The convolution branch's gated projection -/

namespace Cert.Dense

open Idealize.ShloMosaic Idealize.ShloMosaic.ValueIdx

/-- The gated product of every token, its 1024 channels by blocks of 128: the values are columns 4608 to 5631 of the
weights, the gates columns 5632 to 6655. -/
def gluVal (X : (Mat 8192 2048).Idx → EReal) (W : (Stack 2 2048 14848).Idx → EReal) : (Stack 8 8192 128).Idx → EReal := fun i =>
  have h0 : (i 0).val < 8 := (i 0).isLt
  have h2 : (i 2).val < 128 := (i 2).isLt
  colDot X W (i 1) ⟨4608 + ((i 0).val * 128 + (i 2).val), by omega⟩
    * Ideal.logistic (colDot X W (i 1) ⟨5632 + ((i 0).val * 128 + (i 2).val), by omega⟩)

section Kernel

open Idealize.ShloMosaic.TcCoe Cert.ConvGluIdeal Cert.ConvGluIdeal.Gen

theorem gluDot : RowDot dot_S1024x2048_S2048x1024_S1024x1024_1_0_0_1_n_n where
  rank := rfl
  size := fun _ => rfl
  lhs := fun i q _ => ⟨by unfold DotDims.lhsIdx; rw [dif_neg (by decide), dif_pos (by decide)]; rfl, DotDims.lhsIdx_val_of_single _ rfl i q⟩
  rhs := fun i q _ => ⟨DotDims.rhsIdx_val_of_single _ rfl i q, by unfold DotDims.rhsIdx; rw [dif_neg (by decide), dif_pos (by decide)]; rfl⟩

/-- The staged weights: 512 value columns, then 512 halved gate columns. -/
def columns (u g : Vec Ideal S1x2048x512 .f32) : Vec Ideal S2048x1024 .bf16 :=
  View.canon [⟨Rect.unit ![0, 512] ![2048, 512] inb_S2048x1024_S2048x512_0_512, k0_pay3 g⟩,
    ⟨Rect.unit ![0, 0] ![2048, 512] inb_S2048x1024_S2048x512_0_0, k0_pay2 u⟩]

theorem columns_gate (u g : Vec Ideal S1x2048x512 .f32) (j : Fin 2048) (k : Fin 1024) (k' : Fin 512) (hk : k.val = 512 + k'.val) :
    columns u g (ValueIdx.ix2 j k) = g (ValueIdx.ix3 (0 : Fin 1) j k') * Ideal.ofBits .f32 0x3F000000#32 := by
  unfold columns
  canon_tiles x h
  · have h0' : j.val = (x 0).val := h0
    have h1' : k.val = 512 + (x 1).val := h1
    rw [show x = ValueIdx.ix2 j k' from Shape.idx_ext₂ h0'.symm (by show (x 1).val = k'.val; omega)]
    unfold k0_pay3
    refine (shapeCast_apply _ _ _ (ValueIdx.ix2 j k') rfl).trans ?_
    exact congrArg (· * Ideal.ofBits .f32 0x3F000000#32) (drop_apply g shapeCasts_S1x2048x512_S2048x512 j k')
  · exfalso
    have h1' : k.val = (x 1).val := h1
    have : (x 1).val < 512 := (x 1).isLt
    omega

theorem columns_value (u g : Vec Ideal S1x2048x512 .f32) (j : Fin 2048) (k : Fin 1024) (k' : Fin 512) (hk : k.val = k'.val) :
    columns u g (ValueIdx.ix2 j k) = u (ValueIdx.ix3 (0 : Fin 1) j k') := by
  unfold columns
  have hk' := k'.isLt
  canon_tiles x h
  · exfalso
    have h1' : k.val = 512 + (x 1).val := h1
    omega
  · have h0' : j.val = (x 0).val := h0
    have h1' : k.val = (x 1).val := h1
    rw [show x = ValueIdx.ix2 j k' from Shape.idx_ext₂ h0'.symm (h1'.symm.trans hk)]
    unfold k0_pay2
    refine (shapeCast_apply _ _ _ (ValueIdx.ix2 j k') rfl).trans ?_
    exact drop_apply u shapeCasts_S1x2048x512_S2048x512 j k'

/-- The gated product of a block of 1024 tokens for 512 columns. -/
theorem glu_block (x : Vec Ideal S1024x2048 .bf16) (u g : Vec Ideal S1x2048x512 .f32) (r : Fin 1024) (k : Fin 512)
    {P Q : EReal} (hP : ∑ j : Fin 2048, x (ValueIdx.ix2 r j) * u (ValueIdx.ix3 (0 : Fin 1) j k) = P)
    (hQ : ∑ j : Fin 2048, x (ValueIdx.ix2 r j) * g (ValueIdx.ix3 (0 : Fin 1) j k) = Q) :
    k0_pay4 x (columns u g) (ValueIdx.ix2 r k) = P * Ideal.logistic Q := by
  subst hP hQ
  have hk := k.isLt
  let M : FVec Ideal S1024x1024 .f32 := matmul (φ₁ := .bf16) (φ₂ := .bf16) dot_S1024x2048_S2048x1024_S1024x1024_1_0_0_1_n_n none x (columns u g)
    (constant S1024x1024 .f32 0x00000000#32)
  have e1 : extractStridedSlice S1024x512 ![0, 0] M slices_S1024x1024_o0_0_S1024x512 (ValueIdx.ix2 r k)
      = ∑ j : Fin 2048, x (ValueIdx.ix2 r j) * u (ValueIdx.ix3 (0 : Fin 1) j k) := by
    refine (extractStridedSlice_apply _ _ _ _ (ValueIdx.ix2 r (⟨k.val, by omega⟩ : Fin 1024)) (fun a => by
      match a with
      | ⟨0, _⟩ => exact (Nat.zero_add _).symm
      | ⟨1, _⟩ => exact (Nat.zero_add _).symm)).trans ?_
    refine (gluDot.matmul_apply (φ := .bf16) (ψ := .bf16) x (columns u g) r _).trans ?_
    exact Finset.sum_congr rfl fun j _ => congrArg (x (ValueIdx.ix2 r j) * ·) (columns_value u g j _ k rfl)
  have e2 : extractStridedSlice S1024x512 ![0, 512] M slices_S1024x1024_o0_512_S1024x512 (ValueIdx.ix2 r k)
      = ((1 / 2 : ℝ) : EReal) * ∑ j : Fin 2048, x (ValueIdx.ix2 r j) * g (ValueIdx.ix3 (0 : Fin 1) j k) := by
    refine (extractStridedSlice_apply _ _ _ _ (ValueIdx.ix2 r (⟨512 + k.val, by omega⟩ : Fin 1024)) (fun a => by
      match a with
      | ⟨0, _⟩ => exact (Nat.zero_add _).symm
      | ⟨1, _⟩ => rfl)).trans ?_
    refine (gluDot.matmul_apply (φ := .bf16) (ψ := .bf16) x (columns u g) r _).trans ?_
    rw [← sum_half, ← half_word]
    exact Finset.sum_congr rfl fun j _ => congrArg (x (ValueIdx.ix2 r j) * ·) (columns_gate u g j _ k rfl)
  rw [← half_logistic]
  show extractStridedSlice S1024x512 ![0, 0] M slices_S1024x1024_o0_0_S1024x512 (ValueIdx.ix2 r k)
    * (Ideal.ofBits .f32 0x3F000000#32 * Ideal.tanh (extractStridedSlice S1024x512 ![0, 512] M slices_S1024x1024_o0_512_S1024x512 (ValueIdx.ix2 r k))
      + Ideal.ofBits .f32 0x3F000000#32) = _
  rw [e1, e2, half_word]

/-- What a point stores: four blocks of 128 columns. -/
def slabs (x : Vec Ideal S1024x2048 .bf16) (w : Vec Ideal S2048x1024 .bf16) : Vec Ideal S4x1024x128 .bf16 :=
  View.canon [⟨Rect.unit ![3, 0, 0] ![1, 1024, 128] inb_S4x1024x128_S1x1024x128_3_0_0, k0_pay1 (k0_pay8 x w)⟩,
    ⟨Rect.unit ![2, 0, 0] ![1, 1024, 128] inb_S4x1024x128_S1x1024x128_2_0_0, k0_pay7 x w⟩,
    ⟨Rect.unit ![1, 0, 0] ![1, 1024, 128] inb_S4x1024x128_S1x1024x128_1_0_0, k0_pay6 x w⟩,
    ⟨Rect.unit ![0, 0, 0] ![1, 1024, 128] inb_S4x1024x128_S1x1024x128_0_0_0, k0_pay5 x w⟩]

/-- One block of 128 columns read at an index. -/
theorem slab_apply (M : FVec Ideal S1024x512 .f32) (o : ℕ) (h : S1024x512.Slices ![0, o] S1024x128) (x : S1x1024x128.Idx)
    (r : Fin 1024) (q : Fin 512) (hr : r.val = (x 1).val) (hq : q.val = o + (x 2).val) :
    shapeCast S1x1024x128 (truncf .bf16 (extractStridedSlice S1024x128 ![0, o] M h) bitsLt_bf16_f32 : FVec Ideal S1024x128 .bf16)
      shapeCasts_S1024x128_S1x1024x128 x = M (ValueIdx.ix2 r q) := by
  have hx : (x 0).val < 1 := (x 0).isLt
  obtain ⟨k, hk⟩ : ∃ k : Fin 128, k = x 2 := ⟨x 2, rfl⟩
  refine (shapeCast_apply _ _ _ (ValueIdx.ix2 r k) (by
    rw [Shape.rowMajor_val_three, Shape.rowMajor_val_two]
    subst hk
    show r.val * 128 + (x 2).val = ((x 0).val * 1024 + (x 1).val) * 128 + (x 2).val
    omega)).trans ?_
  show extractStridedSlice S1024x128 ![0, o] M h (ValueIdx.ix2 r k) = _
  refine extractStridedSlice_apply _ _ _ _ (ValueIdx.ix2 r q) (fun a => ?_)
  subst hk
  match a with
  | ⟨0, _⟩ => exact (Nat.zero_add _).symm
  | ⟨1, _⟩ => exact hq

theorem slabs_apply (x : Vec Ideal S1024x2048 .bf16) (w : Vec Ideal S2048x1024 .bf16) (n : Fin 4) (r : Fin 1024) (k : Fin 128)
    (q : Fin 512) (hq : q.val = n.val * 128 + k.val) : slabs x w (ValueIdx.ix3 n r k) = k0_pay4 x w (ValueIdx.ix2 r q) := by
  have low : ∀ y : S1x1024x128.Idx, (y 0).val < 1 := fun y => (y 0).isLt
  unfold slabs
  canon_tiles y h
  · have h0' : n.val = 3 + (y 0).val := h0
    have h1' : r.val = (y 1).val := h1
    have h2' : k.val = (y 2).val := h2
    exact slab_apply (k0_pay4 x w) 384 slices_S1024x512_o0_384_S1024x128 y r q h1' (by have := low y; omega)
  · have h0' : n.val = 2 + (y 0).val := h0
    have h1' : r.val = (y 1).val := h1
    have h2' : k.val = (y 2).val := h2
    exact slab_apply (k0_pay4 x w) 256 slices_S1024x512_o0_256_S1024x128 y r q h1' (by have := low y; omega)
  · have h0' : n.val = 1 + (y 0).val := h0
    have h1' : r.val = (y 1).val := h1
    have h2' : k.val = (y 2).val := h2
    exact slab_apply (k0_pay4 x w) 128 slices_S1024x512_o0_128_S1024x128 y r q h1' (by have := low y; omega)
  · have h0' : n.val = (y 0).val := h0
    have h1' : r.val = (y 1).val := h1
    have h2' : k.val = (y 2).val := h2
    exact slab_apply (k0_pay4 x w) 0 slices_S1024x512_o0_0_S1024x128 y r q h1' (by have := low y; omega)

variable (m : (ℓ : Loc nD τ sig) → Buf (Elt Ideal) ℓ)

theorem glu_index : ∀ t : Fin grid0.N, win0_0.index t = ![t.val % 8, 0] ∧ win0_1.index t = ![0, 0, t.val / 8 + 9]
    ∧ win0_2.index t = ![0, 0, t.val / 8 + 11] ∧ win0_3.index t = ![t.val / 8, t.val % 8, 0] := by decide +kernel

/-- At a point that does not stage, the weights are those of the point before. -/
theorem same_columns (c : Dev nD) (t s : Fin cfg0.N) (h : t.val / 8 = s.val / 8) :
    iblk m c 1 t = iblk m c 1 s ∧ iblk m c 2 t = iblk m c 2 s := by
  obtain ⟨-, e1, e2, -⟩ := glu_index t
  obtain ⟨-, f1, f2, -⟩ := glu_index s
  constructor <;> (funext y; blk_ext [iblk, V, e1, e2, f1, f2, h])

/-- The staged weights are those of the point's column block. -/
theorem columns_at (c : Dev nD) : ∀ (n : ℕ) (t : Fin cfg0.N), t.val = n → (outsAt0 m c t.val t.isLt).2 = columns (iblk m c 1 t) (iblk m c 2 t) := by
  intro n
  induction n with
  | zero =>
    intro t ht
    rw [outsAt0_A m c t (by omega)]
    frame_out
  | succ n ih =>
    intro t ht
    by_cases h : t.val % 8 = 0
    · rw [outsAt0_A m c t h]
      frame_out
    · have hs := ih ⟨t.val - 1, by have := t.isLt; omega⟩ (by show t.val - 1 = n; omega)
      obtain ⟨b1, b2⟩ := same_columns m c t ⟨t.val - 1, by have := t.isLt; omega⟩ (by show t.val / 8 = (t.val - 1) / 8; omega)
      rw [outsAt0_B m c t h, b1, b2]
      unfold sout0_B_0
      exact hs

theorem glu_out (c : Dev nD) (t : Fin cfg0.N) : (outsAt0 m c t.val t.isLt).1 = slabs (iblk m c 0 t) (columns (iblk m c 1 t) (iblk m c 2 t)) := by
  by_cases h : t.val % 8 = 0
  · rw [outsAt0_A m c t h]
    frame_out
    rw [View.readCov_eq_canon']
    refine congrArg (slabs (iblk m c 0 t)) (funext fun j => ?_)
    exact congrArg (columns (iblk m c 1 t) (iblk m c 2 t)) (funext fun a => Fin.ext (by
      match a with
      | ⟨0, _⟩ => show 0 + 1 * (j 0).val = (j 0).val; omega
      | ⟨1, _⟩ => show 0 + 1 * (j 1).val = (j 1).val; omega))
  · have hs := columns_at m c (t.val - 1) ⟨t.val - 1, by have := t.isLt; omega⟩ rfl
    obtain ⟨b1, b2⟩ := same_columns m c t ⟨t.val - 1, by have := t.isLt; omega⟩ (by show t.val / 8 = (t.val - 1) / 8; omega)
    rw [outsAt0_B m c t h, b1, b2]
    frame_out
    refine congrArg (slabs (iblk m c 0 t)) ?_
    exact (Memref.IsWhole.read_unread _ _).trans hs

theorem glu_iblk (c : Dev nD) (t : Fin cfg0.N) (r : Fin 1024) (k : Fin 512) (i : Fin 8192) (u g : Fin 14848)
    (hi : i.val = t.val % 8 * 1024 + r.val) (hu : u.val = 4608 + (t.val / 8 * 512 + k.val)) (hg : g.val = 5632 + (t.val / 8 * 512 + k.val)) :
    (∀ j : Fin 2048, iblk m c 0 t (ValueIdx.ix2 r j) = m ((c : Thread nD τ).loc main_arg0) (ValueIdx.ix2 i j))
    ∧ (∀ j : Fin 2048, iblk m c 1 t (ValueIdx.ix3 (0 : Fin 1) j k) = m ((c : Thread nD τ).loc main_arg1) (ValueIdx.ix3 (0 : Fin 2) j u))
    ∧ (∀ j : Fin 2048, iblk m c 2 t (ValueIdx.ix3 (0 : Fin 1) j k) = m ((c : Thread nD τ).loc main_arg1) (ValueIdx.ix3 (0 : Fin 2) j g)) := by
  obtain ⟨e0, e1, e2, -⟩ := glu_index t
  refine ⟨fun j => ?_, fun j => ?_, fun j => ?_⟩
  · refine (congrArg (V m c main_arg0) (Shape.idx_ext₂ ?_ ?_)).trans (congrFun (V_main_arg0 m c) (ValueIdx.ix2 i j)) <;> blk_simp [e0, hi]
  · refine (congrArg (V m c main_arg1) (?_ : _ = ValueIdx.ix3 (0 : Fin 2) j u)).trans (congrFun (V_main_arg1 m c) _)
    funext a
    refine Fin.ext ?_
    match a with
    | ⟨0, _⟩ => blk_simp [e1]; rfl
    | ⟨1, _⟩ => blk_simp [e1]
    | ⟨2, _⟩ =>
      blk_simp [e1]
      show _ + k.val = u.val
      omega
  · refine (congrArg (V m c main_arg1) (?_ : _ = ValueIdx.ix3 (0 : Fin 2) j g)).trans (congrFun (V_main_arg1 m c) _)
    funext a
    refine Fin.ext ?_
    match a with
    | ⟨0, _⟩ => blk_simp [e2]; rfl
    | ⟨1, _⟩ => blk_simp [e2]
    | ⟨2, _⟩ =>
      blk_simp [e2]
      show _ + k.val = g.val
      omega

theorem glu_at (c : Dev nD) (t : Fin cfg0.N) (i : (Stack 8 8192 128).Idx) (n : Fin 4) (r : Fin 1024) (k : Fin 128)
    (h0 : (i 0).val = t.val / 8 * 4 + n.val) (h1 : (i 1).val = t.val % 8 * 1024 + r.val) (h2 : (i 2).val = k.val) :
    slabs (iblk m c 0 t) (columns (iblk m c 1 t) (iblk m c 2 t)) (ValueIdx.ix3 n r k)
      = gluVal (m ((c : Thread nD τ).loc main_arg0)) (m ((c : Thread nD τ).loc main_arg1)) i := by
  have hn := n.isLt
  have hk := k.isLt
  have i0 : (i 0).val < 8 := (i 0).isLt
  have i2 : (i 2).val < 128 := (i 2).isLt
  obtain ⟨b0, b1, b2⟩ := glu_iblk m c t r (⟨n.val * 128 + k.val, by omega⟩ : Fin 512) (i 1)
    (⟨4608 + ((i 0).val * 128 + (i 2).val), by omega⟩ : Fin 14848) (⟨5632 + ((i 0).val * 128 + (i 2).val), by omega⟩ : Fin 14848) h1
    (by show 4608 + ((i 0).val * 128 + (i 2).val) = 4608 + (t.val / 8 * 512 + (n.val * 128 + k.val)); omega)
    (by show 5632 + ((i 0).val * 128 + (i 2).val) = 5632 + (t.val / 8 * 512 + (n.val * 128 + k.val)); omega)
  refine (slabs_apply _ _ n r k (⟨n.val * 128 + k.val, by omega⟩ : Fin 512) rfl).trans ?_
  exact glu_block _ _ _ r _ (Finset.sum_congr rfl fun j _ => congrArg₂ (· * ·) (b0 j) (b1 j))
    (Finset.sum_congr rfl fun j _ => congrArg₂ (· * ·) (b0 j) (b2 j))

theorem slab_idx (y : S4x1024x128.Idx) : y = ValueIdx.ix3 (y 0) (y 1) (y 2) := funext fun a => by
  match a with
  | ⟨0, _⟩ => rfl
  | ⟨1, _⟩ => rfl
  | ⟨2, _⟩ => rfl

theorem glu_at' (c : Dev nD) (t : Fin cfg0.N) (i : (Stack 8 8192 128).Idx) (y : S4x1024x128.Idx)
    (h0 : (i 0).val = t.val / 8 * 4 + (y 0).val) (h1 : (i 1).val = t.val % 8 * 1024 + (y 1).val) (h2 : (i 2).val = (y 2).val) :
    slabs (iblk m c 0 t) (columns (iblk m c 1 t) (iblk m c 2 t)) y
      = gluVal (m ((c : Thread nD τ).loc main_arg0)) (m ((c : Thread nD τ).loc main_arg1)) i :=
  (congrArg (slabs (iblk m c 0 t) (columns (iblk m c 1 t) (iblk m c 2 t))) (slab_idx y)).trans (glu_at m c t i (y 0) (y 1) (y 2) h0 h1 h2)

/-- The result after the run: the gated product. -/
theorem glu_final (c : Dev nD) : (dats m 0 c).arrAt 3 cfg0.N
    = gluVal (m ((c : Thread nD τ).loc main_arg0)) (m ((c : Thread nD τ).loc main_arg1)) := by
  refine (dats m 0 c).arrAt_eq_of_covers 3 _ (by decide +kernel) fun t hf y => ?_
  obtain ⟨-, -, -, e3⟩ := glu_index t
  refine (congrFun ((after0_3 m c t).trans (glu_out m c t)) y).trans ?_
  refine glu_at' m c t _ y ?_ ?_ ?_
  · blk_simp [e3]
  · blk_simp [e3]
  · blk_simp [e3]

end Kernel

section Reference

open Cert.ConvGluReferenceIdeal Cert.ConvGluReferenceIdeal.Gen Cert.ConvGluReferenceIdeal.Read

variable (x0 : (Mat 8192 2048).Idx → EReal) (x1 : (Stack 2 2048 14848).Idx → EReal)

theorem ref_columns (r : Fin 8192) (k : Fin 2048) :
    val_main_v3 (F := Ideal) x0 x1 (ValueIdx.ix2 r k) = colDot x0 x1 r (⟨4608 + k.val, by have := k.isLt; omega⟩ : Fin 14848) := by
  rw [val_main_v3_apply]
  refine Finset.sum_congr rfl fun j _ => congrArg₂ (· * ·) (congrArg x0 (Shape.idx_ext₂ rfl rfl)) ?_
  rw [val_main_v2_apply, val_main_v1_apply]
  refine congrArg x1 (funext fun a => Fin.ext ?_)
  have hk := k.isLt
  have hj := j.isLt
  match a with
  | ⟨0, _⟩ => rfl
  | ⟨1, _⟩ => show (j.val * 2048 + k.val) / 2048 % 2048 = j.val; omega
  | ⟨2, _⟩ => show 4608 + (j.val * 2048 + k.val) % 2048 = 4608 + k.val; omega

theorem ref_product (r : Fin 8192) (k : Fin 1024) : val_main_v12 (F := Ideal) x0 x1 (ValueIdx.ix2 r k)
    = colDot x0 x1 r (⟨4608 + k.val, by have := k.isLt; omega⟩ : Fin 14848)
      * Ideal.logistic (colDot x0 x1 r (⟨5632 + k.val, by have := k.isLt; omega⟩ : Fin 14848)) := by
  have hk := k.isLt
  have e4 : idx_main_v4 (ValueIdx.ix2 r k) = ValueIdx.ix2 r (⟨k.val, by omega⟩ : Fin 2048) := Shape.idx_ext₂ rfl rfl
  have e5 : idx_main_v5 (ValueIdx.ix2 r k) = ValueIdx.ix2 r (⟨1024 + k.val, by omega⟩ : Fin 2048) := Shape.idx_ext₂ rfl rfl
  have eg : (⟨4608 + (1024 + k.val), by omega⟩ : Fin 14848) = ⟨5632 + k.val, by omega⟩ := Fin.ext (by show 4608 + (1024 + k.val) = 5632 + k.val; omega)
  rw [val_main_v12_apply, val_main_v11_apply, val_main_v10_apply, val_main_v9_apply, val_main_v8_apply, val_main_v7_apply,
    val_main_v6_apply, val_main_v5_apply, val_main_v4_apply, val_main_cst_apply, val_main_cst_0_apply, e4, e5, ref_columns, ref_columns, eg]
  show _ * Ideal.div (Ideal.ofBits .f32 0x3F800000#32) (Ideal.ofBits .f32 0x3F800000#32 + Ideal.exp (-colDot x0 x1 r _)) = _
  rw [one_word]
  rfl

theorem ref_glu : val_main_v15 (F := Ideal) x0 x1 = gluVal x0 x1 := by
  funext i
  have h0 : (i 0).val < 8 := (i 0).isLt
  have h1 : (i 1).val < 8192 := (i 1).isLt
  have h2 : (i 2).val < 128 := (i 2).isLt
  have ei : idx_main_v13 (idx_main_v14 i) = ValueIdx.ix2 (i 1) (⟨(i 0).val * 128 + (i 2).val, by omega⟩ : Fin 1024) :=
    Shape.idx_ext₂ (by show (((i 1).val * 8 + (i 0).val) * 128 + (i 2).val) / 1024 = (i 1).val; omega)
      (by show (((i 1).val * 8 + (i 0).val) * 128 + (i 2).val) % 1024 = (i 0).val * 128 + (i 2).val; omega)
  rw [val_main_v15_apply, val_main_v14_apply, val_main_v13_apply, ei]
  exact ref_product x0 x1 (i 1) _

end Reference

end Cert.Dense
-- ==== Proof.Dense.Rotary.lean ====
module

public import proofs.«01_k».proof.Proof.Dense.Base
public import proofs.«01_k».proof.Proof.Dense.Halves
public import Idealize.ShloMosaic.Lib.Pipeline.ValueKit

@[expose] public section

noncomputable section

/-! # Rotary positions, and the queries, keys and values of one group

Both sides of the projections' claim are the same rows: three parts of 512 columns, four heads of 128 lanes each, the first
32 lanes of a query's or a key's head turned by the position's angles, and the queries over the square root of 128. -/

namespace Cert.Dense

open Idealize.ShloMosaic Idealize.ShloMosaic.ValueIdx

/-- A head with its first 32 lanes turned: lane `k` and lane `16 + k` are the two coordinates of the `k`th plane. -/
def turned (f : Fin 128 → EReal) (co si : Fin 16 → EReal) (d : Fin 128) : EReal :=
  if h : d.val < 16 then f d * co ⟨d.val, h⟩ - f ⟨16 + d.val, by omega⟩ * si ⟨d.val, h⟩
  else if h' : d.val < 32 then f d * co ⟨d.val - 16, by omega⟩ + f ⟨d.val - 16, by omega⟩ * si ⟨d.val - 16, by omega⟩
  else f d

/-- One row of queries, keys and values, from the row `p` of the product. -/
def qkvRow (p : Fin 1536 → EReal) (co si : Fin 16 → EReal) (C : Fin 1536) : EReal :=
  let head : Fin 128 → EReal := fun d => p ⟨C.val / 128 * 128 + d.val, by have := C.isLt; have := d.isLt; omega⟩
  let lane : Fin 128 := ⟨C.val % 128, by omega⟩
  if C.val < 512 then turned head co si lane * (((Real.sqrt 128)⁻¹ : ℝ) : EReal)
  else if C.val < 1024 then turned head co si lane else p C

/-- The weights' column of a column of the row: the parts are 1536 columns apart. -/
def qkvCol (C : Fin 1536) : Fin 14848 := ⟨C.val / 512 * 1536 + C.val % 512, by have := C.isLt; omega⟩

/-- The position's cosines and sines, from the rows of the tables. -/
def cosAt (c : (Mat 2048 128).Idx → EReal) (r : Fin 2048) (k : Fin 16) : EReal := c (ValueIdx.ix2 r (⟨k.val, by have := k.isLt; omega⟩ : Fin 128))

def sinAt (hi : (Mat 2048 128).Idx → EReal) (r : Fin 2048) (k : Fin 16) : EReal := hi (ValueIdx.ix2 r (⟨16 + k.val, by have := k.isLt; omega⟩ : Fin 128))

/-- The position of a token in its sequence. -/
def posOf (R : Fin 8192) : Fin 2048 := ⟨R.val % 2048, by omega⟩

/-- The queries, keys and values of every token. -/
def qkvVal (X : (Mat 8192 2048).Idx → EReal) (W : (Stack 2 2048 14848).Idx → EReal) (c hi : (Mat 2048 128).Idx → EReal) :
    (Mat 8192 1536).Idx → EReal := fun i =>
  qkvRow (fun C => colDot X W (i 0) (qkvCol C)) (cosAt c (posOf (i 0))) (sinAt hi (posOf (i 0))) (i 1)

/-- What the rows of the three tables are: cosines twice, then ones; minus sines, then zeros; zeros, sines, then zeros. -/
structure RotaryRow (c lo hi : Fin 128 → EReal) (co si : Fin 16 → EReal) : Prop where
  fst : ∀ (d : Fin 128) (h : d.val < 16), c d = co ⟨d.val, h⟩ ∧ lo d = -si ⟨d.val, h⟩ ∧ hi d = 0
  snd : ∀ (d : Fin 128) (_ : ¬ d.val < 16) (h : d.val < 32), c d = co ⟨d.val - 16, by omega⟩ ∧ lo d = 0 ∧ hi d = si ⟨d.val - 16, by omega⟩
  rest : ∀ (d : Fin 128), ¬ d.val < 16 → ¬ d.val < 32 → c d = 1 ∧ lo d = 0 ∧ hi d = 0

/-- The three products of a lane add up to the turned lane. -/
theorem RotaryRow.turned_eq {c lo hi : Fin 128 → EReal} {co si : Fin 16 → EReal} (T : RotaryRow c lo hi co si) (f : Fin 128 → EReal)
    (d : Fin 128) {a b : EReal} (ha : ∀ h : d.val < 16, a = f ⟨16 + d.val, by omega⟩)
    (hb : ∀ _ : ¬ d.val < 16, ∀ h : d.val < 32, b = f ⟨d.val - 16, by omega⟩) :
    f d * c d + a * lo d + b * hi d = turned f co si d := by
  unfold turned
  by_cases h : d.val < 16
  · obtain ⟨e1, e2, e3⟩ := T.fst d h
    rw [dif_pos h, e1, e2, e3, ha h, mul_zero, add_zero, mul_neg, ← sub_eq_add_neg]
  · by_cases h' : d.val < 32
    · obtain ⟨e1, e2, e3⟩ := T.snd d h h'
      rw [dif_neg h, dif_pos h', e1, e2, e3, hb h h', mul_zero, add_zero]
    · obtain ⟨e1, e2, e3⟩ := T.rest d h h'
      rw [dif_neg h, dif_neg h', e1, e2, e3, mul_zero, mul_zero, add_zero, add_zero, mul_one]

end Cert.Dense
-- ==== Proof.Dense.Qkv.lean ====
module

public import proofs.«01_k».proof.Proof.Dense.Rotary
public import proofs.«01_k».proof.Proof.Gen.QkvFirstIdeal.Value
public import Idealize.ShloMosaic.Lib.KernelVsHost

@[expose] public section

set_option maxRecDepth 16384

noncomputable section

/-! # The projections of the first group of heads -/

namespace Cert.Dense

open Idealize.ShloMosaic Idealize.ShloMosaic.ValueIdx Idealize.ShloMosaic.TcCoe Cert.QkvFirstIdeal Cert.QkvFirstIdeal.Gen

theorem qkvDot : RowDot dot_S1024x2048_S2048x1536_S1024x1536_1_0_0_1_n_n where
  rank := rfl
  size := fun _ => rfl
  lhs := fun i q _ => ⟨by unfold DotDims.lhsIdx; rw [dif_neg (by decide), dif_pos (by decide)]; rfl, DotDims.lhsIdx_val_of_single _ rfl i q⟩
  rhs := fun i q _ => ⟨DotDims.rhsIdx_val_of_single _ rfl i q, by unfold DotDims.rhsIdx; rw [dif_neg (by decide), dif_pos (by decide)]; rfl⟩

/-- The word of the queries' scale is named the real it rounds. -/
theorem scale_word : Named.named (F := Ideal) Cert.QkvFirstIdeal.κ "scale" (φ := .f32) 0x3DB504F3#32 = (((Real.sqrt 128)⁻¹ : ℝ) : EReal) :=
  IdealRules.named_const.ideal_named_scalar _ _ _ _ rfl

/-- The staged weights: the columns of the queries, the keys and the values. -/
def parts (u v w : Vec Ideal S1x2048x512 .f32) : Vec Ideal S2048x1536 .bf16 :=
  View.canon [⟨Rect.unit ![0, 1024] ![2048, 512] inb_S2048x1536_S2048x512_0_1024, k0_pay3 w⟩,
    ⟨Rect.unit ![0, 512] ![2048, 512] inb_S2048x1536_S2048x512_0_512, k0_pay2 v⟩,
    ⟨Rect.unit ![0, 0] ![2048, 512] inb_S2048x1536_S2048x512_0_0, k0_pay1 u⟩]

theorem part_apply (u : Vec Ideal S1x2048x512 .f32) (x : S2048x512.Idx) (j : Fin 2048) (hj : j.val = (x 0).val) :
    k0_pay1 u x = u (ValueIdx.ix3 (0 : Fin 1) j (x 1)) := by
  obtain ⟨k, hk⟩ : ∃ k : Fin 512, k = x 1 := ⟨x 1, rfl⟩
  rw [← hk, show x = ValueIdx.ix2 j k from Shape.idx_ext₂ hj.symm (by rw [hk])]
  unfold k0_pay1
  refine (shapeCast_apply _ _ _ (ValueIdx.ix2 j k) rfl).trans ?_
  exact drop_apply u shapeCasts_S1x2048x512_S2048x512 j k

theorem parts_apply (u v w : Vec Ideal S1x2048x512 .f32) (j : Fin 2048) (C : Fin 1536) (y : EReal)
    (hu : ∀ k : Fin 512, C.val = k.val → u (ValueIdx.ix3 (0 : Fin 1) j k) = y)
    (hv : ∀ k : Fin 512, C.val = 512 + k.val → v (ValueIdx.ix3 (0 : Fin 1) j k) = y)
    (hw : ∀ k : Fin 512, C.val = 1024 + k.val → w (ValueIdx.ix3 (0 : Fin 1) j k) = y) : parts u v w (ValueIdx.ix2 j C) = y := by
  unfold parts
  canon_tiles x h
  · exact (part_apply w x j h0).trans (hw (x 1) h1)
  · exact (part_apply v x j h0).trans (hv (x 1) h1)
  · exact (part_apply u x j h0).trans (hu (x 1) h1)

/-- A block of heads turned: its lanes times the cosines, and the lanes 16 above and 16 below times the two tables of sines. -/
def turn (M c lo hi : FVec Ideal S1024x128 .f32) : FVec Ideal S1024x128 .f32 :=
  addf (addf (mulf M c) (mulf (dynamicRotate 1 112#32 none M rotates_S1024x128_d1) lo))
    (mulf (dynamicRotate 1 16#32 none M rotates_S1024x128_d1) hi)

theorem turn_apply (M c lo hi : FVec Ideal S1024x128 .f32) (r : Fin 1024) (d : Fin 128) (co si : Fin 16 → EReal)
    (T : RotaryRow (fun d => c (ValueIdx.ix2 r d)) (fun d => lo (ValueIdx.ix2 r d)) (fun d => hi (ValueIdx.ix2 r d)) co si) :
    turn M c lo hi (ValueIdx.ix2 r d) = turned (fun d => M (ValueIdx.ix2 r d)) co si d := by
  unfold turn
  refine T.turned_eq (fun d => M (ValueIdx.ix2 r d)) d (fun h => ?_) (fun h h' => ?_)
  · refine dynamicRotate_apply _ _ _ _ _ (ValueIdx.ix2 r (⟨16 + d.val, by omega⟩ : Fin 128)) (fun b => ?_)
    match b with
    | ⟨0, _⟩ => rfl
    | ⟨1, _⟩ =>
      show 16 + d.val = (d.val + 128 - 112 % 128) % 128
      omega
  · refine dynamicRotate_apply _ _ _ _ _ (ValueIdx.ix2 r (⟨d.val - 16, by omega⟩ : Fin 128)) (fun b => ?_)
    match b with
    | ⟨0, _⟩ => rfl
    | ⟨1, _⟩ =>
      show d.val - 16 = (d.val + 128 - 16 % 128) % 128
      omega

section Pieces

variable (A : FVec Ideal S1024x1536 .f32) (c lo hi : FVec Ideal S1024x128 .f32) (co si : Fin 16 → EReal) (r : Fin 1024)
  (T : RotaryRow (fun d => c (ValueIdx.ix2 r d)) (fun d => lo (ValueIdx.ix2 r d)) (fun d => hi (ValueIdx.ix2 r d)) co si)
  (o : ℕ) (hs : S1024x1536.Slices ![0, o] S1024x128) (x : S1024x128.Idx) (C : Fin 1536)
  (hr : r.val = (x 0).val) (hC : C.val = o + (x 1).val)

include hr hC in
/-- A piece read at an index is the row's entry. -/
theorem plain_piece : extractStridedSlice S1024x128 ![0, o] A hs x = A (ValueIdx.ix2 r C) :=
  extractStridedSlice_apply _ _ _ _ (ValueIdx.ix2 r C) (fun a => by
    match a with
    | ⟨0, _⟩ => exact hr.trans (Nat.zero_add _).symm
    | ⟨1, _⟩ => exact hC)

include T hr hC in
theorem turned_piece (ho : o % 128 = 0) : turn (extractStridedSlice S1024x128 ![0, o] A hs) c lo hi x
    = turned (fun d => A (ValueIdx.ix2 r (⟨C.val / 128 * 128 + d.val, by have := C.isLt; have := d.isLt; omega⟩ : Fin 1536))) co si
      ⟨C.val % 128, by omega⟩ := by
  obtain ⟨d, hd⟩ : ∃ d : Fin 128, d = x 1 := ⟨x 1, rfl⟩
  have hdl := d.isLt
  rw [← hd] at hC
  refine (congrArg (turn _ c lo hi) (Shape.idx_ext₂ hr.symm (by rw [hd]) : x = ValueIdx.ix2 r d)).trans ?_
  rw [turn_apply _ _ _ _ _ _ _ _ T]
  refine congrArg₂ (fun f e => turned f co si e) (funext fun e => ?_) (Fin.ext (by show d.val = C.val % 128; omega))
  exact plain_piece A r o hs (ValueIdx.ix2 r e) _ rfl (by
    show C.val / 128 * 128 + e.val = o + e.val
    omega)

include T hr hC in
theorem query_piece (ho : o % 128 = 0) (hlt : o < 512) :
    mulf (turn (extractStridedSlice S1024x128 ![0, o] A hs) c lo hi)
      (broadcast S1024x128 (Named.named (F := Ideal) Cert.QkvFirstIdeal.κ "scale" (φ := .f32) 0x3DB504F3#32)) x
    = qkvRow (fun C => A (ValueIdx.ix2 r C)) co si C := by
  have hd : (x 1).val < 128 := (x 1).isLt
  unfold qkvRow
  dsimp only
  rw [if_pos (by omega), ← turned_piece A c lo hi co si r T o hs x C hr hC ho, ← scale_word]
  rfl

include T hr hC in
theorem key_piece (ho : o % 128 = 0) (hge : 512 ≤ o) (hlt : o < 1024) :
    turn (extractStridedSlice S1024x128 ![0, o] A hs) c lo hi x = qkvRow (fun C => A (ValueIdx.ix2 r C)) co si C := by
  have hd : (x 1).val < 128 := (x 1).isLt
  unfold qkvRow
  dsimp only
  rw [if_neg (by omega), if_pos (by omega), ← turned_piece A c lo hi co si r T o hs x C hr hC ho]

include hr hC in
theorem value_piece (hge : 1024 ≤ o) :
    extractStridedSlice S1024x128 ![0, o] A hs x = qkvRow (fun C => A (ValueIdx.ix2 r C)) co si C := by
  unfold qkvRow
  dsimp only
  rw [if_neg (by omega), if_neg (by omega)]
  exact plain_piece A r o hs x C hr hC

end Pieces

/-- What a point stores: twelve heads. -/
def heads (x : Vec Ideal S1024x2048 .bf16) (w : Vec Ideal S2048x1536 .bf16) (c lo hi : Vec Ideal S1024x128 .f32) : Vec Ideal S1024x1536 .bf16 :=
  View.canon [⟨Rect.unit ![0, 1408] ![1024, 128] inb_S1024x1536_S1024x128_0_1408, k0_pay19 (k0_pay4 x w)⟩,
    ⟨Rect.unit ![0, 1280] ![1024, 128] inb_S1024x1536_S1024x128_0_1280, k0_pay18 (k0_pay4 x w)⟩,
    ⟨Rect.unit ![0, 1152] ![1024, 128] inb_S1024x1536_S1024x128_0_1152, k0_pay17 (k0_pay4 x w)⟩,
    ⟨Rect.unit ![0, 1024] ![1024, 128] inb_S1024x1536_S1024x128_0_1024, k0_pay16 (k0_pay4 x w)⟩,
    ⟨Rect.unit ![0, 896] ![1024, 128] inb_S1024x1536_S1024x128_0_896, k0_pay15 (k0_pay4 x w) c lo hi⟩,
    ⟨Rect.unit ![0, 768] ![1024, 128] inb_S1024x1536_S1024x128_0_768, k0_pay14 (k0_pay4 x w) c lo hi⟩,
    ⟨Rect.unit ![0, 640] ![1024, 128] inb_S1024x1536_S1024x128_0_640, k0_pay13 hi (k0_pay11 (k0_pay4 x w) c lo) (k0_pay12 (k0_pay4 x w))⟩,
    ⟨Rect.unit ![0, 512] ![1024, 128] inb_S1024x1536_S1024x128_0_512, k0_pay9 (k0_pay4 x w) c lo hi⟩,
    ⟨Rect.unit ![0, 384] ![1024, 128] inb_S1024x1536_S1024x128_0_384, k0_pay8 (k0_pay4 x w) c lo hi⟩,
    ⟨Rect.unit ![0, 256] ![1024, 128] inb_S1024x1536_S1024x128_0_256, k0_pay7 (k0_pay4 x w) c lo hi⟩,
    ⟨Rect.unit ![0, 128] ![1024, 128] inb_S1024x1536_S1024x128_0_128, k0_pay6 x w c lo hi⟩,
    ⟨Rect.unit ![0, 0] ![1024, 128] inb_S1024x1536_S1024x128_0_0, k0_pay5 x w c lo hi⟩]

theorem heads_apply (x : Vec Ideal S1024x2048 .bf16) (w : Vec Ideal S2048x1536 .bf16) (c lo hi : Vec Ideal S1024x128 .f32)
    (co si : Fin 16 → EReal) (r : Fin 1024) (C : Fin 1536)
    (T : RotaryRow (fun d => c (ValueIdx.ix2 r d)) (fun d => lo (ValueIdx.ix2 r d)) (fun d => hi (ValueIdx.ix2 r d)) co si) :
    heads x w c lo hi (ValueIdx.ix2 r C) = qkvRow (fun C => k0_pay4 x w (ValueIdx.ix2 r C)) co si C := by
  unfold heads
  have z : ∀ n : ℕ, n = 0 + n := fun n => (Nat.zero_add n).symm
  canon_tiles y h
  · exact value_piece (k0_pay4 x w) co si r 1408 slices_S1024x1536_o0_1408_S1024x128 y C h0 h1 (by omega)
  · exact value_piece (k0_pay4 x w) co si r 1280 slices_S1024x1536_o0_1280_S1024x128 y C h0 h1 (by omega)
  · exact value_piece (k0_pay4 x w) co si r 1152 slices_S1024x1536_o0_1152_S1024x128 y C h0 h1 (by omega)
  · exact value_piece (k0_pay4 x w) co si r 1024 slices_S1024x1536_o0_1024_S1024x128 y C h0 h1 (by omega)
  · exact key_piece (k0_pay4 x w) c lo hi co si r T 896 slices_S1024x1536_o0_896_S1024x128 y C h0 h1 (by omega) (by omega) (by omega)
  · exact key_piece (k0_pay4 x w) c lo hi co si r T 768 slices_S1024x1536_o0_768_S1024x128 y C h0 h1 (by omega) (by omega) (by omega)
  · exact key_piece (k0_pay4 x w) c lo hi co si r T 640 slices_S1024x1536_o0_640_S1024x128 y C h0 h1 (by omega) (by omega) (by omega)
  · exact key_piece (k0_pay4 x w) c lo hi co si r T 512 slices_S1024x1536_o0_512_S1024x128 y C h0 h1 (by omega) (by omega) (by omega)
  · exact query_piece (k0_pay4 x w) c lo hi co si r T 384 slices_S1024x1536_o0_384_S1024x128 y C h0 h1 (by omega) (by omega)
  · exact query_piece (k0_pay4 x w) c lo hi co si r T 256 slices_S1024x1536_o0_256_S1024x128 y C h0 h1 (by omega) (by omega)
  · exact query_piece (k0_pay4 x w) c lo hi co si r T 128 slices_S1024x1536_o0_128_S1024x128 y C h0 h1 (by omega) (by omega)
  · exact query_piece (k0_pay4 x w) c lo hi co si r T 0 slices_S1024x1536_o0_0_S1024x128 y C h0 (h1.trans (z _)) (by omega) (by omega)

variable (m : (ℓ : Loc nD τ sig) → Buf (Elt Ideal) ℓ)

theorem qkv_index : ∀ t : Fin grid0.N, win0_0.index t = ![t.val, 0] ∧ win0_1.index t = ![0, 0, 0] ∧ win0_2.index t = ![0, 0, 3]
    ∧ win0_3.index t = ![0, 0, 6] ∧ win0_4.index t = ![t.val % 2, 0] ∧ win0_5.index t = ![t.val % 2, 0] ∧ win0_6.index t = ![t.val % 2, 0]
    ∧ win0_7.index t = ![t.val, 0] := by decide +kernel

/-- The weights are the same at every point. -/
theorem same_parts (c : Dev nD) (t s : Fin cfg0.N) :
    iblk m c 1 t = iblk m c 1 s ∧ iblk m c 2 t = iblk m c 2 s ∧ iblk m c 3 t = iblk m c 3 s := by
  obtain ⟨-, e1, e2, e3, -⟩ := qkv_index t
  obtain ⟨-, f1, f2, f3, -⟩ := qkv_index s
  refine ⟨?_, ?_, ?_⟩ <;> (funext y; blk_ext [iblk, V, e1, e2, e3, f1, f2, f3])

/-- The staged weights at every point. -/
theorem parts_at (c : Dev nD) : ∀ (n : ℕ) (t : Fin cfg0.N), t.val = n →
    (outsAt0 m c t.val t.isLt).2 = parts (iblk m c 1 t) (iblk m c 2 t) (iblk m c 3 t) := by
  intro n
  induction n with
  | zero =>
    intro t ht
    rw [outsAt0_A m c t (by omega)]
    frame_out
  | succ n ih =>
    intro t ht
    by_cases h : t.val % 8 = 0
    · rw [outsAt0_A m c t h]
      frame_out
    · have hs := ih ⟨t.val - 1, by have := t.isLt; omega⟩ (by show t.val - 1 = n; omega)
      obtain ⟨b1, b2, b3⟩ := same_parts m c t ⟨t.val - 1, by have := t.isLt; omega⟩
      rw [outsAt0_B m c t h, b1, b2, b3]
      unfold sout0_B_0
      exact hs

theorem qkv_out (c : Dev nD) (t : Fin cfg0.N) : (outsAt0 m c t.val t.isLt).1
    = heads (iblk m c 0 t) (parts (iblk m c 1 t) (iblk m c 2 t) (iblk m c 3 t)) (iblk m c 4 t) (iblk m c 5 t) (iblk m c 6 t) := by
  by_cases h : t.val % 8 = 0
  · rw [outsAt0_A m c t h]
    frame_out
    rw [View.readCov_eq_canon']
    refine congrArg (fun w => heads (iblk m c 0 t) w (iblk m c 4 t) (iblk m c 5 t) (iblk m c 6 t)) (funext fun j => ?_)
    exact congrArg (parts (iblk m c 1 t) (iblk m c 2 t) (iblk m c 3 t)) (funext fun a => Fin.ext (by
      match a with
      | ⟨0, _⟩ => show 0 + 1 * (j 0).val = (j 0).val; omega
      | ⟨1, _⟩ => show 0 + 1 * (j 1).val = (j 1).val; omega))
  · have hs := parts_at m c (t.val - 1) ⟨t.val - 1, by have := t.isLt; omega⟩ rfl
    obtain ⟨b1, b2, b3⟩ := same_parts m c t ⟨t.val - 1, by have := t.isLt; omega⟩
    rw [outsAt0_B m c t h, b1, b2, b3]
    frame_out
    refine congrArg (fun w => heads (iblk m c 0 t) w (iblk m c 4 t) (iblk m c 5 t) (iblk m c 6 t)) ?_
    exact (Memref.IsWhole.read_unread _ _).trans hs

theorem qkv_x (c : Dev nD) (t : Fin cfg0.N) (r : Fin 1024) (i : Fin 8192) (hi : i.val = t.val * 1024 + r.val) (j : Fin 2048) :
    iblk m c 0 t (ValueIdx.ix2 r j) = m ((c : Thread nD τ).loc main_arg0) (ValueIdx.ix2 i j) := by
  obtain ⟨e0, -⟩ := qkv_index t
  refine (congrArg (V m c main_arg0) (Shape.idx_ext₂ ?_ ?_)).trans (congrFun (V_main_arg0 m c) (ValueIdx.ix2 i j)) <;> blk_simp [e0, hi]

theorem qkv_w (c : Dev nD) (t : Fin cfg0.N) (k : Fin 512) (u : Fin 14848) (j : Fin 2048) :
    (u.val = k.val → iblk m c 1 t (ValueIdx.ix3 (0 : Fin 1) j k) = m ((c : Thread nD τ).loc main_arg1) (ValueIdx.ix3 (0 : Fin 2) j u))
    ∧ (u.val = 1536 + k.val → iblk m c 2 t (ValueIdx.ix3 (0 : Fin 1) j k) = m ((c : Thread nD τ).loc main_arg1) (ValueIdx.ix3 (0 : Fin 2) j u))
    ∧ (u.val = 3072 + k.val → iblk m c 3 t (ValueIdx.ix3 (0 : Fin 1) j k) = m ((c : Thread nD τ).loc main_arg1) (ValueIdx.ix3 (0 : Fin 2) j u)) := by
  obtain ⟨-, e1, e2, e3, -⟩ := qkv_index t
  refine ⟨fun hu => ?_, fun hu => ?_, fun hu => ?_⟩ <;>
  · refine (congrArg (V m c main_arg1) (?_ : _ = ValueIdx.ix3 (0 : Fin 2) j u)).trans (congrFun (V_main_arg1 m c) _)
    funext a
    refine Fin.ext ?_
    match a with
    | ⟨0, _⟩ => blk_simp [e1, e2, e3]; rfl
    | ⟨1, _⟩ => blk_simp [e1, e2, e3]
    | ⟨2, _⟩ =>
      blk_simp [e1, e2, e3]
      show _ = u.val
      simp only [ValueIdx.ix3]
      omega

theorem qkv_tables (c : Dev nD) (t : Fin cfg0.N) (r : Fin 1024) (i : Fin 2048) (hi : i.val = t.val % 2 * 1024 + r.val) (d : Fin 128) :
    iblk m c 4 t (ValueIdx.ix2 r d) = m ((c : Thread nD τ).loc main_arg2) (ValueIdx.ix2 i d)
    ∧ iblk m c 5 t (ValueIdx.ix2 r d) = m ((c : Thread nD τ).loc main_arg3) (ValueIdx.ix2 i d)
    ∧ iblk m c 6 t (ValueIdx.ix2 r d) = m ((c : Thread nD τ).loc main_arg4) (ValueIdx.ix2 i d) := by
  obtain ⟨-, -, -, -, e4, e5, e6, -⟩ := qkv_index t
  refine ⟨?_, ?_, ?_⟩
  · refine (congrArg (V m c main_arg2) (Shape.idx_ext₂ ?_ ?_)).trans (congrFun (V_main_arg2 m c) (ValueIdx.ix2 i d)) <;> blk_simp [e4, hi]
  · refine (congrArg (V m c main_arg3) (Shape.idx_ext₂ ?_ ?_)).trans (congrFun (V_main_arg3 m c) (ValueIdx.ix2 i d)) <;> blk_simp [e5, hi]
  · refine (congrArg (V m c main_arg4) (Shape.idx_ext₂ ?_ ?_)).trans (congrFun (V_main_arg4 m c) (ValueIdx.ix2 i d)) <;> blk_simp [e6, hi]

/-- The tables of a device hold the angles' cosines and sines. -/
def Tables (c : Dev nD) : Prop := ∀ r : Fin 2048,
  RotaryRow (fun d => m ((c : Thread nD τ).loc main_arg2) (ValueIdx.ix2 r d)) (fun d => m ((c : Thread nD τ).loc main_arg3) (ValueIdx.ix2 r d))
    (fun d => m ((c : Thread nD τ).loc main_arg4) (ValueIdx.ix2 r d)) (cosAt (m ((c : Thread nD τ).loc main_arg2)) r)
    (sinAt (m ((c : Thread nD τ).loc main_arg4)) r)

theorem qkv_at (c : Dev nD) (hT : Tables m c) (t : Fin cfg0.N) (i : (Mat 8192 1536).Idx) (r : Fin 1024) (C : Fin 1536)
    (h0 : (i 0).val = t.val * 1024 + r.val) (h1 : (i 1).val = C.val) :
    heads (iblk m c 0 t) (parts (iblk m c 1 t) (iblk m c 2 t) (iblk m c 3 t)) (iblk m c 4 t) (iblk m c 5 t) (iblk m c 6 t) (ValueIdx.ix2 r C)
      = qkvVal (m ((c : Thread nD τ).loc main_arg0)) (m ((c : Thread nD τ).loc main_arg1)) (m ((c : Thread nD τ).loc main_arg2))
        (m ((c : Thread nD τ).loc main_arg4)) i := by
  have hr := r.isLt
  have hp : (posOf (i 0)).val = t.val % 2 * 1024 + r.val := by
    show (i 0).val % 2048 = _
    omega
  have T := hT (posOf (i 0))
  rw [← funext (fun d => (qkv_tables m c t r _ hp d).1), ← funext (fun d => (qkv_tables m c t r _ hp d).2.1),
    ← funext (fun d => (qkv_tables m c t r _ hp d).2.2)] at T
  refine (heads_apply _ _ _ _ _ _ _ r C T).trans ?_
  unfold qkvVal
  refine congrArg₂ (fun p C => qkvRow p _ _ C) (funext fun C => ?_) (Fin.ext h1.symm)
  refine (qkvDot.matmul_apply (φ := .bf16) (ψ := .bf16) (iblk m c 0 t) (parts _ _ _) r C).trans ?_
  unfold colDot
  refine Finset.sum_congr rfl fun j _ => congrArg₂ (· * ·) (qkv_x m c t r (i 0) h0 j) ?_
  have hc : (qkvCol C).val = C.val / 512 * 1536 + C.val % 512 := rfl
  exact parts_apply _ _ _ j C _ (fun k hk => (qkv_w m c t k _ j).1 (by have := k.isLt; omega))
    (fun k hk => (qkv_w m c t k _ j).2.1 (by have := k.isLt; omega)) (fun k hk => (qkv_w m c t k _ j).2.2 (by have := k.isLt; omega))

theorem qkv_at' (c : Dev nD) (hT : Tables m c) (t : Fin cfg0.N) (i : (Mat 8192 1536).Idx) (y : S1024x1536.Idx)
    (h0 : (i 0).val = t.val * 1024 + (y 0).val) (h1 : (i 1).val = (y 1).val) :
    heads (iblk m c 0 t) (parts (iblk m c 1 t) (iblk m c 2 t) (iblk m c 3 t)) (iblk m c 4 t) (iblk m c 5 t) (iblk m c 6 t) y
      = qkvVal (m ((c : Thread nD τ).loc main_arg0)) (m ((c : Thread nD τ).loc main_arg1)) (m ((c : Thread nD τ).loc main_arg2))
        (m ((c : Thread nD τ).loc main_arg4)) i :=
  (congrArg (heads _ _ _ _ _) (Shape.idx_ext₂ rfl rfl : y = ValueIdx.ix2 (y 0) (y 1))).trans (qkv_at m c hT t i (y 0) (y 1) h0 h1)

/-- The result after the run: the queries, keys and values. -/
theorem qkv_final (c : Dev nD) (hT : Tables m c) : (dats m 0 c).arrAt 7 cfg0.N
    = qkvVal (m ((c : Thread nD τ).loc main_arg0)) (m ((c : Thread nD τ).loc main_arg1)) (m ((c : Thread nD τ).loc main_arg2))
        (m ((c : Thread nD τ).loc main_arg4)) := by
  refine (dats m 0 c).arrAt_eq_of_covers 7 _ (by decide +kernel) fun t hf y => ?_
  obtain ⟨-, -, -, -, -, -, -, e7⟩ := qkv_index t
  refine (congrFun ((after0_7 m c t).trans (qkv_out m c t)) y).trans ?_
  refine qkv_at' m c hT t _ y ?_ ?_
  · blk_simp [e7]
  · blk_simp [e7]

end Cert.Dense
-- ==== Proof.Dense.QkvReference.lean ====
module

public import proofs.«01_k».proof.Proof.Dense.Rotary
public import proofs.«01_k».proof.Proof.Gen.QkvFirstReferenceIdeal.Read
public import proofs.«01_k».proof.Proof.Gen.Pre_tables_are_rotary

@[expose] public section

set_option maxRecDepth 16384

noncomputable section

/-! # The reference's queries, keys and values, and what the precondition says -/

namespace Cert.Dense

open Idealize.ShloMosaic Idealize.ShloMosaic.ValueIdx

/-- The shape of heads by sequence, position, slot and lane. -/
abbrev HeadLanes (n : ℕ) : Shape := ⟨4, ![4, 2048, 4, n]⟩

theorem lanes_ext {n : ℕ} {i j : (HeadLanes n).Idx} (h0 : (i 0).val = (j 0).val) (h1 : (i 1).val = (j 1).val)
    (h2 : (i 2).val = (j 2).val) (h3 : (i 3).val = (j 3).val) : i = j := funext fun a => Fin.ext (by
  match a with
  | ⟨0, _⟩ => exact h0
  | ⟨1, _⟩ => exact h1
  | ⟨2, _⟩ => exact h2
  | ⟨3, _⟩ => exact h3)

/-- Arrays of three widths joined, read at a column. -/
theorem columns_joined {R A B E N : ℕ} (a : (Mat R A).Idx → EReal) (b : (Mat R B).Idx → EReal) (e : (Mat R E).Idx → EReal)
    (h : Shape.Concatenates [Mat R A, Mat R B, Mat R E] (Mat R N) 1) (r : Fin R) (d : Fin N) :
    (∀ k : Fin A, d.val = k.val → concatenate (Mat R N) 1 [⟨Mat R A, a⟩, ⟨Mat R B, b⟩, ⟨Mat R E, e⟩] h (ValueIdx.ix2 r d) = a (ValueIdx.ix2 r k))
    ∧ (∀ k : Fin B, d.val = A + k.val → concatenate (Mat R N) 1 [⟨Mat R A, a⟩, ⟨Mat R B, b⟩, ⟨Mat R E, e⟩] h (ValueIdx.ix2 r d) = b (ValueIdx.ix2 r k))
    ∧ (∀ k : Fin E, d.val = A + B + k.val → concatenate (Mat R N) 1 [⟨Mat R A, a⟩, ⟨Mat R B, b⟩, ⟨Mat R E, e⟩] h (ValueIdx.ix2 r d) = e (ValueIdx.ix2 r k)) := by
  refine ⟨fun k hk => ?_, fun k hk => ?_, fun k hk => ?_⟩
  · refine concatenate_apply_piece (t := Mat R N) 1 [⟨Mat R A, a⟩, ⟨Mat R B, b⟩, ⟨Mat R E, e⟩] h (ValueIdx.ix2 r d) 0 (by show 0 < 3; omega) (Mat R A) a rfl rfl 0 rfl
      (ValueIdx.ix2 r k) (fun ax hax => ?_) ((Nat.zero_add _).trans hk.symm)
    match ax with
    | ⟨0, _⟩ => rfl
    | ⟨1, _⟩ => exact absurd rfl hax
  · refine concatenate_apply_piece (t := Mat R N) 1 [⟨Mat R A, a⟩, ⟨Mat R B, b⟩, ⟨Mat R E, e⟩] h (ValueIdx.ix2 r d) 1 (by show 1 < 3; omega) (Mat R B) b rfl rfl A rfl
      (ValueIdx.ix2 r k) (fun ax hax => ?_) hk.symm
    match ax with
    | ⟨0, _⟩ => rfl
    | ⟨1, _⟩ => exact absurd rfl hax
  · refine concatenate_apply_piece (t := Mat R N) 1 [⟨Mat R A, a⟩, ⟨Mat R B, b⟩, ⟨Mat R E, e⟩] h (ValueIdx.ix2 r d) 2 (by show 2 < 3; omega) (Mat R E) e rfl rfl (A + B) rfl
      (ValueIdx.ix2 r k) (fun ax hax => ?_) hk.symm
    match ax with
    | ⟨0, _⟩ => rfl
    | ⟨1, _⟩ => exact absurd rfl hax

section Lanes

variable (a b : (HeadLanes 16).Idx → EReal) (e : (HeadLanes 96).Idx → EReal)
  (h : Shape.Concatenates [HeadLanes 16, HeadLanes 16, HeadLanes 96] (HeadLanes 128) 3)
  (p : Fin 4) (q : Fin 2048) (s : Fin 4) (d : Fin 128)

/-- Heads joined of 16, 16 and 96 lanes, read at a lane. -/
theorem lanes_joined (y : EReal) (ha : ∀ k : Fin 16, d.val = k.val → a (ValueIdx.ix4 p q s k) = y)
    (hb : ∀ k : Fin 16, d.val = 16 + k.val → b (ValueIdx.ix4 p q s k) = y) (he : ∀ k : Fin 96, d.val = 32 + k.val → e (ValueIdx.ix4 p q s k) = y) :
    concatenate (HeadLanes 128) 3 [⟨HeadLanes 16, a⟩, ⟨HeadLanes 16, b⟩, ⟨HeadLanes 96, e⟩] h (ValueIdx.ix4 p q s d) = y := by
  have hd := d.isLt
  by_cases h1 : d.val < 16
  · refine (concatenate_apply_piece (t := HeadLanes 128) 3 [⟨HeadLanes 16, a⟩, ⟨HeadLanes 16, b⟩, ⟨HeadLanes 96, e⟩] h (ValueIdx.ix4 p q s d) 0 (by show 0 < 3; omega) (HeadLanes 16) a rfl rfl 0 rfl (ValueIdx.ix4 p q s (⟨d.val, h1⟩ : Fin 16)) (fun ax hax => ?_)
      (Nat.zero_add _)).trans (ha _ rfl)
    match ax with
    | ⟨0, _⟩ => rfl
    | ⟨1, _⟩ => rfl
    | ⟨2, _⟩ => rfl
    | ⟨3, _⟩ => exact absurd rfl hax
  · by_cases h2 : d.val < 32
    · have hv : d.val = 16 + (d.val - 16) := by omega
      refine (concatenate_apply_piece (t := HeadLanes 128) 3 [⟨HeadLanes 16, a⟩, ⟨HeadLanes 16, b⟩, ⟨HeadLanes 96, e⟩] h (ValueIdx.ix4 p q s d) 1 (by show 1 < 3; omega) (HeadLanes 16) b rfl rfl 16 rfl (ValueIdx.ix4 p q s (⟨d.val - 16, by omega⟩ : Fin 16)) (fun ax hax => ?_)
        hv.symm).trans (hb _ hv)
      match ax with
      | ⟨0, _⟩ => rfl
      | ⟨1, _⟩ => rfl
      | ⟨2, _⟩ => rfl
      | ⟨3, _⟩ => exact absurd rfl hax
    · have hv : d.val = 32 + (d.val - 32) := by omega
      refine (concatenate_apply_piece (t := HeadLanes 128) 3 [⟨HeadLanes 16, a⟩, ⟨HeadLanes 16, b⟩, ⟨HeadLanes 96, e⟩] h (ValueIdx.ix4 p q s d) 2 (by show 2 < 3; omega) (HeadLanes 96) e rfl rfl 32 rfl (ValueIdx.ix4 p q s (⟨d.val - 32, by omega⟩ : Fin 96)) (fun ax hax => ?_)
        hv.symm).trans (he _ hv)
      match ax with
      | ⟨0, _⟩ => rfl
      | ⟨1, _⟩ => rfl
      | ⟨2, _⟩ => rfl
      | ⟨3, _⟩ => exact absurd rfl hax

/-- Heads joined of two turned halves and the rest are turned heads. -/
theorem lanes_turned (f : Fin 128 → EReal) (co si : Fin 16 → EReal)
    (ha : ∀ k : Fin 16, a (ValueIdx.ix4 p q s k) = f ⟨k.val, by have := k.isLt; omega⟩ * co k - f ⟨16 + k.val, by have := k.isLt; omega⟩ * si k)
    (hb : ∀ k : Fin 16, b (ValueIdx.ix4 p q s k) = f ⟨16 + k.val, by have := k.isLt; omega⟩ * co k + f ⟨k.val, by have := k.isLt; omega⟩ * si k)
    (he : ∀ k : Fin 96, e (ValueIdx.ix4 p q s k) = f ⟨32 + k.val, by have := k.isLt; omega⟩) :
    concatenate (HeadLanes 128) 3 [⟨HeadLanes 16, a⟩, ⟨HeadLanes 16, b⟩, ⟨HeadLanes 96, e⟩] h (ValueIdx.ix4 p q s d) = turned f co si d := by
  refine lanes_joined a b e h p q s d _ (fun k hk => (ha k).trans ?_) (fun k hk => (hb k).trans ?_) (fun k hk => (he k).trans ?_)
  · have hkl := k.isLt
    rw [show d = ⟨k.val, by omega⟩ from Fin.ext hk]
    unfold turned
    rw [dif_pos (show k.val < 16 from hkl)]
  · have hkl := k.isLt
    rw [show d = ⟨16 + k.val, by omega⟩ from Fin.ext hk]
    unfold turned
    rw [dif_neg (show ¬ 16 + k.val < 16 by omega), dif_pos (show 16 + k.val < 32 by omega)]
    have e1 : (⟨16 + k.val - 16, by omega⟩ : Fin 16) = k := Fin.ext (by show 16 + k.val - 16 = k.val; omega)
    have e2 : (⟨16 + k.val - 16, by omega⟩ : Fin 128) = ⟨k.val, by omega⟩ := Fin.ext (by show 16 + k.val - 16 = k.val; omega)
    show _ = _ * co ⟨16 + k.val - 16, _⟩ + f ⟨16 + k.val - 16, _⟩ * si ⟨16 + k.val - 16, _⟩
    rw [e1, e2]
  · have hkl := k.isLt
    rw [show d = ⟨32 + k.val, by omega⟩ from Fin.ext hk]
    unfold turned
    rw [dif_neg (show ¬ 32 + k.val < 16 by omega), dif_neg (show ¬ 32 + k.val < 32 by omega)]

end Lanes

section Reference

open Cert.QkvFirstReferenceIdeal Cert.QkvFirstReferenceIdeal.Gen Cert.QkvFirstReferenceIdeal.Read

variable (x0 : (Mat 8192 2048).Idx → EReal) (x1 : (Stack 2 2048 14848).Idx → EReal) (x2 x3 x4 : (Mat 2048 128).Idx → EReal)

theorem ref_query (r : Fin 8192) (k : Fin 512) : val_main_v5 (F := Ideal) x0 x1 (ValueIdx.ix2 r k)
    = colDot x0 x1 r (⟨k.val, by have := k.isLt; omega⟩ : Fin 14848) := by
  rw [val_main_v5_apply]
  refine Finset.sum_congr rfl fun j _ => congrArg₂ (· * ·) (congrArg x0 (Shape.idx_ext₂ rfl rfl)) ?_
  rw [val_main_v4_apply, val_main_v3_apply]
  refine congrArg x1 (funext fun a => Fin.ext ?_)
  have hk := k.isLt
  have hj := j.isLt
  match a with
  | ⟨0, _⟩ => rfl
  | ⟨1, _⟩ => show (j.val * 512 + k.val) / 512 % 2048 = j.val; omega
  | ⟨2, _⟩ => show (j.val * 512 + k.val) % 512 = k.val; omega

theorem ref_key (r : Fin 8192) (k : Fin 512) : val_main_v9 (F := Ideal) x0 x1 (ValueIdx.ix2 r k)
    = colDot x0 x1 r (⟨1536 + k.val, by have := k.isLt; omega⟩ : Fin 14848) := by
  rw [val_main_v9_apply]
  refine Finset.sum_congr rfl fun j _ => congrArg₂ (· * ·) (congrArg x0 (Shape.idx_ext₂ rfl rfl)) ?_
  rw [val_main_v8_apply, val_main_v7_apply]
  refine congrArg x1 (funext fun a => Fin.ext ?_)
  have hk := k.isLt
  have hj := j.isLt
  match a with
  | ⟨0, _⟩ => rfl
  | ⟨1, _⟩ => show (j.val * 512 + k.val) / 512 % 2048 = j.val; omega
  | ⟨2, _⟩ => show 1536 + (j.val * 512 + k.val) % 512 = 1536 + k.val; omega

theorem ref_value (r : Fin 8192) (k : Fin 512) : val_main_v13 (F := Ideal) x0 x1 (ValueIdx.ix2 r k)
    = colDot x0 x1 r (⟨3072 + k.val, by have := k.isLt; omega⟩ : Fin 14848) := by
  rw [val_main_v13_apply]
  refine Finset.sum_congr rfl fun j _ => congrArg₂ (· * ·) (congrArg x0 (Shape.idx_ext₂ rfl rfl)) ?_
  rw [val_main_v12_apply, val_main_v11_apply]
  refine congrArg x1 (funext fun a => Fin.ext ?_)
  have hk := k.isLt
  have hj := j.isLt
  match a with
  | ⟨0, _⟩ => rfl
  | ⟨1, _⟩ => show (j.val * 512 + k.val) / 512 % 2048 = j.val; omega
  | ⟨2, _⟩ => show 3072 + (j.val * 512 + k.val) % 512 = 3072 + k.val; omega

variable (p : Fin 4) (q : Fin 2048) (s : Fin 4) (d : Fin 128)

/-- The queries' heads, turned. -/
theorem ref_query_turned : val_main_v30 (F := Ideal) x0 x1 x2 x4 (ValueIdx.ix4 p q s d)
    = turned (fun d => val_main_v6 (F := Ideal) x0 x1 (ValueIdx.ix4 p q s d)) (cosAt x2 q) (sinAt x4 q) d := by
  have c0 : ∀ k : Fin 16, val_main_v17 (F := Ideal) x0 x1 (ValueIdx.ix4 p q s k) = val_main_v6 (F := Ideal) x0 x1 (ValueIdx.ix4 p q s (⟨k.val, by have := k.isLt; omega⟩ : Fin 128)) :=
    fun k => (val_main_v17_apply _ _ _).trans (congrArg _ (lanes_ext rfl rfl rfl rfl))
  have c1 : ∀ k : Fin 16, val_main_v18 (F := Ideal) x0 x1 (ValueIdx.ix4 p q s k) = val_main_v6 (F := Ideal) x0 x1 (ValueIdx.ix4 p q s (⟨16 + k.val, by have := k.isLt; omega⟩ : Fin 128)) :=
    fun k => (val_main_v18_apply _ _ _).trans (congrArg _ (lanes_ext rfl rfl rfl rfl))
  have t0 : ∀ k : Fin 16, val_main_v15 (F := Ideal) x2 (idx_main_v19 (ValueIdx.ix4 p q s k)) = cosAt x2 q k :=
    fun k => (val_main_v15_apply _ _).trans ((val_main_v1_apply _ _).trans (congrArg x2 (Shape.idx_ext₂ rfl rfl)))
  have t1 : ∀ k : Fin 16, val_main_v16 (F := Ideal) x4 (idx_main_v21 (ValueIdx.ix4 p q s k)) = sinAt x4 q k :=
    fun k => (val_main_v16_apply _ _).trans ((val_main_v2_apply _ _).trans (congrArg x4 (Shape.idx_ext₂ rfl rfl)))
  refine lanes_turned _ _ _ _ p q s d _ _ _ (fun k => ?_) (fun k => ?_) (fun k => ?_)
  · exact congrArg₂ (· - ·) (congrArg₂ (· * ·) (c0 k) ((val_main_v19_apply _ _).trans (t0 k))) (congrArg₂ (· * ·) (c1 k) ((val_main_v21_apply _ _).trans (t1 k)))
  · exact congrArg₂ (· + ·) (congrArg₂ (· * ·) (c1 k) ((val_main_v24_apply _ _).trans (t0 k))) (congrArg₂ (· * ·) (c0 k) ((val_main_v26_apply _ _).trans (t1 k)))
  · exact (val_main_v29_apply _ _ _).trans (congrArg _ (lanes_ext rfl rfl rfl rfl))

/-- The keys' heads, turned. -/
theorem ref_key_turned : val_main_v49 (F := Ideal) x0 x1 x2 x4 (ValueIdx.ix4 p q s d)
    = turned (fun d => val_main_v10 (F := Ideal) x0 x1 (ValueIdx.ix4 p q s d)) (cosAt x2 q) (sinAt x4 q) d := by
  have c0 : ∀ k : Fin 16, val_main_v36 (F := Ideal) x0 x1 (ValueIdx.ix4 p q s k) = val_main_v10 (F := Ideal) x0 x1 (ValueIdx.ix4 p q s (⟨k.val, by have := k.isLt; omega⟩ : Fin 128)) :=
    fun k => (val_main_v36_apply _ _ _).trans (congrArg _ (lanes_ext rfl rfl rfl rfl))
  have c1 : ∀ k : Fin 16, val_main_v37 (F := Ideal) x0 x1 (ValueIdx.ix4 p q s k) = val_main_v10 (F := Ideal) x0 x1 (ValueIdx.ix4 p q s (⟨16 + k.val, by have := k.isLt; omega⟩ : Fin 128)) :=
    fun k => (val_main_v37_apply _ _ _).trans (congrArg _ (lanes_ext rfl rfl rfl rfl))
  have t0 : ∀ k : Fin 16, val_main_v34 (F := Ideal) x2 (idx_main_v38 (ValueIdx.ix4 p q s k)) = cosAt x2 q k :=
    fun k => (val_main_v34_apply _ _).trans ((val_main_v1_apply _ _).trans (congrArg x2 (Shape.idx_ext₂ rfl rfl)))
  have t1 : ∀ k : Fin 16, val_main_v35 (F := Ideal) x4 (idx_main_v40 (ValueIdx.ix4 p q s k)) = sinAt x4 q k :=
    fun k => (val_main_v35_apply _ _).trans ((val_main_v2_apply _ _).trans (congrArg x4 (Shape.idx_ext₂ rfl rfl)))
  refine lanes_turned _ _ _ _ p q s d _ _ _ (fun k => ?_) (fun k => ?_) (fun k => ?_)
  · exact congrArg₂ (· - ·) (congrArg₂ (· * ·) (c0 k) ((val_main_v38_apply _ _).trans (t0 k))) (congrArg₂ (· * ·) (c1 k) ((val_main_v40_apply _ _).trans (t1 k)))
  · exact congrArg₂ (· + ·) (congrArg₂ (· * ·) (c1 k) ((val_main_v43_apply _ _).trans (t0 k))) (congrArg₂ (· * ·) (c0 k) ((val_main_v45_apply _ _).trans (t1 k)))
  · exact (val_main_v48_apply _ _ _).trans (congrArg _ (lanes_ext rfl rfl rfl rfl))

theorem word_128 : Ideal.ofBits .f32 0x43000000#32 = ((128 : ℝ) : EReal) := by
  simp [Ideal.ofBits, Ideal.ieee, -EReal.coe_mul]; norm_num

/-- The quotient by the square root of 128. -/
theorem ref_scaled (y : EReal) (i : S_.Idx) : Ideal.div y (val_main_v31 (F := Ideal) i) = y * (((Real.sqrt 128)⁻¹ : ℝ) : EReal) := by
  have e : val_main_v31 (F := Ideal) i = ((Real.sqrt 128 : ℝ) : EReal) := by
    rw [val_main_v31_apply, val_main_cst_apply, Ideal.hostUnary_sqrt_def]
    show Ideal.sqrt (Ideal.ofBits .f32 0x43000000#32) = _
    rw [word_128, Ideal.sqrt_coe, if_neg (by norm_num)]
  rw [e, Ideal.div_coe (Real.sqrt_pos.mpr (by norm_num)).ne', one_div]

theorem ref_qkv : val_main_v54 (F := Ideal) x0 x1 x2 x4 = qkvVal x0 x1 x2 x4 := by
  funext i
  obtain ⟨R, hR⟩ : ∃ R : Fin 8192, R = i 0 := ⟨i 0, rfl⟩
  obtain ⟨C, hC⟩ : ∃ C : Fin 1536, C = i 1 := ⟨i 1, rfl⟩
  have hRl := R.isLt
  have hCl := C.isLt
  have hi : i = ValueIdx.ix2 R C := Shape.idx_ext₂ (by rw [hR]) (by rw [hC])
  subst hi
  show val_main_v53 (F := Ideal) x0 x1 x2 x4 (ValueIdx.ix2 R C) = qkvRow (fun C => colDot x0 x1 R (qkvCol C)) (cosAt x2 (posOf R)) (sinAt x4 (posOf R)) C
  unfold qkvRow val_main_v53
  dsimp only
  by_cases h1 : C.val < 512
  · rw [if_pos h1]
    refine ((columns_joined _ _ _ _ R C).1 (⟨C.val, h1⟩ : Fin 512) rfl).trans ?_
    · rw [val_main_v50_apply, show idx_main_v50 (ValueIdx.ix2 R (⟨C.val, h1⟩ : Fin 512))
        = ValueIdx.ix4 (⟨R.val / 2048, by omega⟩ : Fin 4) (posOf R) (⟨C.val / 128, by omega⟩ : Fin 4) (⟨C.val % 128, by omega⟩ : Fin 128)
        from lanes_ext (by show (R.val * 512 + C.val) / 1048576 = R.val / 2048; omega) (by show (R.val * 512 + C.val) / 512 % 2048 = R.val % 2048; omega)
          (by show (R.val * 512 + C.val) / 128 % 4 = C.val / 128; omega) (by show (R.val * 512 + C.val) % 128 = C.val % 128; omega)]
      rw [val_main_v33_apply, val_main_v32_apply, Ideal.hostDivf_def, ref_scaled, ref_query_turned]
      refine congrArg (fun f => turned f _ _ _ * _) (funext fun d => ?_)
      have hd := d.isLt
      rw [val_main_v6_apply, show idx_main_v6 (ValueIdx.ix4 (⟨R.val / 2048, by omega⟩ : Fin 4) (posOf R) (⟨C.val / 128, by omega⟩ : Fin 4) d)
        = ValueIdx.ix2 R (⟨C.val / 128 * 128 + d.val, by omega⟩ : Fin 512) from Shape.idx_ext₂
          (by show (((R.val / 2048 * 2048 + R.val % 2048) * 4 + C.val / 128) * 128 + d.val) / 512 = R.val; omega)
          (by show (((R.val / 2048 * 2048 + R.val % 2048) * 4 + C.val / 128) * 128 + d.val) % 512 = C.val / 128 * 128 + d.val; omega)]
      rw [ref_query]
      refine congrArg (colDot x0 x1 R) (Fin.ext ?_)
      show C.val / 128 * 128 + d.val = (C.val / 128 * 128 + d.val) / 512 * 1536 + (C.val / 128 * 128 + d.val) % 512
      omega
  · rw [if_neg h1]
    by_cases h2 : C.val < 1024
    · rw [if_pos h2]
      refine ((columns_joined _ _ _ _ R C).2.1 (⟨C.val - 512, by omega⟩ : Fin 512) (by show C.val = 512 + (C.val - 512); omega)).trans ?_
      · rw [val_main_v51_apply, show idx_main_v51 (ValueIdx.ix2 R (⟨C.val - 512, by omega⟩ : Fin 512))
          = ValueIdx.ix4 (⟨R.val / 2048, by omega⟩ : Fin 4) (posOf R) (⟨C.val / 128 - 4, by omega⟩ : Fin 4) (⟨C.val % 128, by omega⟩ : Fin 128)
          from lanes_ext (by show (R.val * 512 + (C.val - 512)) / 1048576 = R.val / 2048; omega) (by show (R.val * 512 + (C.val - 512)) / 512 % 2048 = R.val % 2048; omega)
            (by show (R.val * 512 + (C.val - 512)) / 128 % 4 = C.val / 128 - 4; omega) (by show (R.val * 512 + (C.val - 512)) % 128 = C.val % 128; omega)]
        rw [ref_key_turned]
        refine congrArg (fun f => turned f _ _ _) (funext fun d => ?_)
        have hd := d.isLt
        rw [val_main_v10_apply, show idx_main_v10 (ValueIdx.ix4 (⟨R.val / 2048, by omega⟩ : Fin 4) (posOf R) (⟨C.val / 128 - 4, by omega⟩ : Fin 4) d)
          = ValueIdx.ix2 R (⟨(C.val / 128 - 4) * 128 + d.val, by omega⟩ : Fin 512) from Shape.idx_ext₂
            (by show (((R.val / 2048 * 2048 + R.val % 2048) * 4 + (C.val / 128 - 4)) * 128 + d.val) / 512 = R.val; omega)
            (by show (((R.val / 2048 * 2048 + R.val % 2048) * 4 + (C.val / 128 - 4)) * 128 + d.val) % 512 = (C.val / 128 - 4) * 128 + d.val; omega)]
        rw [ref_key]
        refine congrArg (colDot x0 x1 R) (Fin.ext ?_)
        show 1536 + ((C.val / 128 - 4) * 128 + d.val) = (C.val / 128 * 128 + d.val) / 512 * 1536 + (C.val / 128 * 128 + d.val) % 512
        omega
    · rw [if_neg h2]
      refine ((columns_joined _ _ _ _ R C).2.2 (⟨C.val - 1024, by omega⟩ : Fin 512) (by show C.val = 512 + 512 + (C.val - 1024); omega)).trans ?_
      · rw [val_main_v52_apply, val_main_v14_apply, show idx_main_v14 (idx_main_v52 (ValueIdx.ix2 R (⟨C.val - 1024, by omega⟩ : Fin 512)))
          = ValueIdx.ix2 R (⟨C.val - 1024, by omega⟩ : Fin 512) from Shape.idx_ext₂
            (by show ((((R.val * 512 + (C.val - 1024)) / 1048576 * 2048 + (R.val * 512 + (C.val - 1024)) / 512 % 2048) * 4 + (R.val * 512 + (C.val - 1024)) / 128 % 4) * 128 + (R.val * 512 + (C.val - 1024)) % 128) / 512 = R.val; omega)
            (by show ((((R.val * 512 + (C.val - 1024)) / 1048576 * 2048 + (R.val * 512 + (C.val - 1024)) / 512 % 2048) * 4 + (R.val * 512 + (C.val - 1024)) / 128 % 4) * 128 + (R.val * 512 + (C.val - 1024)) % 128) % 512 = C.val - 1024; omega)]
        rw [ref_value]
        refine congrArg (colDot x0 x1 R) (Fin.ext ?_)
        show 3072 + (C.val - 1024) = C.val / 512 * 1536 + C.val % 512
        omega

end Reference

section Precondition

open Cert.Pre_tables_are_rotary

theorem eq_of_cmp {a b : EReal} (h : Ideal.cmp .oeq a b = 1#1) : a = b := by
  by_contra hn
  simp only [Ideal.cmp, decide_eq_false hn] at h
  exact absurd h (by decide)

theorem and_ones {a b : BitVec 1} (h : a &&& b = 1#1) : a = 1#1 ∧ b = 1#1 := by
  revert a b
  decide

theorem zero_word : Ideal.ofBits .f32 0x00000000#32 = 0 := by simp [Ideal.ofBits, Ideal.ieee]

/-- What the precondition says of the rows of the tables. -/
theorem tables_of_pre {x0 : (Mat 8192 2048).Idx → EReal} {x1 : (Stack 2 2048 14848).Idx → EReal} {x2 x3 x4 : (Mat 2048 128).Idx → EReal}
    (hp : Cert.Pre_tables_are_rotary.fn (F := Ideal) x0 x1 x2 x3 x4 = fun _ => 1#1) (r : Fin 2048) :
    RotaryRow (fun d => x2 (ValueIdx.ix2 r d)) (fun d => x3 (ValueIdx.ix2 r d)) (fun d => x4 (ValueIdx.ix2 r d)) (cosAt x2 r) (sinAt x4 r) := by
  have e : ∀ d : Fin 128, _ ∧ _ := fun d => and_ones (congrFun hp (ValueIdx.ix2 r d))
  have e' : ∀ d : Fin 128, _ ∧ _ := fun d => and_ones (e d).1
  have c1 : ∀ d : Fin 128, x2 (ValueIdx.ix2 r d) = _ := fun d => eq_of_cmp (e' d).1
  have c2 : ∀ d : Fin 128, x3 (ValueIdx.ix2 r d) = _ := fun d => eq_of_cmp (e' d).2
  have c3 : ∀ d : Fin 128, x4 (ValueIdx.ix2 r d) = _ := fun d => eq_of_cmp (e d).2
  have hcos : ∀ (i : Fin 2048) (k : Fin 16), extractStridedSlice S2048x16 ![0, 0] x2 Cert.Pre_tables_are_rotary.Gen.slices_S2048x128_S2048x16_0_0 (ValueIdx.ix2 i k) = cosAt x2 i k :=
    fun i k => extractStridedSlice_apply _ _ _ _ _ (fun a => by
      match a with
      | ⟨0, _⟩ => exact (Nat.zero_add _).symm
      | ⟨1, _⟩ => exact (Nat.zero_add _).symm)
  have hsin : ∀ (i : Fin 2048) (k : Fin 16), extractStridedSlice S2048x16 ![0, 16] x4 Cert.Pre_tables_are_rotary.Gen.slices_S2048x128_S2048x16_0_16 (ValueIdx.ix2 i k) = sinAt x4 i k :=
    fun i k => extractStridedSlice_apply _ _ _ _ _ (fun a => by
      match a with
      | ⟨0, _⟩ => exact (Nat.zero_add _).symm
      | ⟨1, _⟩ => rfl)
  have hone : Ideal.ofBits .f32 0x00000000#32 + Ideal.ofBits .f32 0x3F800000#32 = 1 := by rw [zero_word, one_word, zero_add]
  constructor
  · intro d h
    refine ⟨?_, ?_, ?_⟩
    · exact (c1 d).trans (((columns_joined _ _ _ _ r d).1 ⟨d.val, h⟩ rfl).trans (hcos r _))
    · exact (c2 d).trans (((columns_joined _ _ _ _ r d).1 ⟨d.val, h⟩ rfl).trans (congrArg (fun y : EReal => -y) (hsin r _)))
    · exact (c3 d).trans (((columns_joined _ _ _ _ r d).1 ⟨d.val, h⟩ rfl).trans zero_word)
  · intro d h h'
    refine ⟨?_, ?_, ?_⟩
    · exact (c1 d).trans (((columns_joined _ _ _ _ r d).2.1 ⟨d.val - 16, by omega⟩ (by show d.val = 16 + (d.val - 16); omega)).trans (hcos r _))
    · exact (c2 d).trans (((columns_joined _ _ _ _ r d).2.1 ⟨d.val - 16, by omega⟩ (by show d.val = 16 + (d.val - 16); omega)).trans zero_word)
    · exact (c3 d).trans (((columns_joined _ _ _ _ r d).2.1 ⟨d.val - 16, by omega⟩ (by show d.val = 16 + (d.val - 16); omega)).trans (hsin r _))
  · intro d h h'
    refine ⟨?_, ?_, ?_⟩
    · exact (c1 d).trans (((columns_joined _ _ _ _ r d).2.2 ⟨d.val - 32, by have := d.isLt; omega⟩ (by show d.val = 16 + 16 + (d.val - 32); omega)).trans hone)
    · exact (c2 d).trans (((columns_joined _ _ _ _ r d).2.2 ⟨d.val - 32, by have := d.isLt; omega⟩ (by show d.val = 16 + 16 + (d.val - 32); omega)).trans zero_word)
    · exact (c3 d).trans (((columns_joined _ _ _ _ r d).2.2 ⟨d.val - 32, by have := d.isLt; omega⟩ (by show d.val = 16 + 16 + (d.val - 32); omega)).trans zero_word)

end Precondition

end Cert.Dense
-- ==== Proof.Dense.GatingValue.lean ====
module

public import proofs.«01_k».proof.Proof.Dense.Base
public import Idealize.ShloMosaic.Lib.ValueIdxCoords

@[expose] public section

noncomputable section

/-! # The spatial gating's value

Every token's projection is activated; its second half is layer-normed and mixed along the tokens of its window of 128 by
a lower triangular matrix per group of 128 channels, shifted, and multiplied into the first half. -/

namespace Cert.Dense

open Idealize.ShloMosaic

/-- The Gaussian error linear unit. -/
def gelu (z : EReal) : EReal :=
  Ideal.ofBits .f32 0x3F000000#32 * z * (Ideal.ofBits .f32 0x3F800000#32 + Ideal.erf (z * (((Real.sqrt 2)⁻¹ : ℝ) : EReal)))

/-- A stack of two stacks of eight square matrices. -/
abbrev Squares : Shape := ⟨4, ![2, 8, 128, 128]⟩

variable (X : (Mat 8192 2048).Idx → EReal) (W : (Stack 2 2048 14848).Idx → EReal) (S : Squares.Idx → EReal)
  (B : (Stack 2 128 8).Idx → EReal) (G H : (Mat 2 1024).Idx → EReal)

/-- The activated projection: columns 6656 to 8703 of the weights. -/
def actVal (r : Fin 8192) (k : Fin 2048) : EReal := gelu (colDot X W r ⟨6656 + k.val, by have := k.isLt; omega⟩)

/-- Its second half, layer-normed. -/
def normedHalf (r : Fin 8192) (k : Fin 1024) : EReal :=
  lnRow 0x44800000#32 (fun k : Fin 1024 => actVal X W r ⟨1024 + k.val, by have := k.isLt; omega⟩) (fun k => G (ValueIdx.ix2 (0 : Fin 2) k))
    (fun k => H (ValueIdx.ix2 (0 : Fin 2) k)) k

/-- An entry of a group's lower triangular matrix. -/
def lower (g : Fin 8) (t s : Fin 128) : EReal := if s.val ≤ t.val then S (ValueIdx.ix4 (0 : Fin 2) g t s) else 0

/-- The gated value of a token's channel: `r` is the token, `k` the channel. -/
def gatedAt (r : Fin 8192) (k : Fin 1024) : EReal :=
  actVal X W r ⟨k.val, by have := k.isLt; omega⟩
    * (∑ s : Fin 128, lower S ⟨k.val / 128, by have := k.isLt; omega⟩ ⟨r.val % 128, by omega⟩ s
        * normedHalf X W G H ⟨r.val / 128 * 128 + s.val, by have := r.isLt; have := s.isLt; omega⟩ k
      + B (ValueIdx.ix3 (0 : Fin 2) (⟨r.val % 128, by omega⟩ : Fin 128) (⟨k.val / 128, by have := k.isLt; omega⟩ : Fin 8)))

/-- The gated values. -/
def gatedVal : (Mat 8192 1024).Idx → EReal := fun i => gatedAt X W S B G H (i 0) (i 1)

end Cert.Dense
-- ==== Proof.Dense.Gating.lean ====
module

public import proofs.«01_k».proof.Proof.Dense.GatingValue
public import proofs.«01_k».proof.Proof.Gen.SpatialGatingIdeal.Value
public import Idealize.ShloMosaic.Lib.Pipeline.ValueKit
public import Idealize.ShloMosaic.Lib.WordCmp

@[expose] public section

set_option maxRecDepth 16384

noncomputable section

/-! # The spatial gating's kernel -/

namespace Cert.Dense

open Idealize.ShloMosaic Idealize.ShloMosaic.ValueIdx Idealize.ShloMosaic.TcCoe Cert.SpatialGatingIdeal Cert.SpatialGatingIdeal.Gen

theorem actDot : RowDot dot_S512x2048_S2048x2048_S512x2048_1_0_0_1_n_n where
  rank := rfl
  size := fun _ => rfl
  lhs := fun i q _ => ⟨by unfold DotDims.lhsIdx; rw [dif_neg (by decide), dif_pos (by decide)]; rfl, DotDims.lhsIdx_val_of_single _ rfl i q⟩
  rhs := fun i q _ => ⟨DotDims.rhsIdx_val_of_single _ rfl i q, by unfold DotDims.rhsIdx; rw [dif_neg (by decide), dif_pos (by decide)]; rfl⟩

theorem mixDot : RowDot dot_S128x128_S128x512_S128x512_1_0_0_1_n_n where
  rank := rfl
  size := fun _ => rfl
  lhs := fun i q _ => ⟨by unfold DotDims.lhsIdx; rw [dif_neg (by decide), dif_pos (by decide)]; rfl, DotDims.lhsIdx_val_of_single _ rfl i q⟩
  rhs := fun i q _ => ⟨DotDims.rhsIdx_val_of_single _ rfl i q, by unfold DotDims.rhsIdx; rw [dif_neg (by decide), dif_pos (by decide)]; rfl⟩

/-- The word of the activation's scale is named the real it rounds. -/
theorem half_root_word : Named.named (F := Ideal) Cert.SpatialGatingIdeal.κ "half_root" (φ := .f32) 0x3F3504F3#32 = (((Real.sqrt 2)⁻¹ : ℝ) : EReal) :=
  IdealRules.named_const.ideal_named_scalar _ _ _ _ rfl

/-! ## The staged weights and the activated projection of a block -/

/-- The staged weights: four blocks of 512 columns. -/
def quarters (u : Fin 4 → Vec Ideal S1x2048x512 .f32) : Vec Ideal S2048x2048 .bf16 :=
  View.canon [⟨Rect.unit ![0, 1536] ![2048, 512] inb_S2048x2048_S2048x512_0_1536, k0_pay9 (u 3)⟩,
    ⟨Rect.unit ![0, 1024] ![2048, 512] inb_S2048x2048_S2048x512_0_1024, k0_pay8 (u 2)⟩,
    ⟨Rect.unit ![0, 512] ![2048, 512] inb_S2048x2048_S2048x512_0_512, k0_pay7 (u 1)⟩,
    ⟨Rect.unit ![0, 0] ![2048, 512] inb_S2048x2048_S2048x512_0_0, k0_pay6 (u 0)⟩]

theorem quarter_apply (u : Vec Ideal S1x2048x512 .f32) (x : S2048x512.Idx) (j : Fin 2048) (hj : j.val = (x 0).val) :
    k0_pay6 u x = u (ValueIdx.ix3 (0 : Fin 1) j (x 1)) := by
  obtain ⟨k, hk⟩ : ∃ k : Fin 512, k = x 1 := ⟨x 1, rfl⟩
  rw [← hk, show x = ValueIdx.ix2 j k from Shape.idx_ext₂ hj.symm (by rw [hk])]
  unfold k0_pay6
  refine (shapeCast_apply _ _ _ (ValueIdx.ix2 j k) rfl).trans ?_
  exact drop_apply u shapeCasts_S1x2048x512_S2048x512 j k

theorem quarters_apply (u : Fin 4 → Vec Ideal S1x2048x512 .f32) (j : Fin 2048) (C : Fin 2048) (y : EReal)
    (hu : ∀ (q : Fin 4) (k : Fin 512), C.val = 512 * q.val + k.val → u q (ValueIdx.ix3 (0 : Fin 1) j k) = y) : quarters u (ValueIdx.ix2 j C) = y := by
  unfold quarters
  canon_tiles x h
  · exact (quarter_apply (u 3) x j h0).trans (hu 3 (x 1) h1)
  · exact (quarter_apply (u 2) x j h0).trans (hu 2 (x 1) h1)
  · exact (quarter_apply (u 1) x j h0).trans (hu 1 (x 1) h1)
  · exact (quarter_apply (u 0) x j h0).trans (hu 0 (x 1) (by have h1' : C.val = (x 1).val := h1; exact h1'.trans (Nat.zero_add _).symm))

theorem act_block (x : Vec Ideal S512x2048 .f32) (w : Vec Ideal S2048x2048 .bf16) (r : Fin 512) (k : Fin 2048) :
    k0_pay11 x w (ValueIdx.ix2 r k) = gelu (∑ j : Fin 2048, x (ValueIdx.ix2 r j) * w (ValueIdx.ix2 j k)) := by
  have e := actDot.matmul_apply (φ := .bf16) (ψ := .bf16) (k0_pay10 x) w r k
  have e' : k0_pay11 x w (ValueIdx.ix2 r k) = Ideal.ofBits .f32 0x3F000000#32
      * matmul (F := Ideal) (φ₁ := .bf16) (φ₂ := .bf16) dot_S512x2048_S2048x2048_S512x2048_1_0_0_1_n_n none (k0_pay10 x) w (constant S512x2048 .f32 0x00000000#32) (ValueIdx.ix2 r k)
      * (Ideal.ofBits .f32 0x3F800000#32 + Ideal.erf (matmul (F := Ideal) (φ₁ := .bf16) (φ₂ := .bf16) dot_S512x2048_S2048x2048_S512x2048_1_0_0_1_n_n none (k0_pay10 x) w (constant S512x2048 .f32 0x00000000#32) (ValueIdx.ix2 r k)
        * Named.named (F := Ideal) Cert.SpatialGatingIdeal.κ "half_root" (φ := .f32) 0x3F3504F3#32)) := rfl
  rw [e', e, half_root_word]
  rfl

/-- The second half of a block, layer-normed. -/
def half (x : Vec Ideal S512x2048 .f32) (w : Vec Ideal S2048x2048 .bf16) (g b : Vec Ideal S1x1x1024 .f32) : FVec Ideal S512x1024 .bf16 :=
  k0_pay17 (k0_pay12 g) (k0_pay13 b) (k0_pay14 x w) (k0_pay15 x w) k0_pay16

theorem half_apply (x : Vec Ideal S512x2048 .f32) (w : Vec Ideal S2048x2048 .bf16) (g b : Vec Ideal S1x1x1024 .f32) (r : Fin 512) (k : Fin 1024) :
    half x w g b (ValueIdx.ix2 r k) = lnRow 0x44800000#32
      (fun k : Fin 1024 => k0_pay11 x w (ValueIdx.ix2 r (⟨1024 + k.val, by have := k.isLt; omega⟩ : Fin 2048)))
      (fun k => g (ValueIdx.ix3 (0 : Fin 1) (0 : Fin 1) k)) (fun k => b (ValueIdx.ix3 (0 : Fin 1) (0 : Fin 1) k)) k := by
  have e : half x w g b = bLn 0x44800000#32 reduces_S512x1024_S512 shapeCasts_S512_S512x1 broadcasts_S512x1_S512x1024 broadcasts_S1x1024_S512x1024
      (extractStridedSlice S512x1024 ![0, 1024] (k0_pay11 x w) slices_S512x2048_o0_1024_S512x1024)
      (shapeCast S1x1024 g shapeCasts_S1x1x1024_S1x1024) (shapeCast S1x1024 b shapeCasts_S1x1x1024_S1x1024) := rfl
  rw [e]
  refine (bLn_apply _ _ _ _ _ _ _ _ r k).trans (lnRow_congr (fun k => ?_) (drop_apply g shapeCasts_S1x1x1024_S1x1024 0)
    (drop_apply b shapeCasts_S1x1x1024_S1x1024 0) k)
  exact extractStridedSlice_apply _ _ _ _ _ (fun a => by
    match a with
    | ⟨0, _⟩ => exact (Nat.zero_add _).symm
    | ⟨1, _⟩ => rfl)

/-! ## One window of 128 tokens, one group of 128 channels -/

theorem half_slices : ∀ (g : Fin 8) (n : Fin 4), S512x1024.Slices ![128 * n.val, 128 * g.val] S128x128 := by decide

theorem act_slices : ∀ (g : Fin 8) (n : Fin 4), S512x2048.Slices ![128 * n.val, 128 * g.val] S128x128 := by decide

theorem mixed_slices : ∀ n : Fin 4, S128x512.Slices ![0, 128 * n.val] S128x128 := by decide

theorem square_inb : ∀ (g : Fin 8) (a : Fin 4), (![0, g.val, 0, 0] : Fin 4 → ℕ) a + S1x1x128x128.size a ≤ S1x8x128x128.size a := by decide

theorem bias_inb : ∀ (g : Fin 8) (a : Fin 3), (![0, 0, g.val] : Fin 3 → ℕ) a + S1x128x1.size a ≤ S1x128x8.size a := by decide

theorem cell_inb : ∀ (g : Fin 8) (n : Fin 4) (a : Fin 2), (![128 * n.val, 128 * g.val] : Fin 2 → ℕ) a + S128x128.size a ≤ S512x1024.size a := by decide

/-- A group's square with the entries above its diagonal zero. -/
def triangle (W : Vec Ideal S1x1x128x128 .f32) : FVec Ideal S128x128 .bf16 :=
  truncf .bf16 (select (cmpi .sle (iota .tc S128x128 32 [1] iota_S128x128_d1_w32) (iota .tc S128x128 32 [0] iota_S128x128_d0_w32))
    (shapeCast S128x128 W shapeCasts_S1x1x128x128_S128x128 : FVec Ideal S128x128 .f32)
    (broadcast S128x128 (Scalar.ofBits (F := Ideal) .f32 0x00000000#32))) bitsLt_bf16_f32

theorem triangle_apply (W : Vec Ideal S1x1x128x128 .f32) (t s : Fin 128) :
    triangle W (ValueIdx.ix2 t s) = if s.val ≤ t.val then W (ValueIdx.ix4 (0 : Fin 1) (0 : Fin 1) t s) else 0 := by
  have ht := t.isLt
  have hs := s.isLt
  have e1 : iota .tc S128x128 32 [1] iota_S128x128_d1_w32 (ValueIdx.ix2 t s) = BitVec.ofNat 32 s.val :=
    congrArg (BitVec.ofNat 32) (by show 0 * 128 + s.val = s.val; omega)
  have e0 : iota .tc S128x128 32 [0] iota_S128x128_d0_w32 (ValueIdx.ix2 t s) = BitVec.ofNat 32 t.val :=
    congrArg (BitVec.ofNat 32) (by show 0 * 128 + t.val = t.val; omega)
  have ec : shapeCast S128x128 W shapeCasts_S1x1x128x128_S128x128 (ValueIdx.ix2 t s) = W (ValueIdx.ix4 (0 : Fin 1) (0 : Fin 1) t s) :=
    shapeCast_apply _ _ _ _ (by
      rw [Shape.rowMajor_val_four, Shape.rowMajor_val_two]
      show ((0 * 1 + 0) * 128 + t.val) * 128 + s.val = t.val * 128 + s.val
      omega)
  show Scalar.select (IntOp.cmpi .sle (iota .tc S128x128 32 [1] iota_S128x128_d1_w32 (ValueIdx.ix2 t s))
    (iota .tc S128x128 32 [0] iota_S128x128_d0_w32 (ValueIdx.ix2 t s)))
    (shapeCast S128x128 W shapeCasts_S1x1x128x128_S128x128 (ValueIdx.ix2 t s)) (Ideal.ofBits .f32 0x00000000#32) = _
  rw [e1, e0, ec, Ideal.ofBits_zero_f32, WordCmp.cmpi_sle_ofNat (by omega) (by omega), WordCmp.select_decide]

/-- The four windows of a block, mixed by a group's triangle and shifted. -/
def mixed (v : FVec Ideal S512x1024 .bf16) (W : Vec Ideal S1x1x128x128 .f32) (b : Vec Ideal S1x128x1 .f32) (g : Fin 8) : FVec Ideal S128x512 .f32 :=
  addf (matmul (F := Ideal) (φ₁ := .bf16) (φ₂ := .bf16) dot_S128x128_S128x512_S128x512_1_0_0_1_n_n none (triangle W)
      (concatenate S128x512 1 (List.ofFn fun n : Fin 4 => (⟨S128x128, extractStridedSlice S128x128 ![128 * n.val, 128 * g.val] v (half_slices g n)⟩ :
        (s : Shape) × (s.Idx → EReal))) concatenates_S128x128_S128x128_S128x128_S128x128_S128x512_d1)
      (constant S128x512 .f32 0x00000000#32))
    (broadcastTo S128x512 (shapeCast S128x1 b shapeCasts_S1x128x1_S128x1) broadcasts_S128x1_S128x512)

theorem mixed_apply (v : FVec Ideal S512x1024 .bf16) (W : Vec Ideal S1x1x128x128 .f32) (b : Vec Ideal S1x128x1 .f32) (g : Fin 8) (n : Fin 4)
    (t d : Fin 128) (C : Fin 1024) (hC : C.val = 128 * g.val + d.val) :
    mixed v W b g (ValueIdx.ix2 t (⟨128 * n.val + d.val, by have := n.isLt; have := d.isLt; omega⟩ : Fin 512))
      = ∑ s : Fin 128, (if s.val ≤ t.val then W (ValueIdx.ix4 (0 : Fin 1) (0 : Fin 1) t s) else 0)
          * v (ValueIdx.ix2 (⟨128 * n.val + s.val, by have := n.isLt; have := s.isLt; omega⟩ : Fin 512) C)
        + b (ValueIdx.ix3 (0 : Fin 1) t (0 : Fin 1)) := by
  have hd := d.isLt
  unfold mixed
  refine congrArg₂ (· + ·) ((mixDot.matmul_apply (φ := .bf16) (ψ := .bf16) (triangle W) _ t _).trans (Finset.sum_congr rfl fun s _ =>
    congrArg₂ (· * ·) (triangle_apply W t s) ?_)) ((col_apply _ _ t _).trans (drop_apply b shapeCasts_S1x128x1_S128x1 t 0))
  refine (concatenate_ofFn_apply (t := S128x512) 1 (fun n : Fin 4 => extractStridedSlice S128x128 ![128 * n.val, 128 * g.val] v (half_slices g n)) _ rfl 128 rfl
    (ValueIdx.ix2 s (⟨128 * n.val + d.val, by have := n.isLt; omega⟩ : Fin 512)) n (by show (128 * n.val + d.val) / 128 = n.val; omega)
    (ValueIdx.ix2 s d) (by show d.val = (128 * n.val + d.val) % 128; omega) (fun b hb => ?_)).trans ?_
  · match b with
    | ⟨0, _⟩ => rfl
    | ⟨1, _⟩ => exact absurd rfl hb
  · exact extractStridedSlice_apply _ _ _ _ _ (fun a => by
      match a with
      | ⟨0, _⟩ => rfl
      | ⟨1, _⟩ => exact hC)

/-- A window of a group: the first half times the mixed second half. -/
def cell (z : FVec Ideal S512x2048 .f32) (v : FVec Ideal S512x1024 .bf16) (W : Vec Ideal S1x1x128x128 .f32) (b : Vec Ideal S1x128x1 .f32)
    (g : Fin 8) (n : Fin 4) : FVec Ideal S128x128 .bf16 :=
  truncf .bf16 (mulf (extractStridedSlice S128x128 ![128 * n.val, 128 * g.val] z (act_slices g n))
    (extractStridedSlice S128x128 ![0, 128 * n.val] (mixed v W b g) (mixed_slices n))) bitsLt_bf16_f32

/-- The squares of a group, and its shifts. -/
def squareOf (S : Vec Ideal S1x8x128x128 .f32) (g : Fin 8) : Vec Ideal S1x1x128x128 .f32 :=
  View.ld S (Rect.unit ![0, g.val, 0, 0] ![1, 1, 128, 128] (square_inb g))

def biasOf (B : Vec Ideal S1x128x8 .f32) (g : Fin 8) : Vec Ideal S1x128x1 .f32 :=
  View.ld B (Rect.unit ![0, 0, g.val] ![1, 128, 1] (bias_inb g))

/-- What a block stores at a token and a channel. -/
def blockAt (z : FVec Ideal S512x2048 .f32) (v : FVec Ideal S512x1024 .bf16) (S : Vec Ideal S1x8x128x128 .f32) (B : Vec Ideal S1x128x8 .f32)
    (r : Fin 512) (k : Fin 1024) : EReal :=
  z (ValueIdx.ix2 r (⟨k.val, by have := k.isLt; omega⟩ : Fin 2048))
    * (∑ s : Fin 128, (if s.val ≤ r.val % 128 then
          S (ValueIdx.ix4 (0 : Fin 1) (⟨k.val / 128, by have := k.isLt; omega⟩ : Fin 8) (⟨r.val % 128, by omega⟩ : Fin 128) s) else 0)
        * v (ValueIdx.ix2 (⟨r.val / 128 * 128 + s.val, by have := r.isLt; have := s.isLt; omega⟩ : Fin 512) k)
      + B (ValueIdx.ix3 (0 : Fin 1) (⟨r.val % 128, by omega⟩ : Fin 128) (⟨k.val / 128, by have := k.isLt; omega⟩ : Fin 8)))

theorem cell_apply (z : FVec Ideal S512x2048 .f32) (v : FVec Ideal S512x1024 .bf16) (S : Vec Ideal S1x8x128x128 .f32) (B : Vec Ideal S1x128x8 .f32)
    (g : Fin 8) (n : Fin 4) (t d : Fin 128) (r : Fin 512) (k : Fin 1024) (hr : r.val = 128 * n.val + t.val) (hk : k.val = 128 * g.val + d.val) :
    cell z v (squareOf S g) (biasOf B g) g n (ValueIdx.ix2 t d) = blockAt z v S B r k := by
  have ht := t.isLt
  have hd := d.isLt
  have et : (⟨r.val % 128, by omega⟩ : Fin 128) = t := Fin.ext (by show r.val % 128 = t.val; omega)
  have eg : (⟨k.val / 128, by have := k.isLt; omega⟩ : Fin 8) = g := Fin.ext (by show k.val / 128 = g.val; omega)
  have er : r.val % 128 = t.val := congrArg Fin.val et
  unfold blockAt
  simp only [et, eg, er]
  refine congrArg₂ (· * ·) (extractStridedSlice_apply (t := S128x128) ![128 * n.val, 128 * g.val] z (act_slices g n) (ValueIdx.ix2 t d)
    (ValueIdx.ix2 r (⟨k.val, by have := k.isLt; omega⟩ : Fin 2048)) (fun a => by
    match a with
    | ⟨0, _⟩ => exact hr
    | ⟨1, _⟩ => exact hk)) ?_
  refine (extractStridedSlice_apply (t := S128x128) ![0, 128 * n.val] (mixed v _ _ g) (mixed_slices n) (ValueIdx.ix2 t d) (ValueIdx.ix2 t (⟨128 * n.val + d.val, by have := n.isLt; omega⟩ : Fin 512)) (fun a => by
    match a with
    | ⟨0, _⟩ => exact (Nat.zero_add _).symm
    | ⟨1, _⟩ => rfl)).trans ?_
  refine (mixed_apply v _ _ g n t d k hk).trans (congrArg₂ (· + ·) (Finset.sum_congr rfl fun s _ => congrArg₂ (· * ·) ?_ ?_) ?_)
  · refine if_congr Iff.rfl (congrArg S (funext fun a => Fin.ext ?_)) rfl
    match a with
    | ⟨0, _⟩ => rfl
    | ⟨1, _⟩ => show g.val + 1 * 0 = g.val; omega
    | ⟨2, _⟩ => show 0 + 1 * t.val = t.val; omega
    | ⟨3, _⟩ => show 0 + 1 * s.val = s.val; omega
  · exact congrArg v (Shape.idx_ext₂ (by show 128 * n.val + s.val = r.val / 128 * 128 + s.val; omega) rfl)
  · refine congrArg B (funext fun a => Fin.ext ?_)
    match a with
    | ⟨0, _⟩ => rfl
    | ⟨1, _⟩ => show 0 + 1 * t.val = t.val; omega
    | ⟨2, _⟩ => show g.val + 1 * 0 = g.val; omega

/-- The piece of a group's window. -/
def cellPiece (z : FVec Ideal S512x2048 .f32) (v : FVec Ideal S512x1024 .bf16) (S : Vec Ideal S1x8x128x128 .f32) (B : Vec Ideal S1x128x8 .f32)
    (g : Fin 8) (n : Fin 4) : View.Piece (Elt Ideal) S512x1024 .bf16 :=
  ⟨Rect.unit ![128 * n.val, 128 * g.val] ![128, 128] (cell_inb g n), cell z v (squareOf S g) (biasOf B g) g n⟩

/-- The thirty-two pieces a block stores, the last first. -/
def cells (z : FVec Ideal S512x2048 .f32) (v : FVec Ideal S512x1024 .bf16) (S : Vec Ideal S1x8x128x128 .f32) (B : Vec Ideal S1x128x8 .f32) :
    List (View.Piece (Elt Ideal) S512x1024 .bf16) :=
  List.ofFn fun q : Fin 32 => cellPiece z v S B ⟨(31 - q.val) / 4, by omega⟩ ⟨(31 - q.val) % 4, by omega⟩

theorem cells_apply (z : FVec Ideal S512x2048 .f32) (v : FVec Ideal S512x1024 .bf16) (S : Vec Ideal S1x8x128x128 .f32) (B : Vec Ideal S1x128x8 .f32)
    (r : Fin 512) (k : Fin 1024) : View.canon (cells z v S B) (ValueIdx.ix2 r k) = blockAt z v S B r k := by
  have hr := r.isLt
  have hk := k.isLt
  refine View.canon_apply_of_pieces (fun i => blockAt z v S B (i 0) (i 1)) (cells z v S B) (fun p hp x => ?_) (ValueIdx.ix2 r k) ?_
  · obtain ⟨q, rfl⟩ := List.mem_ofFn.mp hp
    refine (congrArg (cell z v _ _ _ _) (Shape.idx_ext₂ rfl rfl : x = ValueIdx.ix2 (x 0) (x 1))).trans
      (cell_apply z v S B _ _ (x 0) (x 1) _ _ ?_ ?_)
    · show 128 * _ + 1 * (x 0).val = 128 * _ + (x 0).val
      rw [Nat.one_mul]
    · show 128 * _ + 1 * (x 1).val = 128 * _ + (x 1).val
      rw [Nat.one_mul]
  · refine ⟨_, List.mem_ofFn.mpr ⟨⟨31 - (k.val / 128 * 4 + r.val / 128), by omega⟩, rfl⟩, (LoadRect.mem_set _).mpr fun a => ?_⟩
    match a with
    | ⟨0, _⟩ =>
      refine ⟨r.val % 128, Nat.mod_lt _ (by norm_num), ?_⟩
      show r.val = 128 * ((31 - (31 - (k.val / 128 * 4 + r.val / 128))) % 4) + 1 * (r.val % 128)
      omega
    | ⟨1, _⟩ =>
      refine ⟨k.val % 128, Nat.mod_lt _ (by norm_num), ?_⟩
      show k.val = 128 * ((31 - (31 - (k.val / 128 * 4 + r.val / 128))) / 4) + 1 * (k.val % 128)
      omega

/-- What a block stores. -/
def gatedBlock (x : Vec Ideal S512x2048 .f32) (w : Vec Ideal S2048x2048 .bf16) (S : Vec Ideal S1x8x128x128 .f32) (B : Vec Ideal S1x128x8 .f32)
    (g b : Vec Ideal S1x1x1024 .f32) : Vec Ideal S512x1024 .bf16 :=
  View.canon (cells (k0_pay11 x w) (half x w g b) S B)

/-! ## The run -/

variable (m : (ℓ : Loc nD τ sig) → Buf (Elt Ideal) ℓ)

theorem gating_v0 (c : Dev nD) : V m c main_v0 = shapeCast S2x1x1024 (m ((c : Thread nD τ).loc main_arg4)) shapeCasts_S2x1024_S2x1x1024 := by
  unfold V hostOps0
  run_tidy
  rfl

theorem gating_v1 (c : Dev nD) : V m c main_v1 = shapeCast S2x1x1024 (m ((c : Thread nD τ).loc main_arg5)) shapeCasts_S2x1024_S2x1x1024 := by
  unfold V hostOps0
  run_tidy
  rfl

theorem gating_index : ∀ t : Fin grid0.N, win0_0.index t = ![t.val, 0] ∧ win0_9.index t = ![t.val, 0] ∧ win0_10.index t = ![t.val, 0] := by
  decide +kernel

theorem fixed_index : ∀ t : Fin grid0.N, win0_1.index t = ![0, 0, 13] ∧ win0_2.index t = ![0, 0, 14]
    ∧ win0_3.index t = ![0, 0, 15] ∧ win0_4.index t = ![0, 0, 16] ∧ win0_5.index t = ![0, 0, 0, 0] ∧ win0_6.index t = ![0, 0, 0]
    ∧ win0_7.index t = ![0, 0, 0] ∧ win0_8.index t = ![0, 0, 0] := by decide +kernel

/-- The four blocks of the weights at a point. -/
def blocks (c : Dev nD) (t : Fin cfg0.N) : Fin 4 → Vec Ideal S1x2048x512 .f32 :=
  ![iblk m c 1 t, iblk m c 2 t, iblk m c 3 t, iblk m c 4 t]

theorem same_blocks (c : Dev nD) (t s : Fin cfg0.N) : blocks m c t = blocks m c s := by
  obtain ⟨t1, t2, t3, t4, -⟩ := fixed_index t
  obtain ⟨s1, s2, s3, s4, -⟩ := fixed_index s
  have e1 : iblk m c 1 t = iblk m c 1 s := by funext y; blk_ext [iblk, V, t1, s1]
  have e2 : iblk m c 2 t = iblk m c 2 s := by funext y; blk_ext [iblk, V, t2, s2]
  have e3 : iblk m c 3 t = iblk m c 3 s := by funext y; blk_ext [iblk, V, t3, s3]
  have e4 : iblk m c 4 t = iblk m c 4 s := by funext y; blk_ext [iblk, V, t4, s4]
  unfold blocks
  rw [e1, e2, e3, e4]

theorem quarters_at (c : Dev nD) : ∀ (n : ℕ) (t : Fin cfg0.N), t.val = n → (outsAt0 m c t.val t.isLt).2.2 = quarters (blocks m c t) := by
  intro n
  induction n with
  | zero =>
    intro t ht
    rw [outsAt0_A m c t (by omega)]
    frame_out
    rfl
  | succ n ih =>
    intro t ht
    by_cases h : t.val % 16 = 0
    · rw [outsAt0_A m c t h]
      frame_out
      rfl
    · have hs := ih ⟨t.val - 1, by have := t.isLt; omega⟩ (by show t.val - 1 = n; omega)
      rw [outsAt0_B m c t h, same_blocks m c t ⟨t.val - 1, by have := t.isLt; omega⟩]
      unfold sout0_B_0
      exact hs

theorem gating_out (c : Dev nD) (t : Fin cfg0.N) : (outsAt0 m c t.val t.isLt).1
    = gatedBlock (iblk m c 0 t) (quarters (blocks m c t)) (iblk m c 5 t) (iblk m c 6 t) (iblk m c 7 t) (iblk m c 8 t) := by
  by_cases h : t.val % 16 = 0
  · rw [outsAt0_A m c t h]
    frame_out
    rw [View.readCov_eq_canon']
    refine congrArg (fun w => gatedBlock (iblk m c 0 t) w (iblk m c 5 t) (iblk m c 6 t) (iblk m c 7 t) (iblk m c 8 t)) (funext fun j => ?_)
    exact congrArg (quarters (blocks m c t)) (funext fun a => Fin.ext (by
      match a with
      | ⟨0, _⟩ => show 0 + 1 * (j 0).val = (j 0).val; omega
      | ⟨1, _⟩ => show 0 + 1 * (j 1).val = (j 1).val; omega))
  · have hs := quarters_at m c (t.val - 1) ⟨t.val - 1, by have := t.isLt; omega⟩ rfl
    rw [outsAt0_B m c t h, same_blocks m c t ⟨t.val - 1, by have := t.isLt; omega⟩]
    frame_out
    refine congrArg (fun w => gatedBlock (iblk m c 0 t) w (iblk m c 5 t) (iblk m c 6 t) (iblk m c 7 t) (iblk m c 8 t)) ?_
    exact (Memref.IsWhole.read_unread _ _).trans hs

theorem copy_out (c : Dev nD) (t : Fin cfg0.N) : (outsAt0 m c t.val t.isLt).2.1 = iblk m c 0 t := by
  by_cases h : t.val % 16 = 0
  · rw [outsAt0_A m c t h]
    frame_out
    rfl
  · rw [outsAt0_B m c t h]
    frame_out
    rfl

theorem gating_x (c : Dev nD) (t : Fin cfg0.N) (r : Fin 512) (i : Fin 8192) (hi : i.val = t.val * 512 + r.val) (j : Fin 2048) :
    iblk m c 0 t (ValueIdx.ix2 r j) = m ((c : Thread nD τ).loc main_arg0) (ValueIdx.ix2 i j) := by
  obtain ⟨e0, -⟩ := gating_index t
  refine (congrArg (V m c main_arg0) (Shape.idx_ext₂ ?_ ?_)).trans (congrFun (V_main_arg0 m c) (ValueIdx.ix2 i j)) <;> blk_simp [e0, hi]

theorem gating_w (c : Dev nD) (t : Fin cfg0.N) (q : Fin 4) (k : Fin 512) (u : Fin 14848) (hu : u.val = 6656 + (512 * q.val + k.val)) (j : Fin 2048) :
    blocks m c t q (ValueIdx.ix3 (0 : Fin 1) j k) = m ((c : Thread nD τ).loc main_arg1) (ValueIdx.ix3 (0 : Fin 2) j u) := by
  obtain ⟨e1, e2, e3, e4, -⟩ := fixed_index t
  match q with
  | ⟨0, _⟩ | ⟨1, _⟩ | ⟨2, _⟩ | ⟨3, _⟩ =>
    dsimp only at hu
    refine (congrArg (V m c main_arg1) (?_ : _ = ValueIdx.ix3 (0 : Fin 2) j u)).trans (congrFun (V_main_arg1 m c) _)
    funext a
    refine Fin.ext ?_
    match a with
    | ⟨0, _⟩ => blk_simp [e1, e2, e3, e4]; rfl
    | ⟨1, _⟩ => blk_simp [e1, e2, e3, e4]
    | ⟨2, _⟩ =>
      blk_simp [e1, e2, e3, e4]
      show _ = u.val
      simp only [ValueIdx.ix3]
      omega

theorem gating_square (c : Dev nD) (t : Fin cfg0.N) (g : Fin 8) (a b : Fin 128) :
    iblk m c 5 t (ValueIdx.ix4 (0 : Fin 1) g a b) = m ((c : Thread nD τ).loc main_arg2) (ValueIdx.ix4 (0 : Fin 2) g a b) := by
  obtain ⟨-, -, -, -, e5, -⟩ := fixed_index t
  refine (congrArg (V m c main_arg2) (?_ : _ = ValueIdx.ix4 (0 : Fin 2) g a b)).trans (congrFun (V_main_arg2 m c) _)
  funext d
  refine Fin.ext ?_
  match d with
  | ⟨0, _⟩ => blk_simp [e5]; rfl
  | ⟨1, _⟩ => blk_simp [e5]
  | ⟨2, _⟩ => blk_simp [e5]
  | ⟨3, _⟩ => blk_simp [e5]

theorem gating_bias (c : Dev nD) (t : Fin cfg0.N) (a : Fin 128) (g : Fin 8) :
    iblk m c 6 t (ValueIdx.ix3 (0 : Fin 1) a g) = m ((c : Thread nD τ).loc main_arg3) (ValueIdx.ix3 (0 : Fin 2) a g) := by
  obtain ⟨-, -, -, -, -, e6, -⟩ := fixed_index t
  refine (congrArg (V m c main_arg3) (?_ : _ = ValueIdx.ix3 (0 : Fin 2) a g)).trans (congrFun (V_main_arg3 m c) _)
  funext d
  refine Fin.ext ?_
  match d with
  | ⟨0, _⟩ => blk_simp [e6]; rfl
  | ⟨1, _⟩ => blk_simp [e6]
  | ⟨2, _⟩ => blk_simp [e6]

theorem gating_rows (c : Dev nD) (t : Fin cfg0.N) (k : Fin 1024) :
    iblk m c 7 t (ValueIdx.ix3 (0 : Fin 1) (0 : Fin 1) k) = m ((c : Thread nD τ).loc main_arg4) (ValueIdx.ix2 (0 : Fin 2) k)
    ∧ iblk m c 8 t (ValueIdx.ix3 (0 : Fin 1) (0 : Fin 1) k) = m ((c : Thread nD τ).loc main_arg5) (ValueIdx.ix2 (0 : Fin 2) k) := by
  obtain ⟨-, -, -, -, -, -, e7, e8⟩ := fixed_index t
  refine ⟨?_, ?_⟩
  · refine (congrArg (V m c main_v0) (?_ : _ = ValueIdx.ix3 (0 : Fin 2) (0 : Fin 1) k)).trans ((congrFun (gating_v0 m c) _).trans (lift_apply _ shapeCasts_S2x1024_S2x1x1024 0 k))
    funext a
    refine Fin.ext ?_
    match a with
    | ⟨0, _⟩ => blk_simp [e7]; rfl
    | ⟨1, _⟩ => blk_simp [e7]
    | ⟨2, _⟩ => blk_simp [e7]
  · refine (congrArg (V m c main_v1) (?_ : _ = ValueIdx.ix3 (0 : Fin 2) (0 : Fin 1) k)).trans ((congrFun (gating_v1 m c) _).trans (lift_apply _ shapeCasts_S2x1024_S2x1x1024 0 k))
    funext a
    refine Fin.ext ?_
    match a with
    | ⟨0, _⟩ => blk_simp [e8]; rfl
    | ⟨1, _⟩ => blk_simp [e8]
    | ⟨2, _⟩ => blk_simp [e8]

/-- A block's activated projection is the whole's. -/
theorem gating_act (c : Dev nD) (t : Fin cfg0.N) (r : Fin 512) (i : Fin 8192) (hi : i.val = t.val * 512 + r.val) (k : Fin 2048) :
    k0_pay11 (iblk m c 0 t) (quarters (blocks m c t)) (ValueIdx.ix2 r k)
      = actVal (m ((c : Thread nD τ).loc main_arg0)) (m ((c : Thread nD τ).loc main_arg1)) i k := by
  refine (act_block _ _ r k).trans (congrArg gelu (Finset.sum_congr rfl fun j _ => congrArg₂ (· * ·) (gating_x m c t r i hi j) ?_))
  exact quarters_apply _ j k _ fun q l hl => gating_w m c t q l _ (by show 6656 + k.val = _; omega) j

/-- A block's layer norm is the whole's. -/
theorem gating_half (c : Dev nD) (t : Fin cfg0.N) (r : Fin 512) (i : Fin 8192) (hi : i.val = t.val * 512 + r.val) (k : Fin 1024) :
    half (iblk m c 0 t) (quarters (blocks m c t)) (iblk m c 7 t) (iblk m c 8 t) (ValueIdx.ix2 r k)
      = normedHalf (m ((c : Thread nD τ).loc main_arg0)) (m ((c : Thread nD τ).loc main_arg1)) (m ((c : Thread nD τ).loc main_arg4))
        (m ((c : Thread nD τ).loc main_arg5)) i k :=
  (half_apply _ _ _ _ r k).trans (lnRow_congr (fun k => gating_act m c t r i hi _) (fun k => (gating_rows m c t k).1)
    (fun k => (gating_rows m c t k).2) k)

theorem gating_at (c : Dev nD) (t : Fin cfg0.N) (i : (Mat 8192 1024).Idx) (r : Fin 512) (k : Fin 1024)
    (h0 : (i 0).val = t.val * 512 + r.val) (h1 : (i 1).val = k.val) :
    gatedBlock (iblk m c 0 t) (quarters (blocks m c t)) (iblk m c 5 t) (iblk m c 6 t) (iblk m c 7 t) (iblk m c 8 t) (ValueIdx.ix2 r k)
      = gatedVal (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) i := by
  have hr := r.isLt
  have hk := k.isLt
  obtain ⟨R, hR⟩ : ∃ R : Fin 8192, R = i 0 := ⟨i 0, rfl⟩
  have ek : k = i 1 := Fin.ext h1.symm
  have h0' : R.val = t.val * 512 + r.val := (congrArg Fin.val hR).trans h0
  have em : (⟨r.val % 128, by omega⟩ : Fin 128) = ⟨R.val % 128, by omega⟩ := Fin.ext (by show r.val % 128 = R.val % 128; omega)
  refine (cells_apply _ _ _ _ r k).trans ?_
  unfold gatedVal
  rw [← hR, ← ek]
  unfold blockAt gatedAt lower
  rw [em]
  refine congrArg₂ (· * ·) (gating_act m c t r R h0' _) (congrArg₂ (· + ·) (Finset.sum_congr rfl fun s _ => congrArg₂ (· * ·) ?_ ?_) (gating_bias m c t _ _))
  · exact if_congr (by rw [show r.val % 128 = R.val % 128 from congrArg Fin.val em]) (gating_square m c t _ _ s) rfl
  · exact gating_half m c t _ _ (by have := s.isLt; show R.val / 128 * 128 + s.val = t.val * 512 + (r.val / 128 * 128 + s.val); omega) k

/-- The first result after the run: the gatedBlock values. -/
theorem gating_final (c : Dev nD) : (dats m 0 c).arrAt 9 cfg0.N
    = gatedVal (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 9 _ (by decide +kernel) fun t hf y => ?_
  obtain ⟨-, e9, -⟩ := gating_index t
  refine (congrFun ((after0_9 m c t).trans (gating_out m c t)) y).trans ?_
  refine (congrArg (gatedBlock _ _ _ _ _ _) (Shape.idx_ext₂ rfl rfl : y = ValueIdx.ix2 (y 0) (y 1))).trans (gating_at m c t _ (y 0) (y 1) ?_ ?_)
  · blk_simp [e9]
  · blk_simp [e9]

/-- The second result after the run: the tokens. -/
theorem copy_final (c : Dev nD) : (dats m 0 c).arrAt 10 cfg0.N = (m ((c : Thread nD τ).loc main_arg0) : (Mat 8192 2048).Idx → EReal) := by
  refine (dats m 0 c).arrAt_eq_of_covers 10 _ (by decide +kernel) fun t hf y => ?_
  obtain ⟨-, -, e10⟩ := gating_index t
  refine (congrFun ((after0_10 m c t).trans (copy_out m c t)) y).trans ?_
  refine (congrArg (iblk m c 0 t) (Shape.idx_ext₂ rfl rfl : y = ValueIdx.ix2 (y 0) (y 1))).trans
    ((gating_x m c t (y 0) _ ?_ (y 1)).trans (congrArg (m ((c : Thread nD τ).loc main_arg0)) (Shape.idx_ext₂ rfl ?_)))
  · blk_simp [e10]
  · blk_simp [e10]

end Cert.Dense
-- ==== Proof.Dense.GatingReference.lean ====
module

public import proofs.«01_k».proof.Proof.Dense.GatingValue
public import proofs.«01_k».proof.Proof.Gen.SpatialGatingReferenceIdeal.Read
public import Idealize.ShloMosaic.Lib.WordCmp

@[expose] public section

set_option maxRecDepth 16384

noncomputable section

/-! # The spatial gating's reference -/

namespace Cert.Dense

open Idealize.ShloMosaic Idealize.ShloMosaic.ValueIdx Cert.SpatialGatingReferenceIdeal Cert.SpatialGatingReferenceIdeal.Gen Cert.SpatialGatingReferenceIdeal.Read

variable (x0 : (Mat 8192 2048).Idx → EReal) (x1 : (Stack 2 2048 14848).Idx → EReal) (x2 : Squares.Idx → EReal)
  (x3 : (Stack 2 128 8).Idx → EReal) (x4 x5 : (Mat 2 1024).Idx → EReal)

theorem word_2 : Ideal.ofBits .f32 0x40000000#32 = ((2 : ℝ) : EReal) := by
  simp [Ideal.ofBits, Ideal.ieee, -EReal.coe_mul]; norm_num

/-- The quotient by the square root of two. -/
theorem ref_over_root (y : EReal) (i : S8192x2048.Idx) : Ideal.div y (val_main_v6 (F := Ideal) i) = y * (((Real.sqrt 2)⁻¹ : ℝ) : EReal) := by
  have e : val_main_v6 (F := Ideal) i = ((Real.sqrt 2 : ℝ) : EReal) := by
    rw [val_main_v6_apply, val_main_v5_apply, val_main_cst_0_apply, Ideal.hostUnary_sqrt_def]
    show Ideal.sqrt (Ideal.ofBits .f32 0x40000000#32) = _
    rw [word_2, Ideal.sqrt_coe, if_neg (by norm_num)]
  rw [e, Ideal.div_coe (Real.sqrt_pos.mpr (by norm_num)).ne', one_div]

theorem ref_projection (r : Fin 8192) (k : Fin 2048) :
    val_main_v2 (F := Ideal) x0 x1 (ix2 r k) = colDot x0 x1 r (⟨6656 + k.val, by have := k.isLt; omega⟩ : Fin 14848) := by
  rw [val_main_v2_apply]
  refine Finset.sum_congr rfl fun j _ => congrArg₂ (· * ·) (congrArg x0 (Shape.idx_ext₂ rfl rfl)) ?_
  rw [val_main_v1_apply, val_main_v0_apply]
  refine congrArg x1 (funext fun a => Fin.ext ?_)
  have hk := k.isLt
  have hj := j.isLt
  match a with
  | ⟨0, _⟩ => rfl
  | ⟨1, _⟩ => show (j.val * 2048 + k.val) / 2048 % 2048 = j.val; omega
  | ⟨2, _⟩ => show 6656 + (j.val * 2048 + k.val) % 2048 = 6656 + k.val; omega

theorem ref_act (r : Fin 8192) (k : Fin 2048) : val_main_v11 (F := Ideal) x0 x1 (ix2 r k) = actVal x0 x1 r k := by
  rw [val_main_v11_apply, val_main_v10_apply, val_main_v9_apply, val_main_cst_1_apply, val_main_v8_apply, val_main_v7_apply,
    Ideal.hostDivf_def, ref_over_root, val_main_v4_apply, val_main_v3_apply, val_main_cst_apply, ref_projection]
  rfl

/-- The second half of a token's activated projection. -/
def second (r : Fin 8192) (k : Fin 1024) : EReal := actVal x0 x1 r ⟨1024 + k.val, by have := k.isLt; omega⟩

theorem ref_second (r : Fin 8192) (k : Fin 1024) : val_main_v13 (F := Ideal) x0 x1 (ix2 r k) = second x0 x1 r k := by
  have e : idx_main_v13 (ix2 r k) = ix2 r (⟨1024 + k.val, by have := k.isLt; omega⟩ : Fin 2048) := Shape.idx_ext₂ rfl rfl
  rw [val_main_v13_apply, e, ref_act]
  rfl

theorem gating_mean (r : Fin 8192) : val_main_v21 (F := Ideal) x0 x1 (ix2 r (0 : Fin 1)) = mean 0x44800000#32 (second x0 x1 r) := by
  refine congrArg₂ Ideal.div ?_ (val_main_v20_apply (F := Ideal) _)
  rw [val_main_v19_apply, val_main_v18_apply, val_main_cst_2_apply]
  refine Eq.trans (congrArg₂ (· + ·) (Ideal.ofBits_zero_f32 : Ideal.ofBits .f32 0x00000000#32 = 0) (Finset.sum_congr rfl fun k _ => ?_)) (zero_add _)
  exact (congrArg (val_main_v13 (F := Ideal) x0 x1) (Shape.idx_ext₂ rfl rfl : idx_main_v18 (idx_main_v19 (ix2 r (0 : Fin 1))) k = ix2 r k)).trans
    (ref_second x0 x1 r k)

theorem gating_cent (r : Fin 8192) (k : Fin 1024) :
    val_main_v23 (F := Ideal) x0 x1 (ix2 r k) = second x0 x1 r k - mean 0x44800000#32 (second x0 x1 r) := by
  have ei : idx_main_v22 (ix2 r k) = ix2 r (0 : Fin 1) := Shape.idx_ext₂ rfl rfl
  rw [val_main_v23_apply, val_main_v22_apply, ei, gating_mean, ref_second]
  rfl

theorem gating_var (r : Fin 8192) : val_main_v28 (F := Ideal) x0 x1 (ix2 r (0 : Fin 1))
    = mean 0x44800000#32 (fun k => (second x0 x1 r k - mean 0x44800000#32 (second x0 x1 r)) * (second x0 x1 r k - mean 0x44800000#32 (second x0 x1 r))) := by
  refine congrArg₂ Ideal.div ?_ (val_main_v27_apply (F := Ideal) _)
  rw [val_main_v26_apply, val_main_v25_apply, val_main_cst_4_apply]
  refine Eq.trans (congrArg₂ (· + ·) (Ideal.ofBits_zero_f32 : Ideal.ofBits .f32 0x00000000#32 = 0) (Finset.sum_congr rfl fun k _ => ?_)) (zero_add _)
  refine (congrArg (val_main_v24 (F := Ideal) x0 x1) (Shape.idx_ext₂ rfl rfl : idx_main_v25 (idx_main_v26 (ix2 r (0 : Fin 1))) k = ix2 r k)).trans ?_
  exact congrArg₂ (· * ·) (gating_cent x0 x1 r k) (gating_cent x0 x1 r k)

theorem ref_half (r : Fin 8192) (k : Fin 1024) : val_main_v41 (F := Ideal) x0 x1 x4 x5 (ix2 r k) = normedHalf x0 x1 x4 x5 r k := by
  have e1 : idx_main_v29 (ix2 r k) = ix2 r (0 : Fin 1) := Shape.idx_ext₂ rfl rfl
  have e2 : idx_main_v34 (ix2 r k) = ix2 r (0 : Fin 1) := Shape.idx_ext₂ rfl rfl
  have e3 : idx_main_v14 (idx_main_v15 (idx_main_v36 (idx_main_v37 (ix2 r k)))) = ix2 (0 : Fin 2) k :=
    Shape.idx_ext₂ rfl (Nat.mod_eq_of_lt k.isLt)
  have e4 : idx_main_v16 (idx_main_v17 (idx_main_v39 (idx_main_v40 (ix2 r k)))) = ix2 (0 : Fin 2) k :=
    Shape.idx_ext₂ rfl (Nat.mod_eq_of_lt k.isLt)
  rw [val_main_v41_apply, val_main_v38_apply, val_main_v35_apply, val_main_v30_apply, val_main_v29_apply, val_main_v34_apply,
    val_main_v33_apply, val_main_v37_apply, val_main_v36_apply, val_main_v15_apply, val_main_v14_apply, val_main_v40_apply,
    val_main_v39_apply, val_main_v17_apply, val_main_v16_apply, e1, e2, e3, e4, val_main_v32_apply, val_main_v31_apply,
    gating_mean, gating_var, ref_second]
  rfl

/-! ## The mixing along the tokens -/

theorem square_ext {i j : Squares.Idx} (h0 : (i 0).val = (j 0).val) (h1 : (i 1).val = (j 1).val) (h2 : (i 2).val = (j 2).val)
    (h3 : (i 3).val = (j 3).val) : i = j := funext fun a => Fin.ext (by
  match a with
  | ⟨0, _⟩ => exact h0
  | ⟨1, _⟩ => exact h1
  | ⟨2, _⟩ => exact h2
  | ⟨3, _⟩ => exact h3)

theorem ref_mask (t s : Fin 128) : val_main_v44 (F := Ideal) (ix2 t s) = BitVec.ofBool (decide (s.val ≤ t.val)) := by
  have ht := t.isLt
  have hs := s.isLt
  rw [val_main_v44_apply, val_main_call0_v4_apply, val_main_call0_v2_apply, val_main_call0_v0_apply, val_main_call0_v1_apply,
    val_main_call0_c_apply, val_main_call0_v3_apply, val_main_v43_apply, val_main_c_apply, val_main_call0_v5_apply, val_main_call0_c_0_apply]
  have ea : IntOp.addi (BitVec.ofNat 32 t.val) 0#32 = BitVec.ofNat 32 t.val := BitVec.add_zero _
  show Scalar.select (IntOp.cmpi .sge (IntOp.addi (BitVec.ofNat 32 t.val) 0#32) (BitVec.ofNat 32 s.val)) 1#1 0#1 = _
  rw [ea, WordCmp.cmpi_sge_ofNat (by omega) (by omega), WordCmp.select_decide]
  by_cases h : s.val ≤ t.val
  · rw [if_pos h, decide_eq_true h]; rfl
  · rw [if_neg h, decide_eq_false h]; rfl

theorem ref_lower (i : S8x128x128.Idx) (g : Fin 8) (t s : Fin 128) (hg : (i 0).val = g.val) (ht : (i 1).val = t.val) (hs : (i 2).val = s.val) :
    val_main_v48 (F := Ideal) x2 i = lower x2 g t s := by
  have hgl := g.isLt
  have htl := t.isLt
  have hsl := s.isLt
  have em : idx_main_v45 (idx_main_call1_v1 i) = ix2 t s := Shape.idx_ext₂ ht hs
  have ez : val_main_call1_v2 (F := Ideal) i = 0 := by
    rw [val_main_call1_v2_apply, val_main_call1_v0_apply, val_main_c_7_apply]
    show (((0#32).toInt : ℝ) : EReal) = 0
    simp
  have es : val_main_v47 (F := Ideal) x2 i = x2 (ValueIdx.ix4 (0 : Fin 2) g t s) := by
    rw [val_main_v47_apply, val_main_v46_apply]
    refine congrArg x2 (square_ext rfl ?_ ?_ ?_)
    · show (((i 0).val * 128 + (i 1).val) * 128 + (i 2).val) / 16384 % 8 = g.val; omega
    · show (((i 0).val * 128 + (i 1).val) * 128 + (i 2).val) / 128 % 128 = t.val; omega
    · show (((i 0).val * 128 + (i 1).val) * 128 + (i 2).val) % 128 = s.val; omega
  rw [val_main_v48_apply, val_main_call1_v1_apply, val_main_v45_apply, em, ref_mask, ez, es, WordCmp.select_decide]
  rfl

theorem ref_gated : val_main_v57 (F := Ideal) x0 x1 x2 x3 x4 x5 = gatedVal x0 x1 x2 x3 x4 x5 := by
  funext i
  obtain ⟨r, k, rfl⟩ : ∃ (r : Fin 8192) (k : Fin 1024), i = ix2 r k := ⟨i 0, i 1, Shape.idx_ext₂ rfl rfl⟩
  have hr := r.isLt
  have hk := k.isLt
  show _ = gatedAt x0 x1 x2 x3 x4 x5 r k
  rw [val_main_v57_apply, val_main_v56_apply, val_main_v55_apply, val_main_v50_apply, val_main_v49_apply]
  unfold gatedAt
  refine congrArg₂ (· * ·) ?_ (congrArg₂ (· + ·) (Finset.sum_congr rfl fun s _ => ?_) ?_)
  · have e : idx_main_v12 (ix2 r k) = ix2 r (⟨k.val, by omega⟩ : Fin 2048) := Shape.idx_ext₂ rfl rfl
    rw [val_main_v12_apply, e, ref_act]
  · have hs := s.isLt
    have el : idx_main_v42 (lidx_main_v49 (idx_main_v50 (idx_main_v56 (ix2 r k))) s) = ix2 (⟨r.val / 128 * 128 + s.val, by omega⟩ : Fin 8192) k :=
      Shape.idx_ext₂ (by
        show ((((r.val * 1024 + k.val) / 131072 * 128 + s.val) * 8 + (r.val * 1024 + k.val) / 128 % 8) * 128 + (r.val * 1024 + k.val) % 128) / 1024
          = r.val / 128 * 128 + s.val
        omega) (by
        show ((((r.val * 1024 + k.val) / 131072 * 128 + s.val) * 8 + (r.val * 1024 + k.val) / 128 % 8) * 128 + (r.val * 1024 + k.val) % 128) % 1024
          = k.val
        omega)
    rw [val_main_v42_apply, el, ref_half, ref_lower x2 _ (⟨k.val / 128, by omega⟩ : Fin 8) (⟨r.val % 128, by omega⟩ : Fin 128) s
      (by show (r.val * 1024 + k.val) / 128 % 8 = k.val / 128; omega) (by show (r.val * 1024 + k.val) / 1024 % 128 = r.val % 128; omega) rfl]
    exact mul_comm _ _
  · rw [val_main_v54_apply, val_main_v53_apply, val_main_v52_apply, val_main_v51_apply]
    refine congrArg x3 (funext fun a => Fin.ext ?_)
    match a with
    | ⟨0, _⟩ => rfl
    | ⟨1, _⟩ => show ((r.val * 1024 + k.val) / 1024 % 128 * 8 + (r.val * 1024 + k.val) / 128 % 8) / 8 % 128 = r.val % 128; omega
    | ⟨2, _⟩ => show ((r.val * 1024 + k.val) / 1024 % 128 * 8 + (r.val * 1024 + k.val) / 128 % 8) % 8 = k.val / 128; omega

theorem ref_gated' : val_main_v58 (F := Ideal) x0 x1 x2 x3 x4 x5 = gatedVal x0 x1 x2 x3 x4 x5 := ref_gated x0 x1 x2 x3 x4 x5

end Cert.Dense
-- ==== Proof.Dense.Strided.lean ====
module

public import proofs.«01_k».proof.Proof.Dense.Qkv
public import Idealize.ShloMosaic.Lib.Pipeline.ReadBack

@[expose] public section

set_option maxRecDepth 16384

noncomputable section

/-! # Rows put by residue class

The other two groups of heads store a tile's rows class by class: the rows whose place is `k` modulo `q` one after another. -/

namespace Cert.Dense

open Idealize.ShloMosaic Idealize.ShloMosaic.ValueIdx Idealize.ShloMosaic.TcCoe

/-- The rows of a tile by residue class: `q` classes of `n` rows. -/
def byClass (q n : ℕ) (F : (Mat 1024 1536).Idx → EReal) : (Mat 1024 1536).Idx → EReal := fun i =>
  F (ValueIdx.ix2 (⟨((i 0).val % n * q + (i 0).val / n) % 1024, Nat.mod_lt _ (by omega)⟩ : Fin 1024) (i 1))

/-- A tile's queries, keys and values from its product. -/
def tileRows (A : (Mat 1024 1536).Idx → EReal) (co si : Fin 1024 → Fin 16 → EReal) : (Mat 1024 1536).Idx → EReal := fun i =>
  qkvRow (fun C => A (ValueIdx.ix2 (i 0) C)) (co (i 0)) (si (i 0)) (i 1)

/-- The tables of a tile hold the angles' cosines and sines. -/
def TileTables (c lo hi : (Mat 1024 128).Idx → EReal) (co si : Fin 1024 → Fin 16 → EReal) : Prop := ∀ r : Fin 1024,
  RotaryRow (fun d => c (ValueIdx.ix2 r d)) (fun d => lo (ValueIdx.ix2 r d)) (fun d => hi (ValueIdx.ix2 r d)) (co r) (si r)

section Read

variable {sg : RefSig} {κ' : Kind} {sp : Space} (v : View sg κ' sp (Stack 12 1024 128) .f32)

/-- A head stored last, read at one index. -/
theorem canon_head (h : ℕ) (inb) (W : (Rect.unit (s := Stack 12 1024 128) ![h, 0, 0] ![1, 1024, 128] inb).shape.Idx → Elt Ideal .f32)
    (L : List (View.Piece (Elt Ideal) (Stack 12 1024 128) .f32)) (y : (Stack 12 1024 128).Idx) (r : Fin 1024) (b : Fin 128)
    (h0 : (y 0).val = h) (h1 : (y 1).val = r.val) (h2 : (y 2).val = b.val) :
    View.canon (⟨Rect.unit (s := Stack 12 1024 128) ![h, 0, 0] ![1, 1024, 128] inb, W⟩ :: L) y = W (ValueIdx.ix3 (0 : Fin 1) r b) := by
  have e : y = (Rect.unit (s := Stack 12 1024 128) ![h, 0, 0] ![1, 1024, 128] inb).emb (ValueIdx.ix3 (0 : Fin 1) r b) := by
    funext e
    refine Fin.ext ?_
    match e with
    | ⟨0, _⟩ => exact h0
    | ⟨1, _⟩ =>
      show (y 1).val = 0 + 1 * r.val
      omega
    | ⟨2, _⟩ =>
      show (y 2).val = 0 + 1 * b.val
      omega
  rw [e]
  exact View.canon_cons_emb (Val := Elt Ideal) _ W L _

/-- The head stored last, read at every `q`th row. -/
theorem read_head (h k q n : ℕ) (inb) (inbL) (Z : FVec Ideal (Mat 1024 128) .f32) (hZ : (Mat 1024 128).ShapeCasts (Stack 1 1024 128))
    (L : List (View.Piece (Elt Ideal) (Stack 12 1024 128) .f32)) (hc : (Stack 1 n 128).ShapeCasts (Mat n 128)) (x : (Mat n 128).Idx)
    (r : Fin 1024) (hr : r.val = k + q * (x 0).val) :
    shapeCast (Mat n 128) (v.readCov (⟨Rect.unit ![h, 0, 0] ![1, 1024, 128] inb, shapeCast (Stack 1 1024 128) Z hZ⟩ :: L)
      ⟨![h, k, 0], ![1, n, 128], ![1, q, 1], inbL⟩ : (Stack 1 n 128).Idx → EReal) hc x = Z (ValueIdx.ix2 r (x 1)) := by
  rw [View.readCov_eq_canon']
  obtain ⟨a, ha⟩ : ∃ a : Fin n, a = x 0 := ⟨x 0, rfl⟩
  obtain ⟨b, hb⟩ : ∃ b : Fin 128, b = x 1 := ⟨x 1, rfl⟩
  rw [← ha] at hr
  rw [← hb, show x = ValueIdx.ix2 a b from Shape.idx_ext₂ (by rw [ha]) (by rw [hb])]
  have e : shapeCast (Stack 1 1024 128) Z hZ (ValueIdx.ix3 (0 : Fin 1) r b) = Z (ValueIdx.ix2 r b) :=
    shapeCast_apply Z hZ (ValueIdx.ix3 (0 : Fin 1) r b) (ValueIdx.ix2 r b) (by
      rw [Shape.rowMajor_val_three, Shape.rowMajor_val_two]
      show r.val * 128 + b.val = (0 * 1024 + r.val) * 128 + b.val
      omega)
  rw [← e]
  generalize shapeCast (Stack 1 1024 128) Z hZ = W
  refine (drop_apply _ hc a b).trans ?_
  refine canon_head h inb W L _ r b ?_ ?_ ?_
  · rfl
  · exact hr.symm
  · show 0 + 1 * b.val = b.val
    omega

end Read

section Class

variable {sg : RefSig} {κ' : Kind} {sp : Space} (v : View sg κ' sp (Stack 12 1024 128) .f32)
  (q n : ℕ) (hqn : q * n = 1024) (h k a o : ℕ) (inbO) (inb) (inbL) (hZ : (Mat 1024 128).ShapeCasts (Stack 1 1024 128))
  (L : List (View.Piece (Elt Ideal) (Stack 12 1024 128) .f32)) (hc : (Stack 1 n 128).ShapeCasts (Mat n 128))
  (hb : FTy.bits .bf16 < FTy.bits .f32) (hk : k < q) (ha : a = k * n)

include hqn hk ha in
theorem class_piece (F : (Mat 1024 1536).Idx → EReal) (Z : FVec Ideal (Mat 1024 128) .f32)
    (hF : ∀ (y : (Mat 1024 128).Idx) (C : Fin 1536), C.val = o + (y 1).val → Z y = F (ValueIdx.ix2 (y 0) C))
    (x : (Rect.unit (s := Mat 1024 1536) ![a, o] ![n, 128] inbO).shape.Idx) :
    truncf .bf16 (shapeCast (Mat n 128) (v.readCov (⟨Rect.unit ![h, 0, 0] ![1, 1024, 128] inb, shapeCast (Stack 1 1024 128) Z hZ⟩ :: L)
      ⟨![h, k, 0], ![1, n, 128], ![1, q, 1], inbL⟩ : (Stack 1 n 128).Idx → EReal) hc : FVec Ideal (Mat n 128) .f32) hb x
    = byClass q n F ((Rect.unit (s := Mat 1024 1536) ![a, o] ![n, 128] inbO).emb x) := by
  have hx : (x 0).val < n := (x 0).isLt
  have e0 : (((Rect.unit (s := Mat 1024 1536) ![a, o] ![n, 128] inbO).emb x) 0).val = k * n + (x 0).val := by
    show a + 1 * (x 0).val = _
    omega
  have hlt : k + q * (x 0).val < 1024 := by nlinarith
  refine (read_head v h k q n inb inbL Z hZ L hc x ⟨k + q * (x 0).val, hlt⟩ rfl).trans ?_
  refine (hF _ (((Rect.unit (s := Mat 1024 1536) ![a, o] ![n, 128] inbO).emb x) 1) (by show o + 1 * (x 1).val = o + (x 1).val; omega)).trans ?_
  unfold byClass
  refine congrArg F (Shape.idx_ext₂ ?_ rfl)
  show k + q * (x 0).val = ((((Rect.unit (s := Mat 1024 1536) ![a, o] ![n, 128] inbO).emb x) 0).val % n * q
    + (((Rect.unit (s := Mat 1024 1536) ![a, o] ![n, 128] inbO).emb x) 0).val / n) % 1024
  have hn : 0 < n := by omega
  rw [e0, Nat.add_comm (k * n), Nat.add_mul_mod_self_right, Nat.mod_eq_of_lt hx, Nat.add_mul_div_right _ _ hn, Nat.div_eq_of_lt hx,
    Nat.zero_add, Nat.mul_comm _ q, Nat.add_comm, Nat.mod_eq_of_lt (by omega)]

variable (A A' : FVec Ideal (Mat 1024 1536) .f32) (hA : A = A') (c lo hi : FVec Ideal (Mat 1024 128) .f32)
  (co si : Fin 1024 → Fin 16 → EReal) (T : TileTables c lo hi co si) (hs : (Mat 1024 1536).Slices ![0, o] (Mat 1024 128))

include hA in
theorem value_rows (hge : 1024 ≤ o) (y : (Mat 1024 128).Idx) (C : Fin 1536) (hC : C.val = o + (y 1).val) :
    extractStridedSlice (Mat 1024 128) ![0, o] A hs y = tileRows A' co si (ValueIdx.ix2 (y 0) C) := by
  subst hA
  exact value_piece A (co (y 0)) (si (y 0)) (y 0) o hs y C rfl hC hge

include hA T in
theorem key_rows (ho : o % 128 = 0) (hge : 512 ≤ o) (hlt : o < 1024) (y : (Mat 1024 128).Idx) (C : Fin 1536) (hC : C.val = o + (y 1).val) :
    turn (extractStridedSlice (Mat 1024 128) ![0, o] A hs) c lo hi y = tileRows A' co si (ValueIdx.ix2 (y 0) C) := by
  subst hA
  exact key_piece A c lo hi (co (y 0)) (si (y 0)) (y 0) (T (y 0)) o hs y C rfl hC ho hge hlt

include hA T in
theorem query_rows (s : EReal) (hsc : s = (((Real.sqrt 128)⁻¹ : ℝ) : EReal)) (ho : o % 128 = 0) (hlt : o < 512) (y : (Mat 1024 128).Idx)
    (C : Fin 1536) (hC : C.val = o + (y 1).val) :
    mulf (turn (extractStridedSlice (Mat 1024 128) ![0, o] A hs) c lo hi) (broadcast (Mat 1024 128) s) y
      = tileRows A' co si (ValueIdx.ix2 (y 0) C) := by
  subst hA
  rw [hsc, ← scale_word]
  exact query_piece A c lo hi (co (y 0)) (si (y 0)) (y 0) (T (y 0)) o hs y C rfl hC ho hlt

end Class

/-- The place of a stored row's token, four classes. -/
theorem class_four (R C : ℕ) (hR : R < 8192) (hC : C < 1536) :
    ((((R * 1536 + C) / 1572864 * 256 + (R * 1536 + C) / 1536 % 256) * 4 + (R * 1536 + C) / 393216 % 4) * 1536 + (R * 1536 + C) % 1536) / 1536
      = (R / 1024 * 1024 + (R % 1024 % 256 * 4 + R % 1024 / 256) % 1024) % 8192
    ∧ ((((R * 1536 + C) / 1572864 * 256 + (R * 1536 + C) / 1536 % 256) * 4 + (R * 1536 + C) / 393216 % 4) * 1536 + (R * 1536 + C) % 1536) % 1536 = C := by
  have hd : (R * 1536 + C) / 1536 = R := by omega
  have a3 : (R * 1536 + C) % 1536 = C := by omega
  rw [show 1572864 = 1536 * 1024 from rfl, show 393216 = 1536 * 256 from rfl, ← Nat.div_div_eq_div_mul, ← Nat.div_div_eq_div_mul, hd, a3,
    Nat.add_comm (_ * 1536), Nat.add_mul_div_right _ _ (by omega), Nat.div_eq_of_lt hC, Nat.add_mul_mod_self_right, Nat.mod_eq_of_lt hC]
  refine ⟨?_, rfl⟩
  have b1 : R / 256 % 4 = R % 1024 / 256 := by omega
  have b2 : R % 256 = R % 1024 % 256 := by omega
  have hT : R / 1024 < 8 := by omega
  have hu : R % 1024 < 1024 := by omega
  rw [b1, b2]
  generalize R % 1024 = u at *
  generalize R / 1024 = T at *
  clear hd a3 b1 b2
  have hv : u / 256 < 4 := by omega
  have hw : u % 256 < 256 := by omega
  generalize u / 256 = v at *
  generalize u % 256 = w at *
  omega

/-- The place of a stored row's token, sixteen classes. -/
theorem class_sixteen (R C : ℕ) (hR : R < 8192) (hC : C < 1536) :
    ((((R * 1536 + C) / 1572864 * 64 + (R * 1536 + C) / 1536 % 64) * 16 + (R * 1536 + C) / 98304 % 16) * 1536 + (R * 1536 + C) % 1536) / 1536
      = (R / 1024 * 1024 + (R % 1024 % 64 * 16 + R % 1024 / 64) % 1024) % 8192
    ∧ ((((R * 1536 + C) / 1572864 * 64 + (R * 1536 + C) / 1536 % 64) * 16 + (R * 1536 + C) / 98304 % 16) * 1536 + (R * 1536 + C) % 1536) % 1536 = C := by
  have hd : (R * 1536 + C) / 1536 = R := by omega
  have a3 : (R * 1536 + C) % 1536 = C := by omega
  rw [show 1572864 = 1536 * 1024 from rfl, show 98304 = 1536 * 64 from rfl, ← Nat.div_div_eq_div_mul, ← Nat.div_div_eq_div_mul, hd, a3,
    Nat.add_comm (_ * 1536), Nat.add_mul_div_right _ _ (by omega), Nat.div_eq_of_lt hC, Nat.add_mul_mod_self_right, Nat.mod_eq_of_lt hC]
  refine ⟨?_, rfl⟩
  have b1 : R / 64 % 16 = R % 1024 / 64 := by omega
  have b2 : R % 64 = R % 1024 % 64 := by omega
  have hT : R / 1024 < 8 := by omega
  have hu : R % 1024 < 1024 := by omega
  rw [b1, b2]
  generalize R % 1024 = u at *
  generalize R / 1024 = T at *
  clear hd a3 b1 b2
  have hv : u / 64 < 16 := by omega
  have hw : u % 64 < 64 := by omega
  generalize u / 64 = v at *
  generalize u % 64 = w at *
  omega

/-- The weights read `g` blocks of 512 columns further. -/
def shifted (g : ℕ) (W : (Stack 2 2048 14848).Idx → EReal) : (Stack 2 2048 14848).Idx → EReal := fun i =>
  W (ValueIdx.ix3 (i 0) (i 1) (⟨((i 2).val + 512 * g) % 14848, Nat.mod_lt _ (by omega)⟩ : Fin 14848))

/-- The token of a stored row: within its tile of 1024, the rows are put by residue class. -/
def tokenOf (q n : ℕ) (R : Fin 8192) : Fin 8192 :=
  ⟨(R.val / 1024 * 1024 + (R.val % 1024 % n * q + R.val % 1024 / n) % 1024) % 8192, Nat.mod_lt _ (by omega)⟩

/-- The queries, keys and values of a group, its rows by residue class. -/
def groupVal (g q n : ℕ) (X : (Mat 8192 2048).Idx → EReal) (W : (Stack 2 2048 14848).Idx → EReal) (c hi : (Mat 2048 128).Idx → EReal) :
    (Mat 8192 1536).Idx → EReal := fun i => qkvVal X (shifted g W) c hi (ValueIdx.ix2 (tokenOf q n (i 0)) (i 1))

/-- The token of a tile's row. -/
def tileToken (t : ℕ) (r : Fin 1024) : Fin 8192 := ⟨(t * 1024 + r.val) % 8192, Nat.mod_lt _ (by omega)⟩

/-- A tile's stored rows are the group's. -/
theorem tile_at (g q n : ℕ) (X : (Mat 8192 2048).Idx → EReal) (W : (Stack 2 2048 14848).Idx → EReal) (c hi : (Mat 2048 128).Idx → EReal)
    (A : (Mat 1024 1536).Idx → EReal) (t : ℕ) (ht : t < 8)
    (hA : ∀ (r : Fin 1024) (C : Fin 1536), A (ValueIdx.ix2 r C) = colDot X (shifted g W) (tileToken t r) (qkvCol C))
    (i : (Mat 8192 1536).Idx) (y : (Mat 1024 1536).Idx) (h0 : (i 0).val = t * 1024 + (y 0).val) (h1 : (i 1).val = (y 1).val) :
    byClass q n (tileRows A (fun r => cosAt c (posOf (tileToken t r))) (fun r => sinAt hi (posOf (tileToken t r)))) y = groupVal g q n X W c hi i := by
  have hy : (y 0).val < 1024 := (y 0).isLt
  unfold byClass groupVal tileRows qkvVal
  have e : tileToken t (⟨((y 0).val % n * q + (y 0).val / n) % 1024, Nat.mod_lt _ (by omega)⟩ : Fin 1024) = tokenOf q n (i 0) := by
    refine Fin.ext ?_
    show (t * 1024 + ((y 0).val % n * q + (y 0).val / n) % 1024) % 8192
      = ((i 0).val / 1024 * 1024 + ((i 0).val % 1024 % n * q + (i 0).val % 1024 / n) % 1024) % 8192
    rw [show (i 0).val % 1024 = (y 0).val by omega, show (i 0).val / 1024 = t by omega]
  have e1 : y 1 = i 1 := Fin.ext h1.symm
  show qkvRow (fun C => A (ValueIdx.ix2 _ C)) (cosAt c (posOf (tileToken t _))) (sinAt hi (posOf (tileToken t _))) (y 1) = _
  rw [e, e1]
  refine congrArg (fun p => qkvRow p _ _ _) (funext fun C => ?_)
  exact (hA _ C).trans (congrArg (fun R => colDot X (shifted g W) R (qkvCol C)) e)

end Cert.Dense
-- ==== Proof.Dense.QkvSecond.lean ====
module

public import proofs.«01_k».proof.Proof.Dense.Strided
public import proofs.«01_k».proof.Proof.Gen.QkvSecondIdeal.Value

@[expose] public section

set_option maxRecDepth 16384

noncomputable section

/-! # The projections of the second group of heads: rows by their place modulo 4 -/

namespace Cert.Dense.Second

open Idealize.ShloMosaic Idealize.ShloMosaic.ValueIdx Idealize.ShloMosaic.TcCoe Cert.QkvSecondIdeal Cert.QkvSecondIdeal.Gen

variable (m : (ℓ : Loc nD τ sig) → Buf (Elt Ideal) ℓ)

theorem qkv_index : ∀ t : Fin grid0.N, win0_0.index t = ![t.val, 0] ∧ win0_1.index t = ![0, 0, 1] ∧ win0_2.index t = ![0, 0, 4]
    ∧ win0_3.index t = ![0, 0, 7] ∧ win0_4.index t = ![t.val % 2, 0] ∧ win0_5.index t = ![t.val % 2, 0] ∧ win0_6.index t = ![t.val % 2, 0]
    ∧ win0_7.index t = ![t.val, 0] := by decide +kernel

/-- The weights are the same at every point. -/
theorem same_parts (c : Dev nD) (t s : Fin cfg0.N) :
    iblk m c 1 t = iblk m c 1 s ∧ iblk m c 2 t = iblk m c 2 s ∧ iblk m c 3 t = iblk m c 3 s := by
  obtain ⟨-, e1, e2, e3, -⟩ := qkv_index t
  obtain ⟨-, f1, f2, f3, -⟩ := qkv_index s
  refine ⟨?_, ?_, ?_⟩ <;> (funext y; blk_ext [iblk, V, e1, e2, e3, f1, f2, f3])

/-- The staged weights at every point. -/
theorem parts_at (c : Dev nD) : ∀ (n : ℕ) (t : Fin cfg0.N), t.val = n →
    (outsAt0 m c t.val t.isLt).2 = parts (iblk m c 1 t) (iblk m c 2 t) (iblk m c 3 t) := by
  intro n
  induction n with
  | zero =>
    intro t ht
    rw [outsAt0_A m c t (by omega)]
    frame_out
    rfl
  | succ n ih =>
    intro t ht
    by_cases h : t.val % 8 = 0
    · rw [outsAt0_A m c t h]
      frame_out
      rfl
    · have hs := ih ⟨t.val - 1, by have := t.isLt; omega⟩ (by show t.val - 1 = n; omega)
      obtain ⟨b1, b2, b3⟩ := same_parts m c t ⟨t.val - 1, by have := t.isLt; omega⟩
      rw [outsAt0_B m c t h, b1, b2, b3]
      unfold sout0_B_0
      exact hs

/-- The word of the queries' scale is named the real it rounds. -/
theorem scale_second : Named.named (F := Ideal) Cert.QkvSecondIdeal.κ "scale" (φ := .f32) 0x3DB504F3#32 = (((Real.sqrt 128)⁻¹ : ℝ) : EReal) :=
  IdealRules.named_const.ideal_named_scalar _ _ _ _ rfl

/-- The first point reads the weights it has just staged. -/
theorem first_staged (u v w : Vec Ideal S1x2048x512 .f32) : (View.whole cc0_scratch0).readCov
    [⟨Rect.unit ![0, 1024] ![2048, 512] inb_S2048x1536_S2048x512_0_1024, k0_pay6 w⟩,
      ⟨Rect.unit ![0, 512] ![2048, 512] inb_S2048x1536_S2048x512_0_512, k0_pay5 v⟩,
      ⟨Rect.unit ![0, 0] ![2048, 512] inb_S2048x1536_S2048x512_0_0, k0_pay4 u⟩]
    (Rect.unit ![0, 0] ![2048, 1536] inb_S2048x1536_S2048x1536_0_0).toLoadRect = parts u v w := by
  refine (View.readCov_eq_canon' (Val := Elt Ideal) _ _ _).trans (funext fun j => ?_)
  show parts u v w (LoadRect.idx _ j) = parts u v w j
  exact congrArg (parts u v w) (funext fun a => Fin.ext (by
    match a with
    | ⟨0, _⟩ => show 0 + 1 * (j 0).val = (j 0).val; omega
    | ⟨1, _⟩ => show 0 + 1 * (j 1).val = (j 1).val; omega))

set_option maxHeartbeats 2000000 in
/-- What a point stores: the rows of its tile, by residue class. -/
theorem qkv_out (c : Dev nD) (t : Fin cfg0.N) (co si : Fin 1024 → Fin 16 → EReal)
    (T : TileTables (iblk m c 4 t) (iblk m c 5 t) (iblk m c 6 t) co si) (y : S1024x1536.Idx) : (outsAt0 m c t.val t.isLt).1 y
    = byClass 4 256 (tileRows (k0_pay7 (iblk m c 0 t) (parts (iblk m c 1 t) (iblk m c 2 t) (iblk m c 3 t))) co si) y := by
  by_cases h : t.val % 8 = 0
  on_goal 1 =>
    rw [outsAt0_A m c t h]
    generalize e : parts (iblk m c 1 t) (iblk m c 2 t) (iblk m c 3 t) = W
    frame_out
    have hA := congrArg (k0_pay7 (iblk m c 0 t)) ((first_staged (iblk m c 1 t) (iblk m c 2 t) (iblk m c 3 t)).trans e)
  on_goal 2 =>
    have hs := parts_at m c (t.val - 1) ⟨t.val - 1, by have := t.isLt; omega⟩ rfl
    obtain ⟨b1, b2, b3⟩ := same_parts m c t ⟨t.val - 1, by have := t.isLt; omega⟩
    rw [outsAt0_B m c t h, b1, b2, b3]
    generalize parts _ _ _ = W at hs ⊢
    frame_out
    have hA := congrArg (k0_pay7 (iblk m c 0 t)) ((Memref.IsWhole.read_unread (Val := Elt Ideal) (Memref.isWhole_whole cc0_scratch0) _).trans hs)
  all_goals
    refine View.canon_apply_of_pieces _ _ (View.PiecesOf.mem ?_) y (View.cover_of_tiledL (s := S1024x1536) _ S256x128.size (by sl_kernel_rfl) y)
    iterate 16 refine ⟨class_piece (View.whole cc0_scratch1) 4 256 rfl _ _ _ _ (by decide) _ _ _ _ _ _ (by omega) (by rfl) _ _
      (value_rows _ _ _ hA co si _ (by omega)), ?_⟩
    iterate 16 refine ⟨class_piece (View.whole cc0_scratch1) 4 256 rfl _ _ _ _ (by decide) _ _ _ _ _ _ (by omega) (by rfl) _ _
      (key_rows _ _ _ hA _ _ _ co si T _ (by omega) (by omega) (by omega)), ?_⟩
    iterate 16 refine ⟨class_piece (View.whole cc0_scratch1) 4 256 rfl _ _ _ _ (by decide) _ _ _ _ _ _ (by omega) (by rfl) _ _
      (query_rows _ _ _ hA _ _ _ co si T _ _ scale_second (by omega) (by omega)), ?_⟩
    exact trivial

theorem qkv_x (c : Dev nD) (t : Fin cfg0.N) (r : Fin 1024) (i : Fin 8192) (hi : i.val = t.val * 1024 + r.val) (j : Fin 2048) :
    iblk m c 0 t (ValueIdx.ix2 r j) = m ((c : Thread nD τ).loc main_arg0) (ValueIdx.ix2 i j) := by
  obtain ⟨e0, -⟩ := qkv_index t
  refine (congrArg (V m c main_arg0) (Shape.idx_ext₂ ?_ ?_)).trans (congrFun (V_main_arg0 m c) (ValueIdx.ix2 i j)) <;> blk_simp [e0, hi]

theorem qkv_w (c : Dev nD) (t : Fin cfg0.N) (k : Fin 512) (u : Fin 14848) (j : Fin 2048) :
    (u.val = 512 + k.val → iblk m c 1 t (ValueIdx.ix3 (0 : Fin 1) j k) = m ((c : Thread nD τ).loc main_arg1) (ValueIdx.ix3 (0 : Fin 2) j u))
    ∧ (u.val = 2048 + k.val → iblk m c 2 t (ValueIdx.ix3 (0 : Fin 1) j k) = m ((c : Thread nD τ).loc main_arg1) (ValueIdx.ix3 (0 : Fin 2) j u))
    ∧ (u.val = 3584 + k.val → iblk m c 3 t (ValueIdx.ix3 (0 : Fin 1) j k) = m ((c : Thread nD τ).loc main_arg1) (ValueIdx.ix3 (0 : Fin 2) j u)) := by
  obtain ⟨-, e1, e2, e3, -⟩ := qkv_index t
  refine ⟨fun hu => ?_, fun hu => ?_, fun hu => ?_⟩ <;>
  · refine (congrArg (V m c main_arg1) (?_ : _ = ValueIdx.ix3 (0 : Fin 2) j u)).trans (congrFun (V_main_arg1 m c) _)
    funext a
    refine Fin.ext ?_
    match a with
    | ⟨0, _⟩ => blk_simp [e1, e2, e3]; rfl
    | ⟨1, _⟩ => blk_simp [e1, e2, e3]
    | ⟨2, _⟩ =>
      blk_simp [e1, e2, e3]
      show _ = u.val
      simp only [ValueIdx.ix3]
      omega

theorem qkv_tables (c : Dev nD) (t : Fin cfg0.N) (r : Fin 1024) (i : Fin 2048) (hi : i.val = t.val % 2 * 1024 + r.val) (d : Fin 128) :
    iblk m c 4 t (ValueIdx.ix2 r d) = m ((c : Thread nD τ).loc main_arg2) (ValueIdx.ix2 i d)
    ∧ iblk m c 5 t (ValueIdx.ix2 r d) = m ((c : Thread nD τ).loc main_arg3) (ValueIdx.ix2 i d)
    ∧ iblk m c 6 t (ValueIdx.ix2 r d) = m ((c : Thread nD τ).loc main_arg4) (ValueIdx.ix2 i d) := by
  obtain ⟨-, -, -, -, e4, e5, e6, -⟩ := qkv_index t
  refine ⟨?_, ?_, ?_⟩
  · refine (congrArg (V m c main_arg2) (Shape.idx_ext₂ ?_ ?_)).trans (congrFun (V_main_arg2 m c) (ValueIdx.ix2 i d)) <;> blk_simp [e4, hi]
  · refine (congrArg (V m c main_arg3) (Shape.idx_ext₂ ?_ ?_)).trans (congrFun (V_main_arg3 m c) (ValueIdx.ix2 i d)) <;> blk_simp [e5, hi]
  · refine (congrArg (V m c main_arg4) (Shape.idx_ext₂ ?_ ?_)).trans (congrFun (V_main_arg4 m c) (ValueIdx.ix2 i d)) <;> blk_simp [e6, hi]

/-- The tables of a device hold the angles' cosines and sines. -/
def Tables (c : Dev nD) : Prop := ∀ r : Fin 2048,
  RotaryRow (fun d => m ((c : Thread nD τ).loc main_arg2) (ValueIdx.ix2 r d)) (fun d => m ((c : Thread nD τ).loc main_arg3) (ValueIdx.ix2 r d))
    (fun d => m ((c : Thread nD τ).loc main_arg4) (ValueIdx.ix2 r d)) (cosAt (m ((c : Thread nD τ).loc main_arg2)) r)
    (sinAt (m ((c : Thread nD τ).loc main_arg4)) r)

theorem tile_tables (c : Dev nD) (hT : Tables m c) (t : Fin cfg0.N) : TileTables (iblk m c 4 t) (iblk m c 5 t) (iblk m c 6 t)
    (fun r => cosAt (m ((c : Thread nD τ).loc main_arg2)) (posOf (tileToken t.val r)))
    (fun r => sinAt (m ((c : Thread nD τ).loc main_arg4)) (posOf (tileToken t.val r))) := by
  intro r
  have hp : (posOf (tileToken t.val r)).val = t.val % 2 * 1024 + r.val := by
    have hr := r.isLt
    show (t.val * 1024 + r.val) % 8192 % 2048 = _
    omega
  have T := hT (posOf (tileToken t.val r))
  rwa [← funext (fun d => (qkv_tables m c t r _ hp d).1), ← funext (fun d => (qkv_tables m c t r _ hp d).2.1),
    ← funext (fun d => (qkv_tables m c t r _ hp d).2.2)] at T

theorem product_at (c : Dev nD) (t : Fin cfg0.N) (r : Fin 1024) (C : Fin 1536) :
    k0_pay7 (iblk m c 0 t) (parts (iblk m c 1 t) (iblk m c 2 t) (iblk m c 3 t)) (ValueIdx.ix2 r C)
      = colDot (m ((c : Thread nD τ).loc main_arg0)) (shifted 1 (m ((c : Thread nD τ).loc main_arg1))) (tileToken t.val r) (qkvCol C) := by
  have hN : t.val < 8 := t.isLt
  have hr := r.isLt
  refine (qkvDot.matmul_apply (φ := .bf16) (ψ := .bf16) (iblk m c 0 t) (parts _ _ _) r C).trans ?_
  unfold colDot
  refine Finset.sum_congr rfl fun j _ => congrArg₂ (· * ·) (qkv_x m c t r (tileToken t.val r) (by
    show (t.val * 1024 + r.val) % 8192 = _
    omega) j) ?_
  have hC := C.isLt
  have hc : ((qkvCol C).val + 512 * 1) % 14848 = C.val / 512 * 1536 + C.val % 512 + 512 := by
    show (C.val / 512 * 1536 + C.val % 512 + 512 * 1) % 14848 = _
    omega
  exact parts_apply _ _ _ j C _ (fun k hk => (qkv_w m c t k _ j).1 (by have := k.isLt; show ((qkvCol C).val + 512 * 1) % 14848 = _; omega))
    (fun k hk => (qkv_w m c t k _ j).2.1 (by have := k.isLt; show ((qkvCol C).val + 512 * 1) % 14848 = _; omega))
    (fun k hk => (qkv_w m c t k _ j).2.2 (by have := k.isLt; show ((qkvCol C).val + 512 * 1) % 14848 = _; omega))

/-- The result after the run: the second group's queries, keys and values, its rows by residue class. -/
theorem qkv_final (c : Dev nD) (hT : Tables m c) : (dats m 0 c).arrAt 7 cfg0.N
    = groupVal 1 4 256 (m ((c : Thread nD τ).loc main_arg0)) (m ((c : Thread nD τ).loc main_arg1)) (m ((c : Thread nD τ).loc main_arg2))
        (m ((c : Thread nD τ).loc main_arg4)) := by
  refine (dats m 0 c).arrAt_eq_of_covers 7 _ (by decide +kernel) fun t hf y => ?_
  obtain ⟨-, -, -, -, -, -, -, e7⟩ := qkv_index t
  refine (congrFun (after0_7 m c t) y).trans ((qkv_out m c t _ _ (tile_tables m c hT t) y).trans ?_)
  refine tile_at 1 4 256 _ _ _ _ _ t.val t.isLt (product_at m c t) _ y ?_ ?_
  · blk_simp [e7]
  · blk_simp [e7]

end Cert.Dense.Second
-- ==== Proof.Dense.QkvSecondReference.lean ====
module

public import proofs.«01_k».proof.Proof.Dense.Strided
public import proofs.«01_k».proof.Proof.Dense.QkvReference
public import proofs.«01_k».proof.Proof.Gen.QkvSecondReferenceIdeal.Read

@[expose] public section

set_option maxRecDepth 16384

noncomputable section

/-! # The reference of the second group of heads -/

namespace Cert.Dense.Second

open Idealize.ShloMosaic Idealize.ShloMosaic.ValueIdx Idealize.ShloMosaic.TcCoe

section Reference

open Cert.QkvSecondReferenceIdeal.Read

variable (x0 : (Mat 8192 2048).Idx → EReal) (x1 : (Stack 2 2048 14848).Idx → EReal) (x2 x4 : (Mat 2048 128).Idx → EReal)

/-- The three slices of the weights are the first group's of the weights read further. -/
theorem slices_shifted : val_main_v3 (F := Ideal) x1 = Cert.QkvFirstReferenceIdeal.Read.val_main_v3 (F := Ideal) (shifted 1 x1)
    ∧ val_main_v7 (F := Ideal) x1 = Cert.QkvFirstReferenceIdeal.Read.val_main_v7 (F := Ideal) (shifted 1 x1)
    ∧ val_main_v11 (F := Ideal) x1 = Cert.QkvFirstReferenceIdeal.Read.val_main_v11 (F := Ideal) (shifted 1 x1) := by
  refine ⟨funext fun i => ?_, funext fun i => ?_, funext fun i => ?_⟩ <;> have h2 : (i 2).val < 512 := (i 2).isLt
  · rw [val_main_v3_apply, Cert.QkvFirstReferenceIdeal.Read.val_main_v3_apply]
    refine congrArg x1 (funext fun a => Fin.ext ?_)
    match a with
    | ⟨0, _⟩ => rfl
    | ⟨1, _⟩ => rfl
    | ⟨2, _⟩ =>
      show 512 + (i 2).val = ((i 2).val + 512 * 1) % 14848
      omega
  · rw [val_main_v7_apply, Cert.QkvFirstReferenceIdeal.Read.val_main_v7_apply]
    refine congrArg x1 (funext fun a => Fin.ext ?_)
    match a with
    | ⟨0, _⟩ => rfl
    | ⟨1, _⟩ => rfl
    | ⟨2, _⟩ =>
      show 2048 + (i 2).val = (1536 + (i 2).val + 512 * 1) % 14848
      omega
  · rw [val_main_v11_apply, Cert.QkvFirstReferenceIdeal.Read.val_main_v11_apply]
    refine congrArg x1 (funext fun a => Fin.ext ?_)
    match a with
    | ⟨0, _⟩ => rfl
    | ⟨1, _⟩ => rfl
    | ⟨2, _⟩ =>
      show 3584 + (i 2).val = (3072 + (i 2).val + 512 * 1) % 14848
      omega

theorem ref_joined : val_main_v53 (F := Ideal) x0 x1 x2 x4 = qkvVal x0 (shifted 1 x1) x2 x4 := by
  obtain ⟨e3, e7, e11⟩ := slices_shifted x1
  refine Eq.trans ?_ (ref_qkv x0 (shifted 1 x1) x2 x4)
  have e4 : val_main_v4 (F := Ideal) x1 = Cert.QkvFirstReferenceIdeal.Read.val_main_v4 (F := Ideal) (shifted 1 x1) := by
    unfold val_main_v4 Cert.QkvFirstReferenceIdeal.Read.val_main_v4
    rw [e3]
  have e8 : val_main_v8 (F := Ideal) x1 = Cert.QkvFirstReferenceIdeal.Read.val_main_v8 (F := Ideal) (shifted 1 x1) := by
    unfold val_main_v8 Cert.QkvFirstReferenceIdeal.Read.val_main_v8
    rw [e7]
  have e12 : val_main_v12 (F := Ideal) x1 = Cert.QkvFirstReferenceIdeal.Read.val_main_v12 (F := Ideal) (shifted 1 x1) := by
    unfold val_main_v12 Cert.QkvFirstReferenceIdeal.Read.val_main_v12
    rw [e11]
  have e5 : val_main_v5 (F := Ideal) x0 x1 = Cert.QkvFirstReferenceIdeal.Read.val_main_v5 (F := Ideal) x0 (shifted 1 x1) := by
    unfold val_main_v5 Cert.QkvFirstReferenceIdeal.Read.val_main_v5
    rw [e4]
    rfl
  have e9 : val_main_v9 (F := Ideal) x0 x1 = Cert.QkvFirstReferenceIdeal.Read.val_main_v9 (F := Ideal) x0 (shifted 1 x1) := by
    unfold val_main_v9 Cert.QkvFirstReferenceIdeal.Read.val_main_v9
    rw [e8]
    rfl
  have e13 : val_main_v13 (F := Ideal) x0 x1 = Cert.QkvFirstReferenceIdeal.Read.val_main_v13 (F := Ideal) x0 (shifted 1 x1) := by
    unfold val_main_v13 Cert.QkvFirstReferenceIdeal.Read.val_main_v13
    rw [e12]
    rfl
  have e6 : val_main_v6 (F := Ideal) x0 x1 = Cert.QkvFirstReferenceIdeal.Read.val_main_v6 (F := Ideal) x0 (shifted 1 x1) := by
    unfold val_main_v6 Cert.QkvFirstReferenceIdeal.Read.val_main_v6
    rw [e5]
  have e10 : val_main_v10 (F := Ideal) x0 x1 = Cert.QkvFirstReferenceIdeal.Read.val_main_v10 (F := Ideal) x0 (shifted 1 x1) := by
    unfold val_main_v10 Cert.QkvFirstReferenceIdeal.Read.val_main_v10
    rw [e9]
  have e14 : val_main_v14 (F := Ideal) x0 x1 = Cert.QkvFirstReferenceIdeal.Read.val_main_v14 (F := Ideal) x0 (shifted 1 x1) := by
    unfold val_main_v14 Cert.QkvFirstReferenceIdeal.Read.val_main_v14
    rw [e13]
  unfold val_main_v53 val_main_v52 val_main_v51 val_main_v50 val_main_v49 val_main_v48 val_main_v47 val_main_v46 val_main_v44 val_main_v42
    val_main_v41 val_main_v39 val_main_v37 val_main_v36 val_main_v33 val_main_v30 val_main_v29 val_main_v28 val_main_v27 val_main_v25
    val_main_v23 val_main_v22 val_main_v20 val_main_v18 val_main_v17
  rw [e6, e10, e14]
  rfl

theorem ref_group : val_main_v57 (F := Ideal) x0 x1 x2 x4 = groupVal 1 4 256 x0 x1 x2 x4 := by
  funext i
  have h0 : (i 0).val < 8192 := (i 0).isLt
  have h1 : (i 1).val < 1536 := (i 1).isLt
  show val_main_v56 (F := Ideal) x0 x1 x2 x4 i = _
  rw [val_main_v56_apply, val_main_v55_apply, val_main_v54_apply, ref_joined]
  unfold groupVal
  exact congrArg (qkvVal x0 (shifted 1 x1) x2 x4) (Shape.idx_ext₂ (class_four _ _ h0 h1).1 (class_four _ _ h0 h1).2)

end Reference

end Cert.Dense.Second
-- ==== Proof.Dense.Twice.lean ====
module

public import proofs.«01_k».proof.Proof.Dense.Strided

@[expose] public section

set_option maxRecDepth 16384

noncomputable section

/-! # Rows put by residue class in two steps

The third group's rows are put by their place modulo 4 and each of the four classes again: rows by their place modulo 16. -/

namespace Cert.Dense

open Idealize.ShloMosaic Idealize.ShloMosaic.ValueIdx Idealize.ShloMosaic.TcCoe

variable {sg : RefSig} {κ' : Kind} {sp : Space}

/-- The first step: a class of the head stored last. -/
theorem first_step (v : View sg κ' sp (Stack 12 1024 128) .f32) (h k : ℕ) (inb) (inbL) (Z : FVec Ideal (Mat 1024 128) .f32)
    (hZ : (Mat 1024 128).ShapeCasts (Stack 1 1024 128)) (L : List (View.Piece (Elt Ideal) (Stack 12 1024 128) .f32))
    (hc : (Stack 1 256 128).ShapeCasts (Mat 256 128)) (hl : (Mat 256 128).ShapeCasts (Stack 1 256 128)) (j : Fin 256) (b : Fin 128)
    (r : Fin 1024) (hr : r.val = k + 4 * j.val) :
    shapeCast (Stack 1 256 128) (shapeCast (Mat 256 128)
      (v.readCov (⟨Rect.unit ![h, 0, 0] ![1, 1024, 128] inb, shapeCast (Stack 1 1024 128) Z hZ⟩ :: L)
        ⟨![h, k, 0], ![1, 256, 128], ![1, 4, 1], inbL⟩ : (Stack 1 256 128).Idx → EReal) hc) hl (ValueIdx.ix3 (0 : Fin 1) j b) = Z (ValueIdx.ix2 r b) := by
  refine Eq.trans ?_ (read_head v h k 4 256 inb inbL Z hZ L hc (ValueIdx.ix2 j b) r hr)
  generalize shapeCast (Mat 256 128) _ hc = W
  refine shapeCast_apply W hl (ValueIdx.ix3 (0 : Fin 1) j b) (ValueIdx.ix2 j b) ?_
  rw [Shape.rowMajor_val_three, Shape.rowMajor_val_two]
  show j.val * 128 + b.val = (0 * 256 + j.val) * 128 + b.val
  omega

/-- A class of the first step is a head's rows at that place modulo 4. -/
def IsClass (Z : FVec Ideal (Mat 1024 128) .f32) (k : ℕ) (w : (Stack 1 256 128).Idx → EReal) : Prop :=
  ∀ (j : Fin 256) (b : Fin 128) (r : Fin 1024), r.val = k + 4 * j.val → w (ValueIdx.ix3 (0 : Fin 1) j b) = Z (ValueIdx.ix2 r b)

/-- The rows of the staged classes. -/
def classRows (Z : FVec Ideal (Mat 1024 128) .f32) : (Stack 12 1024 128).Idx → EReal := fun y =>
  Z (ValueIdx.ix2 (⟨((y 1).val / 256 + 4 * ((y 1).val % 256)) % 1024, Nat.mod_lt _ (by omega)⟩ : Fin 1024) (y 2))

section Second

variable (h : ℕ) (Z : FVec Ideal (Mat 1024 128) .f32)

theorem class_stored (k o : ℕ) (ho : o = k * 256) (hk : k < 4) (inb) (w : (Stack 1 256 128).Idx → EReal) (hw : IsClass Z k w)
    (x : (Rect.unit (s := Stack 12 1024 128) ![h, o, 0] ![1, 256, 128] inb).shape.Idx) :
    w x = classRows Z ((Rect.unit (s := Stack 12 1024 128) ![h, o, 0] ![1, 256, 128] inb).emb x) := by
  have h0 : (x 0).val < 1 := (x 0).isLt
  have h1 : (x 1).val < 256 := (x 1).isLt
  obtain ⟨j, hj⟩ : ∃ j : Fin 256, j = x 1 := ⟨x 1, rfl⟩
  obtain ⟨b, hb⟩ : ∃ b : Fin 128, b = x 2 := ⟨x 2, rfl⟩
  have e : x = ValueIdx.ix3 (0 : Fin 1) j b := by
    funext a
    refine Fin.ext ?_
    match a with
    | ⟨0, _⟩ =>
      show (x 0).val = 0
      omega
    | ⟨1, _⟩ =>
      show (x 1).val = j.val
      rw [hj]
    | ⟨2, _⟩ =>
      show (x 2).val = b.val
      rw [hb]
  subst e
  have hjl := j.isLt
  refine (hw j b ⟨k + 4 * j.val, by omega⟩ rfl).trans (congrArg Z (Shape.idx_ext₂ ?_ ?_))
  · show k + 4 * j.val = ((o + 1 * j.val) / 256 + 4 * ((o + 1 * j.val) % 256)) % 1024
    have e1 : (o + 1 * j.val) / 256 = k := by omega
    have e2 : (o + 1 * j.val) % 256 = j.val := by omega
    rw [e1, e2]
    omega
  · show b.val = 0 + 1 * b.val
    omega

theorem classes_read (i3) (i2) (i1) (i0) (w3 w2 w1 w0 : (Stack 1 256 128).Idx → EReal) (H3 : IsClass Z 3 w3) (H2 : IsClass Z 2 w2) (H1 : IsClass Z 1 w1)
    (H0 : IsClass Z 0 w0) (L : List (View.Piece (Elt Ideal) (Stack 12 1024 128) .f32)) (y : (Stack 12 1024 128).Idx) (hy : (y 0).val = h) :
    View.canon (⟨Rect.unit (s := Stack 12 1024 128) ![h, 768, 0] ![1, 256, 128] i3, w3⟩
      :: ⟨Rect.unit (s := Stack 12 1024 128) ![h, 512, 0] ![1, 256, 128] i2, w2⟩
      :: ⟨Rect.unit (s := Stack 12 1024 128) ![h, 256, 0] ![1, 256, 128] i1, w1⟩
      :: ⟨Rect.unit (s := Stack 12 1024 128) ![h, 0, 0] ![1, 256, 128] i0, w0⟩ :: L) y = classRows Z y := by
  have h1 : (y 1).val < 1024 := (y 1).isLt
  have h2 : (y 2).val < 128 := (y 2).isLt
  have hm : ∀ (o : ℕ) (inb) (_ : o ≤ (y 1).val) (_ : (y 1).val < o + 256),
      y ∈ (Rect.unit (s := Stack 12 1024 128) ![h, o, 0] ![1, 256, 128] inb).set := fun o inb hlo hhi => (LoadRect.mem_set _).mpr fun a => by
    match a with
    | ⟨0, _⟩ => exact ⟨0, Nat.one_pos, by show (y 0).val = h + 1 * 0; omega⟩
    | ⟨1, _⟩ => exact ⟨(y 1).val - o, by show (y 1).val - o < 256; omega, by show (y 1).val = o + 1 * ((y 1).val - o); omega⟩
    | ⟨2, _⟩ => exact ⟨(y 2).val, h2, by show (y 2).val = 0 + 1 * (y 2).val; omega⟩
  refine View.canon_append_of_piecesOf (Val := Elt Ideal) (classRows Z) L
    [⟨Rect.unit (s := Stack 12 1024 128) ![h, 768, 0] ![1, 256, 128] i3, w3⟩,
      ⟨Rect.unit (s := Stack 12 1024 128) ![h, 512, 0] ![1, 256, 128] i2, w2⟩,
      ⟨Rect.unit (s := Stack 12 1024 128) ![h, 256, 0] ![1, 256, 128] i1, w1⟩,
      ⟨Rect.unit (s := Stack 12 1024 128) ![h, 0, 0] ![1, 256, 128] i0, w0⟩]
    ⟨class_stored h Z 3 768 rfl (by omega) i3 w3 H3, class_stored h Z 2 512 rfl (by omega) i2 w2 H2,
      class_stored h Z 1 256 rfl (by omega) i1 w1 H1, class_stored h Z 0 0 rfl (by omega) i0 w0 H0, trivial⟩ y ?_
  by_cases c3 : 768 ≤ (y 1).val
  · exact ⟨_, List.mem_cons_self, hm 768 i3 c3 (by omega)⟩
  · by_cases c2 : 512 ≤ (y 1).val
    · exact ⟨_, List.mem_cons_of_mem _ List.mem_cons_self, hm 512 i2 c2 (by omega)⟩
    · by_cases c1 : 256 ≤ (y 1).val
      · exact ⟨_, List.mem_cons_of_mem _ (List.mem_cons_of_mem _ List.mem_cons_self), hm 256 i1 c1 (by omega)⟩
      · exact ⟨_, List.mem_cons_of_mem _ (List.mem_cons_of_mem _ (List.mem_cons_of_mem _ List.mem_cons_self)), hm 0 i0 (by omega) (by omega)⟩

end Second

/-- The second step: the stored rows at one place modulo 16. -/
theorem second_step (v : View sg κ' sp (Stack 12 1024 128) .f32) (h e a o : ℕ) (inbO) (inbL)
    (L : List (View.Piece (Elt Ideal) (Stack 12 1024 128) .f32)) (hc : (Stack 1 64 128).ShapeCasts (Mat 64 128))
    (hb : FTy.bits .bf16 < FTy.bits .f32) (he : e < 1024) (hk : e % 256 < 4) (ha : a = (e / 256 + 4 * (e % 256)) * 64)
    (F : (Mat 1024 1536).Idx → EReal) (Z : FVec Ideal (Mat 1024 128) .f32)
    (hF : ∀ (y : (Mat 1024 128).Idx) (C : Fin 1536), C.val = o + (y 1).val → Z y = F (ValueIdx.ix2 (y 0) C))
    (hL : ∀ y : (Stack 12 1024 128).Idx, (y 0).val = h → View.canon L y = classRows Z y)
    (x : (Rect.unit (s := Mat 1024 1536) ![a, o] ![64, 128] inbO).shape.Idx) :
    truncf .bf16 (shapeCast (Mat 64 128) (v.readCov L ⟨![h, e, 0], ![1, 64, 128], ![1, 4, 1], inbL⟩ : (Stack 1 64 128).Idx → EReal) hc
      : FVec Ideal (Mat 64 128) .f32) hb x
    = byClass 16 64 F ((Rect.unit (s := Mat 1024 1536) ![a, o] ![64, 128] inbO).emb x) := by
  obtain ⟨p, hp⟩ : ∃ p : Fin 64, p = x 0 := ⟨x 0, rfl⟩
  obtain ⟨b, hb'⟩ : ∃ b : Fin 128, b = x 1 := ⟨x 1, rfl⟩
  have hpl := p.isLt
  have hx : x = ValueIdx.ix2 p b := Shape.idx_ext₂ (by rw [hp]) (by rw [hb'])
  clear hp hb'
  subst hx
  rw [View.readCov_eq_canon']
  refine (drop_apply (fun j => View.canon L (LoadRect.idx ⟨![h, e, 0], ![1, 64, 128], ![1, 4, 1], inbL⟩ j)) hc p b).trans ?_
  refine (hL _ (by rfl)).trans ?_
  refine (hF _ (((Rect.unit (s := Mat 1024 1536) ![a, o] ![64, 128] inbO).emb (ValueIdx.ix2 p b)) 1) ?_).trans (congrArg F (Shape.idx_ext₂ ?_ rfl))
  · show o + 1 * b.val = o + (0 + 1 * b.val)
    omega
  · show ((e + 4 * p.val) / 256 + 4 * ((e + 4 * p.val) % 256)) % 1024 = ((a + 1 * p.val) % 64 * 16 + (a + 1 * p.val) / 64) % 1024
    have e1 : (e + 4 * p.val) / 256 = e / 256 := by omega
    have e2 : (e + 4 * p.val) % 256 = e % 256 + 4 * p.val := by omega
    have e3 : (a + 1 * p.val) % 64 = p.val := by omega
    have e4 : (a + 1 * p.val) / 64 = e / 256 + 4 * (e % 256) := by omega
    rw [e1, e2, e3, e4]
    omega

/-- A piece of the result: a class of a class. -/
theorem twice_piece (v : View sg κ' sp (Stack 12 1024 128) .f32) (h e a o : ℕ) (inbO) (i3) (i2) (i1) (i0) (inbL)
    (L : List (View.Piece (Elt Ideal) (Stack 12 1024 128) .f32)) (hc : (Stack 1 64 128).ShapeCasts (Mat 64 128))
    (hb : FTy.bits .bf16 < FTy.bits .f32) (he : e < 1024) (hk : e % 256 < 4) (ha : a = (e / 256 + 4 * (e % 256)) * 64)
    (F : (Mat 1024 1536).Idx → EReal) (Z : FVec Ideal (Mat 1024 128) .f32)
    (w3 w2 w1 w0 : (Stack 1 256 128).Idx → EReal) (H3 : IsClass Z 3 w3) (H2 : IsClass Z 2 w2) (H1 : IsClass Z 1 w1) (H0 : IsClass Z 0 w0)
    (hF : ∀ (y : (Mat 1024 128).Idx) (C : Fin 1536), C.val = o + (y 1).val → Z y = F (ValueIdx.ix2 (y 0) C))
    (x : (Rect.unit (s := Mat 1024 1536) ![a, o] ![64, 128] inbO).shape.Idx) :
    truncf .bf16 (shapeCast (Mat 64 128) (v.readCov (⟨Rect.unit ![h, 768, 0] ![1, 256, 128] i3, w3⟩ :: ⟨Rect.unit ![h, 512, 0] ![1, 256, 128] i2, w2⟩
        :: ⟨Rect.unit ![h, 256, 0] ![1, 256, 128] i1, w1⟩ :: ⟨Rect.unit ![h, 0, 0] ![1, 256, 128] i0, w0⟩ :: L)
      ⟨![h, e, 0], ![1, 64, 128], ![1, 4, 1], inbL⟩ : (Stack 1 64 128).Idx → EReal) hc : FVec Ideal (Mat 64 128) .f32) hb x
    = byClass 16 64 F ((Rect.unit (s := Mat 1024 1536) ![a, o] ![64, 128] inbO).emb x) :=
  second_step v h e a o inbO inbL _ hc hb he hk ha F Z hF (classes_read h Z i3 i2 i1 i0 w3 w2 w1 w0 H3 H2 H1 H0 L) x

/-- The four classes of the head stored last. -/
theorem four_classes (v : View sg κ' sp (Stack 12 1024 128) .f32) (h : ℕ) (inb) (Z : FVec Ideal (Mat 1024 128) .f32)
    (hZ : (Mat 1024 128).ShapeCasts (Stack 1 1024 128)) (L : List (View.Piece (Elt Ideal) (Stack 12 1024 128) .f32))
    (hc : (Stack 1 256 128).ShapeCasts (Mat 256 128)) (hl : (Mat 256 128).ShapeCasts (Stack 1 256 128)) (k : ℕ) (inbL) :
    IsClass Z k (shapeCast (Stack 1 256 128) (shapeCast (Mat 256 128)
      (v.readCov (⟨Rect.unit ![h, 0, 0] ![1, 1024, 128] inb, shapeCast (Stack 1 1024 128) Z hZ⟩ :: L)
        ⟨![h, k, 0], ![1, 256, 128], ![1, 4, 1], inbL⟩ : (Stack 1 256 128).Idx → EReal) hc) hl) :=
  first_step v h k inb inbL Z hZ L hc hl

end Cert.Dense
-- ==== Proof.Dense.QkvThird.lean ====
module

public import proofs.«01_k».proof.Proof.Dense.Twice
public import proofs.«01_k».proof.Proof.Gen.QkvThirdIdeal.Value

@[expose] public section

set_option maxRecDepth 16384

noncomputable section

/-! # The projections of the third group of heads: rows by their place modulo 16 -/

namespace Cert.Dense.Third

open Idealize.ShloMosaic Idealize.ShloMosaic.ValueIdx Idealize.ShloMosaic.TcCoe Cert.QkvThirdIdeal Cert.QkvThirdIdeal.Gen

variable (m : (ℓ : Loc nD τ sig) → Buf (Elt Ideal) ℓ)

theorem qkv_index : ∀ t : Fin grid0.N, win0_0.index t = ![t.val, 0] ∧ win0_1.index t = ![0, 0, 2] ∧ win0_2.index t = ![0, 0, 5]
    ∧ win0_3.index t = ![0, 0, 8] ∧ win0_4.index t = ![t.val % 2, 0] ∧ win0_5.index t = ![t.val % 2, 0] ∧ win0_6.index t = ![t.val % 2, 0]
    ∧ win0_7.index t = ![t.val, 0] := by decide +kernel

/-- The weights are the same at every point. -/
theorem same_parts (c : Dev nD) (t s : Fin cfg0.N) :
    iblk m c 1 t = iblk m c 1 s ∧ iblk m c 2 t = iblk m c 2 s ∧ iblk m c 3 t = iblk m c 3 s := by
  obtain ⟨-, e1, e2, e3, -⟩ := qkv_index t
  obtain ⟨-, f1, f2, f3, -⟩ := qkv_index s
  refine ⟨?_, ?_, ?_⟩ <;> (funext y; blk_ext [iblk, V, e1, e2, e3, f1, f2, f3])

/-- The staged weights at every point. -/
theorem parts_at (c : Dev nD) : ∀ (n : ℕ) (t : Fin cfg0.N), t.val = n →
    (outsAt0 m c t.val t.isLt).2 = parts (iblk m c 1 t) (iblk m c 2 t) (iblk m c 3 t) := by
  intro n
  induction n with
  | zero =>
    intro t ht
    rw [outsAt0_A m c t (by omega)]
    frame_out
    rfl
  | succ n ih =>
    intro t ht
    by_cases h : t.val % 8 = 0
    · rw [outsAt0_A m c t h]
      frame_out
      rfl
    · have hs := ih ⟨t.val - 1, by have := t.isLt; omega⟩ (by show t.val - 1 = n; omega)
      obtain ⟨b1, b2, b3⟩ := same_parts m c t ⟨t.val - 1, by have := t.isLt; omega⟩
      rw [outsAt0_B m c t h, b1, b2, b3]
      unfold sout0_B_0
      exact hs

/-- The word of the queries' scale is named the real it rounds. -/
theorem scale_third : Named.named (F := Ideal) Cert.QkvThirdIdeal.κ "scale" (φ := .f32) 0x3DB504F3#32 = (((Real.sqrt 128)⁻¹ : ℝ) : EReal) :=
  IdealRules.named_const.ideal_named_scalar _ _ _ _ rfl

/-- The first point reads the weights it has just staged. -/
theorem first_staged (u v w : Vec Ideal S1x2048x512 .f32) : (View.whole cc0_scratch0).readCov
    [⟨Rect.unit ![0, 1024] ![2048, 512] inb_S2048x1536_S2048x512_0_1024, k0_pay3 w⟩,
      ⟨Rect.unit ![0, 512] ![2048, 512] inb_S2048x1536_S2048x512_0_512, k0_pay2 v⟩,
      ⟨Rect.unit ![0, 0] ![2048, 512] inb_S2048x1536_S2048x512_0_0, k0_pay1 u⟩]
    (Rect.unit ![0, 0] ![2048, 1536] inb_S2048x1536_S2048x1536_0_0).toLoadRect = parts u v w := by
  refine (View.readCov_eq_canon' (Val := Elt Ideal) _ _ _).trans (funext fun j => ?_)
  show parts u v w (LoadRect.idx _ j) = parts u v w j
  exact congrArg (parts u v w) (funext fun a => Fin.ext (by
    match a with
    | ⟨0, _⟩ => show 0 + 1 * (j 0).val = (j 0).val; omega
    | ⟨1, _⟩ => show 0 + 1 * (j 1).val = (j 1).val; omega))

/-- Two stores of a class are computed in two halves. -/
theorem joined_zero (w : Vec Ideal S1x256x128 .f32) : k0_pay92 (k0_pay91 w)
    = shapeCast S1x256x128 (shapeCast S256x128 w shapeCasts_S1x256x128_S256x128) shapeCasts_S256x128_S1x256x128 := rfl

theorem joined_one (w : Vec Ideal S1x256x128 .f32) : k0_pay115 (k0_pay114 w)
    = shapeCast S1x256x128 (shapeCast S256x128 w shapeCasts_S1x256x128_S256x128) shapeCasts_S256x128_S1x256x128 := rfl

set_option maxHeartbeats 4000000 in
/-- What a point stores: the rows of its tile, by residue class. -/
theorem qkv_out (c : Dev nD) (t : Fin cfg0.N) (co si : Fin 1024 → Fin 16 → EReal)
    (T : TileTables (iblk m c 4 t) (iblk m c 5 t) (iblk m c 6 t) co si) (y : S1024x1536.Idx) : (outsAt0 m c t.val t.isLt).1 y
    = byClass 16 64 (tileRows (k0_pay4 (iblk m c 0 t) (parts (iblk m c 1 t) (iblk m c 2 t) (iblk m c 3 t))) co si) y := by
  by_cases h : t.val % 8 = 0
  on_goal 1 =>
    rw [outsAt0_A m c t h]
    generalize e : parts (iblk m c 1 t) (iblk m c 2 t) (iblk m c 3 t) = W
    frame_out
    have hA := congrArg (k0_pay4 (iblk m c 0 t)) ((first_staged (iblk m c 1 t) (iblk m c 2 t) (iblk m c 3 t)).trans e)
  on_goal 2 =>
    have hs := parts_at m c (t.val - 1) ⟨t.val - 1, by have := t.isLt; omega⟩ rfl
    obtain ⟨b1, b2, b3⟩ := same_parts m c t ⟨t.val - 1, by have := t.isLt; omega⟩
    rw [outsAt0_B m c t h, b1, b2, b3]
    generalize parts _ _ _ = W at hs ⊢
    frame_out
    have hA := congrArg (k0_pay4 (iblk m c 0 t)) ((Memref.IsWhole.read_unread (Val := Elt Ideal) (Memref.isWhole_whole cc0_scratch0) _).trans hs)
  all_goals
    refine View.canon_apply_of_pieces _ _ (View.PiecesOf.mem ?_) y (View.cover_of_tiledL (s := S1024x1536) _ S64x128.size (by sl_kernel_rfl) y)
    iterate 64 refine ⟨twice_piece (View.whole cc0_scratch2) _ _ _ _ (by decide) _ _ _ _ _ _ _ _ (by omega) (by omega) (by rfl) _ _ _ _ _ _
      (by exact four_classes (View.whole cc0_scratch1) _ _ _ _ _ _ _ 3 _) (by exact four_classes (View.whole cc0_scratch1) _ _ _ _ _ _ _ 2 _)
      (by exact four_classes (View.whole cc0_scratch1) _ _ _ _ _ _ _ 1 _) (by exact four_classes (View.whole cc0_scratch1) _ _ _ _ _ _ _ 0 _)
      (by exact value_rows _ _ _ hA co si _ (by omega)), ?_⟩
    iterate 64 refine ⟨twice_piece (View.whole cc0_scratch2) _ _ _ _ (by decide) _ _ _ _ _ _ _ _ (by omega) (by omega) (by rfl) _ _ _ _ _ _
      (by exact four_classes (View.whole cc0_scratch1) _ _ _ _ _ _ _ 3 _) (by exact four_classes (View.whole cc0_scratch1) _ _ _ _ _ _ _ 2 _)
      (by
        try rw [joined_one]
        exact four_classes (View.whole cc0_scratch1) _ _ _ _ _ _ _ 1 _)
      (by
        try rw [joined_zero]
        exact four_classes (View.whole cc0_scratch1) _ _ _ _ _ _ _ 0 _)
      (by exact key_rows _ _ _ hA _ _ _ co si T (by decide) (by omega) (by omega) (by omega)), ?_⟩
    iterate 64 refine ⟨twice_piece (View.whole cc0_scratch2) _ _ _ _ (by decide) _ _ _ _ _ _ _ _ (by omega) (by omega) (by rfl) _ _ _ _ _ _
      (by exact four_classes (View.whole cc0_scratch1) _ _ _ _ _ _ _ 3 _) (by exact four_classes (View.whole cc0_scratch1) _ _ _ _ _ _ _ 2 _)
      (by exact four_classes (View.whole cc0_scratch1) _ _ _ _ _ _ _ 1 _) (by exact four_classes (View.whole cc0_scratch1) _ _ _ _ _ _ _ 0 _)
      (by exact query_rows _ _ _ hA _ _ _ co si T (by decide) _ scale_third (by omega) (by omega)), ?_⟩
    exact trivial

theorem qkv_x (c : Dev nD) (t : Fin cfg0.N) (r : Fin 1024) (i : Fin 8192) (hi : i.val = t.val * 1024 + r.val) (j : Fin 2048) :
    iblk m c 0 t (ValueIdx.ix2 r j) = m ((c : Thread nD τ).loc main_arg0) (ValueIdx.ix2 i j) := by
  obtain ⟨e0, -⟩ := qkv_index t
  refine (congrArg (V m c main_arg0) (Shape.idx_ext₂ ?_ ?_)).trans (congrFun (V_main_arg0 m c) (ValueIdx.ix2 i j)) <;> blk_simp [e0, hi]

theorem qkv_w (c : Dev nD) (t : Fin cfg0.N) (k : Fin 512) (u : Fin 14848) (j : Fin 2048) :
    (u.val = 1024 + k.val → iblk m c 1 t (ValueIdx.ix3 (0 : Fin 1) j k) = m ((c : Thread nD τ).loc main_arg1) (ValueIdx.ix3 (0 : Fin 2) j u))
    ∧ (u.val = 2560 + k.val → iblk m c 2 t (ValueIdx.ix3 (0 : Fin 1) j k) = m ((c : Thread nD τ).loc main_arg1) (ValueIdx.ix3 (0 : Fin 2) j u))
    ∧ (u.val = 4096 + k.val → iblk m c 3 t (ValueIdx.ix3 (0 : Fin 1) j k) = m ((c : Thread nD τ).loc main_arg1) (ValueIdx.ix3 (0 : Fin 2) j u)) := by
  obtain ⟨-, e1, e2, e3, -⟩ := qkv_index t
  refine ⟨fun hu => ?_, fun hu => ?_, fun hu => ?_⟩ <;>
  · refine (congrArg (V m c main_arg1) (?_ : _ = ValueIdx.ix3 (0 : Fin 2) j u)).trans (congrFun (V_main_arg1 m c) _)
    funext a
    refine Fin.ext ?_
    match a with
    | ⟨0, _⟩ => blk_simp [e1, e2, e3]; rfl
    | ⟨1, _⟩ => blk_simp [e1, e2, e3]
    | ⟨2, _⟩ =>
      blk_simp [e1, e2, e3]
      show _ = u.val
      simp only [ValueIdx.ix3]
      omega

theorem qkv_tables (c : Dev nD) (t : Fin cfg0.N) (r : Fin 1024) (i : Fin 2048) (hi : i.val = t.val % 2 * 1024 + r.val) (d : Fin 128) :
    iblk m c 4 t (ValueIdx.ix2 r d) = m ((c : Thread nD τ).loc main_arg2) (ValueIdx.ix2 i d)
    ∧ iblk m c 5 t (ValueIdx.ix2 r d) = m ((c : Thread nD τ).loc main_arg3) (ValueIdx.ix2 i d)
    ∧ iblk m c 6 t (ValueIdx.ix2 r d) = m ((c : Thread nD τ).loc main_arg4) (ValueIdx.ix2 i d) := by
  obtain ⟨-, -, -, -, e4, e5, e6, -⟩ := qkv_index t
  refine ⟨?_, ?_, ?_⟩
  · refine (congrArg (V m c main_arg2) (Shape.idx_ext₂ ?_ ?_)).trans (congrFun (V_main_arg2 m c) (ValueIdx.ix2 i d)) <;> blk_simp [e4, hi]
  · refine (congrArg (V m c main_arg3) (Shape.idx_ext₂ ?_ ?_)).trans (congrFun (V_main_arg3 m c) (ValueIdx.ix2 i d)) <;> blk_simp [e5, hi]
  · refine (congrArg (V m c main_arg4) (Shape.idx_ext₂ ?_ ?_)).trans (congrFun (V_main_arg4 m c) (ValueIdx.ix2 i d)) <;> blk_simp [e6, hi]

/-- The tables of a device hold the angles' cosines and sines. -/
def Tables (c : Dev nD) : Prop := ∀ r : Fin 2048,
  RotaryRow (fun d => m ((c : Thread nD τ).loc main_arg2) (ValueIdx.ix2 r d)) (fun d => m ((c : Thread nD τ).loc main_arg3) (ValueIdx.ix2 r d))
    (fun d => m ((c : Thread nD τ).loc main_arg4) (ValueIdx.ix2 r d)) (cosAt (m ((c : Thread nD τ).loc main_arg2)) r)
    (sinAt (m ((c : Thread nD τ).loc main_arg4)) r)

theorem tile_tables (c : Dev nD) (hT : Tables m c) (t : Fin cfg0.N) : TileTables (iblk m c 4 t) (iblk m c 5 t) (iblk m c 6 t)
    (fun r => cosAt (m ((c : Thread nD τ).loc main_arg2)) (posOf (tileToken t.val r)))
    (fun r => sinAt (m ((c : Thread nD τ).loc main_arg4)) (posOf (tileToken t.val r))) := by
  intro r
  have hp : (posOf (tileToken t.val r)).val = t.val % 2 * 1024 + r.val := by
    have hr := r.isLt
    show (t.val * 1024 + r.val) % 8192 % 2048 = _
    omega
  have T := hT (posOf (tileToken t.val r))
  rwa [← funext (fun d => (qkv_tables m c t r _ hp d).1), ← funext (fun d => (qkv_tables m c t r _ hp d).2.1),
    ← funext (fun d => (qkv_tables m c t r _ hp d).2.2)] at T

theorem product_at (c : Dev nD) (t : Fin cfg0.N) (r : Fin 1024) (C : Fin 1536) :
    k0_pay4 (iblk m c 0 t) (parts (iblk m c 1 t) (iblk m c 2 t) (iblk m c 3 t)) (ValueIdx.ix2 r C)
      = colDot (m ((c : Thread nD τ).loc main_arg0)) (shifted 2 (m ((c : Thread nD τ).loc main_arg1))) (tileToken t.val r) (qkvCol C) := by
  have hN : t.val < 8 := t.isLt
  have hr := r.isLt
  refine (qkvDot.matmul_apply (φ := .bf16) (ψ := .bf16) (iblk m c 0 t) (parts _ _ _) r C).trans ?_
  unfold colDot
  refine Finset.sum_congr rfl fun j _ => congrArg₂ (· * ·) (qkv_x m c t r (tileToken t.val r) (by
    show (t.val * 1024 + r.val) % 8192 = _
    omega) j) ?_
  have hC := C.isLt
  have hc : ((qkvCol C).val + 512 * 2) % 14848 = C.val / 512 * 1536 + C.val % 512 + 1024 := by
    show (C.val / 512 * 1536 + C.val % 512 + 512 * 2) % 14848 = _
    omega
  exact parts_apply _ _ _ j C _ (fun k hk => (qkv_w m c t k _ j).1 (by have := k.isLt; show ((qkvCol C).val + 512 * 2) % 14848 = _; omega))
    (fun k hk => (qkv_w m c t k _ j).2.1 (by have := k.isLt; show ((qkvCol C).val + 512 * 2) % 14848 = _; omega))
    (fun k hk => (qkv_w m c t k _ j).2.2 (by have := k.isLt; show ((qkvCol C).val + 512 * 2) % 14848 = _; omega))

/-- The result after the run: the third group's queries, keys and values, its rows by residue class. -/
theorem qkv_final (c : Dev nD) (hT : Tables m c) : (dats m 0 c).arrAt 7 cfg0.N
    = groupVal 2 16 64 (m ((c : Thread nD τ).loc main_arg0)) (m ((c : Thread nD τ).loc main_arg1)) (m ((c : Thread nD τ).loc main_arg2))
        (m ((c : Thread nD τ).loc main_arg4)) := by
  refine (dats m 0 c).arrAt_eq_of_covers 7 _ (by decide +kernel) fun t hf y => ?_
  obtain ⟨-, -, -, -, -, -, -, e7⟩ := qkv_index t
  refine (congrFun (after0_7 m c t) y).trans ((qkv_out m c t _ _ (tile_tables m c hT t) y).trans ?_)
  refine tile_at 2 16 64 _ _ _ _ _ t.val t.isLt (product_at m c t) _ y ?_ ?_
  · blk_simp [e7]
  · blk_simp [e7]

end Cert.Dense.Third
-- ==== Proof.Dense.QkvThirdReference.lean ====
module

public import proofs.«01_k».proof.Proof.Dense.Strided
public import proofs.«01_k».proof.Proof.Dense.QkvReference
public import proofs.«01_k».proof.Proof.Gen.QkvThirdReferenceIdeal.Read

@[expose] public section

set_option maxRecDepth 16384

noncomputable section

/-! # The reference of the third group of heads -/

namespace Cert.Dense.Third

open Idealize.ShloMosaic Idealize.ShloMosaic.ValueIdx Idealize.ShloMosaic.TcCoe

section Reference

open Cert.QkvThirdReferenceIdeal.Read

variable (x0 : (Mat 8192 2048).Idx → EReal) (x1 : (Stack 2 2048 14848).Idx → EReal) (x2 x4 : (Mat 2048 128).Idx → EReal)

/-- The three slices of the weights are the first group's of the weights read further. -/
theorem slices_shifted : val_main_v3 (F := Ideal) x1 = Cert.QkvFirstReferenceIdeal.Read.val_main_v3 (F := Ideal) (shifted 2 x1)
    ∧ val_main_v7 (F := Ideal) x1 = Cert.QkvFirstReferenceIdeal.Read.val_main_v7 (F := Ideal) (shifted 2 x1)
    ∧ val_main_v11 (F := Ideal) x1 = Cert.QkvFirstReferenceIdeal.Read.val_main_v11 (F := Ideal) (shifted 2 x1) := by
  refine ⟨funext fun i => ?_, funext fun i => ?_, funext fun i => ?_⟩ <;> have h2 : (i 2).val < 512 := (i 2).isLt
  · rw [val_main_v3_apply, Cert.QkvFirstReferenceIdeal.Read.val_main_v3_apply]
    refine congrArg x1 (funext fun a => Fin.ext ?_)
    match a with
    | ⟨0, _⟩ => rfl
    | ⟨1, _⟩ => rfl
    | ⟨2, _⟩ =>
      show 1024 + (i 2).val = ((i 2).val + 512 * 2) % 14848
      omega
  · rw [val_main_v7_apply, Cert.QkvFirstReferenceIdeal.Read.val_main_v7_apply]
    refine congrArg x1 (funext fun a => Fin.ext ?_)
    match a with
    | ⟨0, _⟩ => rfl
    | ⟨1, _⟩ => rfl
    | ⟨2, _⟩ =>
      show 2560 + (i 2).val = (1536 + (i 2).val + 512 * 2) % 14848
      omega
  · rw [val_main_v11_apply, Cert.QkvFirstReferenceIdeal.Read.val_main_v11_apply]
    refine congrArg x1 (funext fun a => Fin.ext ?_)
    match a with
    | ⟨0, _⟩ => rfl
    | ⟨1, _⟩ => rfl
    | ⟨2, _⟩ =>
      show 4096 + (i 2).val = (3072 + (i 2).val + 512 * 2) % 14848
      omega

theorem ref_joined : val_main_v53 (F := Ideal) x0 x1 x2 x4 = qkvVal x0 (shifted 2 x1) x2 x4 := by
  obtain ⟨e3, e7, e11⟩ := slices_shifted x1
  refine Eq.trans ?_ (ref_qkv x0 (shifted 2 x1) x2 x4)
  have e4 : val_main_v4 (F := Ideal) x1 = Cert.QkvFirstReferenceIdeal.Read.val_main_v4 (F := Ideal) (shifted 2 x1) := by
    unfold val_main_v4 Cert.QkvFirstReferenceIdeal.Read.val_main_v4
    rw [e3]
  have e8 : val_main_v8 (F := Ideal) x1 = Cert.QkvFirstReferenceIdeal.Read.val_main_v8 (F := Ideal) (shifted 2 x1) := by
    unfold val_main_v8 Cert.QkvFirstReferenceIdeal.Read.val_main_v8
    rw [e7]
  have e12 : val_main_v12 (F := Ideal) x1 = Cert.QkvFirstReferenceIdeal.Read.val_main_v12 (F := Ideal) (shifted 2 x1) := by
    unfold val_main_v12 Cert.QkvFirstReferenceIdeal.Read.val_main_v12
    rw [e11]
  have e5 : val_main_v5 (F := Ideal) x0 x1 = Cert.QkvFirstReferenceIdeal.Read.val_main_v5 (F := Ideal) x0 (shifted 2 x1) := by
    unfold val_main_v5 Cert.QkvFirstReferenceIdeal.Read.val_main_v5
    rw [e4]
    rfl
  have e9 : val_main_v9 (F := Ideal) x0 x1 = Cert.QkvFirstReferenceIdeal.Read.val_main_v9 (F := Ideal) x0 (shifted 2 x1) := by
    unfold val_main_v9 Cert.QkvFirstReferenceIdeal.Read.val_main_v9
    rw [e8]
    rfl
  have e13 : val_main_v13 (F := Ideal) x0 x1 = Cert.QkvFirstReferenceIdeal.Read.val_main_v13 (F := Ideal) x0 (shifted 2 x1) := by
    unfold val_main_v13 Cert.QkvFirstReferenceIdeal.Read.val_main_v13
    rw [e12]
    rfl
  have e6 : val_main_v6 (F := Ideal) x0 x1 = Cert.QkvFirstReferenceIdeal.Read.val_main_v6 (F := Ideal) x0 (shifted 2 x1) := by
    unfold val_main_v6 Cert.QkvFirstReferenceIdeal.Read.val_main_v6
    rw [e5]
  have e10 : val_main_v10 (F := Ideal) x0 x1 = Cert.QkvFirstReferenceIdeal.Read.val_main_v10 (F := Ideal) x0 (shifted 2 x1) := by
    unfold val_main_v10 Cert.QkvFirstReferenceIdeal.Read.val_main_v10
    rw [e9]
  have e14 : val_main_v14 (F := Ideal) x0 x1 = Cert.QkvFirstReferenceIdeal.Read.val_main_v14 (F := Ideal) x0 (shifted 2 x1) := by
    unfold val_main_v14 Cert.QkvFirstReferenceIdeal.Read.val_main_v14
    rw [e13]
  unfold val_main_v53 val_main_v52 val_main_v51 val_main_v50 val_main_v49 val_main_v48 val_main_v47 val_main_v46 val_main_v44 val_main_v42
    val_main_v41 val_main_v39 val_main_v37 val_main_v36 val_main_v33 val_main_v30 val_main_v29 val_main_v28 val_main_v27 val_main_v25
    val_main_v23 val_main_v22 val_main_v20 val_main_v18 val_main_v17
  rw [e6, e10, e14]
  rfl

theorem ref_group : val_main_v57 (F := Ideal) x0 x1 x2 x4 = groupVal 2 16 64 x0 x1 x2 x4 := by
  funext i
  have h0 : (i 0).val < 8192 := (i 0).isLt
  have h1 : (i 1).val < 1536 := (i 1).isLt
  show val_main_v56 (F := Ideal) x0 x1 x2 x4 i = _
  rw [val_main_v56_apply, val_main_v55_apply, val_main_v54_apply, ref_joined]
  unfold groupVal
  exact congrArg (qkvVal x0 (shifted 2 x1) x2 x4) (Shape.idx_ext₂ (class_sixteen _ _ h0 h1).1 (class_sixteen _ _ h0 h1).2)

end Reference

end Cert.Dense.Third
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_finite_queries_keys
public import proofs.«01_k».proof.Proof.Gen.FfnUp
public import proofs.«01_k».proof.Proof.Gen.FfnUp.Skeleton
public import proofs.«01_k».proof.Proof.Gen.FfnUp.Launch
public import proofs.«01_k».proof.Proof.Gen.FfnUp.Points
public import proofs.«01_k».proof.Proof.Gen.FfnUp.Frame
public import proofs.«01_k».proof.Proof.Gen.FfnUpIdeal
public import proofs.«01_k».proof.Proof.Gen.FfnUpIdeal.Skeleton
public import proofs.«01_k».proof.Proof.Gen.FfnUpIdeal.Launch
public import proofs.«01_k».proof.Proof.Gen.FfnUpIdeal.Points
public import proofs.«01_k».proof.Proof.Gen.FfnUpIdeal.Frame
public import proofs.«01_k».proof.Proof.Gen.FfnUpIdeal.Value
public import proofs.«01_k».proof.Proof.Gen.FfnUpReferenceIdeal
public import proofs.«01_k».proof.Proof.Gen.FfnUpReferenceIdeal.Run
public import proofs.«01_k».proof.Proof.Gen.FfnUpReferenceIdeal.Read
public import proofs.«01_k».proof.Proof.Gen.FfnDown
public import proofs.«01_k».proof.Proof.Gen.FfnDown.Skeleton
public import proofs.«01_k».proof.Proof.Gen.FfnDown.Launch
public import proofs.«01_k».proof.Proof.Gen.FfnDown.Points
public import proofs.«01_k».proof.Proof.Gen.FfnDown.Frame
public import proofs.«01_k».proof.Proof.Gen.FfnDownIdeal
public import proofs.«01_k».proof.Proof.Gen.FfnDownIdeal.Skeleton
public import proofs.«01_k».proof.Proof.Gen.FfnDownIdeal.Launch
public import proofs.«01_k».proof.Proof.Gen.FfnDownIdeal.Points
public import proofs.«01_k».proof.Proof.Gen.FfnDownIdeal.Frame
public import proofs.«01_k».proof.Proof.Gen.FfnDownIdeal.Value
public import proofs.«01_k».proof.Proof.Gen.FfnDownReferenceIdeal
public import proofs.«01_k».proof.Proof.Gen.FfnDownReferenceIdeal.Run
public import proofs.«01_k».proof.Proof.Gen.FfnDownReferenceIdeal.Read
public import proofs.«01_k».proof.Proof.Gen.BranchGates
public import proofs.«01_k».proof.Proof.Gen.BranchGates.Skeleton
public import proofs.«01_k».proof.Proof.Gen.BranchGates.Launch
public import proofs.«01_k».proof.Proof.Gen.BranchGates.Points
public import proofs.«01_k».proof.Proof.Gen.BranchGates.Frame
public import proofs.«01_k».proof.Proof.Gen.BranchGatesIdeal
public import proofs.«01_k».proof.Proof.Gen.BranchGatesIdeal.Skeleton
public import proofs.«01_k».proof.Proof.Gen.BranchGatesIdeal.Launch
public import proofs.«01_k».proof.Proof.Gen.BranchGatesIdeal.Points
public import proofs.«01_k».proof.Proof.Gen.BranchGatesIdeal.Frame
public import proofs.«01_k».proof.Proof.Gen.BranchGatesIdeal.Value
public import proofs.«01_k».proof.Proof.Gen.BranchGatesReferenceIdeal
public import proofs.«01_k».proof.Proof.Gen.BranchGatesReferenceIdeal.Run
public import proofs.«01_k».proof.Proof.Gen.BranchGatesReferenceIdeal.Read
public import proofs.«01_k».proof.Proof.Gen.BranchMerge
public import proofs.«01_k».proof.Proof.Gen.BranchMerge.Skeleton
public import proofs.«01_k».proof.Proof.Gen.BranchMerge.Launch
public import proofs.«01_k».proof.Proof.Gen.BranchMerge.Points
public import proofs.«01_k».proof.Proof.Gen.BranchMerge.Frame
public import proofs.«01_k».proof.Proof.Gen.BranchMergeIdeal
public import proofs.«01_k».proof.Proof.Gen.BranchMergeIdeal.Skeleton
public import proofs.«01_k».proof.Proof.Gen.BranchMergeIdeal.Launch
public import proofs.«01_k».proof.Proof.Gen.BranchMergeIdeal.Points
public import proofs.«01_k».proof.Proof.Gen.BranchMergeIdeal.Frame
public import proofs.«01_k».proof.Proof.Gen.BranchMergeIdeal.Value
public import proofs.«01_k».proof.Proof.Gen.BranchMergeReferenceIdeal
public import proofs.«01_k».proof.Proof.Gen.BranchMergeReferenceIdeal.Run
public import proofs.«01_k».proof.Proof.Gen.BranchMergeReferenceIdeal.Read
public import proofs.«01_k».proof.Proof.Gen.Pre_no_conv_norm_is_minus_infinity
public import proofs.«01_k».proof.Proof.Gen.ConvGlu
public import proofs.«01_k».proof.Proof.Gen.ConvGlu.Skeleton
public import proofs.«01_k».proof.Proof.Gen.ConvGlu.Launch
public import proofs.«01_k».proof.Proof.Gen.ConvGlu.Points
public import proofs.«01_k».proof.Proof.Gen.ConvGlu.Frame
public import proofs.«01_k».proof.Proof.Gen.ConvGluIdeal
public import proofs.«01_k».proof.Proof.Gen.ConvGluIdeal.Skeleton
public import proofs.«01_k».proof.Proof.Gen.ConvGluIdeal.Launch
public import proofs.«01_k».proof.Proof.Gen.ConvGluIdeal.Points
public import proofs.«01_k».proof.Proof.Gen.ConvGluIdeal.Frame
public import proofs.«01_k».proof.Proof.Gen.ConvGluIdeal.Value
public import proofs.«01_k».proof.Proof.Gen.ConvGluReferenceIdeal
public import proofs.«01_k».proof.Proof.Gen.ConvGluReferenceIdeal.Run
public import proofs.«01_k».proof.Proof.Gen.ConvGluReferenceIdeal.Read
public import proofs.«01_k».proof.Proof.Gen.QkvFirst
public import proofs.«01_k».proof.Proof.Gen.QkvFirst.Skeleton
public import proofs.«01_k».proof.Proof.Gen.QkvFirst.Launch
public import proofs.«01_k».proof.Proof.Gen.QkvFirst.Points
public import proofs.«01_k».proof.Proof.Gen.QkvFirst.Frame
public import proofs.«01_k».proof.Proof.Gen.QkvFirstIdeal
public import proofs.«01_k».proof.Proof.Gen.QkvFirstIdeal.Skeleton
public import proofs.«01_k».proof.Proof.Gen.QkvFirstIdeal.Launch
public import proofs.«01_k».proof.Proof.Gen.QkvFirstIdeal.Points
public import proofs.«01_k».proof.Proof.Gen.QkvFirstIdeal.Frame
public import proofs.«01_k».proof.Proof.Gen.QkvFirstIdeal.Value
public import proofs.«01_k».proof.Proof.Gen.QkvFirstReferenceIdeal
public import proofs.«01_k».proof.Proof.Gen.QkvFirstReferenceIdeal.Run
public import proofs.«01_k».proof.Proof.Gen.QkvFirstReferenceIdeal.Read
public import proofs.«01_k».proof.Proof.Gen.QkvSecond
public import proofs.«01_k».proof.Proof.Gen.QkvSecond.Skeleton
public import proofs.«01_k».proof.Proof.Gen.QkvSecond.Launch
public import proofs.«01_k».proof.Proof.Gen.QkvSecond.Points
public import proofs.«01_k».proof.Proof.Gen.QkvSecond.Frame
public import proofs.«01_k».proof.Proof.Gen.QkvSecondIdeal
public import proofs.«01_k».proof.Proof.Gen.QkvSecondIdeal.Skeleton
public import proofs.«01_k».proof.Proof.Gen.QkvSecondIdeal.Launch
public import proofs.«01_k».proof.Proof.Gen.QkvSecondIdeal.Points
public import proofs.«01_k».proof.Proof.Gen.QkvSecondIdeal.Frame
public import proofs.«01_k».proof.Proof.Gen.QkvSecondIdeal.Value
public import proofs.«01_k».proof.Proof.Gen.QkvSecondReferenceIdeal
public import proofs.«01_k».proof.Proof.Gen.QkvSecondReferenceIdeal.Run
public import proofs.«01_k».proof.Proof.Gen.QkvSecondReferenceIdeal.Read
public import proofs.«01_k».proof.Proof.Gen.QkvThird
public import proofs.«01_k».proof.Proof.Gen.QkvThird.Skeleton
public import proofs.«01_k».proof.Proof.Gen.QkvThird.Launch
public import proofs.«01_k».proof.Proof.Gen.QkvThird.Points
public import proofs.«01_k».proof.Proof.Gen.QkvThird.Frame
public import proofs.«01_k».proof.Proof.Gen.QkvThirdIdeal
public import proofs.«01_k».proof.Proof.Gen.QkvThirdIdeal.Skeleton
public import proofs.«01_k».proof.Proof.Gen.QkvThirdIdeal.Launch
public import proofs.«01_k».proof.Proof.Gen.QkvThirdIdeal.Points
public import proofs.«01_k».proof.Proof.Gen.QkvThirdIdeal.Frame
public import proofs.«01_k».proof.Proof.Gen.QkvThirdIdeal.Value
public import proofs.«01_k».proof.Proof.Gen.QkvThirdReferenceIdeal
public import proofs.«01_k».proof.Proof.Gen.QkvThirdReferenceIdeal.Run
public import proofs.«01_k».proof.Proof.Gen.QkvThirdReferenceIdeal.Read
public import proofs.«01_k».proof.Proof.Gen.SpatialGating
public import proofs.«01_k».proof.Proof.Gen.SpatialGating.Skeleton
public import proofs.«01_k».proof.Proof.Gen.SpatialGating.Launch
public import proofs.«01_k».proof.Proof.Gen.SpatialGating.Points
public import proofs.«01_k».proof.Proof.Gen.SpatialGating.Frame
public import proofs.«01_k».proof.Proof.Gen.SpatialGatingIdeal
public import proofs.«01_k».proof.Proof.Gen.SpatialGatingIdeal.Skeleton
public import proofs.«01_k».proof.Proof.Gen.SpatialGatingIdeal.Launch
public import proofs.«01_k».proof.Proof.Gen.SpatialGatingIdeal.Points
public import proofs.«01_k».proof.Proof.Gen.SpatialGatingIdeal.Frame
public import proofs.«01_k».proof.Proof.Gen.SpatialGatingIdeal.Value
public import proofs.«01_k».proof.Proof.Gen.SpatialGatingReferenceIdeal
public import proofs.«01_k».proof.Proof.Gen.SpatialGatingReferenceIdeal.Run
public import proofs.«01_k».proof.Proof.Gen.SpatialGatingReferenceIdeal.Read
public import proofs.«01_k».proof.Proof.Gen.Pre_tables_are_rotary
public import proofs.«01_k».proof.Proof.Gen.Pre_no_gate_is_minus_infinity
public import proofs.«01_k».proof.Proof.Attn.Agree
public import proofs.«01_k».proof.Proof.Dense.Up
public import proofs.«01_k».proof.Proof.Dense.Down
public import proofs.«01_k».proof.Proof.Dense.Gates
public import proofs.«01_k».proof.Proof.Dense.Merge
public import proofs.«01_k».proof.Proof.Dense.MergeReference
public import proofs.«01_k».proof.Proof.Dense.Glu
public import proofs.«01_k».proof.Proof.Dense.Qkv
public import proofs.«01_k».proof.Proof.Dense.QkvReference
public import proofs.«01_k».proof.Proof.Dense.Gating
public import proofs.«01_k».proof.Proof.Dense.GatingReference
public import proofs.«01_k».proof.Proof.Dense.QkvSecond
public import proofs.«01_k».proof.Proof.Dense.QkvSecondReference
public import proofs.«01_k».proof.Proof.Dense.QkvThird
public import proofs.«01_k».proof.Proof.Dense.QkvThirdReference
public import Idealize.ShloMosaic.Adequacy
public import Idealize.ShloMosaic.Init

@[expose] public section

noncomputable section

namespace Cert.Proof

open Idealize.ShloMosaic Idealize.SL.Sem Cert.Kernel

/-- The reference leaves its arguments as they were, and it has no semaphore to leave raised. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run Cert.ReferenceIdeal.defs _ _).mono (fun r h => ⟨fun c => (h c).2, sem_eq_zero_of_no_sems (by decide) r.2⟩)
    (Cert.ReferenceIdeal.Value.run m ρ)

/-- The kernel and the reference end with the same result, the queries and keys being finite. -/
theorem algebraic : Cert.algebraic_KernelIdeal_ReferenceIdeal_pre_finite_queries_keys := by
  intro m ρ m' ρ' hp hm
  refine ⟨fun c => Cert.Attn.kernelVal (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)), ?_, ?_⟩
  · exact (θ_run Cert.KernelIdeal.defs _ _).mono (fun r h c => ⟨(h c).1.trans (Cert.Attn.final_eq m c), (h c).2⟩)
      (Cert.KernelIdeal.Value.run_blocks m ρ)
  · refine (θ_run Cert.ReferenceIdeal.defs _ _).mono (fun r h c => ⟨(h c).1.trans ?_, (h c).2⟩)
      (Cert.ReferenceIdeal.Value.run m' ρ')
    refine (Cert.ReferenceIdeal.Read.val_main_v108_eq (StableHlo.launchContents m' c)).trans ?_
    obtain ⟨h0, h1, h2⟩ := hm c
    refine Eq.trans ?_ (Cert.Attn.values_agree _ _ _ (Cert.Attn.real_of_pre _ _ _ (hp c))).symm
    rw [← h0, ← h1, ← h2]

/-- The feed-forward part's first reference leaves its arguments as they were. -/
theorem up_reference_frame (m : (ℓ : Loc Cert.FfnUpReferenceIdeal.nD Cert.FfnUpReferenceIdeal.τ Cert.FfnUpReferenceIdeal.sig) → Buf (Elt Ideal) ℓ) (ρ : Dev Cert.FfnUpReferenceIdeal.nD → PrngReg) :
    θ_run (Cert.FfnUpReferenceIdeal.defs (F := Ideal)) (onTc (τ := Cert.FfnUpReferenceIdeal.τ) (Cert.FfnUpReferenceIdeal.main (F := Ideal))) ⟨m, fun _ => 0, ρ⟩ (fun r => (∀ c : Dev Cert.FfnUpReferenceIdeal.nD,
      r.2.mem ((c.tc : Thread Cert.FfnUpReferenceIdeal.nD Cert.FfnUpReferenceIdeal.τ).loc Cert.FfnUpReferenceIdeal.main_arg0) = m ((c.tc : Thread Cert.FfnUpReferenceIdeal.nD Cert.FfnUpReferenceIdeal.τ).loc Cert.FfnUpReferenceIdeal.main_arg0)
      ∧ r.2.mem ((c.tc : Thread Cert.FfnUpReferenceIdeal.nD Cert.FfnUpReferenceIdeal.τ).loc Cert.FfnUpReferenceIdeal.main_arg1) = m ((c.tc : Thread Cert.FfnUpReferenceIdeal.nD Cert.FfnUpReferenceIdeal.τ).loc Cert.FfnUpReferenceIdeal.main_arg1)
      ∧ r.2.mem ((c.tc : Thread Cert.FfnUpReferenceIdeal.nD Cert.FfnUpReferenceIdeal.τ).loc Cert.FfnUpReferenceIdeal.main_arg2) = m ((c.tc : Thread Cert.FfnUpReferenceIdeal.nD Cert.FfnUpReferenceIdeal.τ).loc Cert.FfnUpReferenceIdeal.main_arg2)
      ∧ r.2.mem ((c.tc : Thread Cert.FfnUpReferenceIdeal.nD Cert.FfnUpReferenceIdeal.τ).loc Cert.FfnUpReferenceIdeal.main_arg3) = m ((c.tc : Thread Cert.FfnUpReferenceIdeal.nD Cert.FfnUpReferenceIdeal.τ).loc Cert.FfnUpReferenceIdeal.main_arg3))
      ∧ r.2.sem = fun _ => 0) :=
  (θ_run Cert.FfnUpReferenceIdeal.defs _ _).mono (fun r h => ⟨fun c => (h c).2.2, sem_eq_zero_of_no_sems (by decide) r.2⟩)
    (Cert.FfnUpReferenceIdeal.Value.run m ρ)

/-- The up projection and its reference end with the same results, no gate being minus infinity. -/
theorem up_algebraic : Cert.algebraic_FfnUpIdeal_FfnUpReferenceIdeal_pre_no_gate_is_minus_infinity := by
  intro m ρ m' ρ' hp hm
  refine ⟨fun c => Cert.Dense.upVal (m ((c.tc : Thread Cert.FfnUpIdeal.nD Cert.FfnUpIdeal.τ).loc Cert.FfnUpIdeal.main_arg0)) (m ((c.tc : Thread Cert.FfnUpIdeal.nD Cert.FfnUpIdeal.τ).loc Cert.FfnUpIdeal.main_arg1)) (m ((c.tc : Thread Cert.FfnUpIdeal.nD Cert.FfnUpIdeal.τ).loc Cert.FfnUpIdeal.main_arg2)),
    fun c => Cert.Dense.first (m ((c.tc : Thread Cert.FfnUpIdeal.nD Cert.FfnUpIdeal.τ).loc Cert.FfnUpIdeal.main_arg3)), ?_, ?_⟩
  · exact (θ_run Cert.FfnUpIdeal.defs _ _).mono (fun r h c =>
      ⟨(h c).1.trans (Cert.Dense.up_final m c (Cert.Dense.gate_of_pre _ _ _ _ (hp c))), (h c).2.1.trans (Cert.Dense.up_final' m c), (h c).2.2⟩)
      (Cert.FfnUpIdeal.Value.run_blocks m ρ)
  · refine (θ_run Cert.FfnUpReferenceIdeal.defs _ _).mono (fun r h c => ⟨(h c).1.trans ?_, (h c).2.1.trans ?_, (h c).2.2⟩)
      (Cert.FfnUpReferenceIdeal.Value.run m' ρ') <;> obtain ⟨h0, h1, h2, h3⟩ := hm c
    · refine (Cert.FfnUpReferenceIdeal.Read.val_main_v9_eq _ _ _).trans ((Cert.Dense.ref_up _ _ _).trans ?_)
      rw [h0, h1, h2]
    · refine (Cert.FfnUpReferenceIdeal.Read.val_main_v12_eq _).trans ((Cert.Dense.ref_first _).trans ?_)
      rw [h3]

/-- The feed-forward part's second reference leaves its arguments as they were. -/
theorem down_reference_frame (m : (ℓ : Loc Cert.FfnDownReferenceIdeal.nD Cert.FfnDownReferenceIdeal.τ Cert.FfnDownReferenceIdeal.sig) → Buf (Elt Ideal) ℓ) (ρ : Dev Cert.FfnDownReferenceIdeal.nD → PrngReg) :
    θ_run (Cert.FfnDownReferenceIdeal.defs (F := Ideal)) (onTc (τ := Cert.FfnDownReferenceIdeal.τ) (Cert.FfnDownReferenceIdeal.main (F := Ideal))) ⟨m, fun _ => 0, ρ⟩ (fun r => (∀ c : Dev Cert.FfnDownReferenceIdeal.nD,
      r.2.mem ((c.tc : Thread Cert.FfnDownReferenceIdeal.nD Cert.FfnDownReferenceIdeal.τ).loc Cert.FfnDownReferenceIdeal.main_arg0) = m ((c.tc : Thread Cert.FfnDownReferenceIdeal.nD Cert.FfnDownReferenceIdeal.τ).loc Cert.FfnDownReferenceIdeal.main_arg0)
      ∧ r.2.mem ((c.tc : Thread Cert.FfnDownReferenceIdeal.nD Cert.FfnDownReferenceIdeal.τ).loc Cert.FfnDownReferenceIdeal.main_arg1) = m ((c.tc : Thread Cert.FfnDownReferenceIdeal.nD Cert.FfnDownReferenceIdeal.τ).loc Cert.FfnDownReferenceIdeal.main_arg1)
      ∧ r.2.mem ((c.tc : Thread Cert.FfnDownReferenceIdeal.nD Cert.FfnDownReferenceIdeal.τ).loc Cert.FfnDownReferenceIdeal.main_arg2) = m ((c.tc : Thread Cert.FfnDownReferenceIdeal.nD Cert.FfnDownReferenceIdeal.τ).loc Cert.FfnDownReferenceIdeal.main_arg2)
      ∧ r.2.mem ((c.tc : Thread Cert.FfnDownReferenceIdeal.nD Cert.FfnDownReferenceIdeal.τ).loc Cert.FfnDownReferenceIdeal.main_arg3) = m ((c.tc : Thread Cert.FfnDownReferenceIdeal.nD Cert.FfnDownReferenceIdeal.τ).loc Cert.FfnDownReferenceIdeal.main_arg3)
      ∧ r.2.mem ((c.tc : Thread Cert.FfnDownReferenceIdeal.nD Cert.FfnDownReferenceIdeal.τ).loc Cert.FfnDownReferenceIdeal.main_arg4) = m ((c.tc : Thread Cert.FfnDownReferenceIdeal.nD Cert.FfnDownReferenceIdeal.τ).loc Cert.FfnDownReferenceIdeal.main_arg4))
      ∧ r.2.sem = fun _ => 0) :=
  (θ_run Cert.FfnDownReferenceIdeal.defs _ _).mono (fun r h => ⟨fun c => (h c).2.2, sem_eq_zero_of_no_sems (by decide) r.2⟩)
    (Cert.FfnDownReferenceIdeal.Value.run m ρ)

/-- The down projection with its normalization and its reference end with the same results. -/
theorem down_algebraic : Cert.algebraic_FfnDownIdeal_FfnDownReferenceIdeal := by
  intro m ρ m' ρ' _ hm
  refine ⟨fun c => Cert.Dense.downVal (m ((c.tc : Thread Cert.FfnDownIdeal.nD Cert.FfnDownIdeal.τ).loc Cert.FfnDownIdeal.main_arg0)) (m ((c.tc : Thread Cert.FfnDownIdeal.nD Cert.FfnDownIdeal.τ).loc Cert.FfnDownIdeal.main_arg1)) (m ((c.tc : Thread Cert.FfnDownIdeal.nD Cert.FfnDownIdeal.τ).loc Cert.FfnDownIdeal.main_arg2)) (m ((c.tc : Thread Cert.FfnDownIdeal.nD Cert.FfnDownIdeal.τ).loc Cert.FfnDownIdeal.main_arg3)) (m ((c.tc : Thread Cert.FfnDownIdeal.nD Cert.FfnDownIdeal.τ).loc Cert.FfnDownIdeal.main_arg4)),
    fun c => Cert.Dense.downVal (m ((c.tc : Thread Cert.FfnDownIdeal.nD Cert.FfnDownIdeal.τ).loc Cert.FfnDownIdeal.main_arg0)) (m ((c.tc : Thread Cert.FfnDownIdeal.nD Cert.FfnDownIdeal.τ).loc Cert.FfnDownIdeal.main_arg1)) (m ((c.tc : Thread Cert.FfnDownIdeal.nD Cert.FfnDownIdeal.τ).loc Cert.FfnDownIdeal.main_arg2)) (m ((c.tc : Thread Cert.FfnDownIdeal.nD Cert.FfnDownIdeal.τ).loc Cert.FfnDownIdeal.main_arg3)) (m ((c.tc : Thread Cert.FfnDownIdeal.nD Cert.FfnDownIdeal.τ).loc Cert.FfnDownIdeal.main_arg4)), ?_, ?_⟩
  · exact (θ_run Cert.FfnDownIdeal.defs _ _).mono (fun r h c =>
      ⟨(h c).1.trans (Cert.Dense.down_final m c), (h c).2.1.trans (Cert.Dense.down_final' m c), (h c).2.2⟩)
      (Cert.FfnDownIdeal.Value.run_blocks m ρ)
  · refine (θ_run Cert.FfnDownReferenceIdeal.defs _ _).mono (fun r h c => ⟨(h c).1.trans ?_, (h c).2.1.trans ?_, (h c).2.2⟩)
      (Cert.FfnDownReferenceIdeal.Value.run m' ρ') <;> obtain ⟨h0, h1, h2, h3, h4⟩ := hm c
    · refine (Cert.FfnDownReferenceIdeal.Read.val_main_v33_eq _ _ _ _ _).trans ((Cert.Dense.ref_down _ _ _ _ _).trans ?_)
      rw [h0, h1, h2, h3, h4]
    · refine (Cert.FfnDownReferenceIdeal.Read.val_main_v34_eq _ _ _ _ _).trans ((Cert.Dense.ref_down' _ _ _ _ _).trans ?_)
      rw [h0, h1, h2, h3, h4]

/-- The gates' reference leaves its arguments as they were. -/
theorem gates_reference_frame (m : (ℓ : Loc Cert.BranchGatesReferenceIdeal.nD Cert.BranchGatesReferenceIdeal.τ Cert.BranchGatesReferenceIdeal.sig) → Buf (Elt Ideal) ℓ) (ρ : Dev Cert.BranchGatesReferenceIdeal.nD → PrngReg) :
    θ_run (Cert.BranchGatesReferenceIdeal.defs (F := Ideal)) (onTc (τ := Cert.BranchGatesReferenceIdeal.τ) (Cert.BranchGatesReferenceIdeal.main (F := Ideal))) ⟨m, fun _ => 0, ρ⟩ (fun r => (∀ c : Dev Cert.BranchGatesReferenceIdeal.nD,
      r.2.mem ((c.tc : Thread Cert.BranchGatesReferenceIdeal.nD Cert.BranchGatesReferenceIdeal.τ).loc Cert.BranchGatesReferenceIdeal.main_arg0) = m ((c.tc : Thread Cert.BranchGatesReferenceIdeal.nD Cert.BranchGatesReferenceIdeal.τ).loc Cert.BranchGatesReferenceIdeal.main_arg0)
      ∧ r.2.mem ((c.tc : Thread Cert.BranchGatesReferenceIdeal.nD Cert.BranchGatesReferenceIdeal.τ).loc Cert.BranchGatesReferenceIdeal.main_arg1) = m ((c.tc : Thread Cert.BranchGatesReferenceIdeal.nD Cert.BranchGatesReferenceIdeal.τ).loc Cert.BranchGatesReferenceIdeal.main_arg1)
      ∧ r.2.mem ((c.tc : Thread Cert.BranchGatesReferenceIdeal.nD Cert.BranchGatesReferenceIdeal.τ).loc Cert.BranchGatesReferenceIdeal.main_arg2) = m ((c.tc : Thread Cert.BranchGatesReferenceIdeal.nD Cert.BranchGatesReferenceIdeal.τ).loc Cert.BranchGatesReferenceIdeal.main_arg2)
      ∧ r.2.mem ((c.tc : Thread Cert.BranchGatesReferenceIdeal.nD Cert.BranchGatesReferenceIdeal.τ).loc Cert.BranchGatesReferenceIdeal.main_arg3) = m ((c.tc : Thread Cert.BranchGatesReferenceIdeal.nD Cert.BranchGatesReferenceIdeal.τ).loc Cert.BranchGatesReferenceIdeal.main_arg3)
      ∧ r.2.mem ((c.tc : Thread Cert.BranchGatesReferenceIdeal.nD Cert.BranchGatesReferenceIdeal.τ).loc Cert.BranchGatesReferenceIdeal.main_arg4) = m ((c.tc : Thread Cert.BranchGatesReferenceIdeal.nD Cert.BranchGatesReferenceIdeal.τ).loc Cert.BranchGatesReferenceIdeal.main_arg4)
      ∧ r.2.mem ((c.tc : Thread Cert.BranchGatesReferenceIdeal.nD Cert.BranchGatesReferenceIdeal.τ).loc Cert.BranchGatesReferenceIdeal.main_arg5) = m ((c.tc : Thread Cert.BranchGatesReferenceIdeal.nD Cert.BranchGatesReferenceIdeal.τ).loc Cert.BranchGatesReferenceIdeal.main_arg5))
      ∧ r.2.sem = fun _ => 0) :=
  (θ_run Cert.BranchGatesReferenceIdeal.defs _ _).mono (fun r h => ⟨fun c => (h c).2.2.2.2.2, sem_eq_zero_of_no_sems (by decide) r.2⟩)
    (Cert.BranchGatesReferenceIdeal.Value.run m ρ)

/-- The gates' projection and its reference end with the same results. -/
theorem gates_algebraic : Cert.algebraic_BranchGatesIdeal_BranchGatesReferenceIdeal := by
  intro m ρ m' ρ' _ hm
  refine ⟨fun c => Cert.Dense.gateVal (m ((c.tc : Thread Cert.BranchGatesIdeal.nD Cert.BranchGatesIdeal.τ).loc Cert.BranchGatesIdeal.main_arg0)) (m ((c.tc : Thread Cert.BranchGatesIdeal.nD Cert.BranchGatesIdeal.τ).loc Cert.BranchGatesIdeal.main_arg1)),
    fun c => Cert.Dense.first (m ((c.tc : Thread Cert.BranchGatesIdeal.nD Cert.BranchGatesIdeal.τ).loc Cert.BranchGatesIdeal.main_arg2)),
    fun c => Cert.Dense.first (m ((c.tc : Thread Cert.BranchGatesIdeal.nD Cert.BranchGatesIdeal.τ).loc Cert.BranchGatesIdeal.main_arg3)),
    fun c => Cert.Dense.first (m ((c.tc : Thread Cert.BranchGatesIdeal.nD Cert.BranchGatesIdeal.τ).loc Cert.BranchGatesIdeal.main_arg4)),
    fun c => Cert.Dense.first (m ((c.tc : Thread Cert.BranchGatesIdeal.nD Cert.BranchGatesIdeal.τ).loc Cert.BranchGatesIdeal.main_arg5)), ?_, ?_⟩
  · exact (θ_run Cert.BranchGatesIdeal.defs _ _).mono (fun r h c => ⟨(h c).1.trans (Cert.Dense.gate_final m c),
      (h c).2.1.trans (Cert.Dense.cast_final m c).1.1, (h c).2.2.1.trans (Cert.Dense.cast_final m c).1.2,
      (h c).2.2.2.1.trans (Cert.Dense.cast_final m c).2.1, (h c).2.2.2.2.1.trans (Cert.Dense.cast_final m c).2.2, (h c).2.2.2.2.2⟩)
      (Cert.BranchGatesIdeal.Value.run_blocks m ρ)
  · refine (θ_run Cert.BranchGatesReferenceIdeal.defs _ _).mono (fun r h c => ⟨(h c).1.trans ?_, (h c).2.1.trans ?_,
      (h c).2.2.1.trans ?_, (h c).2.2.2.1.trans ?_, (h c).2.2.2.2.1.trans ?_, (h c).2.2.2.2.2⟩)
      (Cert.BranchGatesReferenceIdeal.Value.run m' ρ') <;> obtain ⟨h0, h1, h2, h3, h4, h5⟩ := hm c
    · refine (Cert.BranchGatesReferenceIdeal.Read.val_main_v10_eq _ _).trans ((Cert.Dense.ref_gates _ _).trans ?_)
      rw [h0, h1]
    · refine (Cert.BranchGatesReferenceIdeal.Read.val_main_v13_eq _).trans ((Cert.Dense.ref_first2 _).trans ?_)
      rw [h2]
    · refine (Cert.BranchGatesReferenceIdeal.Read.val_main_v16_eq _).trans ((Cert.Dense.ref_first3 _).trans ?_)
      rw [h3]
    · refine (Cert.BranchGatesReferenceIdeal.Read.val_main_v19_eq _).trans ((Cert.Dense.ref_first4 _).trans ?_)
      rw [h4]
    · refine (Cert.BranchGatesReferenceIdeal.Read.val_main_v22_eq _).trans ((Cert.Dense.ref_first5 _).trans ?_)
      rw [h5]

/-- The merge's reference leaves its arguments as they were. -/
theorem merge_reference_frame (m : (ℓ : Loc Cert.BranchMergeReferenceIdeal.nD Cert.BranchMergeReferenceIdeal.τ Cert.BranchMergeReferenceIdeal.sig) → Buf (Elt Ideal) ℓ) (ρ : Dev Cert.BranchMergeReferenceIdeal.nD → PrngReg) :
    θ_run (Cert.BranchMergeReferenceIdeal.defs (F := Ideal)) (onTc (τ := Cert.BranchMergeReferenceIdeal.τ) (Cert.BranchMergeReferenceIdeal.main (F := Ideal))) ⟨m, fun _ => 0, ρ⟩ (fun r => (∀ c : Dev Cert.BranchMergeReferenceIdeal.nD,
      r.2.mem ((c.tc : Thread Cert.BranchMergeReferenceIdeal.nD Cert.BranchMergeReferenceIdeal.τ).loc Cert.BranchMergeReferenceIdeal.main_arg0) = m ((c.tc : Thread Cert.BranchMergeReferenceIdeal.nD Cert.BranchMergeReferenceIdeal.τ).loc Cert.BranchMergeReferenceIdeal.main_arg0)
      ∧ r.2.mem ((c.tc : Thread Cert.BranchMergeReferenceIdeal.nD Cert.BranchMergeReferenceIdeal.τ).loc Cert.BranchMergeReferenceIdeal.main_arg1) = m ((c.tc : Thread Cert.BranchMergeReferenceIdeal.nD Cert.BranchMergeReferenceIdeal.τ).loc Cert.BranchMergeReferenceIdeal.main_arg1)
      ∧ r.2.mem ((c.tc : Thread Cert.BranchMergeReferenceIdeal.nD Cert.BranchMergeReferenceIdeal.τ).loc Cert.BranchMergeReferenceIdeal.main_arg2) = m ((c.tc : Thread Cert.BranchMergeReferenceIdeal.nD Cert.BranchMergeReferenceIdeal.τ).loc Cert.BranchMergeReferenceIdeal.main_arg2)
      ∧ r.2.mem ((c.tc : Thread Cert.BranchMergeReferenceIdeal.nD Cert.BranchMergeReferenceIdeal.τ).loc Cert.BranchMergeReferenceIdeal.main_arg3) = m ((c.tc : Thread Cert.BranchMergeReferenceIdeal.nD Cert.BranchMergeReferenceIdeal.τ).loc Cert.BranchMergeReferenceIdeal.main_arg3)
      ∧ r.2.mem ((c.tc : Thread Cert.BranchMergeReferenceIdeal.nD Cert.BranchMergeReferenceIdeal.τ).loc Cert.BranchMergeReferenceIdeal.main_arg4) = m ((c.tc : Thread Cert.BranchMergeReferenceIdeal.nD Cert.BranchMergeReferenceIdeal.τ).loc Cert.BranchMergeReferenceIdeal.main_arg4)
      ∧ r.2.mem ((c.tc : Thread Cert.BranchMergeReferenceIdeal.nD Cert.BranchMergeReferenceIdeal.τ).loc Cert.BranchMergeReferenceIdeal.main_arg5) = m ((c.tc : Thread Cert.BranchMergeReferenceIdeal.nD Cert.BranchMergeReferenceIdeal.τ).loc Cert.BranchMergeReferenceIdeal.main_arg5)
      ∧ r.2.mem ((c.tc : Thread Cert.BranchMergeReferenceIdeal.nD Cert.BranchMergeReferenceIdeal.τ).loc Cert.BranchMergeReferenceIdeal.main_arg6) = m ((c.tc : Thread Cert.BranchMergeReferenceIdeal.nD Cert.BranchMergeReferenceIdeal.τ).loc Cert.BranchMergeReferenceIdeal.main_arg6)
      ∧ r.2.mem ((c.tc : Thread Cert.BranchMergeReferenceIdeal.nD Cert.BranchMergeReferenceIdeal.τ).loc Cert.BranchMergeReferenceIdeal.main_arg7) = m ((c.tc : Thread Cert.BranchMergeReferenceIdeal.nD Cert.BranchMergeReferenceIdeal.τ).loc Cert.BranchMergeReferenceIdeal.main_arg7)
      ∧ r.2.mem ((c.tc : Thread Cert.BranchMergeReferenceIdeal.nD Cert.BranchMergeReferenceIdeal.τ).loc Cert.BranchMergeReferenceIdeal.main_arg8) = m ((c.tc : Thread Cert.BranchMergeReferenceIdeal.nD Cert.BranchMergeReferenceIdeal.τ).loc Cert.BranchMergeReferenceIdeal.main_arg8)
      ∧ r.2.mem ((c.tc : Thread Cert.BranchMergeReferenceIdeal.nD Cert.BranchMergeReferenceIdeal.τ).loc Cert.BranchMergeReferenceIdeal.main_arg9) = m ((c.tc : Thread Cert.BranchMergeReferenceIdeal.nD Cert.BranchMergeReferenceIdeal.τ).loc Cert.BranchMergeReferenceIdeal.main_arg9)
      ∧ r.2.mem ((c.tc : Thread Cert.BranchMergeReferenceIdeal.nD Cert.BranchMergeReferenceIdeal.τ).loc Cert.BranchMergeReferenceIdeal.main_arg10) = m ((c.tc : Thread Cert.BranchMergeReferenceIdeal.nD Cert.BranchMergeReferenceIdeal.τ).loc Cert.BranchMergeReferenceIdeal.main_arg10)
      ∧ r.2.mem ((c.tc : Thread Cert.BranchMergeReferenceIdeal.nD Cert.BranchMergeReferenceIdeal.τ).loc Cert.BranchMergeReferenceIdeal.main_arg11) = m ((c.tc : Thread Cert.BranchMergeReferenceIdeal.nD Cert.BranchMergeReferenceIdeal.τ).loc Cert.BranchMergeReferenceIdeal.main_arg11)
      ∧ r.2.mem ((c.tc : Thread Cert.BranchMergeReferenceIdeal.nD Cert.BranchMergeReferenceIdeal.τ).loc Cert.BranchMergeReferenceIdeal.main_arg12) = m ((c.tc : Thread Cert.BranchMergeReferenceIdeal.nD Cert.BranchMergeReferenceIdeal.τ).loc Cert.BranchMergeReferenceIdeal.main_arg12))
      ∧ r.2.sem = fun _ => 0) :=
  (θ_run Cert.BranchMergeReferenceIdeal.defs _ _).mono (fun r h => ⟨fun c => (h c).2.2, sem_eq_zero_of_no_sems (by decide) r.2⟩)
    (Cert.BranchMergeReferenceIdeal.Value.run m ρ)

/-- The merge with its two normalizations and its reference end with the same results, no normalized channel being minus infinity. -/
theorem merge_algebraic : Cert.algebraic_BranchMergeIdeal_BranchMergeReferenceIdeal_pre_no_conv_norm_is_minus_infinity := by
  intro m ρ m' ρ' hp hm
  refine ⟨fun c => Cert.Dense.mergeArgs m c, fun c => Cert.Dense.mergeArgs m c, ?_, ?_⟩
  · exact (θ_run Cert.BranchMergeIdeal.defs _ _).mono (fun r h c =>
      ⟨(h c).1.trans (Cert.Dense.merge_final m c (Cert.Dense.conv_of_pre _ _ _ _ _ _ _ _ _ _ _ _ _ (hp c))),
        (h c).2.1.trans (Cert.Dense.merge_final' m c (Cert.Dense.conv_of_pre _ _ _ _ _ _ _ _ _ _ _ _ _ (hp c))), (h c).2.2⟩)
      (Cert.BranchMergeIdeal.Value.run_blocks m ρ)
  · refine (θ_run Cert.BranchMergeReferenceIdeal.defs _ _).mono (fun r h c => ⟨(h c).1.trans ?_, (h c).2.1.trans ?_, (h c).2.2⟩)
      (Cert.BranchMergeReferenceIdeal.Value.run m' ρ') <;> obtain ⟨h0, h1, h2, h3, h4, h5, h6, h7, h8, h9, h10, h11, h12⟩ := hm c
    · refine (Cert.BranchMergeReferenceIdeal.Read.val_main_v80_eq m' c).trans ((Cert.Dense.ref_merge _ _ _ _ _ _ _ _ _ _ _ _ _).trans ?_)
      unfold Cert.Dense.mergeArgs
      rw [h0, h1, h2, h3, h4, h5, h6, h7, h8, h9, h10, h11, h12]
    · refine (Cert.BranchMergeReferenceIdeal.Read.val_main_v81_eq m' c).trans ((Cert.Dense.ref_merge' _ _ _ _ _ _ _ _ _ _ _ _ _).trans ?_)
      unfold Cert.Dense.mergeArgs
      rw [h0, h1, h2, h3, h4, h5, h6, h7, h8, h9, h10, h11, h12]

/-- The gated projection's reference leaves its arguments as they were. -/
theorem glu_reference_frame (m : (ℓ : Loc Cert.ConvGluReferenceIdeal.nD Cert.ConvGluReferenceIdeal.τ Cert.ConvGluReferenceIdeal.sig) → Buf (Elt Ideal) ℓ) (ρ : Dev Cert.ConvGluReferenceIdeal.nD → PrngReg) :
    θ_run (Cert.ConvGluReferenceIdeal.defs (F := Ideal)) (onTc (τ := Cert.ConvGluReferenceIdeal.τ) (Cert.ConvGluReferenceIdeal.main (F := Ideal))) ⟨m, fun _ => 0, ρ⟩ (fun r => (∀ c : Dev Cert.ConvGluReferenceIdeal.nD,
      r.2.mem ((c.tc : Thread Cert.ConvGluReferenceIdeal.nD Cert.ConvGluReferenceIdeal.τ).loc Cert.ConvGluReferenceIdeal.main_arg0) = m ((c.tc : Thread Cert.ConvGluReferenceIdeal.nD Cert.ConvGluReferenceIdeal.τ).loc Cert.ConvGluReferenceIdeal.main_arg0)
      ∧ r.2.mem ((c.tc : Thread Cert.ConvGluReferenceIdeal.nD Cert.ConvGluReferenceIdeal.τ).loc Cert.ConvGluReferenceIdeal.main_arg1) = m ((c.tc : Thread Cert.ConvGluReferenceIdeal.nD Cert.ConvGluReferenceIdeal.τ).loc Cert.ConvGluReferenceIdeal.main_arg1))
      ∧ r.2.sem = fun _ => 0) :=
  (θ_run Cert.ConvGluReferenceIdeal.defs _ _).mono (fun r h => ⟨fun c => (h c).2, sem_eq_zero_of_no_sems (by decide) r.2⟩)
    (Cert.ConvGluReferenceIdeal.Value.run m ρ)

/-- The gated projection and its reference end with the same result. -/
theorem glu_algebraic : Cert.algebraic_ConvGluIdeal_ConvGluReferenceIdeal := by
  intro m ρ m' ρ' _ hm
  refine ⟨fun c => Cert.Dense.gluVal (m ((c.tc : Thread Cert.ConvGluIdeal.nD Cert.ConvGluIdeal.τ).loc Cert.ConvGluIdeal.main_arg0)) (m ((c.tc : Thread Cert.ConvGluIdeal.nD Cert.ConvGluIdeal.τ).loc Cert.ConvGluIdeal.main_arg1)), ?_, ?_⟩
  · exact (θ_run Cert.ConvGluIdeal.defs _ _).mono (fun r h c => ⟨(h c).1.trans (Cert.Dense.glu_final m c), (h c).2⟩)
      (Cert.ConvGluIdeal.Value.run_blocks m ρ)
  · refine (θ_run Cert.ConvGluReferenceIdeal.defs _ _).mono (fun r h c => ⟨(h c).1.trans ?_, (h c).2⟩)
      (Cert.ConvGluReferenceIdeal.Value.run m' ρ')
    obtain ⟨h0, h1⟩ := hm c
    refine (Cert.ConvGluReferenceIdeal.Read.val_main_v15_eq _ _).trans ((Cert.Dense.ref_glu _ _).trans ?_)
    rw [h0, h1]

/-- The projections' reference leaves its arguments as they were. -/
theorem qkv_reference_frame (m : (ℓ : Loc Cert.QkvFirstReferenceIdeal.nD Cert.QkvFirstReferenceIdeal.τ Cert.QkvFirstReferenceIdeal.sig) → Buf (Elt Ideal) ℓ) (ρ : Dev Cert.QkvFirstReferenceIdeal.nD → PrngReg) :
    θ_run (Cert.QkvFirstReferenceIdeal.defs (F := Ideal)) (onTc (τ := Cert.QkvFirstReferenceIdeal.τ) (Cert.QkvFirstReferenceIdeal.main (F := Ideal))) ⟨m, fun _ => 0, ρ⟩ (fun r => (∀ c : Dev Cert.QkvFirstReferenceIdeal.nD,
      r.2.mem ((c.tc : Thread Cert.QkvFirstReferenceIdeal.nD Cert.QkvFirstReferenceIdeal.τ).loc Cert.QkvFirstReferenceIdeal.main_arg0) = m ((c.tc : Thread Cert.QkvFirstReferenceIdeal.nD Cert.QkvFirstReferenceIdeal.τ).loc Cert.QkvFirstReferenceIdeal.main_arg0)
      ∧ r.2.mem ((c.tc : Thread Cert.QkvFirstReferenceIdeal.nD Cert.QkvFirstReferenceIdeal.τ).loc Cert.QkvFirstReferenceIdeal.main_arg1) = m ((c.tc : Thread Cert.QkvFirstReferenceIdeal.nD Cert.QkvFirstReferenceIdeal.τ).loc Cert.QkvFirstReferenceIdeal.main_arg1)
      ∧ r.2.mem ((c.tc : Thread Cert.QkvFirstReferenceIdeal.nD Cert.QkvFirstReferenceIdeal.τ).loc Cert.QkvFirstReferenceIdeal.main_arg2) = m ((c.tc : Thread Cert.QkvFirstReferenceIdeal.nD Cert.QkvFirstReferenceIdeal.τ).loc Cert.QkvFirstReferenceIdeal.main_arg2)
      ∧ r.2.mem ((c.tc : Thread Cert.QkvFirstReferenceIdeal.nD Cert.QkvFirstReferenceIdeal.τ).loc Cert.QkvFirstReferenceIdeal.main_arg3) = m ((c.tc : Thread Cert.QkvFirstReferenceIdeal.nD Cert.QkvFirstReferenceIdeal.τ).loc Cert.QkvFirstReferenceIdeal.main_arg3)
      ∧ r.2.mem ((c.tc : Thread Cert.QkvFirstReferenceIdeal.nD Cert.QkvFirstReferenceIdeal.τ).loc Cert.QkvFirstReferenceIdeal.main_arg4) = m ((c.tc : Thread Cert.QkvFirstReferenceIdeal.nD Cert.QkvFirstReferenceIdeal.τ).loc Cert.QkvFirstReferenceIdeal.main_arg4))
      ∧ r.2.sem = fun _ => 0) :=
  (θ_run Cert.QkvFirstReferenceIdeal.defs _ _).mono (fun r h => ⟨fun c => (h c).2, sem_eq_zero_of_no_sems (by decide) r.2⟩)
    (Cert.QkvFirstReferenceIdeal.Value.run m ρ)

/-- The projections and their reference end with the same result, the tables holding the angles' cosines and sines. -/
theorem qkv_algebraic : Cert.algebraic_QkvFirstIdeal_QkvFirstReferenceIdeal_pre_tables_are_rotary := by
  intro m ρ m' ρ' hp hm
  refine ⟨fun c => Cert.Dense.qkvVal (m ((c.tc : Thread Cert.QkvFirstIdeal.nD Cert.QkvFirstIdeal.τ).loc Cert.QkvFirstIdeal.main_arg0)) (m ((c.tc : Thread Cert.QkvFirstIdeal.nD Cert.QkvFirstIdeal.τ).loc Cert.QkvFirstIdeal.main_arg1))
    (m ((c.tc : Thread Cert.QkvFirstIdeal.nD Cert.QkvFirstIdeal.τ).loc Cert.QkvFirstIdeal.main_arg2)) (m ((c.tc : Thread Cert.QkvFirstIdeal.nD Cert.QkvFirstIdeal.τ).loc Cert.QkvFirstIdeal.main_arg4)), ?_, ?_⟩
  · exact (θ_run Cert.QkvFirstIdeal.defs _ _).mono (fun r h c =>
      ⟨(h c).1.trans (Cert.Dense.qkv_final m c (Cert.Dense.tables_of_pre (hp c))), (h c).2⟩)
      (Cert.QkvFirstIdeal.Value.run_blocks m ρ)
  · refine (θ_run Cert.QkvFirstReferenceIdeal.defs _ _).mono (fun r h c => ⟨(h c).1.trans ?_, (h c).2⟩)
      (Cert.QkvFirstReferenceIdeal.Value.run m' ρ')
    obtain ⟨h0, h1, h2, h3, h4⟩ := hm c
    refine (Cert.QkvFirstReferenceIdeal.Read.val_main_v54_eq _ _).trans ((Cert.Dense.ref_qkv _ _ _ _).trans ?_)
    rw [h0, h1, h2, h4]

/-- The spatial gating's reference leaves its arguments as they were. -/
theorem gating_reference_frame (m : (ℓ : Loc Cert.SpatialGatingReferenceIdeal.nD Cert.SpatialGatingReferenceIdeal.τ Cert.SpatialGatingReferenceIdeal.sig) → Buf (Elt Ideal) ℓ) (ρ : Dev Cert.SpatialGatingReferenceIdeal.nD → PrngReg) :
    θ_run (Cert.SpatialGatingReferenceIdeal.defs (F := Ideal)) (onTc (τ := Cert.SpatialGatingReferenceIdeal.τ) (Cert.SpatialGatingReferenceIdeal.main (F := Ideal))) ⟨m, fun _ => 0, ρ⟩ (fun r => (∀ c : Dev Cert.SpatialGatingReferenceIdeal.nD,
      r.2.mem ((c.tc : Thread Cert.SpatialGatingReferenceIdeal.nD Cert.SpatialGatingReferenceIdeal.τ).loc Cert.SpatialGatingReferenceIdeal.main_arg0) = m ((c.tc : Thread Cert.SpatialGatingReferenceIdeal.nD Cert.SpatialGatingReferenceIdeal.τ).loc Cert.SpatialGatingReferenceIdeal.main_arg0)
      ∧ r.2.mem ((c.tc : Thread Cert.SpatialGatingReferenceIdeal.nD Cert.SpatialGatingReferenceIdeal.τ).loc Cert.SpatialGatingReferenceIdeal.main_arg1) = m ((c.tc : Thread Cert.SpatialGatingReferenceIdeal.nD Cert.SpatialGatingReferenceIdeal.τ).loc Cert.SpatialGatingReferenceIdeal.main_arg1)
      ∧ r.2.mem ((c.tc : Thread Cert.SpatialGatingReferenceIdeal.nD Cert.SpatialGatingReferenceIdeal.τ).loc Cert.SpatialGatingReferenceIdeal.main_arg2) = m ((c.tc : Thread Cert.SpatialGatingReferenceIdeal.nD Cert.SpatialGatingReferenceIdeal.τ).loc Cert.SpatialGatingReferenceIdeal.main_arg2)
      ∧ r.2.mem ((c.tc : Thread Cert.SpatialGatingReferenceIdeal.nD Cert.SpatialGatingReferenceIdeal.τ).loc Cert.SpatialGatingReferenceIdeal.main_arg3) = m ((c.tc : Thread Cert.SpatialGatingReferenceIdeal.nD Cert.SpatialGatingReferenceIdeal.τ).loc Cert.SpatialGatingReferenceIdeal.main_arg3)
      ∧ r.2.mem ((c.tc : Thread Cert.SpatialGatingReferenceIdeal.nD Cert.SpatialGatingReferenceIdeal.τ).loc Cert.SpatialGatingReferenceIdeal.main_arg4) = m ((c.tc : Thread Cert.SpatialGatingReferenceIdeal.nD Cert.SpatialGatingReferenceIdeal.τ).loc Cert.SpatialGatingReferenceIdeal.main_arg4)
      ∧ r.2.mem ((c.tc : Thread Cert.SpatialGatingReferenceIdeal.nD Cert.SpatialGatingReferenceIdeal.τ).loc Cert.SpatialGatingReferenceIdeal.main_arg5) = m ((c.tc : Thread Cert.SpatialGatingReferenceIdeal.nD Cert.SpatialGatingReferenceIdeal.τ).loc Cert.SpatialGatingReferenceIdeal.main_arg5))
      ∧ r.2.sem = fun _ => 0) :=
  (θ_run Cert.SpatialGatingReferenceIdeal.defs _ _).mono (fun r h => ⟨fun c => (h c).2.2, sem_eq_zero_of_no_sems (by decide) r.2⟩)
    (Cert.SpatialGatingReferenceIdeal.Value.run m ρ)

/-- The spatial gating and its reference end with the same results. -/
theorem gating_algebraic : Cert.algebraic_SpatialGatingIdeal_SpatialGatingReferenceIdeal := by
  intro m ρ m' ρ' _ hm
  refine ⟨fun c => Cert.Dense.gatedVal (m ((c.tc : Thread Cert.SpatialGatingIdeal.nD Cert.SpatialGatingIdeal.τ).loc Cert.SpatialGatingIdeal.main_arg0)) (m ((c.tc : Thread Cert.SpatialGatingIdeal.nD Cert.SpatialGatingIdeal.τ).loc Cert.SpatialGatingIdeal.main_arg1))
    (m ((c.tc : Thread Cert.SpatialGatingIdeal.nD Cert.SpatialGatingIdeal.τ).loc Cert.SpatialGatingIdeal.main_arg2)) (m ((c.tc : Thread Cert.SpatialGatingIdeal.nD Cert.SpatialGatingIdeal.τ).loc Cert.SpatialGatingIdeal.main_arg3))
    (m ((c.tc : Thread Cert.SpatialGatingIdeal.nD Cert.SpatialGatingIdeal.τ).loc Cert.SpatialGatingIdeal.main_arg4)) (m ((c.tc : Thread Cert.SpatialGatingIdeal.nD Cert.SpatialGatingIdeal.τ).loc Cert.SpatialGatingIdeal.main_arg5)),
    fun c => m ((c.tc : Thread Cert.SpatialGatingIdeal.nD Cert.SpatialGatingIdeal.τ).loc Cert.SpatialGatingIdeal.main_arg0), ?_, ?_⟩
  · exact (θ_run Cert.SpatialGatingIdeal.defs _ _).mono (fun r h c =>
      ⟨(h c).1.trans (Cert.Dense.gating_final m c), (h c).2.1.trans (Cert.Dense.copy_final m c), (h c).2.2⟩)
      (Cert.SpatialGatingIdeal.Value.run_blocks m ρ)
  · refine (θ_run Cert.SpatialGatingReferenceIdeal.defs _ _).mono (fun r h c => ⟨(h c).1.trans ?_, (h c).2.1.trans ?_, (h c).2.2⟩)
      (Cert.SpatialGatingReferenceIdeal.Value.run m' ρ') <;> obtain ⟨h0, h1, h2, h3, h4, h5⟩ := hm c
    · refine (Cert.SpatialGatingReferenceIdeal.Read.val_main_v58_eq m' c).trans ((Cert.Dense.ref_gated' _ _ _ _ _ _).trans ?_)
      rw [h0, h1, h2, h3, h4, h5]
    · exact h0

/-- The second group's reference leaves its arguments as they were. -/
theorem second_reference_frame (m : (ℓ : Loc Cert.QkvSecondReferenceIdeal.nD Cert.QkvSecondReferenceIdeal.τ Cert.QkvSecondReferenceIdeal.sig) → Buf (Elt Ideal) ℓ) (ρ : Dev Cert.QkvSecondReferenceIdeal.nD → PrngReg) :
    θ_run (Cert.QkvSecondReferenceIdeal.defs (F := Ideal)) (onTc (τ := Cert.QkvSecondReferenceIdeal.τ) (Cert.QkvSecondReferenceIdeal.main (F := Ideal))) ⟨m, fun _ => 0, ρ⟩ (fun r => (∀ c : Dev Cert.QkvSecondReferenceIdeal.nD,
      r.2.mem ((c.tc : Thread Cert.QkvSecondReferenceIdeal.nD Cert.QkvSecondReferenceIdeal.τ).loc Cert.QkvSecondReferenceIdeal.main_arg0) = m ((c.tc : Thread Cert.QkvSecondReferenceIdeal.nD Cert.QkvSecondReferenceIdeal.τ).loc Cert.QkvSecondReferenceIdeal.main_arg0)
      ∧ r.2.mem ((c.tc : Thread Cert.QkvSecondReferenceIdeal.nD Cert.QkvSecondReferenceIdeal.τ).loc Cert.QkvSecondReferenceIdeal.main_arg1) = m ((c.tc : Thread Cert.QkvSecondReferenceIdeal.nD Cert.QkvSecondReferenceIdeal.τ).loc Cert.QkvSecondReferenceIdeal.main_arg1)
      ∧ r.2.mem ((c.tc : Thread Cert.QkvSecondReferenceIdeal.nD Cert.QkvSecondReferenceIdeal.τ).loc Cert.QkvSecondReferenceIdeal.main_arg2) = m ((c.tc : Thread Cert.QkvSecondReferenceIdeal.nD Cert.QkvSecondReferenceIdeal.τ).loc Cert.QkvSecondReferenceIdeal.main_arg2)
      ∧ r.2.mem ((c.tc : Thread Cert.QkvSecondReferenceIdeal.nD Cert.QkvSecondReferenceIdeal.τ).loc Cert.QkvSecondReferenceIdeal.main_arg3) = m ((c.tc : Thread Cert.QkvSecondReferenceIdeal.nD Cert.QkvSecondReferenceIdeal.τ).loc Cert.QkvSecondReferenceIdeal.main_arg3)
      ∧ r.2.mem ((c.tc : Thread Cert.QkvSecondReferenceIdeal.nD Cert.QkvSecondReferenceIdeal.τ).loc Cert.QkvSecondReferenceIdeal.main_arg4) = m ((c.tc : Thread Cert.QkvSecondReferenceIdeal.nD Cert.QkvSecondReferenceIdeal.τ).loc Cert.QkvSecondReferenceIdeal.main_arg4))
      ∧ r.2.sem = fun _ => 0) :=
  (θ_run Cert.QkvSecondReferenceIdeal.defs _ _).mono (fun r h => ⟨fun c => (h c).2, sem_eq_zero_of_no_sems (by decide) r.2⟩)
    (Cert.QkvSecondReferenceIdeal.Value.run m ρ)

/-- The second group's projections and their reference end with the same result, the tables holding the angles' cosines and sines. -/
theorem second_algebraic : Cert.algebraic_QkvSecondIdeal_QkvSecondReferenceIdeal_pre_tables_are_rotary := by
  intro m ρ m' ρ' hp hm
  refine ⟨fun c => Cert.Dense.groupVal 1 4 256 (m ((c.tc : Thread Cert.QkvSecondIdeal.nD Cert.QkvSecondIdeal.τ).loc Cert.QkvSecondIdeal.main_arg0)) (m ((c.tc : Thread Cert.QkvSecondIdeal.nD Cert.QkvSecondIdeal.τ).loc Cert.QkvSecondIdeal.main_arg1))
    (m ((c.tc : Thread Cert.QkvSecondIdeal.nD Cert.QkvSecondIdeal.τ).loc Cert.QkvSecondIdeal.main_arg2)) (m ((c.tc : Thread Cert.QkvSecondIdeal.nD Cert.QkvSecondIdeal.τ).loc Cert.QkvSecondIdeal.main_arg4)), ?_, ?_⟩
  · exact (θ_run Cert.QkvSecondIdeal.defs _ _).mono (fun r h c =>
      ⟨(h c).1.trans (Cert.Dense.Second.qkv_final m c (Cert.Dense.tables_of_pre (hp c))), (h c).2⟩)
      (Cert.QkvSecondIdeal.Value.run_blocks m ρ)
  · refine (θ_run Cert.QkvSecondReferenceIdeal.defs _ _).mono (fun r h c => ⟨(h c).1.trans ?_, (h c).2⟩)
      (Cert.QkvSecondReferenceIdeal.Value.run m' ρ')
    obtain ⟨h0, h1, h2, h3, h4⟩ := hm c
    refine (Cert.QkvSecondReferenceIdeal.Read.val_main_v57_eq _ _).trans ((Cert.Dense.Second.ref_group _ _ _ _).trans ?_)
    rw [h0, h1, h2, h4]

/-- The third group's reference leaves its arguments as they were. -/
theorem third_reference_frame (m : (ℓ : Loc Cert.QkvThirdReferenceIdeal.nD Cert.QkvThirdReferenceIdeal.τ Cert.QkvThirdReferenceIdeal.sig) → Buf (Elt Ideal) ℓ) (ρ : Dev Cert.QkvThirdReferenceIdeal.nD → PrngReg) :
    θ_run (Cert.QkvThirdReferenceIdeal.defs (F := Ideal)) (onTc (τ := Cert.QkvThirdReferenceIdeal.τ) (Cert.QkvThirdReferenceIdeal.main (F := Ideal))) ⟨m, fun _ => 0, ρ⟩ (fun r => (∀ c : Dev Cert.QkvThirdReferenceIdeal.nD,
      r.2.mem ((c.tc : Thread Cert.QkvThirdReferenceIdeal.nD Cert.QkvThirdReferenceIdeal.τ).loc Cert.QkvThirdReferenceIdeal.main_arg0) = m ((c.tc : Thread Cert.QkvThirdReferenceIdeal.nD Cert.QkvThirdReferenceIdeal.τ).loc Cert.QkvThirdReferenceIdeal.main_arg0)
      ∧ r.2.mem ((c.tc : Thread Cert.QkvThirdReferenceIdeal.nD Cert.QkvThirdReferenceIdeal.τ).loc Cert.QkvThirdReferenceIdeal.main_arg1) = m ((c.tc : Thread Cert.QkvThirdReferenceIdeal.nD Cert.QkvThirdReferenceIdeal.τ).loc Cert.QkvThirdReferenceIdeal.main_arg1)
      ∧ r.2.mem ((c.tc : Thread Cert.QkvThirdReferenceIdeal.nD Cert.QkvThirdReferenceIdeal.τ).loc Cert.QkvThirdReferenceIdeal.main_arg2) = m ((c.tc : Thread Cert.QkvThirdReferenceIdeal.nD Cert.QkvThirdReferenceIdeal.τ).loc Cert.QkvThirdReferenceIdeal.main_arg2)
      ∧ r.2.mem ((c.tc : Thread Cert.QkvThirdReferenceIdeal.nD Cert.QkvThirdReferenceIdeal.τ).loc Cert.QkvThirdReferenceIdeal.main_arg3) = m ((c.tc : Thread Cert.QkvThirdReferenceIdeal.nD Cert.QkvThirdReferenceIdeal.τ).loc Cert.QkvThirdReferenceIdeal.main_arg3)
      ∧ r.2.mem ((c.tc : Thread Cert.QkvThirdReferenceIdeal.nD Cert.QkvThirdReferenceIdeal.τ).loc Cert.QkvThirdReferenceIdeal.main_arg4) = m ((c.tc : Thread Cert.QkvThirdReferenceIdeal.nD Cert.QkvThirdReferenceIdeal.τ).loc Cert.QkvThirdReferenceIdeal.main_arg4))
      ∧ r.2.sem = fun _ => 0) :=
  (θ_run Cert.QkvThirdReferenceIdeal.defs _ _).mono (fun r h => ⟨fun c => (h c).2, sem_eq_zero_of_no_sems (by decide) r.2⟩)
    (Cert.QkvThirdReferenceIdeal.Value.run m ρ)

/-- The third group's projections and their reference end with the same result, the tables holding the angles' cosines and sines. -/
theorem third_algebraic : Cert.algebraic_QkvThirdIdeal_QkvThirdReferenceIdeal_pre_tables_are_rotary := by
  intro m ρ m' ρ' hp hm
  refine ⟨fun c => Cert.Dense.groupVal 2 16 64 (m ((c.tc : Thread Cert.QkvThirdIdeal.nD Cert.QkvThirdIdeal.τ).loc Cert.QkvThirdIdeal.main_arg0)) (m ((c.tc : Thread Cert.QkvThirdIdeal.nD Cert.QkvThirdIdeal.τ).loc Cert.QkvThirdIdeal.main_arg1))
    (m ((c.tc : Thread Cert.QkvThirdIdeal.nD Cert.QkvThirdIdeal.τ).loc Cert.QkvThirdIdeal.main_arg2)) (m ((c.tc : Thread Cert.QkvThirdIdeal.nD Cert.QkvThirdIdeal.τ).loc Cert.QkvThirdIdeal.main_arg4)), ?_, ?_⟩
  · exact (θ_run Cert.QkvThirdIdeal.defs _ _).mono (fun r h c =>
      ⟨(h c).1.trans (Cert.Dense.Third.qkv_final m c (Cert.Dense.tables_of_pre (hp c))), (h c).2⟩)
      (Cert.QkvThirdIdeal.Value.run_blocks m ρ)
  · refine (θ_run Cert.QkvThirdReferenceIdeal.defs _ _).mono (fun r h c => ⟨(h c).1.trans ?_, (h c).2⟩)
      (Cert.QkvThirdReferenceIdeal.Value.run m' ρ')
    obtain ⟨h0, h1, h2, h3, h4⟩ := hm c
    refine (Cert.QkvThirdReferenceIdeal.Read.val_main_v57_eq _ _).trans ((Cert.Dense.Third.ref_group _ _ _ _).trans ?_)
    rw [h0, h1, h2, h4]

theorem claim : Cert.Claim := ⟨Cert.Kernel.Gen.facts, Cert.KernelIdeal.Gen.facts, Cert.ReferenceIdeal.Gen.facts,
  Cert.FfnUp.Gen.facts, Cert.FfnUpIdeal.Gen.facts, Cert.FfnUpReferenceIdeal.Gen.facts,
  Cert.FfnDown.Gen.facts, Cert.FfnDownIdeal.Gen.facts, Cert.FfnDownReferenceIdeal.Gen.facts,
  Cert.BranchGates.Gen.facts, Cert.BranchGatesIdeal.Gen.facts, Cert.BranchGatesReferenceIdeal.Gen.facts,
  Cert.BranchMerge.Gen.facts, Cert.BranchMergeIdeal.Gen.facts, Cert.BranchMergeReferenceIdeal.Gen.facts,
  Cert.ConvGlu.Gen.facts, Cert.ConvGluIdeal.Gen.facts, Cert.ConvGluReferenceIdeal.Gen.facts,
  Cert.QkvFirst.Gen.facts, Cert.QkvFirstIdeal.Gen.facts, Cert.QkvFirstReferenceIdeal.Gen.facts,
  Cert.SpatialGating.Gen.facts, Cert.SpatialGatingIdeal.Gen.facts, Cert.SpatialGatingReferenceIdeal.Gen.facts,
  Cert.QkvSecond.Gen.facts, Cert.QkvSecondIdeal.Gen.facts, Cert.QkvSecondReferenceIdeal.Gen.facts,
  Cert.QkvThird.Gen.facts, Cert.QkvThirdIdeal.Gen.facts, Cert.QkvThirdReferenceIdeal.Gen.facts,
  Cert.Pre_finite_queries_keys.Gen.facts, Cert.Pre_no_gate_is_minus_infinity.Gen.facts, Cert.Pre_no_conv_norm_is_minus_infinity.Gen.facts,
  Cert.Pre_tables_are_rotary.Gen.facts,
  fun m ρ _ => Cert.Kernel.Gen.frame m ρ,
  fun m ρ _ => Cert.KernelIdeal.Gen.frame m ρ,
  fun m ρ _ => Cert.KernelIdeal.Gen.frame m ρ,
  fun m ρ _ => reference_frame m ρ,
  fun m ρ _ => reference_frame m ρ,
  fun m ρ _ => Cert.FfnUp.Gen.frame m ρ,
  fun m ρ _ => Cert.FfnUpIdeal.Gen.frame m ρ,
  fun m ρ _ => Cert.FfnUpIdeal.Gen.frame m ρ,
  fun m ρ _ => up_reference_frame m ρ,
  fun m ρ _ => up_reference_frame m ρ,
  fun m ρ _ => Cert.FfnDown.Gen.frame m ρ,
  fun m ρ _ => Cert.FfnDownIdeal.Gen.frame m ρ,
  fun m ρ _ => down_reference_frame m ρ,
  fun m ρ _ => Cert.BranchGates.Gen.frame m ρ,
  fun m ρ _ => Cert.BranchGatesIdeal.Gen.frame m ρ,
  fun m ρ _ => gates_reference_frame m ρ,
  fun m ρ _ => Cert.BranchMerge.Gen.frame m ρ,
  fun m ρ _ => Cert.BranchMergeIdeal.Gen.frame m ρ,
  fun m ρ _ => Cert.BranchMergeIdeal.Gen.frame m ρ,
  fun m ρ _ => merge_reference_frame m ρ,
  fun m ρ _ => merge_reference_frame m ρ,
  fun m ρ _ => Cert.ConvGlu.Gen.frame m ρ,
  fun m ρ _ => Cert.ConvGluIdeal.Gen.frame m ρ,
  fun m ρ _ => glu_reference_frame m ρ,
  fun m ρ _ => Cert.QkvFirst.Gen.frame m ρ,
  fun m ρ _ => Cert.QkvFirstIdeal.Gen.frame m ρ,
  fun m ρ _ => Cert.QkvFirstIdeal.Gen.frame m ρ,
  fun m ρ _ => qkv_reference_frame m ρ,
  fun m ρ _ => qkv_reference_frame m ρ,
  fun m ρ _ => Cert.SpatialGating.Gen.frame m ρ,
  fun m ρ _ => Cert.SpatialGatingIdeal.Gen.frame m ρ,
  fun m ρ _ => gating_reference_frame m ρ,
  fun m ρ _ => Cert.QkvSecond.Gen.frame m ρ,
  fun m ρ _ => Cert.QkvSecondIdeal.Gen.frame m ρ,
  fun m ρ _ => Cert.QkvSecondIdeal.Gen.frame m ρ,
  fun m ρ _ => second_reference_frame m ρ,
  fun m ρ _ => second_reference_frame m ρ,
  fun m ρ _ => Cert.QkvThird.Gen.frame m ρ,
  fun m ρ _ => Cert.QkvThirdIdeal.Gen.frame m ρ,
  fun m ρ _ => Cert.QkvThirdIdeal.Gen.frame m ρ,
  fun m ρ _ => third_reference_frame m ρ,
  fun m ρ _ => third_reference_frame m ρ,
  IdealRules.named_const.statement Cert.KernelIdeal.κ "mask" .f32 0xF149F2CA#32 ⊥ rfl,
  algebraic,
  trivial, up_algebraic,
  trivial, down_algebraic,
  trivial, gates_algebraic,
  trivial, merge_algebraic,
  trivial, glu_algebraic,
  IdealRules.named_const.statement Cert.QkvFirstIdeal.κ "scale" .f32 0x3DB504F3#32 (((Real.sqrt 128)⁻¹ : ℝ) : EReal) rfl, qkv_algebraic,
  IdealRules.named_const.statement Cert.SpatialGatingIdeal.κ "half_root" .f32 0x3F3504F3#32 (((Real.sqrt 2)⁻¹ : ℝ) : EReal) rfl, gating_algebraic,
  IdealRules.named_const.statement Cert.QkvSecondIdeal.κ "scale" .f32 0x3DB504F3#32 (((Real.sqrt 128)⁻¹ : ℝ) : EReal) rfl, second_algebraic,
  IdealRules.named_const.statement Cert.QkvThirdIdeal.κ "scale" .f32 0x3DB504F3#32 (((Real.sqrt 128)⁻¹ : ℝ) : EReal) rfl, third_algebraic⟩

end Cert.Proof

end
